-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v17)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  IdealRules.named_const.Statement Cert.Kernel3Ideal.κ "mask" .f32 0xF149F2CA#32 ⊥

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v25) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
-- ==== Pre_finite.lean ====
abbrev S8x8x2048x128 : Shape := ⟨4, ![8, 8, 2048, 128]⟩
abbrev S8x8x2048x32 : Shape := ⟨4, ![8, 8, 2048, 32]⟩
abbrev S8x2048x128 : Shape := ⟨3, ![8, 2048, 128]⟩
abbrev S8x2048x32 : Shape := ⟨3, ![8, 2048, 32]⟩
abbrev S128x8x64 : Shape := ⟨3, ![128, 8, 64]⟩
abbrev S_ : Shape := ⟨0, ![]⟩

class Facts : Prop where
  bcast_S_S8x8x2048x128 : S_.BroadcastsInDim S8x8x2048x128 (![] : Fin 0 → Fin S8x8x2048x128.rank)
  reducesTo_S8x8x2048x128_S_d0_1_2_3 : S8x8x2048x128.ReducesTo [0, 1, 2, 3] S_
  h_S_ : 0 < S_.numel
  bcast_S_S8x8x2048x32 : S_.BroadcastsInDim S8x8x2048x32 (![] : Fin 0 → Fin S8x8x2048x32.rank)
  reducesTo_S8x8x2048x32_S_d0_1_2_3 : S8x8x2048x32.ReducesTo [0, 1, 2, 3] S_
  bcast_S_S8x2048x128 : S_.BroadcastsInDim S8x2048x128 (![] : Fin 0 → Fin S8x2048x128.rank)
  reducesTo_S8x2048x128_S_d0_1_2 : S8x2048x128.ReducesTo [0, 1, 2] S_
  bcast_S_S8x2048x32 : S_.BroadcastsInDim S8x2048x32 (![] : Fin 0 → Fin S8x2048x32.rank)
  reducesTo_S8x2048x32_S_d0_1_2 : S8x2048x32.ReducesTo [0, 1, 2] S_

variable [Facts]

def fn_part1 {F : FTy → Type} [FloatOps F] (main_v13 : IVec S_ 1) (main_v16 : IVec S8x2048x32 1) : IVec S_ 1 :=
  let main_c_5 : IVec S_ 1 := constantI S_ 1 1#1
  let main_v17 : IVec S_ 1 := (fun x v => Host.reduce IntOp.andi x v reducesTo_S8x2048x32_S_d0_1_2 h_S_) main_v16 main_c_5
  let main_v18 : IVec S_ 1 := andi main_v13 main_v17
  main_v18

def fn {F : FTy → Type} [FloatOps F] (main_arg0 : FVec F S8x8x2048x128 .f32) (main_arg1 : FVec F S8x8x2048x32 .f32) (main_arg2 : FVec F S8x2048x128 .f32) (main_arg3 : FVec F S8x2048x32 .f32) (main_arg4 : FVec F S128x8x64 .f32) : IVec S_ 1 :=
  let main_v0 : FVec F S8x8x2048x128 .f32 := Host.absf main_arg0
  let main_cst : FVec F S_ .f32 := constant S_ .f32 0x7F800000#32
  let main_v1 : FVec F S8x8x2048x128 .f32 := broadcastInDim S8x8x2048x128 ![] bcast_S_S8x8x2048x128 main_cst
  let main_v2 : IVec S8x8x2048x128 1 := cmpf .olt main_v0 main_v1
  let main_c : IVec S_ 1 := constantI S_ 1 1#1
  let main_v3 : IVec S_ 1 := (fun x v => Host.reduce IntOp.andi x v reducesTo_S8x8x2048x128_S_d0_1_2_3 h_S_) main_v2 main_c
  let main_v4 : FVec F S8x8x2048x32 .f32 := Host.absf main_arg1
  let main_cst_0 : FVec F S_ .f32 := constant S_ .f32 0x7F800000#32
  let main_v5 : FVec F S8x8x2048x32 .f32 := broadcastInDim S8x8x2048x32 ![] bcast_S_S8x8x2048x32 main_cst_0
  let main_v6 : IVec S8x8x2048x32 1 := cmpf .olt main_v4 main_v5
  let main_c_1 : IVec S_ 1 := constantI S_ 1 1#1
  let main_v7 : IVec S_ 1 := (fun x v => Host.reduce IntOp.andi x v reducesTo_S8x8x2048x32_S_d0_1_2_3 h_S_) main_v6 main_c_1
  let main_v8 : IVec S_ 1 := andi main_v3 main_v7
  let main_v9 : FVec F S8x2048x128 .f32 := Host.absf main_arg2
  let main_cst_2 : FVec F S_ .f32 := constant S_ .f32 0x7F800000#32
  let main_v10 : FVec F S8x2048x128 .f32 := broadcastInDim S8x2048x128 ![] bcast_S_S8x2048x128 main_cst_2
  let main_v11 : IVec S8x2048x128 1 := cmpf .olt main_v9 main_v10
  let main_c_3 : IVec S_ 1 := constantI S_ 1 1#1
  let main_v12 : IVec S_ 1 := (fun x v => Host.reduce IntOp.andi x v reducesTo_S8x2048x128_S_d0_1_2 h_S_) main_v11 main_c_3
  let main_v13 : IVec S_ 1 := andi main_v8 main_v12
  let main_v14 : FVec F S8x2048x32 .f32 := Host.absf main_arg3
  let main_cst_4 : FVec F S_ .f32 := constant S_ .f32 0x7F800000#32
  let main_v15 : FVec F S8x2048x32 .f32 := broadcastInDim S8x2048x32 ![] bcast_S_S8x2048x32 main_cst_4
  let main_v16 : IVec S8x2048x32 1 := cmpf .olt main_v14 main_v15
  fn_part1 (F := F) main_v13 main_v16
-- ==== Pre_finite3.lean ====
abbrev S8x8x2x2048x64 : Shape := ⟨5, ![8, 8, 2, 2048, 64]⟩
abbrev S8x8x2048x64 : Shape := ⟨4, ![8, 8, 2048, 64]⟩
abbrev S8x2048x16 : Shape := ⟨3, ![8, 2048, 16]⟩
abbrev S_ : Shape := ⟨0, ![]⟩

class Facts : Prop where
  bcast_S_S8x8x2x2048x64 : S_.BroadcastsInDim S8x8x2x2048x64 (![] : Fin 0 → Fin S8x8x2x2048x64.rank)
  reducesTo_S8x8x2x2048x64_S_d0_1_2_3_4 : S8x8x2x2048x64.ReducesTo [0, 1, 2, 3, 4] S_
  h_S_ : 0 < S_.numel
  bcast_S_S8x8x2048x64 : S_.BroadcastsInDim S8x8x2048x64 (![] : Fin 0 → Fin S8x8x2048x64.rank)
  reducesTo_S8x8x2048x64_S_d0_1_2_3 : S8x8x2048x64.ReducesTo [0, 1, 2, 3] S_
  bcast_S_S8x2048x16 : S_.BroadcastsInDim S8x2048x16 (![] : Fin 0 → Fin S8x2048x16.rank)
  reducesTo_S8x2048x16_S_d0_1_2 : S8x2048x16.ReducesTo [0, 1, 2] S_

variable [Facts]

def fn {F : FTy → Type} [FloatOps F] (main_arg0 : FVec F S8x8x2x2048x64 .f32) (main_arg1 : FVec F S8x8x2048x64 .f32) (main_arg2 : FVec F S8x8x2048x64 .f32) (main_arg3 : FVec F S8x2048x16 .f32) : IVec S_ 1 :=
  let main_v0 : FVec F S8x8x2x2048x64 .f32 := Host.absf main_arg0
  let main_cst : FVec F S_ .f32 := constant S_ .f32 0x7F800000#32
  let main_v1 : FVec F S8x8x2x2048x64 .f32 := broadcastInDim S8x8x2x2048x64 ![] bcast_S_S8x8x2x2048x64 main_cst
  let main_v2 : IVec S8x8x2x2048x64 1 := cmpf .olt main_v0 main_v1
  let main_c : IVec S_ 1 := constantI S_ 1 1#1
  let main_v3 : IVec S_ 1 := (fun x v => Host.reduce IntOp.andi x v reducesTo_S8x8x2x2048x64_S_d0_1_2_3_4 h_S_) main_v2 main_c
  let main_v4 : FVec F S8x8x2048x64 .f32 := Host.absf main_arg1
  let main_cst_0 : FVec F S_ .f32 := constant S_ .f32 0x7F800000#32
  let main_v5 : FVec F S8x8x2048x64 .f32 := broadcastInDim S8x8x2048x64 ![] bcast_S_S8x8x2048x64 main_cst_0
  let main_v6 : IVec S8x8x2048x64 1 := cmpf .olt main_v4 main_v5
  let main_c_1 : IVec S_ 1 := constantI S_ 1 1#1
  let main_v7 : IVec S_ 1 := (fun x v => Host.reduce IntOp.andi x v reducesTo_S8x8x2048x64_S_d0_1_2_3 h_S_) main_v6 main_c_1
  let main_v8 : IVec S_ 1 := andi main_v3 main_v7
  let main_v9 : FVec F S8x2048x16 .f32 := Host.absf main_arg3
  let main_cst_2 : FVec F S_ .f32 := constant S_ .f32 0x7F800000#32
  let main_v10 : FVec F S8x2048x16 .f32 := broadcastInDim S8x2048x16 ![] bcast_S_S8x2048x16 main_cst_2
  let main_v11 : IVec S8x2048x16 1 := cmpf .olt main_v9 main_v10
  let main_c_3 : IVec S_ 1 := constantI S_ 1 1#1
  let main_v12 : IVec S_ 1 := (fun x v => Host.reduce IntOp.andi x v reducesTo_S8x2048x16_S_d0_1_2 h_S_) main_v11 main_c_3
  let main_v13 : IVec S_ 1 := andi main_v8 main_v12
  main_v13
-- ==== Kernel.lean ====
abbrev S8x8x2048x128 : Shape := ⟨4, ![8, 8, 2048, 128]⟩
abbrev S8x8x2048x32 : Shape := ⟨4, ![8, 8, 2048, 32]⟩
abbrev S8x2048x128 : Shape := ⟨3, ![8, 2048, 128]⟩
abbrev S8x2048x32 : Shape := ⟨3, ![8, 2048, 32]⟩
abbrev S128x8x64 : Shape := ⟨3, ![128, 8, 64]⟩
abbrev S_ : Shape := ⟨0, ![]⟩
abbrev S8x8x2048x256 : Shape := ⟨4, ![8, 8, 2048, 256]⟩
abbrev S8x2048x8x256 : Shape := ⟨4, ![8, 2048, 8, 256]⟩
abbrev S16384x2048 : Shape := ⟨2, ![16384, 2048]⟩
abbrev S8x2048x256 : Shape := ⟨3, ![8, 2048, 256]⟩
abbrev S16384x256 : Shape := ⟨2, ![16384, 256]⟩
abbrev S8x128x64 : Shape := ⟨3, ![8, 128, 64]⟩
abbrev S128x64 : Shape := ⟨2, ![128, 64]⟩
abbrev S1x128x64 : Shape := ⟨3, ![1, 128, 64]⟩
abbrev S128x128 : Shape := ⟨2, ![128, 128]⟩
abbrev S256x128 : Shape := ⟨2, ![256, 128]⟩
abbrev S1x256x128 : Shape := ⟨3, ![1, 256, 128]⟩
abbrev S4x256x128 : Shape := ⟨3, ![4, 256, 128]⟩
abbrev S16384x512 : Shape := ⟨2, ![16384, 512]⟩
abbrev S128x2048 : Shape := ⟨2, ![128, 2048]⟩
abbrev S2048x256 : Shape := ⟨2, ![2048, 256]⟩
abbrev S128x512 : Shape := ⟨2, ![128, 512]⟩
abbrev S1024x256 : Shape := ⟨2, ![1024, 256]⟩
abbrev S1024x128 : Shape := ⟨2, ![1024, 128]⟩
abbrev S128x256 : Shape := ⟨2, ![128, 256]⟩
abbrev S256x256 : Shape := ⟨2, ![256, 256]⟩
abbrev S32x128 : Shape := ⟨2, ![32, 128]⟩
abbrev S32 : Shape := ⟨1, ![32]⟩
abbrev S32x1 : Shape := ⟨2, ![32, 1]⟩
abbrev S1x128 : Shape := ⟨2, ![1, 128]⟩

abbrev nBuf : Space → Nat
  | .hbm => 62
  | .vmem => 17
  | .smem => 0
  | _ => 0

abbrev bufTy : (tb : Table) → Fin (tcTables nBuf tb) → BufTy
  | .hbm, ⟨0, _⟩ => ⟨S8x8x2048x128, .f32⟩
  | .hbm, ⟨1, _⟩ => ⟨S8x8x2048x32, .f32⟩
  | .hbm, ⟨2, _⟩ => ⟨S8x2048x128, .f32⟩
  | .hbm, ⟨3, _⟩ => ⟨S8x2048x32, .f32⟩
  | .hbm, ⟨4, _⟩ => ⟨S128x8x64, .f32⟩
  | .hbm, ⟨5, _⟩ => ⟨S_, .f32⟩
  | .hbm, ⟨6, _⟩ => ⟨S8x8x2048x128, .f32⟩
  | .hbm, ⟨7, _⟩ => ⟨S8x8x2048x128, .f32⟩
  | .hbm, ⟨8, _⟩ => ⟨S_, .f32⟩
  | .hbm, ⟨9, _⟩ => ⟨S8x8x2048x32, .f32⟩
  | .hbm, ⟨10, _⟩ => ⟨S8x8x2048x32, .f32⟩
  | .hbm, ⟨11, _⟩ => ⟨S_, .i32⟩
  | .hbm, ⟨12, _⟩ => ⟨S_, .f32⟩
  | .hbm, ⟨13, _⟩ => ⟨S8x8x2048x128, .f32⟩
  | .hbm, ⟨14, _⟩ => ⟨S8x8x2048x256, .f32⟩
  | .hbm, ⟨15, _⟩ => ⟨S8x8x2048x256, .bf16⟩
  | .hbm, ⟨16, _⟩ => ⟨S8x2048x8x256, .bf16⟩
  | .hbm, ⟨17, _⟩ => ⟨S16384x2048, .bf16⟩
  | .hbm, ⟨18, _⟩ => ⟨S_, .i32⟩
  | .hbm, ⟨19, _⟩ => ⟨S_, .f32⟩
  | .hbm, ⟨20, _⟩ => ⟨S8x2048x128, .f32⟩
  | .hbm, ⟨21, _⟩ => ⟨S8x2048x256, .f32⟩
  | .hbm, ⟨22, _⟩ => ⟨S16384x256, .f32⟩
  | .hbm, ⟨23, _⟩ => ⟨S16384x256, .bf16⟩
  | .hbm, ⟨24, _⟩ => ⟨S8x128x64, .f32⟩
  | .hbm, ⟨25, _⟩ => ⟨S_, .f32⟩
  | .hbm, ⟨26, _⟩ => ⟨S128x64, .f32⟩
  | .hbm, ⟨27, _⟩ => ⟨S1x128x64, .f32⟩
  | .hbm, ⟨28, _⟩ => ⟨S128x64, .f32⟩
  | .hbm, ⟨29, _⟩ => ⟨S1x128x64, .f32⟩
  | .hbm, ⟨30, _⟩ => ⟨S128x64, .f32⟩
  | .hbm, ⟨31, _⟩ => ⟨S128x128, .f32⟩
  | .hbm, ⟨32, _⟩ => ⟨S128x128, .f32⟩
  | .hbm, ⟨33, _⟩ => ⟨S256x128, .f32⟩
  | .hbm, ⟨34, _⟩ => ⟨S1x128x64, .f32⟩
  | .hbm, ⟨35, _⟩ => ⟨S128x64, .f32⟩
  | .hbm, ⟨36, _⟩ => ⟨S1x128x64, .f32⟩
  | .hbm, ⟨37, _⟩ => ⟨S128x64, .f32⟩
  | .hbm, ⟨38, _⟩ => ⟨S128x128, .f32⟩
  | .hbm, ⟨39, _⟩ => ⟨S128x128, .f32⟩
  | .hbm, ⟨40, _⟩ => ⟨S256x128, .f32⟩
  | .hbm, ⟨41, _⟩ => ⟨S1x128x64, .f32⟩
  | .hbm, ⟨42, _⟩ => ⟨S128x64, .f32⟩
  | .hbm, ⟨43, _⟩ => ⟨S1x128x64, .f32⟩
  | .hbm, ⟨44, _⟩ => ⟨S128x64, .f32⟩
  | .hbm, ⟨45, _⟩ => ⟨S128x128, .f32⟩
  | .hbm, ⟨46, _⟩ => ⟨S128x128, .f32⟩
  | .hbm, ⟨47, _⟩ => ⟨S256x128, .f32⟩
  | .hbm, ⟨48, _⟩ => ⟨S1x128x64, .f32⟩
  | .hbm, ⟨49, _⟩ => ⟨S128x64, .f32⟩
  | .hbm, ⟨50, _⟩ => ⟨S1x128x64, .f32⟩
  | .hbm, ⟨51, _⟩ => ⟨S128x64, .f32⟩
  | .hbm, ⟨52, _⟩ => ⟨S128x128, .f32⟩
  | .hbm, ⟨53, _⟩ => ⟨S128x128, .f32⟩
  | .hbm, ⟨54, _⟩ => ⟨S256x128, .f32⟩
  | .hbm, ⟨55, _⟩ => ⟨S1x256x128, .f32⟩
  | .hbm, ⟨56, _⟩ => ⟨S1x256x128, .f32⟩
  | .hbm, ⟨57, _⟩ => ⟨S1x256x128, .f32⟩
  | .hbm, ⟨58, _⟩ => ⟨S1x256x128, .f32⟩
  | .hbm, ⟨59, _⟩ => ⟨S4x256x128, .f32⟩
  | .hbm, ⟨60, _⟩ => ⟨S4x256x128, .bf16⟩
  | .hbm, ⟨61, _⟩ => ⟨S16384x512, .bf16⟩
  | .local _ .vmem, ⟨0, _⟩ => ⟨S128x2048, .bf16⟩
  | .local _ .vmem, ⟨1, _⟩ => ⟨S128x2048, .bf16⟩
  | .local _ .vmem, ⟨2, _⟩ => ⟨S2048x256, .bf16⟩
  | .local _ .vmem, ⟨3, _⟩ => ⟨S2048x256, .bf16⟩
  | .local _ .vmem, ⟨4, _⟩ => ⟨S4x256x128, .bf16⟩
  | .local _ .vmem, ⟨5, _⟩ => ⟨S128x512, .bf16⟩
  | .local _ .vmem, ⟨6, _⟩ => ⟨S128x512, .bf16⟩
  | .local _ .vmem, ⟨7, _⟩ => ⟨S1024x256, .bf16⟩
  | .local _ .vmem, ⟨8, _⟩ => ⟨S1024x256, .f32⟩
  | .local _ .vmem, ⟨9, _⟩ => ⟨S1024x256, .f32⟩
  | .local _ .vmem, ⟨10, _⟩ => ⟨S1024x256, .bf16⟩
  | .local _ .vmem, ⟨11, _⟩ => ⟨S1024x256, .bf16⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | _, _ => ⟨S8x8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call2_v0 : Ref sig .tc := ⟨.hbm, 31, rfl⟩
abbrev main_call2_v1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call3_v0 : Ref sig .tc := ⟨.hbm, 38, rfl⟩
abbrev main_call3_v1 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call4_v0 : Ref sig .tc := ⟨.hbm, 45, rfl⟩
abbrev main_call4_v1 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call5_v0 : Ref sig .tc := ⟨.hbm, 52, rfl⟩
abbrev main_call5_v1 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.vmem, 14, rfl⟩
abbrev cc0_scratch8 : Ref sig .tc := ⟨.vmem, 15, rfl⟩
abbrev cc0_scratch9 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 16], ![false, false]⟩

def k0_mult1 : BitVec 32 :=
  let c0_i32_34 : BitVec 32 := 0#32
  c0_i32_34
@[reducible] def k0_t1_loop (i : grid0.Coords) : Scf.Loop 32 :=
  let c0_i32_48 : BitVec 32 := 0#32
  let arg1 : BitVec 32 := BitVec.ofNat 32 (i 1).val
  let c128_i32 : BitVec 32 := 128#32
  let v52 : BitVec 32 := Scalar.muli arg1 c128_i32
  let c128_i32_28 : BitVec 32 := 128#32
  let v53 : BitVec 32 := Scalar.addi v52 c128_i32_28
  let c1_i32 : BitVec 32 := 1#32
  let v54 : BitVec 32 := Scalar.subi v53 c1_i32
  let c0_i32 : BitVec 32 := 0#32
  let v56 : BitVec 1 := Scalar.cmpi .sgt v54 c0_i32
  let v57 : BitVec 32 := Scalar.extui v56
  let c0_i32_29 : BitVec 32 := 0#32
  let v58 : BitVec 1 := Scalar.cmpi .slt v54 c0_i32_29
  let v59 : BitVec 32 := Scalar.extui v58
  let v60 : BitVec 32 := Scalar.subi v57 v59
  let c256_i32 : BitVec 32 := 256#32
  let c0_i32_30 : BitVec 32 := 0#32
  let v61 : BitVec 1 := Scalar.cmpi .sgt c256_i32 c0_i32_30
  let v62 : BitVec 32 := Scalar.extui v61
  let c0_i32_31 : BitVec 32 := 0#32
  let v63 : BitVec 1 := Scalar.cmpi .slt c256_i32 c0_i32_31
  let v64 : BitVec 32 := Scalar.extui v63
  let v65 : BitVec 32 := Scalar.subi v62 v64
  let v66 : BitVec 1 := Scalar.cmpi .ne v60 v65
  let v67 : BitVec 32 := Scalar.remsi v54 c256_i32
  let c0_i32_32 : BitVec 32 := 0#32
  let v68 : BitVec 1 := Scalar.cmpi .ne v67 c0_i32_32
  let v69 : BitVec 1 := Scalar.andi v66 v68
  let v55 : BitVec 32 := Scalar.divsi v54 c256_i32
  let c1_i32_33 : BitVec 32 := 1#32
  let v70 : BitVec 32 := Scalar.subi v55 c1_i32_33
  let v71 : BitVec 32 := Scalar.select v69 v70 v55
  let c0_i32_41 : BitVec 32 := 0#32
  let v82 : BitVec 1 := Scalar.cmpi .sgt v71 c0_i32_41
  let v83 : BitVec 32 := Scalar.extui v82
  let c0_i32_42 : BitVec 32 := 0#32
  let v84 : BitVec 1 := Scalar.cmpi .slt v71 c0_i32_42
  let v85 : BitVec 32 := Scalar.extui v84
  let v86 : BitVec 32 := Scalar.subi v83 v85
  let c2_i32 : BitVec 32 := 2#32
  let c0_i32_43 : BitVec 32 := 0#32
  let v87 : BitVec 1 := Scalar.cmpi .sgt c2_i32 c0_i32_43
  let v88 : BitVec 32 := Scalar.extui v87
  let c0_i32_44 : BitVec 32 := 0#32
  let v89 : BitVec 1 := Scalar.cmpi .slt c2_i32 c0_i32_44
  let v90 : BitVec 32 := Scalar.extui v89
  let v91 : BitVec 32 := Scalar.subi v88 v90
  let v92 : BitVec 1 := Scalar.cmpi .ne v86 v91
  let v93 : BitVec 32 := Scalar.remsi v71 c2_i32
  let c0_i32_45 : BitVec 32 := 0#32
  let v94 : BitVec 1 := Scalar.cmpi .ne v93 c0_i32_45
  let v95 : BitVec 1 := Scalar.andi v92 v94
  let v81 : BitVec 32 := Scalar.divsi v71 c2_i32
  let c1_i32_46 : BitVec 32 := 1#32
  let v96 : BitVec 32 := Scalar.subi v81 c1_i32_46
  let v97 : BitVec 32 := Scalar.select v95 v96 v81
  let v98 : BitVec 32 := Scalar.subi v97 c0_i32_48
  let c1_i32_49 : BitVec 32 := 1#32
  let v100 : BitVec 32 := Scalar.divsi v98 c1_i32_49
  let v101 : BitVec 32 := Scalar.muli v100 c1_i32_49
  let v102 : BitVec 32 := Scalar.addi c0_i32_48 v101
  let c1_i32_50 : BitVec 32 := 1#32
  ⟨c0_i32_48, v102, c1_i32_50⟩
def k0_mult2 (i : grid0.Coords) (k0_t1 : Fin (k0_t1_loop i).trips) : BitVec 32 :=
  let c2_i32_93 : BitVec 32 := 2#32
  let c0_i32_48 : BitVec 32 := 0#32
  let c1_i32_50 : BitVec 32 := 1#32
  let arg16 : BitVec 32 := Scf.iv c0_i32_48 c1_i32_50 k0_t1
  let v168 : BitVec 32 := Scalar.muli c2_i32_93 arg16
  let c1_i32_94 : BitVec 32 := 1#32
  let v169 : BitVec 32 := Scalar.addi v168 c1_i32_94
  let c256_i32_95 : BitVec 32 := 256#32
  let v170 : BitVec 32 := Scalar.muli v169 c256_i32_95
  v170
def k0_off1 (i : grid0.Coords) (k0_t1 : Fin (k0_t1_loop i).trips) (c1_i32_94 : BitVec 32) : Fin 2 → Nat :=
  let c2_i32_93 : BitVec 32 := 2#32
  let c0_i32_48 : BitVec 32 := 0#32
  let c1_i32_50 : BitVec 32 := 1#32
  let arg16 : BitVec 32 := Scf.iv c0_i32_48 c1_i32_50 k0_t1
  let v168 : BitVec 32 := Scalar.muli c2_i32_93 arg16
  let v169 : BitVec 32 := Scalar.addi v168 c1_i32_94
  let c256_i32_95 : BitVec 32 := 256#32
  let v170 : BitVec 32 := Scalar.muli v169 c256_i32_95
  let v171 : BitVec 32 := v170
  let v172 : Index := Scalar.indexCast v171
  let c0_96 : Index := 0#32
  ![v172.toNat, 0]
def k0_mult3 (i : grid0.Coords) (k0_t1 : Fin (k0_t1_loop i).trips) : BitVec 32 :=
  let c2_i32_93 : BitVec 32 := 2#32
  let c0_i32_48 : BitVec 32 := 0#32
  let c1_i32_50 : BitVec 32 := 1#32
  let arg16 : BitVec 32 := Scf.iv c0_i32_48 c1_i32_50 k0_t1
  let v168 : BitVec 32 := Scalar.muli c2_i32_93 arg16
  let c256_i32_718 : BitVec 32 := 256#32
  let v1396 : BitVec 32 := Scalar.muli v168 c256_i32_718
  v1396
def k0_off2 (i : grid0.Coords) (k0_t1 : Fin (k0_t1_loop i).trips) : Fin 2 → Nat :=
  let c2_i32_93 : BitVec 32 := 2#32
  let c0_i32_48 : BitVec 32 := 0#32
  let c1_i32_50 : BitVec 32 := 1#32
  let arg16 : BitVec 32 := Scf.iv c0_i32_48 c1_i32_50 k0_t1
  let v168 : BitVec 32 := Scalar.muli c2_i32_93 arg16
  let c256_i32_718 : BitVec 32 := 256#32
  let v1396 : BitVec 32 := Scalar.muli v168 c256_i32_718
  let v1397 : BitVec 32 := v1396
  let v1398 : Index := Scalar.indexCast v1397
  let c0_719 : Index := 0#32
  ![v1398.toNat, 0]
def k0_mult4 (i : grid0.Coords) (k0_t1 : Fin (k0_t1_loop i).trips) : BitVec 32 :=
  let c2_i32_93 : BitVec 32 := 2#32
  let c0_i32_48 : BitVec 32 := 0#32
  let c1_i32_50 : BitVec 32 := 1#32
  let arg16 : BitVec 32 := Scf.iv c0_i32_48 c1_i32_50 k0_t1
  let v168 : BitVec 32 := Scalar.muli c2_i32_93 arg16
  let c2_i32_729 : BitVec 32 := 2#32
  let v1410 : BitVec 32 := Scalar.addi v168 c2_i32_729
  let c256_i32_730 : BitVec 32 := 256#32
  let v1411 : BitVec 32 := Scalar.muli v1410 c256_i32_730
  v1411
def k0_mult5 (i : grid0.Coords) (k0_t1 : Fin (k0_t1_loop i).trips) : BitVec 32 :=
  let c2_i32_93 : BitVec 32 := 2#32
  let c0_i32_48 : BitVec 32 := 0#32
  let c1_i32_50 : BitVec 32 := 1#32
  let arg16 : BitVec 32 := Scf.iv c0_i32_48 c1_i32_50 k0_t1
  let v168 : BitVec 32 := Scalar.muli c2_i32_93 arg16
  let c1_i32_1378 : BitVec 32 := 1#32
  let v2638 : BitVec 32 := Scalar.addi v168 c1_i32_1378
  let c256_i32_1379 : BitVec 32 := 256#32
  let v2639 : BitVec 32 := Scalar.muli v2638 c256_i32_1379
  v2639
def k0_off3 (i : grid0.Coords) (k0_t1 : Fin (k0_t1_loop i).trips) : Fin 2 → Nat :=
  let c2_i32_93 : BitVec 32 := 2#32
  let c0_i32_48 : BitVec 32 := 0#32
  let c1_i32_50 : BitVec 32 := 1#32
  let arg16 : BitVec 32 := Scf.iv c0_i32_48 c1_i32_50 k0_t1
  let v168 : BitVec 32 := Scalar.muli c2_i32_93 arg16
  let c1_i32_1378 : BitVec 32 := 1#32
  let v2638 : BitVec 32 := Scalar.addi v168 c1_i32_1378
  let c256_i32_1379 : BitVec 32 := 256#32
  let v2639 : BitVec 32 := Scalar.muli v2638 c256_i32_1379
  let v2640 : BitVec 32 := v2639
  let v2641 : Index := Scalar.indexCast v2640
  let c0_1380 : Index := 0#32
  ![v2641.toNat, 0]
@[reducible] def k0_t2_loop (i : grid0.Coords) : Scf.Loop 32 :=
  let c0_i32_48 : BitVec 32 := 0#32
  let arg1 : BitVec 32 := BitVec.ofNat 32 (i 1).val
  let c128_i32 : BitVec 32 := 128#32
  let v52 : BitVec 32 := Scalar.muli arg1 c128_i32
  let c128_i32_28 : BitVec 32 := 128#32
  let v53 : BitVec 32 := Scalar.addi v52 c128_i32_28
  let c1_i32 : BitVec 32 := 1#32
  let v54 : BitVec 32 := Scalar.subi v53 c1_i32
  let c0_i32 : BitVec 32 := 0#32
  let v56 : BitVec 1 := Scalar.cmpi .sgt v54 c0_i32
  let v57 : BitVec 32 := Scalar.extui v56
  let c0_i32_29 : BitVec 32 := 0#32
  let v58 : BitVec 1 := Scalar.cmpi .slt v54 c0_i32_29
  let v59 : BitVec 32 := Scalar.extui v58
  let v60 : BitVec 32 := Scalar.subi v57 v59
  let c256_i32 : BitVec 32 := 256#32
  let c0_i32_30 : BitVec 32 := 0#32
  let v61 : BitVec 1 := Scalar.cmpi .sgt c256_i32 c0_i32_30
  let v62 : BitVec 32 := Scalar.extui v61
  let c0_i32_31 : BitVec 32 := 0#32
  let v63 : BitVec 1 := Scalar.cmpi .slt c256_i32 c0_i32_31
  let v64 : BitVec 32 := Scalar.extui v63
  let v65 : BitVec 32 := Scalar.subi v62 v64
  let v66 : BitVec 1 := Scalar.cmpi .ne v60 v65
  let v67 : BitVec 32 := Scalar.remsi v54 c256_i32
  let c0_i32_32 : BitVec 32 := 0#32
  let v68 : BitVec 1 := Scalar.cmpi .ne v67 c0_i32_32
  let v69 : BitVec 1 := Scalar.andi v66 v68
  let v55 : BitVec 32 := Scalar.divsi v54 c256_i32
  let c1_i32_33 : BitVec 32 := 1#32
  let v70 : BitVec 32 := Scalar.subi v55 c1_i32_33
  let v71 : BitVec 32 := Scalar.select v69 v70 v55
  let c0_i32_41 : BitVec 32 := 0#32
  let v82 : BitVec 1 := Scalar.cmpi .sgt v71 c0_i32_41
  let v83 : BitVec 32 := Scalar.extui v82
  let c0_i32_42 : BitVec 32 := 0#32
  let v84 : BitVec 1 := Scalar.cmpi .slt v71 c0_i32_42
  let v85 : BitVec 32 := Scalar.extui v84
  let v86 : BitVec 32 := Scalar.subi v83 v85
  let c2_i32 : BitVec 32 := 2#32
  let c0_i32_43 : BitVec 32 := 0#32
  let v87 : BitVec 1 := Scalar.cmpi .sgt c2_i32 c0_i32_43
  let v88 : BitVec 32 := Scalar.extui v87
  let c0_i32_44 : BitVec 32 := 0#32
  let v89 : BitVec 1 := Scalar.cmpi .slt c2_i32 c0_i32_44
  let v90 : BitVec 32 := Scalar.extui v89
  let v91 : BitVec 32 := Scalar.subi v88 v90
  let v92 : BitVec 1 := Scalar.cmpi .ne v86 v91
  let v93 : BitVec 32 := Scalar.remsi v71 c2_i32
  let c0_i32_45 : BitVec 32 := 0#32
  let v94 : BitVec 1 := Scalar.cmpi .ne v93 c0_i32_45
  let v95 : BitVec 1 := Scalar.andi v92 v94
  let v81 : BitVec 32 := Scalar.divsi v71 c2_i32
  let c1_i32_46 : BitVec 32 := 1#32
  let v96 : BitVec 32 := Scalar.subi v81 c1_i32_46
  let v97 : BitVec 32 := Scalar.select v95 v96 v81
  let v98 : BitVec 32 := Scalar.subi v97 c0_i32_48
  let c1_i32_49 : BitVec 32 := 1#32
  let v100 : BitVec 32 := Scalar.divsi v98 c1_i32_49
  let v101 : BitVec 32 := Scalar.muli v100 c1_i32_49
  let v102 : BitVec 32 := Scalar.addi c0_i32_48 v101
  let v99 : BitVec 32 := Scalar.addi c0_i32_48 v98
  let c1_i32_51 : BitVec 32 := 1#32
  ⟨v102, v99, c1_i32_51⟩
def k0_mult6 (i : grid0.Coords) (k0_t2 : Fin (k0_t2_loop i).trips) : BitVec 32 :=
  let c2_i32_93 : BitVec 32 := 2#32
  let c0_i32_48 : BitVec 32 := 0#32
  let arg1 : BitVec 32 := BitVec.ofNat 32 (i 1).val
  let c128_i32 : BitVec 32 := 128#32
  let v52 : BitVec 32 := Scalar.muli arg1 c128_i32
  let c128_i32_28 : BitVec 32 := 128#32
  let v53 : BitVec 32 := Scalar.addi v52 c128_i32_28
  let c1_i32 : BitVec 32 := 1#32
  let v54 : BitVec 32 := Scalar.subi v53 c1_i32
  let c0_i32 : BitVec 32 := 0#32
  let v56 : BitVec 1 := Scalar.cmpi .sgt v54 c0_i32
  let v57 : BitVec 32 := Scalar.extui v56
  let c0_i32_29 : BitVec 32 := 0#32
  let v58 : BitVec 1 := Scalar.cmpi .slt v54 c0_i32_29
  let v59 : BitVec 32 := Scalar.extui v58
  let v60 : BitVec 32 := Scalar.subi v57 v59
  let c256_i32 : BitVec 32 := 256#32
  let c0_i32_30 : BitVec 32 := 0#32
  let v61 : BitVec 1 := Scalar.cmpi .sgt c256_i32 c0_i32_30
  let v62 : BitVec 32 := Scalar.extui v61
  let c0_i32_31 : BitVec 32 := 0#32
  let v63 : BitVec 1 := Scalar.cmpi .slt c256_i32 c0_i32_31
  let v64 : BitVec 32 := Scalar.extui v63
  let v65 : BitVec 32 := Scalar.subi v62 v64
  let v66 : BitVec 1 := Scalar.cmpi .ne v60 v65
  let v67 : BitVec 32 := Scalar.remsi v54 c256_i32
  let c0_i32_32 : BitVec 32 := 0#32
  let v68 : BitVec 1 := Scalar.cmpi .ne v67 c0_i32_32
  let v69 : BitVec 1 := Scalar.andi v66 v68
  let v55 : BitVec 32 := Scalar.divsi v54 c256_i32
  let c1_i32_33 : BitVec 32 := 1#32
  let v70 : BitVec 32 := Scalar.subi v55 c1_i32_33
  let v71 : BitVec 32 := Scalar.select v69 v70 v55
  let c0_i32_41 : BitVec 32 := 0#32
  let v82 : BitVec 1 := Scalar.cmpi .sgt v71 c0_i32_41
  let v83 : BitVec 32 := Scalar.extui v82
  let c0_i32_42 : BitVec 32 := 0#32
  let v84 : BitVec 1 := Scalar.cmpi .slt v71 c0_i32_42
  let v85 : BitVec 32 := Scalar.extui v84
  let v86 : BitVec 32 := Scalar.subi v83 v85
  let c2_i32 : BitVec 32 := 2#32
  let c0_i32_43 : BitVec 32 := 0#32
  let v87 : BitVec 1 := Scalar.cmpi .sgt c2_i32 c0_i32_43
  let v88 : BitVec 32 := Scalar.extui v87
  let c0_i32_44 : BitVec 32 := 0#32
  let v89 : BitVec 1 := Scalar.cmpi .slt c2_i32 c0_i32_44
  let v90 : BitVec 32 := Scalar.extui v89
  let v91 : BitVec 32 := Scalar.subi v88 v90
  let v92 : BitVec 1 := Scalar.cmpi .ne v86 v91
  let v93 : BitVec 32 := Scalar.remsi v71 c2_i32
  let c0_i32_45 : BitVec 32 := 0#32
  let v94 : BitVec 1 := Scalar.cmpi .ne v93 c0_i32_45
  let v95 : BitVec 1 := Scalar.andi v92 v94
  let v81 : BitVec 32 := Scalar.divsi v71 c2_i32
  let c1_i32_46 : BitVec 32 := 1#32
  let v96 : BitVec 32 := Scalar.subi v81 c1_i32_46
  let v97 : BitVec 32 := Scalar.select v95 v96 v81
  let v98 : BitVec 32 := Scalar.subi v97 c0_i32_48
  let c1_i32_49 : BitVec 32 := 1#32
  let v100 : BitVec 32 := Scalar.divsi v98 c1_i32_49
  let v101 : BitVec 32 := Scalar.muli v100 c1_i32_49
  let v102 : BitVec 32 := Scalar.addi c0_i32_48 v101
  let c1_i32_51 : BitVec 32 := 1#32
  let arg16 : BitVec 32 := Scf.iv v102 c1_i32_51 k0_t2
  let v168 : BitVec 32 := Scalar.muli c2_i32_93 arg16
  let c1_i32_94 : BitVec 32 := 1#32
  let v169 : BitVec 32 := Scalar.addi v168 c1_i32_94
  let c256_i32_95 : BitVec 32 := 256#32
  let v170 : BitVec 32 := Scalar.muli v169 c256_i32_95
  v170
def k0_off4 (i : grid0.Coords) (k0_t2 : Fin (k0_t2_loop i).trips) (c1_i32_94 : BitVec 32) : Fin 2 → Nat :=
  let c2_i32_93 : BitVec 32 := 2#32
  let c0_i32_48 : BitVec 32 := 0#32
  let arg1 : BitVec 32 := BitVec.ofNat 32 (i 1).val
  let c128_i32 : BitVec 32 := 128#32
  let v52 : BitVec 32 := Scalar.muli arg1 c128_i32
  let c128_i32_28 : BitVec 32 := 128#32
  let v53 : BitVec 32 := Scalar.addi v52 c128_i32_28
  let c1_i32 : BitVec 32 := 1#32
  let v54 : BitVec 32 := Scalar.subi v53 c1_i32
  let c0_i32 : BitVec 32 := 0#32
  let v56 : BitVec 1 := Scalar.cmpi .sgt v54 c0_i32
  let v57 : BitVec 32 := Scalar.extui v56
  let c0_i32_29 : BitVec 32 := 0#32
  let v58 : BitVec 1 := Scalar.cmpi .slt v54 c0_i32_29
  let v59 : BitVec 32 := Scalar.extui v58
  let v60 : BitVec 32 := Scalar.subi v57 v59
  let c256_i32 : BitVec 32 := 256#32
  let c0_i32_30 : BitVec 32 := 0#32
  let v61 : BitVec 1 := Scalar.cmpi .sgt c256_i32 c0_i32_30
  let v62 : BitVec 32 := Scalar.extui v61
  let c0_i32_31 : BitVec 32 := 0#32
  let v63 : BitVec 1 := Scalar.cmpi .slt c256_i32 c0_i32_31
  let v64 : BitVec 32 := Scalar.extui v63
  let v65 : BitVec 32 := Scalar.subi v62 v64
  let v66 : BitVec 1 := Scalar.cmpi .ne v60 v65
  let v67 : BitVec 32 := Scalar.remsi v54 c256_i32
  let c0_i32_32 : BitVec 32 := 0#32
  let v68 : BitVec 1 := Scalar.cmpi .ne v67 c0_i32_32
  let v69 : BitVec 1 := Scalar.andi v66 v68
  let v55 : BitVec 32 := Scalar.divsi v54 c256_i32
  let c1_i32_33 : BitVec 32 := 1#32
  let v70 : BitVec 32 := Scalar.subi v55 c1_i32_33
  let v71 : BitVec 32 := Scalar.select v69 v70 v55
  let c0_i32_41 : BitVec 32 := 0#32
  let v82 : BitVec 1 := Scalar.cmpi .sgt v71 c0_i32_41
  let v83 : BitVec 32 := Scalar.extui v82
  let c0_i32_42 : BitVec 32 := 0#32
  let v84 : BitVec 1 := Scalar.cmpi .slt v71 c0_i32_42
  let v85 : BitVec 32 := Scalar.extui v84
  let v86 : BitVec 32 := Scalar.subi v83 v85
  let c2_i32 : BitVec 32 := 2#32
  let c0_i32_43 : BitVec 32 := 0#32
  let v87 : BitVec 1 := Scalar.cmpi .sgt c2_i32 c0_i32_43
  let v88 : BitVec 32 := Scalar.extui v87
  let c0_i32_44 : BitVec 32 := 0#32
  let v89 : BitVec 1 := Scalar.cmpi .slt c2_i32 c0_i32_44
  let v90 : BitVec 32 := Scalar.extui v89
  let v91 : BitVec 32 := Scalar.subi v88 v90
  let v92 : BitVec 1 := Scalar.cmpi .ne v86 v91
  let v93 : BitVec 32 := Scalar.remsi v71 c2_i32
  let c0_i32_45 : BitVec 32 := 0#32
  let v94 : BitVec 1 := Scalar.cmpi .ne v93 c0_i32_45
  let v95 : BitVec 1 := Scalar.andi v92 v94
  let v81 : BitVec 32 := Scalar.divsi v71 c2_i32
  let c1_i32_46 : BitVec 32 := 1#32
  let v96 : BitVec 32 := Scalar.subi v81 c1_i32_46
  let v97 : BitVec 32 := Scalar.select v95 v96 v81
  let v98 : BitVec 32 := Scalar.subi v97 c0_i32_48
  let c1_i32_49 : BitVec 32 := 1#32
  let v100 : BitVec 32 := Scalar.divsi v98 c1_i32_49
  let v101 : BitVec 32 := Scalar.muli v100 c1_i32_49
  let v102 : BitVec 32 := Scalar.addi c0_i32_48 v101
  let c1_i32_51 : BitVec 32 := 1#32
  let arg16 : BitVec 32 := Scf.iv v102 c1_i32_51 k0_t2
  let v168 : BitVec 32 := Scalar.muli c2_i32_93 arg16
  let v169 : BitVec 32 := Scalar.addi v168 c1_i32_94
  let c256_i32_95 : BitVec 32 := 256#32
  let v170 : BitVec 32 := Scalar.muli v169 c256_i32_95
  let v171 : BitVec 32 := v170
  let v172 : Index := Scalar.indexCast v171
  let c0_96 : Index := 0#32
  ![v172.toNat, 0]
def k0_mult7 (i : grid0.Coords) (k0_t2 : Fin (k0_t2_loop i).trips) : BitVec 32 :=
  let c2_i32_93 : BitVec 32 := 2#32
  let c0_i32_48 : BitVec 32 := 0#32
  let arg1 : BitVec 32 := BitVec.ofNat 32 (i 1).val
  let c128_i32 : BitVec 32 := 128#32
  let v52 : BitVec 32 := Scalar.muli arg1 c128_i32
  let c128_i32_28 : BitVec 32 := 128#32
  let v53 : BitVec 32 := Scalar.addi v52 c128_i32_28
  let c1_i32 : BitVec 32 := 1#32
  let v54 : BitVec 32 := Scalar.subi v53 c1_i32
  let c0_i32 : BitVec 32 := 0#32
  let v56 : BitVec 1 := Scalar.cmpi .sgt v54 c0_i32
  let v57 : BitVec 32 := Scalar.extui v56
  let c0_i32_29 : BitVec 32 := 0#32
  let v58 : BitVec 1 := Scalar.cmpi .slt v54 c0_i32_29
  let v59 : BitVec 32 := Scalar.extui v58
  let v60 : BitVec 32 := Scalar.subi v57 v59
  let c256_i32 : BitVec 32 := 256#32
  let c0_i32_30 : BitVec 32 := 0#32
  let v61 : BitVec 1 := Scalar.cmpi .sgt c256_i32 c0_i32_30
  let v62 : BitVec 32 := Scalar.extui v61
  let c0_i32_31 : BitVec 32 := 0#32
  let v63 : BitVec 1 := Scalar.cmpi .slt c256_i32 c0_i32_31
  let v64 : BitVec 32 := Scalar.extui v63
  let v65 : BitVec 32 := Scalar.subi v62 v64
  let v66 : BitVec 1 := Scalar.cmpi .ne v60 v65
  let v67 : BitVec 32 := Scalar.remsi v54 c256_i32
  let c0_i32_32 : BitVec 32 := 0#32
  let v68 : BitVec 1 := Scalar.cmpi .ne v67 c0_i32_32
  let v69 : BitVec 1 := Scalar.andi v66 v68
  let v55 : BitVec 32 := Scalar.divsi v54 c256_i32
  let c1_i32_33 : BitVec 32 := 1#32
  let v70 : BitVec 32 := Scalar.subi v55 c1_i32_33
  let v71 : BitVec 32 := Scalar.select v69 v70 v55
  let c0_i32_41 : BitVec 32 := 0#32
  let v82 : BitVec 1 := Scalar.cmpi .sgt v71 c0_i32_41
  let v83 : BitVec 32 := Scalar.extui v82
  let c0_i32_42 : BitVec 32 := 0#32
  let v84 : BitVec 1 := Scalar.cmpi .slt v71 c0_i32_42
  let v85 : BitVec 32 := Scalar.extui v84
  let v86 : BitVec 32 := Scalar.subi v83 v85
  let c2_i32 : BitVec 32 := 2#32
  let c0_i32_43 : BitVec 32 := 0#32
  let v87 : BitVec 1 := Scalar.cmpi .sgt c2_i32 c0_i32_43
  let v88 : BitVec 32 := Scalar.extui v87
  let c0_i32_44 : BitVec 32 := 0#32
  let v89 : BitVec 1 := Scalar.cmpi .slt c2_i32 c0_i32_44
  let v90 : BitVec 32 := Scalar.extui v89
  let v91 : BitVec 32 := Scalar.subi v88 v90
  let v92 : BitVec 1 := Scalar.cmpi .ne v86 v91
  let v93 : BitVec 32 := Scalar.remsi v71 c2_i32
  let c0_i32_45 : BitVec 32 := 0#32
  let v94 : BitVec 1 := Scalar.cmpi .ne v93 c0_i32_45
  let v95 : BitVec 1 := Scalar.andi v92 v94
  let v81 : BitVec 32 := Scalar.divsi v71 c2_i32
  let c1_i32_46 : BitVec 32 := 1#32
  let v96 : BitVec 32 := Scalar.subi v81 c1_i32_46
  let v97 : BitVec 32 := Scalar.select v95 v96 v81
  let v98 : BitVec 32 := Scalar.subi v97 c0_i32_48
  let c1_i32_49 : BitVec 32 := 1#32
  let v100 : BitVec 32 := Scalar.divsi v98 c1_i32_49
  let v101 : BitVec 32 := Scalar.muli v100 c1_i32_49
  let v102 : BitVec 32 := Scalar.addi c0_i32_48 v101
  let c1_i32_51 : BitVec 32 := 1#32
  let arg16 : BitVec 32 := Scf.iv v102 c1_i32_51 k0_t2
  let v168 : BitVec 32 := Scalar.muli c2_i32_93 arg16
  let c256_i32_718 : BitVec 32 := 256#32
  let v1396 : BitVec 32 := Scalar.muli v168 c256_i32_718
  v1396
def k0_off5 (i : grid0.Coords) (k0_t2 : Fin (k0_t2_loop i).trips) : Fin 2 → Nat :=
  let c2_i32_93 : BitVec 32 := 2#32
  let c0_i32_48 : BitVec 32 := 0#32
  let arg1 : BitVec 32 := BitVec.ofNat 32 (i 1).val
  let c128_i32 : BitVec 32 := 128#32
  let v52 : BitVec 32 := Scalar.muli arg1 c128_i32
  let c128_i32_28 : BitVec 32 := 128#32
  let v53 : BitVec 32 := Scalar.addi v52 c128_i32_28
  let c1_i32 : BitVec 32 := 1#32
  let v54 : BitVec 32 := Scalar.subi v53 c1_i32
  let c0_i32 : BitVec 32 := 0#32
  let v56 : BitVec 1 := Scalar.cmpi .sgt v54 c0_i32
  let v57 : BitVec 32 := Scalar.extui v56
  let c0_i32_29 : BitVec 32 := 0#32
  let v58 : BitVec 1 := Scalar.cmpi .slt v54 c0_i32_29
  let v59 : BitVec 32 := Scalar.extui v58
  let v60 : BitVec 32 := Scalar.subi v57 v59
  let c256_i32 : BitVec 32 := 256#32
  let c0_i32_30 : BitVec 32 := 0#32
  let v61 : BitVec 1 := Scalar.cmpi .sgt c256_i32 c0_i32_30
  let v62 : BitVec 32 := Scalar.extui v61
  let c0_i32_31 : BitVec 32 := 0#32
  let v63 : BitVec 1 := Scalar.cmpi .slt c256_i32 c0_i32_31
  let v64 : BitVec 32 := Scalar.extui v63
  let v65 : BitVec 32 := Scalar.subi v62 v64
  let v66 : BitVec 1 := Scalar.cmpi .ne v60 v65
  let v67 : BitVec 32 := Scalar.remsi v54 c256_i32
  let c0_i32_32 : BitVec 32 := 0#32
  let v68 : BitVec 1 := Scalar.cmpi .ne v67 c0_i32_32
  let v69 : BitVec 1 := Scalar.andi v66 v68
  let v55 : BitVec 32 := Scalar.divsi v54 c256_i32
  let c1_i32_33 : BitVec 32 := 1#32
  let v70 : BitVec 32 := Scalar.subi v55 c1_i32_33
  let v71 : BitVec 32 := Scalar.select v69 v70 v55
  let c0_i32_41 : BitVec 32 := 0#32
  let v82 : BitVec 1 := Scalar.cmpi .sgt v71 c0_i32_41
  let v83 : BitVec 32 := Scalar.extui v82
  let c0_i32_42 : BitVec 32 := 0#32
  let v84 : BitVec 1 := Scalar.cmpi .slt v71 c0_i32_42
  let v85 : BitVec 32 := Scalar.extui v84
  let v86 : BitVec 32 := Scalar.subi v83 v85
  let c2_i32 : BitVec 32 := 2#32
  let c0_i32_43 : BitVec 32 := 0#32
  let v87 : BitVec 1 := Scalar.cmpi .sgt c2_i32 c0_i32_43
  let v88 : BitVec 32 := Scalar.extui v87
  let c0_i32_44 : BitVec 32 := 0#32
  let v89 : BitVec 1 := Scalar.cmpi .slt c2_i32 c0_i32_44
  let v90 : BitVec 32 := Scalar.extui v89
  let v91 : BitVec 32 := Scalar.subi v88 v90
  let v92 : BitVec 1 := Scalar.cmpi .ne v86 v91
  let v93 : BitVec 32 := Scalar.remsi v71 c2_i32
  let c0_i32_45 : BitVec 32 := 0#32
  let v94 : BitVec 1 := Scalar.cmpi .ne v93 c0_i32_45
  let v95 : BitVec 1 := Scalar.andi v92 v94
  let v81 : BitVec 32 := Scalar.divsi v71 c2_i32
  let c1_i32_46 : BitVec 32 := 1#32
  let v96 : BitVec 32 := Scalar.subi v81 c1_i32_46
  let v97 : BitVec 32 := Scalar.select v95 v96 v81
  let v98 : BitVec 32 := Scalar.subi v97 c0_i32_48
  let c1_i32_49 : BitVec 32 := 1#32
  let v100 : BitVec 32 := Scalar.divsi v98 c1_i32_49
  let v101 : BitVec 32 := Scalar.muli v100 c1_i32_49
  let v102 : BitVec 32 := Scalar.addi c0_i32_48 v101
  let c1_i32_51 : BitVec 32 := 1#32
  let arg16 : BitVec 32 := Scf.iv v102 c1_i32_51 k0_t2
  let v168 : BitVec 32 := Scalar.muli c2_i32_93 arg16
  let c256_i32_718 : BitVec 32 := 256#32
  let v1396 : BitVec 32 := Scalar.muli v168 c256_i32_718
  let v1397 : BitVec 32 := v1396
  let v1398 : Index := Scalar.indexCast v1397
  let c0_719 : Index := 0#32
  ![v1398.toNat, 0]
def k0_mult8 (i : grid0.Coords) (k0_t2 : Fin (k0_t2_loop i).trips) : BitVec 32 :=
  let c2_i32_93 : BitVec 32 := 2#32
  let c0_i32_48 : BitVec 32 := 0#32
  let arg1 : BitVec 32 := BitVec.ofNat 32 (i 1).val
  let c128_i32 : BitVec 32 := 128#32
  let v52 : BitVec 32 := Scalar.muli arg1 c128_i32
  let c128_i32_28 : BitVec 32 := 128#32
  let v53 : BitVec 32 := Scalar.addi v52 c128_i32_28
  let c1_i32 : BitVec 32 := 1#32
  let v54 : BitVec 32 := Scalar.subi v53 c1_i32
  let c0_i32 : BitVec 32 := 0#32
  let v56 : BitVec 1 := Scalar.cmpi .sgt v54 c0_i32
  let v57 : BitVec 32 := Scalar.extui v56
  let c0_i32_29 : BitVec 32 := 0#32
  let v58 : BitVec 1 := Scalar.cmpi .slt v54 c0_i32_29
  let v59 : BitVec 32 := Scalar.extui v58
  let v60 : BitVec 32 := Scalar.subi v57 v59
  let c256_i32 : BitVec 32 := 256#32
  let c0_i32_30 : BitVec 32 := 0#32
  let v61 : BitVec 1 := Scalar.cmpi .sgt c256_i32 c0_i32_30
  let v62 : BitVec 32 := Scalar.extui v61
  let c0_i32_31 : BitVec 32 := 0#32
  let v63 : BitVec 1 := Scalar.cmpi .slt c256_i32 c0_i32_31
  let v64 : BitVec 32 := Scalar.extui v63
  let v65 : BitVec 32 := Scalar.subi v62 v64
  let v66 : BitVec 1 := Scalar.cmpi .ne v60 v65
  let v67 : BitVec 32 := Scalar.remsi v54 c256_i32
  let c0_i32_32 : BitVec 32 := 0#32
  let v68 : BitVec 1 := Scalar.cmpi .ne v67 c0_i32_32
  let v69 : BitVec 1 := Scalar.andi v66 v68
  let v55 : BitVec 32 := Scalar.divsi v54 c256_i32
  let c1_i32_33 : BitVec 32 := 1#32
  let v70 : BitVec 32 := Scalar.subi v55 c1_i32_33
  let v71 : BitVec 32 := Scalar.select v69 v70 v55
  let c0_i32_41 : BitVec 32 := 0#32
  let v82 : BitVec 1 := Scalar.cmpi .sgt v71 c0_i32_41
  let v83 : BitVec 32 := Scalar.extui v82
  let c0_i32_42 : BitVec 32 := 0#32
  let v84 : BitVec 1 := Scalar.cmpi .slt v71 c0_i32_42
  let v85 : BitVec 32 := Scalar.extui v84
  let v86 : BitVec 32 := Scalar.subi v83 v85
  let c2_i32 : BitVec 32 := 2#32
  let c0_i32_43 : BitVec 32 := 0#32
  let v87 : BitVec 1 := Scalar.cmpi .sgt c2_i32 c0_i32_43
  let v88 : BitVec 32 := Scalar.extui v87
  let c0_i32_44 : BitVec 32 := 0#32
  let v89 : BitVec 1 := Scalar.cmpi .slt c2_i32 c0_i32_44
  let v90 : BitVec 32 := Scalar.extui v89
  let v91 : BitVec 32 := Scalar.subi v88 v90
  let v92 : BitVec 1 := Scalar.cmpi .ne v86 v91
  let v93 : BitVec 32 := Scalar.remsi v71 c2_i32
  let c0_i32_45 : BitVec 32 := 0#32
  let v94 : BitVec 1 := Scalar.cmpi .ne v93 c0_i32_45
  let v95 : BitVec 1 := Scalar.andi v92 v94
  let v81 : BitVec 32 := Scalar.divsi v71 c2_i32
  let c1_i32_46 : BitVec 32 := 1#32
  let v96 : BitVec 32 := Scalar.subi v81 c1_i32_46
  let v97 : BitVec 32 := Scalar.select v95 v96 v81
  let v98 : BitVec 32 := Scalar.subi v97 c0_i32_48
  let c1_i32_49 : BitVec 32 := 1#32
  let v100 : BitVec 32 := Scalar.divsi v98 c1_i32_49
  let v101 : BitVec 32 := Scalar.muli v100 c1_i32_49
  let v102 : BitVec 32 := Scalar.addi c0_i32_48 v101
  let c1_i32_51 : BitVec 32 := 1#32
  let arg16 : BitVec 32 := Scf.iv v102 c1_i32_51 k0_t2
  let v168 : BitVec 32 := Scalar.muli c2_i32_93 arg16
  let c2_i32_729 : BitVec 32 := 2#32
  let v1410 : BitVec 32 := Scalar.addi v168 c2_i32_729
  let c256_i32_730 : BitVec 32 := 256#32
  let v1411 : BitVec 32 := Scalar.muli v1410 c256_i32_730
  v1411
def k0_mult9 (i : grid0.Coords) (k0_t2 : Fin (k0_t2_loop i).trips) : BitVec 32 :=
  let c2_i32_93 : BitVec 32 := 2#32
  let c0_i32_48 : BitVec 32 := 0#32
  let arg1 : BitVec 32 := BitVec.ofNat 32 (i 1).val
  let c128_i32 : BitVec 32 := 128#32
  let v52 : BitVec 32 := Scalar.muli arg1 c128_i32
  let c128_i32_28 : BitVec 32 := 128#32
  let v53 : BitVec 32 := Scalar.addi v52 c128_i32_28
  let c1_i32 : BitVec 32 := 1#32
  let v54 : BitVec 32 := Scalar.subi v53 c1_i32
  let c0_i32 : BitVec 32 := 0#32
  let v56 : BitVec 1 := Scalar.cmpi .sgt v54 c0_i32
  let v57 : BitVec 32 := Scalar.extui v56
  let c0_i32_29 : BitVec 32 := 0#32
  let v58 : BitVec 1 := Scalar.cmpi .slt v54 c0_i32_29
  let v59 : BitVec 32 := Scalar.extui v58
  let v60 : BitVec 32 := Scalar.subi v57 v59
  let c256_i32 : BitVec 32 := 256#32
  let c0_i32_30 : BitVec 32 := 0#32
  let v61 : BitVec 1 := Scalar.cmpi .sgt c256_i32 c0_i32_30
  let v62 : BitVec 32 := Scalar.extui v61
  let c0_i32_31 : BitVec 32 := 0#32
  let v63 : BitVec 1 := Scalar.cmpi .slt c256_i32 c0_i32_31
  let v64 : BitVec 32 := Scalar.extui v63
  let v65 : BitVec 32 := Scalar.subi v62 v64
  let v66 : BitVec 1 := Scalar.cmpi .ne v60 v65
  let v67 : BitVec 32 := Scalar.remsi v54 c256_i32
  let c0_i32_32 : BitVec 32 := 0#32
  let v68 : BitVec 1 := Scalar.cmpi .ne v67 c0_i32_32
  let v69 : BitVec 1 := Scalar.andi v66 v68
  let v55 : BitVec 32 := Scalar.divsi v54 c256_i32
  let c1_i32_33 : BitVec 32 := 1#32
  let v70 : BitVec 32 := Scalar.subi v55 c1_i32_33
  let v71 : BitVec 32 := Scalar.select v69 v70 v55
  let c0_i32_41 : BitVec 32 := 0#32
  let v82 : BitVec 1 := Scalar.cmpi .sgt v71 c0_i32_41
  let v83 : BitVec 32 := Scalar.extui v82
  let c0_i32_42 : BitVec 32 := 0#32
  let v84 : BitVec 1 := Scalar.cmpi .slt v71 c0_i32_42
  let v85 : BitVec 32 := Scalar.extui v84
  let v86 : BitVec 32 := Scalar.subi v83 v85
  let c2_i32 : BitVec 32 := 2#32
  let c0_i32_43 : BitVec 32 := 0#32
  let v87 : BitVec 1 := Scalar.cmpi .sgt c2_i32 c0_i32_43
  let v88 : BitVec 32 := Scalar.extui v87
  let c0_i32_44 : BitVec 32 := 0#32
  let v89 : BitVec 1 := Scalar.cmpi .slt c2_i32 c0_i32_44
  let v90 : BitVec 32 := Scalar.extui v89
  let v91 : BitVec 32 := Scalar.subi v88 v90
  let v92 : BitVec 1 := Scalar.cmpi .ne v86 v91
  let v93 : BitVec 32 := Scalar.remsi v71 c2_i32
  let c0_i32_45 : BitVec 32 := 0#32
  let v94 : BitVec 1 := Scalar.cmpi .ne v93 c0_i32_45
  let v95 : BitVec 1 := Scalar.andi v92 v94
  let v81 : BitVec 32 := Scalar.divsi v71 c2_i32
  let c1_i32_46 : BitVec 32 := 1#32
  let v96 : BitVec 32 := Scalar.subi v81 c1_i32_46
  let v97 : BitVec 32 := Scalar.select v95 v96 v81
  let v98 : BitVec 32 := Scalar.subi v97 c0_i32_48
  let c1_i32_49 : BitVec 32 := 1#32
  let v100 : BitVec 32 := Scalar.divsi v98 c1_i32_49
  let v101 : BitVec 32 := Scalar.muli v100 c1_i32_49
  let v102 : BitVec 32 := Scalar.addi c0_i32_48 v101
  let c1_i32_51 : BitVec 32 := 1#32
  let arg16 : BitVec 32 := Scf.iv v102 c1_i32_51 k0_t2
  let v168 : BitVec 32 := Scalar.muli c2_i32_93 arg16
  let c1_i32_1378 : BitVec 32 := 1#32
  let v2638 : BitVec 32 := Scalar.addi v168 c1_i32_1378
  let c256_i32_1379 : BitVec 32 := 256#32
  let v2639 : BitVec 32 := Scalar.muli v2638 c256_i32_1379
  v2639
def k0_off6 (i : grid0.Coords) (k0_t2 : Fin (k0_t2_loop i).trips) : Fin 2 → Nat :=
  let c2_i32_93 : BitVec 32 := 2#32
  let c0_i32_48 : BitVec 32 := 0#32
  let arg1 : BitVec 32 := BitVec.ofNat 32 (i 1).val
  let c128_i32 : BitVec 32 := 128#32
  let v52 : BitVec 32 := Scalar.muli arg1 c128_i32
  let c128_i32_28 : BitVec 32 := 128#32
  let v53 : BitVec 32 := Scalar.addi v52 c128_i32_28
  let c1_i32 : BitVec 32 := 1#32
  let v54 : BitVec 32 := Scalar.subi v53 c1_i32
  let c0_i32 : BitVec 32 := 0#32
  let v56 : BitVec 1 := Scalar.cmpi .sgt v54 c0_i32
  let v57 : BitVec 32 := Scalar.extui v56
  let c0_i32_29 : BitVec 32 := 0#32
  let v58 : BitVec 1 := Scalar.cmpi .slt v54 c0_i32_29
  let v59 : BitVec 32 := Scalar.extui v58
  let v60 : BitVec 32 := Scalar.subi v57 v59
  let c256_i32 : BitVec 32 := 256#32
  let c0_i32_30 : BitVec 32 := 0#32
  let v61 : BitVec 1 := Scalar.cmpi .sgt c256_i32 c0_i32_30
  let v62 : BitVec 32 := Scalar.extui v61
  let c0_i32_31 : BitVec 32 := 0#32
  let v63 : BitVec 1 := Scalar.cmpi .slt c256_i32 c0_i32_31
  let v64 : BitVec 32 := Scalar.extui v63
  let v65 : BitVec 32 := Scalar.subi v62 v64
  let v66 : BitVec 1 := Scalar.cmpi .ne v60 v65
  let v67 : BitVec 32 := Scalar.remsi v54 c256_i32
  let c0_i32_32 : BitVec 32 := 0#32
  let v68 : BitVec 1 := Scalar.cmpi .ne v67 c0_i32_32
  let v69 : BitVec 1 := Scalar.andi v66 v68
  let v55 : BitVec 32 := Scalar.divsi v54 c256_i32
  let c1_i32_33 : BitVec 32 := 1#32
  let v70 : BitVec 32 := Scalar.subi v55 c1_i32_33
  let v71 : BitVec 32 := Scalar.select v69 v70 v55
  let c0_i32_41 : BitVec 32 := 0#32
  let v82 : BitVec 1 := Scalar.cmpi .sgt v71 c0_i32_41
  let v83 : BitVec 32 := Scalar.extui v82
  let c0_i32_42 : BitVec 32 := 0#32
  let v84 : BitVec 1 := Scalar.cmpi .slt v71 c0_i32_42
  let v85 : BitVec 32 := Scalar.extui v84
  let v86 : BitVec 32 := Scalar.subi v83 v85
  let c2_i32 : BitVec 32 := 2#32
  let c0_i32_43 : BitVec 32 := 0#32
  let v87 : BitVec 1 := Scalar.cmpi .sgt c2_i32 c0_i32_43
  let v88 : BitVec 32 := Scalar.extui v87
  let c0_i32_44 : BitVec 32 := 0#32
  let v89 : BitVec 1 := Scalar.cmpi .slt c2_i32 c0_i32_44
  let v90 : BitVec 32 := Scalar.extui v89
  let v91 : BitVec 32 := Scalar.subi v88 v90
  let v92 : BitVec 1 := Scalar.cmpi .ne v86 v91
  let v93 : BitVec 32 := Scalar.remsi v71 c2_i32
  let c0_i32_45 : BitVec 32 := 0#32
  let v94 : BitVec 1 := Scalar.cmpi .ne v93 c0_i32_45
  let v95 : BitVec 1 := Scalar.andi v92 v94
  let v81 : BitVec 32 := Scalar.divsi v71 c2_i32
  let c1_i32_46 : BitVec 32 := 1#32
  let v96 : BitVec 32 := Scalar.subi v81 c1_i32_46
  let v97 : BitVec 32 := Scalar.select v95 v96 v81
  let v98 : BitVec 32 := Scalar.subi v97 c0_i32_48
  let c1_i32_49 : BitVec 32 := 1#32
  let v100 : BitVec 32 := Scalar.divsi v98 c1_i32_49
  let v101 : BitVec 32 := Scalar.muli v100 c1_i32_49
  let v102 : BitVec 32 := Scalar.addi c0_i32_48 v101
  let c1_i32_51 : BitVec 32 := 1#32
  let arg16 : BitVec 32 := Scf.iv v102 c1_i32_51 k0_t2
  let v168 : BitVec 32 := Scalar.muli c2_i32_93 arg16
  let c1_i32_1378 : BitVec 32 := 1#32
  let v2638 : BitVec 32 := Scalar.addi v168 c1_i32_1378
  let c256_i32_1379 : BitVec 32 := 256#32
  let v2639 : BitVec 32 := Scalar.muli v2638 c256_i32_1379
  let v2640 : BitVec 32 := v2639
  let v2641 : Index := Scalar.indexCast v2640
  let c0_1380 : Index := 0#32
  ![v2641.toNat, 0]
def k0_cond1 (i : grid0.Coords) : BitVec 1 :=
  let arg1 : BitVec 32 := BitVec.ofNat 32 (i 1).val
  let c128_i32 : BitVec 32 := 128#32
  let v52 : BitVec 32 := Scalar.muli arg1 c128_i32
  let c128_i32_28 : BitVec 32 := 128#32
  let v53 : BitVec 32 := Scalar.addi v52 c128_i32_28
  let c1_i32 : BitVec 32 := 1#32
  let v54 : BitVec 32 := Scalar.subi v53 c1_i32
  let c0_i32 : BitVec 32 := 0#32
  let v56 : BitVec 1 := Scalar.cmpi .sgt v54 c0_i32
  let v57 : BitVec 32 := Scalar.extui v56
  let c0_i32_29 : BitVec 32 := 0#32
  let v58 : BitVec 1 := Scalar.cmpi .slt v54 c0_i32_29
  let v59 : BitVec 32 := Scalar.extui v58
  let v60 : BitVec 32 := Scalar.subi v57 v59
  let c256_i32 : BitVec 32 := 256#32
  let c0_i32_30 : BitVec 32 := 0#32
  let v61 : BitVec 1 := Scalar.cmpi .sgt c256_i32 c0_i32_30
  let v62 : BitVec 32 := Scalar.extui v61
  let c0_i32_31 : BitVec 32 := 0#32
  let v63 : BitVec 1 := Scalar.cmpi .slt c256_i32 c0_i32_31
  let v64 : BitVec 32 := Scalar.extui v63
  let v65 : BitVec 32 := Scalar.subi v62 v64
  let v66 : BitVec 1 := Scalar.cmpi .ne v60 v65
  let v67 : BitVec 32 := Scalar.remsi v54 c256_i32
  let c0_i32_32 : BitVec 32 := 0#32
  let v68 : BitVec 1 := Scalar.cmpi .ne v67 c0_i32_32
  let v69 : BitVec 1 := Scalar.andi v66 v68
  let v55 : BitVec 32 := Scalar.divsi v54 c256_i32
  let c1_i32_33 : BitVec 32 := 1#32
  let v70 : BitVec 32 := Scalar.subi v55 c1_i32_33
  let v71 : BitVec 32 := Scalar.select v69 v70 v55
  let c2_i32_52 : BitVec 32 := 2#32
  let c0_i32_53 : BitVec 32 := 0#32
  let v103 : BitVec 1 := Scalar.cmpi .eq c2_i32_52 c0_i32_53
  let c1_i32_54 : BitVec 32 := 1#32
  let v104 : BitVec 32 := Scalar.select v103 c1_i32_54 c2_i32_52
  let v105 : BitVec 32 := Scalar.remsi v71 v104
  let c0_i32_56 : BitVec 32 := 0#32
  let v107 : BitVec 1 := Scalar.cmpi .slt v105 c0_i32_56
  let c0_i32_57 : BitVec 32 := 0#32
  let v108 : BitVec 1 := Scalar.cmpi .slt v104 c0_i32_57
  let v109 : BitVec 1 := Scalar.xori v107 v108
  let c0_i32_55 : BitVec 32 := 0#32
  let v106 : BitVec 1 := Scalar.cmpi .ne v105 c0_i32_55
  let v110 : BitVec 1 := Scalar.andi v109 v106
  let v111 : BitVec 32 := Scalar.addi v105 v104
  let v112 : BitVec 32 := Scalar.select v110 v111 v105
  let c0_i32_58 : BitVec 32 := 0#32
  let v113 : BitVec 1 := Scalar.cmpi .eq v112 c0_i32_58
  let v114 : BitVec 32 := Scalar.extui v113
  let c0_i32_59 : BitVec 32 := 0#32
  let v115 : BitVec 1 := Scalar.cmpi .ne v114 c0_i32_59
  v115

def k0_mult10 (i : grid0.Coords) : BitVec 32 :=
  let arg1 : BitVec 32 := BitVec.ofNat 32 (i 1).val
  let c128_i32 : BitVec 32 := 128#32
  let v52 : BitVec 32 := Scalar.muli arg1 c128_i32
  let c128_i32_28 : BitVec 32 := 128#32
  let v53 : BitVec 32 := Scalar.addi v52 c128_i32_28
  let c1_i32 : BitVec 32 := 1#32
  let v54 : BitVec 32 := Scalar.subi v53 c1_i32
  let c0_i32 : BitVec 32 := 0#32
  let v56 : BitVec 1 := Scalar.cmpi .sgt v54 c0_i32
  let v57 : BitVec 32 := Scalar.extui v56
  let c0_i32_29 : BitVec 32 := 0#32
  let v58 : BitVec 1 := Scalar.cmpi .slt v54 c0_i32_29
  let v59 : BitVec 32 := Scalar.extui v58
  let v60 : BitVec 32 := Scalar.subi v57 v59
  let c256_i32 : BitVec 32 := 256#32
  let c0_i32_30 : BitVec 32 := 0#32
  let v61 : BitVec 1 := Scalar.cmpi .sgt c256_i32 c0_i32_30
  let v62 : BitVec 32 := Scalar.extui v61
  let c0_i32_31 : BitVec 32 := 0#32
  let v63 : BitVec 1 := Scalar.cmpi .slt c256_i32 c0_i32_31
  let v64 : BitVec 32 := Scalar.extui v63
  let v65 : BitVec 32 := Scalar.subi v62 v64
  let v66 : BitVec 1 := Scalar.cmpi .ne v60 v65
  let v67 : BitVec 32 := Scalar.remsi v54 c256_i32
  let c0_i32_32 : BitVec 32 := 0#32
  let v68 : BitVec 1 := Scalar.cmpi .ne v67 c0_i32_32
  let v69 : BitVec 1 := Scalar.andi v66 v68
  let v55 : BitVec 32 := Scalar.divsi v54 c256_i32
  let c1_i32_33 : BitVec 32 := 1#32
  let v70 : BitVec 32 := Scalar.subi v55 c1_i32_33
  let v71 : BitVec 32 := Scalar.select v69 v70 v55
  let c256_i32_1026 : BitVec 32 := 256#32
  let v2344 : BitVec 32 := Scalar.muli v71 c256_i32_1026
  v2344
def k0_off7 (i : grid0.Coords) : Fin 2 → Nat :=
  let arg1 : BitVec 32 := BitVec.ofNat 32 (i 1).val
  let c128_i32 : BitVec 32 := 128#32
  let v52 : BitVec 32 := Scalar.muli arg1 c128_i32
  let c128_i32_28 : BitVec 32 := 128#32
  let v53 : BitVec 32 := Scalar.addi v52 c128_i32_28
  let c1_i32 : BitVec 32 := 1#32
  let v54 : BitVec 32 := Scalar.subi v53 c1_i32
  let c0_i32 : BitVec 32 := 0#32
  let v56 : BitVec 1 := Scalar.cmpi .sgt v54 c0_i32
  let v57 : BitVec 32 := Scalar.extui v56
  let c0_i32_29 : BitVec 32 := 0#32
  let v58 : BitVec 1 := Scalar.cmpi .slt v54 c0_i32_29
  let v59 : BitVec 32 := Scalar.extui v58
  let v60 : BitVec 32 := Scalar.subi v57 v59
  let c256_i32 : BitVec 32 := 256#32
  let c0_i32_30 : BitVec 32 := 0#32
  let v61 : BitVec 1 := Scalar.cmpi .sgt c256_i32 c0_i32_30
  let v62 : BitVec 32 := Scalar.extui v61
  let c0_i32_31 : BitVec 32 := 0#32
  let v63 : BitVec 1 := Scalar.cmpi .slt c256_i32 c0_i32_31
  let v64 : BitVec 32 := Scalar.extui v63
  let v65 : BitVec 32 := Scalar.subi v62 v64
  let v66 : BitVec 1 := Scalar.cmpi .ne v60 v65
  let v67 : BitVec 32 := Scalar.remsi v54 c256_i32
  let c0_i32_32 : BitVec 32 := 0#32
  let v68 : BitVec 1 := Scalar.cmpi .ne v67 c0_i32_32
  let v69 : BitVec 1 := Scalar.andi v66 v68
  let v55 : BitVec 32 := Scalar.divsi v54 c256_i32
  let c1_i32_33 : BitVec 32 := 1#32
  let v70 : BitVec 32 := Scalar.subi v55 c1_i32_33
  let v71 : BitVec 32 := Scalar.select v69 v70 v55
  let c256_i32_1026 : BitVec 32 := 256#32
  let v2344 : BitVec 32 := Scalar.muli v71 c256_i32_1026
  let v2345 : BitVec 32 := v2344
  let v2346 : Index := Scalar.indexCast v2345
  let c0_1027 : Index := 0#32
  ![v2346.toNat, 0]
def k0_cond2 (i : grid0.Coords) : BitVec 1 :=
  let arg1 : BitVec 32 := BitVec.ofNat 32 (i 1).val
  let c128_i32 : BitVec 32 := 128#32
  let v52 : BitVec 32 := Scalar.muli arg1 c128_i32
  let c128_i32_28 : BitVec 32 := 128#32
  let v53 : BitVec 32 := Scalar.addi v52 c128_i32_28
  let c1_i32 : BitVec 32 := 1#32
  let v54 : BitVec 32 := Scalar.subi v53 c1_i32
  let c0_i32 : BitVec 32 := 0#32
  let v56 : BitVec 1 := Scalar.cmpi .sgt v54 c0_i32
  let v57 : BitVec 32 := Scalar.extui v56
  let c0_i32_29 : BitVec 32 := 0#32
  let v58 : BitVec 1 := Scalar.cmpi .slt v54 c0_i32_29
  let v59 : BitVec 32 := Scalar.extui v58
  let v60 : BitVec 32 := Scalar.subi v57 v59
  let c256_i32 : BitVec 32 := 256#32
  let c0_i32_30 : BitVec 32 := 0#32
  let v61 : BitVec 1 := Scalar.cmpi .sgt c256_i32 c0_i32_30
  let v62 : BitVec 32 := Scalar.extui v61
  let c0_i32_31 : BitVec 32 := 0#32
  let v63 : BitVec 1 := Scalar.cmpi .slt c256_i32 c0_i32_31
  let v64 : BitVec 32 := Scalar.extui v63
  let v65 : BitVec 32 := Scalar.subi v62 v64
  let v66 : BitVec 1 := Scalar.cmpi .ne v60 v65
  let v67 : BitVec 32 := Scalar.remsi v54 c256_i32
  let c0_i32_32 : BitVec 32 := 0#32
  let v68 : BitVec 1 := Scalar.cmpi .ne v67 c0_i32_32
  let v69 : BitVec 1 := Scalar.andi v66 v68
  let v55 : BitVec 32 := Scalar.divsi v54 c256_i32
  let c1_i32_33 : BitVec 32 := 1#32
  let v70 : BitVec 32 := Scalar.subi v55 c1_i32_33
  let v71 : BitVec 32 := Scalar.select v69 v70 v55
  let c2_i32_60 : BitVec 32 := 2#32
  let c0_i32_61 : BitVec 32 := 0#32
  let v116 : BitVec 1 := Scalar.cmpi .eq c2_i32_60 c0_i32_61
  let c1_i32_62 : BitVec 32 := 1#32
  let v117 : BitVec 32 := Scalar.select v116 c1_i32_62 c2_i32_60
  let v118 : BitVec 32 := Scalar.remsi v71 v117
  let c0_i32_64 : BitVec 32 := 0#32
  let v120 : BitVec 1 := Scalar.cmpi .slt v118 c0_i32_64
  let c0_i32_65 : BitVec 32 := 0#32
  let v121 : BitVec 1 := Scalar.cmpi .slt v117 c0_i32_65
  let v122 : BitVec 1 := Scalar.xori v120 v121
  let c0_i32_63 : BitVec 32 := 0#32
  let v119 : BitVec 1 := Scalar.cmpi .ne v118 c0_i32_63
  let v123 : BitVec 1 := Scalar.andi v122 v119
  let v124 : BitVec 32 := Scalar.addi v118 v117
  let v125 : BitVec 32 := Scalar.select v123 v124 v118
  let c1_i32_66 : BitVec 32 := 1#32
  let v126 : BitVec 1 := Scalar.cmpi .eq v125 c1_i32_66
  let v127 : BitVec 32 := Scalar.extui v126
  let c0_i32_67 : BitVec 32 := 0#32
  let v128 : BitVec 1 := Scalar.cmpi .ne v127 c0_i32_67
  v128

def k0_mult11 (i : grid0.Coords) : BitVec 32 :=
  let arg1 : BitVec 32 := BitVec.ofNat 32 (i 1).val
  let c128_i32 : BitVec 32 := 128#32
  let v52 : BitVec 32 := Scalar.muli arg1 c128_i32
  let c128_i32_28 : BitVec 32 := 128#32
  let v53 : BitVec 32 := Scalar.addi v52 c128_i32_28
  let c1_i32 : BitVec 32 := 1#32
  let v54 : BitVec 32 := Scalar.subi v53 c1_i32
  let c0_i32 : BitVec 32 := 0#32
  let v56 : BitVec 1 := Scalar.cmpi .sgt v54 c0_i32
  let v57 : BitVec 32 := Scalar.extui v56
  let c0_i32_29 : BitVec 32 := 0#32
  let v58 : BitVec 1 := Scalar.cmpi .slt v54 c0_i32_29
  let v59 : BitVec 32 := Scalar.extui v58
  let v60 : BitVec 32 := Scalar.subi v57 v59
  let c256_i32 : BitVec 32 := 256#32
  let c0_i32_30 : BitVec 32 := 0#32
  let v61 : BitVec 1 := Scalar.cmpi .sgt c256_i32 c0_i32_30
  let v62 : BitVec 32 := Scalar.extui v61
  let c0_i32_31 : BitVec 32 := 0#32
  let v63 : BitVec 1 := Scalar.cmpi .slt c256_i32 c0_i32_31
  let v64 : BitVec 32 := Scalar.extui v63
  let v65 : BitVec 32 := Scalar.subi v62 v64
  let v66 : BitVec 1 := Scalar.cmpi .ne v60 v65
  let v67 : BitVec 32 := Scalar.remsi v54 c256_i32
  let c0_i32_32 : BitVec 32 := 0#32
  let v68 : BitVec 1 := Scalar.cmpi .ne v67 c0_i32_32
  let v69 : BitVec 1 := Scalar.andi v66 v68
  let v55 : BitVec 32 := Scalar.divsi v54 c256_i32
  let c1_i32_33 : BitVec 32 := 1#32
  let v70 : BitVec 32 := Scalar.subi v55 c1_i32_33
  let v71 : BitVec 32 := Scalar.select v69 v70 v55
  let c256_i32_93 : BitVec 32 := 256#32
  let v168 : BitVec 32 := Scalar.muli v71 c256_i32_93
  v168
def k0_off8 (i : grid0.Coords) : Fin 2 → Nat :=
  let arg1 : BitVec 32 := BitVec.ofNat 32 (i 1).val
  let c128_i32 : BitVec 32 := 128#32
  let v52 : BitVec 32 := Scalar.muli arg1 c128_i32
  let c128_i32_28 : BitVec 32 := 128#32
  let v53 : BitVec 32 := Scalar.addi v52 c128_i32_28
  let c1_i32 : BitVec 32 := 1#32
  let v54 : BitVec 32 := Scalar.subi v53 c1_i32
  let c0_i32 : BitVec 32 := 0#32
  let v56 : BitVec 1 := Scalar.cmpi .sgt v54 c0_i32
  let v57 : BitVec 32 := Scalar.extui v56
  let c0_i32_29 : BitVec 32 := 0#32
  let v58 : BitVec 1 := Scalar.cmpi .slt v54 c0_i32_29
  let v59 : BitVec 32 := Scalar.extui v58
  let v60 : BitVec 32 := Scalar.subi v57 v59
  let c256_i32 : BitVec 32 := 256#32
  let c0_i32_30 : BitVec 32 := 0#32
  let v61 : BitVec 1 := Scalar.cmpi .sgt c256_i32 c0_i32_30
  let v62 : BitVec 32 := Scalar.extui v61
  let c0_i32_31 : BitVec 32 := 0#32
  let v63 : BitVec 1 := Scalar.cmpi .slt c256_i32 c0_i32_31
  let v64 : BitVec 32 := Scalar.extui v63
  let v65 : BitVec 32 := Scalar.subi v62 v64
  let v66 : BitVec 1 := Scalar.cmpi .ne v60 v65
  let v67 : BitVec 32 := Scalar.remsi v54 c256_i32
  let c0_i32_32 : BitVec 32 := 0#32
  let v68 : BitVec 1 := Scalar.cmpi .ne v67 c0_i32_32
  let v69 : BitVec 1 := Scalar.andi v66 v68
  let v55 : BitVec 32 := Scalar.divsi v54 c256_i32
  let c1_i32_33 : BitVec 32 := 1#32
  let v70 : BitVec 32 := Scalar.subi v55 c1_i32_33
  let v71 : BitVec 32 := Scalar.select v69 v70 v55
  let c256_i32_93 : BitVec 32 := 256#32
  let v168 : BitVec 32 := Scalar.muli v71 c256_i32_93
  let v169 : BitVec 32 := v168
  let v170 : Index := Scalar.indexCast v169
  let c0_94 : Index := 0#32
  ![v170.toNat, 0]
def k0_mult12 (i : grid0.Coords) : BitVec 32 :=
  let arg1 : BitVec 32 := BitVec.ofNat 32 (i 1).val
  let c128_i32 : BitVec 32 := 128#32
  let v52 : BitVec 32 := Scalar.muli arg1 c128_i32
  let c128_i32_28 : BitVec 32 := 128#32
  let v53 : BitVec 32 := Scalar.addi v52 c128_i32_28
  let c1_i32 : BitVec 32 := 1#32
  let v54 : BitVec 32 := Scalar.subi v53 c1_i32
  let c0_i32 : BitVec 32 := 0#32
  let v56 : BitVec 1 := Scalar.cmpi .sgt v54 c0_i32
  let v57 : BitVec 32 := Scalar.extui v56
  let c0_i32_29 : BitVec 32 := 0#32
  let v58 : BitVec 1 := Scalar.cmpi .slt v54 c0_i32_29
  let v59 : BitVec 32 := Scalar.extui v58
  let v60 : BitVec 32 := Scalar.subi v57 v59
  let c256_i32 : BitVec 32 := 256#32
  let c0_i32_30 : BitVec 32 := 0#32
  let v61 : BitVec 1 := Scalar.cmpi .sgt c256_i32 c0_i32_30
  let v62 : BitVec 32 := Scalar.extui v61
  let c0_i32_31 : BitVec 32 := 0#32
  let v63 : BitVec 1 := Scalar.cmpi .slt c256_i32 c0_i32_31
  let v64 : BitVec 32 := Scalar.extui v63
  let v65 : BitVec 32 := Scalar.subi v62 v64
  let v66 : BitVec 1 := Scalar.cmpi .ne v60 v65
  let v67 : BitVec 32 := Scalar.remsi v54 c256_i32
  let c0_i32_32 : BitVec 32 := 0#32
  let v68 : BitVec 1 := Scalar.cmpi .ne v67 c0_i32_32
  let v69 : BitVec 1 := Scalar.andi v66 v68
  let v55 : BitVec 32 := Scalar.divsi v54 c256_i32
  let c1_i32_33 : BitVec 32 := 1#32
  let v70 : BitVec 32 := Scalar.subi v55 c1_i32_33
  let v71 : BitVec 32 := Scalar.select v69 v70 v55
  let c1_i32_716 : BitVec 32 := 1#32
  let v1394 : BitVec 32 := Scalar.subi v71 c1_i32_716
  let c256_i32_717 : BitVec 32 := 256#32
  let v1395 : BitVec 32 := Scalar.muli v1394 c256_i32_717
  v1395
def k0_off9 (i : grid0.Coords) : Fin 2 → Nat :=
  let arg1 : BitVec 32 := BitVec.ofNat 32 (i 1).val
  let c128_i32 : BitVec 32 := 128#32
  let v52 : BitVec 32 := Scalar.muli arg1 c128_i32
  let c128_i32_28 : BitVec 32 := 128#32
  let v53 : BitVec 32 := Scalar.addi v52 c128_i32_28
  let c1_i32 : BitVec 32 := 1#32
  let v54 : BitVec 32 := Scalar.subi v53 c1_i32
  let c0_i32 : BitVec 32 := 0#32
  let v56 : BitVec 1 := Scalar.cmpi .sgt v54 c0_i32
  let v57 : BitVec 32 := Scalar.extui v56
  let c0_i32_29 : BitVec 32 := 0#32
  let v58 : BitVec 1 := Scalar.cmpi .slt v54 c0_i32_29
  let v59 : BitVec 32 := Scalar.extui v58
  let v60 : BitVec 32 := Scalar.subi v57 v59
  let c256_i32 : BitVec 32 := 256#32
  let c0_i32_30 : BitVec 32 := 0#32
  let v61 : BitVec 1 := Scalar.cmpi .sgt c256_i32 c0_i32_30
  let v62 : BitVec 32 := Scalar.extui v61
  let c0_i32_31 : BitVec 32 := 0#32
  let v63 : BitVec 1 := Scalar.cmpi .slt c256_i32 c0_i32_31
  let v64 : BitVec 32 := Scalar.extui v63
  let v65 : BitVec 32 := Scalar.subi v62 v64
  let v66 : BitVec 1 := Scalar.cmpi .ne v60 v65
  let v67 : BitVec 32 := Scalar.remsi v54 c256_i32
  let c0_i32_32 : BitVec 32 := 0#32
  let v68 : BitVec 1 := Scalar.cmpi .ne v67 c0_i32_32
  let v69 : BitVec 1 := Scalar.andi v66 v68
  let v55 : BitVec 32 := Scalar.divsi v54 c256_i32
  let c1_i32_33 : BitVec 32 := 1#32
  let v70 : BitVec 32 := Scalar.subi v55 c1_i32_33
  let v71 : BitVec 32 := Scalar.select v69 v70 v55
  let c1_i32_716 : BitVec 32 := 1#32
  let v1394 : BitVec 32 := Scalar.subi v71 c1_i32_716
  let c256_i32_717 : BitVec 32 := 256#32
  let v1395 : BitVec 32 := Scalar.muli v1394 c256_i32_717
  let v1396 : BitVec 32 := v1395
  let v1397 : Index := Scalar.indexCast v1396
  let c0_718 : Index := 0#32
  ![v1397.toNat, 0]
def k0_mult13 (i : grid0.Coords) : BitVec 32 :=
  let arg1 : BitVec 32 := BitVec.ofNat 32 (i 1).val
  let c128_i32 : BitVec 32 := 128#32
  let v52 : BitVec 32 := Scalar.muli arg1 c128_i32
  let c128_i32_28 : BitVec 32 := 128#32
  let v53 : BitVec 32 := Scalar.addi v52 c128_i32_28
  let c1_i32 : BitVec 32 := 1#32
  let v54 : BitVec 32 := Scalar.subi v53 c1_i32
  let c0_i32 : BitVec 32 := 0#32
  let v56 : BitVec 1 := Scalar.cmpi .sgt v54 c0_i32
  let v57 : BitVec 32 := Scalar.extui v56
  let c0_i32_29 : BitVec 32 := 0#32
  let v58 : BitVec 1 := Scalar.cmpi .slt v54 c0_i32_29
  let v59 : BitVec 32 := Scalar.extui v58
  let v60 : BitVec 32 := Scalar.subi v57 v59
  let c256_i32 : BitVec 32 := 256#32
  let c0_i32_30 : BitVec 32 := 0#32
  let v61 : BitVec 1 := Scalar.cmpi .sgt c256_i32 c0_i32_30
  let v62 : BitVec 32 := Scalar.extui v61
  let c0_i32_31 : BitVec 32 := 0#32
  let v63 : BitVec 1 := Scalar.cmpi .slt c256_i32 c0_i32_31
  let v64 : BitVec 32 := Scalar.extui v63
  let v65 : BitVec 32 := Scalar.subi v62 v64
  let v66 : BitVec 1 := Scalar.cmpi .ne v60 v65
  let v67 : BitVec 32 := Scalar.remsi v54 c256_i32
  let c0_i32_32 : BitVec 32 := 0#32
  let v68 : BitVec 1 := Scalar.cmpi .ne v67 c0_i32_32
  let v69 : BitVec 1 := Scalar.andi v66 v68
  let v55 : BitVec 32 := Scalar.divsi v54 c256_i32
  let c1_i32_33 : BitVec 32 := 1#32
  let v70 : BitVec 32 := Scalar.subi v55 c1_i32_33
  let v71 : BitVec 32 := Scalar.select v69 v70 v55
  let c256_i32_1685 : BitVec 32 := 256#32
  let v3585 : BitVec 32 := Scalar.muli v71 c256_i32_1685
  v3585
def k0_off10 (i : grid0.Coords) : Fin 2 → Nat :=
  let arg1 : BitVec 32 := BitVec.ofNat 32 (i 1).val
  let c128_i32 : BitVec 32 := 128#32
  let v52 : BitVec 32 := Scalar.muli arg1 c128_i32
  let c128_i32_28 : BitVec 32 := 128#32
  let v53 : BitVec 32 := Scalar.addi v52 c128_i32_28
  let c1_i32 : BitVec 32 := 1#32
  let v54 : BitVec 32 := Scalar.subi v53 c1_i32
  let c0_i32 : BitVec 32 := 0#32
  let v56 : BitVec 1 := Scalar.cmpi .sgt v54 c0_i32
  let v57 : BitVec 32 := Scalar.extui v56
  let c0_i32_29 : BitVec 32 := 0#32
  let v58 : BitVec 1 := Scalar.cmpi .slt v54 c0_i32_29
  let v59 : BitVec 32 := Scalar.extui v58
  let v60 : BitVec 32 := Scalar.subi v57 v59
  let c256_i32 : BitVec 32 := 256#32
  let c0_i32_30 : BitVec 32 := 0#32
  let v61 : BitVec 1 := Scalar.cmpi .sgt c256_i32 c0_i32_30
  let v62 : BitVec 32 := Scalar.extui v61
  let c0_i32_31 : BitVec 32 := 0#32
  let v63 : BitVec 1 := Scalar.cmpi .slt c256_i32 c0_i32_31
  let v64 : BitVec 32 := Scalar.extui v63
  let v65 : BitVec 32 := Scalar.subi v62 v64
  let v66 : BitVec 1 := Scalar.cmpi .ne v60 v65
  let v67 : BitVec 32 := Scalar.remsi v54 c256_i32
  let c0_i32_32 : BitVec 32 := 0#32
  let v68 : BitVec 1 := Scalar.cmpi .ne v67 c0_i32_32
  let v69 : BitVec 1 := Scalar.andi v66 v68
  let v55 : BitVec 32 := Scalar.divsi v54 c256_i32
  let c1_i32_33 : BitVec 32 := 1#32
  let v70 : BitVec 32 := Scalar.subi v55 c1_i32_33
  let v71 : BitVec 32 := Scalar.select v69 v70 v55
  let c256_i32_1685 : BitVec 32 := 256#32
  let v3585 : BitVec 32 := Scalar.muli v71 c256_i32_1685
  let v3586 : BitVec 32 := v3585
  let v3587 : Index := Scalar.indexCast v3586
  let c0_1686 : Index := 0#32
  ![v3587.toNat, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4x256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x8x2048x128 : Shape := ⟨4, ![8, 8, 2048, 128]⟩
abbrev S8x8x2048x32 : Shape := ⟨4, ![8, 8, 2048, 32]⟩
abbrev S8x2048x128 : Shape := ⟨3, ![8, 2048, 128]⟩
abbrev S8x2048x32 : Shape := ⟨3, ![8, 2048, 32]⟩
abbrev S128x8x64 : Shape := ⟨3, ![128, 8, 64]⟩
abbrev S2048 : Shape := ⟨1, ![2048]⟩
abbrev S8x8x2048x2048 : Shape := ⟨4, ![8, 8, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S8x8x2048 : Shape := ⟨3, ![8, 8, 2048]⟩
abbrev S8x8x2048x1 : Shape := ⟨4, ![8, 8, 2048, 1]⟩
abbrev S8x64x8x2048 : Shape := ⟨4, ![8, 64, 8, 2048]⟩
abbrev S8x2048x8x64 : Shape := ⟨4, ![8, 2048, 8, 64]⟩
abbrev S16384x512 : Shape := ⟨2, ![16384, 512]⟩

abbrev nBuf : Space → Nat
  | .hbm => 41
  | .vmem => 0
  | .smem => 0
  | _ => 0

abbrev bufTy : (tb : Table) → Fin (tcTables nBuf tb) → BufTy
  | .hbm, ⟨0, _⟩ => ⟨S8x8x2048x128, .f32⟩
  | .hbm, ⟨1, _⟩ => ⟨S8x8x2048x32, .f32⟩
  | .hbm, ⟨2, _⟩ => ⟨S8x2048x128, .f32⟩
  | .hbm, ⟨3, _⟩ => ⟨S8x2048x32, .f32⟩
  | .hbm, ⟨4, _⟩ => ⟨S128x8x64, .f32⟩
  | .hbm, ⟨5, _⟩ => ⟨S2048, .i32⟩
  | .hbm, ⟨6, _⟩ => ⟨S8x8x2048x2048, .f32⟩
  | .hbm, ⟨7, _⟩ => ⟨S8x8x2048x2048, .f32⟩
  | .hbm, ⟨8, _⟩ => ⟨S8x8x2048x2048, .f32⟩
  | .hbm, ⟨9, _⟩ => ⟨S_, .f32⟩
  | .hbm, ⟨10, _⟩ => ⟨S8x8x2048x2048, .f32⟩
  | .hbm, ⟨11, _⟩ => ⟨S8x8x2048x2048, .f32⟩
  | .hbm, ⟨12, _⟩ => ⟨S1x2048, .i32⟩
  | .hbm, ⟨13, _⟩ => ⟨S2048x1, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S_, .f32⟩
  | .hbm, ⟨18, _⟩ => ⟨S_, .f32⟩
  | .hbm, ⟨19, _⟩ => ⟨S8x8x2048x2048, .i1⟩
  | .hbm, ⟨20, _⟩ => ⟨S8x8x2048x2048, .f32⟩
  | .hbm, ⟨21, _⟩ => ⟨S8x8x2048x2048, .f32⟩
  | .hbm, ⟨22, _⟩ => ⟨S_, .f32⟩
  | .hbm, ⟨23, _⟩ => ⟨S8x8x2048, .f32⟩
  | .hbm, ⟨24, _⟩ => ⟨S_, .f32⟩
  | .hbm, ⟨25, _⟩ => ⟨S8x8x2048, .f32⟩
  | .hbm, ⟨26, _⟩ => ⟨S8x8x2048, .f32⟩
  | .hbm, ⟨27, _⟩ => ⟨S8x8x2048x1, .f32⟩
  | .hbm, ⟨28, _⟩ => ⟨S8x8x2048x2048, .f32⟩
  | .hbm, ⟨29, _⟩ => ⟨S8x8x2048x2048, .f32⟩
  | .hbm, ⟨30, _⟩ => ⟨S8x8x2048x2048, .f32⟩
  | .hbm, ⟨31, _⟩ => ⟨S_, .f32⟩
  | .hbm, ⟨32, _⟩ => ⟨S8x8x2048, .f32⟩
  | .hbm, ⟨33, _⟩ => ⟨S8x8x2048x1, .f32⟩
  | .hbm, ⟨34, _⟩ => ⟨S8x8x2048x2048, .f32⟩
  | .hbm, ⟨35, _⟩ => ⟨S8x8x2048x2048, .f32⟩
  | .hbm, ⟨36, _⟩ => ⟨S8x8x2048x128, .f32⟩
  | .hbm, ⟨37, _⟩ => ⟨S8x64x8x2048, .f32⟩
  | .hbm, ⟨38, _⟩ => ⟨S8x2048x8x64, .f32⟩
  | .hbm, ⟨39, _⟩ => ⟨S16384x512, .f32⟩
  | .hbm, ⟨40, _⟩ => ⟨S16384x512, .bf16⟩
  | _, _ => ⟨S8x8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x8x2x2048x64 : Shape := ⟨5, ![8, 8, 2, 2048, 64]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S2x8x2048x8x64 : Shape := ⟨5, ![2, 8, 2048, 8, 64]⟩
abbrev S2x16384x512 : Shape := ⟨3, ![2, 16384, 512]⟩
abbrev S8x2x64x1024 : Shape := ⟨4, ![8, 2, 64, 1024]⟩
abbrev S2x8x64x1024 : Shape := ⟨4, ![2, 8, 64, 1024]⟩
abbrev S1x1024 : Shape := ⟨2, ![1, 1024]⟩
abbrev S16384x1024 : Shape := ⟨2, ![16384, 1024]⟩
abbrev S1x16384x512 : Shape := ⟨3, ![1, 16384, 512]⟩
abbrev S16384x512 : Shape := ⟨2, ![16384, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 26
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S8x8x2x2048x64, .f32⟩
  | .hbm, ⟨2, _⟩ => ⟨S1024x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S2x8x2048x8x64, .f32⟩
  | .hbm, ⟨9, _⟩ => ⟨S2x16384x512, .f32⟩
  | .hbm, ⟨10, _⟩ => ⟨S2x16384x512, .bf16⟩
  | .hbm, ⟨11, _⟩ => ⟨S8x2x64x1024, .f32⟩
  | .hbm, ⟨12, _⟩ => ⟨S2x8x64x1024, .f32⟩
  | .hbm, ⟨13, _⟩ => ⟨S1024x1024, .f32⟩
  | .hbm, ⟨14, _⟩ => ⟨S1x1024, .f32⟩
  | .hbm, ⟨15, _⟩ => ⟨S1024x2816, .bf16⟩
  | .hbm, ⟨16, _⟩ => ⟨S1024x2816, .bf16⟩
  | .hbm, ⟨17, _⟩ => ⟨S2816x1024, .bf16⟩
  | .hbm, ⟨18, _⟩ => ⟨S1x1024, .f32⟩
  | .hbm, ⟨19, _⟩ => ⟨S16384x1024, .f32⟩
  | .hbm, ⟨20, _⟩ => ⟨S1x16384x512, .bf16⟩
  | .hbm, ⟨21, _⟩ => ⟨S16384x512, .bf16⟩
  | .hbm, ⟨22, _⟩ => ⟨S1x16384x512, .bf16⟩
  | .hbm, ⟨23, _⟩ => ⟨S16384x512, .bf16⟩
  | .hbm, ⟨24, _⟩ => ⟨S1024x1024, .bf16⟩
  | .hbm, ⟨25, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S8x2048x1024 : Shape := ⟨3, ![8, 2048, 1024]⟩
abbrev S8x8x2x2048x64 : Shape := ⟨5, ![8, 8, 2, 2048, 64]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S8x2048x8x2x64 : Shape := ⟨5, ![8, 2048, 8, 2, 64]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩
abbrev S16384x1024 : Shape := ⟨2, ![16384, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x8x2x2048x64, .f32⟩
  | .hbm, ⟨2, _⟩ => ⟨S1024x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S8x2048x8x2x64, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S8x2048x1024, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S8x2048x1, .f32⟩
  | .hbm, ⟨23, _⟩ => ⟨S8x2048x1024, .f32⟩
  | .hbm, ⟨24, _⟩ => ⟨S8x2048x1024, .f32⟩
  | .hbm, ⟨25, _⟩ => ⟨S1x1x1024, .f32⟩
  | .hbm, ⟨26, _⟩ => ⟨S8x2048x1024, .f32⟩
  | .hbm, ⟨27, _⟩ => ⟨S8x2048x1024, .f32⟩
  | .hbm, ⟨28, _⟩ => ⟨S8x2048x2816, .f32⟩
  | .hbm, ⟨29, _⟩ => ⟨S8x2048x2816, .f32⟩
  | .hbm, ⟨30, _⟩ => ⟨S8x2048x2816, .f32⟩
  | .hbm, ⟨31, _⟩ => ⟨S_, .f32⟩
  | .hbm, ⟨32, _⟩ => ⟨S8x2048x2816, .f32⟩
  | .hbm, ⟨33, _⟩ => ⟨S8x2048x2816, .f32⟩
  | .hbm, ⟨34, _⟩ => ⟨S_, .f32⟩
  | .hbm, ⟨35, _⟩ => ⟨S8x2048x2816, .f32⟩
  | .hbm, ⟨36, _⟩ => ⟨S8x2048x2816, .f32⟩
  | .hbm, ⟨37, _⟩ => ⟨S8x2048x2816, .f32⟩
  | .hbm, ⟨38, _⟩ => ⟨S8x2048x2816, .f32⟩
  | .hbm, ⟨39, _⟩ => ⟨S8x2048x2816, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S_, .f32⟩
  | .hbm, ⟨44, _⟩ => ⟨S8x2048, .f32⟩
  | .hbm, ⟨45, _⟩ => ⟨S8x2048x1, .f32⟩
  | .hbm, ⟨46, _⟩ => ⟨S_, .f32⟩
  | .hbm, ⟨47, _⟩ => ⟨S8x2048x1, .f32⟩
  | .hbm, ⟨48, _⟩ => ⟨S8x2048x1, .f32⟩
  | .hbm, ⟨49, _⟩ => ⟨S_, .f32⟩
  | .hbm, ⟨50, _⟩ => ⟨S8x2048x1, .f32⟩
  | .hbm, ⟨51, _⟩ => ⟨S8x2048x1, .f32⟩
  | .hbm, ⟨52, _⟩ => ⟨S8x2048x1, .f32⟩
  | .hbm, ⟨53, _⟩ => ⟨S8x2048x1024, .f32⟩
  | .hbm, ⟨54, _⟩ => ⟨S8x2048x1024, .f32⟩
  | .hbm, ⟨55, _⟩ => ⟨S1x1x1024, .f32⟩
  | .hbm, ⟨56, _⟩ => ⟨S8x2048x1024, .f32⟩
  | .hbm, ⟨57, _⟩ => ⟨S8x2048x1024, .f32⟩
  | .hbm, ⟨58, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_2 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩

abbrev nD : Nat := 1
abbrev τ : Topo := Topo.v7x

variable {F : FTy → Type} [FloatOps F]
-- ==== Kernel3.lean ====
abbrev S8x8x2x2048x64 : Shape := ⟨5, ![8, 8, 2, 2048, 64]⟩
abbrev S8x8x2048x64 : Shape := ⟨4, ![8, 8, 2048, 64]⟩
abbrev S8x2048x16 : Shape := ⟨3, ![8, 2048, 16]⟩
abbrev S8x2048x2x8x64 : Shape := ⟨5, ![8, 2048, 2, 8, 64]⟩
abbrev S16384x1024 : Shape := ⟨2, ![16384, 1024]⟩
abbrev S16384x4x4 : Shape := ⟨3, ![16384, 4, 4]⟩
abbrev S4x16384x4 : Shape := ⟨3, ![4, 16384, 4]⟩
abbrev S8x16x2048 : Shape := ⟨3, ![8, 16, 2048]⟩
abbrev S8x2048x8x64 : Shape := ⟨4, ![8, 2048, 8, 64]⟩
abbrev S1x16384x512 : Shape := ⟨3, ![1, 16384, 512]⟩
abbrev S8x4x4x2048 : Shape := ⟨4, ![8, 4, 4, 2048]⟩
abbrev S2x16384x512 : Shape := ⟨3, ![2, 16384, 512]⟩
abbrev S256x128 : Shape := ⟨2, ![256, 128]⟩
abbrev S1x2048x128 : Shape := ⟨3, ![1, 2048, 128]⟩
abbrev S1x256x4 : Shape := ⟨3, ![1, 256, 4]⟩
abbrev S1x1x4x2048 : Shape := ⟨4, ![1, 1, 4, 2048]⟩
abbrev S2x256x128 : Shape := ⟨3, ![2, 256, 128]⟩
abbrev S1024x128 : Shape := ⟨2, ![1024, 128]⟩
abbrev S1024x256 : Shape := ⟨2, ![1024, 256]⟩
abbrev S1x256x1 : Shape := ⟨3, ![1, 256, 1]⟩
abbrev S256x1 : Shape := ⟨2, ![256, 1]⟩
abbrev S1x256x128 : Shape := ⟨3, ![1, 256, 128]⟩
abbrev S1x1x1x128 : Shape := ⟨4, ![1, 1, 1, 128]⟩
abbrev S1x128 : Shape := ⟨2, ![1, 128]⟩
abbrev S32x128 : Shape := ⟨2, ![32, 128]⟩
abbrev S32 : Shape := ⟨1, ![32]⟩
abbrev S32x1 : Shape := ⟨2, ![32, 1]⟩

abbrev nBuf : Space → Nat
  | .hbm => 16
  | .vmem => 25
  | .smem => 0
  | _ => 0

abbrev bufTy : (tb : Table) → Fin (tcTables nBuf tb) → BufTy
  | .hbm, ⟨0, _⟩ => ⟨S8x8x2x2048x64, .f32⟩
  | .hbm, ⟨1, _⟩ => ⟨S8x8x2048x64, .f32⟩
  | .hbm, ⟨2, _⟩ => ⟨S8x8x2048x64, .f32⟩
  | .hbm, ⟨3, _⟩ => ⟨S8x2048x16, .f32⟩
  | .hbm, ⟨4, _⟩ => ⟨S8x2048x2x8x64, .f32⟩
  | .hbm, ⟨5, _⟩ => ⟨S16384x1024, .f32⟩
  | .hbm, ⟨6, _⟩ => ⟨S16384x1024, .bf16⟩
  | .hbm, ⟨7, _⟩ => ⟨S16384x4x4, .f32⟩
  | .hbm, ⟨8, _⟩ => ⟨S4x16384x4, .f32⟩
  | .hbm, ⟨9, _⟩ => ⟨S8x16x2048, .f32⟩
  | .hbm, ⟨10, _⟩ => ⟨S8x2048x8x64, .f32⟩
  | .hbm, ⟨11, _⟩ => ⟨S1x16384x512, .f32⟩
  | .hbm, ⟨12, _⟩ => ⟨S8x2048x8x64, .f32⟩
  | .hbm, ⟨13, _⟩ => ⟨S1x16384x512, .f32⟩
  | .hbm, ⟨14, _⟩ => ⟨S8x4x4x2048, .f32⟩
  | .hbm, ⟨15, _⟩ => ⟨S2x16384x512, .bf16⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x256x4, .f32⟩
  | .local _ .vmem, ⟨9, _⟩ => ⟨S1x256x4, .f32⟩
  | .local _ .vmem, ⟨10, _⟩ => ⟨S1x1x4x2048, .f32⟩
  | .local _ .vmem, ⟨11, _⟩ => ⟨S1x1x4x2048, .f32⟩
  | .local _ .vmem, ⟨12, _⟩ => ⟨S2x256x128, .bf16⟩
  | .local _ .vmem, ⟨13, _⟩ => ⟨S2x256x128, .bf16⟩
  | .local _ .vmem, ⟨14, _⟩ => ⟨S1024x128, .bf16⟩
  | .local _ .vmem, ⟨15, _⟩ => ⟨S1024x128, .f32⟩
  | .local _ .vmem, ⟨16, _⟩ => ⟨S1024x256, .f32⟩
  | .local _ .vmem, ⟨17, _⟩ => ⟨S1024x256, .f32⟩
  | .local _ .vmem, ⟨18, _⟩ => ⟨S1024x256, .bf16⟩
  | .local _ .vmem, ⟨19, _⟩ => ⟨S1024x256, .bf16⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | .local _ .vmem, ⟨24, _⟩ => ⟨S1024x128, .f32⟩
  | _, _ => ⟨S8x8x2x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_scratch9 : Ref sig .tc := ⟨.vmem, 23, rfl⟩
abbrev cc0_scratch10 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 4, 8], ![false, false, false]⟩

def k0_mult1 : BitVec 32 :=
  let c0_i32 : BitVec 32 := 0#32
  c0_i32
@[reducible] def k0_t1_loop (i : grid0.Coords) : Scf.Loop 32 :=
  let c0_i32_49 : BitVec 32 := 0#32
  let arg2 : BitVec 32 := BitVec.ofNat 32 (i 2).val
  let c0_i32_43 : BitVec 32 := 0#32
  let v79 : BitVec 1 := Scalar.cmpi .sgt arg2 c0_i32_43
  let v80 : BitVec 32 := Scalar.extui v79
  let c0_i32_44 : BitVec 32 := 0#32
  let v81 : BitVec 1 := Scalar.cmpi .slt arg2 c0_i32_44
  let v82 : BitVec 32 := Scalar.extui v81
  let v83 : BitVec 32 := Scalar.subi v80 v82
  let c2_i32 : BitVec 32 := 2#32
  let c0_i32_45 : BitVec 32 := 0#32
  let v84 : BitVec 1 := Scalar.cmpi .sgt c2_i32 c0_i32_45
  let v85 : BitVec 32 := Scalar.extui v84
  let c0_i32_46 : BitVec 32 := 0#32
  let v86 : BitVec 1 := Scalar.cmpi .slt c2_i32 c0_i32_46
  let v87 : BitVec 32 := Scalar.extui v86
  let v88 : BitVec 32 := Scalar.subi v85 v87
  let v89 : BitVec 1 := Scalar.cmpi .ne v83 v88
  let v90 : BitVec 32 := Scalar.remsi arg2 c2_i32
  let c0_i32_47 : BitVec 32 := 0#32
  let v91 : BitVec 1 := Scalar.cmpi .ne v90 c0_i32_47
  let v92 : BitVec 1 := Scalar.andi v89 v91
  let v78 : BitVec 32 := Scalar.divsi arg2 c2_i32
  let c1_i32 : BitVec 32 := 1#32
  let v93 : BitVec 32 := Scalar.subi v78 c1_i32
  let v94 : BitVec 32 := Scalar.select v92 v93 v78
  let v95 : BitVec 32 := Scalar.subi v94 c0_i32_49
  let c1_i32_50 : BitVec 32 := 1#32
  let v97 : BitVec 32 := Scalar.divsi v95 c1_i32_50
  let v98 : BitVec 32 := Scalar.muli v97 c1_i32_50
  let v99 : BitVec 32 := Scalar.addi c0_i32_49 v98
  let c1_i32_51 : BitVec 32 := 1#32
  ⟨c0_i32_49, v99, c1_i32_51⟩
def k0_mult2 (i : grid0.Coords) (k0_t1 : Fin (k0_t1_loop i).trips) : BitVec 32 :=
  let c2_i32_79 : BitVec 32 := 2#32
  let c0_i32_49 : BitVec 32 := 0#32
  let c1_i32_51 : BitVec 32 := 1#32
  let arg21 : BitVec 32 := Scf.iv c0_i32_49 c1_i32_51 k0_t1
  let v143 : BitVec 32 := Scalar.muli c2_i32_79 arg21
  let c1_i32_80 : BitVec 32 := 1#32
  let v144 : BitVec 32 := Scalar.addi v143 c1_i32_80
  let c256_i32 : BitVec 32 := 256#32
  let v145 : BitVec 32 := Scalar.muli v144 c256_i32
  v145
def k0_off1 (i : grid0.Coords) (k0_t1 : Fin (k0_t1_loop i).trips) (c1_i32_80 : BitVec 32) : Fin 3 → Nat :=
  let c0_81 : Index := 0#32
  let c2_i32_79 : BitVec 32 := 2#32
  let c0_i32_49 : BitVec 32 := 0#32
  let c1_i32_51 : BitVec 32 := 1#32
  let arg21 : BitVec 32 := Scf.iv c0_i32_49 c1_i32_51 k0_t1
  let v143 : BitVec 32 := Scalar.muli c2_i32_79 arg21
  let v144 : BitVec 32 := Scalar.addi v143 c1_i32_80
  let c256_i32 : BitVec 32 := 256#32
  let v145 : BitVec 32 := Scalar.muli v144 c256_i32
  let v146 : BitVec 32 := v145
  let v147 : Index := Scalar.indexCast v146
  let c0_82 : Index := 0#32
  ![0, v147.toNat, 0]
def k0_mult3 (i : grid0.Coords) (k0_t1 : Fin (k0_t1_loop i).trips) : BitVec 32 :=
  let c2_i32_79 : BitVec 32 := 2#32
  let c0_i32_49 : BitVec 32 := 0#32
  let c1_i32_51 : BitVec 32 := 1#32
  let arg21 : BitVec 32 := Scf.iv c0_i32_49 c1_i32_51 k0_t1
  let v143 : BitVec 32 := Scalar.muli c2_i32_79 arg21
  let c256_i32_88 : BitVec 32 := 256#32
  let v156 : BitVec 32 := Scalar.muli v143 c256_i32_88
  let c0_i32_89 : BitVec 32 := 0#32
  let v157 : BitVec 32 := Scalar.addi v156 c0_i32_89
  v157
def k0_off2 (i : grid0.Coords) (k0_t1 : Fin (k0_t1_loop i).trips) (c0_i32_89 : BitVec 32) : Fin 4 → Nat :=
  let c0_90 : Index := 0#32
  let c0_91 : Index := 0#32
  let c0_92 : Index := 0#32
  let c2_i32_79 : BitVec 32 := 2#32
  let c0_i32_49 : BitVec 32 := 0#32
  let c1_i32_51 : BitVec 32 := 1#32
  let arg21 : BitVec 32 := Scf.iv c0_i32_49 c1_i32_51 k0_t1
  let v143 : BitVec 32 := Scalar.muli c2_i32_79 arg21
  let c256_i32_88 : BitVec 32 := 256#32
  let v156 : BitVec 32 := Scalar.muli v143 c256_i32_88
  let v157 : BitVec 32 := Scalar.addi v156 c0_i32_89
  let v158 : BitVec 32 := v157
  let v159 : Index := Scalar.indexCast v158
  ![0, 0, 0, v159.toNat]
def k0_mult4 (i : grid0.Coords) (k0_t1 : Fin (k0_t1_loop i).trips) : BitVec 32 :=
  let c2_i32_79 : BitVec 32 := 2#32
  let c0_i32_49 : BitVec 32 := 0#32
  let c1_i32_51 : BitVec 32 := 1#32
  let arg21 : BitVec 32 := Scf.iv c0_i32_49 c1_i32_51 k0_t1
  let v143 : BitVec 32 := Scalar.muli c2_i32_79 arg21
  let c256_i32_93 : BitVec 32 := 256#32
  let v162 : BitVec 32 := Scalar.muli v143 c256_i32_93
  let c128_i32 : BitVec 32 := 128#32
  let v163 : BitVec 32 := Scalar.addi v162 c128_i32
  v163
def k0_mult5 (i : grid0.Coords) (k0_t1 : Fin (k0_t1_loop i).trips) : BitVec 32 :=
  let c2_i32_79 : BitVec 32 := 2#32
  let c0_i32_49 : BitVec 32 := 0#32
  let c1_i32_51 : BitVec 32 := 1#32
  let arg21 : BitVec 32 := Scf.iv c0_i32_49 c1_i32_51 k0_t1
  let v143 : BitVec 32 := Scalar.muli c2_i32_79 arg21
  let c256_i32_266 : BitVec 32 := 256#32
  let v528 : BitVec 32 := Scalar.muli v143 c256_i32_266
  let c0_i32_267 : BitVec 32 := 0#32
  let v529 : BitVec 32 := Scalar.addi v528 c0_i32_267
  v529
def k0_off3 (i : grid0.Coords) (k0_t1 : Fin (k0_t1_loop i).trips) (c0_i32_267 : BitVec 32) : Fin 4 → Nat :=
  let c0_268 : Index := 0#32
  let c0_269 : Index := 0#32
  let c1_270 : Index := 1#32
  let c2_i32_79 : BitVec 32 := 2#32
  let c0_i32_49 : BitVec 32 := 0#32
  let c1_i32_51 : BitVec 32 := 1#32
  let arg21 : BitVec 32 := Scf.iv c0_i32_49 c1_i32_51 k0_t1
  let v143 : BitVec 32 := Scalar.muli c2_i32_79 arg21
  let c256_i32_266 : BitVec 32 := 256#32
  let v528 : BitVec 32 := Scalar.muli v143 c256_i32_266
  let v529 : BitVec 32 := Scalar.addi v528 c0_i32_267
  let v530 : BitVec 32 := v529
  let v531 : Index := Scalar.indexCast v530
  ![0, 0, 1, v531.toNat]
def k0_mult6 (i : grid0.Coords) (k0_t1 : Fin (k0_t1_loop i).trips) : BitVec 32 :=
  let c2_i32_79 : BitVec 32 := 2#32
  let c0_i32_49 : BitVec 32 := 0#32
  let c1_i32_51 : BitVec 32 := 1#32
  let arg21 : BitVec 32 := Scf.iv c0_i32_49 c1_i32_51 k0_t1
  let v143 : BitVec 32 := Scalar.muli c2_i32_79 arg21
  let c256_i32_271 : BitVec 32 := 256#32
  let v534 : BitVec 32 := Scalar.muli v143 c256_i32_271
  let c128_i32_272 : BitVec 32 := 128#32
  let v535 : BitVec 32 := Scalar.addi v534 c128_i32_272
  v535
def k0_mult7 (i : grid0.Coords) (k0_t1 : Fin (k0_t1_loop i).trips) : BitVec 32 :=
  let c2_i32_79 : BitVec 32 := 2#32
  let c0_i32_49 : BitVec 32 := 0#32
  let c1_i32_51 : BitVec 32 := 1#32
  let arg21 : BitVec 32 := Scf.iv c0_i32_49 c1_i32_51 k0_t1
  let v143 : BitVec 32 := Scalar.muli c2_i32_79 arg21
  let c256_i32_445 : BitVec 32 := 256#32
  let v900 : BitVec 32 := Scalar.muli v143 c256_i32_445
  let c0_i32_446 : BitVec 32 := 0#32
  let v901 : BitVec 32 := Scalar.addi v900 c0_i32_446
  v901
def k0_off4 (i : grid0.Coords) (k0_t1 : Fin (k0_t1_loop i).trips) (c0_i32_446 : BitVec 32) : Fin 4 → Nat :=
  let c0_447 : Index := 0#32
  let c0_448 : Index := 0#32
  let c2_449 : Index := 2#32
  let c2_i32_79 : BitVec 32 := 2#32
  let c0_i32_49 : BitVec 32 := 0#32
  let c1_i32_51 : BitVec 32 := 1#32
  let arg21 : BitVec 32 := Scf.iv c0_i32_49 c1_i32_51 k0_t1
  let v143 : BitVec 32 := Scalar.muli c2_i32_79 arg21
  let c256_i32_445 : BitVec 32 := 256#32
  let v900 : BitVec 32 := Scalar.muli v143 c256_i32_445
  let v901 : BitVec 32 := Scalar.addi v900 c0_i32_446
  let v902 : BitVec 32 := v901
  let v903 : Index := Scalar.indexCast v902
  ![0, 0, 2, v903.toNat]
def k0_mult8 (i : grid0.Coords) (k0_t1 : Fin (k0_t1_loop i).trips) : BitVec 32 :=
  let c2_i32_79 : BitVec 32 := 2#32
  let c0_i32_49 : BitVec 32 := 0#32
  let c1_i32_51 : BitVec 32 := 1#32
  let arg21 : BitVec 32 := Scf.iv c0_i32_49 c1_i32_51 k0_t1
  let v143 : BitVec 32 := Scalar.muli c2_i32_79 arg21
  let c256_i32_450 : BitVec 32 := 256#32
  let v906 : BitVec 32 := Scalar.muli v143 c256_i32_450
  let c128_i32_451 : BitVec 32 := 128#32
  let v907 : BitVec 32 := Scalar.addi v906 c128_i32_451
  v907
def k0_mult9 (i : grid0.Coords) (k0_t1 : Fin (k0_t1_loop i).trips) : BitVec 32 :=
  let c2_i32_79 : BitVec 32 := 2#32
  let c0_i32_49 : BitVec 32 := 0#32
  let c1_i32_51 : BitVec 32 := 1#32
  let arg21 : BitVec 32 := Scf.iv c0_i32_49 c1_i32_51 k0_t1
  let v143 : BitVec 32 := Scalar.muli c2_i32_79 arg21
  let c256_i32_624 : BitVec 32 := 256#32
  let v1272 : BitVec 32 := Scalar.muli v143 c256_i32_624
  let c0_i32_625 : BitVec 32 := 0#32
  let v1273 : BitVec 32 := Scalar.addi v1272 c0_i32_625
  v1273
def k0_off5 (i : grid0.Coords) (k0_t1 : Fin (k0_t1_loop i).trips) (c0_i32_625 : BitVec 32) : Fin 4 → Nat :=
  let c0_626 : Index := 0#32
  let c0_627 : Index := 0#32
  let c3_628 : Index := 3#32
  let c2_i32_79 : BitVec 32 := 2#32
  let c0_i32_49 : BitVec 32 := 0#32
  let c1_i32_51 : BitVec 32 := 1#32
  let arg21 : BitVec 32 := Scf.iv c0_i32_49 c1_i32_51 k0_t1
  let v143 : BitVec 32 := Scalar.muli c2_i32_79 arg21
  let c256_i32_624 : BitVec 32 := 256#32
  let v1272 : BitVec 32 := Scalar.muli v143 c256_i32_624
  let v1273 : BitVec 32 := Scalar.addi v1272 c0_i32_625
  let v1274 : BitVec 32 := v1273
  let v1275 : Index := Scalar.indexCast v1274
  ![0, 0, 3, v1275.toNat]
def k0_mult10 (i : grid0.Coords) (k0_t1 : Fin (k0_t1_loop i).trips) : BitVec 32 :=
  let c2_i32_79 : BitVec 32 := 2#32
  let c0_i32_49 : BitVec 32 := 0#32
  let c1_i32_51 : BitVec 32 := 1#32
  let arg21 : BitVec 32 := Scf.iv c0_i32_49 c1_i32_51 k0_t1
  let v143 : BitVec 32 := Scalar.muli c2_i32_79 arg21
  let c256_i32_629 : BitVec 32 := 256#32
  let v1278 : BitVec 32 := Scalar.muli v143 c256_i32_629
  let c128_i32_630 : BitVec 32 := 128#32
  let v1279 : BitVec 32 := Scalar.addi v1278 c128_i32_630
  v1279
def k0_mult11 (i : grid0.Coords) (k0_t1 : Fin (k0_t1_loop i).trips) : BitVec 32 :=
  let c2_i32_79 : BitVec 32 := 2#32
  let c0_i32_49 : BitVec 32 := 0#32
  let c1_i32_51 : BitVec 32 := 1#32
  let arg21 : BitVec 32 := Scf.iv c0_i32_49 c1_i32_51 k0_t1
  let v143 : BitVec 32 := Scalar.muli c2_i32_79 arg21
  let c256_i32_803 : BitVec 32 := 256#32
  let v1644 : BitVec 32 := Scalar.muli v143 c256_i32_803
  v1644
def k0_off6 (i : grid0.Coords) (k0_t1 : Fin (k0_t1_loop i).trips) : Fin 3 → Nat :=
  let c0_804 : Index := 0#32
  let c2_i32_79 : BitVec 32 := 2#32
  let c0_i32_49 : BitVec 32 := 0#32
  let c1_i32_51 : BitVec 32 := 1#32
  let arg21 : BitVec 32 := Scf.iv c0_i32_49 c1_i32_51 k0_t1
  let v143 : BitVec 32 := Scalar.muli c2_i32_79 arg21
  let c256_i32_803 : BitVec 32 := 256#32
  let v1644 : BitVec 32 := Scalar.muli v143 c256_i32_803
  let v1645 : BitVec 32 := v1644
  let v1646 : Index := Scalar.indexCast v1645
  let c0_805 : Index := 0#32
  ![0, v1646.toNat, 0]
def k0_mult12 (i : grid0.Coords) (k0_t1 : Fin (k0_t1_loop i).trips) : BitVec 32 :=
  let c2_i32_79 : BitVec 32 := 2#32
  let c0_i32_49 : BitVec 32 := 0#32
  let c1_i32_51 : BitVec 32 := 1#32
  let arg21 : BitVec 32 := Scf.iv c0_i32_49 c1_i32_51 k0_t1
  let v143 : BitVec 32 := Scalar.muli c2_i32_79 arg21
  let c2_i32_815 : BitVec 32 := 2#32
  let v1659 : BitVec 32 := Scalar.addi v143 c2_i32_815
  let c256_i32_816 : BitVec 32 := 256#32
  let v1660 : BitVec 32 := Scalar.muli v1659 c256_i32_816
  v1660
def k0_mult13 (i : grid0.Coords) (k0_t1 : Fin (k0_t1_loop i).trips) : BitVec 32 :=
  let c2_i32_79 : BitVec 32 := 2#32
  let c0_i32_49 : BitVec 32 := 0#32
  let c1_i32_51 : BitVec 32 := 1#32
  let arg21 : BitVec 32 := Scf.iv c0_i32_49 c1_i32_51 k0_t1
  let v143 : BitVec 32 := Scalar.muli c2_i32_79 arg21
  let c1_i32_824 : BitVec 32 := 1#32
  let v1671 : BitVec 32 := Scalar.addi v143 c1_i32_824
  let c256_i32_825 : BitVec 32 := 256#32
  let v1672 : BitVec 32 := Scalar.muli v1671 c256_i32_825
  let c0_i32_826 : BitVec 32 := 0#32
  let v1673 : BitVec 32 := Scalar.addi v1672 c0_i32_826
  v1673
def k0_off7 (i : grid0.Coords) (k0_t1 : Fin (k0_t1_loop i).trips) (c0_i32_826 : BitVec 32) : Fin 4 → Nat :=
  let c0_827 : Index := 0#32
  let c0_828 : Index := 0#32
  let c0_829 : Index := 0#32
  let c2_i32_79 : BitVec 32 := 2#32
  let c0_i32_49 : BitVec 32 := 0#32
  let c1_i32_51 : BitVec 32 := 1#32
  let arg21 : BitVec 32 := Scf.iv c0_i32_49 c1_i32_51 k0_t1
  let v143 : BitVec 32 := Scalar.muli c2_i32_79 arg21
  let c1_i32_824 : BitVec 32 := 1#32
  let v1671 : BitVec 32 := Scalar.addi v143 c1_i32_824
  let c256_i32_825 : BitVec 32 := 256#32
  let v1672 : BitVec 32 := Scalar.muli v1671 c256_i32_825
  let v1673 : BitVec 32 := Scalar.addi v1672 c0_i32_826
  let v1674 : BitVec 32 := v1673
  let v1675 : Index := Scalar.indexCast v1674
  ![0, 0, 0, v1675.toNat]
def k0_mult14 (i : grid0.Coords) (k0_t1 : Fin (k0_t1_loop i).trips) : BitVec 32 :=
  let c2_i32_79 : BitVec 32 := 2#32
  let c0_i32_49 : BitVec 32 := 0#32
  let c1_i32_51 : BitVec 32 := 1#32
  let arg21 : BitVec 32 := Scf.iv c0_i32_49 c1_i32_51 k0_t1
  let v143 : BitVec 32 := Scalar.muli c2_i32_79 arg21
  let c1_i32_824 : BitVec 32 := 1#32
  let v1671 : BitVec 32 := Scalar.addi v143 c1_i32_824
  let c256_i32_830 : BitVec 32 := 256#32
  let v1678 : BitVec 32 := Scalar.muli v1671 c256_i32_830
  let c128_i32_831 : BitVec 32 := 128#32
  let v1679 : BitVec 32 := Scalar.addi v1678 c128_i32_831
  v1679
def k0_mult15 (i : grid0.Coords) (k0_t1 : Fin (k0_t1_loop i).trips) : BitVec 32 :=
  let c2_i32_79 : BitVec 32 := 2#32
  let c0_i32_49 : BitVec 32 := 0#32
  let c1_i32_51 : BitVec 32 := 1#32
  let arg21 : BitVec 32 := Scf.iv c0_i32_49 c1_i32_51 k0_t1
  let v143 : BitVec 32 := Scalar.muli c2_i32_79 arg21
  let c1_i32_824 : BitVec 32 := 1#32
  let v1671 : BitVec 32 := Scalar.addi v143 c1_i32_824
  let c256_i32_1011 : BitVec 32 := 256#32
  let v2044 : BitVec 32 := Scalar.muli v1671 c256_i32_1011
  let c0_i32_1012 : BitVec 32 := 0#32
  let v2045 : BitVec 32 := Scalar.addi v2044 c0_i32_1012
  v2045
def k0_off8 (i : grid0.Coords) (k0_t1 : Fin (k0_t1_loop i).trips) (c0_i32_1012 : BitVec 32) : Fin 4 → Nat :=
  let c0_1013 : Index := 0#32
  let c0_1014 : Index := 0#32
  let c1_1015 : Index := 1#32
  let c2_i32_79 : BitVec 32 := 2#32
  let c0_i32_49 : BitVec 32 := 0#32
  let c1_i32_51 : BitVec 32 := 1#32
  let arg21 : BitVec 32 := Scf.iv c0_i32_49 c1_i32_51 k0_t1
  let v143 : BitVec 32 := Scalar.muli c2_i32_79 arg21
  let c1_i32_824 : BitVec 32 := 1#32
  let v1671 : BitVec 32 := Scalar.addi v143 c1_i32_824
  let c256_i32_1011 : BitVec 32 := 256#32
  let v2044 : BitVec 32 := Scalar.muli v1671 c256_i32_1011
  let v2045 : BitVec 32 := Scalar.addi v2044 c0_i32_1012
  let v2046 : BitVec 32 := v2045
  let v2047 : Index := Scalar.indexCast v2046
  ![0, 0, 1, v2047.toNat]
def k0_mult16 (i : grid0.Coords) (k0_t1 : Fin (k0_t1_loop i).trips) : BitVec 32 :=
  let c2_i32_79 : BitVec 32 := 2#32
  let c0_i32_49 : BitVec 32 := 0#32
  let c1_i32_51 : BitVec 32 := 1#32
  let arg21 : BitVec 32 := Scf.iv c0_i32_49 c1_i32_51 k0_t1
  let v143 : BitVec 32 := Scalar.muli c2_i32_79 arg21
  let c1_i32_824 : BitVec 32 := 1#32
  let v1671 : BitVec 32 := Scalar.addi v143 c1_i32_824
  let c256_i32_1016 : BitVec 32 := 256#32
  let v2050 : BitVec 32 := Scalar.muli v1671 c256_i32_1016
  let c128_i32_1017 : BitVec 32 := 128#32
  let v2051 : BitVec 32 := Scalar.addi v2050 c128_i32_1017
  v2051
def k0_mult17 (i : grid0.Coords) (k0_t1 : Fin (k0_t1_loop i).trips) : BitVec 32 :=
  let c2_i32_79 : BitVec 32 := 2#32
  let c0_i32_49 : BitVec 32 := 0#32
  let c1_i32_51 : BitVec 32 := 1#32
  let arg21 : BitVec 32 := Scf.iv c0_i32_49 c1_i32_51 k0_t1
  let v143 : BitVec 32 := Scalar.muli c2_i32_79 arg21
  let c1_i32_824 : BitVec 32 := 1#32
  let v1671 : BitVec 32 := Scalar.addi v143 c1_i32_824
  let c256_i32_1197 : BitVec 32 := 256#32
  let v2416 : BitVec 32 := Scalar.muli v1671 c256_i32_1197
  let c0_i32_1198 : BitVec 32 := 0#32
  let v2417 : BitVec 32 := Scalar.addi v2416 c0_i32_1198
  v2417
def k0_off9 (i : grid0.Coords) (k0_t1 : Fin (k0_t1_loop i).trips) (c0_i32_1198 : BitVec 32) : Fin 4 → Nat :=
  let c0_1199 : Index := 0#32
  let c0_1200 : Index := 0#32
  let c2_1201 : Index := 2#32
  let c2_i32_79 : BitVec 32 := 2#32
  let c0_i32_49 : BitVec 32 := 0#32
  let c1_i32_51 : BitVec 32 := 1#32
  let arg21 : BitVec 32 := Scf.iv c0_i32_49 c1_i32_51 k0_t1
  let v143 : BitVec 32 := Scalar.muli c2_i32_79 arg21
  let c1_i32_824 : BitVec 32 := 1#32
  let v1671 : BitVec 32 := Scalar.addi v143 c1_i32_824
  let c256_i32_1197 : BitVec 32 := 256#32
  let v2416 : BitVec 32 := Scalar.muli v1671 c256_i32_1197
  let v2417 : BitVec 32 := Scalar.addi v2416 c0_i32_1198
  let v2418 : BitVec 32 := v2417
  let v2419 : Index := Scalar.indexCast v2418
  ![0, 0, 2, v2419.toNat]
def k0_mult18 (i : grid0.Coords) (k0_t1 : Fin (k0_t1_loop i).trips) : BitVec 32 :=
  let c2_i32_79 : BitVec 32 := 2#32
  let c0_i32_49 : BitVec 32 := 0#32
  let c1_i32_51 : BitVec 32 := 1#32
  let arg21 : BitVec 32 := Scf.iv c0_i32_49 c1_i32_51 k0_t1
  let v143 : BitVec 32 := Scalar.muli c2_i32_79 arg21
  let c1_i32_824 : BitVec 32 := 1#32
  let v1671 : BitVec 32 := Scalar.addi v143 c1_i32_824
  let c256_i32_1202 : BitVec 32 := 256#32
  let v2422 : BitVec 32 := Scalar.muli v1671 c256_i32_1202
  let c128_i32_1203 : BitVec 32 := 128#32
  let v2423 : BitVec 32 := Scalar.addi v2422 c128_i32_1203
  v2423
def k0_mult19 (i : grid0.Coords) (k0_t1 : Fin (k0_t1_loop i).trips) : BitVec 32 :=
  let c2_i32_79 : BitVec 32 := 2#32
  let c0_i32_49 : BitVec 32 := 0#32
  let c1_i32_51 : BitVec 32 := 1#32
  let arg21 : BitVec 32 := Scf.iv c0_i32_49 c1_i32_51 k0_t1
  let v143 : BitVec 32 := Scalar.muli c2_i32_79 arg21
  let c1_i32_824 : BitVec 32 := 1#32
  let v1671 : BitVec 32 := Scalar.addi v143 c1_i32_824
  let c256_i32_1383 : BitVec 32 := 256#32
  let v2788 : BitVec 32 := Scalar.muli v1671 c256_i32_1383
  let c0_i32_1384 : BitVec 32 := 0#32
  let v2789 : BitVec 32 := Scalar.addi v2788 c0_i32_1384
  v2789
def k0_off10 (i : grid0.Coords) (k0_t1 : Fin (k0_t1_loop i).trips) (c0_i32_1384 : BitVec 32) : Fin 4 → Nat :=
  let c0_1385 : Index := 0#32
  let c0_1386 : Index := 0#32
  let c3_1387 : Index := 3#32
  let c2_i32_79 : BitVec 32 := 2#32
  let c0_i32_49 : BitVec 32 := 0#32
  let c1_i32_51 : BitVec 32 := 1#32
  let arg21 : BitVec 32 := Scf.iv c0_i32_49 c1_i32_51 k0_t1
  let v143 : BitVec 32 := Scalar.muli c2_i32_79 arg21
  let c1_i32_824 : BitVec 32 := 1#32
  let v1671 : BitVec 32 := Scalar.addi v143 c1_i32_824
  let c256_i32_1383 : BitVec 32 := 256#32
  let v2788 : BitVec 32 := Scalar.muli v1671 c256_i32_1383
  let v2789 : BitVec 32 := Scalar.addi v2788 c0_i32_1384
  let v2790 : BitVec 32 := v2789
  let v2791 : Index := Scalar.indexCast v2790
  ![0, 0, 3, v2791.toNat]
def k0_mult20 (i : grid0.Coords) (k0_t1 : Fin (k0_t1_loop i).trips) : BitVec 32 :=
  let c2_i32_79 : BitVec 32 := 2#32
  let c0_i32_49 : BitVec 32 := 0#32
  let c1_i32_51 : BitVec 32 := 1#32
  let arg21 : BitVec 32 := Scf.iv c0_i32_49 c1_i32_51 k0_t1
  let v143 : BitVec 32 := Scalar.muli c2_i32_79 arg21
  let c1_i32_824 : BitVec 32 := 1#32
  let v1671 : BitVec 32 := Scalar.addi v143 c1_i32_824
  let c256_i32_1388 : BitVec 32 := 256#32
  let v2794 : BitVec 32 := Scalar.muli v1671 c256_i32_1388
  let c128_i32_1389 : BitVec 32 := 128#32
  let v2795 : BitVec 32 := Scalar.addi v2794 c128_i32_1389
  v2795
def k0_mult21 (i : grid0.Coords) (k0_t1 : Fin (k0_t1_loop i).trips) : BitVec 32 :=
  let c2_i32_79 : BitVec 32 := 2#32
  let c0_i32_49 : BitVec 32 := 0#32
  let c1_i32_51 : BitVec 32 := 1#32
  let arg21 : BitVec 32 := Scf.iv c0_i32_49 c1_i32_51 k0_t1
  let v143 : BitVec 32 := Scalar.muli c2_i32_79 arg21
  let c1_i32_1569 : BitVec 32 := 1#32
  let v3160 : BitVec 32 := Scalar.addi v143 c1_i32_1569
  let c256_i32_1570 : BitVec 32 := 256#32
  let v3161 : BitVec 32 := Scalar.muli v3160 c256_i32_1570
  v3161
@[reducible] def k0_t2_loop (i : grid0.Coords) : Scf.Loop 32 :=
  let c0_i32_49 : BitVec 32 := 0#32
  let arg2 : BitVec 32 := BitVec.ofNat 32 (i 2).val
  let c0_i32_43 : BitVec 32 := 0#32
  let v79 : BitVec 1 := Scalar.cmpi .sgt arg2 c0_i32_43
  let v80 : BitVec 32 := Scalar.extui v79
  let c0_i32_44 : BitVec 32 := 0#32
  let v81 : BitVec 1 := Scalar.cmpi .slt arg2 c0_i32_44
  let v82 : BitVec 32 := Scalar.extui v81
  let v83 : BitVec 32 := Scalar.subi v80 v82
  let c2_i32 : BitVec 32 := 2#32
  let c0_i32_45 : BitVec 32 := 0#32
  let v84 : BitVec 1 := Scalar.cmpi .sgt c2_i32 c0_i32_45
  let v85 : BitVec 32 := Scalar.extui v84
  let c0_i32_46 : BitVec 32 := 0#32
  let v86 : BitVec 1 := Scalar.cmpi .slt c2_i32 c0_i32_46
  let v87 : BitVec 32 := Scalar.extui v86
  let v88 : BitVec 32 := Scalar.subi v85 v87
  let v89 : BitVec 1 := Scalar.cmpi .ne v83 v88
  let v90 : BitVec 32 := Scalar.remsi arg2 c2_i32
  let c0_i32_47 : BitVec 32 := 0#32
  let v91 : BitVec 1 := Scalar.cmpi .ne v90 c0_i32_47
  let v92 : BitVec 1 := Scalar.andi v89 v91
  let v78 : BitVec 32 := Scalar.divsi arg2 c2_i32
  let c1_i32 : BitVec 32 := 1#32
  let v93 : BitVec 32 := Scalar.subi v78 c1_i32
  let v94 : BitVec 32 := Scalar.select v92 v93 v78
  let v95 : BitVec 32 := Scalar.subi v94 c0_i32_49
  let c1_i32_50 : BitVec 32 := 1#32
  let v97 : BitVec 32 := Scalar.divsi v95 c1_i32_50
  let v98 : BitVec 32 := Scalar.muli v97 c1_i32_50
  let v99 : BitVec 32 := Scalar.addi c0_i32_49 v98
  let v96 : BitVec 32 := Scalar.addi c0_i32_49 v95
  let c1_i32_52 : BitVec 32 := 1#32
  ⟨v99, v96, c1_i32_52⟩
def k0_mult22 (i : grid0.Coords) (k0_t2 : Fin (k0_t2_loop i).trips) : BitVec 32 :=
  let c2_i32_79 : BitVec 32 := 2#32
  let c0_i32_49 : BitVec 32 := 0#32
  let arg2 : BitVec 32 := BitVec.ofNat 32 (i 2).val
  let c0_i32_43 : BitVec 32 := 0#32
  let v79 : BitVec 1 := Scalar.cmpi .sgt arg2 c0_i32_43
  let v80 : BitVec 32 := Scalar.extui v79
  let c0_i32_44 : BitVec 32 := 0#32
  let v81 : BitVec 1 := Scalar.cmpi .slt arg2 c0_i32_44
  let v82 : BitVec 32 := Scalar.extui v81
  let v83 : BitVec 32 := Scalar.subi v80 v82
  let c2_i32 : BitVec 32 := 2#32
  let c0_i32_45 : BitVec 32 := 0#32
  let v84 : BitVec 1 := Scalar.cmpi .sgt c2_i32 c0_i32_45
  let v85 : BitVec 32 := Scalar.extui v84
  let c0_i32_46 : BitVec 32 := 0#32
  let v86 : BitVec 1 := Scalar.cmpi .slt c2_i32 c0_i32_46
  let v87 : BitVec 32 := Scalar.extui v86
  let v88 : BitVec 32 := Scalar.subi v85 v87
  let v89 : BitVec 1 := Scalar.cmpi .ne v83 v88
  let v90 : BitVec 32 := Scalar.remsi arg2 c2_i32
  let c0_i32_47 : BitVec 32 := 0#32
  let v91 : BitVec 1 := Scalar.cmpi .ne v90 c0_i32_47
  let v92 : BitVec 1 := Scalar.andi v89 v91
  let v78 : BitVec 32 := Scalar.divsi arg2 c2_i32
  let c1_i32 : BitVec 32 := 1#32
  let v93 : BitVec 32 := Scalar.subi v78 c1_i32
  let v94 : BitVec 32 := Scalar.select v92 v93 v78
  let v95 : BitVec 32 := Scalar.subi v94 c0_i32_49
  let c1_i32_50 : BitVec 32 := 1#32
  let v97 : BitVec 32 := Scalar.divsi v95 c1_i32_50
  let v98 : BitVec 32 := Scalar.muli v97 c1_i32_50
  let v99 : BitVec 32 := Scalar.addi c0_i32_49 v98
  let c1_i32_52 : BitVec 32 := 1#32
  let arg21 : BitVec 32 := Scf.iv v99 c1_i32_52 k0_t2
  let v143 : BitVec 32 := Scalar.muli c2_i32_79 arg21
  let c1_i32_80 : BitVec 32 := 1#32
  let v144 : BitVec 32 := Scalar.addi v143 c1_i32_80
  let c256_i32 : BitVec 32 := 256#32
  let v145 : BitVec 32 := Scalar.muli v144 c256_i32
  v145
def k0_off11 (i : grid0.Coords) (k0_t2 : Fin (k0_t2_loop i).trips) (c1_i32_80 : BitVec 32) : Fin 3 → Nat :=
  let c0_81 : Index := 0#32
  let c2_i32_79 : BitVec 32 := 2#32
  let c0_i32_49 : BitVec 32 := 0#32
  let arg2 : BitVec 32 := BitVec.ofNat 32 (i 2).val
  let c0_i32_43 : BitVec 32 := 0#32
  let v79 : BitVec 1 := Scalar.cmpi .sgt arg2 c0_i32_43
  let v80 : BitVec 32 := Scalar.extui v79
  let c0_i32_44 : BitVec 32 := 0#32
  let v81 : BitVec 1 := Scalar.cmpi .slt arg2 c0_i32_44
  let v82 : BitVec 32 := Scalar.extui v81
  let v83 : BitVec 32 := Scalar.subi v80 v82
  let c2_i32 : BitVec 32 := 2#32
  let c0_i32_45 : BitVec 32 := 0#32
  let v84 : BitVec 1 := Scalar.cmpi .sgt c2_i32 c0_i32_45
  let v85 : BitVec 32 := Scalar.extui v84
  let c0_i32_46 : BitVec 32 := 0#32
  let v86 : BitVec 1 := Scalar.cmpi .slt c2_i32 c0_i32_46
  let v87 : BitVec 32 := Scalar.extui v86
  let v88 : BitVec 32 := Scalar.subi v85 v87
  let v89 : BitVec 1 := Scalar.cmpi .ne v83 v88
  let v90 : BitVec 32 := Scalar.remsi arg2 c2_i32
  let c0_i32_47 : BitVec 32 := 0#32
  let v91 : BitVec 1 := Scalar.cmpi .ne v90 c0_i32_47
  let v92 : BitVec 1 := Scalar.andi v89 v91
  let v78 : BitVec 32 := Scalar.divsi arg2 c2_i32
  let c1_i32 : BitVec 32 := 1#32
  let v93 : BitVec 32 := Scalar.subi v78 c1_i32
  let v94 : BitVec 32 := Scalar.select v92 v93 v78
  let v95 : BitVec 32 := Scalar.subi v94 c0_i32_49
  let c1_i32_50 : BitVec 32 := 1#32
  let v97 : BitVec 32 := Scalar.divsi v95 c1_i32_50
  let v98 : BitVec 32 := Scalar.muli v97 c1_i32_50
  let v99 : BitVec 32 := Scalar.addi c0_i32_49 v98
  let c1_i32_52 : BitVec 32 := 1#32
  let arg21 : BitVec 32 := Scf.iv v99 c1_i32_52 k0_t2
  let v143 : BitVec 32 := Scalar.muli c2_i32_79 arg21
  let v144 : BitVec 32 := Scalar.addi v143 c1_i32_80
  let c256_i32 : BitVec 32 := 256#32
  let v145 : BitVec 32 := Scalar.muli v144 c256_i32
  let v146 : BitVec 32 := v145
  let v147 : Index := Scalar.indexCast v146
  let c0_82 : Index := 0#32
  ![0, v147.toNat, 0]
def k0_mult23 (i : grid0.Coords) (k0_t2 : Fin (k0_t2_loop i).trips) : BitVec 32 :=
  let c2_i32_79 : BitVec 32 := 2#32
  let c0_i32_49 : BitVec 32 := 0#32
  let arg2 : BitVec 32 := BitVec.ofNat 32 (i 2).val
  let c0_i32_43 : BitVec 32 := 0#32
  let v79 : BitVec 1 := Scalar.cmpi .sgt arg2 c0_i32_43
  let v80 : BitVec 32 := Scalar.extui v79
  let c0_i32_44 : BitVec 32 := 0#32
  let v81 : BitVec 1 := Scalar.cmpi .slt arg2 c0_i32_44
  let v82 : BitVec 32 := Scalar.extui v81
  let v83 : BitVec 32 := Scalar.subi v80 v82
  let c2_i32 : BitVec 32 := 2#32
  let c0_i32_45 : BitVec 32 := 0#32
  let v84 : BitVec 1 := Scalar.cmpi .sgt c2_i32 c0_i32_45
  let v85 : BitVec 32 := Scalar.extui v84
  let c0_i32_46 : BitVec 32 := 0#32
  let v86 : BitVec 1 := Scalar.cmpi .slt c2_i32 c0_i32_46
  let v87 : BitVec 32 := Scalar.extui v86
  let v88 : BitVec 32 := Scalar.subi v85 v87
  let v89 : BitVec 1 := Scalar.cmpi .ne v83 v88
  let v90 : BitVec 32 := Scalar.remsi arg2 c2_i32
  let c0_i32_47 : BitVec 32 := 0#32
  let v91 : BitVec 1 := Scalar.cmpi .ne v90 c0_i32_47
  let v92 : BitVec 1 := Scalar.andi v89 v91
  let v78 : BitVec 32 := Scalar.divsi arg2 c2_i32
  let c1_i32 : BitVec 32 := 1#32
  let v93 : BitVec 32 := Scalar.subi v78 c1_i32
  let v94 : BitVec 32 := Scalar.select v92 v93 v78
  let v95 : BitVec 32 := Scalar.subi v94 c0_i32_49
  let c1_i32_50 : BitVec 32 := 1#32
  let v97 : BitVec 32 := Scalar.divsi v95 c1_i32_50
  let v98 : BitVec 32 := Scalar.muli v97 c1_i32_50
  let v99 : BitVec 32 := Scalar.addi c0_i32_49 v98
  let c1_i32_52 : BitVec 32 := 1#32
  let arg21 : BitVec 32 := Scf.iv v99 c1_i32_52 k0_t2
  let v143 : BitVec 32 := Scalar.muli c2_i32_79 arg21
  let c256_i32_88 : BitVec 32 := 256#32
  let v156 : BitVec 32 := Scalar.muli v143 c256_i32_88
  let c0_i32_89 : BitVec 32 := 0#32
  let v157 : BitVec 32 := Scalar.addi v156 c0_i32_89
  v157
def k0_off12 (i : grid0.Coords) (k0_t2 : Fin (k0_t2_loop i).trips) (c0_i32_89 : BitVec 32) : Fin 4 → Nat :=
  let c0_90 : Index := 0#32
  let c0_91 : Index := 0#32
  let c0_92 : Index := 0#32
  let c2_i32_79 : BitVec 32 := 2#32
  let c0_i32_49 : BitVec 32 := 0#32
  let arg2 : BitVec 32 := BitVec.ofNat 32 (i 2).val
  let c0_i32_43 : BitVec 32 := 0#32
  let v79 : BitVec 1 := Scalar.cmpi .sgt arg2 c0_i32_43
  let v80 : BitVec 32 := Scalar.extui v79
  let c0_i32_44 : BitVec 32 := 0#32
  let v81 : BitVec 1 := Scalar.cmpi .slt arg2 c0_i32_44
  let v82 : BitVec 32 := Scalar.extui v81
  let v83 : BitVec 32 := Scalar.subi v80 v82
  let c2_i32 : BitVec 32 := 2#32
  let c0_i32_45 : BitVec 32 := 0#32
  let v84 : BitVec 1 := Scalar.cmpi .sgt c2_i32 c0_i32_45
  let v85 : BitVec 32 := Scalar.extui v84
  let c0_i32_46 : BitVec 32 := 0#32
  let v86 : BitVec 1 := Scalar.cmpi .slt c2_i32 c0_i32_46
  let v87 : BitVec 32 := Scalar.extui v86
  let v88 : BitVec 32 := Scalar.subi v85 v87
  let v89 : BitVec 1 := Scalar.cmpi .ne v83 v88
  let v90 : BitVec 32 := Scalar.remsi arg2 c2_i32
  let c0_i32_47 : BitVec 32 := 0#32
  let v91 : BitVec 1 := Scalar.cmpi .ne v90 c0_i32_47
  let v92 : BitVec 1 := Scalar.andi v89 v91
  let v78 : BitVec 32 := Scalar.divsi arg2 c2_i32
  let c1_i32 : BitVec 32 := 1#32
  let v93 : BitVec 32 := Scalar.subi v78 c1_i32
  let v94 : BitVec 32 := Scalar.select v92 v93 v78
  let v95 : BitVec 32 := Scalar.subi v94 c0_i32_49
  let c1_i32_50 : BitVec 32 := 1#32
  let v97 : BitVec 32 := Scalar.divsi v95 c1_i32_50
  let v98 : BitVec 32 := Scalar.muli v97 c1_i32_50
  let v99 : BitVec 32 := Scalar.addi c0_i32_49 v98
  let c1_i32_52 : BitVec 32 := 1#32
  let arg21 : BitVec 32 := Scf.iv v99 c1_i32_52 k0_t2
  let v143 : BitVec 32 := Scalar.muli c2_i32_79 arg21
  let c256_i32_88 : BitVec 32 := 256#32
  let v156 : BitVec 32 := Scalar.muli v143 c256_i32_88
  let v157 : BitVec 32 := Scalar.addi v156 c0_i32_89
  let v158 : BitVec 32 := v157
  let v159 : Index := Scalar.indexCast v158
  ![0, 0, 0, v159.toNat]
def k0_mult24 (i : grid0.Coords) (k0_t2 : Fin (k0_t2_loop i).trips) : BitVec 32 :=
  let c2_i32_79 : BitVec 32 := 2#32
  let c0_i32_49 : BitVec 32 := 0#32
  let arg2 : BitVec 32 := BitVec.ofNat 32 (i 2).val
  let c0_i32_43 : BitVec 32 := 0#32
  let v79 : BitVec 1 := Scalar.cmpi .sgt arg2 c0_i32_43
  let v80 : BitVec 32 := Scalar.extui v79
  let c0_i32_44 : BitVec 32 := 0#32
  let v81 : BitVec 1 := Scalar.cmpi .slt arg2 c0_i32_44
  let v82 : BitVec 32 := Scalar.extui v81
  let v83 : BitVec 32 := Scalar.subi v80 v82
  let c2_i32 : BitVec 32 := 2#32
  let c0_i32_45 : BitVec 32 := 0#32
  let v84 : BitVec 1 := Scalar.cmpi .sgt c2_i32 c0_i32_45
  let v85 : BitVec 32 := Scalar.extui v84
  let c0_i32_46 : BitVec 32 := 0#32
  let v86 : BitVec 1 := Scalar.cmpi .slt c2_i32 c0_i32_46
  let v87 : BitVec 32 := Scalar.extui v86
  let v88 : BitVec 32 := Scalar.subi v85 v87
  let v89 : BitVec 1 := Scalar.cmpi .ne v83 v88
  let v90 : BitVec 32 := Scalar.remsi arg2 c2_i32
  let c0_i32_47 : BitVec 32 := 0#32
  let v91 : BitVec 1 := Scalar.cmpi .ne v90 c0_i32_47
  let v92 : BitVec 1 := Scalar.andi v89 v91
  let v78 : BitVec 32 := Scalar.divsi arg2 c2_i32
  let c1_i32 : BitVec 32 := 1#32
  let v93 : BitVec 32 := Scalar.subi v78 c1_i32
  let v94 : BitVec 32 := Scalar.select v92 v93 v78
  let v95 : BitVec 32 := Scalar.subi v94 c0_i32_49
  let c1_i32_50 : BitVec 32 := 1#32
  let v97 : BitVec 32 := Scalar.divsi v95 c1_i32_50
  let v98 : BitVec 32 := Scalar.muli v97 c1_i32_50
  let v99 : BitVec 32 := Scalar.addi c0_i32_49 v98
  let c1_i32_52 : BitVec 32 := 1#32
  let arg21 : BitVec 32 := Scf.iv v99 c1_i32_52 k0_t2
  let v143 : BitVec 32 := Scalar.muli c2_i32_79 arg21
  let c256_i32_93 : BitVec 32 := 256#32
  let v162 : BitVec 32 := Scalar.muli v143 c256_i32_93
  let c128_i32 : BitVec 32 := 128#32
  let v163 : BitVec 32 := Scalar.addi v162 c128_i32
  v163
def k0_mult25 (i : grid0.Coords) (k0_t2 : Fin (k0_t2_loop i).trips) : BitVec 32 :=
  let c2_i32_79 : BitVec 32 := 2#32
  let c0_i32_49 : BitVec 32 := 0#32
  let arg2 : BitVec 32 := BitVec.ofNat 32 (i 2).val
  let c0_i32_43 : BitVec 32 := 0#32
  let v79 : BitVec 1 := Scalar.cmpi .sgt arg2 c0_i32_43
  let v80 : BitVec 32 := Scalar.extui v79
  let c0_i32_44 : BitVec 32 := 0#32
  let v81 : BitVec 1 := Scalar.cmpi .slt arg2 c0_i32_44
  let v82 : BitVec 32 := Scalar.extui v81
  let v83 : BitVec 32 := Scalar.subi v80 v82
  let c2_i32 : BitVec 32 := 2#32
  let c0_i32_45 : BitVec 32 := 0#32
  let v84 : BitVec 1 := Scalar.cmpi .sgt c2_i32 c0_i32_45
  let v85 : BitVec 32 := Scalar.extui v84
  let c0_i32_46 : BitVec 32 := 0#32
  let v86 : BitVec 1 := Scalar.cmpi .slt c2_i32 c0_i32_46
  let v87 : BitVec 32 := Scalar.extui v86
  let v88 : BitVec 32 := Scalar.subi v85 v87
  let v89 : BitVec 1 := Scalar.cmpi .ne v83 v88
  let v90 : BitVec 32 := Scalar.remsi arg2 c2_i32
  let c0_i32_47 : BitVec 32 := 0#32
  let v91 : BitVec 1 := Scalar.cmpi .ne v90 c0_i32_47
  let v92 : BitVec 1 := Scalar.andi v89 v91
  let v78 : BitVec 32 := Scalar.divsi arg2 c2_i32
  let c1_i32 : BitVec 32 := 1#32
  let v93 : BitVec 32 := Scalar.subi v78 c1_i32
  let v94 : BitVec 32 := Scalar.select v92 v93 v78
  let v95 : BitVec 32 := Scalar.subi v94 c0_i32_49
  let c1_i32_50 : BitVec 32 := 1#32
  let v97 : BitVec 32 := Scalar.divsi v95 c1_i32_50
  let v98 : BitVec 32 := Scalar.muli v97 c1_i32_50
  let v99 : BitVec 32 := Scalar.addi c0_i32_49 v98
  let c1_i32_52 : BitVec 32 := 1#32
  let arg21 : BitVec 32 := Scf.iv v99 c1_i32_52 k0_t2
  let v143 : BitVec 32 := Scalar.muli c2_i32_79 arg21
  let c256_i32_266 : BitVec 32 := 256#32
  let v528 : BitVec 32 := Scalar.muli v143 c256_i32_266
  let c0_i32_267 : BitVec 32 := 0#32
  let v529 : BitVec 32 := Scalar.addi v528 c0_i32_267
  v529
def k0_off13 (i : grid0.Coords) (k0_t2 : Fin (k0_t2_loop i).trips) (c0_i32_267 : BitVec 32) : Fin 4 → Nat :=
  let c0_268 : Index := 0#32
  let c0_269 : Index := 0#32
  let c1_270 : Index := 1#32
  let c2_i32_79 : BitVec 32 := 2#32
  let c0_i32_49 : BitVec 32 := 0#32
  let arg2 : BitVec 32 := BitVec.ofNat 32 (i 2).val
  let c0_i32_43 : BitVec 32 := 0#32
  let v79 : BitVec 1 := Scalar.cmpi .sgt arg2 c0_i32_43
  let v80 : BitVec 32 := Scalar.extui v79
  let c0_i32_44 : BitVec 32 := 0#32
  let v81 : BitVec 1 := Scalar.cmpi .slt arg2 c0_i32_44
  let v82 : BitVec 32 := Scalar.extui v81
  let v83 : BitVec 32 := Scalar.subi v80 v82
  let c2_i32 : BitVec 32 := 2#32
  let c0_i32_45 : BitVec 32 := 0#32
  let v84 : BitVec 1 := Scalar.cmpi .sgt c2_i32 c0_i32_45
  let v85 : BitVec 32 := Scalar.extui v84
  let c0_i32_46 : BitVec 32 := 0#32
  let v86 : BitVec 1 := Scalar.cmpi .slt c2_i32 c0_i32_46
  let v87 : BitVec 32 := Scalar.extui v86
  let v88 : BitVec 32 := Scalar.subi v85 v87
  let v89 : BitVec 1 := Scalar.cmpi .ne v83 v88
  let v90 : BitVec 32 := Scalar.remsi arg2 c2_i32
  let c0_i32_47 : BitVec 32 := 0#32
  let v91 : BitVec 1 := Scalar.cmpi .ne v90 c0_i32_47
  let v92 : BitVec 1 := Scalar.andi v89 v91
  let v78 : BitVec 32 := Scalar.divsi arg2 c2_i32
  let c1_i32 : BitVec 32 := 1#32
  let v93 : BitVec 32 := Scalar.subi v78 c1_i32
  let v94 : BitVec 32 := Scalar.select v92 v93 v78
  let v95 : BitVec 32 := Scalar.subi v94 c0_i32_49
  let c1_i32_50 : BitVec 32 := 1#32
  let v97 : BitVec 32 := Scalar.divsi v95 c1_i32_50
  let v98 : BitVec 32 := Scalar.muli v97 c1_i32_50
  let v99 : BitVec 32 := Scalar.addi c0_i32_49 v98
  let c1_i32_52 : BitVec 32 := 1#32
  let arg21 : BitVec 32 := Scf.iv v99 c1_i32_52 k0_t2
  let v143 : BitVec 32 := Scalar.muli c2_i32_79 arg21
  let c256_i32_266 : BitVec 32 := 256#32
  let v528 : BitVec 32 := Scalar.muli v143 c256_i32_266
  let v529 : BitVec 32 := Scalar.addi v528 c0_i32_267
  let v530 : BitVec 32 := v529
  let v531 : Index := Scalar.indexCast v530
  ![0, 0, 1, v531.toNat]
def k0_mult26 (i : grid0.Coords) (k0_t2 : Fin (k0_t2_loop i).trips) : BitVec 32 :=
  let c2_i32_79 : BitVec 32 := 2#32
  let c0_i32_49 : BitVec 32 := 0#32
  let arg2 : BitVec 32 := BitVec.ofNat 32 (i 2).val
  let c0_i32_43 : BitVec 32 := 0#32
  let v79 : BitVec 1 := Scalar.cmpi .sgt arg2 c0_i32_43
  let v80 : BitVec 32 := Scalar.extui v79
  let c0_i32_44 : BitVec 32 := 0#32
  let v81 : BitVec 1 := Scalar.cmpi .slt arg2 c0_i32_44
  let v82 : BitVec 32 := Scalar.extui v81
  let v83 : BitVec 32 := Scalar.subi v80 v82
  let c2_i32 : BitVec 32 := 2#32
  let c0_i32_45 : BitVec 32 := 0#32
  let v84 : BitVec 1 := Scalar.cmpi .sgt c2_i32 c0_i32_45
  let v85 : BitVec 32 := Scalar.extui v84
  let c0_i32_46 : BitVec 32 := 0#32
  let v86 : BitVec 1 := Scalar.cmpi .slt c2_i32 c0_i32_46
  let v87 : BitVec 32 := Scalar.extui v86
  let v88 : BitVec 32 := Scalar.subi v85 v87
  let v89 : BitVec 1 := Scalar.cmpi .ne v83 v88
  let v90 : BitVec 32 := Scalar.remsi arg2 c2_i32
  let c0_i32_47 : BitVec 32 := 0#32
  let v91 : BitVec 1 := Scalar.cmpi .ne v90 c0_i32_47
  let v92 : BitVec 1 := Scalar.andi v89 v91
  let v78 : BitVec 32 := Scalar.divsi arg2 c2_i32
  let c1_i32 : BitVec 32 := 1#32
  let v93 : BitVec 32 := Scalar.subi v78 c1_i32
  let v94 : BitVec 32 := Scalar.select v92 v93 v78
  let v95 : BitVec 32 := Scalar.subi v94 c0_i32_49
  let c1_i32_50 : BitVec 32 := 1#32
  let v97 : BitVec 32 := Scalar.divsi v95 c1_i32_50
  let v98 : BitVec 32 := Scalar.muli v97 c1_i32_50
  let v99 : BitVec 32 := Scalar.addi c0_i32_49 v98
  let c1_i32_52 : BitVec 32 := 1#32
  let arg21 : BitVec 32 := Scf.iv v99 c1_i32_52 k0_t2
  let v143 : BitVec 32 := Scalar.muli c2_i32_79 arg21
  let c256_i32_271 : BitVec 32 := 256#32
  let v534 : BitVec 32 := Scalar.muli v143 c256_i32_271
  let c128_i32_272 : BitVec 32 := 128#32
  let v535 : BitVec 32 := Scalar.addi v534 c128_i32_272
  v535
def k0_mult27 (i : grid0.Coords) (k0_t2 : Fin (k0_t2_loop i).trips) : BitVec 32 :=
  let c2_i32_79 : BitVec 32 := 2#32
  let c0_i32_49 : BitVec 32 := 0#32
  let arg2 : BitVec 32 := BitVec.ofNat 32 (i 2).val
  let c0_i32_43 : BitVec 32 := 0#32
  let v79 : BitVec 1 := Scalar.cmpi .sgt arg2 c0_i32_43
  let v80 : BitVec 32 := Scalar.extui v79
  let c0_i32_44 : BitVec 32 := 0#32
  let v81 : BitVec 1 := Scalar.cmpi .slt arg2 c0_i32_44
  let v82 : BitVec 32 := Scalar.extui v81
  let v83 : BitVec 32 := Scalar.subi v80 v82
  let c2_i32 : BitVec 32 := 2#32
  let c0_i32_45 : BitVec 32 := 0#32
  let v84 : BitVec 1 := Scalar.cmpi .sgt c2_i32 c0_i32_45
  let v85 : BitVec 32 := Scalar.extui v84
  let c0_i32_46 : BitVec 32 := 0#32
  let v86 : BitVec 1 := Scalar.cmpi .slt c2_i32 c0_i32_46
  let v87 : BitVec 32 := Scalar.extui v86
  let v88 : BitVec 32 := Scalar.subi v85 v87
  let v89 : BitVec 1 := Scalar.cmpi .ne v83 v88
  let v90 : BitVec 32 := Scalar.remsi arg2 c2_i32
  let c0_i32_47 : BitVec 32 := 0#32
  let v91 : BitVec 1 := Scalar.cmpi .ne v90 c0_i32_47
  let v92 : BitVec 1 := Scalar.andi v89 v91
  let v78 : BitVec 32 := Scalar.divsi arg2 c2_i32
  let c1_i32 : BitVec 32 := 1#32
  let v93 : BitVec 32 := Scalar.subi v78 c1_i32
  let v94 : BitVec 32 := Scalar.select v92 v93 v78
  let v95 : BitVec 32 := Scalar.subi v94 c0_i32_49
  let c1_i32_50 : BitVec 32 := 1#32
  let v97 : BitVec 32 := Scalar.divsi v95 c1_i32_50
  let v98 : BitVec 32 := Scalar.muli v97 c1_i32_50
  let v99 : BitVec 32 := Scalar.addi c0_i32_49 v98
  let c1_i32_52 : BitVec 32 := 1#32
  let arg21 : BitVec 32 := Scf.iv v99 c1_i32_52 k0_t2
  let v143 : BitVec 32 := Scalar.muli c2_i32_79 arg21
  let c256_i32_445 : BitVec 32 := 256#32
  let v900 : BitVec 32 := Scalar.muli v143 c256_i32_445
  let c0_i32_446 : BitVec 32 := 0#32
  let v901 : BitVec 32 := Scalar.addi v900 c0_i32_446
  v901
def k0_off14 (i : grid0.Coords) (k0_t2 : Fin (k0_t2_loop i).trips) (c0_i32_446 : BitVec 32) : Fin 4 → Nat :=
  let c0_447 : Index := 0#32
  let c0_448 : Index := 0#32
  let c2_449 : Index := 2#32
  let c2_i32_79 : BitVec 32 := 2#32
  let c0_i32_49 : BitVec 32 := 0#32
  let arg2 : BitVec 32 := BitVec.ofNat 32 (i 2).val
  let c0_i32_43 : BitVec 32 := 0#32
  let v79 : BitVec 1 := Scalar.cmpi .sgt arg2 c0_i32_43
  let v80 : BitVec 32 := Scalar.extui v79
  let c0_i32_44 : BitVec 32 := 0#32
  let v81 : BitVec 1 := Scalar.cmpi .slt arg2 c0_i32_44
  let v82 : BitVec 32 := Scalar.extui v81
  let v83 : BitVec 32 := Scalar.subi v80 v82
  let c2_i32 : BitVec 32 := 2#32
  let c0_i32_45 : BitVec 32 := 0#32
  let v84 : BitVec 1 := Scalar.cmpi .sgt c2_i32 c0_i32_45
  let v85 : BitVec 32 := Scalar.extui v84
  let c0_i32_46 : BitVec 32 := 0#32
  let v86 : BitVec 1 := Scalar.cmpi .slt c2_i32 c0_i32_46
  let v87 : BitVec 32 := Scalar.extui v86
  let v88 : BitVec 32 := Scalar.subi v85 v87
  let v89 : BitVec 1 := Scalar.cmpi .ne v83 v88
  let v90 : BitVec 32 := Scalar.remsi arg2 c2_i32
  let c0_i32_47 : BitVec 32 := 0#32
  let v91 : BitVec 1 := Scalar.cmpi .ne v90 c0_i32_47
  let v92 : BitVec 1 := Scalar.andi v89 v91
  let v78 : BitVec 32 := Scalar.divsi arg2 c2_i32
  let c1_i32 : BitVec 32 := 1#32
  let v93 : BitVec 32 := Scalar.subi v78 c1_i32
  let v94 : BitVec 32 := Scalar.select v92 v93 v78
  let v95 : BitVec 32 := Scalar.subi v94 c0_i32_49
  let c1_i32_50 : BitVec 32 := 1#32
  let v97 : BitVec 32 := Scalar.divsi v95 c1_i32_50
  let v98 : BitVec 32 := Scalar.muli v97 c1_i32_50
  let v99 : BitVec 32 := Scalar.addi c0_i32_49 v98
  let c1_i32_52 : BitVec 32 := 1#32
  let arg21 : BitVec 32 := Scf.iv v99 c1_i32_52 k0_t2
  let v143 : BitVec 32 := Scalar.muli c2_i32_79 arg21
  let c256_i32_445 : BitVec 32 := 256#32
  let v900 : BitVec 32 := Scalar.muli v143 c256_i32_445
  let v901 : BitVec 32 := Scalar.addi v900 c0_i32_446
  let v902 : BitVec 32 := v901
  let v903 : Index := Scalar.indexCast v902
  ![0, 0, 2, v903.toNat]
def k0_mult28 (i : grid0.Coords) (k0_t2 : Fin (k0_t2_loop i).trips) : BitVec 32 :=
  let c2_i32_79 : BitVec 32 := 2#32
  let c0_i32_49 : BitVec 32 := 0#32
  let arg2 : BitVec 32 := BitVec.ofNat 32 (i 2).val
  let c0_i32_43 : BitVec 32 := 0#32
  let v79 : BitVec 1 := Scalar.cmpi .sgt arg2 c0_i32_43
  let v80 : BitVec 32 := Scalar.extui v79
  let c0_i32_44 : BitVec 32 := 0#32
  let v81 : BitVec 1 := Scalar.cmpi .slt arg2 c0_i32_44
  let v82 : BitVec 32 := Scalar.extui v81
  let v83 : BitVec 32 := Scalar.subi v80 v82
  let c2_i32 : BitVec 32 := 2#32
  let c0_i32_45 : BitVec 32 := 0#32
  let v84 : BitVec 1 := Scalar.cmpi .sgt c2_i32 c0_i32_45
  let v85 : BitVec 32 := Scalar.extui v84
  let c0_i32_46 : BitVec 32 := 0#32
  let v86 : BitVec 1 := Scalar.cmpi .slt c2_i32 c0_i32_46
  let v87 : BitVec 32 := Scalar.extui v86
  let v88 : BitVec 32 := Scalar.subi v85 v87
  let v89 : BitVec 1 := Scalar.cmpi .ne v83 v88
  let v90 : BitVec 32 := Scalar.remsi arg2 c2_i32
  let c0_i32_47 : BitVec 32 := 0#32
  let v91 : BitVec 1 := Scalar.cmpi .ne v90 c0_i32_47
  let v92 : BitVec 1 := Scalar.andi v89 v91
  let v78 : BitVec 32 := Scalar.divsi arg2 c2_i32
  let c1_i32 : BitVec 32 := 1#32
  let v93 : BitVec 32 := Scalar.subi v78 c1_i32
  let v94 : BitVec 32 := Scalar.select v92 v93 v78
  let v95 : BitVec 32 := Scalar.subi v94 c0_i32_49
  let c1_i32_50 : BitVec 32 := 1#32
  let v97 : BitVec 32 := Scalar.divsi v95 c1_i32_50
  let v98 : BitVec 32 := Scalar.muli v97 c1_i32_50
  let v99 : BitVec 32 := Scalar.addi c0_i32_49 v98
  let c1_i32_52 : BitVec 32 := 1#32
  let arg21 : BitVec 32 := Scf.iv v99 c1_i32_52 k0_t2
  let v143 : BitVec 32 := Scalar.muli c2_i32_79 arg21
  let c256_i32_450 : BitVec 32 := 256#32
  let v906 : BitVec 32 := Scalar.muli v143 c256_i32_450
  let c128_i32_451 : BitVec 32 := 128#32
  let v907 : BitVec 32 := Scalar.addi v906 c128_i32_451
  v907
def k0_mult29 (i : grid0.Coords) (k0_t2 : Fin (k0_t2_loop i).trips) : BitVec 32 :=
  let c2_i32_79 : BitVec 32 := 2#32
  let c0_i32_49 : BitVec 32 := 0#32
  let arg2 : BitVec 32 := BitVec.ofNat 32 (i 2).val
  let c0_i32_43 : BitVec 32 := 0#32
  let v79 : BitVec 1 := Scalar.cmpi .sgt arg2 c0_i32_43
  let v80 : BitVec 32 := Scalar.extui v79
  let c0_i32_44 : BitVec 32 := 0#32
  let v81 : BitVec 1 := Scalar.cmpi .slt arg2 c0_i32_44
  let v82 : BitVec 32 := Scalar.extui v81
  let v83 : BitVec 32 := Scalar.subi v80 v82
  let c2_i32 : BitVec 32 := 2#32
  let c0_i32_45 : BitVec 32 := 0#32
  let v84 : BitVec 1 := Scalar.cmpi .sgt c2_i32 c0_i32_45
  let v85 : BitVec 32 := Scalar.extui v84
  let c0_i32_46 : BitVec 32 := 0#32
  let v86 : BitVec 1 := Scalar.cmpi .slt c2_i32 c0_i32_46
  let v87 : BitVec 32 := Scalar.extui v86
  let v88 : BitVec 32 := Scalar.subi v85 v87
  let v89 : BitVec 1 := Scalar.cmpi .ne v83 v88
  let v90 : BitVec 32 := Scalar.remsi arg2 c2_i32
  let c0_i32_47 : BitVec 32 := 0#32
  let v91 : BitVec 1 := Scalar.cmpi .ne v90 c0_i32_47
  let v92 : BitVec 1 := Scalar.andi v89 v91
  let v78 : BitVec 32 := Scalar.divsi arg2 c2_i32
  let c1_i32 : BitVec 32 := 1#32
  let v93 : BitVec 32 := Scalar.subi v78 c1_i32
  let v94 : BitVec 32 := Scalar.select v92 v93 v78
  let v95 : BitVec 32 := Scalar.subi v94 c0_i32_49
  let c1_i32_50 : BitVec 32 := 1#32
  let v97 : BitVec 32 := Scalar.divsi v95 c1_i32_50
  let v98 : BitVec 32 := Scalar.muli v97 c1_i32_50
  let v99 : BitVec 32 := Scalar.addi c0_i32_49 v98
  let c1_i32_52 : BitVec 32 := 1#32
  let arg21 : BitVec 32 := Scf.iv v99 c1_i32_52 k0_t2
  let v143 : BitVec 32 := Scalar.muli c2_i32_79 arg21
  let c256_i32_624 : BitVec 32 := 256#32
  let v1272 : BitVec 32 := Scalar.muli v143 c256_i32_624
  let c0_i32_625 : BitVec 32 := 0#32
  let v1273 : BitVec 32 := Scalar.addi v1272 c0_i32_625
  v1273
def k0_off15 (i : grid0.Coords) (k0_t2 : Fin (k0_t2_loop i).trips) (c0_i32_625 : BitVec 32) : Fin 4 → Nat :=
  let c0_626 : Index := 0#32
  let c0_627 : Index := 0#32
  let c3_628 : Index := 3#32
  let c2_i32_79 : BitVec 32 := 2#32
  let c0_i32_49 : BitVec 32 := 0#32
  let arg2 : BitVec 32 := BitVec.ofNat 32 (i 2).val
  let c0_i32_43 : BitVec 32 := 0#32
  let v79 : BitVec 1 := Scalar.cmpi .sgt arg2 c0_i32_43
  let v80 : BitVec 32 := Scalar.extui v79
  let c0_i32_44 : BitVec 32 := 0#32
  let v81 : BitVec 1 := Scalar.cmpi .slt arg2 c0_i32_44
  let v82 : BitVec 32 := Scalar.extui v81
  let v83 : BitVec 32 := Scalar.subi v80 v82
  let c2_i32 : BitVec 32 := 2#32
  let c0_i32_45 : BitVec 32 := 0#32
  let v84 : BitVec 1 := Scalar.cmpi .sgt c2_i32 c0_i32_45
  let v85 : BitVec 32 := Scalar.extui v84
  let c0_i32_46 : BitVec 32 := 0#32
  let v86 : BitVec 1 := Scalar.cmpi .slt c2_i32 c0_i32_46
  let v87 : BitVec 32 := Scalar.extui v86
  let v88 : BitVec 32 := Scalar.subi v85 v87
  let v89 : BitVec 1 := Scalar.cmpi .ne v83 v88
  let v90 : BitVec 32 := Scalar.remsi arg2 c2_i32
  let c0_i32_47 : BitVec 32 := 0#32
  let v91 : BitVec 1 := Scalar.cmpi .ne v90 c0_i32_47
  let v92 : BitVec 1 := Scalar.andi v89 v91
  let v78 : BitVec 32 := Scalar.divsi arg2 c2_i32
  let c1_i32 : BitVec 32 := 1#32
  let v93 : BitVec 32 := Scalar.subi v78 c1_i32
  let v94 : BitVec 32 := Scalar.select v92 v93 v78
  let v95 : BitVec 32 := Scalar.subi v94 c0_i32_49
  let c1_i32_50 : BitVec 32 := 1#32
  let v97 : BitVec 32 := Scalar.divsi v95 c1_i32_50
  let v98 : BitVec 32 := Scalar.muli v97 c1_i32_50
  let v99 : BitVec 32 := Scalar.addi c0_i32_49 v98
  let c1_i32_52 : BitVec 32 := 1#32
  let arg21 : BitVec 32 := Scf.iv v99 c1_i32_52 k0_t2
  let v143 : BitVec 32 := Scalar.muli c2_i32_79 arg21
  let c256_i32_624 : BitVec 32 := 256#32
  let v1272 : BitVec 32 := Scalar.muli v143 c256_i32_624
  let v1273 : BitVec 32 := Scalar.addi v1272 c0_i32_625
  let v1274 : BitVec 32 := v1273
  let v1275 : Index := Scalar.indexCast v1274
  ![0, 0, 3, v1275.toNat]
def k0_mult30 (i : grid0.Coords) (k0_t2 : Fin (k0_t2_loop i).trips) : BitVec 32 :=
  let c2_i32_79 : BitVec 32 := 2#32
  let c0_i32_49 : BitVec 32 := 0#32
  let arg2 : BitVec 32 := BitVec.ofNat 32 (i 2).val
  let c0_i32_43 : BitVec 32 := 0#32
  let v79 : BitVec 1 := Scalar.cmpi .sgt arg2 c0_i32_43
  let v80 : BitVec 32 := Scalar.extui v79
  let c0_i32_44 : BitVec 32 := 0#32
  let v81 : BitVec 1 := Scalar.cmpi .slt arg2 c0_i32_44
  let v82 : BitVec 32 := Scalar.extui v81
  let v83 : BitVec 32 := Scalar.subi v80 v82
  let c2_i32 : BitVec 32 := 2#32
  let c0_i32_45 : BitVec 32 := 0#32
  let v84 : BitVec 1 := Scalar.cmpi .sgt c2_i32 c0_i32_45
  let v85 : BitVec 32 := Scalar.extui v84
  let c0_i32_46 : BitVec 32 := 0#32
  let v86 : BitVec 1 := Scalar.cmpi .slt c2_i32 c0_i32_46
  let v87 : BitVec 32 := Scalar.extui v86
  let v88 : BitVec 32 := Scalar.subi v85 v87
  let v89 : BitVec 1 := Scalar.cmpi .ne v83 v88
  let v90 : BitVec 32 := Scalar.remsi arg2 c2_i32
  let c0_i32_47 : BitVec 32 := 0#32
  let v91 : BitVec 1 := Scalar.cmpi .ne v90 c0_i32_47
  let v92 : BitVec 1 := Scalar.andi v89 v91
  let v78 : BitVec 32 := Scalar.divsi arg2 c2_i32
  let c1_i32 : BitVec 32 := 1#32
  let v93 : BitVec 32 := Scalar.subi v78 c1_i32
  let v94 : BitVec 32 := Scalar.select v92 v93 v78
  let v95 : BitVec 32 := Scalar.subi v94 c0_i32_49
  let c1_i32_50 : BitVec 32 := 1#32
  let v97 : BitVec 32 := Scalar.divsi v95 c1_i32_50
  let v98 : BitVec 32 := Scalar.muli v97 c1_i32_50
  let v99 : BitVec 32 := Scalar.addi c0_i32_49 v98
  let c1_i32_52 : BitVec 32 := 1#32
  let arg21 : BitVec 32 := Scf.iv v99 c1_i32_52 k0_t2
  let v143 : BitVec 32 := Scalar.muli c2_i32_79 arg21
  let c256_i32_629 : BitVec 32 := 256#32
  let v1278 : BitVec 32 := Scalar.muli v143 c256_i32_629
  let c128_i32_630 : BitVec 32 := 128#32
  let v1279 : BitVec 32 := Scalar.addi v1278 c128_i32_630
  v1279
def k0_mult31 (i : grid0.Coords) (k0_t2 : Fin (k0_t2_loop i).trips) : BitVec 32 :=
  let c2_i32_79 : BitVec 32 := 2#32
  let c0_i32_49 : BitVec 32 := 0#32
  let arg2 : BitVec 32 := BitVec.ofNat 32 (i 2).val
  let c0_i32_43 : BitVec 32 := 0#32
  let v79 : BitVec 1 := Scalar.cmpi .sgt arg2 c0_i32_43
  let v80 : BitVec 32 := Scalar.extui v79
  let c0_i32_44 : BitVec 32 := 0#32
  let v81 : BitVec 1 := Scalar.cmpi .slt arg2 c0_i32_44
  let v82 : BitVec 32 := Scalar.extui v81
  let v83 : BitVec 32 := Scalar.subi v80 v82
  let c2_i32 : BitVec 32 := 2#32
  let c0_i32_45 : BitVec 32 := 0#32
  let v84 : BitVec 1 := Scalar.cmpi .sgt c2_i32 c0_i32_45
  let v85 : BitVec 32 := Scalar.extui v84
  let c0_i32_46 : BitVec 32 := 0#32
  let v86 : BitVec 1 := Scalar.cmpi .slt c2_i32 c0_i32_46
  let v87 : BitVec 32 := Scalar.extui v86
  let v88 : BitVec 32 := Scalar.subi v85 v87
  let v89 : BitVec 1 := Scalar.cmpi .ne v83 v88
  let v90 : BitVec 32 := Scalar.remsi arg2 c2_i32
  let c0_i32_47 : BitVec 32 := 0#32
  let v91 : BitVec 1 := Scalar.cmpi .ne v90 c0_i32_47
  let v92 : BitVec 1 := Scalar.andi v89 v91
  let v78 : BitVec 32 := Scalar.divsi arg2 c2_i32
  let c1_i32 : BitVec 32 := 1#32
  let v93 : BitVec 32 := Scalar.subi v78 c1_i32
  let v94 : BitVec 32 := Scalar.select v92 v93 v78
  let v95 : BitVec 32 := Scalar.subi v94 c0_i32_49
  let c1_i32_50 : BitVec 32 := 1#32
  let v97 : BitVec 32 := Scalar.divsi v95 c1_i32_50
  let v98 : BitVec 32 := Scalar.muli v97 c1_i32_50
  let v99 : BitVec 32 := Scalar.addi c0_i32_49 v98
  let c1_i32_52 : BitVec 32 := 1#32
  let arg21 : BitVec 32 := Scf.iv v99 c1_i32_52 k0_t2
  let v143 : BitVec 32 := Scalar.muli c2_i32_79 arg21
  let c256_i32_803 : BitVec 32 := 256#32
  let v1644 : BitVec 32 := Scalar.muli v143 c256_i32_803
  v1644
def k0_off16 (i : grid0.Coords) (k0_t2 : Fin (k0_t2_loop i).trips) : Fin 3 → Nat :=
  let c0_804 : Index := 0#32
  let c2_i32_79 : BitVec 32 := 2#32
  let c0_i32_49 : BitVec 32 := 0#32
  let arg2 : BitVec 32 := BitVec.ofNat 32 (i 2).val
  let c0_i32_43 : BitVec 32 := 0#32
  let v79 : BitVec 1 := Scalar.cmpi .sgt arg2 c0_i32_43
  let v80 : BitVec 32 := Scalar.extui v79
  let c0_i32_44 : BitVec 32 := 0#32
  let v81 : BitVec 1 := Scalar.cmpi .slt arg2 c0_i32_44
  let v82 : BitVec 32 := Scalar.extui v81
  let v83 : BitVec 32 := Scalar.subi v80 v82
  let c2_i32 : BitVec 32 := 2#32
  let c0_i32_45 : BitVec 32 := 0#32
  let v84 : BitVec 1 := Scalar.cmpi .sgt c2_i32 c0_i32_45
  let v85 : BitVec 32 := Scalar.extui v84
  let c0_i32_46 : BitVec 32 := 0#32
  let v86 : BitVec 1 := Scalar.cmpi .slt c2_i32 c0_i32_46
  let v87 : BitVec 32 := Scalar.extui v86
  let v88 : BitVec 32 := Scalar.subi v85 v87
  let v89 : BitVec 1 := Scalar.cmpi .ne v83 v88
  let v90 : BitVec 32 := Scalar.remsi arg2 c2_i32
  let c0_i32_47 : BitVec 32 := 0#32
  let v91 : BitVec 1 := Scalar.cmpi .ne v90 c0_i32_47
  let v92 : BitVec 1 := Scalar.andi v89 v91
  let v78 : BitVec 32 := Scalar.divsi arg2 c2_i32
  let c1_i32 : BitVec 32 := 1#32
  let v93 : BitVec 32 := Scalar.subi v78 c1_i32
  let v94 : BitVec 32 := Scalar.select v92 v93 v78
  let v95 : BitVec 32 := Scalar.subi v94 c0_i32_49
  let c1_i32_50 : BitVec 32 := 1#32
  let v97 : BitVec 32 := Scalar.divsi v95 c1_i32_50
  let v98 : BitVec 32 := Scalar.muli v97 c1_i32_50
  let v99 : BitVec 32 := Scalar.addi c0_i32_49 v98
  let c1_i32_52 : BitVec 32 := 1#32
  let arg21 : BitVec 32 := Scf.iv v99 c1_i32_52 k0_t2
  let v143 : BitVec 32 := Scalar.muli c2_i32_79 arg21
  let c256_i32_803 : BitVec 32 := 256#32
  let v1644 : BitVec 32 := Scalar.muli v143 c256_i32_803
  let v1645 : BitVec 32 := v1644
  let v1646 : Index := Scalar.indexCast v1645
  let c0_805 : Index := 0#32
  ![0, v1646.toNat, 0]
def k0_mult32 (i : grid0.Coords) (k0_t2 : Fin (k0_t2_loop i).trips) : BitVec 32 :=
  let c2_i32_79 : BitVec 32 := 2#32
  let c0_i32_49 : BitVec 32 := 0#32
  let arg2 : BitVec 32 := BitVec.ofNat 32 (i 2).val
  let c0_i32_43 : BitVec 32 := 0#32
  let v79 : BitVec 1 := Scalar.cmpi .sgt arg2 c0_i32_43
  let v80 : BitVec 32 := Scalar.extui v79
  let c0_i32_44 : BitVec 32 := 0#32
  let v81 : BitVec 1 := Scalar.cmpi .slt arg2 c0_i32_44
  let v82 : BitVec 32 := Scalar.extui v81
  let v83 : BitVec 32 := Scalar.subi v80 v82
  let c2_i32 : BitVec 32 := 2#32
  let c0_i32_45 : BitVec 32 := 0#32
  let v84 : BitVec 1 := Scalar.cmpi .sgt c2_i32 c0_i32_45
  let v85 : BitVec 32 := Scalar.extui v84
  let c0_i32_46 : BitVec 32 := 0#32
  let v86 : BitVec 1 := Scalar.cmpi .slt c2_i32 c0_i32_46
  let v87 : BitVec 32 := Scalar.extui v86
  let v88 : BitVec 32 := Scalar.subi v85 v87
  let v89 : BitVec 1 := Scalar.cmpi .ne v83 v88
  let v90 : BitVec 32 := Scalar.remsi arg2 c2_i32
  let c0_i32_47 : BitVec 32 := 0#32
  let v91 : BitVec 1 := Scalar.cmpi .ne v90 c0_i32_47
  let v92 : BitVec 1 := Scalar.andi v89 v91
  let v78 : BitVec 32 := Scalar.divsi arg2 c2_i32
  let c1_i32 : BitVec 32 := 1#32
  let v93 : BitVec 32 := Scalar.subi v78 c1_i32
  let v94 : BitVec 32 := Scalar.select v92 v93 v78
  let v95 : BitVec 32 := Scalar.subi v94 c0_i32_49
  let c1_i32_50 : BitVec 32 := 1#32
  let v97 : BitVec 32 := Scalar.divsi v95 c1_i32_50
  let v98 : BitVec 32 := Scalar.muli v97 c1_i32_50
  let v99 : BitVec 32 := Scalar.addi c0_i32_49 v98
  let c1_i32_52 : BitVec 32 := 1#32
  let arg21 : BitVec 32 := Scf.iv v99 c1_i32_52 k0_t2
  let v143 : BitVec 32 := Scalar.muli c2_i32_79 arg21
  let c2_i32_815 : BitVec 32 := 2#32
  let v1659 : BitVec 32 := Scalar.addi v143 c2_i32_815
  let c256_i32_816 : BitVec 32 := 256#32
  let v1660 : BitVec 32 := Scalar.muli v1659 c256_i32_816
  v1660
def k0_mult33 (i : grid0.Coords) (k0_t2 : Fin (k0_t2_loop i).trips) : BitVec 32 :=
  let c2_i32_79 : BitVec 32 := 2#32
  let c0_i32_49 : BitVec 32 := 0#32
  let arg2 : BitVec 32 := BitVec.ofNat 32 (i 2).val
  let c0_i32_43 : BitVec 32 := 0#32
  let v79 : BitVec 1 := Scalar.cmpi .sgt arg2 c0_i32_43
  let v80 : BitVec 32 := Scalar.extui v79
  let c0_i32_44 : BitVec 32 := 0#32
  let v81 : BitVec 1 := Scalar.cmpi .slt arg2 c0_i32_44
  let v82 : BitVec 32 := Scalar.extui v81
  let v83 : BitVec 32 := Scalar.subi v80 v82
  let c2_i32 : BitVec 32 := 2#32
  let c0_i32_45 : BitVec 32 := 0#32
  let v84 : BitVec 1 := Scalar.cmpi .sgt c2_i32 c0_i32_45
  let v85 : BitVec 32 := Scalar.extui v84
  let c0_i32_46 : BitVec 32 := 0#32
  let v86 : BitVec 1 := Scalar.cmpi .slt c2_i32 c0_i32_46
  let v87 : BitVec 32 := Scalar.extui v86
  let v88 : BitVec 32 := Scalar.subi v85 v87
  let v89 : BitVec 1 := Scalar.cmpi .ne v83 v88
  let v90 : BitVec 32 := Scalar.remsi arg2 c2_i32
  let c0_i32_47 : BitVec 32 := 0#32
  let v91 : BitVec 1 := Scalar.cmpi .ne v90 c0_i32_47
  let v92 : BitVec 1 := Scalar.andi v89 v91
  let v78 : BitVec 32 := Scalar.divsi arg2 c2_i32
  let c1_i32 : BitVec 32 := 1#32
  let v93 : BitVec 32 := Scalar.subi v78 c1_i32
  let v94 : BitVec 32 := Scalar.select v92 v93 v78
  let v95 : BitVec 32 := Scalar.subi v94 c0_i32_49
  let c1_i32_50 : BitVec 32 := 1#32
  let v97 : BitVec 32 := Scalar.divsi v95 c1_i32_50
  let v98 : BitVec 32 := Scalar.muli v97 c1_i32_50
  let v99 : BitVec 32 := Scalar.addi c0_i32_49 v98
  let c1_i32_52 : BitVec 32 := 1#32
  let arg21 : BitVec 32 := Scf.iv v99 c1_i32_52 k0_t2
  let v143 : BitVec 32 := Scalar.muli c2_i32_79 arg21
  let c1_i32_824 : BitVec 32 := 1#32
  let v1671 : BitVec 32 := Scalar.addi v143 c1_i32_824
  let c256_i32_825 : BitVec 32 := 256#32
  let v1672 : BitVec 32 := Scalar.muli v1671 c256_i32_825
  let c0_i32_826 : BitVec 32 := 0#32
  let v1673 : BitVec 32 := Scalar.addi v1672 c0_i32_826
  v1673
def k0_off17 (i : grid0.Coords) (k0_t2 : Fin (k0_t2_loop i).trips) (c0_i32_826 : BitVec 32) : Fin 4 → Nat :=
  let c0_827 : Index := 0#32
  let c0_828 : Index := 0#32
  let c0_829 : Index := 0#32
  let c2_i32_79 : BitVec 32 := 2#32
  let c0_i32_49 : BitVec 32 := 0#32
  let arg2 : BitVec 32 := BitVec.ofNat 32 (i 2).val
  let c0_i32_43 : BitVec 32 := 0#32
  let v79 : BitVec 1 := Scalar.cmpi .sgt arg2 c0_i32_43
  let v80 : BitVec 32 := Scalar.extui v79
  let c0_i32_44 : BitVec 32 := 0#32
  let v81 : BitVec 1 := Scalar.cmpi .slt arg2 c0_i32_44
  let v82 : BitVec 32 := Scalar.extui v81
  let v83 : BitVec 32 := Scalar.subi v80 v82
  let c2_i32 : BitVec 32 := 2#32
  let c0_i32_45 : BitVec 32 := 0#32
  let v84 : BitVec 1 := Scalar.cmpi .sgt c2_i32 c0_i32_45
  let v85 : BitVec 32 := Scalar.extui v84
  let c0_i32_46 : BitVec 32 := 0#32
  let v86 : BitVec 1 := Scalar.cmpi .slt c2_i32 c0_i32_46
  let v87 : BitVec 32 := Scalar.extui v86
  let v88 : BitVec 32 := Scalar.subi v85 v87
  let v89 : BitVec 1 := Scalar.cmpi .ne v83 v88
  let v90 : BitVec 32 := Scalar.remsi arg2 c2_i32
  let c0_i32_47 : BitVec 32 := 0#32
  let v91 : BitVec 1 := Scalar.cmpi .ne v90 c0_i32_47
  let v92 : BitVec 1 := Scalar.andi v89 v91
  let v78 : BitVec 32 := Scalar.divsi arg2 c2_i32
  let c1_i32 : BitVec 32 := 1#32
  let v93 : BitVec 32 := Scalar.subi v78 c1_i32
  let v94 : BitVec 32 := Scalar.select v92 v93 v78
  let v95 : BitVec 32 := Scalar.subi v94 c0_i32_49
  let c1_i32_50 : BitVec 32 := 1#32
  let v97 : BitVec 32 := Scalar.divsi v95 c1_i32_50
  let v98 : BitVec 32 := Scalar.muli v97 c1_i32_50
  let v99 : BitVec 32 := Scalar.addi c0_i32_49 v98
  let c1_i32_52 : BitVec 32 := 1#32
  let arg21 : BitVec 32 := Scf.iv v99 c1_i32_52 k0_t2
  let v143 : BitVec 32 := Scalar.muli c2_i32_79 arg21
  let c1_i32_824 : BitVec 32 := 1#32
  let v1671 : BitVec 32 := Scalar.addi v143 c1_i32_824
  let c256_i32_825 : BitVec 32 := 256#32
  let v1672 : BitVec 32 := Scalar.muli v1671 c256_i32_825
  let v1673 : BitVec 32 := Scalar.addi v1672 c0_i32_826
  let v1674 : BitVec 32 := v1673
  let v1675 : Index := Scalar.indexCast v1674
  ![0, 0, 0, v1675.toNat]
def k0_mult34 (i : grid0.Coords) (k0_t2 : Fin (k0_t2_loop i).trips) : BitVec 32 :=
  let c2_i32_79 : BitVec 32 := 2#32
  let c0_i32_49 : BitVec 32 := 0#32
  let arg2 : BitVec 32 := BitVec.ofNat 32 (i 2).val
  let c0_i32_43 : BitVec 32 := 0#32
  let v79 : BitVec 1 := Scalar.cmpi .sgt arg2 c0_i32_43
  let v80 : BitVec 32 := Scalar.extui v79
  let c0_i32_44 : BitVec 32 := 0#32
  let v81 : BitVec 1 := Scalar.cmpi .slt arg2 c0_i32_44
  let v82 : BitVec 32 := Scalar.extui v81
  let v83 : BitVec 32 := Scalar.subi v80 v82
  let c2_i32 : BitVec 32 := 2#32
  let c0_i32_45 : BitVec 32 := 0#32
  let v84 : BitVec 1 := Scalar.cmpi .sgt c2_i32 c0_i32_45
  let v85 : BitVec 32 := Scalar.extui v84
  let c0_i32_46 : BitVec 32 := 0#32
  let v86 : BitVec 1 := Scalar.cmpi .slt c2_i32 c0_i32_46
  let v87 : BitVec 32 := Scalar.extui v86
  let v88 : BitVec 32 := Scalar.subi v85 v87
  let v89 : BitVec 1 := Scalar.cmpi .ne v83 v88
  let v90 : BitVec 32 := Scalar.remsi arg2 c2_i32
  let c0_i32_47 : BitVec 32 := 0#32
  let v91 : BitVec 1 := Scalar.cmpi .ne v90 c0_i32_47
  let v92 : BitVec 1 := Scalar.andi v89 v91
  let v78 : BitVec 32 := Scalar.divsi arg2 c2_i32
  let c1_i32 : BitVec 32 := 1#32
  let v93 : BitVec 32 := Scalar.subi v78 c1_i32
  let v94 : BitVec 32 := Scalar.select v92 v93 v78
  let v95 : BitVec 32 := Scalar.subi v94 c0_i32_49
  let c1_i32_50 : BitVec 32 := 1#32
  let v97 : BitVec 32 := Scalar.divsi v95 c1_i32_50
  let v98 : BitVec 32 := Scalar.muli v97 c1_i32_50
  let v99 : BitVec 32 := Scalar.addi c0_i32_49 v98
  let c1_i32_52 : BitVec 32 := 1#32
  let arg21 : BitVec 32 := Scf.iv v99 c1_i32_52 k0_t2
  let v143 : BitVec 32 := Scalar.muli c2_i32_79 arg21
  let c1_i32_824 : BitVec 32 := 1#32
  let v1671 : BitVec 32 := Scalar.addi v143 c1_i32_824
  let c256_i32_830 : BitVec 32 := 256#32
  let v1678 : BitVec 32 := Scalar.muli v1671 c256_i32_830
  let c128_i32_831 : BitVec 32 := 128#32
  let v1679 : BitVec 32 := Scalar.addi v1678 c128_i32_831
  v1679
def k0_mult35 (i : grid0.Coords) (k0_t2 : Fin (k0_t2_loop i).trips) : BitVec 32 :=
  let c2_i32_79 : BitVec 32 := 2#32
  let c0_i32_49 : BitVec 32 := 0#32
  let arg2 : BitVec 32 := BitVec.ofNat 32 (i 2).val
  let c0_i32_43 : BitVec 32 := 0#32
  let v79 : BitVec 1 := Scalar.cmpi .sgt arg2 c0_i32_43
  let v80 : BitVec 32 := Scalar.extui v79
  let c0_i32_44 : BitVec 32 := 0#32
  let v81 : BitVec 1 := Scalar.cmpi .slt arg2 c0_i32_44
  let v82 : BitVec 32 := Scalar.extui v81
  let v83 : BitVec 32 := Scalar.subi v80 v82
  let c2_i32 : BitVec 32 := 2#32
  let c0_i32_45 : BitVec 32 := 0#32
  let v84 : BitVec 1 := Scalar.cmpi .sgt c2_i32 c0_i32_45
  let v85 : BitVec 32 := Scalar.extui v84
  let c0_i32_46 : BitVec 32 := 0#32
  let v86 : BitVec 1 := Scalar.cmpi .slt c2_i32 c0_i32_46
  let v87 : BitVec 32 := Scalar.extui v86
  let v88 : BitVec 32 := Scalar.subi v85 v87
  let v89 : BitVec 1 := Scalar.cmpi .ne v83 v88
  let v90 : BitVec 32 := Scalar.remsi arg2 c2_i32
  let c0_i32_47 : BitVec 32 := 0#32
  let v91 : BitVec 1 := Scalar.cmpi .ne v90 c0_i32_47
  let v92 : BitVec 1 := Scalar.andi v89 v91
  let v78 : BitVec 32 := Scalar.divsi arg2 c2_i32
  let c1_i32 : BitVec 32 := 1#32
  let v93 : BitVec 32 := Scalar.subi v78 c1_i32
  let v94 : BitVec 32 := Scalar.select v92 v93 v78
  let v95 : BitVec 32 := Scalar.subi v94 c0_i32_49
  let c1_i32_50 : BitVec 32 := 1#32
  let v97 : BitVec 32 := Scalar.divsi v95 c1_i32_50
  let v98 : BitVec 32 := Scalar.muli v97 c1_i32_50
  let v99 : BitVec 32 := Scalar.addi c0_i32_49 v98
  let c1_i32_52 : BitVec 32 := 1#32
  let arg21 : BitVec 32 := Scf.iv v99 c1_i32_52 k0_t2
  let v143 : BitVec 32 := Scalar.muli c2_i32_79 arg21
  let c1_i32_824 : BitVec 32 := 1#32
  let v1671 : BitVec 32 := Scalar.addi v143 c1_i32_824
  let c256_i32_1011 : BitVec 32 := 256#32
  let v2044 : BitVec 32 := Scalar.muli v1671 c256_i32_1011
  let c0_i32_1012 : BitVec 32 := 0#32
  let v2045 : BitVec 32 := Scalar.addi v2044 c0_i32_1012
  v2045
def k0_off18 (i : grid0.Coords) (k0_t2 : Fin (k0_t2_loop i).trips) (c0_i32_1012 : BitVec 32) : Fin 4 → Nat :=
  let c0_1013 : Index := 0#32
  let c0_1014 : Index := 0#32
  let c1_1015 : Index := 1#32
  let c2_i32_79 : BitVec 32 := 2#32
  let c0_i32_49 : BitVec 32 := 0#32
  let arg2 : BitVec 32 := BitVec.ofNat 32 (i 2).val
  let c0_i32_43 : BitVec 32 := 0#32
  let v79 : BitVec 1 := Scalar.cmpi .sgt arg2 c0_i32_43
  let v80 : BitVec 32 := Scalar.extui v79
  let c0_i32_44 : BitVec 32 := 0#32
  let v81 : BitVec 1 := Scalar.cmpi .slt arg2 c0_i32_44
  let v82 : BitVec 32 := Scalar.extui v81
  let v83 : BitVec 32 := Scalar.subi v80 v82
  let c2_i32 : BitVec 32 := 2#32
  let c0_i32_45 : BitVec 32 := 0#32
  let v84 : BitVec 1 := Scalar.cmpi .sgt c2_i32 c0_i32_45
  let v85 : BitVec 32 := Scalar.extui v84
  let c0_i32_46 : BitVec 32 := 0#32
  let v86 : BitVec 1 := Scalar.cmpi .slt c2_i32 c0_i32_46
  let v87 : BitVec 32 := Scalar.extui v86
  let v88 : BitVec 32 := Scalar.subi v85 v87
  let v89 : BitVec 1 := Scalar.cmpi .ne v83 v88
  let v90 : BitVec 32 := Scalar.remsi arg2 c2_i32
  let c0_i32_47 : BitVec 32 := 0#32
  let v91 : BitVec 1 := Scalar.cmpi .ne v90 c0_i32_47
  let v92 : BitVec 1 := Scalar.andi v89 v91
  let v78 : BitVec 32 := Scalar.divsi arg2 c2_i32
  let c1_i32 : BitVec 32 := 1#32
  let v93 : BitVec 32 := Scalar.subi v78 c1_i32
  let v94 : BitVec 32 := Scalar.select v92 v93 v78
  let v95 : BitVec 32 := Scalar.subi v94 c0_i32_49
  let c1_i32_50 : BitVec 32 := 1#32
  let v97 : BitVec 32 := Scalar.divsi v95 c1_i32_50
  let v98 : BitVec 32 := Scalar.muli v97 c1_i32_50
  let v99 : BitVec 32 := Scalar.addi c0_i32_49 v98
  let c1_i32_52 : BitVec 32 := 1#32
  let arg21 : BitVec 32 := Scf.iv v99 c1_i32_52 k0_t2
  let v143 : BitVec 32 := Scalar.muli c2_i32_79 arg21
  let c1_i32_824 : BitVec 32 := 1#32
  let v1671 : BitVec 32 := Scalar.addi v143 c1_i32_824
  let c256_i32_1011 : BitVec 32 := 256#32
  let v2044 : BitVec 32 := Scalar.muli v1671 c256_i32_1011
  let v2045 : BitVec 32 := Scalar.addi v2044 c0_i32_1012
  let v2046 : BitVec 32 := v2045
  let v2047 : Index := Scalar.indexCast v2046
  ![0, 0, 1, v2047.toNat]
def k0_mult36 (i : grid0.Coords) (k0_t2 : Fin (k0_t2_loop i).trips) : BitVec 32 :=
  let c2_i32_79 : BitVec 32 := 2#32
  let c0_i32_49 : BitVec 32 := 0#32
  let arg2 : BitVec 32 := BitVec.ofNat 32 (i 2).val
  let c0_i32_43 : BitVec 32 := 0#32
  let v79 : BitVec 1 := Scalar.cmpi .sgt arg2 c0_i32_43
  let v80 : BitVec 32 := Scalar.extui v79
  let c0_i32_44 : BitVec 32 := 0#32
  let v81 : BitVec 1 := Scalar.cmpi .slt arg2 c0_i32_44
  let v82 : BitVec 32 := Scalar.extui v81
  let v83 : BitVec 32 := Scalar.subi v80 v82
  let c2_i32 : BitVec 32 := 2#32
  let c0_i32_45 : BitVec 32 := 0#32
  let v84 : BitVec 1 := Scalar.cmpi .sgt c2_i32 c0_i32_45
  let v85 : BitVec 32 := Scalar.extui v84
  let c0_i32_46 : BitVec 32 := 0#32
  let v86 : BitVec 1 := Scalar.cmpi .slt c2_i32 c0_i32_46
  let v87 : BitVec 32 := Scalar.extui v86
  let v88 : BitVec 32 := Scalar.subi v85 v87
  let v89 : BitVec 1 := Scalar.cmpi .ne v83 v88
  let v90 : BitVec 32 := Scalar.remsi arg2 c2_i32
  let c0_i32_47 : BitVec 32 := 0#32
  let v91 : BitVec 1 := Scalar.cmpi .ne v90 c0_i32_47
  let v92 : BitVec 1 := Scalar.andi v89 v91
  let v78 : BitVec 32 := Scalar.divsi arg2 c2_i32
  let c1_i32 : BitVec 32 := 1#32
  let v93 : BitVec 32 := Scalar.subi v78 c1_i32
  let v94 : BitVec 32 := Scalar.select v92 v93 v78
  let v95 : BitVec 32 := Scalar.subi v94 c0_i32_49
  let c1_i32_50 : BitVec 32 := 1#32
  let v97 : BitVec 32 := Scalar.divsi v95 c1_i32_50
  let v98 : BitVec 32 := Scalar.muli v97 c1_i32_50
  let v99 : BitVec 32 := Scalar.addi c0_i32_49 v98
  let c1_i32_52 : BitVec 32 := 1#32
  let arg21 : BitVec 32 := Scf.iv v99 c1_i32_52 k0_t2
  let v143 : BitVec 32 := Scalar.muli c2_i32_79 arg21
  let c1_i32_824 : BitVec 32 := 1#32
  let v1671 : BitVec 32 := Scalar.addi v143 c1_i32_824
  let c256_i32_1016 : BitVec 32 := 256#32
  let v2050 : BitVec 32 := Scalar.muli v1671 c256_i32_1016
  let c128_i32_1017 : BitVec 32 := 128#32
  let v2051 : BitVec 32 := Scalar.addi v2050 c128_i32_1017
  v2051
def k0_mult37 (i : grid0.Coords) (k0_t2 : Fin (k0_t2_loop i).trips) : BitVec 32 :=
  let c2_i32_79 : BitVec 32 := 2#32
  let c0_i32_49 : BitVec 32 := 0#32
  let arg2 : BitVec 32 := BitVec.ofNat 32 (i 2).val
  let c0_i32_43 : BitVec 32 := 0#32
  let v79 : BitVec 1 := Scalar.cmpi .sgt arg2 c0_i32_43
  let v80 : BitVec 32 := Scalar.extui v79
  let c0_i32_44 : BitVec 32 := 0#32
  let v81 : BitVec 1 := Scalar.cmpi .slt arg2 c0_i32_44
  let v82 : BitVec 32 := Scalar.extui v81
  let v83 : BitVec 32 := Scalar.subi v80 v82
  let c2_i32 : BitVec 32 := 2#32
  let c0_i32_45 : BitVec 32 := 0#32
  let v84 : BitVec 1 := Scalar.cmpi .sgt c2_i32 c0_i32_45
  let v85 : BitVec 32 := Scalar.extui v84
  let c0_i32_46 : BitVec 32 := 0#32
  let v86 : BitVec 1 := Scalar.cmpi .slt c2_i32 c0_i32_46
  let v87 : BitVec 32 := Scalar.extui v86
  let v88 : BitVec 32 := Scalar.subi v85 v87
  let v89 : BitVec 1 := Scalar.cmpi .ne v83 v88
  let v90 : BitVec 32 := Scalar.remsi arg2 c2_i32
  let c0_i32_47 : BitVec 32 := 0#32
  let v91 : BitVec 1 := Scalar.cmpi .ne v90 c0_i32_47
  let v92 : BitVec 1 := Scalar.andi v89 v91
  let v78 : BitVec 32 := Scalar.divsi arg2 c2_i32
  let c1_i32 : BitVec 32 := 1#32
  let v93 : BitVec 32 := Scalar.subi v78 c1_i32
  let v94 : BitVec 32 := Scalar.select v92 v93 v78
  let v95 : BitVec 32 := Scalar.subi v94 c0_i32_49
  let c1_i32_50 : BitVec 32 := 1#32
  let v97 : BitVec 32 := Scalar.divsi v95 c1_i32_50
  let v98 : BitVec 32 := Scalar.muli v97 c1_i32_50
  let v99 : BitVec 32 := Scalar.addi c0_i32_49 v98
  let c1_i32_52 : BitVec 32 := 1#32
  let arg21 : BitVec 32 := Scf.iv v99 c1_i32_52 k0_t2
  let v143 : BitVec 32 := Scalar.muli c2_i32_79 arg21
  let c1_i32_824 : BitVec 32 := 1#32
  let v1671 : BitVec 32 := Scalar.addi v143 c1_i32_824
  let c256_i32_1197 : BitVec 32 := 256#32
  let v2416 : BitVec 32 := Scalar.muli v1671 c256_i32_1197
  let c0_i32_1198 : BitVec 32 := 0#32
  let v2417 : BitVec 32 := Scalar.addi v2416 c0_i32_1198
  v2417
def k0_off19 (i : grid0.Coords) (k0_t2 : Fin (k0_t2_loop i).trips) (c0_i32_1198 : BitVec 32) : Fin 4 → Nat :=
  let c0_1199 : Index := 0#32
  let c0_1200 : Index := 0#32
  let c2_1201 : Index := 2#32
  let c2_i32_79 : BitVec 32 := 2#32
  let c0_i32_49 : BitVec 32 := 0#32
  let arg2 : BitVec 32 := BitVec.ofNat 32 (i 2).val
  let c0_i32_43 : BitVec 32 := 0#32
  let v79 : BitVec 1 := Scalar.cmpi .sgt arg2 c0_i32_43
  let v80 : BitVec 32 := Scalar.extui v79
  let c0_i32_44 : BitVec 32 := 0#32
  let v81 : BitVec 1 := Scalar.cmpi .slt arg2 c0_i32_44
  let v82 : BitVec 32 := Scalar.extui v81
  let v83 : BitVec 32 := Scalar.subi v80 v82
  let c2_i32 : BitVec 32 := 2#32
  let c0_i32_45 : BitVec 32 := 0#32
  let v84 : BitVec 1 := Scalar.cmpi .sgt c2_i32 c0_i32_45
  let v85 : BitVec 32 := Scalar.extui v84
  let c0_i32_46 : BitVec 32 := 0#32
  let v86 : BitVec 1 := Scalar.cmpi .slt c2_i32 c0_i32_46
  let v87 : BitVec 32 := Scalar.extui v86
  let v88 : BitVec 32 := Scalar.subi v85 v87
  let v89 : BitVec 1 := Scalar.cmpi .ne v83 v88
  let v90 : BitVec 32 := Scalar.remsi arg2 c2_i32
  let c0_i32_47 : BitVec 32 := 0#32
  let v91 : BitVec 1 := Scalar.cmpi .ne v90 c0_i32_47
  let v92 : BitVec 1 := Scalar.andi v89 v91
  let v78 : BitVec 32 := Scalar.divsi arg2 c2_i32
  let c1_i32 : BitVec 32 := 1#32
  let v93 : BitVec 32 := Scalar.subi v78 c1_i32
  let v94 : BitVec 32 := Scalar.select v92 v93 v78
  let v95 : BitVec 32 := Scalar.subi v94 c0_i32_49
  let c1_i32_50 : BitVec 32 := 1#32
  let v97 : BitVec 32 := Scalar.divsi v95 c1_i32_50
  let v98 : BitVec 32 := Scalar.muli v97 c1_i32_50
  let v99 : BitVec 32 := Scalar.addi c0_i32_49 v98
  let c1_i32_52 : BitVec 32 := 1#32
  let arg21 : BitVec 32 := Scf.iv v99 c1_i32_52 k0_t2
  let v143 : BitVec 32 := Scalar.muli c2_i32_79 arg21
  let c1_i32_824 : BitVec 32 := 1#32
  let v1671 : BitVec 32 := Scalar.addi v143 c1_i32_824
  let c256_i32_1197 : BitVec 32 := 256#32
  let v2416 : BitVec 32 := Scalar.muli v1671 c256_i32_1197
  let v2417 : BitVec 32 := Scalar.addi v2416 c0_i32_1198
  let v2418 : BitVec 32 := v2417
  let v2419 : Index := Scalar.indexCast v2418
  ![0, 0, 2, v2419.toNat]
def k0_mult38 (i : grid0.Coords) (k0_t2 : Fin (k0_t2_loop i).trips) : BitVec 32 :=
  let c2_i32_79 : BitVec 32 := 2#32
  let c0_i32_49 : BitVec 32 := 0#32
  let arg2 : BitVec 32 := BitVec.ofNat 32 (i 2).val
  let c0_i32_43 : BitVec 32 := 0#32
  let v79 : BitVec 1 := Scalar.cmpi .sgt arg2 c0_i32_43
  let v80 : BitVec 32 := Scalar.extui v79
  let c0_i32_44 : BitVec 32 := 0#32
  let v81 : BitVec 1 := Scalar.cmpi .slt arg2 c0_i32_44
  let v82 : BitVec 32 := Scalar.extui v81
  let v83 : BitVec 32 := Scalar.subi v80 v82
  let c2_i32 : BitVec 32 := 2#32
  let c0_i32_45 : BitVec 32 := 0#32
  let v84 : BitVec 1 := Scalar.cmpi .sgt c2_i32 c0_i32_45
  let v85 : BitVec 32 := Scalar.extui v84
  let c0_i32_46 : BitVec 32 := 0#32
  let v86 : BitVec 1 := Scalar.cmpi .slt c2_i32 c0_i32_46
  let v87 : BitVec 32 := Scalar.extui v86
  let v88 : BitVec 32 := Scalar.subi v85 v87
  let v89 : BitVec 1 := Scalar.cmpi .ne v83 v88
  let v90 : BitVec 32 := Scalar.remsi arg2 c2_i32
  let c0_i32_47 : BitVec 32 := 0#32
  let v91 : BitVec 1 := Scalar.cmpi .ne v90 c0_i32_47
  let v92 : BitVec 1 := Scalar.andi v89 v91
  let v78 : BitVec 32 := Scalar.divsi arg2 c2_i32
  let c1_i32 : BitVec 32 := 1#32
  let v93 : BitVec 32 := Scalar.subi v78 c1_i32
  let v94 : BitVec 32 := Scalar.select v92 v93 v78
  let v95 : BitVec 32 := Scalar.subi v94 c0_i32_49
  let c1_i32_50 : BitVec 32 := 1#32
  let v97 : BitVec 32 := Scalar.divsi v95 c1_i32_50
  let v98 : BitVec 32 := Scalar.muli v97 c1_i32_50
  let v99 : BitVec 32 := Scalar.addi c0_i32_49 v98
  let c1_i32_52 : BitVec 32 := 1#32
  let arg21 : BitVec 32 := Scf.iv v99 c1_i32_52 k0_t2
  let v143 : BitVec 32 := Scalar.muli c2_i32_79 arg21
  let c1_i32_824 : BitVec 32 := 1#32
  let v1671 : BitVec 32 := Scalar.addi v143 c1_i32_824
  let c256_i32_1202 : BitVec 32 := 256#32
  let v2422 : BitVec 32 := Scalar.muli v1671 c256_i32_1202
  let c128_i32_1203 : BitVec 32 := 128#32
  let v2423 : BitVec 32 := Scalar.addi v2422 c128_i32_1203
  v2423
def k0_mult39 (i : grid0.Coords) (k0_t2 : Fin (k0_t2_loop i).trips) : BitVec 32 :=
  let c2_i32_79 : BitVec 32 := 2#32
  let c0_i32_49 : BitVec 32 := 0#32
  let arg2 : BitVec 32 := BitVec.ofNat 32 (i 2).val
  let c0_i32_43 : BitVec 32 := 0#32
  let v79 : BitVec 1 := Scalar.cmpi .sgt arg2 c0_i32_43
  let v80 : BitVec 32 := Scalar.extui v79
  let c0_i32_44 : BitVec 32 := 0#32
  let v81 : BitVec 1 := Scalar.cmpi .slt arg2 c0_i32_44
  let v82 : BitVec 32 := Scalar.extui v81
  let v83 : BitVec 32 := Scalar.subi v80 v82
  let c2_i32 : BitVec 32 := 2#32
  let c0_i32_45 : BitVec 32 := 0#32
  let v84 : BitVec 1 := Scalar.cmpi .sgt c2_i32 c0_i32_45
  let v85 : BitVec 32 := Scalar.extui v84
  let c0_i32_46 : BitVec 32 := 0#32
  let v86 : BitVec 1 := Scalar.cmpi .slt c2_i32 c0_i32_46
  let v87 : BitVec 32 := Scalar.extui v86
  let v88 : BitVec 32 := Scalar.subi v85 v87
  let v89 : BitVec 1 := Scalar.cmpi .ne v83 v88
  let v90 : BitVec 32 := Scalar.remsi arg2 c2_i32
  let c0_i32_47 : BitVec 32 := 0#32
  let v91 : BitVec 1 := Scalar.cmpi .ne v90 c0_i32_47
  let v92 : BitVec 1 := Scalar.andi v89 v91
  let v78 : BitVec 32 := Scalar.divsi arg2 c2_i32
  let c1_i32 : BitVec 32 := 1#32
  let v93 : BitVec 32 := Scalar.subi v78 c1_i32
  let v94 : BitVec 32 := Scalar.select v92 v93 v78
  let v95 : BitVec 32 := Scalar.subi v94 c0_i32_49
  let c1_i32_50 : BitVec 32 := 1#32
  let v97 : BitVec 32 := Scalar.divsi v95 c1_i32_50
  let v98 : BitVec 32 := Scalar.muli v97 c1_i32_50
  let v99 : BitVec 32 := Scalar.addi c0_i32_49 v98
  let c1_i32_52 : BitVec 32 := 1#32
  let arg21 : BitVec 32 := Scf.iv v99 c1_i32_52 k0_t2
  let v143 : BitVec 32 := Scalar.muli c2_i32_79 arg21
  let c1_i32_824 : BitVec 32 := 1#32
  let v1671 : BitVec 32 := Scalar.addi v143 c1_i32_824
  let c256_i32_1383 : BitVec 32 := 256#32
  let v2788 : BitVec 32 := Scalar.muli v1671 c256_i32_1383
  let c0_i32_1384 : BitVec 32 := 0#32
  let v2789 : BitVec 32 := Scalar.addi v2788 c0_i32_1384
  v2789
def k0_off20 (i : grid0.Coords) (k0_t2 : Fin (k0_t2_loop i).trips) (c0_i32_1384 : BitVec 32) : Fin 4 → Nat :=
  let c0_1385 : Index := 0#32
  let c0_1386 : Index := 0#32
  let c3_1387 : Index := 3#32
  let c2_i32_79 : BitVec 32 := 2#32
  let c0_i32_49 : BitVec 32 := 0#32
  let arg2 : BitVec 32 := BitVec.ofNat 32 (i 2).val
  let c0_i32_43 : BitVec 32 := 0#32
  let v79 : BitVec 1 := Scalar.cmpi .sgt arg2 c0_i32_43
  let v80 : BitVec 32 := Scalar.extui v79
  let c0_i32_44 : BitVec 32 := 0#32
  let v81 : BitVec 1 := Scalar.cmpi .slt arg2 c0_i32_44
  let v82 : BitVec 32 := Scalar.extui v81
  let v83 : BitVec 32 := Scalar.subi v80 v82
  let c2_i32 : BitVec 32 := 2#32
  let c0_i32_45 : BitVec 32 := 0#32
  let v84 : BitVec 1 := Scalar.cmpi .sgt c2_i32 c0_i32_45
  let v85 : BitVec 32 := Scalar.extui v84
  let c0_i32_46 : BitVec 32 := 0#32
  let v86 : BitVec 1 := Scalar.cmpi .slt c2_i32 c0_i32_46
  let v87 : BitVec 32 := Scalar.extui v86
  let v88 : BitVec 32 := Scalar.subi v85 v87
  let v89 : BitVec 1 := Scalar.cmpi .ne v83 v88
  let v90 : BitVec 32 := Scalar.remsi arg2 c2_i32
  let c0_i32_47 : BitVec 32 := 0#32
  let v91 : BitVec 1 := Scalar.cmpi .ne v90 c0_i32_47
  let v92 : BitVec 1 := Scalar.andi v89 v91
  let v78 : BitVec 32 := Scalar.divsi arg2 c2_i32
  let c1_i32 : BitVec 32 := 1#32
  let v93 : BitVec 32 := Scalar.subi v78 c1_i32
  let v94 : BitVec 32 := Scalar.select v92 v93 v78
  let v95 : BitVec 32 := Scalar.subi v94 c0_i32_49
  let c1_i32_50 : BitVec 32 := 1#32
  let v97 : BitVec 32 := Scalar.divsi v95 c1_i32_50
  let v98 : BitVec 32 := Scalar.muli v97 c1_i32_50
  let v99 : BitVec 32 := Scalar.addi c0_i32_49 v98
  let c1_i32_52 : BitVec 32 := 1#32
  let arg21 : BitVec 32 := Scf.iv v99 c1_i32_52 k0_t2
  let v143 : BitVec 32 := Scalar.muli c2_i32_79 arg21
  let c1_i32_824 : BitVec 32 := 1#32
  let v1671 : BitVec 32 := Scalar.addi v143 c1_i32_824
  let c256_i32_1383 : BitVec 32 := 256#32
  let v2788 : BitVec 32 := Scalar.muli v1671 c256_i32_1383
  let v2789 : BitVec 32 := Scalar.addi v2788 c0_i32_1384
  let v2790 : BitVec 32 := v2789
  let v2791 : Index := Scalar.indexCast v2790
  ![0, 0, 3, v2791.toNat]
def k0_mult40 (i : grid0.Coords) (k0_t2 : Fin (k0_t2_loop i).trips) : BitVec 32 :=
  let c2_i32_79 : BitVec 32 := 2#32
  let c0_i32_49 : BitVec 32 := 0#32
  let arg2 : BitVec 32 := BitVec.ofNat 32 (i 2).val
  let c0_i32_43 : BitVec 32 := 0#32
  let v79 : BitVec 1 := Scalar.cmpi .sgt arg2 c0_i32_43
  let v80 : BitVec 32 := Scalar.extui v79
  let c0_i32_44 : BitVec 32 := 0#32
  let v81 : BitVec 1 := Scalar.cmpi .slt arg2 c0_i32_44
  let v82 : BitVec 32 := Scalar.extui v81
  let v83 : BitVec 32 := Scalar.subi v80 v82
  let c2_i32 : BitVec 32 := 2#32
  let c0_i32_45 : BitVec 32 := 0#32
  let v84 : BitVec 1 := Scalar.cmpi .sgt c2_i32 c0_i32_45
  let v85 : BitVec 32 := Scalar.extui v84
  let c0_i32_46 : BitVec 32 := 0#32
  let v86 : BitVec 1 := Scalar.cmpi .slt c2_i32 c0_i32_46
  let v87 : BitVec 32 := Scalar.extui v86
  let v88 : BitVec 32 := Scalar.subi v85 v87
  let v89 : BitVec 1 := Scalar.cmpi .ne v83 v88
  let v90 : BitVec 32 := Scalar.remsi arg2 c2_i32
  let c0_i32_47 : BitVec 32 := 0#32
  let v91 : BitVec 1 := Scalar.cmpi .ne v90 c0_i32_47
  let v92 : BitVec 1 := Scalar.andi v89 v91
  let v78 : BitVec 32 := Scalar.divsi arg2 c2_i32
  let c1_i32 : BitVec 32 := 1#32
  let v93 : BitVec 32 := Scalar.subi v78 c1_i32
  let v94 : BitVec 32 := Scalar.select v92 v93 v78
  let v95 : BitVec 32 := Scalar.subi v94 c0_i32_49
  let c1_i32_50 : BitVec 32 := 1#32
  let v97 : BitVec 32 := Scalar.divsi v95 c1_i32_50
  let v98 : BitVec 32 := Scalar.muli v97 c1_i32_50
  let v99 : BitVec 32 := Scalar.addi c0_i32_49 v98
  let c1_i32_52 : BitVec 32 := 1#32
  let arg21 : BitVec 32 := Scf.iv v99 c1_i32_52 k0_t2
  let v143 : BitVec 32 := Scalar.muli c2_i32_79 arg21
  let c1_i32_824 : BitVec 32 := 1#32
  let v1671 : BitVec 32 := Scalar.addi v143 c1_i32_824
  let c256_i32_1388 : BitVec 32 := 256#32
  let v2794 : BitVec 32 := Scalar.muli v1671 c256_i32_1388
  let c128_i32_1389 : BitVec 32 := 128#32
  let v2795 : BitVec 32 := Scalar.addi v2794 c128_i32_1389
  v2795
def k0_mult41 (i : grid0.Coords) (k0_t2 : Fin (k0_t2_loop i).trips) : BitVec 32 :=
  let c2_i32_79 : BitVec 32 := 2#32
  let c0_i32_49 : BitVec 32 := 0#32
  let arg2 : BitVec 32 := BitVec.ofNat 32 (i 2).val
  let c0_i32_43 : BitVec 32 := 0#32
  let v79 : BitVec 1 := Scalar.cmpi .sgt arg2 c0_i32_43
  let v80 : BitVec 32 := Scalar.extui v79
  let c0_i32_44 : BitVec 32 := 0#32
  let v81 : BitVec 1 := Scalar.cmpi .slt arg2 c0_i32_44
  let v82 : BitVec 32 := Scalar.extui v81
  let v83 : BitVec 32 := Scalar.subi v80 v82
  let c2_i32 : BitVec 32 := 2#32
  let c0_i32_45 : BitVec 32 := 0#32
  let v84 : BitVec 1 := Scalar.cmpi .sgt c2_i32 c0_i32_45
  let v85 : BitVec 32 := Scalar.extui v84
  let c0_i32_46 : BitVec 32 := 0#32
  let v86 : BitVec 1 := Scalar.cmpi .slt c2_i32 c0_i32_46
  let v87 : BitVec 32 := Scalar.extui v86
  let v88 : BitVec 32 := Scalar.subi v85 v87
  let v89 : BitVec 1 := Scalar.cmpi .ne v83 v88
  let v90 : BitVec 32 := Scalar.remsi arg2 c2_i32
  let c0_i32_47 : BitVec 32 := 0#32
  let v91 : BitVec 1 := Scalar.cmpi .ne v90 c0_i32_47
  let v92 : BitVec 1 := Scalar.andi v89 v91
  let v78 : BitVec 32 := Scalar.divsi arg2 c2_i32
  let c1_i32 : BitVec 32 := 1#32
  let v93 : BitVec 32 := Scalar.subi v78 c1_i32
  let v94 : BitVec 32 := Scalar.select v92 v93 v78
  let v95 : BitVec 32 := Scalar.subi v94 c0_i32_49
  let c1_i32_50 : BitVec 32 := 1#32
  let v97 : BitVec 32 := Scalar.divsi v95 c1_i32_50
  let v98 : BitVec 32 := Scalar.muli v97 c1_i32_50
  let v99 : BitVec 32 := Scalar.addi c0_i32_49 v98
  let c1_i32_52 : BitVec 32 := 1#32
  let arg21 : BitVec 32 := Scf.iv v99 c1_i32_52 k0_t2
  let v143 : BitVec 32 := Scalar.muli c2_i32_79 arg21
  let c1_i32_1569 : BitVec 32 := 1#32
  let v3160 : BitVec 32 := Scalar.addi v143 c1_i32_1569
  let c256_i32_1570 : BitVec 32 := 256#32
  let v3161 : BitVec 32 := Scalar.muli v3160 c256_i32_1570
  v3161
def k0_cond1 (i : grid0.Coords) : BitVec 1 :=
  let arg2 : BitVec 32 := BitVec.ofNat 32 (i 2).val
  let c2_i32_53 : BitVec 32 := 2#32
  let c0_i32_54 : BitVec 32 := 0#32
  let v100 : BitVec 1 := Scalar.cmpi .eq c2_i32_53 c0_i32_54
  let c1_i32_55 : BitVec 32 := 1#32
  let v101 : BitVec 32 := Scalar.select v100 c1_i32_55 c2_i32_53
  let v102 : BitVec 32 := Scalar.remsi arg2 v101
  let c0_i32_57 : BitVec 32 := 0#32
  let v104 : BitVec 1 := Scalar.cmpi .slt v102 c0_i32_57
  let c0_i32_58 : BitVec 32 := 0#32
  let v105 : BitVec 1 := Scalar.cmpi .slt v101 c0_i32_58
  let v106 : BitVec 1 := Scalar.xori v104 v105
  let c0_i32_56 : BitVec 32 := 0#32
  let v103 : BitVec 1 := Scalar.cmpi .ne v102 c0_i32_56
  let v107 : BitVec 1 := Scalar.andi v106 v103
  let v108 : BitVec 32 := Scalar.addi v102 v101
  let v109 : BitVec 32 := Scalar.select v107 v108 v102
  let c0_i32_59 : BitVec 32 := 0#32
  let v110 : BitVec 1 := Scalar.cmpi .eq v109 c0_i32_59
  let v111 : BitVec 32 := Scalar.extui v110
  let c0_i32_60 : BitVec 32 := 0#32
  let v112 : BitVec 1 := Scalar.cmpi .ne v111 c0_i32_60
  v112

def k0_mult42 (i : grid0.Coords) : BitVec 32 :=
  let arg2 : BitVec 32 := BitVec.ofNat 32 (i 2).val
  let c256_i32 : BitVec 32 := 256#32
  let v143 : BitVec 32 := Scalar.muli arg2 c256_i32
  let c0_i32_79 : BitVec 32 := 0#32
  let v144 : BitVec 32 := Scalar.addi v143 c0_i32_79
  v144
def k0_off21 (i : grid0.Coords) (c0_i32_79 : BitVec 32) : Fin 4 → Nat :=
  let c0_80 : Index := 0#32
  let c0_81 : Index := 0#32
  let c0_82 : Index := 0#32
  let arg2 : BitVec 32 := BitVec.ofNat 32 (i 2).val
  let c256_i32 : BitVec 32 := 256#32
  let v143 : BitVec 32 := Scalar.muli arg2 c256_i32
  let v144 : BitVec 32 := Scalar.addi v143 c0_i32_79
  let v145 : BitVec 32 := v144
  let v146 : Index := Scalar.indexCast v145
  ![0, 0, 0, v146.toNat]
def k0_mult43 (i : grid0.Coords) : BitVec 32 :=
  let arg2 : BitVec 32 := BitVec.ofNat 32 (i 2).val
  let c256_i32_83 : BitVec 32 := 256#32
  let v149 : BitVec 32 := Scalar.muli arg2 c256_i32_83
  let c128_i32 : BitVec 32 := 128#32
  let v150 : BitVec 32 := Scalar.addi v149 c128_i32
  v150
def k0_mult44 (i : grid0.Coords) : BitVec 32 :=
  let arg2 : BitVec 32 := BitVec.ofNat 32 (i 2).val
  let c256_i32_299 : BitVec 32 := 256#32
  let v691 : BitVec 32 := Scalar.muli arg2 c256_i32_299
  let c0_i32_300 : BitVec 32 := 0#32
  let v692 : BitVec 32 := Scalar.addi v691 c0_i32_300
  v692
def k0_off22 (i : grid0.Coords) (c0_i32_300 : BitVec 32) : Fin 4 → Nat :=
  let c0_301 : Index := 0#32
  let c0_302 : Index := 0#32
  let c1_303 : Index := 1#32
  let arg2 : BitVec 32 := BitVec.ofNat 32 (i 2).val
  let c256_i32_299 : BitVec 32 := 256#32
  let v691 : BitVec 32 := Scalar.muli arg2 c256_i32_299
  let v692 : BitVec 32 := Scalar.addi v691 c0_i32_300
  let v693 : BitVec 32 := v692
  let v694 : Index := Scalar.indexCast v693
  ![0, 0, 1, v694.toNat]
def k0_mult45 (i : grid0.Coords) : BitVec 32 :=
  let arg2 : BitVec 32 := BitVec.ofNat 32 (i 2).val
  let c256_i32_304 : BitVec 32 := 256#32
  let v697 : BitVec 32 := Scalar.muli arg2 c256_i32_304
  let c128_i32_305 : BitVec 32 := 128#32
  let v698 : BitVec 32 := Scalar.addi v697 c128_i32_305
  v698
def k0_mult46 (i : grid0.Coords) : BitVec 32 :=
  let arg2 : BitVec 32 := BitVec.ofNat 32 (i 2).val
  let c256_i32_526 : BitVec 32 := 256#32
  let v1239 : BitVec 32 := Scalar.muli arg2 c256_i32_526
  let c0_i32_527 : BitVec 32 := 0#32
  let v1240 : BitVec 32 := Scalar.addi v1239 c0_i32_527
  v1240
def k0_off23 (i : grid0.Coords) (c0_i32_527 : BitVec 32) : Fin 4 → Nat :=
  let c0_528 : Index := 0#32
  let c0_529 : Index := 0#32
  let c2_530 : Index := 2#32
  let arg2 : BitVec 32 := BitVec.ofNat 32 (i 2).val
  let c256_i32_526 : BitVec 32 := 256#32
  let v1239 : BitVec 32 := Scalar.muli arg2 c256_i32_526
  let v1240 : BitVec 32 := Scalar.addi v1239 c0_i32_527
  let v1241 : BitVec 32 := v1240
  let v1242 : Index := Scalar.indexCast v1241
  ![0, 0, 2, v1242.toNat]
def k0_mult47 (i : grid0.Coords) : BitVec 32 :=
  let arg2 : BitVec 32 := BitVec.ofNat 32 (i 2).val
  let c256_i32_531 : BitVec 32 := 256#32
  let v1245 : BitVec 32 := Scalar.muli arg2 c256_i32_531
  let c128_i32_532 : BitVec 32 := 128#32
  let v1246 : BitVec 32 := Scalar.addi v1245 c128_i32_532
  v1246
def k0_mult48 (i : grid0.Coords) : BitVec 32 :=
  let arg2 : BitVec 32 := BitVec.ofNat 32 (i 2).val
  let c256_i32_753 : BitVec 32 := 256#32
  let v1787 : BitVec 32 := Scalar.muli arg2 c256_i32_753
  let c0_i32_754 : BitVec 32 := 0#32
  let v1788 : BitVec 32 := Scalar.addi v1787 c0_i32_754
  v1788
def k0_off24 (i : grid0.Coords) (c0_i32_754 : BitVec 32) : Fin 4 → Nat :=
  let c0_755 : Index := 0#32
  let c0_756 : Index := 0#32
  let c3_757 : Index := 3#32
  let arg2 : BitVec 32 := BitVec.ofNat 32 (i 2).val
  let c256_i32_753 : BitVec 32 := 256#32
  let v1787 : BitVec 32 := Scalar.muli arg2 c256_i32_753
  let v1788 : BitVec 32 := Scalar.addi v1787 c0_i32_754
  let v1789 : BitVec 32 := v1788
  let v1790 : Index := Scalar.indexCast v1789
  ![0, 0, 3, v1790.toNat]
def k0_mult49 (i : grid0.Coords) : BitVec 32 :=
  let arg2 : BitVec 32 := BitVec.ofNat 32 (i 2).val
  let c256_i32_758 : BitVec 32 := 256#32
  let v1793 : BitVec 32 := Scalar.muli arg2 c256_i32_758
  let c128_i32_759 : BitVec 32 := 128#32
  let v1794 : BitVec 32 := Scalar.addi v1793 c128_i32_759
  v1794
def k0_mult50 (i : grid0.Coords) : BitVec 32 :=
  let arg2 : BitVec 32 := BitVec.ofNat 32 (i 2).val
  let c256_i32_980 : BitVec 32 := 256#32
  let v2335 : BitVec 32 := Scalar.muli arg2 c256_i32_980
  v2335
def k0_off25 (i : grid0.Coords) : Fin 3 → Nat :=
  let c0_981 : Index := 0#32
  let arg2 : BitVec 32 := BitVec.ofNat 32 (i 2).val
  let c256_i32_980 : BitVec 32 := 256#32
  let v2335 : BitVec 32 := Scalar.muli arg2 c256_i32_980
  let v2336 : BitVec 32 := v2335
  let v2337 : Index := Scalar.indexCast v2336
  let c0_982 : Index := 0#32
  ![0, v2337.toNat, 0]
def k0_cond2 (i : grid0.Coords) : BitVec 1 :=
  let arg2 : BitVec 32 := BitVec.ofNat 32 (i 2).val
  let c2_i32_61 : BitVec 32 := 2#32
  let c0_i32_62 : BitVec 32 := 0#32
  let v113 : BitVec 1 := Scalar.cmpi .eq c2_i32_61 c0_i32_62
  let c1_i32_63 : BitVec 32 := 1#32
  let v114 : BitVec 32 := Scalar.select v113 c1_i32_63 c2_i32_61
  let v115 : BitVec 32 := Scalar.remsi arg2 v114
  let c0_i32_65 : BitVec 32 := 0#32
  let v117 : BitVec 1 := Scalar.cmpi .slt v115 c0_i32_65
  let c0_i32_66 : BitVec 32 := 0#32
  let v118 : BitVec 1 := Scalar.cmpi .slt v114 c0_i32_66
  let v119 : BitVec 1 := Scalar.xori v117 v118
  let c0_i32_64 : BitVec 32 := 0#32
  let v116 : BitVec 1 := Scalar.cmpi .ne v115 c0_i32_64
  let v120 : BitVec 1 := Scalar.andi v119 v116
  let v121 : BitVec 32 := Scalar.addi v115 v114
  let v122 : BitVec 32 := Scalar.select v120 v121 v115
  let c1_i32_67 : BitVec 32 := 1#32
  let v123 : BitVec 1 := Scalar.cmpi .eq v122 c1_i32_67
  let v124 : BitVec 32 := Scalar.extui v123
  let c0_i32_68 : BitVec 32 := 0#32
  let v125 : BitVec 1 := Scalar.cmpi .ne v124 c0_i32_68
  v125

def k0_mult51 (i : grid0.Coords) : BitVec 32 :=
  let arg2 : BitVec 32 := BitVec.ofNat 32 (i 2).val
  let c256_i32 : BitVec 32 := 256#32
  let v143 : BitVec 32 := Scalar.muli arg2 c256_i32
  v143
def k0_off26 (i : grid0.Coords) : Fin 3 → Nat :=
  let c0_79 : Index := 0#32
  let arg2 : BitVec 32 := BitVec.ofNat 32 (i 2).val
  let c256_i32 : BitVec 32 := 256#32
  let v143 : BitVec 32 := Scalar.muli arg2 c256_i32
  let v144 : BitVec 32 := v143
  let v145 : Index := Scalar.indexCast v144
  let c0_80 : Index := 0#32
  ![0, v145.toNat, 0]
def k0_mult52 (i : grid0.Coords) : BitVec 32 :=
  let arg2 : BitVec 32 := BitVec.ofNat 32 (i 2).val
  let c1_i32_86 : BitVec 32 := 1#32
  let v154 : BitVec 32 := Scalar.subi arg2 c1_i32_86
  let c256_i32_87 : BitVec 32 := 256#32
  let v155 : BitVec 32 := Scalar.muli v154 c256_i32_87
  let c0_i32_88 : BitVec 32 := 0#32
  let v156 : BitVec 32 := Scalar.addi v155 c0_i32_88
  v156
def k0_off27 (i : grid0.Coords) (c0_i32_88 : BitVec 32) : Fin 4 → Nat :=
  let c0_89 : Index := 0#32
  let c0_90 : Index := 0#32
  let c0_91 : Index := 0#32
  let arg2 : BitVec 32 := BitVec.ofNat 32 (i 2).val
  let c1_i32_86 : BitVec 32 := 1#32
  let v154 : BitVec 32 := Scalar.subi arg2 c1_i32_86
  let c256_i32_87 : BitVec 32 := 256#32
  let v155 : BitVec 32 := Scalar.muli v154 c256_i32_87
  let v156 : BitVec 32 := Scalar.addi v155 c0_i32_88
  let v157 : BitVec 32 := v156
  let v158 : Index := Scalar.indexCast v157
  ![0, 0, 0, v158.toNat]
def k0_mult53 (i : grid0.Coords) : BitVec 32 :=
  let arg2 : BitVec 32 := BitVec.ofNat 32 (i 2).val
  let c1_i32_86 : BitVec 32 := 1#32
  let v154 : BitVec 32 := Scalar.subi arg2 c1_i32_86
  let c256_i32_92 : BitVec 32 := 256#32
  let v161 : BitVec 32 := Scalar.muli v154 c256_i32_92
  let c128_i32 : BitVec 32 := 128#32
  let v162 : BitVec 32 := Scalar.addi v161 c128_i32
  v162
def k0_mult54 (i : grid0.Coords) : BitVec 32 :=
  let arg2 : BitVec 32 := BitVec.ofNat 32 (i 2).val
  let c1_i32_86 : BitVec 32 := 1#32
  let v154 : BitVec 32 := Scalar.subi arg2 c1_i32_86
  let c256_i32_265 : BitVec 32 := 256#32
  let v527 : BitVec 32 := Scalar.muli v154 c256_i32_265
  let c0_i32_266 : BitVec 32 := 0#32
  let v528 : BitVec 32 := Scalar.addi v527 c0_i32_266
  v528
def k0_off28 (i : grid0.Coords) (c0_i32_266 : BitVec 32) : Fin 4 → Nat :=
  let c0_267 : Index := 0#32
  let c0_268 : Index := 0#32
  let c1_269 : Index := 1#32
  let arg2 : BitVec 32 := BitVec.ofNat 32 (i 2).val
  let c1_i32_86 : BitVec 32 := 1#32
  let v154 : BitVec 32 := Scalar.subi arg2 c1_i32_86
  let c256_i32_265 : BitVec 32 := 256#32
  let v527 : BitVec 32 := Scalar.muli v154 c256_i32_265
  let v528 : BitVec 32 := Scalar.addi v527 c0_i32_266
  let v529 : BitVec 32 := v528
  let v530 : Index := Scalar.indexCast v529
  ![0, 0, 1, v530.toNat]
def k0_mult55 (i : grid0.Coords) : BitVec 32 :=
  let arg2 : BitVec 32 := BitVec.ofNat 32 (i 2).val
  let c1_i32_86 : BitVec 32 := 1#32
  let v154 : BitVec 32 := Scalar.subi arg2 c1_i32_86
  let c256_i32_270 : BitVec 32 := 256#32
  let v533 : BitVec 32 := Scalar.muli v154 c256_i32_270
  let c128_i32_271 : BitVec 32 := 128#32
  let v534 : BitVec 32 := Scalar.addi v533 c128_i32_271
  v534
def k0_mult56 (i : grid0.Coords) : BitVec 32 :=
  let arg2 : BitVec 32 := BitVec.ofNat 32 (i 2).val
  let c1_i32_86 : BitVec 32 := 1#32
  let v154 : BitVec 32 := Scalar.subi arg2 c1_i32_86
  let c256_i32_444 : BitVec 32 := 256#32
  let v899 : BitVec 32 := Scalar.muli v154 c256_i32_444
  let c0_i32_445 : BitVec 32 := 0#32
  let v900 : BitVec 32 := Scalar.addi v899 c0_i32_445
  v900
def k0_off29 (i : grid0.Coords) (c0_i32_445 : BitVec 32) : Fin 4 → Nat :=
  let c0_446 : Index := 0#32
  let c0_447 : Index := 0#32
  let c2_448 : Index := 2#32
  let arg2 : BitVec 32 := BitVec.ofNat 32 (i 2).val
  let c1_i32_86 : BitVec 32 := 1#32
  let v154 : BitVec 32 := Scalar.subi arg2 c1_i32_86
  let c256_i32_444 : BitVec 32 := 256#32
  let v899 : BitVec 32 := Scalar.muli v154 c256_i32_444
  let v900 : BitVec 32 := Scalar.addi v899 c0_i32_445
  let v901 : BitVec 32 := v900
  let v902 : Index := Scalar.indexCast v901
  ![0, 0, 2, v902.toNat]
def k0_mult57 (i : grid0.Coords) : BitVec 32 :=
  let arg2 : BitVec 32 := BitVec.ofNat 32 (i 2).val
  let c1_i32_86 : BitVec 32 := 1#32
  let v154 : BitVec 32 := Scalar.subi arg2 c1_i32_86
  let c256_i32_449 : BitVec 32 := 256#32
  let v905 : BitVec 32 := Scalar.muli v154 c256_i32_449
  let c128_i32_450 : BitVec 32 := 128#32
  let v906 : BitVec 32 := Scalar.addi v905 c128_i32_450
  v906
def k0_mult58 (i : grid0.Coords) : BitVec 32 :=
  let arg2 : BitVec 32 := BitVec.ofNat 32 (i 2).val
  let c1_i32_86 : BitVec 32 := 1#32
  let v154 : BitVec 32 := Scalar.subi arg2 c1_i32_86
  let c256_i32_623 : BitVec 32 := 256#32
  let v1271 : BitVec 32 := Scalar.muli v154 c256_i32_623
  let c0_i32_624 : BitVec 32 := 0#32
  let v1272 : BitVec 32 := Scalar.addi v1271 c0_i32_624
  v1272
def k0_off30 (i : grid0.Coords) (c0_i32_624 : BitVec 32) : Fin 4 → Nat :=
  let c0_625 : Index := 0#32
  let c0_626 : Index := 0#32
  let c3_627 : Index := 3#32
  let arg2 : BitVec 32 := BitVec.ofNat 32 (i 2).val
  let c1_i32_86 : BitVec 32 := 1#32
  let v154 : BitVec 32 := Scalar.subi arg2 c1_i32_86
  let c256_i32_623 : BitVec 32 := 256#32
  let v1271 : BitVec 32 := Scalar.muli v154 c256_i32_623
  let v1272 : BitVec 32 := Scalar.addi v1271 c0_i32_624
  let v1273 : BitVec 32 := v1272
  let v1274 : Index := Scalar.indexCast v1273
  ![0, 0, 3, v1274.toNat]
def k0_mult59 (i : grid0.Coords) : BitVec 32 :=
  let arg2 : BitVec 32 := BitVec.ofNat 32 (i 2).val
  let c1_i32_86 : BitVec 32 := 1#32
  let v154 : BitVec 32 := Scalar.subi arg2 c1_i32_86
  let c256_i32_628 : BitVec 32 := 256#32
  let v1277 : BitVec 32 := Scalar.muli v154 c256_i32_628
  let c128_i32_629 : BitVec 32 := 128#32
  let v1278 : BitVec 32 := Scalar.addi v1277 c128_i32_629
  v1278
def k0_mult60 (i : grid0.Coords) : BitVec 32 :=
  let arg2 : BitVec 32 := BitVec.ofNat 32 (i 2).val
  let c1_i32_802 : BitVec 32 := 1#32
  let v1643 : BitVec 32 := Scalar.subi arg2 c1_i32_802
  let c256_i32_803 : BitVec 32 := 256#32
  let v1644 : BitVec 32 := Scalar.muli v1643 c256_i32_803
  v1644
def k0_off31 (i : grid0.Coords) : Fin 3 → Nat :=
  let c0_804 : Index := 0#32
  let arg2 : BitVec 32 := BitVec.ofNat 32 (i 2).val
  let c1_i32_802 : BitVec 32 := 1#32
  let v1643 : BitVec 32 := Scalar.subi arg2 c1_i32_802
  let c256_i32_803 : BitVec 32 := 256#32
  let v1644 : BitVec 32 := Scalar.muli v1643 c256_i32_803
  let v1645 : BitVec 32 := v1644
  let v1646 : Index := Scalar.indexCast v1645
  let c0_805 : Index := 0#32
  ![0, v1646.toNat, 0]
def k0_mult61 (i : grid0.Coords) : BitVec 32 :=
  let arg2 : BitVec 32 := BitVec.ofNat 32 (i 2).val
  let c256_i32_815 : BitVec 32 := 256#32
  let v1659 : BitVec 32 := Scalar.muli arg2 c256_i32_815
  let c0_i32_816 : BitVec 32 := 0#32
  let v1660 : BitVec 32 := Scalar.addi v1659 c0_i32_816
  v1660
def k0_off32 (i : grid0.Coords) (c0_i32_816 : BitVec 32) : Fin 4 → Nat :=
  let c0_817 : Index := 0#32
  let c0_818 : Index := 0#32
  let c0_819 : Index := 0#32
  let arg2 : BitVec 32 := BitVec.ofNat 32 (i 2).val
  let c256_i32_815 : BitVec 32 := 256#32
  let v1659 : BitVec 32 := Scalar.muli arg2 c256_i32_815
  let v1660 : BitVec 32 := Scalar.addi v1659 c0_i32_816
  let v1661 : BitVec 32 := v1660
  let v1662 : Index := Scalar.indexCast v1661
  ![0, 0, 0, v1662.toNat]
def k0_mult62 (i : grid0.Coords) : BitVec 32 :=
  let arg2 : BitVec 32 := BitVec.ofNat 32 (i 2).val
  let c256_i32_820 : BitVec 32 := 256#32
  let v1665 : BitVec 32 := Scalar.muli arg2 c256_i32_820
  let c128_i32_821 : BitVec 32 := 128#32
  let v1666 : BitVec 32 := Scalar.addi v1665 c128_i32_821
  v1666
def k0_mult63 (i : grid0.Coords) : BitVec 32 :=
  let arg2 : BitVec 32 := BitVec.ofNat 32 (i 2).val
  let c256_i32_1044 : BitVec 32 := 256#32
  let v2207 : BitVec 32 := Scalar.muli arg2 c256_i32_1044
  let c0_i32_1045 : BitVec 32 := 0#32
  let v2208 : BitVec 32 := Scalar.addi v2207 c0_i32_1045
  v2208
def k0_off33 (i : grid0.Coords) (c0_i32_1045 : BitVec 32) : Fin 4 → Nat :=
  let c0_1046 : Index := 0#32
  let c0_1047 : Index := 0#32
  let c1_1048 : Index := 1#32
  let arg2 : BitVec 32 := BitVec.ofNat 32 (i 2).val
  let c256_i32_1044 : BitVec 32 := 256#32
  let v2207 : BitVec 32 := Scalar.muli arg2 c256_i32_1044
  let v2208 : BitVec 32 := Scalar.addi v2207 c0_i32_1045
  let v2209 : BitVec 32 := v2208
  let v2210 : Index := Scalar.indexCast v2209
  ![0, 0, 1, v2210.toNat]
def k0_mult64 (i : grid0.Coords) : BitVec 32 :=
  let arg2 : BitVec 32 := BitVec.ofNat 32 (i 2).val
  let c256_i32_1049 : BitVec 32 := 256#32
  let v2213 : BitVec 32 := Scalar.muli arg2 c256_i32_1049
  let c128_i32_1050 : BitVec 32 := 128#32
  let v2214 : BitVec 32 := Scalar.addi v2213 c128_i32_1050
  v2214
def k0_mult65 (i : grid0.Coords) : BitVec 32 :=
  let arg2 : BitVec 32 := BitVec.ofNat 32 (i 2).val
  let c256_i32_1278 : BitVec 32 := 256#32
  let v2755 : BitVec 32 := Scalar.muli arg2 c256_i32_1278
  let c0_i32_1279 : BitVec 32 := 0#32
  let v2756 : BitVec 32 := Scalar.addi v2755 c0_i32_1279
  v2756
def k0_off34 (i : grid0.Coords) (c0_i32_1279 : BitVec 32) : Fin 4 → Nat :=
  let c0_1280 : Index := 0#32
  let c0_1281 : Index := 0#32
  let c2_1282 : Index := 2#32
  let arg2 : BitVec 32 := BitVec.ofNat 32 (i 2).val
  let c256_i32_1278 : BitVec 32 := 256#32
  let v2755 : BitVec 32 := Scalar.muli arg2 c256_i32_1278
  let v2756 : BitVec 32 := Scalar.addi v2755 c0_i32_1279
  let v2757 : BitVec 32 := v2756
  let v2758 : Index := Scalar.indexCast v2757
  ![0, 0, 2, v2758.toNat]
def k0_mult66 (i : grid0.Coords) : BitVec 32 :=
  let arg2 : BitVec 32 := BitVec.ofNat 32 (i 2).val
  let c256_i32_1283 : BitVec 32 := 256#32
  let v2761 : BitVec 32 := Scalar.muli arg2 c256_i32_1283
  let c128_i32_1284 : BitVec 32 := 128#32
  let v2762 : BitVec 32 := Scalar.addi v2761 c128_i32_1284
  v2762
def k0_mult67 (i : grid0.Coords) : BitVec 32 :=
  let arg2 : BitVec 32 := BitVec.ofNat 32 (i 2).val
  let c256_i32_1512 : BitVec 32 := 256#32
  let v3303 : BitVec 32 := Scalar.muli arg2 c256_i32_1512
  let c0_i32_1513 : BitVec 32 := 0#32
  let v3304 : BitVec 32 := Scalar.addi v3303 c0_i32_1513
  v3304
def k0_off35 (i : grid0.Coords) (c0_i32_1513 : BitVec 32) : Fin 4 → Nat :=
  let c0_1514 : Index := 0#32
  let c0_1515 : Index := 0#32
  let c3_1516 : Index := 3#32
  let arg2 : BitVec 32 := BitVec.ofNat 32 (i 2).val
  let c256_i32_1512 : BitVec 32 := 256#32
  let v3303 : BitVec 32 := Scalar.muli arg2 c256_i32_1512
  let v3304 : BitVec 32 := Scalar.addi v3303 c0_i32_1513
  let v3305 : BitVec 32 := v3304
  let v3306 : Index := Scalar.indexCast v3305
  ![0, 0, 3, v3306.toNat]
def k0_mult68 (i : grid0.Coords) : BitVec 32 :=
  let arg2 : BitVec 32 := BitVec.ofNat 32 (i 2).val
  let c256_i32_1517 : BitVec 32 := 256#32
  let v3309 : BitVec 32 := Scalar.muli arg2 c256_i32_1517
  let c128_i32_1518 : BitVec 32 := 128#32
  let v3310 : BitVec 32 := Scalar.addi v3309 c128_i32_1518
  v3310
def k0_mult69 (i : grid0.Coords) : BitVec 32 :=
  let arg2 : BitVec 32 := BitVec.ofNat 32 (i 2).val
  let c256_i32_1746 : BitVec 32 := 256#32
  let v3851 : BitVec 32 := Scalar.muli arg2 c256_i32_1746
  v3851
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![arg1.toNat, v1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![c0_i32.toNat, v1.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x4x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S2x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Kernel3Ideal.lean ====
variable {F : FTy → Type} [FloatOps F] [Named F]
def κ : String → Option EReal := fun
  | "mask" => some ⊥
  | _ => none
-- ==== Reference3Ideal.lean ====
abbrev S8x8x2x2048x64 : Shape := ⟨5, ![8, 8, 2, 2048, 64]⟩
abbrev S8x8x2048x64 : Shape := ⟨4, ![8, 8, 2048, 64]⟩
abbrev S8x2048x16 : Shape := ⟨3, ![8, 2048, 16]⟩
abbrev S2048 : Shape := ⟨1, ![2048]⟩
abbrev S8x2048x8x2 : Shape := ⟨4, ![8, 2048, 8, 2]⟩
abbrev S8x8x2x2048 : Shape := ⟨4, ![8, 8, 2, 2048]⟩
abbrev S8x8x2x2048x2048 : Shape := ⟨5, ![8, 8, 2, 2048, 2048]⟩
abbrev S_ : Shape := ⟨0, ![]⟩
abbrev S8x8x2x2048x1 : Shape := ⟨5, ![8, 8, 2, 2048, 1]⟩
abbrev S8x8x2x1x2048 : Shape := ⟨5, ![8, 8, 2, 1, 2048]⟩
abbrev S1x2048 : Shape := ⟨2, ![1, 2048]⟩
abbrev S2048x1 : Shape := ⟨2, ![2048, 1]⟩
abbrev S2048x2048 : Shape := ⟨2, ![2048, 2048]⟩
abbrev S2x8x2048x8x64 : Shape := ⟨5, ![2, 8, 2048, 8, 64]⟩
abbrev S2x16384x512 : Shape := ⟨3, ![2, 16384, 512]⟩

abbrev nBuf : Space → Nat
  | .hbm => 45
  | .vmem => 0
  | .smem => 0
  | _ => 0

abbrev bufTy : (tb : Table) → Fin (tcTables nBuf tb) → BufTy
  | .hbm, ⟨0, _⟩ => ⟨S8x8x2x2048x64, .f32⟩
  | .hbm, ⟨1, _⟩ => ⟨S8x8x2048x64, .f32⟩
  | .hbm, ⟨2, _⟩ => ⟨S8x8x2048x64, .f32⟩
  | .hbm, ⟨3, _⟩ => ⟨S8x2048x16, .f32⟩
  | .hbm, ⟨4, _⟩ => ⟨S2048, .i32⟩
  | .hbm, ⟨5, _⟩ => ⟨S8x2048x8x2, .f32⟩
  | .hbm, ⟨6, _⟩ => ⟨S8x8x2x2048, .f32⟩
  | .hbm, ⟨7, _⟩ => ⟨S8x8x2x2048x2048, .f32⟩
  | .hbm, ⟨8, _⟩ => ⟨S_, .f32⟩
  | .hbm, ⟨9, _⟩ => ⟨S8x8x2x2048x2048, .f32⟩
  | .hbm, ⟨10, _⟩ => ⟨S8x8x2x2048x2048, .f32⟩
  | .hbm, ⟨11, _⟩ => ⟨S8x8x2x2048x1, .f32⟩
  | .hbm, ⟨12, _⟩ => ⟨S8x8x2x1x2048, .f32⟩
  | .hbm, ⟨13, _⟩ => ⟨S8x8x2x2048x2048, .f32⟩
  | .hbm, ⟨14, _⟩ => ⟨S8x8x2x2048x2048, .f32⟩
  | .hbm, ⟨15, _⟩ => ⟨S8x8x2x2048x2048, .f32⟩
  | .hbm, ⟨16, _⟩ => ⟨S8x8x2x2048x2048, .f32⟩
  | .hbm, ⟨17, _⟩ => ⟨S1x2048, .i32⟩
  | .hbm, ⟨18, _⟩ => ⟨S2048x1, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S8x8x2x2048x2048, .i1⟩
  | .hbm, ⟨25, _⟩ => ⟨S8x8x2x2048x2048, .f32⟩
  | .hbm, ⟨26, _⟩ => ⟨S8x8x2x2048x2048, .f32⟩
  | .hbm, ⟨27, _⟩ => ⟨S_, .f32⟩
  | .hbm, ⟨28, _⟩ => ⟨S8x8x2x2048, .f32⟩
  | .hbm, ⟨29, _⟩ => ⟨S_, .f32⟩
  | .hbm, ⟨30, _⟩ => ⟨S8x8x2x2048, .f32⟩
  | .hbm, ⟨31, _⟩ => ⟨S8x8x2x2048, .f32⟩
  | .hbm, ⟨32, _⟩ => ⟨S8x8x2x2048x1, .f32⟩
  | .hbm, ⟨33, _⟩ => ⟨S8x8x2x2048x2048, .f32⟩
  | .hbm, ⟨34, _⟩ => ⟨S8x8x2x2048x2048, .f32⟩
  | .hbm, ⟨35, _⟩ => ⟨S8x8x2x2048x2048, .f32⟩
  | .hbm, ⟨36, _⟩ => ⟨S_, .f32⟩
  | .hbm, ⟨37, _⟩ => ⟨S8x8x2x2048, .f32⟩
  | .hbm, ⟨38, _⟩ => ⟨S8x8x2x2048x1, .f32⟩
  | .hbm, ⟨39, _⟩ => ⟨S8x8x2x2048x2048, .f32⟩
  | .hbm, ⟨40, _⟩ => ⟨S8x8x2x2048x2048, .f32⟩
  | .hbm, ⟨41, _⟩ => ⟨S8x8x2x2048x64, .f32⟩
  | .hbm, ⟨42, _⟩ => ⟨S2x8x2048x8x64, .f32⟩
  | .hbm, ⟨43, _⟩ => ⟨S2x16384x512, .f32⟩
  | .hbm, ⟨44, _⟩ => ⟨S2x16384x512, .bf16⟩
  | _, _ => ⟨S8x8x2x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel4.lean ====
abbrev S8x2048x1024 : Shape := ⟨3, ![8, 2048, 1024]⟩
abbrev S8x2048x8x64 : Shape := ⟨4, ![8, 2048, 8, 64]⟩
abbrev S8x8x2048x64 : Shape := ⟨4, ![8, 8, 2048, 64]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S16384x512 : Shape := ⟨2, ![16384, 512]⟩
abbrev S1x1024 : Shape := ⟨2, ![1, 1024]⟩
abbrev S16384x1024 : Shape := ⟨2, ![16384, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 22
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S8x2048x8x64, .f32⟩
  | .hbm, ⟨2, _⟩ => ⟨S8x8x2048x64, .f32⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S16384x512, .f32⟩
  | .hbm, ⟨10, _⟩ => ⟨S16384x512, .bf16⟩
  | .hbm, ⟨11, _⟩ => ⟨S8x2048x8x64, .f32⟩
  | .hbm, ⟨12, _⟩ => ⟨S16384x512, .f32⟩
  | .hbm, ⟨13, _⟩ => ⟨S16384x512, .bf16⟩
  | .hbm, ⟨14, _⟩ => ⟨S1x1024, .f32⟩
  | .hbm, ⟨15, _⟩ => ⟨S1024x2816, .bf16⟩
  | .hbm, ⟨16, _⟩ => ⟨S1024x2816, .bf16⟩
  | .hbm, ⟨17, _⟩ => ⟨S2816x1024, .bf16⟩
  | .hbm, ⟨18, _⟩ => ⟨S1x1024, .f32⟩
  | .hbm, ⟨19, _⟩ => ⟨S16384x1024, .f32⟩
  | .hbm, ⟨20, _⟩ => ⟨S1024x1024, .bf16⟩
  | .hbm, ⟨21, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S8x2048x1024 : Shape := ⟨3, ![8, 2048, 1024]⟩
abbrev S8x2048x8x64 : Shape := ⟨4, ![8, 2048, 8, 64]⟩
abbrev S8x8x2048x64 : Shape := ⟨4, ![8, 8, 2048, 64]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S8x2048x512 : Shape := ⟨3, ![8, 2048, 512]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩
abbrev S16384x1024 : Shape := ⟨2, ![16384, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x8x64, .f32⟩
  | .hbm, ⟨2, _⟩ => ⟨S8x8x2048x64, .f32⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S8x2048x8x64, .f32⟩
  | .hbm, ⟨10, _⟩ => ⟨S8x2048x512, .f32⟩
  | .hbm, ⟨11, _⟩ => ⟨S8x2048x512, .f32⟩
  | .hbm, ⟨12, _⟩ => ⟨S8x2048x1024, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S_, .f32⟩
  | .hbm, ⟨17, _⟩ => ⟨S8x2048, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S8x2048x1, .f32⟩
  | .hbm, ⟨26, _⟩ => ⟨S8x2048x1024, .f32⟩
  | .hbm, ⟨27, _⟩ => ⟨S8x2048x1024, .f32⟩
  | .hbm, ⟨28, _⟩ => ⟨S1x1x1024, .f32⟩
  | .hbm, ⟨29, _⟩ => ⟨S8x2048x1024, .f32⟩
  | .hbm, ⟨30, _⟩ => ⟨S8x2048x1024, .f32⟩
  | .hbm, ⟨31, _⟩ => ⟨S8x2048x2816, .f32⟩
  | .hbm, ⟨32, _⟩ => ⟨S8x2048x2816, .f32⟩
  | .hbm, ⟨33, _⟩ => ⟨S8x2048x2816, .f32⟩
  | .hbm, ⟨34, _⟩ => ⟨S_, .f32⟩
  | .hbm, ⟨35, _⟩ => ⟨S8x2048x2816, .f32⟩
  | .hbm, ⟨36, _⟩ => ⟨S8x2048x2816, .f32⟩
  | .hbm, ⟨37, _⟩ => ⟨S_, .f32⟩
  | .hbm, ⟨38, _⟩ => ⟨S8x2048x2816, .f32⟩
  | .hbm, ⟨39, _⟩ => ⟨S8x2048x2816, .f32⟩
  | .hbm, ⟨40, _⟩ => ⟨S8x2048x2816, .f32⟩
  | .hbm, ⟨41, _⟩ => ⟨S8x2048x2816, .f32⟩
  | .hbm, ⟨42, _⟩ => ⟨S8x2048x2816, .f32⟩
  | .hbm, ⟨43, _⟩ => ⟨S8x2048x1024, .f32⟩
  | .hbm, ⟨44, _⟩ => ⟨S8x2048x1024, .f32⟩
  | .hbm, ⟨45, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩

abbrev nD : Nat := 1
abbrev τ : Topo := Topo.v7x

variable {F : FTy → Type} [FloatOps F]
-- ==== Proof.FfnSpec.lean ====
/- The function the output projection and feed-forward block computes for one token, in extended reals: the residual stream plus
   the projected attention, its root-mean-square norm, the gated feed-forward layer added back, and the final norm. -/
module

public import Idealize.ShloMosaic.Lib.Pointwise

@[expose] public section

noncomputable section

namespace Cert.Ffn

open Idealize.ShloMosaic

/-- A row of width 1024 over the root of its mean square, times a learned gain. -/
def rms (x g : Fin 1024 → EReal) (d : Fin 1024) : EReal :=
  x d * Ideal.rsqrt (Ideal.div (∑ k, x k * x k) (Ideal.ofBits .f32 0x44800000#32) + Ideal.ofBits .f32 0x358637BD#32) * g d

/-- The gate: `x` over one plus `exp (-x)`. -/
def gate (x : EReal) : EReal := Ideal.div x (1 + Ideal.exp (0 - x))

/-- One hidden unit: the gated product of two projections. -/
def unit (h wg wu : Fin 1024 → EReal) : EReal := gate (∑ k, h k * wg k) * ∑ k, h k * wu k

/-- The feed-forward layer without its residual. -/
def ffn (h : Fin 1024 → EReal) (wg wu : Fin 1024 → Fin 2816 → EReal) (wd : Fin 2816 → Fin 1024 → EReal) (d : Fin 1024) : EReal :=
  ∑ n, unit h (fun k => wg k n) (fun k => wu k n) * wd n d

/-- The whole block from the residual stream `x` with the attention already projected and added. -/
def block (x g : Fin 1024 → EReal) (wg wu : Fin 1024 → Fin 2816 → EReal) (wd : Fin 2816 → Fin 1024 → EReal) (fn : Fin 1024 → EReal) :
    Fin 1024 → EReal :=
  rms (fun d => x d + ffn (rms x g) wg wu wd d) fn

/-- The first half of the hidden units. -/
def lo (n : Fin 1408) : Fin 2816 := ⟨n.val, by omega⟩
/-- The second half of the hidden units. -/
def hi (n : Fin 1408) : Fin 2816 := ⟨1408 + n.val, by omega⟩

/-- A sum over the hidden units is the sum over their two halves. -/
theorem sum_halves (f : Fin 2816 → EReal) : ∑ n, f n = (∑ n, f (lo n)) + ∑ n, f (hi n) :=
  Fin.sum_univ_add (a := 1408) (b := 1408) f

/-- `exp` is never negative, so one plus it is not zero. -/
theorem one_add_exp_ne_zero (x : EReal) : 1 + Ideal.exp x ≠ 0 := by
  have h : 0 ≤ Ideal.exp x := by
    induction x with
    | bot => exact le_refl _
    | top => exact le_top
    | coe r => exact EReal.coe_nonneg.mpr (Real.exp_nonneg r)
  intro hc
  have h1 : (1 : EReal) ≤ 0 := by
    calc (1 : EReal) = 1 + 0 := (add_zero _).symm
      _ ≤ 1 + Ideal.exp x := add_le_add le_rfl h
      _ = 0 := hc
  exact absurd h1 (by norm_num)

/-- The gate as `x` times the logistic function. -/
theorem gate_eq (x : EReal) : x * Ideal.div 1 (1 + Ideal.exp (-x)) = gate x := by
  rw [gate, sub_eq_add_neg, zero_add]
  exact Ideal.mul_one_div (one_add_exp_ne_zero _)

end Cert.Ffn

end
-- ==== Proof.FfnPay.lean ====
/- The kernel's arithmetic over one block of 512 rows, read at an element. -/
module

public import proofs.«01_k».proof.Proof.Gen.Kernel2Ideal.Value
public import proofs.«01_k».proof.Proof.FfnSpec

@[expose] public section

noncomputable section

namespace Cert.Ffn

open Idealize.ShloMosaic Cert.Kernel2Ideal Cert.Kernel2Ideal.Gen

variable (v0 : Vec Ideal S512x1024 .f32) (v2 v8 : Vec Ideal S512x512 .bf16) (v4 v10 : Vec Ideal S512x1024 .bf16)

/-- The residual stream plus the two halves of the attention's projection. -/
theorem pay2_apply (r : Fin 512) (d : Fin 1024) : k0_pay2 (F := Ideal) v0 v2 v4 v8 v10 (ix2 r d)
    = v0 (ix2 r d) + (∑ k : Fin 512, v2 (ix2 r k) * v4 (ix2 k d)) + ∑ k : Fin 512, v8 (ix2 r k) * v10 (ix2 k d) := by
  pointwise [k0_pay2]

/-- Its norm. -/
theorem pay3_apply (v14 : Vec Ideal S1x1024 .f32) (r : Fin 512) (d : Fin 1024) : k0_pay3 (F := Ideal) v0 v2 v4 v8 v10 v14 (ix2 r d)
    = rms (fun d => k0_pay2 (F := Ideal) v0 v2 v4 v8 v10 (ix2 r d)) (fun d => v14 (ix2 0 d)) d := by
  pointwise [k0_pay3, rms]

theorem pay5_apply (v14 : Vec Ideal S1x1024 .f32) (v30 : Vec Ideal S1024x1408 .bf16) (r : Fin 512) (n : Fin 1408) :
    k0_pay5 (F := Ideal) v0 v2 v4 v8 v10 v14 v30 (ix2 r n)
    = ∑ k : Fin 1024, k0_pay3 (F := Ideal) v0 v2 v4 v8 v10 v14 (ix2 r k) * v30 (ix2 k n) := by
  pointwise [k0_pay5]

/-- The feed-forward layer over the two halves of its hidden units, added to the residual stream. -/
theorem pay7_apply (v13 : FVec Ideal S512x1024 .f32) (v28 : FVec Ideal S512x1024 .bf16) (v29 : FVec Ideal S512x1024 .f32)
    (v32 : FVec Ideal S512x1408 .f32) (v34 : FVec Ideal S1024x1408 .bf16) (cst : FVec Ideal S512x1408 .f32)
    (v44 : Vec Ideal S1408x1024 .bf16) (v48 v51 : Vec Ideal S1024x1408 .bf16) (v62 : Vec Ideal S1408x1024 .bf16)
    (r : Fin 512) (d : Fin 1024) :
    k0_pay7 (F := Ideal) v13 v28 v29 v32 v34 cst v44 v48 v51 v62 (ix2 r d)
    = v13 (ix2 r d) + (v29 (ix2 r d)
        + (∑ n : Fin 1408, gate (v32 (ix2 r n)) * (cst (ix2 r n) + ∑ k : Fin 1024, v28 (ix2 r k) * v34 (ix2 k n)) * v44 (ix2 n d))
        + ∑ n : Fin 1408, unit (fun k => v28 (ix2 r k)) (fun k => v48 (ix2 k n)) (fun k => v51 (ix2 k n)) * v62 (ix2 n d)) := by
  pointwise [k0_pay7, gate, unit]

theorem pay9_apply (v13 : FVec Ideal S512x1024 .f32) (v28 : FVec Ideal S512x1024 .bf16) (v29 : FVec Ideal S512x1024 .f32)
    (v32 : FVec Ideal S512x1408 .f32) (v34 : FVec Ideal S1024x1408 .bf16) (cst : FVec Ideal S512x1408 .f32)
    (v44 : Vec Ideal S1408x1024 .bf16) (v48 v51 : Vec Ideal S1024x1408 .bf16) (v62 : Vec Ideal S1408x1024 .bf16)
    (r : Fin 512) :
    k0_pay9 (F := Ideal) v13 v28 v29 v32 v34 cst v44 v48 v51 v62 (ix2 r 0)
    = Ideal.div (∑ d : Fin 1024, k0_pay7 (F := Ideal) v13 v28 v29 v32 v34 cst v44 v48 v51 v62 (ix2 r d)
        * k0_pay7 (F := Ideal) v13 v28 v29 v32 v34 cst v44 v48 v51 v62 (ix2 r d)) (Ideal.ofBits .f32 0x44800000#32) := by
  pointwise [k0_pay9]

theorem pay1_apply (v66 : FVec Ideal S512x1024 .f32) (v68 : FVec Ideal S1x1024 .f32) (v73 : FVec Ideal S512x1 .f32) (e : Ideal .f32)
    (r : Fin 512) (d : Fin 1024) :
    k0_pay1 (F := Ideal) v66 v68 v73 e (ix2 r d) = v66 (ix2 r d) * Ideal.rsqrt (v73 (ix2 r 0) + e) * v68 (ix2 0 d) := by
  pointwise [k0_pay1]

end Cert.Ffn

end
-- ==== Proof.FfnOut.lean ====
/- What the kernel leaves in its output block, as the block function of the rows of its input blocks. -/
module

public import proofs.«01_k».proof.Proof.FfnPay

@[expose] public section

noncomputable section

namespace Cert.Ffn

open Idealize.ShloMosaic Cert.Kernel2Ideal Cert.Kernel2Ideal.Gen

theorem hz : (![0, 0] : Fin 2 → Nat) = fun _ => 0 := funext fun a => by fin_cases a <;> rfl

/-- The residual stream with the attention's projection added, its two head groups apart. -/
def mixed (x : Fin 1024 → EReal) (a b : Fin 512 → EReal) (w : Fin 1024 → Fin 1024 → EReal) (d : Fin 1024) : EReal :=
  x d + (∑ k : Fin 512, a k * w ⟨k.val, by omega⟩ d) + ∑ k : Fin 512, b k * w ⟨512 + k.val, by omega⟩ d

/-- The stream after the feed-forward layer, before the final norm. -/
theorem stream_apply (x0 : Vec Ideal S512x1024 .f32) (x1 x2 : Vec Ideal S512x512 .bf16) (x3 : Vec Ideal S1024x1024 .bf16)
    (x4 : Vec Ideal S1x1024 .f32) (x5 x6 : Vec Ideal S1024x2816 .bf16) (x7 : Vec Ideal S2816x1024 .bf16)
    (x8 : Vec Ideal S1x1024 .f32) (r : Fin 512) (d : Fin 1024) :
    k0_pay7 (F := Ideal) (k0_pay11 x0 x1 x2 x3 x4 x5 x6 x7 x8) (k0_pay12 x0 x1 x2 x3 x4 x5 x6 x7 x8)
      (k0_pay13 x0 x1 x2 x3 x4 x5 x6 x7 x8) (k0_pay14 x0 x1 x2 x3 x4 x5 x6 x7 x8) (k0_pay15 x0 x1 x2 x3 x4 x5 x6 x7 x8)
      (k0_pay10 x0 x1 x2 x3 x4 x5 x6 x7 x8) (View.ld x7 r0_6) (View.ld x5 r0_7) (View.ld x6 r0_7) (View.ld x7 r0_8) (ix2 r d)
      = (mixed (fun d => x0 (ix2 r d)) (fun k => x1 (ix2 r k)) (fun k => x2 (ix2 r k)) (fun k d => x3 (ix2 k d))) d + ffn (rms (mixed (fun d => x0 (ix2 r d)) (fun k => x1 (ix2 r k)) (fun k => x2 (ix2 r k)) (fun k d => x3 (ix2 k d))) (fun d => x4 (ix2 0 d))) (fun k n => x5 (ix2 k n)) (fun k n => x6 (ix2 k n)) (fun n d => x7 (ix2 n d)) d := by
  have e0 : View.ld x0 r0_0 = x0 := View.ld_unit_zero hz _ _
  have e1 : View.ld x1 r0_1 = x1 := View.ld_unit_zero hz _ _
  have e2 : View.ld x2 r0_1 = x2 := View.ld_unit_zero hz _ _
  have e4 : View.ld x4 r0_4 = x4 := View.ld_unit_zero hz _ _
  have hm : ∀ d, k0_pay11 (F := Ideal) x0 x1 x2 x3 x4 x5 x6 x7 x8 (ix2 r d)
      = mixed (fun d => x0 (ix2 r d)) (fun k => x1 (ix2 r k)) (fun k => x2 (ix2 r k)) (fun k d => x3 (ix2 k d)) d := by
    intro d
    unfold k0_pay11
    rw [e0, e1, e2, pay2_apply]
    pointwise [mixed]
  have hn : ∀ d, k0_pay12 (F := Ideal) x0 x1 x2 x3 x4 x5 x6 x7 x8 (ix2 r d)
      = rms (mixed (fun d => x0 (ix2 r d)) (fun k => x1 (ix2 r k)) (fun k => x2 (ix2 r k)) (fun k d => x3 (ix2 k d)))
          (fun d => x4 (ix2 0 d)) d := by
    intro d
    have h := pay3_apply (View.ld x0 r0_0) (View.ld x1 r0_1) (View.ld x2 r0_1) (View.ld x3 r0_2) (View.ld x3 r0_3) (View.ld x4 r0_4) r d
    unfold k0_pay12
    rw [e4] at h ⊢
    exact h.trans (congrArg (fun f => rms f _ d) (funext hm))
  have hg : ∀ n, k0_pay14 (F := Ideal) x0 x1 x2 x3 x4 x5 x6 x7 x8 (ix2 r n)
      = ∑ k, k0_pay12 (F := Ideal) x0 x1 x2 x3 x4 x5 x6 x7 x8 (ix2 r k) * x5 (ix2 k (lo n)) := by
    intro n
    refine (pay5_apply _ _ _ _ _ _ _ r n).trans ?_
    refine Finset.sum_congr rfl fun k _ => ?_
    refine congrArg₂ (· * ·) rfl ?_
    pointwise [lo]
  set X := mixed (fun d => x0 (ix2 r d)) (fun k => x1 (ix2 r k)) (fun k => x2 (ix2 r k)) (fun k d => x3 (ix2 k d)) with hX
  rw [pay7_apply, hm]
  refine congrArg (X d + ·) ?_
  rw [ffn, sum_halves]
  have h13 : k0_pay13 (F := Ideal) x0 x1 x2 x3 x4 x5 x6 x7 x8 (ix2 r d) = 0 := by
    unfold k0_pay13
    pointwise [k0_pay4]
  have h10 : ∀ n, k0_pay10 (F := Ideal) x0 x1 x2 x3 x4 x5 x6 x7 x8 (ix2 r n) = 0 := by
    intro n
    pointwise [k0_pay10]
  rw [h13, zero_add]
  refine congrArg₂ (· + ·) (Finset.sum_congr rfl fun n _ => ?_) (Finset.sum_congr rfl fun n _ => ?_)
  · rw [h10, zero_add, hg]
    simp only [hn]
    refine congrArg₂ (· * ·) (congrArg₂ (· * ·) rfl (Finset.sum_congr rfl fun k _ => congrArg₂ (· * ·) rfl ?_)) ?_
    · pointwise [k0_pay15, k0_pay6, lo]
    · pointwise [lo]
  · simp only [hn]
    refine congrArg₂ (· * ·) (congrArg₂ (unit _) (funext fun k => ?_) (funext fun k => ?_)) ?_ <;> pointwise [hi]

theorem out_apply (x0 : Vec Ideal S512x1024 .f32) (x1 x2 : Vec Ideal S512x512 .bf16) (x3 : Vec Ideal S1024x1024 .bf16)
    (x4 : Vec Ideal S1x1024 .f32) (x5 x6 : Vec Ideal S1024x2816 .bf16) (x7 : Vec Ideal S2816x1024 .bf16)
    (x8 : Vec Ideal S1x1024 .f32) (r : Fin 512) (d : Fin 1024) :
    out0_9 (F := Ideal) x0 x1 x2 x3 x4 x5 x6 x7 x8 (ix2 r d)
    = block (mixed (fun d => x0 (ix2 r d)) (fun k => x1 (ix2 r k)) (fun k => x2 (ix2 r k)) (fun k d => x3 (ix2 k d)))
        (fun d => x4 (ix2 0 d)) (fun k n => x5 (ix2 k n)) (fun k n => x6 (ix2 k n)) (fun n d => x7 (ix2 n d))
        (fun d => x8 (ix2 0 d)) d := by
  have e8 : View.ld x8 r0_4 = x8 := View.ld_unit_zero hz _ _
  set X := mixed (fun d => x0 (ix2 r d)) (fun k => x1 (ix2 r k)) (fun k => x2 (ix2 r k)) (fun k d => x3 (ix2 k d)) with hX
  have h7 : ∀ d, k0_pay7 (F := Ideal) (k0_pay11 x0 x1 x2 x3 x4 x5 x6 x7 x8) (k0_pay12 x0 x1 x2 x3 x4 x5 x6 x7 x8)
      (k0_pay13 x0 x1 x2 x3 x4 x5 x6 x7 x8) (k0_pay14 x0 x1 x2 x3 x4 x5 x6 x7 x8) (k0_pay15 x0 x1 x2 x3 x4 x5 x6 x7 x8)
      (k0_pay10 x0 x1 x2 x3 x4 x5 x6 x7 x8) (View.ld x7 r0_6) (View.ld x5 r0_7) (View.ld x6 r0_7) (View.ld x7 r0_8) (ix2 r d)
      = X d + ffn (rms X (fun d => x4 (ix2 0 d))) (fun k n => x5 (ix2 k n)) (fun k n => x6 (ix2 k n)) (fun n d => x7 (ix2 n d)) d :=
    fun d => stream_apply x0 x1 x2 x3 x4 x5 x6 x7 x8 r d
  have h9 := pay9_apply (k0_pay11 x0 x1 x2 x3 x4 x5 x6 x7 x8) (k0_pay12 x0 x1 x2 x3 x4 x5 x6 x7 x8)
      (k0_pay13 x0 x1 x2 x3 x4 x5 x6 x7 x8) (k0_pay14 x0 x1 x2 x3 x4 x5 x6 x7 x8) (k0_pay15 x0 x1 x2 x3 x4 x5 x6 x7 x8)
      (k0_pay10 x0 x1 x2 x3 x4 x5 x6 x7 x8) (View.ld x7 r0_6) (View.ld x5 r0_7) (View.ld x6 r0_7) (View.ld x7 r0_8) r
  simp only [h7] at h9
  unfold out0_9
  rw [View.canon_unit_zero hz, pay1_apply, h7, h9]
  rw [e8]
  unfold block rms
  refine congrArg₂ (· * ·) rfl ?_
  pointwise [k0_pay8]

end Cert.Ffn

end
-- ==== Proof.FfnHost.lean ====
/- The arrays the kernel is called with, read at an element of the arguments. -/
module

public import proofs.«01_k».proof.Proof.Gen.Kernel2Ideal.Value
public import proofs.«01_k».proof.Proof.FfnSpec

@[expose] public section

noncomputable section

namespace Cert.Ffn

open Idealize.ShloMosaic Idealize.ShloMosaic.TcCoe Cert.Kernel2Ideal Cert.Kernel2Ideal.Gen

theorem rows_apply (x : Vec Ideal S8x2048x1024 .f32) (R : Fin 16384) (d : Fin 1024) :
    shapeCast S16384x1024 x shapeCasts_S8x2048x1024_S16384x1024 (ix2 R d)
    = x (ix3 ⟨R.val / 2048, by omega⟩ ⟨R.val % 2048, by omega⟩ d) := by
  pointwise

theorem weight_apply (w : Vec Ideal S1024x1024 .f32) (k d : Fin 1024) :
    truncf (F := Ideal) .bf16 (shapeCast S1024x1024 (transpose S2x8x64x1024 [1, 0, 2, 3]
      (shapeCast S8x2x64x1024 w shapeCasts_S1024x1024_S8x2x64x1024)
      transposes_S8x2x64x1024_S2x8x64x1024_1_0_2_3) shapeCasts_S2x8x64x1024_S1024x1024) bitsLt_bf16_f32 (ix2 k d)
    = w (ix2 ⟨k.val / 64 % 8 * 128 + k.val / 512 * 64 + k.val % 64, by omega⟩ d) := by
  pointwise

variable (m : (ℓ : Loc nD τ sig) → Buf (Elt Ideal) ℓ) (c : Dev nD)

theorem v11_apply (R : Fin 16384) (d : Fin 1024) : (V m c main_v11 : Vec Ideal S16384x1024 .f32) (ix2 R d)
    = (m ((c : Thread nD τ).loc main_arg0) : Vec Ideal S8x2048x1024 .f32)
        (ix3 ⟨R.val / 2048, by omega⟩ ⟨R.val % 2048, by omega⟩ d) := by
  have h : V m c main_v11 = shapeCast S16384x1024 (m ((c : Thread nD τ).loc main_arg0)) shapeCasts_S8x2048x1024_S16384x1024 := by
    unfold V hostOps0
    after_results_simp <;> rfl
  rw [h]
  exact rows_apply _ R d

theorem v13_apply (R : Fin 16384) (k : Fin 512) : (V m c main_v13 : Vec Ideal S16384x512 .bf16) (ix2 R k)
    = (m ((c : Thread nD τ).loc main_arg1) : Vec Ideal S8x8x2x2048x64 .f32)
        (ix5 ⟨R.val / 2048, by omega⟩ ⟨k.val / 64, by omega⟩ 0 ⟨R.val % 2048, by omega⟩ ⟨k.val % 64, by omega⟩) := by
  have h : (V m c main_v13 : Vec Ideal S16384x512 .bf16) = shapeCast S16384x512 (extractStridedSlice S1x16384x512 ![0, 0, 0]
      (truncf (F := Ideal) .bf16 (shapeCast S2x16384x512 (transpose S2x8x2048x8x64 [2, 0, 3, 1, 4] (m ((c : Thread nD τ).loc main_arg1))
        transposes_S8x8x2x2048x64_S2x8x2048x8x64_2_0_3_1_4) shapeCasts_S2x8x2048x8x64_S2x16384x512) bitsLt_bf16_f32)
      slices_S2x16384x512_S1x16384x512_0_0_0) shapeCasts_S1x16384x512_S16384x512 := by
    unfold V hostOps0
    after_results_simp <;> rfl
  rw [h]
  pointwise

theorem v15_apply (R : Fin 16384) (k : Fin 512) : (V m c main_v15 : Vec Ideal S16384x512 .bf16) (ix2 R k)
    = (m ((c : Thread nD τ).loc main_arg1) : Vec Ideal S8x8x2x2048x64 .f32)
        (ix5 ⟨R.val / 2048, by omega⟩ ⟨k.val / 64, by omega⟩ 1 ⟨R.val % 2048, by omega⟩ ⟨k.val % 64, by omega⟩) := by
  have h : (V m c main_v15 : Vec Ideal S16384x512 .bf16) = shapeCast S16384x512 (extractStridedSlice S1x16384x512 ![1, 0, 0]
      (truncf (F := Ideal) .bf16 (shapeCast S2x16384x512 (transpose S2x8x2048x8x64 [2, 0, 3, 1, 4] (m ((c : Thread nD τ).loc main_arg1))
        transposes_S8x8x2x2048x64_S2x8x2048x8x64_2_0_3_1_4) shapeCasts_S2x8x2048x8x64_S2x16384x512) bitsLt_bf16_f32)
      slices_S2x16384x512_S1x16384x512_1_0_0) shapeCasts_S1x16384x512_S16384x512 := by
    unfold V hostOps0
    after_results_simp <;> rfl
  rw [h]
  pointwise

theorem v16_apply (k d : Fin 1024) : (V m c main_v16 : Vec Ideal S1024x1024 .bf16) (ix2 k d)
    = (m ((c : Thread nD τ).loc main_arg2) : Vec Ideal S1024x1024 .f32)
        (ix2 ⟨k.val / 64 % 8 * 128 + k.val / 512 * 64 + k.val % 64, by omega⟩ d) := by
  have h : (V m c main_v16 : Vec Ideal S1024x1024 .bf16) = truncf (F := Ideal) .bf16 (shapeCast S1024x1024 (transpose S2x8x64x1024 [1, 0, 2, 3]
      (shapeCast S8x2x64x1024 (m ((c : Thread nD τ).loc main_arg2)) shapeCasts_S1024x1024_S8x2x64x1024)
      transposes_S8x2x64x1024_S2x8x64x1024_1_0_2_3) shapeCasts_S2x8x64x1024_S1024x1024) bitsLt_bf16_f32 := by
    unfold V hostOps0
    after_results_simp <;> rfl
  rw [h]
  exact weight_apply _ k d

theorem v6_apply (d : Fin 1024) : (V m c main_v6 : Vec Ideal S1x1024 .f32) (ix2 0 d)
    = (m ((c : Thread nD τ).loc main_arg3) : Vec Ideal S1024 .f32) (ix1 d) := by
  have h : V m c main_v6 = shapeCast S1x1024 (m ((c : Thread nD τ).loc main_arg3)) shapeCasts_S1024_S1x1024 := by
    unfold V hostOps0
    after_results_simp <;> rfl
  rw [h]
  pointwise

theorem v10_apply (d : Fin 1024) : (V m c main_v10 : Vec Ideal S1x1024 .f32) (ix2 0 d)
    = (m ((c : Thread nD τ).loc main_arg7) : Vec Ideal S1024 .f32) (ix1 d) := by
  have h : V m c main_v10 = shapeCast S1x1024 (m ((c : Thread nD τ).loc main_arg7)) shapeCasts_S1024_S1x1024 := by
    unfold V hostOps0
    after_results_simp <;> rfl
  rw [h]
  pointwise

theorem v7_eq : (V m c main_v7 : Vec Ideal S1024x2816 .bf16) = (m ((c : Thread nD τ).loc main_arg4) : Vec Ideal S1024x2816 .f32) := by
  unfold V hostOps0
  after_results_simp <;> rfl

theorem v8_eq : (V m c main_v8 : Vec Ideal S1024x2816 .bf16) = (m ((c : Thread nD τ).loc main_arg5) : Vec Ideal S1024x2816 .f32) := by
  unfold V hostOps0
  after_results_simp <;> rfl

theorem v9_eq : (V m c main_v9 : Vec Ideal S2816x1024 .bf16) = (m ((c : Thread nD τ).loc main_arg6) : Vec Ideal S2816x1024 .f32) := by
  unfold V hostOps0
  after_results_simp <;> rfl

end Cert.Ffn

end
-- ==== Proof.FfnRef.lean ====
/- The reference's result, read at an element: the block function of the token's row. -/
module

public import proofs.«01_k».proof.Proof.Gen.Reference2Ideal.Run
public import proofs.«01_k».proof.Proof.FfnSpec

@[expose] public section

noncomputable section

namespace Cert.Ffn

open Idealize.ShloMosaic Idealize.ShloMosaic.TcCoe Cert.Reference2Ideal Cert.Reference2Ideal.Gen

/-- The residual stream plus the projected attention of one token. -/
def mixRow (x : FVec Ideal S8x2048x1024 .f32) (o : FVec Ideal S8x8x2x2048x64 .f32) (w : FVec Ideal S1024x1024 .f32)
    (b : Fin 8) (t : Fin 2048) (d : Fin 1024) : EReal :=
  x (ix3 b t d) + ∑ k : Fin 1024, o (ix5 b ⟨k.val / 128, by omega⟩ ⟨k.val / 64 % 2, by omega⟩ t ⟨k.val % 64, by omega⟩) * w (ix2 k d)

/-- The residual stream plus the projected attention, all tokens. -/
def refMix (x : FVec Ideal S8x2048x1024 .f32) (o : FVec Ideal S8x8x2x2048x64 .f32) (w : FVec Ideal S1024x1024 .f32) :
    FVec Ideal S8x2048x1024 .f32 :=
  addf x (Host.dotGeneral (φ₁ := .f32) (φ₂ := .f32) dot_S8x2048x1024_S1024x1024_S8x2048x1024_2_0_01_1_n_n none (shapeCast S8x2048x1024
    (transpose S8x2048x8x2x64 [0, 3, 1, 2, 4] o transposes_S8x8x2x2048x64_S8x2048x8x2x64_0_3_1_2_4)
    shapeCasts_S8x2048x8x2x64_S8x2048x1024) w)

theorem refMix_apply (x : FVec Ideal S8x2048x1024 .f32) (o : FVec Ideal S8x8x2x2048x64 .f32) (w : FVec Ideal S1024x1024 .f32)
    (b : Fin 8) (t : Fin 2048) (d : Fin 1024) : refMix x o w (ix3 b t d) = mixRow x o w b t d := by
  pointwise [refMix, mixRow]

/-- The norm, all tokens. -/
def refNorm (y : FVec Ideal S8x2048x1024 .f32) (g : FVec Ideal S1024 .f32) : FVec Ideal S8x2048x1024 .f32 :=
  mulf (mulf y (broadcastInDim S8x2048x1024 ![0, 1, 2] bcast_S8x2048x1_S8x2048x1024_0_1_2 (Host.rsqrt (addf (Host.divf
    (broadcastInDim S8x2048x1 ![0, 1] bcast_S8x2048_S8x2048x1_0_1 (Host.reduceAdd (mulf y y) (constant S_ .f32 0x00000000#32)
      reducesTo_S8x2048x1024_S8x2048_d2 h_S_))
    (broadcastInDim S8x2048x1 ![] bcast_S_S8x2048x1 (constant S_ .f32 0x44800000#32)))
    (broadcastInDim S8x2048x1 ![] bcast_S_S8x2048x1 (constant S_ .f32 0x358637BD#32))))))
    (broadcastInDim S8x2048x1024 ![0, 1, 2] bcast_S1x1x1024_S8x2048x1024_0_1_2 (broadcastInDim S1x1x1024 ![2] bcast_S1024_S1x1x1024_2 g))

theorem refNorm_apply (y : FVec Ideal S8x2048x1024 .f32) (g : FVec Ideal S1024 .f32) (b : Fin 8) (t : Fin 2048) (d : Fin 1024) :
    refNorm y g (ix3 b t d) = rms (fun d => y (ix3 b t d)) (fun d => g (ix1 d)) d := by
  pointwise [refNorm, rms]

/-- The feed-forward layer, all tokens. -/
def refFfn (h : FVec Ideal S8x2048x1024 .f32) (wg wu : FVec Ideal S1024x2816 .f32) (wd : FVec Ideal S2816x1024 .f32) :
    FVec Ideal S8x2048x1024 .f32 :=
  have p : FVec Ideal S8x2048x2816 .f32 := Host.dotGeneral (φ₁ := .f32) (φ₂ := .f32) dot_S8x2048x1024_S1024x2816_S8x2048x2816_2_0_01_1_n_n none h wg
  Host.dotGeneral (φ₁ := .f32) (φ₂ := .f32) dot_S8x2048x2816_S2816x1024_S8x2048x1024_2_0_01_1_n_n none (mulf (mulf p (Host.divf
    (broadcastInDim S8x2048x2816 ![] bcast_S_S8x2048x2816 (constant S_ .f32 0x3F800000#32))
    (addf (broadcastInDim S8x2048x2816 ![] bcast_S_S8x2048x2816 (constant S_ .f32 0x3F800000#32)) (Host.exp (Host.negf p)))))
    (Host.dotGeneral (φ₁ := .f32) (φ₂ := .f32) dot_S8x2048x1024_S1024x2816_S8x2048x2816_2_0_01_1_n_n none h wu)) wd

theorem refFfn_apply (h : FVec Ideal S8x2048x1024 .f32) (wg wu : FVec Ideal S1024x2816 .f32) (wd : FVec Ideal S2816x1024 .f32)
    (b : Fin 8) (t : Fin 2048) (d : Fin 1024) : refFfn h wg wu wd (ix3 b t d)
      = ffn (fun d => h (ix3 b t d)) (fun k n => wg (ix2 k n)) (fun k n => wu (ix2 k n)) (fun n d => wd (ix2 n d)) d := by
  pointwise [refFfn, ffn, unit]
  simp only [gate_eq]

variable (m : (ℓ : Loc nD τ sig) → Buf (Elt Ideal) ℓ) (c : Dev nD)

/-- The result is the norm of the stream after the feed-forward layer. -/
theorem res_eq : Value.res_out0 m c = shapeCast S16384x1024
    (refNorm (addf (refMix (m (c.tc.loc main_arg0)) (m (c.tc.loc main_arg1)) (m (c.tc.loc main_arg2)))
      (refFfn (refNorm (refMix (m (c.tc.loc main_arg0)) (m (c.tc.loc main_arg1)) (m (c.tc.loc main_arg2))) (m (c.tc.loc main_arg3)))
        (m (c.tc.loc main_arg4)) (m (c.tc.loc main_arg5)) (m (c.tc.loc main_arg6)))) (m (c.tc.loc main_arg7)))
    shapeCasts_S8x2048x1024_S16384x1024 := rfl

theorem res_apply (b : Fin 8) (t : Fin 2048) (d : Fin 1024) (R : Fin 16384) (hR : R.val = b.val * 2048 + t.val) :
    (Value.res_out0 m c : FVec Ideal S16384x1024 .f32) (ix2 R d)
    = block (mixRow (m (c.tc.loc main_arg0)) (m (c.tc.loc main_arg1)) (m (c.tc.loc main_arg2)) b t)
        (fun d => (m (c.tc.loc main_arg3) : Vec Ideal S1024 .f32) (ix1 d))
        (fun k n => (m (c.tc.loc main_arg4) : FVec Ideal S1024x2816 .f32) (ix2 k n))
        (fun k n => (m (c.tc.loc main_arg5) : FVec Ideal S1024x2816 .f32) (ix2 k n))
        (fun n d => (m (c.tc.loc main_arg6) : FVec Ideal S2816x1024 .f32) (ix2 n d))
        (fun d => (m (c.tc.loc main_arg7) : Vec Ideal S1024 .f32) (ix1 d)) d := by
  rw [res_eq]
  have hcast : ∀ y : FVec Ideal S8x2048x1024 .f32, shapeCast S16384x1024 y shapeCasts_S8x2048x1024_S16384x1024 (ix2 R d) = y (ix3 b t d) := by
    intro y
    pointwise
    refine congrArg y ?_
    have h1 : (⟨R.val / 2048, by omega⟩ : Fin 8) = b := Fin.ext (by show R.val / 2048 = b.val; omega)
    have h2 : (⟨R.val % 2048, by omega⟩ : Fin 2048) = t := Fin.ext (by show R.val % 2048 = t.val; omega)
    rw [h1, h2]
  rw [hcast, refNorm_apply, block]
  refine congrArg (fun f => rms f _ d) (funext fun d => ?_)
  show refMix _ _ _ (ix3 b t d) + refFfn _ _ _ _ (ix3 b t d) = _
  rw [refFfn_apply, refMix_apply]
  refine congrArg (mixRow _ _ _ b t d + ·) (congrArg (fun f => ffn f _ _ _ d) (funext fun d => ?_))
  rw [refNorm_apply]
  exact congrArg (fun f => rms f _ d) (funext fun d => refMix_apply _ _ _ b t d)

end Cert.Ffn

end
-- ==== Proof.FfnArr.lean ====
/- The kernel's result array, read at an element: the block function of the token's row. -/
module

public import proofs.«01_k».proof.Proof.FfnOut
public import proofs.«01_k».proof.Proof.FfnHost
public import proofs.«01_k».proof.Proof.FfnRef

@[expose] public section

noncomputable section

namespace Cert.Ffn

open Idealize.ShloMosaic Idealize.ShloMosaic.TcCoe Cert.Kernel2Ideal Cert.Kernel2Ideal.Gen

/-! ## The two groups of heads -/

/-- Row `k` of group `g` of the regrouped heads, as a row of the projection. -/
def head (g : Fin 2) (k : Fin 512) : Fin 1024 := ⟨k.val / 64 * 128 + g.val * 64 + k.val % 64, by omega⟩

theorem head_inj : Function.Injective (Sum.elim (head 0) (head 1)) := by
  rintro (a | a) (b | b) h <;> simp only [Sum.elim_inl, Sum.elim_inr, head, Fin.mk.injEq, Fin.val_zero, Fin.val_one] at h <;> congr 1 <;>
    first | (apply Fin.ext; omega) | omega

/-- A sum over the projection's rows is the sum over the two groups. -/
theorem sum_heads (f : Fin 1024 → EReal) : ∑ k, f k = (∑ k, f (head 0 k)) + ∑ k, f (head 1 k) := by
  have hb : Function.Bijective (Sum.elim (head 0) (head 1)) :=
    (Fintype.bijective_iff_injective_and_card _).mpr ⟨head_inj, by simp⟩
  rw [← (Equiv.ofBijective _ hb).sum_comp f, Fintype.sum_sum_type]
  rfl

/-- The kernel's two products over the regrouped rows are the reference's one product. -/
theorem mixed_eq (x : FVec Ideal S8x2048x1024 .f32) (o : FVec Ideal S8x8x2x2048x64 .f32) (w : FVec Ideal S1024x1024 .f32)
    (b : Fin 8) (t : Fin 2048) :
    mixed (fun d => x (ix3 b t d)) (fun k => o (ix5 b ⟨k.val / 64, by omega⟩ 0 t ⟨k.val % 64, by omega⟩))
      (fun k => o (ix5 b ⟨k.val / 64, by omega⟩ 1 t ⟨k.val % 64, by omega⟩))
      (fun k d => w (ix2 ⟨k.val / 64 % 8 * 128 + k.val / 512 * 64 + k.val % 64, by omega⟩ d))
    = mixRow x o w b t := by
  funext d
  rw [mixed, mixRow, sum_heads, add_assoc]
  refine congrArg (x (ix3 b t d) + ·) (congrArg₂ (· + ·) (Finset.sum_congr rfl fun k _ => ?_) (Finset.sum_congr rfl fun k _ => ?_)) <;>
    refine congrArg₂ (· * ·) (congrArg o ?_) (congrArg w ?_)
  · congr 1 <;> apply Fin.ext <;> simp only [head, Fin.val_zero, Fin.val_one] <;> omega
  · congr 1; apply Fin.ext; simp only [head, Fin.val_zero]; omega
  · congr 1 <;> apply Fin.ext <;> simp only [head, Fin.val_zero, Fin.val_one] <;> omega
  · congr 1; apply Fin.ext; simp only [head, Fin.val_one]; omega

/-- The block of equal rows and weights. -/
theorem block_congr {x x' : Fin 1024 → EReal} {a a' b b' : Fin 512 → EReal} {w w' : Fin 1024 → Fin 1024 → EReal} {g g' : Fin 1024 → EReal}
    {wg wg' wu wu' : Fin 1024 → Fin 2816 → EReal} {wd wd' : Fin 2816 → Fin 1024 → EReal} {fn fn' : Fin 1024 → EReal}
    (hx : ∀ d, x d = x' d) (ha : ∀ k, a k = a' k) (hb : ∀ k, b k = b' k) (hw : ∀ k d, w k d = w' k d) (hg : ∀ d, g d = g' d)
    (hwg : ∀ k n, wg k n = wg' k n) (hwu : ∀ k n, wu k n = wu' k n) (hwd : ∀ n d, wd n d = wd' n d) (hfn : ∀ d, fn d = fn' d)
    (d : Fin 1024) : block (mixed x a b w) g wg wu wd fn d = block (mixed x' a' b' w') g' wg' wu' wd' fn' d := by
  rw [funext hx, funext ha, funext hb, funext fun k => funext (hw k), funext hg, funext fun k => funext (hwg k),
    funext fun k => funext (hwu k), funext fun n => funext (hwd n), funext hfn]

/-! ## The windows -/

theorem row_idx : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_9.index t (0 : Fin 2) = t.val ∧ win0_9.index t (1 : Fin 2) = 0) :=
  (by decide +kernel : ∀ t : Fin grid0.N, _)

theorem whole_idx : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- The array row of row `r` of block `t`. -/
def row (t : Fin cfg0.N) (r : Fin 512) : Fin 16384 := ⟨t.val * 512 + r.val, by have := t.isLt; have h : cfg0.N = 32 := rfl; omega⟩

theorem emb0 (t : Fin cfg0.N) (r : Fin 512) (d : Fin 1024) :
    ((cfg0.win 0).blk t).view.emb (ix2 r d : S512x1024.Idx) = (ix2 (row t r) d : S16384x1024.Idx) := by
  obtain ⟨⟨e0, e1⟩, -⟩ := row_idx t
  funext a; apply Fin.ext
  match a with
  | ⟨0, _⟩ => show win0_0.index t (0 : Fin 2) * 512 + 1 * r.val = t.val * 512 + r.val; omega
  | ⟨1, _⟩ => show win0_0.index t (1 : Fin 2) * 1024 + 1 * d.val = d.val; omega

theorem emb1 (t : Fin cfg0.N) (r : Fin 512) (k : Fin 512) :
    ((cfg0.win 1).blk t).view.emb (ix2 r k : S512x512.Idx) = (ix2 (row t r) k : S16384x512.Idx) := by
  obtain ⟨-, ⟨e0, e1⟩, -⟩ := row_idx t
  funext a; apply Fin.ext
  match a with
  | ⟨0, _⟩ => show win0_1.index t (0 : Fin 2) * 512 + 1 * r.val = t.val * 512 + r.val; omega
  | ⟨1, _⟩ => show win0_1.index t (1 : Fin 2) * 512 + 1 * k.val = k.val; omega

theorem emb2 (t : Fin cfg0.N) (r : Fin 512) (k : Fin 512) :
    ((cfg0.win 2).blk t).view.emb (ix2 r k : S512x512.Idx) = (ix2 (row t r) k : S16384x512.Idx) := by
  obtain ⟨-, -, ⟨e0, e1⟩, -⟩ := row_idx t
  funext a; apply Fin.ext
  match a with
  | ⟨0, _⟩ => show win0_2.index t (0 : Fin 2) * 512 + 1 * r.val = t.val * 512 + r.val; omega
  | ⟨1, _⟩ => show win0_2.index t (1 : Fin 2) * 512 + 1 * k.val = k.val; omega

theorem emb9 (t : Fin cfg0.N) (r : Fin 512) (d : Fin 1024) :
    ((cfg0.win 9).blk t).view.emb (ix2 r d : S512x1024.Idx) = (ix2 (row t r) d : S16384x1024.Idx) := by
  obtain ⟨-, -, -, e0, e1⟩ := row_idx t
  funext a; apply Fin.ext
  match a with
  | ⟨0, _⟩ => show win0_9.index t (0 : Fin 2) * 512 + 1 * r.val = t.val * 512 + r.val; omega
  | ⟨1, _⟩ => show win0_9.index t (1 : Fin 2) * 1024 + 1 * d.val = d.val; omega

theorem emb3 (t : Fin cfg0.N) (j : S1024x1024.Idx) : ((cfg0.win 3).blk t).view.emb j = j := by
  obtain ⟨⟨e0, e1⟩, -⟩ := whole_idx t
  funext a; apply Fin.ext
  match a with
  | ⟨0, _⟩ => show win0_3.index t (0 : Fin 2) * 1024 + 1 * (j 0).val = (j 0).val; omega
  | ⟨1, _⟩ => show win0_3.index t (1 : Fin 2) * 1024 + 1 * (j 1).val = (j 1).val; omega

theorem emb4 (t : Fin cfg0.N) (j : S1x1024.Idx) : ((cfg0.win 4).blk t).view.emb j = j := by
  obtain ⟨-, ⟨e0, e1⟩, -⟩ := whole_idx t
  funext a; apply Fin.ext
  match a with
  | ⟨0, _⟩ => show win0_4.index t (0 : Fin 2) * 1 + 1 * (j 0).val = (j 0).val; omega
  | ⟨1, _⟩ => show win0_4.index t (1 : Fin 2) * 1024 + 1 * (j 1).val = (j 1).val; omega

theorem emb5 (t : Fin cfg0.N) (j : S1024x2816.Idx) : ((cfg0.win 5).blk t).view.emb j = j := by
  obtain ⟨-, -, ⟨e0, e1⟩, -⟩ := whole_idx t
  funext a; apply Fin.ext
  match a with
  | ⟨0, _⟩ => show win0_5.index t (0 : Fin 2) * 1024 + 1 * (j 0).val = (j 0).val; omega
  | ⟨1, _⟩ => show win0_5.index t (1 : Fin 2) * 2816 + 1 * (j 1).val = (j 1).val; omega

theorem emb6 (t : Fin cfg0.N) (j : S1024x2816.Idx) : ((cfg0.win 6).blk t).view.emb j = j := by
  obtain ⟨-, -, -, ⟨e0, e1⟩, -⟩ := whole_idx t
  funext a; apply Fin.ext
  match a with
  | ⟨0, _⟩ => show win0_6.index t (0 : Fin 2) * 1024 + 1 * (j 0).val = (j 0).val; omega
  | ⟨1, _⟩ => show win0_6.index t (1 : Fin 2) * 2816 + 1 * (j 1).val = (j 1).val; omega

theorem emb7 (t : Fin cfg0.N) (j : S2816x1024.Idx) : ((cfg0.win 7).blk t).view.emb j = j := by
  obtain ⟨-, -, -, -, ⟨e0, e1⟩, -⟩ := whole_idx t
  funext a; apply Fin.ext
  match a with
  | ⟨0, _⟩ => show win0_7.index t (0 : Fin 2) * 2816 + 1 * (j 0).val = (j 0).val; omega
  | ⟨1, _⟩ => show win0_7.index t (1 : Fin 2) * 1024 + 1 * (j 1).val = (j 1).val; omega

theorem emb8 (t : Fin cfg0.N) (j : S1x1024.Idx) : ((cfg0.win 8).blk t).view.emb j = j := by
  obtain ⟨-, -, -, -, -, e0, e1⟩ := whole_idx t
  funext a; apply Fin.ext
  match a with
  | ⟨0, _⟩ => show win0_8.index t (0 : Fin 2) * 1 + 1 * (j 0).val = (j 0).val; omega
  | ⟨1, _⟩ => show win0_8.index t (1 : Fin 2) * 1024 + 1 * (j 1).val = (j 1).val; omega

variable (m : (ℓ : Loc nD τ sig) → Buf (Elt Ideal) ℓ) (c : Dev nD)

theorem blk0 (t : Fin cfg0.N) (r : Fin 512) (d : Fin 1024) :
    (iblk m c 0 t : Vec Ideal S512x1024 .f32) (ix2 r d) = (V m c main_v11 : Vec Ideal S16384x1024 .f32) (ix2 (row t r) d) :=
  congrArg (V m c main_v11) (emb0 t r d)
theorem blk1 (t : Fin cfg0.N) (r k : Fin 512) :
    (iblk m c 1 t : Vec Ideal S512x512 .bf16) (ix2 r k) = (V m c main_v13 : Vec Ideal S16384x512 .bf16) (ix2 (row t r) k) :=
  congrArg (V m c main_v13) (emb1 t r k)
theorem blk2 (t : Fin cfg0.N) (r k : Fin 512) :
    (iblk m c 2 t : Vec Ideal S512x512 .bf16) (ix2 r k) = (V m c main_v15 : Vec Ideal S16384x512 .bf16) (ix2 (row t r) k) :=
  congrArg (V m c main_v15) (emb2 t r k)
theorem blk3 (t : Fin cfg0.N) (j : S1024x1024.Idx) :
    (iblk m c 3 t : Vec Ideal S1024x1024 .bf16) j = (V m c main_v16 : Vec Ideal S1024x1024 .bf16) j := congrArg (V m c main_v16) (emb3 t j)
theorem blk4 (t : Fin cfg0.N) (j : S1x1024.Idx) :
    (iblk m c 4 t : Vec Ideal S1x1024 .f32) j = (V m c main_v6 : Vec Ideal S1x1024 .f32) j := congrArg (V m c main_v6) (emb4 t j)
theorem blk5 (t : Fin cfg0.N) (j : S1024x2816.Idx) :
    (iblk m c 5 t : Vec Ideal S1024x2816 .bf16) j = (V m c main_v7 : Vec Ideal S1024x2816 .bf16) j := congrArg (V m c main_v7) (emb5 t j)
theorem blk6 (t : Fin cfg0.N) (j : S1024x2816.Idx) :
    (iblk m c 6 t : Vec Ideal S1024x2816 .bf16) j = (V m c main_v8 : Vec Ideal S1024x2816 .bf16) j := congrArg (V m c main_v8) (emb6 t j)
theorem blk7 (t : Fin cfg0.N) (j : S2816x1024.Idx) :
    (iblk m c 7 t : Vec Ideal S2816x1024 .bf16) j = (V m c main_v9 : Vec Ideal S2816x1024 .bf16) j := congrArg (V m c main_v9) (emb7 t j)
theorem blk8 (t : Fin cfg0.N) (j : S1x1024.Idx) :
    (iblk m c 8 t : Vec Ideal S1x1024 .f32) j = (V m c main_v10 : Vec Ideal S1x1024 .f32) j := congrArg (V m c main_v10) (emb8 t j)

/-- One row of the array after the run. -/
theorem arr_row (t : Fin cfg0.N) (r : Fin 512) (d : Fin 1024) (b : Fin 8) (s : Fin 2048) (hR : (row t r).val = b.val * 2048 + s.val) :
    ((dats m 0 c).arrAt 9 cfg0.N : Vec Ideal S16384x1024 .f32) (ix2 (row t r) d)
    = block (mixRow (m (c.tc.loc main_arg0)) (m (c.tc.loc main_arg1)) (m (c.tc.loc main_arg2)) b s)
        (fun d => (m (c.tc.loc main_arg3) : Vec Ideal S1024 .f32) (ix1 d))
        (fun k n => (m (c.tc.loc main_arg4) : Vec Ideal S1024x2816 .f32) (ix2 k n))
        (fun k n => (m (c.tc.loc main_arg5) : Vec Ideal S1024x2816 .f32) (ix2 k n))
        (fun n d => (m (c.tc.loc main_arg6) : Vec Ideal S2816x1024 .f32) (ix2 n d))
        (fun d => (m (c.tc.loc main_arg7) : Vec Ideal S1024 .f32) (ix1 d)) d := by
  have hb := congrFun (Value.blocks9 m c t (flush0_9 t)) (ix2 r d : S512x1024.Idx)
  rw [Value.flushed9] at hb
  have hb' : ((dats m 0 c).arrAt 9 cfg0.N : Vec Ideal S16384x1024 .f32) (((cfg0.win 9).blk t).view.emb (ix2 r d : S512x1024.Idx))
      = out0_9 (F := Ideal) (iblk m c 0 t) (iblk m c 1 t) (iblk m c 2 t) (iblk m c 3 t) (iblk m c 4 t) (iblk m c 5 t) (iblk m c 6 t)
          (iblk m c 7 t) (iblk m c 8 t) (ix2 r d) := hb
  rw [emb9, out_apply] at hb'
  rw [hb']
  have h1 : (⟨(row t r).val / 2048, by omega⟩ : Fin 8) = b := Fin.ext (by show (row t r).val / 2048 = b.val; omega)
  have h2 : (⟨(row t r).val % 2048, by omega⟩ : Fin 2048) = s := Fin.ext (by show (row t r).val % 2048 = s.val; omega)
  rw [← mixed_eq]
  refine block_congr (fun d => (blk0 m c t r d).trans ((v11_apply m c _ d).trans (by rw [h1, h2])))
    (fun k => (blk1 m c t r k).trans ((v13_apply m c _ k).trans (by rw [h1, h2])))
    (fun k => (blk2 m c t r k).trans ((v15_apply m c _ k).trans (by rw [h1, h2])))
    (fun k d => (blk3 m c t _).trans (v16_apply m c k d))
    (fun d => (blk4 m c t _).trans (v6_apply m c d))
    (fun k n => (blk5 m c t _).trans (congrFun (v7_eq m c) _))
    (fun k n => (blk6 m c t _).trans (congrFun (v8_eq m c) _))
    (fun n d => (blk7 m c t _).trans (congrFun (v9_eq m c) _))
    (fun d => (blk8 m c t _).trans (v10_apply m c d)) d

/-- The kernel's result is the reference's. -/
theorem arr_eq (m' : (ℓ : Loc Cert.Reference2Ideal.nD Cert.Reference2Ideal.τ Cert.Reference2Ideal.sig) → Buf (Elt Ideal) ℓ)
    (h0 : m' (c.tc.loc Cert.Reference2Ideal.main_arg0) = m (c.tc.loc main_arg0))
    (h1 : m' (c.tc.loc Cert.Reference2Ideal.main_arg1) = m (c.tc.loc main_arg1))
    (h2 : m' (c.tc.loc Cert.Reference2Ideal.main_arg2) = m (c.tc.loc main_arg2))
    (h3 : m' (c.tc.loc Cert.Reference2Ideal.main_arg3) = m (c.tc.loc main_arg3))
    (h4 : m' (c.tc.loc Cert.Reference2Ideal.main_arg4) = m (c.tc.loc main_arg4))
    (h5 : m' (c.tc.loc Cert.Reference2Ideal.main_arg5) = m (c.tc.loc main_arg5))
    (h6 : m' (c.tc.loc Cert.Reference2Ideal.main_arg6) = m (c.tc.loc main_arg6))
    (h7 : m' (c.tc.loc Cert.Reference2Ideal.main_arg7) = m (c.tc.loc main_arg7)) :
    (Cert.Reference2Ideal.Value.res_out0 m' c : Vec Ideal S16384x1024 .f32) = ((dats m 0 c).arrAt 9 cfg0.N : Vec Ideal S16384x1024 .f32) := by
  funext i
  obtain ⟨R, d, rfl⟩ : ∃ (R : Fin 16384) (d : Fin 1024), i = ix2 R d := ⟨i 0, i 1, eq_ix2 i⟩
  have hN : cfg0.N = 32 := rfl
  have e : R = row ⟨R.val / 512, by omega⟩ ⟨R.val % 512, by omega⟩ :=
    Fin.ext (by show R.val = R.val / 512 * 512 + R.val % 512; omega)
  rw [res_apply m' c ⟨R.val / 2048, by omega⟩ ⟨R.val % 2048, by omega⟩ d R (by show R.val = R.val / 2048 * 2048 + R.val % 2048; omega)]
  rw [h0, h1, h2, h3, h4, h5, h6, h7]
  have ha := arr_row m c ⟨R.val / 512, by omega⟩ ⟨R.val % 512, by omega⟩ d ⟨R.val / 2048, by omega⟩ ⟨R.val % 2048, by omega⟩
    (by rw [← e]; show R.val = R.val / 2048 * 2048 + R.val % 2048; omega)
  rw [← e] at ha
  exact ha.symm

end Cert.Ffn

end
-- ==== Proof.MidOut.lean ====
/- What the kernel of the inner layers leaves in its output block: the last layer's, without the final norm. -/
module

public import proofs.«01_k».proof.Proof.FfnOut
public import proofs.«01_k».proof.Proof.Gen.Kernel4Ideal.Value

@[expose] public section

noncomputable section

namespace Cert.Mid

open Idealize.ShloMosaic Cert.Kernel4Ideal Cert.Kernel4Ideal.Gen
open Cert.Ffn (hz mixed rms ffn)

/-- The stream after the feed-forward layer, from the stream with the attention's projection added. -/
def step (X g : Fin 1024 → EReal) (wg wu : Fin 1024 → Fin 2816 → EReal) (wd : Fin 2816 → Fin 1024 → EReal) (d : Fin 1024) : EReal :=
  X d + ffn (rms X g) wg wu wd d

theorem out_apply (x0 : Vec Ideal S512x1024 .f32) (x1 x2 : Vec Ideal S512x512 .bf16) (x3 : Vec Ideal S1024x1024 .bf16)
    (x4 : Vec Ideal S1x1024 .f32) (x5 x6 : Vec Ideal S1024x2816 .bf16) (x7 : Vec Ideal S2816x1024 .bf16)
    (x8 : Vec Ideal S1x1024 .f32) (r : Fin 512) (d : Fin 1024) :
    out0_9 (F := Ideal) x0 x1 x2 x3 x4 x5 x6 x7 x8 (ix2 r d)
    = step (mixed (fun d => x0 (ix2 r d)) (fun k => x1 (ix2 r k)) (fun k => x2 (ix2 r k)) (fun k d => x3 (ix2 k d)))
        (fun d => x4 (ix2 0 d)) (fun k n => x5 (ix2 k n)) (fun k n => x6 (ix2 k n)) (fun n d => x7 (ix2 n d)) d := by
  unfold out0_9
  rw [View.canon_unit_zero hz]
  exact Cert.Ffn.stream_apply x0 x1 x2 x3 x4 x5 x6 x7 x8 r d

end Cert.Mid

end
-- ==== Proof.MidHost.lean ====
/- The arrays the inner layers' kernel is called with, read at an element of the arguments. -/
module

public import proofs.«01_k».proof.Proof.MidOut

@[expose] public section

noncomputable section

namespace Cert.Mid

open Idealize.ShloMosaic Idealize.ShloMosaic.TcCoe Cert.Kernel4Ideal Cert.Kernel4Ideal.Gen

theorem rows_at (x : Vec Ideal S8x2048x1024 .f32) (R : Fin 16384) (d : Fin 1024) :
    shapeCast S16384x1024 x shapeCasts_S8x2048x1024_S16384x1024 (ix2 R d) = x (ix3 ⟨R.val / 2048, by omega⟩ ⟨R.val % 2048, by omega⟩ d) := by
  pointwise

theorem gain_at (g : Vec Ideal S1024 .f32) (d : Fin 1024) : shapeCast S1x1024 g shapeCasts_S1024_S1x1024 (ix2 0 d) = g (ix1 d) := by
  pointwise

variable (m : (ℓ : Loc nD τ sig) → Buf (Elt Ideal) ℓ) (c : Dev nD)

theorem v10_apply (R : Fin 16384) (d : Fin 1024) : (V m c main_v10 : Vec Ideal S16384x1024 .f32) (ix2 R d)
    = (m ((c : Thread nD τ).loc main_arg0) : Vec Ideal S8x2048x1024 .f32) (ix3 ⟨R.val / 2048, by omega⟩ ⟨R.val % 2048, by omega⟩ d) := by
  have h : V m c main_v10 = shapeCast S16384x1024 (m ((c : Thread nD τ).loc main_arg0)) shapeCasts_S8x2048x1024_S16384x1024 := by
    unfold V hostOps0
    after_results_simp <;> rfl
  rw [h]
  exact rows_at _ R d

/-- The latent attention's heads as rows. -/
def aArr (a : Vec Ideal S8x2048x8x64 .f32) : Vec Ideal S16384x512 .bf16 :=
  truncf (F := Ideal) (φ := .f32) .bf16 (shapeCast S16384x512 a shapeCasts_S8x2048x8x64_S16384x512) bitsLt_bf16_f32

theorem aArr_at (a : Vec Ideal S8x2048x8x64 .f32) (R : Fin 16384) (k : Fin 512) :
    aArr a (ix2 R k) = a (ix4 ⟨R.val / 2048, by omega⟩ ⟨R.val % 2048, by omega⟩ ⟨k.val / 64, by omega⟩ ⟨k.val % 64, by omega⟩) := by
  pointwise [aArr]

theorem v1_eq : (V m c main_v1 : Vec Ideal S16384x512 .bf16) = aArr (m ((c : Thread nD τ).loc main_arg1)) := by
  unfold V hostOps0
  after_results_simp <;> rfl

/-- The block-sparse attention's heads as rows. -/
def oArr (o : Vec Ideal S8x8x2048x64 .f32) : Vec Ideal S16384x512 .bf16 :=
  aArr (transpose S8x2048x8x64 [0, 2, 1, 3] o transposes_S8x8x2048x64_S8x2048x8x64_0_2_1_3)

theorem oArr_at (o : Vec Ideal S8x8x2048x64 .f32) (R : Fin 16384) (k : Fin 512) :
    oArr o (ix2 R k) = o (ix4 ⟨R.val / 2048, by omega⟩ ⟨k.val / 64, by omega⟩ ⟨R.val % 2048, by omega⟩ ⟨k.val % 64, by omega⟩) := by
  rw [oArr, aArr_at]
  pointwise

theorem v4_eq : (V m c main_v4 : Vec Ideal S16384x512 .bf16) = oArr (m ((c : Thread nD τ).loc main_arg2)) := by
  unfold V hostOps0
  after_results_simp <;> rfl

theorem v11_eq : (V m c main_v11 : Vec Ideal S1024x1024 .bf16) = (m ((c : Thread nD τ).loc main_arg3) : Vec Ideal S1024x1024 .f32) := by
  unfold V hostOps0
  after_results_simp <;> rfl

theorem v5_apply (d : Fin 1024) : (V m c main_v5 : Vec Ideal S1x1024 .f32) (ix2 0 d)
    = (m ((c : Thread nD τ).loc main_arg4) : Vec Ideal S1024 .f32) (ix1 d) := by
  have h : V m c main_v5 = shapeCast S1x1024 (m ((c : Thread nD τ).loc main_arg4)) shapeCasts_S1024_S1x1024 := by
    unfold V hostOps0
    after_results_simp <;> rfl
  rw [h]
  exact gain_at _ d

theorem v6_eq : (V m c main_v6 : Vec Ideal S1024x2816 .bf16) = (m ((c : Thread nD τ).loc main_arg5) : Vec Ideal S1024x2816 .f32) := by
  unfold V hostOps0
  after_results_simp <;> rfl

theorem v7_eq : (V m c main_v7 : Vec Ideal S1024x2816 .bf16) = (m ((c : Thread nD τ).loc main_arg6) : Vec Ideal S1024x2816 .f32) := by
  unfold V hostOps0
  after_results_simp <;> rfl

theorem v8_eq : (V m c main_v8 : Vec Ideal S2816x1024 .bf16) = (m ((c : Thread nD τ).loc main_arg7) : Vec Ideal S2816x1024 .f32) := by
  unfold V hostOps0
  after_results_simp <;> rfl

end Cert.Mid

end
-- ==== Proof.MidRef.lean ====
/- The inner layers' reference, read at an element: one step of the token's row. -/
module

public import proofs.«01_k».proof.Proof.Gen.Reference4Ideal.Run
public import proofs.«01_k».proof.Proof.FfnRef
public import proofs.«01_k».proof.Proof.MidOut

@[expose] public section

noncomputable section

namespace Cert.Mid

open Idealize.ShloMosaic Idealize.ShloMosaic.TcCoe Cert.Reference4Ideal Cert.Reference4Ideal.Gen
open Cert.Ffn (mixed rms ffn refNorm refNorm_apply refFfn refFfn_apply)

/-- The two attentions' heads side by side, all tokens. -/
def heads (a : FVec Ideal S8x2048x8x64 .f32) (o : FVec Ideal S8x8x2048x64 .f32) : FVec Ideal S8x2048x1024 .f32 :=
  concatenate S8x2048x1024 2 [⟨S8x2048x512, shapeCast S8x2048x512 a shapeCasts_S8x2048x8x64_S8x2048x512⟩,
    ⟨S8x2048x512, shapeCast S8x2048x512 (transpose S8x2048x8x64 [0, 2, 1, 3] o transposes_S8x8x2048x64_S8x2048x8x64_0_2_1_3) shapeCasts_S8x2048x8x64_S8x2048x512⟩]
    concatenates_S8x2048x512_S8x2048x512_S8x2048x1024_d2

theorem heads_lo (a : FVec Ideal S8x2048x8x64 .f32) (o : FVec Ideal S8x8x2048x64 .f32) (b : Fin 8) (t : Fin 2048) (k : Fin 512) :
    heads a o (ix3 b t ⟨k.val, by omega⟩) = a (ix4 b t ⟨k.val / 64, by omega⟩ ⟨k.val % 64, by omega⟩) := by
  pointwise [heads]

theorem heads_hi (a : FVec Ideal S8x2048x8x64 .f32) (o : FVec Ideal S8x8x2048x64 .f32) (b : Fin 8) (t : Fin 2048) (k : Fin 512) :
    heads a o (ix3 b t ⟨512 + k.val, by omega⟩) = o (ix4 b ⟨k.val / 64, by omega⟩ t ⟨k.val % 64, by omega⟩) := by
  pointwise [heads]

/-- The residual stream plus the projected attentions, all tokens. -/
def stream (x y : FVec Ideal S8x2048x1024 .f32) (w : FVec Ideal S1024x1024 .f32) : FVec Ideal S8x2048x1024 .f32 :=
  addf x (Host.dotGeneral (φ₁ := .f32) (φ₂ := .f32) dot_S8x2048x1024_S1024x1024_S8x2048x1024_2_0_01_1_n_n none y w)

theorem stream_at (x y : FVec Ideal S8x2048x1024 .f32) (w : FVec Ideal S1024x1024 .f32) (b : Fin 8) (t : Fin 2048) (d : Fin 1024) :
    stream x y w (ix3 b t d) = x (ix3 b t d) + ∑ k : Fin 1024, y (ix3 b t k) * w (ix2 k d) := by
  pointwise [stream]

/-- One token's stream: the two attentions' products with the two halves of the output weights. -/
abbrev rowOf (x : FVec Ideal S8x2048x1024 .f32) (a : FVec Ideal S8x2048x8x64 .f32) (o : FVec Ideal S8x8x2048x64 .f32) (w : FVec Ideal S1024x1024 .f32)
    (b : Fin 8) (t : Fin 2048) : Fin 1024 → EReal :=
  mixed (fun d => x (ix3 b t d)) (fun k => a (ix4 b t ⟨k.val / 64, by omega⟩ ⟨k.val % 64, by omega⟩))
    (fun k => o (ix4 b ⟨k.val / 64, by omega⟩ t ⟨k.val % 64, by omega⟩)) (fun k d => w (ix2 k d))

theorem stream_heads (x : FVec Ideal S8x2048x1024 .f32) (a : FVec Ideal S8x2048x8x64 .f32) (o : FVec Ideal S8x8x2048x64 .f32) (w : FVec Ideal S1024x1024 .f32)
    (b : Fin 8) (t : Fin 2048) (d : Fin 1024) : stream x (heads a o) w (ix3 b t d) = rowOf x a o w b t d := by
  rw [stream_at]
  unfold rowOf mixed
  rw [add_assoc]
  refine congrArg (x (ix3 b t d) + ·) ?_
  refine (Fin.sum_univ_add (a := 512) (b := 512) fun k : Fin 1024 => heads a o (ix3 b t k) * w (ix2 k d)).trans ?_
  exact congrArg₂ (· + ·) (Finset.sum_congr rfl fun k _ => congrArg (· * _) (heads_lo a o b t k))
    (Finset.sum_congr rfl fun k _ => congrArg (· * _) (heads_hi a o b t k))

variable (m : (ℓ : Loc nD τ sig) → Buf (Elt Ideal) ℓ) (c : Dev nD)

/-- The result is the stream after the feed-forward layer. -/
theorem res_eq : Value.res_out0 m c = shapeCast S16384x1024
    (addf (stream (m (c.tc.loc main_arg0)) (heads (m (c.tc.loc main_arg1)) (m (c.tc.loc main_arg2))) (m (c.tc.loc main_arg3)))
      (refFfn (refNorm (stream (m (c.tc.loc main_arg0)) (heads (m (c.tc.loc main_arg1)) (m (c.tc.loc main_arg2))) (m (c.tc.loc main_arg3))) (m (c.tc.loc main_arg4)))
        (m (c.tc.loc main_arg5)) (m (c.tc.loc main_arg6)) (m (c.tc.loc main_arg7))))
    shapeCasts_S8x2048x1024_S16384x1024 := rfl

theorem res_apply (R : Fin 16384) (d : Fin 1024) :
    (Value.res_out0 m c : FVec Ideal S16384x1024 .f32) (ix2 R d)
    = step (rowOf (m (c.tc.loc main_arg0)) (m (c.tc.loc main_arg1)) (m (c.tc.loc main_arg2)) (m (c.tc.loc main_arg3)) ⟨R.val / 2048, by omega⟩ ⟨R.val % 2048, by omega⟩)
        (fun d => (m (c.tc.loc main_arg4) : Vec Ideal S1024 .f32) (ix1 d))
        (fun k n => (m (c.tc.loc main_arg5) : FVec Ideal S1024x2816 .f32) (ix2 k n))
        (fun k n => (m (c.tc.loc main_arg6) : FVec Ideal S1024x2816 .f32) (ix2 k n))
        (fun n d => (m (c.tc.loc main_arg7) : FVec Ideal S2816x1024 .f32) (ix2 n d)) d := by
  rw [res_eq]
  have hcast : ∀ y : FVec Ideal S8x2048x1024 .f32, shapeCast S16384x1024 y shapeCasts_S8x2048x1024_S16384x1024 (ix2 R d)
      = y (ix3 ⟨R.val / 2048, by omega⟩ ⟨R.val % 2048, by omega⟩ d) := by
    intro y
    pointwise
  rw [hcast]
  refine congrArg₂ (· + ·) (stream_heads _ _ _ _ _ _ d) ((refFfn_apply _ _ _ _ _ _ d).trans (congrArg (fun f => ffn f _ _ _ d) (funext fun d => ?_)))
  exact (refNorm_apply _ _ _ _ d).trans (congrArg (fun f => rms f _ d) (funext fun d => stream_heads _ _ _ _ _ _ d))

end Cert.Mid

end
-- ==== Proof.MidArr.lean ====
/- The inner layers' result array, read at an element: the reference's. -/
module

public import proofs.«01_k».proof.Proof.MidHost
public import proofs.«01_k».proof.Proof.MidRef

@[expose] public section

noncomputable section

namespace Cert.Mid

open Idealize.ShloMosaic Idealize.ShloMosaic.TcCoe Cert.Kernel4Ideal Cert.Kernel4Ideal.Gen
open Cert.Ffn (mixed)

/-- A step of equal rows and weights. -/
theorem step_congr {x x' : Fin 1024 → EReal} {a a' b b' : Fin 512 → EReal} {w w' : Fin 1024 → Fin 1024 → EReal} {g g' : Fin 1024 → EReal}
    {wg wg' wu wu' : Fin 1024 → Fin 2816 → EReal} {wd wd' : Fin 2816 → Fin 1024 → EReal}
    (hx : ∀ d, x d = x' d) (ha : ∀ k, a k = a' k) (hb : ∀ k, b k = b' k) (hw : ∀ k d, w k d = w' k d) (hg : ∀ d, g d = g' d)
    (hwg : ∀ k n, wg k n = wg' k n) (hwu : ∀ k n, wu k n = wu' k n) (hwd : ∀ n d, wd n d = wd' n d)
    (d : Fin 1024) : step (mixed x a b w) g wg wu wd d = step (mixed x' a' b' w') g' wg' wu' wd' d := by
  rw [funext hx, funext ha, funext hb, funext fun k => funext (hw k), funext hg, funext fun k => funext (hwg k),
    funext fun k => funext (hwu k), funext fun n => funext (hwd n)]

/-! ## The windows -/

theorem row_idx : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_9.index t (0 : Fin 2) = t.val ∧ win0_9.index t (1 : Fin 2) = 0) :=
  (by decide +kernel : ∀ t : Fin grid0.N, _)

theorem whole_idx : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-- The array row of row `r` of block `t`. -/
def row (t : Fin cfg0.N) (r : Fin 512) : Fin 16384 := ⟨t.val * 512 + r.val, by have := t.isLt; have h : cfg0.N = 32 := rfl; omega⟩

theorem emb0 (t : Fin cfg0.N) (r : Fin 512) (d : Fin 1024) :
    ((cfg0.win 0).blk t).view.emb (ix2 r d : S512x1024.Idx) = (ix2 (row t r) d : S16384x1024.Idx) := by
  obtain ⟨⟨e0, e1⟩, -⟩ := row_idx t
  funext a; apply Fin.ext
  match a with
  | ⟨0, _⟩ => show win0_0.index t (0 : Fin 2) * 512 + 1 * r.val = t.val * 512 + r.val; omega
  | ⟨1, _⟩ => show win0_0.index t (1 : Fin 2) * 1024 + 1 * d.val = d.val; omega

theorem emb1 (t : Fin cfg0.N) (r : Fin 512) (k : Fin 512) :
    ((cfg0.win 1).blk t).view.emb (ix2 r k : S512x512.Idx) = (ix2 (row t r) k : S16384x512.Idx) := by
  obtain ⟨-, ⟨e0, e1⟩, -⟩ := row_idx t
  funext a; apply Fin.ext
  match a with
  | ⟨0, _⟩ => show win0_1.index t (0 : Fin 2) * 512 + 1 * r.val = t.val * 512 + r.val; omega
  | ⟨1, _⟩ => show win0_1.index t (1 : Fin 2) * 512 + 1 * k.val = k.val; omega

theorem emb2 (t : Fin cfg0.N) (r : Fin 512) (k : Fin 512) :
    ((cfg0.win 2).blk t).view.emb (ix2 r k : S512x512.Idx) = (ix2 (row t r) k : S16384x512.Idx) := by
  obtain ⟨-, -, ⟨e0, e1⟩, -⟩ := row_idx t
  funext a; apply Fin.ext
  match a with
  | ⟨0, _⟩ => show win0_2.index t (0 : Fin 2) * 512 + 1 * r.val = t.val * 512 + r.val; omega
  | ⟨1, _⟩ => show win0_2.index t (1 : Fin 2) * 512 + 1 * k.val = k.val; omega

theorem emb9 (t : Fin cfg0.N) (r : Fin 512) (d : Fin 1024) :
    ((cfg0.win 9).blk t).view.emb (ix2 r d : S512x1024.Idx) = (ix2 (row t r) d : S16384x1024.Idx) := by
  obtain ⟨-, -, -, e0, e1⟩ := row_idx t
  funext a; apply Fin.ext
  match a with
  | ⟨0, _⟩ => show win0_9.index t (0 : Fin 2) * 512 + 1 * r.val = t.val * 512 + r.val; omega
  | ⟨1, _⟩ => show win0_9.index t (1 : Fin 2) * 1024 + 1 * d.val = d.val; omega

theorem emb3 (t : Fin cfg0.N) (j : S1024x1024.Idx) : ((cfg0.win 3).blk t).view.emb j = j := by
  obtain ⟨⟨e0, e1⟩, -⟩ := whole_idx t
  funext a; apply Fin.ext
  match a with
  | ⟨0, _⟩ => show win0_3.index t (0 : Fin 2) * 1024 + 1 * (j 0).val = (j 0).val; omega
  | ⟨1, _⟩ => show win0_3.index t (1 : Fin 2) * 1024 + 1 * (j 1).val = (j 1).val; omega

theorem emb4 (t : Fin cfg0.N) (j : S1x1024.Idx) : ((cfg0.win 4).blk t).view.emb j = j := by
  obtain ⟨-, ⟨e0, e1⟩, -⟩ := whole_idx t
  funext a; apply Fin.ext
  match a with
  | ⟨0, _⟩ => show win0_4.index t (0 : Fin 2) * 1 + 1 * (j 0).val = (j 0).val; omega
  | ⟨1, _⟩ => show win0_4.index t (1 : Fin 2) * 1024 + 1 * (j 1).val = (j 1).val; omega

theorem emb5 (t : Fin cfg0.N) (j : S1024x2816.Idx) : ((cfg0.win 5).blk t).view.emb j = j := by
  obtain ⟨-, -, ⟨e0, e1⟩, -⟩ := whole_idx t
  funext a; apply Fin.ext
  match a with
  | ⟨0, _⟩ => show win0_5.index t (0 : Fin 2) * 1024 + 1 * (j 0).val = (j 0).val; omega
  | ⟨1, _⟩ => show win0_5.index t (1 : Fin 2) * 2816 + 1 * (j 1).val = (j 1).val; omega

theorem emb6 (t : Fin cfg0.N) (j : S1024x2816.Idx) : ((cfg0.win 6).blk t).view.emb j = j := by
  obtain ⟨-, -, -, ⟨e0, e1⟩, -⟩ := whole_idx t
  funext a; apply Fin.ext
  match a with
  | ⟨0, _⟩ => show win0_6.index t (0 : Fin 2) * 1024 + 1 * (j 0).val = (j 0).val; omega
  | ⟨1, _⟩ => show win0_6.index t (1 : Fin 2) * 2816 + 1 * (j 1).val = (j 1).val; omega

theorem emb7 (t : Fin cfg0.N) (j : S2816x1024.Idx) : ((cfg0.win 7).blk t).view.emb j = j := by
  obtain ⟨-, -, -, -, e0, e1⟩ := whole_idx t
  funext a; apply Fin.ext
  match a with
  | ⟨0, _⟩ => show win0_7.index t (0 : Fin 2) * 2816 + 1 * (j 0).val = (j 0).val; omega
  | ⟨1, _⟩ => show win0_7.index t (1 : Fin 2) * 1024 + 1 * (j 1).val = (j 1).val; omega

variable (m : (ℓ : Loc nD τ sig) → Buf (Elt Ideal) ℓ) (c : Dev nD)

/-- One row of the array after the run. -/
theorem arr_row (t : Fin cfg0.N) (r : Fin 512) (d : Fin 1024) :
    ((dats m 0 c).arrAt 9 cfg0.N : Vec Ideal S16384x1024 .f32) (ix2 (row t r) d)
    = step (rowOf (m (c.tc.loc main_arg0)) (m (c.tc.loc main_arg1)) (m (c.tc.loc main_arg2)) (m (c.tc.loc main_arg3))
          ⟨(row t r).val / 2048, by omega⟩ ⟨(row t r).val % 2048, by omega⟩)
        (fun d => (m (c.tc.loc main_arg4) : Vec Ideal S1024 .f32) (ix1 d))
        (fun k n => (m (c.tc.loc main_arg5) : Vec Ideal S1024x2816 .f32) (ix2 k n))
        (fun k n => (m (c.tc.loc main_arg6) : Vec Ideal S1024x2816 .f32) (ix2 k n))
        (fun n d => (m (c.tc.loc main_arg7) : Vec Ideal S2816x1024 .f32) (ix2 n d)) d := by
  have hb := congrFun (Value.blocks9 m c t (flush0_9 t)) (ix2 r d : S512x1024.Idx)
  rw [Value.flushed9] at hb
  have hb' : ((dats m 0 c).arrAt 9 cfg0.N : Vec Ideal S16384x1024 .f32) (((cfg0.win 9).blk t).view.emb (ix2 r d : S512x1024.Idx))
      = out0_9 (F := Ideal) (iblk m c 0 t) (iblk m c 1 t) (iblk m c 2 t) (iblk m c 3 t) (iblk m c 4 t) (iblk m c 5 t) (iblk m c 6 t)
          (iblk m c 7 t) (iblk m c 8 t) (ix2 r d) := hb
  rw [emb9, out_apply] at hb'
  rw [hb']
  exact step_congr (fun d => (congrArg (V m c main_v10) (emb0 t r d)).trans (v10_apply m c _ d))
    (fun k => (congrArg (V m c main_v1) (emb1 t r k)).trans ((congrFun (v1_eq m c) _).trans (aArr_at _ _ k)))
    (fun k => (congrArg (V m c main_v4) (emb2 t r k)).trans ((congrFun (v4_eq m c) _).trans (oArr_at _ _ k)))
    (fun k d => (congrArg (V m c main_v11) (emb3 t _)).trans (congrFun (v11_eq m c) _))
    (fun d => (congrArg (V m c main_v5) (emb4 t _)).trans (v5_apply m c d))
    (fun k n => (congrArg (V m c main_v6) (emb5 t _)).trans (congrFun (v6_eq m c) _))
    (fun k n => (congrArg (V m c main_v7) (emb6 t _)).trans (congrFun (v7_eq m c) _))
    (fun n d => (congrArg (V m c main_v8) (emb7 t _)).trans (congrFun (v8_eq m c) _)) d

/-- The kernel's result is the reference's. -/
theorem arr_eq (m' : (ℓ : Loc Cert.Reference4Ideal.nD Cert.Reference4Ideal.τ Cert.Reference4Ideal.sig) → Buf (Elt Ideal) ℓ)
    (h0 : m' (c.tc.loc Cert.Reference4Ideal.main_arg0) = m (c.tc.loc main_arg0))
    (h1 : m' (c.tc.loc Cert.Reference4Ideal.main_arg1) = m (c.tc.loc main_arg1))
    (h2 : m' (c.tc.loc Cert.Reference4Ideal.main_arg2) = m (c.tc.loc main_arg2))
    (h3 : m' (c.tc.loc Cert.Reference4Ideal.main_arg3) = m (c.tc.loc main_arg3))
    (h4 : m' (c.tc.loc Cert.Reference4Ideal.main_arg4) = m (c.tc.loc main_arg4))
    (h5 : m' (c.tc.loc Cert.Reference4Ideal.main_arg5) = m (c.tc.loc main_arg5))
    (h6 : m' (c.tc.loc Cert.Reference4Ideal.main_arg6) = m (c.tc.loc main_arg6))
    (h7 : m' (c.tc.loc Cert.Reference4Ideal.main_arg7) = m (c.tc.loc main_arg7)) :
    (Cert.Reference4Ideal.Value.res_out0 m' c : Vec Ideal S16384x1024 .f32) = ((dats m 0 c).arrAt 9 cfg0.N : Vec Ideal S16384x1024 .f32) := by
  funext i
  obtain ⟨R, d, rfl⟩ : ∃ (R : Fin 16384) (d : Fin 1024), i = ix2 R d := ⟨i 0, i 1, eq_ix2 i⟩
  have hN : cfg0.N = 32 := rfl
  obtain ⟨t, r, rfl⟩ : ∃ t r, R = row t r := ⟨⟨R.val / 512, by omega⟩, ⟨R.val % 512, by omega⟩,
    Fin.ext (by show R.val = R.val / 512 * 512 + R.val % 512; omega)⟩
  rw [arr_row]
  refine (res_apply m' c _ d).trans ?_
  rw [h0, h1, h2, h3, h4, h5, h6, h7]

end Cert.Mid

end
-- ==== Proof.MlaProg.lean ====
/- The body of the prompt's latent attention as a program of few pieces: the tile of the online softmax, the score
   product, the value product, the fill of the query rows, the output; every buffer a parameter. -/
module

public import proofs.«01_k».proof.Proof.Gen.KernelIdeal

@[expose] public section

noncomputable section

namespace Cert.Mla

open Idealize.ShloMosaic Idealize.SL.Sem Cert.KernelIdeal Cert.KernelIdeal.Facts₀

/-- The staged blocks and the scratch buffers of the body. -/
structure Bufs (sig : RefSig) where
  q : Memref sig .tc .vmem S128x2048 .bf16
  k : Memref sig .tc .vmem S2048x256 .bf16
  w : Memref sig .tc .vmem S4x256x128 .bf16
  o : Memref sig .tc .vmem S128x512 .bf16
  ho : o.IsWhole
  qs : Memref sig .tc .vmem S1024x256 .bf16
  hqs : qs.IsWhole
  s : Bool → Memref sig .tc .vmem S1024x256 .f32
  p : Bool → Memref sig .tc .vmem S1024x256 .bf16
  hp : ∀ b, (p b).IsWhole
  a : Bool → Memref sig .tc .vmem S1024x128 .f32
  m : Memref sig .tc .vmem S1024x128 .f32
  l : Memref sig .tc .vmem S1024x128 .f32
  acc : Memref sig .tc .vmem S1024x128 .f32

variable {nD : Nat} {τ : Topo} {sig : RefSig} {Λ : Labels} {F : FTy → Type} [FloatOps F]

/-! ## Bounds of the accesses -/

theorem inbS (t : Nat) (h : t < 32) (c : Nat) (hc : c ≤ 128) : ∀ a, (![32 * t, c] : Fin 2 → Nat) a + S32x128.size a ≤ S1024x256.size a := by
  intro a; match a with
  | ⟨0, _⟩ => show 32 * t + 32 ≤ 1024; omega
  | ⟨1, _⟩ => show c + 128 ≤ 256; omega

theorem inbM (t : Nat) (h : t < 32) : ∀ a, (![32 * t, 0] : Fin 2 → Nat) a + S32x128.size a ≤ S1024x128.size a := by
  intro a; match a with
  | ⟨0, _⟩ => show 32 * t + 32 ≤ 1024; omega
  | ⟨1, _⟩ => show 0 + 128 ≤ 128; omega

theorem packP (t : Nat) (h : t < 32) (c : Nat) (hc : c ≤ 128) :
    (Rect.unit (s := S1024x256) ![32 * t, c] S32x128.size (inbS t h c hc)).PackedRows (EltTy.packing .bf16) :=
  Affine.packed_dvd (by decide) (by show 2 ∣ 32 * t; omega) (by show 2 ∣ 32; omega)

theorem inbQ (h : Nat) (hh : h < 8) : ∀ a, (![0, 256 * h] : Fin 2 → Nat) a + S128x256.size a ≤ S128x2048.size a := by
  intro a; match a with
  | ⟨0, _⟩ => show 0 + 128 ≤ 128; omega
  | ⟨1, _⟩ => show 256 * h + 256 ≤ 2048; omega

theorem inbQs (h : Nat) (hh : h < 8) : ∀ a, (![128 * h, 0] : Fin 2 → Nat) a + S128x256.size a ≤ S1024x256.size a := by
  intro a; match a with
  | ⟨0, _⟩ => show 128 * h + 128 ≤ 1024; omega
  | ⟨1, _⟩ => show 0 + 256 ≤ 256; omega

theorem packQs (h : Nat) (hh : h < 8) :
    (Rect.unit (s := S1024x256) ![128 * h, 0] S128x256.size (inbQs h hh)).PackedRows (EltTy.packing .bf16) :=
  Affine.packed_dvd (by decide) (by show 2 ∣ 128 * h; omega) (by show 2 ∣ 128; omega)

theorem inbW (h : Nat) (hh : h < 4) : ∀ a, (![h, 0, 0] : Fin 3 → Nat) a + S1x256x128.size a ≤ S4x256x128.size a := by
  intro a; match a with
  | ⟨0, _⟩ => show h + 1 ≤ 4; omega
  | ⟨1, _⟩ => show 0 + 256 ≤ 256; omega
  | ⟨2, _⟩ => show 0 + 128 ≤ 128; omega

theorem inbO (h : Nat) (hh : h < 4) : ∀ a, (![0, 128 * h] : Fin 2 → Nat) a + S128x128.size a ≤ S128x512.size a := by
  intro a; match a with
  | ⟨0, _⟩ => show 0 + 128 ≤ 128; omega
  | ⟨1, _⟩ => show 128 * h + 128 ≤ 512; omega

theorem packO (h : Nat) (hh : h < 4) :
    (Rect.unit (s := S128x512) ![0, 128 * h] S128x128.size (inbO h hh)).PackedRows (EltTy.packing .bf16) :=
  Affine.packed_dvd (by decide) (by show 2 ∣ 0; omega) (by show 2 ∣ 128; omega)

theorem sliceE (h : Nat) (hh : h < 8) : S1024x128.Slices ![128 * h, 0] S128x128 := by
  interval_cases h <;> decide

/-! ## The values one tile computes -/

/-- The new running maximum of a tile. -/
def tMax (m0 y0 y1 : FVec F S32x128 .f32) : FVec F S32x128 .f32 :=
  maximumf m0 (broadcastTo S32x128 (shapeCast S32x1 (multiReduction .maximumf [1] S32 (maximumf y0 y1) 0xFF800000#32 reduces_S32x128_S32 (.inl rfl) rfl)
    shapeCasts_S32_S32x1) broadcasts_S32x1_S32x128)

/-- The exponentials of a tile's scores against the new maximum. -/
def tExp (y mn : FVec F S32x128 .f32) : FVec F S32x128 .f32 := exp (subf y mn)

/-- The new running denominator. -/
def tSum (al l0 e0 e1 : FVec F S32x128 .f32) : FVec F S32x128 .f32 :=
  addf (mulf al l0) (broadcastTo S32x128 (shapeCast S32x1 (multiReduction .add [1] S32 (addf e0 e1) 0x00000000#32 reduces_S32x128_S32 (.inl rfl) rfl)
    shapeCasts_S32_S32x1) broadcasts_S32x1_S32x128)

/-- The mask of the last key block: keys after the query take the floor `μ`. -/
def causal (μ : F .f32) (arg1 v71 : BitVec 32) (t c : Nat) (x : FVec F S32x128 .f32) : FVec F S32x128 .f32 :=
  select (cmpi .sle
      (broadcastTo S32x128 (addi (broadcast S1x128 (Scalar.addi (Scalar.muli v71 256#32) (BitVec.ofNat 32 c))) (iota .tc S1x128 32 [1] iota_S1x128_d1_w32)) broadcasts_S1x128_S32x128)
      (broadcastTo S32x128 (addi (broadcast S32x1 (Scalar.addi (Scalar.muli arg1 128#32) (BitVec.ofNat 32 (32 * (t % 4))))) (iota .tc S32x1 32 [0] iota_S32x1_d0_w32)) broadcasts_S32x1_S32x128))
    x (broadcast S32x128 μ)

/-! ## The pieces -/

/-- One tile: 32 rows of the score block `b` against the running maximum and denominator. -/
def tile (B : Bufs sig) (b : Bool) (mk : Nat → Nat → FVec F S32x128 .f32 → FVec F S32x128 .f32) (t : Nat) (h : t < 32) :
    Prog (TpuEff nD τ sig (Elt F) Λ .tc) PUnit := do
  let x0 : Vec F S32x128 .f32 ← Prog.lift (.load (B.s b) (Rect.unit (s := S1024x256) ![32 * t, 0] S32x128.size (inbS t h 0 (by omega))).toLoadRect (View.loadsAt_vmem h_S32x128))
  let x1 : Vec F S32x128 .f32 ← Prog.lift (.load (B.s b) (Rect.unit (s := S1024x256) ![32 * t, 128] S32x128.size (inbS t h 128 (by omega))).toLoadRect (View.loadsAt_vmem h_S32x128))
  let m0 : Vec F S32x128 .f32 ← Prog.lift (.load B.m (Rect.unit (s := S1024x128) ![32 * t, 0] S32x128.size (inbM t h)).toLoadRect (View.loadsAt_vmem h_S32x128))
  let _ : Vec F S32x128 .bf16 ← Prog.lift (.load (B.p b) (Rect.unit (s := S1024x256) ![32 * t, 0] S32x128.size (inbS t h 0 (by omega))).toLoadRect (View.loadsAt_vmem h_S32x128))
  Prog.lift (.store (B.p b) (Rect.unit (s := S1024x256) ![32 * t, 0] S32x128.size (inbS t h 0 (by omega)))
    (shapeCast S32x128 (truncf .bf16 (tExp (mk t 0 x0) (tMax m0 (mk t 0 x0) (mk t 128 x1))) bitsLt_bf16_f32) shapeCasts_S32x128_S32x128)
    Finset.univ (View.stores_vmem h_S32x128 ((B.hp b).storeExact_slice rfl _ (packP t h 0 (by omega))) (fun _ => rfl)) (.inl rfl))
  let _ : Vec F S32x128 .bf16 ← Prog.lift (.load (B.p b) (Rect.unit (s := S1024x256) ![32 * t, 128] S32x128.size (inbS t h 128 (by omega))).toLoadRect (View.loadsAt_vmem h_S32x128))
  Prog.lift (.store (B.p b) (Rect.unit (s := S1024x256) ![32 * t, 128] S32x128.size (inbS t h 128 (by omega)))
    (shapeCast S32x128 (truncf .bf16 (tExp (mk t 128 x1) (tMax m0 (mk t 0 x0) (mk t 128 x1))) bitsLt_bf16_f32) shapeCasts_S32x128_S32x128)
    Finset.univ (View.stores_vmem h_S32x128 ((B.hp b).storeExact_slice rfl _ (packP t h 128 (by omega))) (fun _ => rfl)) (.inl rfl))
  let l0 : Vec F S32x128 .f32 ← Prog.lift (.load B.l (Rect.unit (s := S1024x128) ![32 * t, 0] S32x128.size (inbM t h)).toLoadRect (View.loadsAt_vmem h_S32x128))
  let _ : Vec F S32x128 .f32 ← Prog.lift (.load B.l (Rect.unit (s := S1024x128) ![32 * t, 0] S32x128.size (inbM t h)).toLoadRect (View.loadsAt_vmem h_S32x128))
  Prog.lift (.store B.l (Rect.unit (s := S1024x128) ![32 * t, 0] S32x128.size (inbM t h))
    (shapeCast S32x128 (tSum (tExp m0 (tMax m0 (mk t 0 x0) (mk t 128 x1))) l0
      (tExp (mk t 0 x0) (tMax m0 (mk t 0 x0) (mk t 128 x1))) (tExp (mk t 128 x1) (tMax m0 (mk t 0 x0) (mk t 128 x1)))) shapeCasts_S32x128_S32x128)
    Finset.univ (View.stores_vmem_bits_univ h_S32x128 rfl) (.inl rfl))
  let _ : Vec F S32x128 .f32 ← Prog.lift (.load B.m (Rect.unit (s := S1024x128) ![32 * t, 0] S32x128.size (inbM t h)).toLoadRect (View.loadsAt_vmem h_S32x128))
  Prog.lift (.store B.m (Rect.unit (s := S1024x128) ![32 * t, 0] S32x128.size (inbM t h))
    (shapeCast S32x128 (tMax m0 (mk t 0 x0) (mk t 128 x1)) shapeCasts_S32x128_S32x128)
    Finset.univ (View.stores_vmem_bits_univ h_S32x128 rfl) (.inl rfl))
  let _ : Vec F S32x128 .f32 ← Prog.lift (.load (B.a b) (Rect.unit (s := S1024x128) ![32 * t, 0] S32x128.size (inbM t h)).toLoadRect (View.loadsAt_vmem h_S32x128))
  Prog.lift (.store (B.a b) (Rect.unit (s := S1024x128) ![32 * t, 0] S32x128.size (inbM t h))
    (shapeCast S32x128 (tExp m0 (tMax m0 (mk t 0 x0) (mk t 128 x1))) shapeCasts_S32x128_S32x128)
    Finset.univ (View.stores_vmem_bits_univ h_S32x128 rfl) (.inl rfl))

/-- The pieces `32 - n, …, 31` of a family, in order. -/
def upto {E : Type → Type} (N : Nat) (f : (t : Nat) → t < N → Prog E PUnit) : (n : Nat) → n ≤ N → Prog E PUnit
  | 0, _ => pure ⟨⟩
  | n + 1, h => do f (N - (n + 1)) (by omega); upto N f n (by omega)

/-- All the 32 tiles of a score block. -/
def tiles (B : Bufs sig) (b : Bool) (mk : Nat → Nat → FVec F S32x128 .f32 → FVec F S32x128 .f32) : Prog (TpuEff nD τ sig (Elt F) Λ .tc) PUnit :=
  upto 32 (tile B b mk) 32 (Nat.le_refl _)

/-- The score product against the key block at `off`, into buffer `b`. -/
def qk (B : Bufs sig) (b : Bool) (off : Fin 2 → Nat) (h : ∀ a, off a + S256x256.size a ≤ S2048x256.size a) : Prog (TpuEff nD τ sig (Elt F) Λ .tc) PUnit := do
  let kb : Vec F S256x256 .bf16 ← Prog.lift (.load B.k (Rect.unit (s := S2048x256) off S256x256.size h).toLoadRect (View.loadsAt_vmem h_S256x256))
  let qb : Vec F S1024x256 .bf16 ← Prog.lift (.load B.qs (Rect.unit (s := S1024x256) ![0, 0] S1024x256.size inb_S1024x256_S1024x256_0_0).toLoadRect (View.loadsAt_vmem h_S1024x256))
  let _ : Vec F S1024x256 .f32 ← Prog.lift (.load (B.s b) (Rect.unit (s := S1024x256) ![0, 0] S1024x256.size inb_S1024x256_S1024x256_0_0).toLoadRect (View.loadsAt_vmem h_S1024x256))
  Prog.lift (.store (B.s b) (Rect.unit (s := S1024x256) ![0, 0] S1024x256.size inb_S1024x256_S1024x256_0_0)
    (shapeCast S1024x256 (matmul dot_S1024x256_S256x256_S1024x256_1_1_0_0_n_n none qb (shapeCast S256x256 kb shapeCasts_S256x256_S256x256)
      (constant S1024x256 .f32 0x00000000#32)) shapeCasts_S1024x256_S1024x256)
    Finset.univ (View.stores_vmem_bits_univ h_S1024x256 rfl) (.inl rfl))

/-- The value product of buffer `b` with the key block's latent columns at `off`, onto the rescaled accumulator. -/
def pv (B : Bufs sig) (b : Bool) (off : Fin 2 → Nat) (h : ∀ a, off a + S256x128.size a ≤ S2048x256.size a) : Prog (TpuEff nD τ sig (Elt F) Λ .tc) PUnit := do
  let vb : Vec F S256x128 .bf16 ← Prog.lift (.load B.k (Rect.unit (s := S2048x256) off S256x128.size h).toLoadRect (View.loadsAt_vmem h_S256x128))
  let ac : Vec F S1024x128 .f32 ← Prog.lift (.load B.acc (Rect.unit (s := S1024x128) ![0, 0] S1024x128.size inb_S1024x128_S1024x128_0_0).toLoadRect (View.loadsAt_vmem h_S1024x128))
  let al : Vec F S1024x128 .f32 ← Prog.lift (.load (B.a b) (Rect.unit (s := S1024x128) ![0, 0] S1024x128.size inb_S1024x128_S1024x128_0_0).toLoadRect (View.loadsAt_vmem h_S1024x128))
  let pb : Vec F S1024x256 .bf16 ← Prog.lift (.load (B.p b) (Rect.unit (s := S1024x256) ![0, 0] S1024x256.size inb_S1024x256_S1024x256_0_0).toLoadRect (View.loadsAt_vmem h_S1024x256))
  let _ : Vec F S1024x128 .f32 ← Prog.lift (.load B.acc (Rect.unit (s := S1024x128) ![0, 0] S1024x128.size inb_S1024x128_S1024x128_0_0).toLoadRect (View.loadsAt_vmem h_S1024x128))
  Prog.lift (.store B.acc (Rect.unit (s := S1024x128) ![0, 0] S1024x128.size inb_S1024x128_S1024x128_0_0)
    (shapeCast S1024x128 (addf (mulf ac al) (matmul dot_S1024x256_S256x128_S1024x128_1_0_0_1_n_n none pb (shapeCast S256x128 vb shapeCasts_S256x128_S256x128)
      (constant S1024x128 .f32 0x00000000#32))) shapeCasts_S1024x128_S1024x128)
    Finset.univ (View.stores_vmem_bits_univ h_S1024x128 rfl) (.inl rfl))

/-- Head `h`'s query rows, from the staged block to the stacked scratch. -/
def fill (B : Bufs sig) (h : Nat) (hh : h < 8) : Prog (TpuEff nD τ sig (Elt F) Λ .tc) PUnit := do
  let x : Vec F S128x256 .bf16 ← Prog.lift (.load B.q (Rect.unit (s := S128x2048) ![0, 256 * h] S128x256.size (inbQ h hh)).toLoadRect (View.loadsAt_vmem h_S128x256))
  let _ : Vec F S128x256 .bf16 ← Prog.lift (.load B.qs (Rect.unit (s := S1024x256) ![128 * h, 0] S128x256.size (inbQs h hh)).toLoadRect (View.loadsAt_vmem h_S128x256))
  Prog.lift (.store B.qs (Rect.unit (s := S1024x256) ![128 * h, 0] S128x256.size (inbQs h hh))
    (shapeCast S128x256 (shapeCast S128x256 x shapeCasts_S128x256_S128x256) shapeCasts_S128x256_S128x256)
    Finset.univ (View.stores_vmem h_S128x256 (B.hqs.storeExact_slice rfl _ (packQs h hh)) (fun _ => rfl)) (.inl rfl))

/-- The running statistics of a query block, reset. -/
def reset (B : Bufs sig) (M : Memref sig .tc .vmem S1024x128 .f32) (x : F .f32) : Prog (TpuEff nD τ sig (Elt F) Λ .tc) PUnit := do
  let _ : Vec F S1024x128 .f32 ← Prog.lift (.load M (Rect.unit (s := S1024x128) ![0, 0] S1024x128.size inb_S1024x128_S1024x128_0_0).toLoadRect (View.loadsAt_vmem h_S1024x128))
  Prog.lift (.store M (Rect.unit (s := S1024x128) ![0, 0] S1024x128.size inb_S1024x128_S1024x128_0_0)
    (shapeCast S1024x128 (broadcast S1024x128 x) shapeCasts_S1024x128_S1024x128)
    Finset.univ (View.stores_vmem_bits_univ h_S1024x128 rfl) (.inl rfl))

/-- Two heads' rows side by side through their block of the up-projection. -/
def outVal (h : Nat) (hh : h < 4) (x : FVec F S1024x128 .f32) (w : FVec F S1x256x128 .bf16) : FVec F S128x128 .bf16 :=
  truncf .bf16 (matmul dot_S128x256_S256x128_S128x128_1_0_0_1_n_n none
    (truncf .bf16 (concatenate S128x256 1 [⟨S128x128, extractStridedSlice S128x128 ![128 * (2 * h), 0] x (sliceE (2 * h) (by omega))⟩,
      ⟨S128x128, extractStridedSlice S128x128 ![128 * (2 * h + 1), 0] x (sliceE (2 * h + 1) (by omega))⟩] concatenates_S128x128_S128x128_S128x256_d1) bitsLt_bf16_f32)
    (shapeCast S256x128 w shapeCasts_S1x256x128_S256x128) (constant S128x128 .f32 0x00000000#32)) bitsLt_bf16_f32

def put (B : Bufs sig) (x : FVec F S1024x128 .f32) (h : Nat) (hh : h < 4) : Prog (TpuEff nD τ sig (Elt F) Λ .tc) PUnit := do
  let w : Vec F S1x256x128 .bf16 ← Prog.lift (.load B.w (Rect.unit (s := S4x256x128) ![h, 0, 0] S1x256x128.size (inbW h hh)).toLoadRect (View.loadsAt_vmem h_S1x256x128))
  let _ : Vec F S128x128 .bf16 ← Prog.lift (.load B.o (Rect.unit (s := S128x512) ![0, 128 * h] S128x128.size (inbO h hh)).toLoadRect (View.loadsAt_vmem h_S128x128))
  Prog.lift (.store B.o (Rect.unit (s := S128x512) ![0, 128 * h] S128x128.size (inbO h hh)) (outVal h hh x w)
    Finset.univ (View.stores_vmem h_S128x128 (B.ho.storeExact_slice rfl _ (packO h hh)) (fun _ => rfl)) (.inl rfl))

/-- One trip of the loop: two key blocks, the next block's scores computed ahead. -/
def trip (B : Bufs sig) (i : grid0.Coords) (k : Fin (k0_t1_loop i).trips) : Prog (TpuEff nD τ sig (Elt F) Λ .tc) PUnit := do
  qk B true (k0_off1 i k 1#32) (k0_off1_inb i k 0)
  tiles B false (fun _ _ x => x)
  pv B false (k0_off2 i k) (k0_off2_inb i k)
  qk B false (k0_off1 i k 2#32) (k0_off1_inb i k 1)
  tiles B true (fun _ _ x => x)
  pv B true (k0_off3 i k) (k0_off3_inb i k)

/-- The last key block a query block sees. -/
def jlast (i : grid0.Coords) : BitVec 32 :=
  let v54 : BitVec 32 := Scalar.subi (Scalar.addi (Scalar.muli (BitVec.ofNat 32 (i 1).val) 128#32) 128#32) 1#32
  let v55 : BitVec 32 := Scalar.divsi v54 256#32
  let v60 : BitVec 32 := Scalar.subi (Scalar.extui (Scalar.cmpi .sgt v54 0#32)) (Scalar.extui (Scalar.cmpi .slt v54 0#32))
  let v65 : BitVec 32 := Scalar.subi (Scalar.extui (Scalar.cmpi .sgt 256#32 0#32)) (Scalar.extui (Scalar.cmpi .slt 256#32 0#32))
  Scalar.select (Scalar.andi (Scalar.cmpi .ne v60 v65) (Scalar.cmpi .ne (Scalar.remsi v54 256#32) 0#32)) (Scalar.subi v55 1#32) v55

/-- The masked tiles of the last key block. -/
def last (B : Bufs sig) (μ : F .f32) (i : grid0.Coords) (b : Bool) : Prog (TpuEff nD τ sig (Elt F) Λ .tc) PUnit :=
  tiles B b (causal μ (BitVec.ofNat 32 (i 1).val) (jlast i))

/-- The last key block in buffer `false`: an even number of blocks before it. -/
def evenEnd (B : Bufs sig) (μ : F .f32) (i : grid0.Coords) (h : k0_cond1 i = 1#1) : Prog (TpuEff nD τ sig (Elt F) Λ .tc) PUnit := do
  last B μ i false
  pv B false (k0_off7 i) (k0_off7_inb i h)

/-- The last two key blocks: an odd number of blocks before the last. -/
def oddEnd (B : Bufs sig) (μ : F .f32) (i : grid0.Coords) (h : k0_cond2 i = 1#1) : Prog (TpuEff nD τ sig (Elt F) Λ .tc) PUnit := do
  qk B true (k0_off8 i) (k0_off8_inb i h)
  tiles B false (fun _ _ x => x)
  pv B false (k0_off9 i) (k0_off9_inb i h)
  last B μ i true
  pv B true (k0_off10 i) (k0_off10_inb i h)

/-- The key blocks of a query block, then the normalised rows. -/
def mid (B : Bufs sig) (μ : F .f32) (i : grid0.Coords) (t2 : Fin (k0_t2_loop i).trips → Prog (TpuEff nD τ sig (Elt F) Λ .tc) PUnit) :
    Prog (TpuEff nD τ sig (Elt F) Λ .tc) (FVec F S1024x128 .f32) := do
  Scf.Loop.for (k0_t1_loop i) (k0_t1_ok i) ⟨⟩ fun k _ => do
    trip B i k
    pure ⟨⟩
  Scf.Loop.for (k0_t2_loop i) (k0_t2_ok i) ⟨⟩ fun k _ => do
    t2 k
    pure ⟨⟩
  if h : k0_cond1 i = 1#1 then do
    evenEnd B μ i h
    pure ⟨⟩
  else do
    pure ⟨⟩
  if h : k0_cond2 i = 1#1 then do
    oddEnd B μ i h
    pure ⟨⟩
  else do
    pure ⟨⟩
  let ac : Vec F S1024x128 .f32 ← Prog.lift (.load B.acc (Rect.unit (s := S1024x128) ![0, 0] S1024x128.size inb_S1024x128_S1024x128_0_0).toLoadRect (View.loadsAt_vmem h_S1024x128))
  let l : Vec F S1024x128 .f32 ← Prog.lift (.load B.l (Rect.unit (s := S1024x128) ![0, 0] S1024x128.size inb_S1024x128_S1024x128_0_0).toLoadRect (View.loadsAt_vmem h_S1024x128))
  pure (divf ac l)

/-- The queries stacked, the statistics reset, the first block's scores. -/
def head (B : Bufs sig) (μ : F .f32) : Prog (TpuEff nD τ sig (Elt F) Λ .tc) PUnit := do
  upto 8 (fill B) 8 (Nat.le_refl _)
  reset B B.m μ
  reset B B.l (Scalar.ofBits .f32 0x00000000#32)
  reset B B.acc (Scalar.ofBits .f32 0x00000000#32)
  qk B false ![0, 0] inb_S2048x256_S256x256_0_0

/-- The whole body. -/
def body (B : Bufs sig) (μ : F .f32) (i : grid0.Coords) (t2 : Fin (k0_t2_loop i).trips → Prog (TpuEff nD τ sig (Elt F) Λ .tc) PUnit) :
    Prog (TpuEff nD τ sig (Elt F) Λ .tc) PUnit := do
  head B μ
  let x ← mid B μ i t2
  upto 4 (put B x) 4 (Nat.le_refl _)

end Cert.Mla

end
-- ==== Proof.MlaRun.lean ====
/- Running the pieces of the latent attention's body: what each leaves in the buffers, as a function of the buffers
   before it. -/
module

public import proofs.«01_k».proof.Proof.MlaProg
public import Idealize.ShloMosaic.Lib.VecWindow
public import Idealize.ShloMosaic.Lib.Pipeline.FrameBody
public import Idealize.ShloMosaic.Lib.Pipeline.Value

@[expose] public section

noncomputable section

namespace Cert.Mla

open Idealize.ShloMosaic Idealize.ShloMosaic.TcCoe Cert.KernelIdeal Cert.KernelIdeal.Facts₀
open Idealize.SL Idealize.SL.RA Idealize.SL.BI
open scoped Idealize.SL.BI
open Idealize.SL.BI.BIBase Idealize.SL.BI.Laws Idealize.SL.ProofMode Idealize.SL.Sem

/-- The contents of the buffers. -/
@[ext] structure St (F : FTy → Type) where
  q : Vec F S128x2048 .bf16
  k : Vec F S2048x256 .bf16
  w : Vec F S4x256x128 .bf16
  o : Vec F S128x512 .bf16
  qs : Vec F S1024x256 .bf16
  s : Bool → Vec F S1024x256 .f32
  p : Bool → Vec F S1024x256 .bf16
  a : Bool → Vec F S1024x128 .f32
  m : Vec F S1024x128 .f32
  l : Vec F S1024x128 .f32
  acc : Vec F S1024x128 .f32

variable {nD : Nat} {τ : Topo} {sig : RefSig} {Λ : Labels} {F : FTy → Type} [FloatOps F]
variable {Ix : Type} [DecidableEq Ix] {Name : Type} [DecidableEq Name] {U : Type} [URA U] {Lvl : Type} [Preorder Lvl]
local notation "𝕄" => MT nD τ sig Ix (Elt F) Name U Lvl

/-- A buffer of the core owned in full at contents `X`. -/
abbrev own (c : Dev nD) {S : Shape} {e : EltTy} (M : Memref sig .tc .vmem S e) (X : S.Idx → Elt F e) : sProp 𝕄 :=
  owns (c : Thread nD τ) M fullShare X

/-- The core owns every buffer at the state's contents. -/
def Holds (B : Bufs sig) (c : Dev nD) (σ : St F) : sProp 𝕄 :=
  iprop(own c B.q σ.q ∗ own c B.k σ.k ∗ own c B.w σ.w ∗ own c B.o σ.o ∗ own c B.qs σ.qs
    ∗ own c (B.s false) (σ.s false) ∗ own c (B.s true) (σ.s true) ∗ own c (B.p false) (σ.p false) ∗ own c (B.p true) (σ.p true)
    ∗ own c (B.a false) (σ.a false) ∗ own c (B.a true) (σ.a true) ∗ own c B.m σ.m ∗ own c B.l σ.l ∗ own c B.acc σ.acc)

/-- One buffer taken out of the state, to be put back at any contents. -/
def Lens (B : Bufs sig) (c : Dev nD) {S : Shape} {e : EltTy} (M : Memref sig .tc .vmem S e) (σ : St F) (X : S.Idx → Elt F e)
    (upd : (S.Idx → Elt F e) → St F) : Prop :=
  upd X = σ ∧ ((Holds B c σ : sProp 𝕄) ⊢ iprop(own c M X ∗ (∀ Y, own c M Y -∗ Holds B c (upd Y))))

theorem lens_q (B : Bufs sig) (c : Dev nD) (σ : St F) :
    Lens (τ := τ) (Ix := Ix) (Name := Name) (U := U) (Lvl := Lvl) B c B.q σ σ.q (fun Y => { σ with q := Y }) := by
  refine ⟨rfl, ?_⟩
  unfold Holds
  iintro ⟨Hq, Hk, Hw, Ho, Hqs, Hs0, Hs1, Hp0, Hp1, Ha0, Ha1, Hm, Hl, Hacc⟩
  isplitl [Hq]
  · iexact Hq
  iintro %Y H
  isplitl [H]; · iexact H
  isplitl [Hk]; · iexact Hk
  isplitl [Hw]; · iexact Hw
  isplitl [Ho]; · iexact Ho
  isplitl [Hqs]; · iexact Hqs
  isplitl [Hs0]; · iexact Hs0
  isplitl [Hs1]; · iexact Hs1
  isplitl [Hp0]; · iexact Hp0
  isplitl [Hp1]; · iexact Hp1
  isplitl [Ha0]; · iexact Ha0
  isplitl [Ha1]; · iexact Ha1
  isplitl [Hm]; · iexact Hm
  isplitl [Hl]; · iexact Hl
  iexact Hacc

theorem lens_k (B : Bufs sig) (c : Dev nD) (σ : St F) :
    Lens (τ := τ) (Ix := Ix) (Name := Name) (U := U) (Lvl := Lvl) B c B.k σ σ.k (fun Y => { σ with k := Y }) := by
  refine ⟨rfl, ?_⟩
  unfold Holds
  iintro ⟨Hq, Hk, Hw, Ho, Hqs, Hs0, Hs1, Hp0, Hp1, Ha0, Ha1, Hm, Hl, Hacc⟩
  isplitl [Hk]
  · iexact Hk
  iintro %Y H
  isplitl [Hq]; · iexact Hq
  isplitl [H]; · iexact H
  isplitl [Hw]; · iexact Hw
  isplitl [Ho]; · iexact Ho
  isplitl [Hqs]; · iexact Hqs
  isplitl [Hs0]; · iexact Hs0
  isplitl [Hs1]; · iexact Hs1
  isplitl [Hp0]; · iexact Hp0
  isplitl [Hp1]; · iexact Hp1
  isplitl [Ha0]; · iexact Ha0
  isplitl [Ha1]; · iexact Ha1
  isplitl [Hm]; · iexact Hm
  isplitl [Hl]; · iexact Hl
  iexact Hacc

theorem lens_w (B : Bufs sig) (c : Dev nD) (σ : St F) :
    Lens (τ := τ) (Ix := Ix) (Name := Name) (U := U) (Lvl := Lvl) B c B.w σ σ.w (fun Y => { σ with w := Y }) := by
  refine ⟨rfl, ?_⟩
  unfold Holds
  iintro ⟨Hq, Hk, Hw, Ho, Hqs, Hs0, Hs1, Hp0, Hp1, Ha0, Ha1, Hm, Hl, Hacc⟩
  isplitl [Hw]
  · iexact Hw
  iintro %Y H
  isplitl [Hq]; · iexact Hq
  isplitl [Hk]; · iexact Hk
  isplitl [H]; · iexact H
  isplitl [Ho]; · iexact Ho
  isplitl [Hqs]; · iexact Hqs
  isplitl [Hs0]; · iexact Hs0
  isplitl [Hs1]; · iexact Hs1
  isplitl [Hp0]; · iexact Hp0
  isplitl [Hp1]; · iexact Hp1
  isplitl [Ha0]; · iexact Ha0
  isplitl [Ha1]; · iexact Ha1
  isplitl [Hm]; · iexact Hm
  isplitl [Hl]; · iexact Hl
  iexact Hacc

theorem lens_o (B : Bufs sig) (c : Dev nD) (σ : St F) :
    Lens (τ := τ) (Ix := Ix) (Name := Name) (U := U) (Lvl := Lvl) B c B.o σ σ.o (fun Y => { σ with o := Y }) := by
  refine ⟨rfl, ?_⟩
  unfold Holds
  iintro ⟨Hq, Hk, Hw, Ho, Hqs, Hs0, Hs1, Hp0, Hp1, Ha0, Ha1, Hm, Hl, Hacc⟩
  isplitl [Ho]
  · iexact Ho
  iintro %Y H
  isplitl [Hq]; · iexact Hq
  isplitl [Hk]; · iexact Hk
  isplitl [Hw]; · iexact Hw
  isplitl [H]; · iexact H
  isplitl [Hqs]; · iexact Hqs
  isplitl [Hs0]; · iexact Hs0
  isplitl [Hs1]; · iexact Hs1
  isplitl [Hp0]; · iexact Hp0
  isplitl [Hp1]; · iexact Hp1
  isplitl [Ha0]; · iexact Ha0
  isplitl [Ha1]; · iexact Ha1
  isplitl [Hm]; · iexact Hm
  isplitl [Hl]; · iexact Hl
  iexact Hacc

theorem lens_qs (B : Bufs sig) (c : Dev nD) (σ : St F) :
    Lens (τ := τ) (Ix := Ix) (Name := Name) (U := U) (Lvl := Lvl) B c B.qs σ σ.qs (fun Y => { σ with qs := Y }) := by
  refine ⟨rfl, ?_⟩
  unfold Holds
  iintro ⟨Hq, Hk, Hw, Ho, Hqs, Hs0, Hs1, Hp0, Hp1, Ha0, Ha1, Hm, Hl, Hacc⟩
  isplitl [Hqs]
  · iexact Hqs
  iintro %Y H
  isplitl [Hq]; · iexact Hq
  isplitl [Hk]; · iexact Hk
  isplitl [Hw]; · iexact Hw
  isplitl [Ho]; · iexact Ho
  isplitl [H]; · iexact H
  isplitl [Hs0]; · iexact Hs0
  isplitl [Hs1]; · iexact Hs1
  isplitl [Hp0]; · iexact Hp0
  isplitl [Hp1]; · iexact Hp1
  isplitl [Ha0]; · iexact Ha0
  isplitl [Ha1]; · iexact Ha1
  isplitl [Hm]; · iexact Hm
  isplitl [Hl]; · iexact Hl
  iexact Hacc

theorem lens_m (B : Bufs sig) (c : Dev nD) (σ : St F) :
    Lens (τ := τ) (Ix := Ix) (Name := Name) (U := U) (Lvl := Lvl) B c B.m σ σ.m (fun Y => { σ with m := Y }) := by
  refine ⟨rfl, ?_⟩
  unfold Holds
  iintro ⟨Hq, Hk, Hw, Ho, Hqs, Hs0, Hs1, Hp0, Hp1, Ha0, Ha1, Hm, Hl, Hacc⟩
  isplitl [Hm]
  · iexact Hm
  iintro %Y H
  isplitl [Hq]; · iexact Hq
  isplitl [Hk]; · iexact Hk
  isplitl [Hw]; · iexact Hw
  isplitl [Ho]; · iexact Ho
  isplitl [Hqs]; · iexact Hqs
  isplitl [Hs0]; · iexact Hs0
  isplitl [Hs1]; · iexact Hs1
  isplitl [Hp0]; · iexact Hp0
  isplitl [Hp1]; · iexact Hp1
  isplitl [Ha0]; · iexact Ha0
  isplitl [Ha1]; · iexact Ha1
  isplitl [H]; · iexact H
  isplitl [Hl]; · iexact Hl
  iexact Hacc

theorem lens_l (B : Bufs sig) (c : Dev nD) (σ : St F) :
    Lens (τ := τ) (Ix := Ix) (Name := Name) (U := U) (Lvl := Lvl) B c B.l σ σ.l (fun Y => { σ with l := Y }) := by
  refine ⟨rfl, ?_⟩
  unfold Holds
  iintro ⟨Hq, Hk, Hw, Ho, Hqs, Hs0, Hs1, Hp0, Hp1, Ha0, Ha1, Hm, Hl, Hacc⟩
  isplitl [Hl]
  · iexact Hl
  iintro %Y H
  isplitl [Hq]; · iexact Hq
  isplitl [Hk]; · iexact Hk
  isplitl [Hw]; · iexact Hw
  isplitl [Ho]; · iexact Ho
  isplitl [Hqs]; · iexact Hqs
  isplitl [Hs0]; · iexact Hs0
  isplitl [Hs1]; · iexact Hs1
  isplitl [Hp0]; · iexact Hp0
  isplitl [Hp1]; · iexact Hp1
  isplitl [Ha0]; · iexact Ha0
  isplitl [Ha1]; · iexact Ha1
  isplitl [Hm]; · iexact Hm
  isplitl [H]; · iexact H
  iexact Hacc

theorem lens_acc (B : Bufs sig) (c : Dev nD) (σ : St F) :
    Lens (τ := τ) (Ix := Ix) (Name := Name) (U := U) (Lvl := Lvl) B c B.acc σ σ.acc (fun Y => { σ with acc := Y }) := by
  refine ⟨rfl, ?_⟩
  unfold Holds
  iintro ⟨Hq, Hk, Hw, Ho, Hqs, Hs0, Hs1, Hp0, Hp1, Ha0, Ha1, Hm, Hl, Hacc⟩
  isplitl [Hacc]
  · iexact Hacc
  iintro %Y H
  isplitl [Hq]; · iexact Hq
  isplitl [Hk]; · iexact Hk
  isplitl [Hw]; · iexact Hw
  isplitl [Ho]; · iexact Ho
  isplitl [Hqs]; · iexact Hqs
  isplitl [Hs0]; · iexact Hs0
  isplitl [Hs1]; · iexact Hs1
  isplitl [Hp0]; · iexact Hp0
  isplitl [Hp1]; · iexact Hp1
  isplitl [Ha0]; · iexact Ha0
  isplitl [Ha1]; · iexact Ha1
  isplitl [Hm]; · iexact Hm
  isplitl [Hl]; · iexact Hl
  iexact H

theorem lens_s (B : Bufs sig) (c : Dev nD) (σ : St F) (b : Bool) :
    Lens (τ := τ) (Ix := Ix) (Name := Name) (U := U) (Lvl := Lvl) B c (B.s b) σ (σ.s b) (fun Y => { σ with s := Function.update σ.s b Y }) := by
  refine ⟨by simp only [Function.update_eq_self], ?_⟩
  cases b
  · unfold Holds
    iintro ⟨Hq, Hk, Hw, Ho, Hqs, Hs0, Hs1, Hp0, Hp1, Ha0, Ha1, Hm, Hl, Hacc⟩
    isplitl [Hs0]
    · iexact Hs0
    iintro %Y H
    isplitl [Hq]; · iexact Hq
    isplitl [Hk]; · iexact Hk
    isplitl [Hw]; · iexact Hw
    isplitl [Ho]; · iexact Ho
    isplitl [Hqs]; · iexact Hqs
    isplitl [H]; · iexact H
    isplitl [Hs1]; · iexact Hs1
    isplitl [Hp0]; · iexact Hp0
    isplitl [Hp1]; · iexact Hp1
    isplitl [Ha0]; · iexact Ha0
    isplitl [Ha1]; · iexact Ha1
    isplitl [Hm]; · iexact Hm
    isplitl [Hl]; · iexact Hl
    iexact Hacc
  · unfold Holds
    iintro ⟨Hq, Hk, Hw, Ho, Hqs, Hs0, Hs1, Hp0, Hp1, Ha0, Ha1, Hm, Hl, Hacc⟩
    isplitl [Hs1]
    · iexact Hs1
    iintro %Y H
    isplitl [Hq]; · iexact Hq
    isplitl [Hk]; · iexact Hk
    isplitl [Hw]; · iexact Hw
    isplitl [Ho]; · iexact Ho
    isplitl [Hqs]; · iexact Hqs
    isplitl [Hs0]; · iexact Hs0
    isplitl [H]; · iexact H
    isplitl [Hp0]; · iexact Hp0
    isplitl [Hp1]; · iexact Hp1
    isplitl [Ha0]; · iexact Ha0
    isplitl [Ha1]; · iexact Ha1
    isplitl [Hm]; · iexact Hm
    isplitl [Hl]; · iexact Hl
    iexact Hacc

theorem lens_p (B : Bufs sig) (c : Dev nD) (σ : St F) (b : Bool) :
    Lens (τ := τ) (Ix := Ix) (Name := Name) (U := U) (Lvl := Lvl) B c (B.p b) σ (σ.p b) (fun Y => { σ with p := Function.update σ.p b Y }) := by
  refine ⟨by simp only [Function.update_eq_self], ?_⟩
  cases b
  · unfold Holds
    iintro ⟨Hq, Hk, Hw, Ho, Hqs, Hs0, Hs1, Hp0, Hp1, Ha0, Ha1, Hm, Hl, Hacc⟩
    isplitl [Hp0]
    · iexact Hp0
    iintro %Y H
    isplitl [Hq]; · iexact Hq
    isplitl [Hk]; · iexact Hk
    isplitl [Hw]; · iexact Hw
    isplitl [Ho]; · iexact Ho
    isplitl [Hqs]; · iexact Hqs
    isplitl [Hs0]; · iexact Hs0
    isplitl [Hs1]; · iexact Hs1
    isplitl [H]; · iexact H
    isplitl [Hp1]; · iexact Hp1
    isplitl [Ha0]; · iexact Ha0
    isplitl [Ha1]; · iexact Ha1
    isplitl [Hm]; · iexact Hm
    isplitl [Hl]; · iexact Hl
    iexact Hacc
  · unfold Holds
    iintro ⟨Hq, Hk, Hw, Ho, Hqs, Hs0, Hs1, Hp0, Hp1, Ha0, Ha1, Hm, Hl, Hacc⟩
    isplitl [Hp1]
    · iexact Hp1
    iintro %Y H
    isplitl [Hq]; · iexact Hq
    isplitl [Hk]; · iexact Hk
    isplitl [Hw]; · iexact Hw
    isplitl [Ho]; · iexact Ho
    isplitl [Hqs]; · iexact Hqs
    isplitl [Hs0]; · iexact Hs0
    isplitl [Hs1]; · iexact Hs1
    isplitl [Hp0]; · iexact Hp0
    isplitl [H]; · iexact H
    isplitl [Ha0]; · iexact Ha0
    isplitl [Ha1]; · iexact Ha1
    isplitl [Hm]; · iexact Hm
    isplitl [Hl]; · iexact Hl
    iexact Hacc

theorem lens_a (B : Bufs sig) (c : Dev nD) (σ : St F) (b : Bool) :
    Lens (τ := τ) (Ix := Ix) (Name := Name) (U := U) (Lvl := Lvl) B c (B.a b) σ (σ.a b) (fun Y => { σ with a := Function.update σ.a b Y }) := by
  refine ⟨by simp only [Function.update_eq_self], ?_⟩
  cases b
  · unfold Holds
    iintro ⟨Hq, Hk, Hw, Ho, Hqs, Hs0, Hs1, Hp0, Hp1, Ha0, Ha1, Hm, Hl, Hacc⟩
    isplitl [Ha0]
    · iexact Ha0
    iintro %Y H
    isplitl [Hq]; · iexact Hq
    isplitl [Hk]; · iexact Hk
    isplitl [Hw]; · iexact Hw
    isplitl [Ho]; · iexact Ho
    isplitl [Hqs]; · iexact Hqs
    isplitl [Hs0]; · iexact Hs0
    isplitl [Hs1]; · iexact Hs1
    isplitl [Hp0]; · iexact Hp0
    isplitl [Hp1]; · iexact Hp1
    isplitl [H]; · iexact H
    isplitl [Ha1]; · iexact Ha1
    isplitl [Hm]; · iexact Hm
    isplitl [Hl]; · iexact Hl
    iexact Hacc
  · unfold Holds
    iintro ⟨Hq, Hk, Hw, Ho, Hqs, Hs0, Hs1, Hp0, Hp1, Ha0, Ha1, Hm, Hl, Hacc⟩
    isplitl [Ha1]
    · iexact Ha1
    iintro %Y H
    isplitl [Hq]; · iexact Hq
    isplitl [Hk]; · iexact Hk
    isplitl [Hw]; · iexact Hw
    isplitl [Ho]; · iexact Ho
    isplitl [Hqs]; · iexact Hqs
    isplitl [Hs0]; · iexact Hs0
    isplitl [Hs1]; · iexact Hs1
    isplitl [Hp0]; · iexact Hp0
    isplitl [Hp1]; · iexact Hp1
    isplitl [Ha0]; · iexact Ha0
    isplitl [H]; · iexact H
    isplitl [Hm]; · iexact Hm
    isplitl [Hl]; · iexact Hl
    iexact Hacc

variable {defs : Defs nD τ sig (Elt F) Λ} {𝒱 : Variants} {bd : Option 𝒱.V} {E : Set Name}

variable (Ix U Lvl defs 𝒱 bd E) in
/-- From state `σ` the program ends in state `σ'` with result `a`. -/
def Runs {α : Type} (B : Bufs sig) (c : Dev nD) (p : Prog (TpuEff nD τ sig (Elt F) Λ .tc) α) (σ σ' : St F) (a : α) : Prop :=
  ∀ Q : α → sProp 𝕄, Holds B c σ ⊢ iprop((Holds B c σ' -∗ Q a) -∗ wp frame (wpE defs 𝒱 (c : Thread nD τ) bd) E p Q)

variable {B : Bufs sig} {c : Dev nD}

theorem Runs.ret {α : Type} (σ : St F) (a : α) : Runs Ix U Lvl defs 𝒱 bd E B c (pure a) σ σ a := by
  intro Q
  rw [wp_pure]
  iintro H HK
  imodintro
  iapply HK
  iexact H

theorem Runs.bind {α β : Type} {p : Prog (TpuEff nD τ sig (Elt F) Λ .tc) α} {k : α → Prog (TpuEff nD τ sig (Elt F) Λ .tc) β}
    {σ σ' σ'' : St F} {a : α} {b : β} (h₁ : Runs Ix U Lvl defs 𝒱 bd E B c p σ σ' a) (h₂ : Runs Ix U Lvl defs 𝒱 bd E B c (k a) σ' σ'' b) : Runs Ix U Lvl defs 𝒱 bd E B c (p >>= k) σ σ'' b := by
  intro Q
  rw [wp_bind]
  iintro H HK
  iapply (h₁ (fun a => wp frame (wpE defs 𝒱 (c : Thread nD τ) bd) E (k a) Q)) $$ H
  iintro H
  iapply (h₂ Q) $$ H
  iexact HK

theorem Runs.to {α : Type} {p : Prog (TpuEff nD τ sig (Elt F) Λ .tc) α} {σ σ' σ'' : St F} {a : α}
    (h : Runs Ix U Lvl defs 𝒱 bd E B c p σ σ' a) (e : σ' = σ'') : Runs Ix U Lvl defs 𝒱 bd E B c p σ σ'' a := e ▸ h

theorem Runs.load {S : Shape} {e : EltTy} {M : Memref sig .tc .vmem S e} {σ : St F} {X : S.Idx → Elt F e} {upd : (S.Idx → Elt F e) → St F}
    (L : Lens (τ := τ) (Ix := Ix) (Name := Name) (U := U) (Lvl := Lvl) B c M σ X upd) {off size : Fin S.rank → Nat} {inb : ∀ a, off a + size a ≤ S.size a}
    {hl : M.view.LoadsAt (Rect.unit off size inb).toLoadRect} :
    Runs Ix U Lvl defs 𝒱 bd E B c (Prog.lift (.load M (Rect.unit off size inb).toLoadRect hl)) σ σ (VecWindow.window X off size inb) := by
  intro Q
  refine L.2.trans ?_
  unfold own owns
  iintro ⟨⟨%f, %hf, H⟩, HB⟩ HK
  iapply (wp_load 𝒱 (c : Thread nD τ) bd E (hl := hl) (k := .ret) (Q := Q) (S := M.view.set) (View.setOn_subset_set _ _)) $$ H
  iintro H
  rw [wp_ret, View.readAt_unit M.view f inb rfl inb, hf]
  imodintro
  iapply HK
  rw [← L.1]
  iapply HB
  iexists f
  isplitr
  · ipureintro; exact hf
  · iexact H

theorem Runs.store {S : Shape} {e : EltTy} {M : Memref sig .tc .vmem S e} {σ : St F} {X : S.Idx → Elt F e} {upd : (S.Idx → Elt F e) → St F}
    (L : Lens (τ := τ) (Ix := Ix) (Name := Name) (U := U) (Lvl := Lvl) B c M σ X upd) {off size : Fin S.rank → Nat} {inb : ∀ a, off a + size a ≤ S.size a}
    {w : (Rect.unit off size inb).shape.Idx → Elt F e}
    {hx : (M.access (Rect.unit off size inb)).Stores Finset.univ} {hm : Finset.univ = Finset.univ ∨ ∀ a, (Rect.unit off size inb).stride a = 1} :
    Runs Ix U Lvl defs 𝒱 bd E B c (Prog.lift (.store M (Rect.unit off size inb) w Finset.univ hx hm)) σ (upd (VecWindow.put X off size w)) ⟨⟩ := by
  intro Q
  refine L.2.trans ?_
  unfold own owns
  iintro ⟨⟨%f, %hf, H⟩, HB⟩ HK
  iapply (wp_store 𝒱 (c : Thread nD τ) bd E (hx := hx) (hm := hm) (w := w) (k := .ret) (Q := Q) (S := M.view.set) (View.set_slice_subset M.view (Rect.unit off size inb))) $$ H
  iintro H
  rw [wp_ret]
  imodintro
  iapply HK
  iapply HB
  iexists ((M.access (Rect.unit off size inb)).write (Elt F) f w Finset.univ)
  isplitr
  · ipureintro
    rw [← hf]
    exact View.read_writes_cons_put M.view f inb w [] rfl
  · iexact H

end Cert.Mla

end
-- ==== Proof.MlaSteps.lean ====
/- What each piece of the latent attention's body leaves, run from any state. -/
module

public import proofs.«01_k».proof.Proof.MlaRun

@[expose] public section

noncomputable section

namespace Cert.Mla

open Idealize.ShloMosaic Idealize.ShloMosaic.TcCoe Cert.KernelIdeal Cert.KernelIdeal.Facts₀
open Idealize.SL Idealize.SL.RA Idealize.SL.BI
open scoped Idealize.SL.BI
open Idealize.SL.BI.BIBase Idealize.SL.BI.Laws Idealize.SL.ProofMode Idealize.SL.Sem
open VecWindow (window)

variable {nD : Nat} {τ : Topo} {sig : RefSig} {Λ : Labels} {F : FTy → Type} [FloatOps F]
variable {Ix : Type} [DecidableEq Ix] {Name : Type} [DecidableEq Name] {U : Type} [URA U] {Lvl : Type} [Preorder Lvl]
variable {defs : Defs nD τ sig (Elt F) Λ} {𝒱 : Variants} {bd : Option 𝒱.V} {E : Set Name}
variable {B : Bufs sig} {c : Dev nD}

/-! ## The state after a piece -/

section
variable (σ : St F)

def St.win (X : Vec F S1024x256 .f32) (t : Nat) (h : t < 32) (d : Nat) (hd : d ≤ 128) : FVec F S32x128 .f32 :=
  window X ![32 * t, d] S32x128.size (inbS t h d hd)

def winM (X : Vec F S1024x128 .f32) (t : Nat) (h : t < 32) : FVec F S32x128 .f32 :=
  window X ![32 * t, 0] S32x128.size (inbM t h)

variable (mk : Nat → Nat → FVec F S32x128 .f32 → FVec F S32x128 .f32) (b : Bool) (t : Nat) (h : t < 32)

/-- The two lane halves of tile `t`'s scores, masked. -/
def yy (s : Vec F S1024x256 .f32) (d : Nat) (hd : d ≤ 128) : FVec F S32x128 .f32 := mk t d (St.win s t h d hd)
/-- Tile `t`'s new maximum. -/
def newM (s : Vec F S1024x256 .f32) (m : Vec F S1024x128 .f32) : FVec F S32x128 .f32 :=
  tMax (winM m t h) (yy mk t h s 0 (by omega)) (yy mk t h s 128 (by omega))
/-- Tile `t`'s exponentials. -/
def newP (s : Vec F S1024x256 .f32) (m : Vec F S1024x128 .f32) (d : Nat) (hd : d ≤ 128) : FVec F S32x128 .f32 :=
  tExp (yy mk t h s d hd) (newM mk t h s m)
/-- Tile `t`'s rescaling factor. -/
def newA (s : Vec F S1024x256 .f32) (m : Vec F S1024x128 .f32) : FVec F S32x128 .f32 := tExp (winM m t h) (newM mk t h s m)
/-- Tile `t`'s new denominator. -/
def newL (s : Vec F S1024x256 .f32) (m l : Vec F S1024x128 .f32) : FVec F S32x128 .f32 :=
  tSum (newA mk t h s m) (winM l t h) (newP mk t h s m 0 (by omega)) (newP mk t h s m 128 (by omega))

def tileSt : St F :=
  { σ with
    p := Function.update σ.p b
      (VecWindow.put (VecWindow.put (σ.p b) ![32 * t, 0] S32x128.size
          (shapeCast S32x128 (truncf .bf16 (newP mk t h (σ.s b) σ.m 0 (by omega)) bitsLt_bf16_f32) shapeCasts_S32x128_S32x128))
        ![32 * t, 128] S32x128.size (shapeCast S32x128 (truncf .bf16 (newP mk t h (σ.s b) σ.m 128 (by omega)) bitsLt_bf16_f32) shapeCasts_S32x128_S32x128))
    l := VecWindow.put σ.l ![32 * t, 0] S32x128.size (shapeCast S32x128 (newL mk t h (σ.s b) σ.m σ.l) shapeCasts_S32x128_S32x128)
    m := VecWindow.put σ.m ![32 * t, 0] S32x128.size (shapeCast S32x128 (newM mk t h (σ.s b) σ.m) shapeCasts_S32x128_S32x128)
    a := Function.update σ.a b (VecWindow.put (σ.a b) ![32 * t, 0] S32x128.size (shapeCast S32x128 (newA mk t h (σ.s b) σ.m) shapeCasts_S32x128_S32x128)) }

/-- The scores of the stacked queries against the key block at `off`. -/
def scores (qs : Vec F S1024x256 .bf16) (k : Vec F S2048x256 .bf16) (off : Fin 2 → Nat) (hoff : ∀ a, off a + S256x256.size a ≤ S2048x256.size a) : FVec F S1024x256 .f32 :=
  matmul (φ₁ := .bf16) (φ₂ := .bf16) dot_S1024x256_S256x256_S1024x256_1_1_0_0_n_n none qs (shapeCast S256x256 (window k off S256x256.size hoff) shapeCasts_S256x256_S256x256)
    (constant S1024x256 .f32 0x00000000#32)

/-- The accumulator rescaled, plus the weights' product with the values at `off`. -/
def accum (ac al : Vec F S1024x128 .f32) (p : Vec F S1024x256 .bf16) (k : Vec F S2048x256 .bf16) (off : Fin 2 → Nat) (hoff : ∀ a, off a + S256x128.size a ≤ S2048x256.size a) : FVec F S1024x128 .f32 :=
  addf (mulf ac al) (matmul (φ₁ := .bf16) (φ₂ := .bf16) dot_S1024x256_S256x128_S1024x128_1_0_0_1_n_n none p (shapeCast S256x128 (window k off S256x128.size hoff) shapeCasts_S256x128_S256x128)
      (constant S1024x128 .f32 0x00000000#32))
end

theorem win_full {S : Shape} {α : Type} (X : S.Idx → α) (off : Fin S.rank → Nat) (inb : ∀ a, off a + S.size a ≤ S.size a) :
    window X off S.size inb = X := by
  funext y
  exact congrArg X (funext fun a => Fin.ext (by
    show off a + 1 * (y a).val = (y a).val
    have := inb a; omega))

theorem put_full {S : Shape} {α : Type} (X : S.Idx → α) (off : Fin S.rank → Nat) (inb : ∀ a, off a + S.size a ≤ S.size a) (w : S.Idx → α) :
    VecWindow.put X off S.size w = w := by
  rw [← win_full (VecWindow.put X off S.size w) off inb]
  exact VecWindow.window_put_same X off S.size inb w

theorem cast_same {S : Shape} {φ : FTy} (x : FVec F S φ) (h : S.ShapeCasts S) : shapeCast S x h = x := shapeCast_self x h

theorem run_tile (σ : St F) (b : Bool) (mk : Nat → Nat → FVec F S32x128 .f32 → FVec F S32x128 .f32) (t : Nat) (h : t < 32) :
    Runs Ix U Lvl defs 𝒱 bd E B c (tile B b mk t h) σ (tileSt σ mk b t h) ⟨⟩ := by
  unfold tile
  refine Runs.bind (Runs.load (lens_s B c _ b)) ?_
  refine Runs.bind (Runs.load (lens_s B c _ b)) ?_
  refine Runs.bind (Runs.load (lens_m B c _)) ?_
  refine Runs.bind (Runs.load (lens_p B c _ b)) ?_
  refine Runs.bind (Runs.store (lens_p B c _ b)) ?_
  refine Runs.bind (Runs.load (lens_p B c _ b)) ?_
  refine Runs.bind (Runs.store (lens_p B c _ b)) ?_
  refine Runs.bind (Runs.load (lens_l B c _)) ?_
  refine Runs.bind (Runs.load (lens_l B c _)) ?_
  refine Runs.bind (Runs.store (lens_l B c _)) ?_
  refine Runs.bind (Runs.load (lens_m B c _)) ?_
  refine Runs.bind (Runs.store (lens_m B c _)) ?_
  refine Runs.bind (Runs.load (lens_a B c _ b)) ?_
  refine (Runs.store (lens_a B c _ b)).to ?_
  simp only [Function.update_idem, Function.update_self]
  rfl

theorem run_qk (σ : St F) (b : Bool) (off : Fin 2 → Nat) (h : ∀ a, off a + S256x256.size a ≤ S2048x256.size a) :
    Runs Ix U Lvl defs 𝒱 bd E B c (qk B b off h) σ { σ with s := Function.update σ.s b (scores σ.qs σ.k off h) } ⟨⟩ := by
  unfold qk
  refine Runs.bind (Runs.load (lens_k B c _)) ?_
  refine Runs.bind (Runs.load (lens_qs B c _)) ?_
  refine Runs.bind (Runs.load (lens_s B c _ b)) ?_
  refine (Runs.store (lens_s B c _ b)).to ?_
  have e : ∀ w : FVec F S1024x256 .f32, VecWindow.put (σ.s b) ![0, 0] S1024x256.size w = w := fun w => put_full _ _ inb_S1024x256_S1024x256_0_0 w
  simp only [e]
  rw [win_full, cast_same]
  rfl

theorem run_pv (σ : St F) (b : Bool) (off : Fin 2 → Nat) (h : ∀ a, off a + S256x128.size a ≤ S2048x256.size a) :
    Runs Ix U Lvl defs 𝒱 bd E B c (pv B b off h) σ { σ with acc := accum σ.acc (σ.a b) (σ.p b) σ.k off h } ⟨⟩ := by
  unfold pv
  refine Runs.bind (Runs.load (lens_k B c _)) ?_
  refine Runs.bind (Runs.load (lens_acc B c _)) ?_
  refine Runs.bind (Runs.load (lens_a B c _ b)) ?_
  refine Runs.bind (Runs.load (lens_p B c _ b)) ?_
  refine Runs.bind (Runs.load (lens_acc B c _)) ?_
  refine (Runs.store (lens_acc B c _)).to ?_
  have e : ∀ w : FVec F S1024x128 .f32, VecWindow.put σ.acc ![0, 0] S1024x128.size w = w := fun w => put_full _ _ inb_S1024x128_S1024x128_0_0 w
  simp only [e]
  rw [win_full, win_full, win_full, cast_same]
  rfl

/-- A family of updates, the last `n` of `N` in order. -/
def uptoSt {α : Type} (N : Nat) (g : (t : Nat) → t < N → α → α) : (n : Nat) → n ≤ N → α → α
  | 0, _, σ => σ
  | n + 1, h, σ => uptoSt N g n (by omega) (g (N - (n + 1)) (by omega) σ)

theorem run_upto (N : Nat) (f : (t : Nat) → t < N → Prog (TpuEff nD τ sig (Elt F) Λ .tc) PUnit) (g : (t : Nat) → t < N → St F → St F)
    (hf : ∀ t h σ, Runs Ix U Lvl defs 𝒱 bd E B c (f t h) σ (g t h σ) ⟨⟩) : ∀ (n : Nat) (h : n ≤ N) (σ : St F), Runs Ix U Lvl defs 𝒱 bd E B c (upto N f n h) σ (uptoSt N g n h σ) ⟨⟩
  | 0, _, σ => Runs.ret σ PUnit.unit
  | n + 1, h, σ => Runs.bind (hf _ _ σ) (run_upto N f g hf n _ _)

theorem run_fill (σ : St F) (h : Nat) (hh : h < 8) : Runs Ix U Lvl defs 𝒱 bd E B c (fill B h hh) σ
    { σ with qs := VecWindow.put σ.qs ![128 * h, 0] S128x256.size (window σ.q ![0, 256 * h] S128x256.size (inbQ h hh)) } ⟨⟩ := by
  unfold fill
  refine Runs.bind (Runs.load (lens_q B c _)) ?_
  refine Runs.bind (Runs.load (lens_qs B c _)) ?_
  refine (Runs.store (lens_qs B c _)).to ?_
  rw [cast_same, cast_same]

theorem run_put (σ : St F) (x : FVec F S1024x128 .f32) (h : Nat) (hh : h < 4) : Runs Ix U Lvl defs 𝒱 bd E B c (put B x h hh) σ
    { σ with o := VecWindow.put σ.o ![0, 128 * h] S128x128.size (outVal h hh x (window σ.w ![h, 0, 0] S1x256x128.size (inbW h hh))) } ⟨⟩ := by
  unfold put
  refine Runs.bind (Runs.load (lens_w B c _)) ?_
  refine Runs.bind (Runs.load (lens_o B c _)) ?_
  exact Runs.store (lens_o B c _)

theorem run_reset (σ : St F) (M : Memref sig .tc .vmem S1024x128 .f32) (X : Vec F S1024x128 .f32) (upd : Vec F S1024x128 .f32 → St F)
    (L : Lens (τ := τ) (Ix := Ix) (Name := Name) (U := U) (Lvl := Lvl) B c M σ X upd) (x : F .f32) :
    Runs Ix U Lvl defs 𝒱 bd E B c (reset B M x) σ (upd (broadcast S1024x128 x)) ⟨⟩ := by
  unfold reset
  refine Runs.bind (Runs.load L) ?_
  refine (Runs.store L).to ?_
  rw [cast_same]
  exact congrArg upd (put_full _ _ inb_S1024x128_S1024x128_0_0 _)

end Cert.Mla

end
-- ==== Proof.MlaBody.lean ====
/- The whole of the latent attention's body, run from any state. -/
module

public import proofs.«01_k».proof.Proof.MlaSteps

@[expose] public section

noncomputable section

namespace Cert.Mla

open Idealize.ShloMosaic Idealize.ShloMosaic.TcCoe Cert.KernelIdeal Cert.KernelIdeal.Facts₀
open Idealize.SL Idealize.SL.RA Idealize.SL.BI
open scoped Idealize.SL.BI
open Idealize.SL.BI.BIBase Idealize.SL.BI.Laws Idealize.SL.ProofMode Idealize.SL.Sem
open VecWindow (window)

variable {nD : Nat} {τ : Topo} {sig : RefSig} {Λ : Labels} {F : FTy → Type} [FloatOps F]
variable {Ix : Type} [DecidableEq Ix] {Name : Type} [DecidableEq Name] {U : Type} [URA U] {Lvl : Type} [Preorder Lvl]
variable {defs : Defs nD τ sig (Elt F) Λ} {𝒱 : Variants} {bd : Option 𝒱.V} {E : Set Name}
variable {B : Bufs sig} {c : Dev nD}

/-- The first `k` of `n` updates, in order. -/
def iter {α : Type} (n : Nat) (g : Fin n → α → α) : Nat → α → α
  | 0, σ => σ
  | k + 1, σ => if h : k < n then g ⟨k, h⟩ (iter n g k σ) else iter n g k σ

theorem run_for {β : Type} (L : Scf.Loop 32) (ok : L.OK) (f : Fin L.trips → Prog (TpuEff nD τ sig (Elt F) Λ .tc) PUnit) (g : Fin L.trips → St F → St F)
    (hf : ∀ k σ, Runs Ix U Lvl defs 𝒱 bd E B c (f k) σ (g k σ) ⟨⟩) (kk : PUnit → Prog (TpuEff nD τ sig (Elt F) Λ .tc) β) (σ σ' : St F) (b : β)
    (hk : Runs Ix U Lvl defs 𝒱 bd E B c (kk ⟨⟩) (iter L.trips g L.trips σ) σ' b) :
    Runs Ix U Lvl defs 𝒱 bd E B c (Scf.Loop.for L ok PUnit.unit (fun k _ => f k >>= fun _ => pure PUnit.unit) >>= kk) σ σ' b := by
  intro Q
  show Holds B c (iter L.trips g 0 σ) ⊢ _
  iintro H HK
  iapply (Scf.wp_for_bind (kk := kk) (Q := Q) frame (wpE defs 𝒱 (c : Thread nD τ) bd) E L.lb L.ub L.st ok PUnit.unit (fun k _ => f k >>= fun _ => pure PUnit.unit)
    (fun k _ => Holds B c (iter L.trips g k σ)) (fun k acc => by
      have h := (hf k (iter L.trips g k.val σ)).bind (Runs.ret _ PUnit.unit) (fun _ => Holds B c (iter L.trips g (k.val + 1) σ))
      have e : iter L.trips g (k.val + 1) σ = g k (iter L.trips g k.val σ) := by
        show (if h : k.val < L.trips then g ⟨k.val, h⟩ _ else _) = _
        rw [dif_pos k.isLt]
      rw [e] at h ⊢
      iintro H
      iapply h $$ H
      iintro H
      iexact H)) $$ H
  iintro %acc H
  iapply (hk Q) $$ H
  iexact HK

def tilesSt (σ : St F) (b : Bool) (mk : Nat → Nat → FVec F S32x128 .f32 → FVec F S32x128 .f32) : St F :=
  uptoSt 32 (fun t h σ => tileSt σ mk b t h) 32 (Nat.le_refl _) σ

theorem run_tiles (σ : St F) (b : Bool) (mk : Nat → Nat → FVec F S32x128 .f32 → FVec F S32x128 .f32) :
    Runs Ix U Lvl defs 𝒱 bd E B c (tiles B b mk) σ (tilesSt σ b mk) ⟨⟩ :=
  run_upto 32 (tile B b mk) _ (fun t h σ => run_tile σ b mk t h) 32 _ σ

def qkSt (b : Bool) (off : Fin 2 → Nat) (h : ∀ a, off a + S256x256.size a ≤ S2048x256.size a) (σ : St F) : St F :=
  { σ with s := Function.update σ.s b (scores σ.qs σ.k off h) }
def pvSt (b : Bool) (off : Fin 2 → Nat) (h : ∀ a, off a + S256x128.size a ≤ S2048x256.size a) (σ : St F) : St F :=
  { σ with acc := accum σ.acc (σ.a b) (σ.p b) σ.k off h }
abbrev clear : Nat → Nat → FVec F S32x128 .f32 → FVec F S32x128 .f32 := fun _ _ x => x
abbrev mask (μ : F .f32) (i : grid0.Coords) : Nat → Nat → FVec F S32x128 .f32 → FVec F S32x128 .f32 := causal μ (BitVec.ofNat 32 (i 1).val) (jlast i)

def tripSt (i : grid0.Coords) (k : Fin (k0_t1_loop i).trips) (σ : St F) : St F :=
  pvSt true (k0_off3 i k) (k0_off3_inb i k) (tilesSt (qkSt false (k0_off1 i k 2#32) (k0_off1_inb i k 1)
    (pvSt false (k0_off2 i k) (k0_off2_inb i k) (tilesSt (qkSt true (k0_off1 i k 1#32) (k0_off1_inb i k 0) σ) false clear))) true clear)

theorem run_trip (i : grid0.Coords) (k : Fin (k0_t1_loop i).trips) (σ : St F) : Runs Ix U Lvl defs 𝒱 bd E B c (trip B i k) σ (tripSt i k σ) ⟨⟩ := by
  unfold trip
  exact (run_qk _ _ _ _).bind ((run_tiles _ _ _).bind ((run_pv _ _ _ _).bind ((run_qk _ _ _ _).bind ((run_tiles _ _ _).bind (run_pv _ _ _ _)))))

def evenSt (μ : F .f32) (i : grid0.Coords) (h : k0_cond1 i = 1#1) (σ : St F) : St F :=
  pvSt false (k0_off7 i) (k0_off7_inb i h) (tilesSt σ false (mask μ i))

theorem run_even (μ : F .f32) (i : grid0.Coords) (h : k0_cond1 i = 1#1) (σ : St F) : Runs Ix U Lvl defs 𝒱 bd E B c (evenEnd B μ i h) σ (evenSt μ i h σ) ⟨⟩ := by
  unfold evenEnd last
  exact (run_tiles _ _ _).bind (run_pv _ _ _ _)

def oddSt (μ : F .f32) (i : grid0.Coords) (h : k0_cond2 i = 1#1) (σ : St F) : St F :=
  pvSt true (k0_off10 i) (k0_off10_inb i h) (tilesSt (pvSt false (k0_off9 i) (k0_off9_inb i h)
    (tilesSt (qkSt true (k0_off8 i) (k0_off8_inb i h) σ) false clear)) true (mask μ i))

theorem run_odd (μ : F .f32) (i : grid0.Coords) (h : k0_cond2 i = 1#1) (σ : St F) : Runs Ix U Lvl defs 𝒱 bd E B c (oddEnd B μ i h) σ (oddSt μ i h σ) ⟨⟩ := by
  unfold oddEnd last
  exact (run_qk _ _ _ _).bind ((run_tiles _ _ _).bind ((run_pv _ _ _ _).bind ((run_tiles _ _ _).bind (run_pv _ _ _ _))))

theorem run_quot (σ : St F) : Runs Ix U Lvl defs 𝒱 bd E B c (do
    let ac : Vec F S1024x128 .f32 ← Prog.lift (.load B.acc (Rect.unit (s := S1024x128) ![0, 0] S1024x128.size inb_S1024x128_S1024x128_0_0).toLoadRect (View.loadsAt_vmem h_S1024x128))
    let l : Vec F S1024x128 .f32 ← Prog.lift (.load B.l (Rect.unit (s := S1024x128) ![0, 0] S1024x128.size inb_S1024x128_S1024x128_0_0).toLoadRect (View.loadsAt_vmem h_S1024x128))
    pure (divf ac l)) σ σ (divf σ.acc σ.l) := by
  refine Runs.bind (Runs.load (lens_acc B c _)) ?_
  refine Runs.bind (Runs.load (lens_l B c _)) ?_
  rw [win_full, win_full]
  exact Runs.ret _ _

/-- The state after all the key blocks. -/
def midSt (μ : F .f32) (i : grid0.Coords) (σ : St F) : St F :=
  let σ := iter (k0_t1_loop i).trips (tripSt i) (k0_t1_loop i).trips σ
  let σ := if h : k0_cond1 i = 1#1 then evenSt μ i h σ else σ
  if h : k0_cond2 i = 1#1 then oddSt μ i h σ else σ

theorem run_mid (μ : F .f32) (i : grid0.Coords) (t2 : Fin (k0_t2_loop i).trips → Prog (TpuEff nD τ sig (Elt F) Λ .tc) PUnit) (h0 : (k0_t2_loop i).trips = 0) (σ : St F) :
    Runs Ix U Lvl defs 𝒱 bd E B c (mid B μ i t2) σ (midSt μ i σ) (divf (midSt μ i σ).acc (midSt μ i σ).l) := by
  unfold mid
  refine run_for _ _ _ _ (run_trip i) _ _ _ _ ?_
  refine run_for _ _ _ (fun _ σ => σ) (fun k => absurd k.isLt (by omega)) _ _ _ _ ?_
  have e : ∀ (g : Fin (k0_t2_loop i).trips → St F → St F) σ, iter (k0_t2_loop i).trips g (k0_t2_loop i).trips σ = σ := by
    rw [h0]; intro g σ; rfl
  rw [e]
  unfold midSt
  dsimp only
  by_cases h1 : k0_cond1 i = 1#1 <;> by_cases h2 : k0_cond2 i = 1#1
  · rw [dif_pos h1, dif_pos h2, dif_pos h1, dif_pos h2]
    exact (run_even _ _ _ _).bind ((run_odd _ _ _ _).bind (run_quot _))
  · rw [dif_pos h1, dif_neg h2, dif_pos h1, dif_neg h2]
    exact (run_even _ _ _ _).bind (run_quot _)
  · rw [dif_neg h1, dif_pos h2, dif_neg h1, dif_pos h2]
    exact (run_odd _ _ _ _).bind (run_quot _)
  · rw [dif_neg h1, dif_neg h2, dif_neg h1, dif_neg h2]
    exact run_quot _

/-- The queries stacked, head by head. -/
def fillSt (σ : St F) : St F :=
  uptoSt 8 (fun h hh σ => { σ with qs := VecWindow.put σ.qs ![128 * h, 0] S128x256.size (window σ.q ![0, 256 * h] S128x256.size (inbQ h hh)) }) 8 (Nat.le_refl _) σ

def headSt (μ : F .f32) (σ : St F) : St F :=
  qkSt false ![0, 0] inb_S2048x256_S256x256_0_0
    { fillSt σ with
      m := broadcast S1024x128 μ
      l := broadcast S1024x128 (Scalar.ofBits .f32 0x00000000#32)
      acc := broadcast S1024x128 (Scalar.ofBits .f32 0x00000000#32) }

theorem run_head (μ : F .f32) (σ : St F) : Runs Ix U Lvl defs 𝒱 bd E B c (head B μ) σ (headSt μ σ) ⟨⟩ := by
  unfold head
  refine (run_upto 8 (fill B) _ (fun h hh σ => run_fill σ h hh) 8 _ σ).bind ?_
  refine (run_reset _ _ _ _ (lens_m B c _) _).bind ?_
  refine (run_reset _ _ _ _ (lens_l B c _) _).bind ?_
  refine (run_reset _ _ _ _ (lens_acc B c _) _).bind ?_
  exact run_qk _ _ _ _

/-- The output block written, two heads at a time. -/
def putSt (x : FVec F S1024x128 .f32) (σ : St F) : St F :=
  uptoSt 4 (fun h hh σ => { σ with o := VecWindow.put σ.o ![0, 128 * h] S128x128.size (outVal h hh x (window σ.w ![h, 0, 0] S1x256x128.size (inbW h hh))) }) 4 (Nat.le_refl _) σ

/-- The state after the body. -/
def bodySt (μ : F .f32) (i : grid0.Coords) (σ : St F) : St F :=
  putSt (divf (midSt μ i (headSt μ σ)).acc (midSt μ i (headSt μ σ)).l) (midSt μ i (headSt μ σ))

theorem run_body (μ : F .f32) (i : grid0.Coords) (t2 : Fin (k0_t2_loop i).trips → Prog (TpuEff nD τ sig (Elt F) Λ .tc) PUnit) (h0 : (k0_t2_loop i).trips = 0) (σ : St F) :
    Runs Ix U Lvl defs 𝒱 bd E B c (body B μ i t2) σ (bodySt μ i σ) ⟨⟩ := by
  unfold body
  refine (run_head _ _).bind ?_
  refine (run_mid _ _ _ h0 _).bind ?_
  exact run_upto 4 (put B _) _ (fun h hh σ => run_put σ _ h hh) 4 _ _

end Cert.Mla

end
-- ==== Proof.MlaGlue.lean ====
/- The 32 tiles of a score block together: what they leave row by row. -/
module

public import proofs.«01_k».proof.Proof.MlaBody
public import Idealize.ShloMosaic.Lib.Pointwise

@[expose] public section

noncomputable section

namespace Cert.Mla

open Idealize.ShloMosaic Cert.KernelIdeal Cert.KernelIdeal.Facts₀
open VecWindow (window)

variable {F : FTy → Type} [FloatOps F]

/-- The rows of 32-row tiles, one tile after the other. -/
def glue {α : Type} (w : (t : Nat) → t < 32 → S32x128.Idx → α) : S1024x128.Idx → α := fun y =>
  w ((y 0).val / 32) (by have : (y 0).val < 1024 := (y 0).isLt; omega) (ix2 ⟨(y 0).val % 32, by omega⟩ (y 1))

/-- The rows of 32-row tiles of two lane halves. -/
def glue2 {α : Type} (w : (t : Nat) → t < 32 → (d : Nat) → d ≤ 128 → S32x128.Idx → α) : S1024x256.Idx → α := fun y =>
  if (y 1).val < 128 then w ((y 0).val / 32) (by have : (y 0).val < 1024 := (y 0).isLt; omega) 0 (by omega) (ix2 ⟨(y 0).val % 32, by omega⟩ ⟨(y 1).val % 128, by omega⟩)
  else w ((y 0).val / 32) (by have : (y 0).val < 1024 := (y 0).isLt; omega) 128 (by omega) (ix2 ⟨(y 0).val % 32, by omega⟩ ⟨(y 1).val % 128, by omega⟩)

/-- The first `j` tiles new, the rest old. -/
def blend {n : Nat} {α : Type} (j : Nat) (new old : (⟨2, ![1024, n]⟩ : Shape).Idx → α) : (⟨2, ![1024, n]⟩ : Shape).Idx → α := fun y =>
  if (y 0).val < 32 * j then new y else old y

theorem blend_zero {n : Nat} {α : Type} (new old : (⟨2, ![1024, n]⟩ : Shape).Idx → α) : blend 0 new old = old :=
  funext fun y => if_neg (by omega)

theorem blend_all {n : Nat} {α : Type} (new old : (⟨2, ![1024, n]⟩ : Shape).Idx → α) : blend 32 new old = new :=
  funext fun y => if_pos (by have : (y 0).val < 1024 := (y 0).isLt; omega)

theorem winM_blend {j : Nat} (h : j < 32) (new old : Vec F S1024x128 .f32) : winM (blend j new old) j h = winM old j h := by
  funext y
  refine if_neg ?_
  show ¬ (32 * j + 1 * (y 0).val < 32 * j)
  omega

theorem put_blend {α : Type} {j : Nat} (h : j < 32) (w : (t : Nat) → t < 32 → S32x128.Idx → α) (old : S1024x128.Idx → α) :
    VecWindow.put (blend j (glue w) old) ![32 * j, 0] S32x128.size (w j h) = blend (j + 1) (glue w) old := by
  funext y
  have hy : (y 1).val < 128 := (y 1).isLt
  unfold VecWindow.put
  by_cases hc : 32 * j ≤ (y 0).val ∧ (y 0).val < 32 * j + 32
  · have hin : ∀ a, (![32 * j, 0] : Fin 2 → Nat) a ≤ (y a).val ∧ (y a).val < (![32 * j, 0] : Fin 2 → Nat) a + S32x128.size a := by
      intro a; match a with
      | ⟨0, _⟩ => exact hc
      | ⟨1, _⟩ => exact ⟨Nat.zero_le _, by show (y 1).val < 0 + 128; omega⟩
    rw [dif_pos hin]
    unfold blend
    rw [if_pos (by omega)]
    unfold glue
    have e : (y 0).val / 32 = j := by omega
    have key : ∀ (t : Nat) (ht : t < 32) (z : S32x128.Idx), t = j → z = Rect.unitLocal (s := S1024x128) (off := ![32 * j, 0]) (size := S32x128.size) y hin → w j h (Rect.unitLocal (s := S1024x128) (off := ![32 * j, 0]) (size := S32x128.size) y hin) = w t ht z := by
      intro t ht z e1 e2; subst e1; rw [e2]
    refine key _ _ _ e ?_
    funext a; apply Fin.ext
    match a with
    | ⟨0, _⟩ => show (y 0).val % 32 = (y 0).val - 32 * j; omega
    | ⟨1, _⟩ => show (y 1).val = (y 1).val - 0; omega
  · have hin : ¬ ∀ a, (![32 * j, 0] : Fin 2 → Nat) a ≤ (y a).val ∧ (y a).val < (![32 * j, 0] : Fin 2 → Nat) a + S32x128.size a := fun H => hc (H 0)
    rw [dif_neg hin]
    unfold blend
    by_cases h1 : (y 0).val < 32 * j
    · rw [if_pos h1, if_pos (by omega)]
    · rw [if_neg h1, if_neg (by omega)]

theorem put_blend2 {α : Type} {j : Nat} (h : j < 32) (w : (t : Nat) → t < 32 → (d : Nat) → d ≤ 128 → S32x128.Idx → α) (old : S1024x256.Idx → α) :
    VecWindow.put (VecWindow.put (blend j (glue2 w) old) ![32 * j, 0] S32x128.size (w j h 0 (by omega))) ![32 * j, 128] S32x128.size (w j h 128 (by omega))
    = blend (j + 1) (glue2 w) old := by
  funext y
  have hy : (y 1).val < 256 := (y 1).isLt
  unfold VecWindow.put
  have key : ∀ (d : Nat) (hd : d ≤ 128) (t : Nat) (ht : t < 32) (z z' : S32x128.Idx), t = j → z = z' → w j h d hd z' = w t ht d hd z := by
    intro d hd t ht z z' e1 e2; subst e1; rw [e2]
  by_cases hc : 32 * j ≤ (y 0).val ∧ (y 0).val < 32 * j + 32
  · have e : (y 0).val / 32 = j := by omega
    by_cases hl : (y 1).val < 128
    · have hin : ∀ a, (![32 * j, 0] : Fin 2 → Nat) a ≤ (y a).val ∧ (y a).val < (![32 * j, 0] : Fin 2 → Nat) a + S32x128.size a := by
        intro a; match a with
        | ⟨0, _⟩ => exact hc
        | ⟨1, _⟩ => exact ⟨Nat.zero_le _, by show (y 1).val < 0 + 128; omega⟩
      have hout : ¬ ∀ a, (![32 * j, 128] : Fin 2 → Nat) a ≤ (y a).val ∧ (y a).val < (![32 * j, 128] : Fin 2 → Nat) a + S32x128.size a := fun H => by
        have : 128 ≤ (y 1).val := (H 1).1
        omega
      rw [dif_neg hout, dif_pos hin]
      unfold blend
      rw [if_pos (by omega)]
      unfold glue2
      rw [if_pos hl]
      refine key _ _ _ _ _ _ e ?_
      funext a; apply Fin.ext
      match a with
      | ⟨0, _⟩ => show (y 0).val % 32 = (y 0).val - 32 * j; omega
      | ⟨1, _⟩ => show (y 1).val % 128 = (y 1).val - 0; omega
    · have hin : ∀ a, (![32 * j, 128] : Fin 2 → Nat) a ≤ (y a).val ∧ (y a).val < (![32 * j, 128] : Fin 2 → Nat) a + S32x128.size a := by
        intro a; match a with
        | ⟨0, _⟩ => exact hc
        | ⟨1, _⟩ => exact ⟨by show 128 ≤ (y 1).val; omega, by show (y 1).val < 128 + 128; omega⟩
      rw [dif_pos hin]
      unfold blend
      rw [if_pos (by omega)]
      unfold glue2
      rw [if_neg hl]
      refine key _ _ _ _ _ _ e ?_
      funext a; apply Fin.ext
      match a with
      | ⟨0, _⟩ => show (y 0).val % 32 = (y 0).val - 32 * j; omega
      | ⟨1, _⟩ => show (y 1).val % 128 = (y 1).val - 128; omega
  · have hin : ∀ d, ¬ ∀ a, (![32 * j, d] : Fin 2 → Nat) a ≤ (y a).val ∧ (y a).val < (![32 * j, d] : Fin 2 → Nat) a + S32x128.size a := fun d H => hc (H 0)
    rw [dif_neg (hin 128), dif_neg (hin 0)]
    unfold blend
    by_cases h1 : (y 0).val < 32 * j
    · rw [if_pos h1, if_pos (by omega)]
    · rw [if_neg h1, if_neg (by omega)]

/-! ## The four buffers after a block's tiles -/

section
variable (mk : Nat → Nat → FVec F S32x128 .f32 → FVec F S32x128 .f32)

def allM (s : Vec F S1024x256 .f32) (m : Vec F S1024x128 .f32) : Vec F S1024x128 .f32 := glue fun t h => newM mk t h s m
def allL (s : Vec F S1024x256 .f32) (m l : Vec F S1024x128 .f32) : Vec F S1024x128 .f32 := glue fun t h => newL mk t h s m l
def allA (s : Vec F S1024x256 .f32) (m : Vec F S1024x128 .f32) : Vec F S1024x128 .f32 := glue fun t h => newA mk t h s m
def allP (s : Vec F S1024x256 .f32) (m : Vec F S1024x128 .f32) : Vec F S1024x256 .bf16 :=
  glue2 fun t h d hd => truncf .bf16 (newP mk t h s m d hd) bitsLt_bf16_f32

/-- The state with the first `j` tiles done. -/
def part (σ : St F) (b : Bool) (j : Nat) : St F :=
  { σ with
    p := Function.update σ.p b (blend j (allP mk (σ.s b) σ.m) (σ.p b))
    l := blend j (allL mk (σ.s b) σ.m σ.l) σ.l
    m := blend j (allM mk (σ.s b) σ.m) σ.m
    a := Function.update σ.a b (blend j (allA mk (σ.s b) σ.m) (σ.a b)) }

theorem part_succ (σ : St F) (b : Bool) (j : Nat) (h : j < 32) : tileSt (part mk σ b j) mk b j h = part mk σ b (j + 1) := by
  have hM : newM mk j h (σ.s b) (blend j (allM mk (σ.s b) σ.m) σ.m) = newM mk j h (σ.s b) σ.m := by
    unfold newM; rw [winM_blend]
  have hA : newA mk j h (σ.s b) (blend j (allM mk (σ.s b) σ.m) σ.m) = newA mk j h (σ.s b) σ.m := by
    unfold newA; rw [winM_blend, hM]
  have hP : ∀ d hd, newP mk j h (σ.s b) (blend j (allM mk (σ.s b) σ.m) σ.m) d hd = newP mk j h (σ.s b) σ.m d hd := by
    intro d hd; unfold newP; rw [hM]
  have hL : newL mk j h (σ.s b) (blend j (allM mk (σ.s b) σ.m) σ.m) (blend j (allL mk (σ.s b) σ.m σ.l) σ.l) = newL mk j h (σ.s b) σ.m σ.l := by
    unfold newL; rw [winM_blend, hA, hP, hP]
  unfold tileSt part
  simp only [Function.update_self, Function.update_idem, cast_same, hM, hA, hP, hL]
  rw [show blend (j + 1) (allP mk (σ.s b) σ.m) (σ.p b) = _ from (put_blend2 h (fun t h d hd => truncf .bf16 (newP mk t h (σ.s b) σ.m d hd) bitsLt_bf16_f32) (σ.p b)).symm,
    show blend (j + 1) (allL mk (σ.s b) σ.m σ.l) σ.l = _ from (put_blend h (fun t h => newL mk t h (σ.s b) σ.m σ.l) σ.l).symm,
    show blend (j + 1) (allM mk (σ.s b) σ.m) σ.m = _ from (put_blend h (fun t h => newM mk t h (σ.s b) σ.m) σ.m).symm,
    show blend (j + 1) (allA mk (σ.s b) σ.m) (σ.a b) = _ from (put_blend h (fun t h => newA mk t h (σ.s b) σ.m) (σ.a b)).symm]
  rfl

theorem tilesSt_eq (σ : St F) (b : Bool) : tilesSt σ b mk
    = { σ with
        p := Function.update σ.p b (allP mk (σ.s b) σ.m)
        l := allL mk (σ.s b) σ.m σ.l
        m := allM mk (σ.s b) σ.m
        a := Function.update σ.a b (allA mk (σ.s b) σ.m) } := by
  have key : ∀ (n : Nat) (hn : n ≤ 32), uptoSt 32 (fun t h σ => tileSt σ mk b t h) n hn (part mk σ b (32 - n)) = part mk σ b 32 := by
    intro n
    induction n with
    | zero => intro _; rfl
    | succ n ih =>
      intro hn
      show uptoSt 32 _ n _ (tileSt (part mk σ b (32 - (n + 1))) mk b (32 - (n + 1)) _) = _
      rw [part_succ, show 32 - (n + 1) + 1 = 32 - n by omega]
      exact ih _
  have h0 : part mk σ b (32 - 32) = σ := by
    unfold part
    simp only [Nat.sub_self, blend_zero, Function.update_eq_self]
  have h := key 32 (Nat.le_refl _)
  rw [h0] at h
  refine h.trans ?_
  unfold part
  simp only [blend_all]
end

end Cert.Mla

end
-- ==== Proof.MlaClosed.lean ====
/- The body's result as a fold over the key blocks: what it leaves does not depend on what the scratch held. -/
module

public import proofs.«01_k».proof.Proof.MlaGlue

@[expose] public section

noncomputable section

namespace Cert.Mla

open Idealize.ShloMosaic Cert.KernelIdeal Cert.KernelIdeal.Facts₀
open VecWindow (window)

variable {F : FTy → Type} [FloatOps F]

/-- The last key block query block `n` sees. -/
def jl (n : Nat) : Nat := (128 * n + 127) / 256

theorem off1_eq : ∀ (i : grid0.Coords) (k : Fin (k0_t1_loop i).trips), k0_off1 i k 1#32 = ![256 * (2 * k.val + 1), 0] ∧ k0_off1 i k 2#32 = ![256 * (2 * k.val + 2), 0]
    ∧ k0_off2 i k = ![256 * (2 * k.val), 0] ∧ k0_off3 i k = ![256 * (2 * k.val + 1), 0] := by decide +kernel
theorem off9_eq : ∀ i : grid0.Coords, k0_cond2 i = 1#1 → k0_off9 i = ![256 * ((128 * (i 1).val + 127) / 256 - 1), 0] := by decide +kernel
theorem trips_eq : ∀ i : grid0.Coords, (k0_t1_loop i).trips = (128 * (i 1).val + 127) / 256 / 2 := by decide +kernel
theorem cond_eq : ∀ i : grid0.Coords, (k0_cond1 i = 1#1 ↔ (128 * (i 1).val + 127) / 256 % 2 = 0) ∧ (k0_cond2 i = 1#1 ↔ (128 * (i 1).val + 127) / 256 % 2 = 1) := by decide +kernel
theorem jlast_eq : ∀ i : grid0.Coords, jlast i = BitVec.ofNat 32 ((128 * (i 1).val + 127) / 256) := by decide +kernel

/-- The running maximum, denominator and accumulator. -/
@[ext] structure Tri (F : FTy → Type) where
  m : Vec F S1024x128 .f32
  l : Vec F S1024x128 .f32
  acc : Vec F S1024x128 .f32

theorem inbK (j : Nat) (n : Nat) (hn : n ≤ 256) : ∀ a, (![256 * (j % 8), 0] : Fin 2 → Nat) a + (⟨2, ![256, n]⟩ : Shape).size a ≤ S2048x256.size a := by
  intro a; match a with
  | ⟨0, _⟩ => show 256 * (j % 8) + 256 ≤ 2048; omega
  | ⟨1, _⟩ => show 0 + n ≤ 256; omega

/-- Key block `j`'s scores. -/
def sc (qs : Vec F S1024x256 .bf16) (k : Vec F S2048x256 .bf16) (j : Nat) : FVec F S1024x256 .f32 := scores qs k ![256 * (j % 8), 0] (inbK j 256 (by omega))

theorem scores_at (qs : Vec F S1024x256 .bf16) (k : Vec F S2048x256 .bf16) (j : Nat) (hj : j < 8) (off : Fin 2 → Nat) (h) (e : off = ![256 * j, 0]) :
    scores qs k off h = sc qs k j := by
  have e' : off = ![256 * (j % 8), 0] := by rw [Nat.mod_eq_of_lt hj]; exact e
  subst e'; rfl

/-- The accumulator after key block `j`. -/
def ac (ac al : Vec F S1024x128 .f32) (p : Vec F S1024x256 .bf16) (k : Vec F S2048x256 .bf16) (j : Nat) : FVec F S1024x128 .f32 := accum ac al p k ![256 * (j % 8), 0] (inbK j 128 (by omega))

theorem accum_at (a0 al : Vec F S1024x128 .f32) (p : Vec F S1024x256 .bf16) (k : Vec F S2048x256 .bf16) (j : Nat) (hj : j < 8) (off : Fin 2 → Nat) (h) (e : off = ![256 * j, 0]) :
    accum a0 al p k off h = ac a0 al p k j := by
  have e' : off = ![256 * (j % 8), 0] := by rw [Nat.mod_eq_of_lt hj]; exact e
  subst e'; rfl

/-- One key block of scores `s`, its values those of block `j`. -/
def step (mk : Nat → Nat → FVec F S32x128 .f32 → FVec F S32x128 .f32) (s : FVec F S1024x256 .f32) (k : Vec F S2048x256 .bf16) (j : Nat) (T : Tri F) : Tri F :=
  ⟨allM mk s T.m, allL mk s T.m T.l, ac T.acc (allA mk s T.m) (allP mk s T.m) k j⟩

/-- The first `n` key blocks. -/
def steps (qs : Vec F S1024x256 .bf16) (k : Vec F S2048x256 .bf16) (T : Tri F) : Nat → Tri F
  | 0 => T
  | n + 1 => step clear (sc qs k n) k n (steps qs k T n)

def start (μ : F .f32) : Tri F :=
  ⟨broadcast S1024x128 μ, broadcast S1024x128 (Scalar.ofBits .f32 0x00000000#32), broadcast S1024x128 (Scalar.ofBits .f32 0x00000000#32)⟩

/-- All the key blocks of a query block. -/
def final (μ : F .f32) (i : grid0.Coords) (qs : Vec F S1024x256 .bf16) (k : Vec F S2048x256 .bf16) : Tri F :=
  step (mask μ i) (sc qs k (jl (i 1).val)) k (jl (i 1).val) (steps qs k (start μ) (jl (i 1).val))

/-! ## The state follows the fold -/

variable (q : Vec F S128x2048 .bf16) (k : Vec F S2048x256 .bf16) (w : Vec F S4x256x128 .bf16) (qs : Vec F S1024x256 .bf16)

structure Base (T : Tri F) (σ : St F) : Prop where
  q : σ.q = q
  k : σ.k = k
  w : σ.w = w
  qs : σ.qs = qs
  m : σ.m = T.m
  l : σ.l = T.l
  acc : σ.acc = T.acc

variable {q k w qs}

theorem base_qk {T : Tri F} {σ : St F} (hB : Base q k w qs T σ) (b : Bool) (j : Nat) (hj : j < 8) (off : Fin 2 → Nat) (h) (e : off = ![256 * j, 0]) :
    Base q k w qs T (qkSt b off h σ) ∧ (qkSt b off h σ).s b = sc qs k j ∧ (qkSt b off h σ).s (!b) = σ.s (!b) := by
  refine ⟨⟨hB.q, hB.k, hB.w, hB.qs, hB.m, hB.l, hB.acc⟩, ?_, ?_⟩
  · show Function.update σ.s b _ b = _
    rw [Function.update_self, hB.qs, hB.k]
    exact scores_at _ _ j hj _ _ e
  · exact Function.update_of_ne (by cases b <;> decide) _ _

theorem base_step {T : Tri F} {σ : St F} (hB : Base q k w qs T σ) (mk : Nat → Nat → FVec F S32x128 .f32 → FVec F S32x128 .f32) (b : Bool) (s : FVec F S1024x256 .f32) (hs : σ.s b = s)
    (j : Nat) (hj : j < 8) (off : Fin 2 → Nat) (h) (e : off = ![256 * j, 0]) :
    Base q k w qs (step mk s k j T) (pvSt b off h (tilesSt σ b mk)) ∧ (pvSt b off h (tilesSt σ b mk)).s = σ.s := by
  rw [tilesSt_eq]
  unfold pvSt
  refine ⟨⟨hB.q, hB.k, hB.w, hB.qs, ?_, ?_, ?_⟩, rfl⟩
  · show allM mk (σ.s b) σ.m = allM mk s T.m
    rw [hs, hB.m]
  · show allL mk (σ.s b) σ.m σ.l = allL mk s T.m T.l
    rw [hs, hB.m, hB.l]
  · show accum σ.acc (Function.update σ.a b (allA mk (σ.s b) σ.m) b) (Function.update σ.p b (allP mk (σ.s b) σ.m) b) σ.k off h = ac T.acc (allA mk s T.m) (allP mk s T.m) k j
    rw [Function.update_self, Function.update_self, hs, hB.m, hB.k, hB.acc]
    exact accum_at _ _ _ _ j hj _ _ e

/-- The state with the first `n` blocks done and block `n`'s scores ready in the first buffer. -/
def Live (q : Vec F S128x2048 .bf16) (k : Vec F S2048x256 .bf16) (w : Vec F S4x256x128 .bf16) (qs : Vec F S1024x256 .bf16) (T : Tri F) (n : Nat) (σ : St F) : Prop :=
  Base q k w qs (steps qs k T n) σ ∧ σ.s false = sc qs k n

theorem live_trip {T : Tri F} {σ : St F} (i : grid0.Coords) (n : Fin (k0_t1_loop i).trips) (hL : Live q k w qs T (2 * n.val) σ) :
    Live q k w qs T (2 * (n.val + 1)) (tripSt i n σ) := by
  obtain ⟨hB, hs⟩ := hL
  obtain ⟨e1, e2, e3, e4⟩ := off1_eq i n
  have hn : n.val < 3 := Nat.lt_of_lt_of_le n.isLt (by rw [trips_eq]; have : (i 1).val < 16 := (i 1).isLt; omega)
  unfold tripSt
  obtain ⟨h1, h1s, h1o⟩ := base_qk hB true (2 * n.val + 1) (by omega) _ (k0_off1_inb i n 0) e1
  obtain ⟨h2, h2s⟩ := base_step h1 clear false _ (h1o.trans hs) (2 * n.val) (by omega) _ (k0_off2_inb i n) e3
  obtain ⟨h3, h3s, h3o⟩ := base_qk h2 false (2 * n.val + 2) (by omega) _ (k0_off1_inb i n 1) e2
  obtain ⟨h4, h4s⟩ := base_step h3 clear true _ (h3o.trans ((congrFun h2s true).trans h1s)) (2 * n.val + 1) (by omega) _ (k0_off3_inb i n) e4
  exact ⟨h4, (congrFun h4s false).trans h3s⟩

theorem live_iter {T : Tri F} {σ : St F} (i : grid0.Coords) (hL : Live q k w qs T 0 σ) :
    ∀ n, n ≤ (k0_t1_loop i).trips → Live q k w qs T (2 * n) (iter (k0_t1_loop i).trips (tripSt i) n σ)
  | 0, _ => hL
  | n + 1, hn => by
    show Live q k w qs T _ (if h : n < (k0_t1_loop i).trips then _ else _)
    rw [dif_pos (show n < (k0_t1_loop i).trips from hn)]
    exact live_trip i ⟨n, hn⟩ (live_iter i hL n (by omega))

theorem base_mid {T : Tri F} {σ : St F} (μ : F .f32) (i : grid0.Coords) (hL : Live q k w qs T 0 σ) :
    Base q k w qs (step (mask μ i) (sc qs k (jl (i 1).val)) k (jl (i 1).val) (steps qs k T (jl (i 1).val))) (midSt μ i σ) := by
  have h := live_iter i hL _ (Nat.le_refl _)
  have hi : (i 1).val < 16 := (i 1).isLt
  have hj8 : jl (i 1).val < 8 := by unfold jl; omega
  unfold midSt
  dsimp only
  revert h
  generalize iter (k0_t1_loop i).trips (tripSt i) (k0_t1_loop i).trips σ = σ'
  rw [trips_eq]
  intro ⟨hB, hs⟩
  rcases Nat.mod_two_eq_zero_or_one (jl (i 1).val) with he | ho
  · have c1 : k0_cond1 i = 1#1 := (cond_eq i).1.2 he
    have c2 : ¬ k0_cond2 i = 1#1 := fun c => by
      have h2 : jl (i 1).val % 2 = 1 := (cond_eq i).2.1 c
      omega
    rw [dif_pos c1, dif_neg c2]
    have e : 2 * ((128 * (i 1).val + 127) / 256 / 2) = jl (i 1).val := by
      have : jl (i 1).val = (128 * (i 1).val + 127) / 256 := rfl
      omega
    rw [e] at hB hs
    exact (base_step hB (mask μ i) false _ hs _ hj8 _ (k0_off7_inb i c1) (Gen.k0_off7_eq i)).1
  · have c1 : ¬ k0_cond1 i = 1#1 := fun c => by
      have h2 : jl (i 1).val % 2 = 0 := (cond_eq i).1.1 c
      omega
    have c2 : k0_cond2 i = 1#1 := (cond_eq i).2.2 ho
    rw [dif_neg c1, dif_pos c2]
    obtain ⟨n, hn⟩ : ∃ n, jl (i 1).val = n + 1 := ⟨jl (i 1).val - 1, by omega⟩
    have hjl : jl (i 1).val = (128 * (i 1).val + 127) / 256 := rfl
    have e : 2 * ((128 * (i 1).val + 127) / 256 / 2) = n := by omega
    rw [e] at hB hs
    have o8 : k0_off8 i = ![256 * (n + 1), 0] := by rw [Gen.k0_off8_eq, ← hjl, hn]
    have o9 : k0_off9 i = ![256 * n, 0] := by rw [off9_eq i c2, ← hjl, hn]; rfl
    have o10 : k0_off10 i = ![256 * (n + 1), 0] := by rw [Gen.k0_off10_eq, ← hjl, hn]
    unfold oddSt
    obtain ⟨h1, h1s, h1o⟩ := base_qk hB true (n + 1) (by omega) _ (k0_off8_inb i c2) o8
    obtain ⟨h2, h2s⟩ := base_step h1 clear false _ (h1o.trans hs) n (by omega) _ (k0_off9_inb i c2) o9
    obtain ⟨h3, _⟩ := base_step h2 (mask μ i) true _ ((congrFun h2s true).trans h1s) (n + 1) (by omega) _ (k0_off10_inb i c2) o10
    rw [hn]
    exact h3

/-! ## The queries stacked, the output written -/

/-- Head `h`'s query rows at rows `128 h, …`. -/
def stack (q : Vec F S128x2048 .bf16) : Vec F S1024x256 .bf16 := fun y =>
  q (ix2 ⟨(y 0).val % 128, Nat.mod_lt _ (by omega)⟩ ⟨256 * ((y 0).val / 128) + (y 1).val, by
    have h0 : (y 0).val < 1024 := (y 0).isLt
    have h1 : (y 1).val < 256 := (y 1).isLt
    omega⟩)

def stackTo (j : Nat) (q : Vec F S128x2048 .bf16) (old : Vec F S1024x256 .bf16) : Vec F S1024x256 .bf16 := fun y =>
  if (y 0).val < 128 * j then stack q y else old y

theorem stackTo_succ (j : Nat) (h : j < 8) (q : Vec F S128x2048 .bf16) (old : Vec F S1024x256 .bf16) :
    VecWindow.put (stackTo j q old) ![128 * j, 0] S128x256.size (window q ![0, 256 * j] S128x256.size (inbQ j h)) = stackTo (j + 1) q old := by
  funext y
  have hy : (y 1).val < 256 := (y 1).isLt
  unfold VecWindow.put
  by_cases hc : 128 * j ≤ (y 0).val ∧ (y 0).val < 128 * j + 128
  · have hin : ∀ a, (![128 * j, 0] : Fin 2 → Nat) a ≤ (y a).val ∧ (y a).val < (![128 * j, 0] : Fin 2 → Nat) a + S128x256.size a := by
      intro a; match a with
      | ⟨0, _⟩ => exact hc
      | ⟨1, _⟩ => exact ⟨Nat.zero_le _, by show (y 1).val < 0 + 256; omega⟩
    rw [dif_pos hin]
    unfold stackTo
    rw [if_pos (by omega)]
    unfold stack
    refine congrArg q ?_
    funext a; apply Fin.ext
    match a with
    | ⟨0, _⟩ => show 0 + 1 * ((y 0).val - 128 * j) = (y 0).val % 128; omega
    | ⟨1, _⟩ => show 256 * j + 1 * ((y 1).val - 0) = 256 * ((y 0).val / 128) + (y 1).val; omega
  · have hin : ¬ ∀ a, (![128 * j, 0] : Fin 2 → Nat) a ≤ (y a).val ∧ (y a).val < (![128 * j, 0] : Fin 2 → Nat) a + S128x256.size a := fun H => hc (H 0)
    rw [dif_neg hin]
    unfold stackTo
    by_cases h1 : (y 0).val < 128 * j
    · rw [if_pos h1, if_pos (by omega)]
    · rw [if_neg h1, if_neg (by omega)]

theorem fillSt_eq (σ : St F) : fillSt σ = { σ with qs := stack σ.q } := by
  have key : ∀ (n : Nat) (hn : n ≤ 8), uptoSt 8 (fun h hh (σ : St F) => { σ with qs := VecWindow.put σ.qs ![128 * h, 0] S128x256.size (window σ.q ![0, 256 * h] S128x256.size (inbQ h hh)) }) n hn
      { σ with qs := stackTo (8 - n) σ.q σ.qs } = { σ with qs := stack σ.q } := by
    intro n
    induction n with
    | zero =>
      intro _
      have e : stackTo (8 - 0) σ.q σ.qs = stack σ.q := funext fun y => if_pos (by have : (y 0).val < 1024 := (y 0).isLt; omega)
      show ({ σ with qs := stackTo (8 - 0) σ.q σ.qs } : St F) = _
      rw [e]
    | succ n ih =>
      intro hn
      refine Eq.trans ?_ (ih (by omega))
      refine congrArg (uptoSt 8 _ n _) ?_
      show ({ σ with qs := VecWindow.put (stackTo (8 - (n + 1)) σ.q σ.qs) _ _ _ } : St F) = _
      rw [stackTo_succ _ (by omega), show 8 - (n + 1) + 1 = 8 - n by omega]
  have h := key 8 (Nat.le_refl _)
  have e : stackTo (8 - 8) σ.q σ.qs = σ.qs := funext fun y => if_neg (by omega)
  rw [e] at h
  exact h

/-- The output block of the normalised rows `x`. -/
def outRows (x : FVec F S1024x128 .f32) (w : Vec F S4x256x128 .bf16) : Vec F S128x512 .bf16 := fun y =>
  outVal ((y 1).val / 128) (by have : (y 1).val < 512 := (y 1).isLt; omega) x
    (window w ![(y 1).val / 128, 0, 0] S1x256x128.size (inbW _ (by have : (y 1).val < 512 := (y 1).isLt; omega)))
    (ix2 (y 0) ⟨(y 1).val % 128, Nat.mod_lt _ (by omega)⟩)

def outTo (j : Nat) (x : FVec F S1024x128 .f32) (w : Vec F S4x256x128 .bf16) (old : Vec F S128x512 .bf16) : Vec F S128x512 .bf16 := fun y =>
  if (y 1).val < 128 * j then outRows x w y else old y

theorem outTo_succ (j : Nat) (h : j < 4) (x : FVec F S1024x128 .f32) (w : Vec F S4x256x128 .bf16) (old : Vec F S128x512 .bf16) :
    VecWindow.put (outTo j x w old) ![0, 128 * j] S128x128.size (outVal j h x (window w ![j, 0, 0] S1x256x128.size (inbW j h))) = outTo (j + 1) x w old := by
  funext y
  have hy : (y 0).val < 128 := (y 0).isLt
  unfold VecWindow.put
  by_cases hc : 128 * j ≤ (y 1).val ∧ (y 1).val < 128 * j + 128
  · have hin : ∀ a, (![0, 128 * j] : Fin 2 → Nat) a ≤ (y a).val ∧ (y a).val < (![0, 128 * j] : Fin 2 → Nat) a + S128x128.size a := by
      intro a; match a with
      | ⟨1, _⟩ => exact hc
      | ⟨0, _⟩ => exact ⟨Nat.zero_le _, by show (y 0).val < 0 + 128; omega⟩
    rw [dif_pos hin]
    unfold outTo
    rw [if_pos (by omega)]
    unfold outRows
    have key : ∀ (t : Nat) (ht : t < 4) (z z' : S128x128.Idx), t = j → z' = z →
        outVal j h x (window w ![j, 0, 0] S1x256x128.size (inbW j h)) z' = outVal t ht x (window w ![t, 0, 0] S1x256x128.size (inbW t ht)) z := by
      intro t ht z z' e1 e2; subst e1; rw [e2]
    refine key _ _ _ _ (by omega) ?_
    funext a; apply Fin.ext
    match a with
    | ⟨0, _⟩ => show (y 0).val - 0 = (y 0).val; omega
    | ⟨1, _⟩ => show (y 1).val - 128 * j = (y 1).val % 128; omega
  · have hin : ¬ ∀ a, (![0, 128 * j] : Fin 2 → Nat) a ≤ (y a).val ∧ (y a).val < (![0, 128 * j] : Fin 2 → Nat) a + S128x128.size a := fun H => hc (H 1)
    rw [dif_neg hin]
    unfold outTo
    by_cases h1 : (y 1).val < 128 * j
    · rw [if_pos h1, if_pos (by omega)]
    · rw [if_neg h1, if_neg (by omega)]

theorem putSt_eq (x : FVec F S1024x128 .f32) (σ : St F) : putSt x σ = { σ with o := outRows x σ.w } := by
  have key : ∀ (n : Nat) (hn : n ≤ 4), uptoSt 4 (fun h hh (σ : St F) => { σ with o := VecWindow.put σ.o ![0, 128 * h] S128x128.size (outVal h hh x (window σ.w ![h, 0, 0] S1x256x128.size (inbW h hh))) }) n hn
      { σ with o := outTo (4 - n) x σ.w σ.o } = { σ with o := outRows x σ.w } := by
    intro n
    induction n with
    | zero =>
      intro _
      have e : outTo (4 - 0) x σ.w σ.o = outRows x σ.w := funext fun y => if_pos (by have : (y 1).val < 512 := (y 1).isLt; omega)
      show ({ σ with o := outTo (4 - 0) x σ.w σ.o } : St F) = _
      rw [e]
    | succ n ih =>
      intro hn
      refine Eq.trans ?_ (ih (by omega))
      refine congrArg (uptoSt 4 _ n _) ?_
      show ({ σ with o := VecWindow.put (outTo (4 - (n + 1)) x σ.w σ.o) _ _ _ } : St F) = _
      rw [outTo_succ _ (by omega), show 4 - (n + 1) + 1 = 4 - n by omega]
  have h := key 4 (Nat.le_refl _)
  have e : outTo (4 - 4) x σ.w σ.o = σ.o := funext fun y => if_neg (by omega)
  rw [e] at h
  exact h

/-- The output block of point `i`, of its three input blocks. -/
def outF (μ : F .f32) (i : grid0.Coords) (q : Vec F S128x2048 .bf16) (k : Vec F S2048x256 .bf16) (w : Vec F S4x256x128 .bf16) : Vec F S128x512 .bf16 :=
  outRows (divf (final μ i (stack q) k).acc (final μ i (stack q) k).l) w

theorem live_head (μ : F .f32) (σ : St F) : Live σ.q σ.k σ.w (stack σ.q) (start μ) 0 (headSt μ σ) := by
  unfold headSt
  rw [fillSt_eq]
  refine ⟨⟨rfl, rfl, rfl, rfl, rfl, rfl, rfl⟩, ?_⟩
  show Function.update σ.s false _ false = _
  rw [Function.update_self]
  exact scores_at _ _ 0 (by omega) _ _ rfl

theorem bodySt_eq (μ : F .f32) (i : grid0.Coords) (σ : St F) :
    (bodySt μ i σ).q = σ.q ∧ (bodySt μ i σ).k = σ.k ∧ (bodySt μ i σ).w = σ.w ∧ (bodySt μ i σ).o = outF μ i σ.q σ.k σ.w := by
  have h := base_mid μ i (live_head μ σ)
  unfold bodySt
  rw [putSt_eq]
  refine ⟨h.q, h.k, h.w, ?_⟩
  show outRows _ _ = _
  rw [h.w, h.acc, h.l]
  rfl

end Cert.Mla

end
-- ==== Proof.MlaPay.lean ====
/- The pieces' values read at an element, over the extended reals. -/
module

public import proofs.«01_k».proof.Proof.MlaClosed
public import Idealize.ShloMosaic.Lib.Pointwise
public import Idealize.ShloMosaic.Lib.WordCmp

@[expose] public section

noncomputable section

namespace Cert.Mla

open Idealize.ShloMosaic Cert.KernelIdeal Cert.KernelIdeal.Facts₀
open VecWindow (window)

theorem negInf : Ideal.ofBits .f32 0xFF800000#32 = ⊥ := by simp [Ideal.ofBits, Ideal.ieee]

theorem tMax_at (m0 y0 y1 : FVec Ideal S32x128 .f32) (r : Fin 32) (a : Fin 128) :
    tMax m0 y0 y1 (ix2 r a) = max (m0 (ix2 r a)) (Finset.fold max ⊥ (fun x : Fin 128 => max (y0 (ix2 r x)) (y1 (ix2 r x))) Finset.univ) := by
  rw [← negInf]
  pointwise [tMax]

theorem tSum_at (al l0 e0 e1 : FVec Ideal S32x128 .f32) (r : Fin 32) (a : Fin 128) :
    tSum al l0 e0 e1 (ix2 r a) = al (ix2 r a) * l0 (ix2 r a) + ∑ x : Fin 128, (e0 (ix2 r x) + e1 (ix2 r x)) := by
  pointwise [tSum]

theorem tExp_at (y mn : FVec Ideal S32x128 .f32) (r : Fin 32) (a : Fin 128) :
    tExp y mn (ix2 r a) = Ideal.exp (y (ix2 r a) - mn (ix2 r a)) := by
  pointwise [tExp]

theorem causal_at (μ : Ideal .f32) (a1 v : BitVec 32) (t c : Nat) (x : FVec Ideal S32x128 .f32) (r : Fin 32) (a : Fin 128) :
    causal μ a1 v t c x (ix2 r a) = Scalar.select (IntOp.cmpi .sle
      (IntOp.addi (Scalar.addi (Scalar.muli v 256#32) (BitVec.ofNat 32 c)) (BitVec.ofNat 32 a.val))
      (IntOp.addi (Scalar.addi (Scalar.muli a1 128#32) (BitVec.ofNat 32 (32 * (t % 4)))) (BitVec.ofNat 32 r.val))) (x (ix2 r a)) μ := by
  pointwise [causal]

theorem sel_ofBool {α : Type} (b : Bool) (x y : α) : Scalar.select (BitVec.ofBool b) x y = if b then x else y := by
  cases b <;> rfl

theorem mask_at (μ : Ideal .f32) (i : grid0.Coords) (t c : Nat) (hc : c ≤ 128) (x : FVec Ideal S32x128 .f32) (r : Fin 32) (a : Fin 128) :
    mask μ i t c x (ix2 r a) = if 256 * jl (i 1).val + c + a.val ≤ 128 * (i 1).val + 32 * (t % 4) + r.val then x (ix2 r a) else μ := by
  have hi : (i 1).val < 16 := (i 1).isLt
  have hj : (128 * (i 1).val + 127) / 256 < 8 := by omega
  unfold mask
  rw [causal_at, jlast_eq]
  have e1 : IntOp.addi (Scalar.addi (Scalar.muli (BitVec.ofNat 32 ((128 * (i 1).val + 127) / 256)) 256#32) (BitVec.ofNat 32 c)) (BitVec.ofNat 32 a.val)
      = BitVec.ofNat 32 (256 * jl (i 1).val + c + a.val) := by
    show BitVec.ofNat 32 _ * BitVec.ofNat 32 256 + BitVec.ofNat 32 c + BitVec.ofNat 32 a.val = _
    rw [← BitVec.ofNat_mul, ← BitVec.ofNat_add, ← BitVec.ofNat_add, mul_comm]
    rfl
  have e2 : IntOp.addi (Scalar.addi (Scalar.muli (BitVec.ofNat 32 (i 1).val) 128#32) (BitVec.ofNat 32 (32 * (t % 4)))) (BitVec.ofNat 32 r.val)
      = BitVec.ofNat 32 (128 * (i 1).val + 32 * (t % 4) + r.val) := by
    show BitVec.ofNat 32 _ * BitVec.ofNat 32 128 + BitVec.ofNat 32 _ + BitVec.ofNat 32 r.val = _
    rw [← BitVec.ofNat_mul, ← BitVec.ofNat_add, ← BitVec.ofNat_add, mul_comm]
  rw [e1, e2, WordCmp.cmpi_sle_ofNat (by unfold jl; omega) (by omega), sel_ofBool]
  simp only [decide_eq_true_eq]

/-- The masked score of row `R` against the block's key `d`. -/
def mrow (mk : Nat → Nat → FVec Ideal S32x128 .f32 → FVec Ideal S32x128 .f32) (s : Vec Ideal S1024x256 .f32) (R : Fin 1024) (d : Fin 256) : EReal :=
  if d.val < 128 then yy mk (R.val / 32) (by omega) s 0 (by omega) (ix2 ⟨R.val % 32, by omega⟩ ⟨d.val % 128, by omega⟩)
  else yy mk (R.val / 32) (by omega) s 128 (by omega) (ix2 ⟨R.val % 32, by omega⟩ ⟨d.val % 128, by omega⟩)

theorem win_at (s : Vec Ideal S1024x256 .f32) (t : Nat) (h : t < 32) (c : Nat) (hc : c ≤ 128) (r : Fin 32) (a : Fin 128) :
    St.win s t h c hc (ix2 r a) = s (ix2 ⟨32 * t + r.val, by omega⟩ ⟨c + a.val, by omega⟩) := by
  refine congrArg s ?_
  funext z; apply Fin.ext
  match z with
  | ⟨0, _⟩ => show 32 * t + 1 * r.val = 32 * t + r.val; omega
  | ⟨1, _⟩ => show c + 1 * a.val = c + a.val; omega

theorem winM_at (m : Vec Ideal S1024x128 .f32) (R : Fin 1024) (a : Fin 128) :
    winM m (R.val / 32) (by omega) (ix2 ⟨R.val % 32, by omega⟩ a) = m (ix2 R a) := by
  refine congrArg m ?_
  funext z; apply Fin.ext
  match z with
  | ⟨0, _⟩ => show 32 * (R.val / 32) + 1 * (R.val % 32) = R.val; omega
  | ⟨1, _⟩ => show 0 + 1 * a.val = a.val; omega

theorem mrow_clear (s : Vec Ideal S1024x256 .f32) (R : Fin 1024) (d : Fin 256) : mrow clear s R d = s (ix2 R d) := by
  unfold mrow yy clear
  have key : ∀ (R' : Fin 1024) (d' : Fin 256), R' = R → d' = d → s (ix2 R' d') = s (ix2 R d) := by rintro _ _ rfl rfl; rfl
  split
  · rw [win_at]; exact key _ _ (Fin.ext (by show 32 * (R.val / 32) + R.val % 32 = R.val; omega)) (Fin.ext (by show 0 + d.val % 128 = d.val; omega))
  · rw [win_at]; exact key _ _ (Fin.ext (by show 32 * (R.val / 32) + R.val % 32 = R.val; omega)) (Fin.ext (by show 128 + d.val % 128 = d.val; omega))

theorem mrow_mask (μ : Ideal .f32) (i : grid0.Coords) (s : Vec Ideal S1024x256 .f32) (R : Fin 1024) (d : Fin 256) :
    mrow (mask μ i) s R d = if 256 * jl (i 1).val + d.val ≤ 128 * (i 1).val + R.val % 128 then s (ix2 R d) else μ := by
  unfold mrow yy
  have key : ∀ (R' : Fin 1024) (d' : Fin 256), R' = R → d' = d → s (ix2 R' d') = s (ix2 R d) := by rintro _ _ rfl rfl; rfl
  split
  · rw [mask_at _ _ _ _ (by omega), win_at, key _ _ (Fin.ext (by show 32 * (R.val / 32) + R.val % 32 = R.val; omega)) (Fin.ext (by show 0 + d.val % 128 = d.val; omega))]
    refine if_congr ?_ rfl rfl
    show _ + 0 + d.val % 128 ≤ _ + 32 * (R.val / 32 % 4) + R.val % 32 ↔ _
    omega
  · rw [mask_at _ _ _ _ (by omega), win_at, key _ _ (Fin.ext (by show 32 * (R.val / 32) + R.val % 32 = R.val; omega)) (Fin.ext (by show 128 + d.val % 128 = d.val; omega))]
    refine if_congr ?_ rfl rfl
    show _ + 128 + d.val % 128 ≤ _ + 32 * (R.val / 32 % 4) + R.val % 32 ↔ _
    omega

theorem mrow_lo (mk : Nat → Nat → FVec Ideal S32x128 .f32 → FVec Ideal S32x128 .f32) (s : Vec Ideal S1024x256 .f32) (R : Fin 1024) (x : Fin 128) :
    yy mk (R.val / 32) (by omega) s 0 (by omega) (ix2 ⟨R.val % 32, by omega⟩ x) = mrow mk s R ⟨x.val, by omega⟩ := by
  unfold mrow
  rw [if_pos (by show x.val < 128; omega)]
  have : x = ⟨x.val % 128, by omega⟩ := Fin.ext (by show x.val = x.val % 128; omega)
  exact congrArg (fun z : Fin 128 => yy mk (R.val / 32) _ s 0 _ (ix2 ⟨R.val % 32, _⟩ z)) this

theorem mrow_hi (mk : Nat → Nat → FVec Ideal S32x128 .f32 → FVec Ideal S32x128 .f32) (s : Vec Ideal S1024x256 .f32) (R : Fin 1024) (x : Fin 128) :
    yy mk (R.val / 32) (by omega) s 128 (by omega) (ix2 ⟨R.val % 32, by omega⟩ x) = mrow mk s R ⟨128 + x.val, by omega⟩ := by
  unfold mrow
  rw [if_neg (by show ¬ 128 + x.val < 128; omega)]
  have : x = ⟨(128 + x.val) % 128, by omega⟩ := Fin.ext (by show x.val = (128 + x.val) % 128; omega)
  exact congrArg (fun z : Fin 128 => yy mk (R.val / 32) _ s 128 _ (ix2 ⟨R.val % 32, _⟩ z)) this

section
variable (mk : Nat → Nat → FVec Ideal S32x128 .f32 → FVec Ideal S32x128 .f32) (s : Vec Ideal S1024x256 .f32) (m l : Vec Ideal S1024x128 .f32)
  (R : Fin 1024) (a : Fin 128)

theorem allM_at : allM mk s m (ix2 R a)
    = max (m (ix2 R a)) (Finset.fold max ⊥ (fun x : Fin 128 => max (mrow mk s R ⟨x.val, by omega⟩) (mrow mk s R ⟨128 + x.val, by omega⟩)) Finset.univ) := by
  show newM mk (R.val / 32) _ s m (ix2 ⟨R.val % 32, _⟩ a) = _
  unfold newM
  rw [tMax_at, winM_at]
  simp only [mrow_lo, mrow_hi]

theorem newM_at : newM mk (R.val / 32) (by omega) s m (ix2 ⟨R.val % 32, by omega⟩ a) = allM mk s m (ix2 R a) := rfl

theorem allA_at : allA mk s m (ix2 R a) = Ideal.exp (m (ix2 R a) - allM mk s m (ix2 R a)) := by
  show newA mk (R.val / 32) _ s m (ix2 ⟨R.val % 32, _⟩ a) = _
  unfold newA
  rw [tExp_at, winM_at, newM_at]

theorem allL_at : allL mk s m l (ix2 R a) = Ideal.exp (m (ix2 R a) - allM mk s m (ix2 R a)) * l (ix2 R a)
    + ∑ x : Fin 128, (Ideal.exp (mrow mk s R ⟨x.val, by omega⟩ - allM mk s m (ix2 R x)) + Ideal.exp (mrow mk s R ⟨128 + x.val, by omega⟩ - allM mk s m (ix2 R x))) := by
  show newL mk (R.val / 32) _ s m l (ix2 ⟨R.val % 32, _⟩ a) = _
  unfold newL newP newA
  rw [tSum_at, winM_at]
  simp only [tExp_at, winM_at, newM_at, mrow_lo, mrow_hi]

theorem allP_at (d : Fin 256) : allP mk s m (ix2 R d) = Ideal.exp (mrow mk s R d - allM mk s m (ix2 R ⟨d.val % 128, by omega⟩)) := by
  by_cases h : d.val < 128
  · show (if d.val < 128 then _ else _) = _
    rw [if_pos h]
    show newP mk (R.val / 32) _ s m 0 _ (ix2 ⟨R.val % 32, _⟩ ⟨d.val % 128, _⟩) = _
    unfold newP mrow
    rw [tExp_at, newM_at, if_pos h]
  · show (if d.val < 128 then _ else _) = _
    rw [if_neg h]
    show newP mk (R.val / 32) _ s m 128 _ (ix2 ⟨R.val % 32, _⟩ ⟨d.val % 128, _⟩) = _
    unfold newP mrow
    rw [tExp_at, newM_at, if_neg h]
end

theorem mm1 (x : Vec Ideal S1024x256 .bf16) (y : Vec Ideal S256x256 .bf16) (R : Fin 1024) (d : Fin 256) :
    (matmul (φ₁ := .bf16) (φ₂ := .bf16) dot_S1024x256_S256x256_S1024x256_1_1_0_0_n_n none x (shapeCast S256x256 y shapeCasts_S256x256_S256x256)
      (constant S1024x256 .f32 0x00000000#32) : FVec Ideal S1024x256 .f32) (ix2 R d) = ∑ e : Fin 256, x (ix2 R e) * y (ix2 d e) := by
  pointwise []

theorem mm2 (a0 al : Vec Ideal S1024x128 .f32) (x : Vec Ideal S1024x256 .bf16) (y : Vec Ideal S256x128 .bf16) (R : Fin 1024) (a : Fin 128) :
    (addf (mulf a0 al) (matmul (φ₁ := .bf16) (φ₂ := .bf16) dot_S1024x256_S256x128_S1024x128_1_0_0_1_n_n none x (shapeCast S256x128 y shapeCasts_S256x128_S256x128)
      (constant S1024x128 .f32 0x00000000#32)) : FVec Ideal S1024x128 .f32) (ix2 R a) = a0 (ix2 R a) * al (ix2 R a) + ∑ d : Fin 256, x (ix2 R d) * y (ix2 d a) := by
  pointwise []

theorem sc_at (qs : Vec Ideal S1024x256 .bf16) (k : Vec Ideal S2048x256 .bf16) (j : Nat) (hj : j < 8) (R : Fin 1024) (d : Fin 256) :
    sc qs k j (ix2 R d) = ∑ e : Fin 256, qs (ix2 R e) * k (ix2 ⟨256 * j + d.val, by omega⟩ e) := by
  refine (mm1 qs _ R d).trans (Finset.sum_congr rfl fun e _ => congrArg (qs (ix2 R e) * ·) (congrArg k ?_))
  funext z; apply Fin.ext
  match z with
  | ⟨0, _⟩ => show 256 * (j % 8) + 1 * d.val = 256 * j + d.val; omega
  | ⟨1, _⟩ => show 0 + 1 * e.val = e.val; omega

theorem ac_at (a0 al : Vec Ideal S1024x128 .f32) (p : Vec Ideal S1024x256 .bf16) (k : Vec Ideal S2048x256 .bf16) (j : Nat) (hj : j < 8) (R : Fin 1024) (a : Fin 128) :
    ac a0 al p k j (ix2 R a) = a0 (ix2 R a) * al (ix2 R a) + ∑ d : Fin 256, p (ix2 R d) * k (ix2 ⟨256 * j + d.val, by omega⟩ ⟨a.val, by omega⟩) := by
  refine (mm2 a0 al p _ R a).trans (congrArg _ (Finset.sum_congr rfl fun d _ => congrArg (p (ix2 R d) * ·) (congrArg k ?_)))
  funext z; apply Fin.ext
  match z with
  | ⟨0, _⟩ => show 256 * (j % 8) + 1 * d.val = 256 * j + d.val; omega
  | ⟨1, _⟩ => show 0 + 1 * a.val = a.val; omega

theorem outVal_at (h : Nat) (hh : h < 4) (x : FVec Ideal S1024x128 .f32) (w : Vec Ideal S1x256x128 .bf16) (r a : Fin 128) :
    outVal h hh x w (ix2 r a) = (∑ e : Fin 128, x (ix2 ⟨128 * (2 * h) + r.val, by omega⟩ e) * w (ix3 0 ⟨e.val, by omega⟩ a))
      + ∑ e : Fin 128, x (ix2 ⟨128 * (2 * h + 1) + r.val, by omega⟩ e) * w (ix3 0 ⟨128 + e.val, by omega⟩ a) := by
  pointwise [outVal]

end Cert.Mla

end
-- ==== Proof.MlaMath.lean ====
/- The online softmax over real scores, some of them masked, in the extended reals. -/
module

public import Idealize.ShloMosaic.PureOps.Ideal
public import Mathlib.Data.EReal.Operations
public import Mathlib.Algebra.BigOperators.Fin
public import Mathlib.Algebra.BigOperators.Intervals

@[expose] public section

noncomputable section

namespace Cert.Mla

open Idealize.ShloMosaic

/-- The weight of a score against the shift `μ`: a masked score weighs nothing. -/
def wt (y : EReal) (μ : ℝ) : ℝ := if y = ⊥ then 0 else Real.exp (y.toReal - μ)

theorem exp_sub {y : EReal} (hy : y ≠ ⊤) (μ : ℝ) : Ideal.exp (y - (μ : EReal)) = (wt y μ : EReal) := by
  induction y using EReal.rec with
  | bot => unfold wt; rw [if_pos rfl, EReal.bot_sub]; rfl
  | coe r => unfold wt; rw [if_neg (EReal.coe_ne_bot r), ← EReal.coe_sub, Ideal.exp_coe, EReal.toReal_coe]
  | top => exact absurd rfl hy

theorem wt_shift (y : EReal) (μ μ' : ℝ) : wt y μ' = wt y μ * Real.exp (μ - μ') := by
  unfold wt
  split
  · rw [zero_mul]
  · rw [← Real.exp_add]; congr 1; ring

theorem wt_nonneg (y : EReal) (μ : ℝ) : 0 ≤ wt y μ := by
  unfold wt; split
  · exact le_refl _
  · exact (Real.exp_pos _).le

theorem wt_pos {y : EReal} (hy : y ≠ ⊥) (μ : ℝ) : 0 < wt y μ := by
  unfold wt; rw [if_neg hy]; exact Real.exp_pos _

/-- The denominator over the first `n` keys. -/
def den (y : ℕ → EReal) (n : ℕ) (μ : ℝ) : ℝ := ∑ i ∈ Finset.range n, wt (y i) μ
/-- The numerator over the first `n` keys. -/
def num (y : ℕ → EReal) (v : ℕ → ℝ) (n : ℕ) (μ : ℝ) : ℝ := ∑ i ∈ Finset.range n, wt (y i) μ * v i

theorem den_shift (y : ℕ → EReal) (n : ℕ) (μ μ' : ℝ) : den y n μ' = den y n μ * Real.exp (μ - μ') := by
  unfold den; rw [Finset.sum_mul]
  exact Finset.sum_congr rfl fun i _ => wt_shift _ _ _

theorem num_shift (y : ℕ → EReal) (v : ℕ → ℝ) (n : ℕ) (μ μ' : ℝ) : num y v n μ' = num y v n μ * Real.exp (μ - μ') := by
  unfold num; rw [Finset.sum_mul]
  refine Finset.sum_congr rfl fun i _ => ?_
  rw [wt_shift _ μ μ']; ring

theorem den_pos {y : ℕ → EReal} {n : ℕ} (h : ∃ i, i < n ∧ y i ≠ ⊥) (μ : ℝ) : 0 < den y n μ := by
  obtain ⟨i, hi, hy⟩ := h
  exact Finset.sum_pos' (fun i _ => wt_nonneg _ _) ⟨i, Finset.mem_range.2 hi, wt_pos hy μ⟩

/-- The attention's value: the quotient at any shift. -/
def att (y : ℕ → EReal) (v : ℕ → ℝ) (n : ℕ) : ℝ := num y v n 0 / den y n 0

theorem att_at (y : ℕ → EReal) (v : ℕ → ℝ) (n : ℕ) (μ : ℝ) : num y v n μ / den y n μ = att y v n := by
  unfold att
  rw [num_shift y v n 0 μ, den_shift y n 0 μ]
  exact mul_div_mul_right _ _ (Real.exp_ne_zero _)

/-- Masked keys past `n` change nothing. -/
theorem att_extend (y : ℕ → EReal) (v : ℕ → ℝ) {n N : ℕ} (h : n ≤ N) (hy : ∀ i, n ≤ i → y i = ⊥) : att y v N = att y v n := by
  have e : ∀ i, i ∈ Finset.range N → i ∉ Finset.range n → wt (y i) 0 = 0 := by
    intro i _ hi
    unfold wt
    rw [if_pos (hy i (by simpa using hi))]
  have hs : Finset.range n ⊆ Finset.range N := Finset.range_mono h
  unfold att num den
  rw [← Finset.sum_subset hs (f := fun i => wt (y i) 0) e, ← Finset.sum_subset hs (f := fun i => wt (y i) 0 * v i) (fun i h1 h2 => by rw [e i h1 h2, zero_mul])]

theorem coe_sum {ι : Type*} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- The quotient in the extended reals. -/
theorem div_real (a b : ℝ) (h : b ≠ 0) : Ideal.div (a : EReal) (b : EReal) = ((a / b : ℝ) : EReal) := by
  rw [Ideal.div_coe h, ← EReal.coe_mul]; congr 1; ring

/-- A maximum over finitely many scores, none `⊤` and one not `⊥`, is real. -/
theorem fold_real {ι : Type*} (s : Finset ι) (f : ι → EReal) (hf : ∀ i ∈ s, f i ≠ ⊤) (h : ∃ i ∈ s, f i ≠ ⊥) : ∃ r : ℝ, Finset.fold max ⊥ f s = (r : EReal) := by
  classical
  have h1 : Finset.fold max ⊥ f s ≠ ⊤ := by
    refine (Finset.fold_max_lt (b := (⊥ : EReal)) (c := ⊤) |>.2 ⟨bot_lt_top, fun i hi => lt_top_iff_ne_top.2 (hf i hi)⟩).ne
  have h2 : Finset.fold max ⊥ f s ≠ ⊥ := by
    obtain ⟨i, hi, hn⟩ := h
    refine (Finset.lt_fold_max (b := (⊥ : EReal)) (c := ⊥) |>.2 (Or.inr ⟨i, hi, bot_lt_iff_ne_bot.2 hn⟩)).ne'
  exact ⟨_, (EReal.coe_toReal h1 h2).symm⟩

/-- The statistics of one query row after `n` keys: all lanes share the maximum and the denominator. -/
def RowOK (y : ℕ → EReal) (v : Fin 128 → ℕ → ℝ) (n : ℕ) (m l acc : Fin 128 → EReal) : Prop :=
  (n = 0 ∧ ∀ a, m a = ⊥ ∧ l a = 0 ∧ acc a = 0) ∨ ∃ μ : ℝ, ∀ a, m a = μ ∧ l a = den y n μ ∧ acc a = num y (v a) n μ

theorem sum_block {β : Type*} [AddCommMonoid β] (f : ℕ → β) (n : ℕ) :
    ∑ i ∈ Finset.range (n + 256), f i = (∑ i ∈ Finset.range n, f i) + ∑ d : Fin 256, f (n + d.val) := by
  rw [Finset.sum_range_add, Finset.sum_range (fun x => f (n + x))]

theorem sum_halves (f : Fin 256 → ℝ) : ∑ x : Fin 128, (f ⟨x.val, by omega⟩ + f ⟨128 + x.val, by omega⟩) = ∑ d, f d := by
  rw [Finset.sum_add_distrib]
  exact (Fin.sum_univ_add (a := 128) (b := 128) f).symm

/-- One block of 256 keys. -/
theorem row_step {y : ℕ → EReal} {v : Fin 128 → ℕ → ℝ} {n : ℕ} {m l acc : Fin 128 → EReal} (h : RowOK y v n m l acc)
    (s : Fin 256 → EReal) (hs : ∀ d, s d = y (n + d.val)) (ht : ∀ d, s d ≠ ⊤) (hb : ∃ d, s d ≠ ⊥)
    (w : Fin 128 → Fin 256 → EReal) (hw : ∀ a d, w a d = (v a (n + d.val) : EReal))
    (m' : Fin 128 → EReal) (hm : ∀ a, m' a = max (m a) (Finset.fold max ⊥ (fun x : Fin 128 => max (s ⟨x.val, by omega⟩) (s ⟨128 + x.val, by omega⟩)) Finset.univ))
    (l' : Fin 128 → EReal) (hl : ∀ a, l' a = Ideal.exp (m a - m' a) * l a
      + ∑ x : Fin 128, (Ideal.exp (s ⟨x.val, by omega⟩ - m' x) + Ideal.exp (s ⟨128 + x.val, by omega⟩ - m' x)))
    (acc' : Fin 128 → EReal) (ha : ∀ a, acc' a = acc a * Ideal.exp (m a - m' a)
      + ∑ d : Fin 256, Ideal.exp (s d - m' ⟨d.val % 128, by omega⟩) * w a d) :
    RowOK y v (n + 256) m' l' acc' := by
  right
  obtain ⟨r, hr⟩ : ∃ r : ℝ, Finset.fold max ⊥ (fun x : Fin 128 => max (s ⟨x.val, by omega⟩) (s ⟨128 + x.val, by omega⟩)) Finset.univ = (r : EReal) := by
    refine fold_real _ _ (fun x _ => ?_) ?_
    · exact (max_lt (lt_top_iff_ne_top.2 (ht _)) (lt_top_iff_ne_top.2 (ht _))).ne
    · obtain ⟨d, hd⟩ := hb
      refine ⟨⟨d.val % 128, by omega⟩, Finset.mem_univ _, ?_⟩
      refine ((bot_lt_iff_ne_bot.2 hd).trans_le ?_).ne'
      by_cases h1 : d.val < 128
      · refine le_max_of_le_left (le_of_eq (congrArg s (Fin.ext ?_)))
        show d.val = d.val % 128; omega
      · refine le_max_of_le_right (le_of_eq (congrArg s (Fin.ext ?_)))
        show d.val = 128 + d.val % 128; omega
  rw [hr] at hm
  -- the weights of the block at a shift
  have hden : ∀ μ : ℝ, (∀ a, m' a = μ) → (∑ x : Fin 128, (Ideal.exp (s ⟨x.val, by omega⟩ - m' x) + Ideal.exp (s ⟨128 + x.val, by omega⟩ - m' x)))
      = ((∑ d : Fin 256, wt (y (n + d.val)) μ : ℝ) : EReal) := by
    intro μ hμ
    rw [← sum_halves (fun d => wt (y (n + d.val)) μ), coe_sum]
    refine Finset.sum_congr rfl fun x _ => ?_
    rw [hμ, exp_sub (ht _), exp_sub (ht _), hs, hs, EReal.coe_add]
  have hnum : ∀ μ : ℝ, (∀ a, m' a = μ) → ∀ a, (∑ d : Fin 256, Ideal.exp (s d - m' ⟨d.val % 128, by omega⟩) * w a d)
      = ((∑ d : Fin 256, wt (y (n + d.val)) μ * v a (n + d.val) : ℝ) : EReal) := by
    intro μ hμ a
    rw [coe_sum]
    refine Finset.sum_congr rfl fun d _ => ?_
    rw [hμ, exp_sub (ht _), hs, hw, EReal.coe_mul]
  rcases h with ⟨h0, h⟩ | ⟨μ, h⟩
  · have hμ : ∀ a, m' a = (r : EReal) := fun a => by rw [hm, (h a).1]; exact max_eq_right bot_le
    refine ⟨r, fun a => ⟨hμ a, ?_, ?_⟩⟩
    · rw [hl, hden r hμ, (h a).2.1, mul_zero, zero_add]
      unfold den; rw [sum_block, h0]; simp
    · rw [ha, hnum r hμ, (h a).2.2, zero_mul, zero_add]
      unfold num; rw [sum_block, h0]; simp
  · have hμ : ∀ a, m' a = ((max μ r : ℝ) : EReal) := fun a => by rw [hm, (h a).1]; exact (EReal.coe_strictMono.monotone.map_max).symm
    have hα : ∀ a, Ideal.exp (m a - m' a) = ((Real.exp (μ - max μ r) : ℝ) : EReal) := fun a => by
      rw [hμ, (h a).1, ← EReal.coe_sub, Ideal.exp_coe]
    refine ⟨max μ r, fun a => ⟨hμ a, ?_, ?_⟩⟩
    · rw [hl, hden _ hμ, (h a).2.1, hα, ← EReal.coe_mul, ← EReal.coe_add]
      congr 1
      rw [show den y (n + 256) (max μ r) = den y n (max μ r) + _ from sum_block _ n, den_shift y n μ (max μ r), mul_comm]
    · rw [ha, hnum _ hμ, (h a).2.2, hα, ← EReal.coe_mul, ← EReal.coe_add]
      congr 1
      rw [show num y (v a) (n + 256) (max μ r) = num y (v a) n (max μ r) + _ from sum_block _ n, num_shift y (v a) n μ (max μ r)]

theorem row_div {y : ℕ → EReal} {v : Fin 128 → ℕ → ℝ} {n : ℕ} {m l acc : Fin 128 → EReal} (h : RowOK y v n m l acc)
    (hy : ∃ i, i < n ∧ y i ≠ ⊥) (a : Fin 128) : Ideal.div (acc a) (l a) = (att y (v a) n : EReal) := by
  rcases h with ⟨h0, _⟩ | ⟨μ, h⟩
  · obtain ⟨i, hi, _⟩ := hy; omega
  · rw [(h a).2.1, (h a).2.2, div_real _ _ (den_pos hy μ).ne', att_at]

/-- The softmax computed whole: each weight divided, then the values summed. -/
theorem whole {N : ℕ} (y : ℕ → EReal) (ht : ∀ i, y i ≠ ⊤) (v : ℕ → ℝ) (μ : ℝ) (hy : ∃ i, i < N ∧ y i ≠ ⊥) :
    ∑ i : Fin N, Ideal.div (Ideal.exp (y i - (μ : EReal))) (∑ k : Fin N, Ideal.exp (y k - (μ : EReal))) * (v i : EReal) = (att y v N : EReal) := by
  have hd : ∑ k : Fin N, Ideal.exp (y k - (μ : EReal)) = (den y N μ : EReal) := by
    unfold den; rw [Finset.sum_range, coe_sum]
    exact Finset.sum_congr rfl fun k _ => exp_sub (ht _) μ
  rw [hd, ← att_at y v N μ]
  unfold num
  rw [Finset.sum_range, Finset.sum_div, coe_sum]
  refine Finset.sum_congr rfl fun i _ => ?_
  rw [exp_sub (ht _), div_real _ _ (den_pos hy μ).ne', ← EReal.coe_mul]
  congr 1; ring

end Cert.Mla

end
-- ==== Proof.MlaRow.lean ====
/- One stacked row through all the key blocks: the accumulator over the denominator is the row's attention. -/
module

public import proofs.«01_k».proof.Proof.MlaPay
public import proofs.«01_k».proof.Proof.MlaMath

@[expose] public section

noncomputable section

namespace Cert.Mla

open Idealize.ShloMosaic Cert.KernelIdeal Cert.KernelIdeal.Facts₀

/-- The row's scores with the later keys masked. -/
def seen (q : Nat) (x : ℕ → ℝ) (n : ℕ) : EReal := if n ≤ q then (x n : EReal) else ⊥

theorem seen_top (q : Nat) (x : ℕ → ℝ) (n : ℕ) : seen q x n ≠ ⊤ := by
  unfold seen
  split
  · exact EReal.coe_ne_top _
  · exact bot_ne_top

section
variable {i : grid0.Coords} {qs : Vec Ideal S1024x256 .bf16} {k : Vec Ideal S2048x256 .bf16} {R : Fin 1024} {x : ℕ → ℝ} {v : Fin 128 → ℕ → ℝ}
  (hx : ∀ n (hn : n < 2048), (∑ e : Fin 256, qs (ix2 R e) * k (ix2 ⟨n, hn⟩ e) : EReal) = (x n : EReal))
  (hv : ∀ (a : Fin 128) n (hn : n < 2048), (k (ix2 ⟨n, hn⟩ ⟨a.val, by omega⟩) : EReal) = (v a n : EReal))

include hx hv

theorem step_ok (y : ℕ → EReal) (mk : Nat → Nat → FVec Ideal S32x128 .f32 → FVec Ideal S32x128 .f32) (j : Nat) (hj : j < 8) (T : Tri Ideal)
    (hy : ∀ d : Fin 256, mrow mk (sc qs k j) R d = y (256 * j + d.val)) (ht : ∀ n, y n ≠ ⊤) (hb : ∃ d : Fin 256, y (256 * j + d.val) ≠ ⊥)
    (h : RowOK y v (256 * j) (fun a => T.m (ix2 R a)) (fun a => T.l (ix2 R a)) (fun a => T.acc (ix2 R a))) :
    RowOK y v (256 * (j + 1)) (fun a => (step mk (sc qs k j) k j T).m (ix2 R a)) (fun a => (step mk (sc qs k j) k j T).l (ix2 R a))
      (fun a => (step mk (sc qs k j) k j T).acc (ix2 R a)) := by
  rw [show 256 * (j + 1) = 256 * j + 256 by omega]
  refine row_step h (fun d => mrow mk (sc qs k j) R d) hy (fun d => by rw [hy]; exact ht _) ?_
    (fun a d => k (ix2 ⟨256 * j + d.val, by omega⟩ ⟨a.val, by omega⟩)) (fun a d => hv a _ _) _ (fun a => ?_) _ (fun a => ?_) _ (fun a => ?_)
  · obtain ⟨d, hd⟩ := hb
    exact ⟨d, by rw [hy]; exact hd⟩
  · exact allM_at mk _ _ R a
  · exact allL_at mk _ _ _ R a
  · refine (ac_at _ _ _ _ j hj R a).trans ?_
    simp only [allA_at, allP_at]
    rfl

theorem steps_ok (n : Nat) (hn : n ≤ jl (i 1).val) :
    RowOK (seen (128 * (i 1).val + R.val % 128) x) v (256 * n) (fun a => (steps qs k (start ⊥) n).m (ix2 R a)) (fun a => (steps qs k (start ⊥) n).l (ix2 R a))
      (fun a => (steps qs k (start ⊥) n).acc (ix2 R a)) := by
  have hi : (i 1).val < 16 := (i 1).isLt
  have hjl : jl (i 1).val = (128 * (i 1).val + 127) / 256 := rfl
  induction n with
  | zero =>
    left
    refine ⟨rfl, fun a => ⟨rfl, ?_, ?_⟩⟩
    · show Ideal.ofBits .f32 0x00000000#32 = 0
      simp [Ideal.ofBits, Ideal.ieee]
    · show Ideal.ofBits .f32 0x00000000#32 = 0
      simp [Ideal.ofBits, Ideal.ieee]
  | succ n ih =>
    have hs : ∀ d : Fin 256, seen (128 * (i 1).val + R.val % 128) x (256 * n + d.val) = (x (256 * n + d.val) : EReal) := fun d => if_pos (by omega)
    refine step_ok hx hv _ clear n (by omega) _ (fun d => ?_) (seen_top _ _) ⟨0, ?_⟩ (ih (by omega))
    · rw [mrow_clear, sc_at _ _ _ (by omega), hs]
      exact hx _ _
    · rw [hs]; exact EReal.coe_ne_bot _

theorem final_ok :
    RowOK (seen (128 * (i 1).val + R.val % 128) x) v (256 * (jl (i 1).val + 1)) (fun a => (final ⊥ i qs k).m (ix2 R a)) (fun a => (final ⊥ i qs k).l (ix2 R a))
      (fun a => (final ⊥ i qs k).acc (ix2 R a)) := by
  have hi : (i 1).val < 16 := (i 1).isLt
  have hjl : jl (i 1).val = (128 * (i 1).val + 127) / 256 := rfl
  refine step_ok hx hv _ (mask ⊥ i) (jl (i 1).val) (by omega) _ (fun d => ?_) (seen_top _ _) ⟨0, ?_⟩ (steps_ok hx hv _ (Nat.le_refl _))
  · rw [mrow_mask, sc_at _ _ _ (by omega)]
    exact if_congr Iff.rfl (hx _ _) rfl
  · refine (if_pos ?_).trans_ne (EReal.coe_ne_bot _)
    show 256 * jl (i 1).val + 0 ≤ _
    omega

theorem final_div (a : Fin 128) : Ideal.div ((final ⊥ i qs k).acc (ix2 R a)) ((final ⊥ i qs k).l (ix2 R a))
    = (att (seen (128 * (i 1).val + R.val % 128) x) (v a) 2048 : EReal) := by
  have hi : (i 1).val < 16 := (i 1).isLt
  have hjl : jl (i 1).val = (128 * (i 1).val + 127) / 256 := rfl
  refine (row_div (final_ok hx hv) ⟨0, by omega, ?_⟩ a).trans (congrArg _ (att_extend _ _ (by omega) fun n hn => ?_).symm)
  · refine (if_pos (by omega)).trans_ne (EReal.coe_ne_bot _)
  · exact if_neg (by omega)
end

/-- The row's quotient, of what its scores and values are. -/
theorem quot_att {i : grid0.Coords} {qs : Vec Ideal S1024x256 .bf16} {k : Vec Ideal S2048x256 .bf16} {R : Fin 1024} {x : ℕ → ℝ} {v : Fin 128 → ℕ → ℝ}
    (hx : ∀ n (hn : n < 2048), (∑ e : Fin 256, qs (ix2 R e) * k (ix2 ⟨n, hn⟩ e) : EReal) = (x n : EReal))
    (hv : ∀ (a : Fin 128) n (hn : n < 2048), (k (ix2 ⟨n, hn⟩ (Fin.castLE (by decide) a)) : EReal) = (v a n : EReal)) (a : Fin 128) :
    Ideal.div ((final ⊥ i qs k).acc (ix2 R a)) ((final ⊥ i qs k).l (ix2 R a)) = (att (seen (128 * (i 1).val + R.val % 128) x) (v a) 2048 : EReal) :=
  final_div hx hv a

end Cert.Mla

end
-- ==== Proof.MlaRef.lean ====
/- The reference's result, read at an element: the softmax of the masked logits, averaged over the latents, mapped to the head's values. -/
module

public import proofs.«01_k».proof.Proof.Gen.ReferenceIdeal.Run
public import Idealize.ShloMosaic.Lib.Pointwise
public import Idealize.ShloMosaic.Lib.WordCmp

@[expose] public section

noncomputable section

namespace Cert.Mla.Ref

open Idealize.ShloMosaic Idealize.ShloMosaic.TcCoe Cert.ReferenceIdeal Cert.ReferenceIdeal.Gen

/-- The logits, later keys masked. -/
def logit (x : FVec Ideal S8x8x2048x128 .f32) (y : FVec Ideal S8x8x2048x32 .f32) (u : FVec Ideal S8x2048x128 .f32) (z : FVec Ideal S8x2048x32 .f32) :
    FVec Ideal S8x8x2048x2048 .f32 :=
  select (broadcastInDim S8x8x2048x2048 ![2, 3] bcast_S2048x2048_S8x8x2048x2048_2_3
      (cmpi .sle (broadcastInDim S2048x2048 ![0, 1] bcast_S1x2048_S2048x2048_0_1 (broadcastInDim S1x2048 ![1] bcast_S2048_S1x2048_1 (iotaInDim S2048 32 0)))
        (broadcastInDim S2048x2048 ![0, 1] bcast_S2048x1_S2048x2048_0_1 (broadcastInDim S2048x1 ![0] bcast_S2048_S2048x1_0 (iotaInDim S2048 32 0)))))
    (mulf (addf (Host.dotGeneral (φ₁ := .f32) (φ₂ := .f32) dot_S8x8x2048x128_S8x2048x128_S8x8x2048x2048_3_2_12_1_0_0 none x u)
        (Host.dotGeneral (φ₁ := .f32) (φ₂ := .f32) dot_S8x8x2048x32_S8x2048x32_S8x8x2048x2048_3_2_12_1_0_0 none y z))
      (broadcastInDim S8x8x2048x2048 ![] bcast_S_S8x8x2048x2048 (constant S_ .f32 0x3DD105EC#32)))
    (broadcastInDim S8x8x2048x2048 ![] bcast_S_S8x8x2048x2048 (constant S_ .f32 0xFF800000#32))

/-- Query `t`'s logit against key `s`. -/
def lg (x : FVec Ideal S8x8x2048x128 .f32) (y : FVec Ideal S8x8x2048x32 .f32) (u : FVec Ideal S8x2048x128 .f32) (z : FVec Ideal S8x2048x32 .f32)
    (b h : Fin 8) (t s : Fin 2048) : EReal :=
  ((∑ e : Fin 128, x (ix4 b h t e) * u (ix3 b s e)) + ∑ e : Fin 32, y (ix4 b h t e) * z (ix3 b s e)) * Ideal.ofBits .f32 0x3DD105EC#32

theorem logit_at (x : FVec Ideal S8x8x2048x128 .f32) (y : FVec Ideal S8x8x2048x32 .f32) (u : FVec Ideal S8x2048x128 .f32) (z : FVec Ideal S8x2048x32 .f32)
    (b h : Fin 8) (t s : Fin 2048) : logit x y u z (ix4 b h t s) = if s.val ≤ t.val then lg x y u z b h t s else ⊥ := by
  have n : Ideal.ofBits .f32 0xFF800000#32 = ⊥ := by simp [Ideal.ofBits, Ideal.ieee]
  rw [← n]
  pointwise [logit, lg]
  rw [WordCmp.cmpi_sle_ofNat (by omega) (by omega)]
  by_cases h : s.val ≤ t.val
  · rw [decide_eq_true h, if_pos h]; rfl
  · rw [decide_eq_false h, if_neg h]; rfl

/-- The largest logit of every row. -/
def top (L : FVec Ideal S8x8x2048x2048 .f32) : FVec Ideal S8x8x2048 .f32 :=
  Host.reduce FloatOps.maximumf L (constant S_ .f32 0xFF800000#32) reducesTo_S8x8x2048x2048_S8x8x2048_d3 h_S_

theorem top_at (L : FVec Ideal S8x8x2048x2048 .f32) (b h : Fin 8) (t : Fin 2048) :
    top L (ix3 b h t) = Finset.fold max (Ideal.ofBits .f32 0xFF800000#32) (fun k : Fin 2048 => L (ix4 b h t k)) Finset.univ := by
  unfold top
  simp only [pointwise]

/-- The exponentials against the row's maximum. -/
def wtsOf (L : FVec Ideal S8x8x2048x2048 .f32) (T : FVec Ideal S8x8x2048 .f32) : FVec Ideal S8x8x2048x2048 .f32 :=
  Host.exp (subf L (broadcastInDim S8x8x2048x2048 ![0, 1, 2, 3] bcast_S8x8x2048x1_S8x8x2048x2048_0_1_2_3 (broadcastInDim S8x8x2048x1 ![0, 1, 2] bcast_S8x8x2048_S8x8x2048x1_0_1_2
    (maximumf (broadcastInDim S8x8x2048 ![] bcast_S_S8x8x2048 (constant S_ .f32 0xFF800000#32)) T))))

def wts (L : FVec Ideal S8x8x2048x2048 .f32) : FVec Ideal S8x8x2048x2048 .f32 := wtsOf L (top L)

theorem wtsOf_at (L : FVec Ideal S8x8x2048x2048 .f32) (T : FVec Ideal S8x8x2048 .f32) (b h : Fin 8) (t s : Fin 2048) :
    wtsOf L T (ix4 b h t s) = Ideal.exp (L (ix4 b h t s) - max (Ideal.ofBits .f32 0xFF800000#32) (T (ix3 b h t))) := by
  pointwise [wtsOf]

theorem wts_at (L : FVec Ideal S8x8x2048x2048 .f32) (b h : Fin 8) (t s : Fin 2048) :
    wts L (ix4 b h t s) = Ideal.exp (L (ix4 b h t s) - max ⊥ (Finset.fold max ⊥ (fun k : Fin 2048 => L (ix4 b h t k)) Finset.univ)) := by
  have n : Ideal.ofBits .f32 0xFF800000#32 = ⊥ := by simp [Ideal.ofBits, Ideal.ieee]
  rw [wts, wtsOf_at, top_at, n]

/-- The average of the latents, mapped to the heads' values. -/
def out (P : FVec Ideal S8x8x2048x2048 .f32) (u : FVec Ideal S8x2048x128 .f32) (w : FVec Ideal S128x8x64 .f32) : FVec Ideal S16384x512 .bf16 :=
  truncf .bf16 (shapeCast S16384x512 (transpose S8x2048x8x64 [2, 3, 0, 1] (Host.dotGeneral (φ₁ := .f32) (φ₂ := .f32) dot_S128x8x64_S8x8x2048x128_S8x64x8x2048_0_3_2_02_1_1 none w
    (Host.dotGeneral (φ₁ := .f32) (φ₂ := .f32) dot_S8x8x2048x2048_S8x2048x128_S8x8x2048x128_3_1_12_2_0_0 none
      (Host.divf P (broadcastInDim S8x8x2048x2048 ![0, 1, 2, 3] bcast_S8x8x2048x1_S8x8x2048x2048_0_1_2_3 (broadcastInDim S8x8x2048x1 ![0, 1, 2] bcast_S8x8x2048_S8x8x2048x1_0_1_2
        (Host.reduceAdd P (constant S_ .f32 0x00000000#32) reducesTo_S8x8x2048x2048_S8x8x2048_d3 h_S_)))) u))
    transposes_S8x64x8x2048_S8x2048x8x64_2_3_0_1) shapeCasts_S8x2048x8x64_S16384x512) bitsLt_bf16_f32

theorem out_at (P : FVec Ideal S8x8x2048x2048 .f32) (u : FVec Ideal S8x2048x128 .f32) (w : FVec Ideal S128x8x64 .f32) (R : Fin 16384) (C : Fin 512) :
    out P u w (ix2 R C) = ∑ r : Fin 128, w (ix3 r ⟨C.val / 64, by omega⟩ ⟨C.val % 64, by omega⟩)
      * ∑ s : Fin 2048, Ideal.div (P (ix4 ⟨R.val / 2048, by omega⟩ ⟨C.val / 64, by omega⟩ ⟨R.val % 2048, by omega⟩ s))
          (∑ k : Fin 2048, P (ix4 ⟨R.val / 2048, by omega⟩ ⟨C.val / 64, by omega⟩ ⟨R.val % 2048, by omega⟩ k)) * u (ix3 ⟨R.val / 2048, by omega⟩ s r) := by
  pointwise [out]

variable (m : (ℓ : Loc nD τ sig) → Buf (Elt Ideal) ℓ) (c : Dev nD)

theorem res_eq : Value.res_out0 m c = out (wts (logit (m (c.tc.loc main_arg0)) (m (c.tc.loc main_arg1)) (m (c.tc.loc main_arg2)) (m (c.tc.loc main_arg3))))
    (m (c.tc.loc main_arg2)) (m (c.tc.loc main_arg4)) := rfl

end Cert.Mla.Ref

end
-- ==== Proof.MlaCore.lean ====
/- One query row: the kernel's quotient and the reference's softmax average are the same real number. -/
module

public import proofs.«01_k».proof.Proof.MlaRow
public import proofs.«01_k».proof.Proof.MlaRef

@[expose] public section

noncomputable section

namespace Cert.Mla

open Idealize.ShloMosaic Idealize.ShloMosaic.TcCoe Cert.KernelIdeal

theorem dot_real {n : Nat} {f g : Fin n → EReal} (hf : ∀ e, f e = ((f e).toReal : EReal)) (hg : ∀ e, g e = ((g e).toReal : EReal)) :
    ∑ e, f e * g e = ((∑ e, (f e).toReal * (g e).toReal : ℝ) : EReal) := by
  rw [coe_sum]
  exact Finset.sum_congr rfl fun e _ => by rw [EReal.coe_mul, ← hf, ← hg]

theorem dot_scaled {n : Nat} {f g : Fin n → EReal} (hf : ∀ e, f e = ((f e).toReal : EReal)) (hg : ∀ e, g e = ((g e).toReal : EReal)) (c : ℝ) :
    ∑ e, f e * (c : EReal) * g e = (((∑ e, (f e).toReal * (g e).toReal) * c : ℝ) : EReal) := by
  rw [Finset.sum_mul, coe_sum]
  refine Finset.sum_congr rfl fun e _ => ?_
  rw [hf e, hg e, ← EReal.coe_mul, ← EReal.coe_mul]
  simp only [EReal.toReal_coe]
  congr 1; ring

/-- The scale the logits carry is a real number. -/
theorem scale_real : ∃ c : ℝ, Ideal.ofBits .f32 0x3DD105EC#32 = (c : EReal) := by
  have h : ∃ c : ℝ, Ideal.ieee 8 23 (0x3DD105EC#32) = (c : EReal) := by
    unfold Ideal.ieee
    dsimp only
    rw [if_neg (by decide), if_neg (by decide)]
    exact ⟨_, rfl⟩
  exact h

/-- The scale on the queries or on the logits. -/
theorem scaled_eq {n n' : Nat} {f g : Fin n → EReal} {f' g' : Fin n' → EReal} (hf : ∀ e, f e = ((f e).toReal : EReal)) (hg : ∀ e, g e = ((g e).toReal : EReal))
    (hf' : ∀ e, f' e = ((f' e).toReal : EReal)) (hg' : ∀ e, g' e = ((g' e).toReal : EReal)) :
    ∃ r : ℝ, ((∑ e, f e * g e) + ∑ e, f' e * g' e) * Ideal.ofBits .f32 0x3DD105EC#32 = (r : EReal)
      ∧ (∑ e, f e * Ideal.ofBits .f32 0x3DD105EC#32 * g e) + ∑ e, f' e * Ideal.ofBits .f32 0x3DD105EC#32 * g' e = (r : EReal) := by
  obtain ⟨c, hc⟩ := scale_real
  rw [hc]
  refine ⟨((∑ e, (f e).toReal * (g e).toReal) + ∑ e, (f' e).toReal * (g' e).toReal) * c, ?_, ?_⟩
  · rw [dot_real hf hg, dot_real hf' hg', ← EReal.coe_add, ← EReal.coe_mul]
  · rw [dot_scaled hf hg, dot_scaled hf' hg', ← EReal.coe_add, ← add_mul]

/-- The reference's row is the attention over the real logits the query sees. -/
theorem ref_att {x : FVec Ideal S8x8x2048x128 .f32} {y : FVec Ideal S8x8x2048x32 .f32} {u : FVec Ideal S8x2048x128 .f32} {z : FVec Ideal S8x2048x32 .f32}
    {b h : Fin 8} {t : Fin 2048} {r : Fin 128} {X v : ℕ → ℝ} (hX : ∀ s : Fin 2048, Ref.lg x y u z b h t s = (X s.val : EReal))
    (hv : ∀ s : Fin 2048, u (ix3 b s r) = (v s.val : EReal)) :
    ∑ s : Fin 2048, Ideal.div (Ref.wts (Ref.logit x y u z) (ix4 b h t s)) (∑ k : Fin 2048, Ref.wts (Ref.logit x y u z) (ix4 b h t k)) * u (ix3 b s r)
      = (att (seen t.val X) v 2048 : EReal) := by
  have hl : ∀ s : Fin 2048, Ref.logit x y u z (ix4 b h t s) = seen t.val X s.val := fun s => by
    rw [Ref.logit_at, hX]; rfl
  have h0 : seen t.val X 0 ≠ ⊥ := (if_pos (Nat.zero_le _)).trans_ne (EReal.coe_ne_bot _)
  obtain ⟨μ, hμ⟩ := fold_real (Finset.univ : Finset (Fin 2048)) (fun k => seen t.val X k.val) (fun k _ => seen_top _ _ _) ⟨0, Finset.mem_univ _, h0⟩
  have hw : ∀ s : Fin 2048, Ref.wts (Ref.logit x y u z) (ix4 b h t s) = Ideal.exp (seen t.val X s.val - (μ : EReal)) := fun s => by
    rw [Ref.wts_at]
    simp only [hl]
    rw [hμ, max_eq_right bot_le]
  simp only [hw, hv]
  exact whole _ (seen_top _ _) _ μ ⟨0, by omega, h0⟩

/-- The softmax average of the latents, lane `e`, of head `h`'s query `t`. -/
def avg (x : FVec Ideal S8x8x2048x128 .f32) (y : FVec Ideal S8x8x2048x32 .f32) (u : FVec Ideal S8x2048x128 .f32) (z : FVec Ideal S8x2048x32 .f32)
    (b h : Fin 8) (t : Fin 2048) (e : Fin 128) : EReal :=
  ∑ s : Fin 2048, Ideal.div (Ref.wts (Ref.logit x y u z) (ix4 b h t s)) (∑ k : Fin 2048, Ref.wts (Ref.logit x y u z) (ix4 b h t k)) * u (ix3 b s e)

/-- The average mapped to the value of column `C`. -/
def value (w : FVec Ideal S128x8x64 .f32) (A : Fin 8 → Fin 128 → EReal) (C : Fin 512) : EReal :=
  ∑ e : Fin 128, w (ix3 e ⟨C.val / 64, by omega⟩ ⟨C.val % 64, by omega⟩) * A ⟨C.val / 64, by omega⟩ e

end Cert.Mla

end
-- ==== Proof.MlaHost.lean ====
/- The arrays the kernel is called with, read at an element of the arguments. -/
module

public import proofs.«01_k».proof.Proof.Gen.KernelIdeal.Frame
public import Idealize.ShloMosaic.Lib.Pointwise

@[expose] public section

noncomputable section

namespace Cert.Mla

open Idealize.ShloMosaic Idealize.ShloMosaic.TcCoe Cert.KernelIdeal Cert.KernelIdeal.Gen

/-- 128 latent lanes, 32 rope lanes, 96 lanes of padding. -/
def lanes (f : Fin 128 → EReal) (g : Fin 32 → EReal) (d : Fin 256) : EReal :=
  if h : d.val < 128 then f ⟨d.val, h⟩ else if h' : d.val - 128 < 32 then g ⟨d.val - 128, h'⟩ else 0

theorem sum_lanes (f f' : Fin 128 → EReal) (g g' : Fin 32 → EReal) :
    ∑ d, lanes f g d * lanes f' g' d = (∑ e, f e * f' e) + ∑ e, g e * g' e := by
  rw [show (∑ d, lanes f g d * lanes f' g' d) = (∑ e : Fin 128, lanes f g ⟨e.val, by omega⟩ * lanes f' g' ⟨e.val, by omega⟩)
      + ∑ e : Fin 128, lanes f g ⟨128 + e.val, by omega⟩ * lanes f' g' ⟨128 + e.val, by omega⟩ from
    Fin.sum_univ_add (a := 128) (b := 128) (fun d => lanes f g d * lanes f' g' d)]
  rw [show (∑ e : Fin 128, lanes f g ⟨128 + e.val, by omega⟩ * lanes f' g' ⟨128 + e.val, by omega⟩)
      = (∑ e : Fin 32, lanes f g ⟨128 + e.val, by omega⟩ * lanes f' g' ⟨128 + e.val, by omega⟩)
      + ∑ e : Fin 96, lanes f g ⟨128 + (32 + e.val), by omega⟩ * lanes f' g' ⟨128 + (32 + e.val), by omega⟩ from
    Fin.sum_univ_add (a := 32) (b := 96) (fun e : Fin 128 => lanes f g ⟨128 + e.val, by omega⟩ * lanes f' g' ⟨128 + e.val, by omega⟩)]
  have h1 : ∀ (f : Fin 128 → EReal) (g : Fin 32 → EReal) (e : Fin 128), lanes f g ⟨e.val, by omega⟩ = f e := fun f g e => dif_pos e.isLt
  have h2 : ∀ (f : Fin 128 → EReal) (g : Fin 32 → EReal) (e : Fin 32), lanes f g ⟨128 + e.val, by omega⟩ = g e := fun f g e => by
    unfold lanes
    rw [dif_neg (by show ¬ 128 + e.val < 128; omega), dif_pos (by show 128 + e.val - 128 < 32; omega)]
    exact congrArg g (Fin.ext (by show 128 + e.val - 128 = e.val; omega))
  have h3 : ∀ (f : Fin 128 → EReal) (g : Fin 32 → EReal) (e : Fin 96), lanes f g ⟨128 + (32 + e.val), by omega⟩ = 0 := fun f g e => by
    unfold lanes
    rw [dif_neg (by show ¬ 128 + (32 + e.val) < 128; omega), dif_neg (by show ¬ 128 + (32 + e.val) - 128 < 32; omega)]
  simp only [h1, h2, h3, mul_zero, Finset.sum_const_zero, add_zero]

theorem zeroF : (FloatOps.sitofp (F := Ideal) .f32 (0#32)) = (0 : EReal) := by
  show (((0#32 : BitVec 32).toInt : ℝ) : EReal) = 0
  simp

/-- The queries, latent beside rope lanes, scaled. -/
def qArr (x : Vec Ideal S8x8x2048x128 .f32) (y : Vec Ideal S8x8x2048x32 .f32) : Vec Ideal S16384x2048 .bf16 :=
  shapeCast S16384x2048 (transpose S8x2048x8x256 [0, 2, 1, 3] (truncf (F := Ideal) .bf16 (concatenate S8x8x2048x256 3
    [⟨S8x8x2048x128, mulf (F := Ideal) (φ := .f32) x (broadcastInDim S8x8x2048x128 ![] bcast_S_S8x8x2048x128 (constant S_ .f32 0x3DD105EC#32))⟩,
     ⟨S8x8x2048x128, pad S8x8x2048x128 ![0, 0, 0, 0] ![0, 0, 0, 96] ![0, 0, 0, 0] (mulf (F := Ideal) (φ := .f32) y (broadcastInDim S8x8x2048x32 ![] bcast_S_S8x8x2048x32 (constant S_ .f32 0x3DD105EC#32)))
       (sitofp (F := Ideal) .f32 (constantI S_ 32 0#32)) pads_S8x8x2048x32_S8x8x2048x128_000_000_000_0960 h_S_⟩]
    concatenates_S8x8x2048x128_S8x8x2048x128_S8x8x2048x256_d3) bitsLt_bf16_f32) transposes_S8x8x2048x256_S8x2048x8x256_0_2_1_3) shapeCasts_S8x2048x8x256_S16384x2048

theorem qArr_at (x : Vec Ideal S8x8x2048x128 .f32) (y : Vec Ideal S8x8x2048x32 .f32) (R : Fin 16384) (h : Fin 8) (e : Fin 256) :
    qArr x y (ix2 R ⟨256 * h.val + e.val, by omega⟩)
    = lanes (fun e => x (ix4 ⟨R.val / 2048, by omega⟩ h ⟨R.val % 2048, by omega⟩ e) * Ideal.ofBits .f32 0x3DD105EC#32)
        (fun e => y (ix4 ⟨R.val / 2048, by omega⟩ h ⟨R.val % 2048, by omega⟩ e) * Ideal.ofBits .f32 0x3DD105EC#32) e := by
  pointwise [qArr, lanes]
  have e1 : (256 * h.val + e.val) % 256 = e.val := by omega
  simp only [e1, zeroF]
  split
  · rfl
  · refine dite_congr (propext ⟨fun H => H.2.2, fun H => ⟨by omega, by omega, H⟩⟩) (fun _ => rfl) fun _ => rfl

/-- The keys, latent beside rope lanes. -/
def kArr (x : Vec Ideal S8x2048x128 .f32) (y : Vec Ideal S8x2048x32 .f32) : Vec Ideal S16384x256 .bf16 :=
  truncf (F := Ideal) .bf16 (shapeCast S16384x256 (concatenate S8x2048x256 2
    [⟨S8x2048x128, x⟩,
     ⟨S8x2048x128, pad S8x2048x128 ![0, 0, 0] ![0, 0, 96] ![0, 0, 0] y
       (sitofp (F := Ideal) .f32 (constantI S_ 32 0#32)) pads_S8x2048x32_S8x2048x128_000_000_0960 h_S_⟩]
    concatenates_S8x2048x128_S8x2048x128_S8x2048x256_d2) shapeCasts_S8x2048x256_S16384x256) bitsLt_bf16_f32

theorem kArr_at (x : Vec Ideal S8x2048x128 .f32) (y : Vec Ideal S8x2048x32 .f32) (R : Fin 16384) (e : Fin 256) :
    kArr x y (ix2 R e)
    = lanes (fun e => x (ix3 ⟨R.val / 2048, by omega⟩ ⟨R.val % 2048, by omega⟩ e)) (fun e => y (ix3 ⟨R.val / 2048, by omega⟩ ⟨R.val % 2048, by omega⟩ e)) e := by
  pointwise [kArr, lanes]
  simp only [zeroF]
  split
  · rfl
  · refine dite_congr (propext ⟨fun H => H.2.2, fun H => ⟨by omega, by omega, H⟩⟩) (fun _ => rfl) fun _ => rfl

/-- Two heads' value maps, one below the other, on the diagonal. -/
def wBlk (u v : Vec Ideal S128x64 .f32) : Vec Ideal S256x128 .f32 :=
  concatenate S256x128 0 [⟨S128x128, concatenate S128x128 1 [⟨S128x64, u⟩, ⟨S128x64, broadcastInDim S128x64 ![] bcast_S_S128x64 (constant (F := Ideal) S_ .f32 0x00000000#32)⟩] concatenates_S128x64_S128x64_S128x128_d1⟩,
    ⟨S128x128, concatenate S128x128 1 [⟨S128x64, broadcastInDim S128x64 ![] bcast_S_S128x64 (constant (F := Ideal) S_ .f32 0x00000000#32)⟩, ⟨S128x64, v⟩] concatenates_S128x64_S128x64_S128x128_d1⟩]
    concatenates_S128x128_S128x128_S256x128_d0

theorem wBlk_lo (u v : Vec Ideal S128x64 .f32) (e a : Fin 128) :
    wBlk u v (ix2 ⟨e.val, by omega⟩ a) = if h : a.val < 64 then u (ix2 e ⟨a.val, h⟩) else 0 := by
  pointwise [wBlk]

theorem wBlk_hi (u v : Vec Ideal S128x64 .f32) (e a : Fin 128) :
    wBlk u v (ix2 ⟨128 + e.val, by omega⟩ a) = if h : a.val < 64 then 0 else v (ix2 e ⟨a.val - 64, by omega⟩) := by
  pointwise [wBlk]

theorem uv_at (w : Vec Ideal S128x8x64 .f32) (p : Nat) (hp : p < 8) (hs : S8x128x64.Slices ![p, 0, 0] S1x128x64) (e : Fin 128) (a : Fin 64) :
    shapeCast S128x64 (extractStridedSlice S1x128x64 ![p, 0, 0] (transpose S8x128x64 [1, 0, 2] w transposes_S128x8x64_S8x128x64_1_0_2) hs) shapeCasts_S1x128x64_S128x64 (ix2 e a)
    = w (ix3 e ⟨p, hp⟩ a) := by
  pointwise

variable (m : (ℓ : Loc nD τ sig) → Buf (Elt Ideal) ℓ) (c : Dev nD)

theorem v8_eq : (V m c main_v8 : Vec Ideal S16384x2048 .bf16) = qArr (m ((c : Thread nD τ).loc main_arg0)) (m ((c : Thread nD τ).loc main_arg1)) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.append_nil, List.cons_append, List.nil_append]
  after_results_simp <;> rfl

theorem v12_eq : (V m c main_v12 : Vec Ideal S16384x256 .bf16) = kArr (m ((c : Thread nD τ).loc main_arg2)) (m ((c : Thread nD τ).loc main_arg3)) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.append_nil, List.cons_append, List.nil_append]
  after_results_simp <;> rfl

/-- Head `p`'s value map. -/
def uv (w : Vec Ideal S128x8x64 .f32) (p : Nat) (hs : S8x128x64.Slices ![p, 0, 0] S1x128x64) : Vec Ideal S128x64 .f32 :=
  shapeCast S128x64 (extractStridedSlice S1x128x64 ![p, 0, 0] (transpose S8x128x64 [1, 0, 2] w transposes_S128x8x64_S8x128x64_1_0_2) hs) shapeCasts_S1x128x64_S128x64

/-- The four head pairs' value maps. -/
def wArr (w : Vec Ideal S128x8x64 .f32) : Vec Ideal S4x256x128 .bf16 :=
  truncf (F := Ideal) .bf16 (concatenate S4x256x128 0
    [⟨S1x256x128, broadcastInDim S1x256x128 ![1, 2] bcast_S256x128_S1x256x128_1_2 (wBlk (uv w 0 slices_S8x128x64_S1x128x64_0_0_0) (uv w 1 slices_S8x128x64_S1x128x64_1_0_0))⟩,
     ⟨S1x256x128, broadcastInDim S1x256x128 ![1, 2] bcast_S256x128_S1x256x128_1_2 (wBlk (uv w 2 slices_S8x128x64_S1x128x64_2_0_0) (uv w 3 slices_S8x128x64_S1x128x64_3_0_0))⟩,
     ⟨S1x256x128, broadcastInDim S1x256x128 ![1, 2] bcast_S256x128_S1x256x128_1_2 (wBlk (uv w 4 slices_S8x128x64_S1x128x64_4_0_0) (uv w 5 slices_S8x128x64_S1x128x64_5_0_0))⟩,
     ⟨S1x256x128, broadcastInDim S1x256x128 ![1, 2] bcast_S256x128_S1x256x128_1_2 (wBlk (uv w 6 slices_S8x128x64_S1x128x64_6_0_0) (uv w 7 slices_S8x128x64_S1x128x64_7_0_0))⟩]
    concatenates_S1x256x128_S1x256x128_S1x256x128_S1x256x128_S4x256x128_d0) bitsLt_bf16_f32

theorem v40_eq : (V m c main_v40 : Vec Ideal S4x256x128 .bf16) = wArr (m ((c : Thread nD τ).loc main_arg4)) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.append_nil, List.cons_append, List.nil_append]
  after_results_simp <;> rfl

theorem wArr_blk (w : Vec Ideal S128x8x64 .f32) (p : Fin 4) (k : Fin 256) (a : Fin 128) :
    ∃ h0 h1, wArr w (ix3 p k a) = wBlk (uv w (2 * p.val) h0) (uv w (2 * p.val + 1) h1) (ix2 k a) := by
  match p with
  | ⟨0, _⟩ => exact ⟨slices_S8x128x64_S1x128x64_0_0_0, slices_S8x128x64_S1x128x64_1_0_0, by pointwise [wArr]⟩
  | ⟨1, _⟩ => exact ⟨slices_S8x128x64_S1x128x64_2_0_0, slices_S8x128x64_S1x128x64_3_0_0, by pointwise [wArr]⟩
  | ⟨2, _⟩ => exact ⟨slices_S8x128x64_S1x128x64_4_0_0, slices_S8x128x64_S1x128x64_5_0_0, by pointwise [wArr]⟩
  | ⟨3, _⟩ => exact ⟨slices_S8x128x64_S1x128x64_6_0_0, slices_S8x128x64_S1x128x64_7_0_0, by pointwise [wArr]⟩

theorem wArr_lo (w : Vec Ideal S128x8x64 .f32) (p : Fin 4) (e a : Fin 128) :
    wArr w (ix3 p ⟨e.val, by omega⟩ a) = if h : a.val < 64 then w (ix3 e ⟨2 * p.val, by omega⟩ ⟨a.val, h⟩) else 0 := by
  obtain ⟨h0, h1, e0⟩ := wArr_blk w p ⟨e.val, by omega⟩ a
  rw [e0, wBlk_lo]
  exact dite_congr rfl (fun h => uv_at w _ (by omega) h0 _ _) fun _ => rfl

theorem wArr_hi (w : Vec Ideal S128x8x64 .f32) (p : Fin 4) (e a : Fin 128) :
    wArr w (ix3 p ⟨128 + e.val, by omega⟩ a) = if h : a.val < 64 then 0 else w (ix3 e ⟨2 * p.val + 1, by omega⟩ ⟨a.val - 64, by omega⟩) := by
  obtain ⟨h0, h1, e0⟩ := wArr_blk w p ⟨128 + e.val, by omega⟩ a
  rw [e0, wBlk_hi]
  exact dite_congr rfl (fun _ => rfl) fun h => uv_at w _ (by omega) h1 _ _

end Cert.Mla

end
-- ==== Proof.MlaPre.lean ====
/- The precondition read back: every entry of the first four arguments is a real number. -/
module

public import proofs.«01_k».proof.Defs
public import proofs.«01_k».proof.Proof.Gen.Pre_finite
public import Idealize.ShloMosaic.Lib.ReduceAll
public import Idealize.ShloMosaic.Lib.Pointwise

@[expose] public section

noncomputable section

namespace Cert.Mla

open Idealize.ShloMosaic Idealize.ShloMosaic.TcCoe Cert.KernelIdeal

instance : Subsingleton (Cert.Pre_finite.S_).Idx := ⟨fun a b => funext fun k => k.elim0⟩

/-- An entry whose magnitude is below infinity is a real number. -/
theorem real_of_lt {x : EReal} (h : Ideal.cmp .olt (max x (-x)) (Ideal.ofBits .f32 0x7F800000#32) = 1#1) : x = (x.toReal : EReal) := by
  have n : Ideal.ofBits .f32 0x7F800000#32 = ⊤ := by simp [Ideal.ofBits, Ideal.ieee]
  rw [n] at h
  have h' : max x (-x) < ⊤ := by
    by_contra c
    simp [Ideal.cmp, c] at h
  have h1 : x ≠ ⊤ := fun e => by rw [e] at h'; simp at h'
  have h2 : x ≠ ⊥ := fun e => by rw [e] at h'; simp at h'
  exact (EReal.coe_toReal h1 h2).symm

theorem finite_args [hPre_finite : Cert.Pre_finite.Facts] (m : (ℓ : Loc nD τ sig) → Buf (Elt Ideal) ℓ) (h : Cert.Pre_KernelIdeal_finite m) (c : Dev nD) :
    (∀ j, (m (c.tc.loc main_arg0) : Vec Ideal S8x8x2048x128 .f32) j = (((m (c.tc.loc main_arg0) : Vec Ideal S8x8x2048x128 .f32) j).toReal : EReal))
    ∧ (∀ j, (m (c.tc.loc main_arg1) : Vec Ideal S8x8x2048x32 .f32) j = (((m (c.tc.loc main_arg1) : Vec Ideal S8x8x2048x32 .f32) j).toReal : EReal))
    ∧ (∀ j, (m (c.tc.loc main_arg2) : Vec Ideal S8x2048x128 .f32) j = (((m (c.tc.loc main_arg2) : Vec Ideal S8x2048x128 .f32) j).toReal : EReal))
    ∧ (∀ j, (m (c.tc.loc main_arg3) : Vec Ideal S8x2048x32 .f32) j = (((m (c.tc.loc main_arg3) : Vec Ideal S8x2048x32 .f32) j).toReal : EReal)) := by
  have e := congrFun (h c) (fun k => k.elim0)
  dsimp only [Cert.Pre_finite.fn, Cert.Pre_finite.fn_part1] at e
  obtain ⟨e, e3⟩ := IntOp.andi_eq_one.1 e
  obtain ⟨e, e2⟩ := IntOp.andi_eq_one.1 e
  obtain ⟨e0, e1⟩ := IntOp.andi_eq_one.1 e
  exact ⟨fun j => real_of_lt (Host.reduce_andi_all _ _ _ _ _ e0 j), fun j => real_of_lt (Host.reduce_andi_all _ _ _ _ _ e1 j),
    fun j => real_of_lt (Host.reduce_andi_all _ _ _ _ _ e2 j), fun j => real_of_lt (Host.reduce_andi_all _ _ _ _ _ e3 j)⟩

end Cert.Mla

end
-- ==== Proof.MlaEqKernelIdeal.lean ====
/- The printed body is the program of pieces. -/
module

public import proofs.«01_k».proof.Proof.MlaProg
public import proofs.«01_k».proof.Proof.Gen.KernelIdeal
public import Idealize.ShloMosaic.Lib.Pipeline.Regions

@[expose] public section

set_option maxRecDepth 100000

noncomputable section

namespace Cert.Mla.KernelIdeal

open Idealize.ShloMosaic Idealize.SL.Sem Cert.KernelIdeal

variable {F : FTy → Type} [FloatOps F] [Named F]

/-- The buffers of the body. -/
abbrev bufs (arg2 : Memref sig .tc .vmem S128x2048 .bf16) (harg2 : arg2.IsWhole) (arg3 : Memref sig .tc .vmem S2048x256 .bf16) (harg3 : arg3.IsWhole) (arg4 : Memref sig .tc .vmem S4x256x128 .bf16) (harg4 : arg4.IsWhole) (arg5 : Memref sig .tc .vmem S128x512 .bf16) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .bf16) (harg9 : arg9.IsWhole) (arg10 : Memref sig .tc .vmem S1024x256 .bf16) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) : Bufs sig :=
  ⟨arg2, arg3, arg4, arg5, harg5, arg6, harg6, fun b => match b with | false => arg7 | true => arg8,
    fun b => match b with | false => arg9 | true => arg10, fun b => match b with | false => harg9 | true => harg10,
    fun b => match b with | false => arg11 | true => arg12, arg13, arg14, arg15⟩

theorem body_eq (i : grid0.Coords) (arg2 : Memref sig .tc .vmem S128x2048 .bf16) (harg2 : arg2.IsWhole) (arg3 : Memref sig .tc .vmem S2048x256 .bf16) (harg3 : arg3.IsWhole) (arg4 : Memref sig .tc .vmem S4x256x128 .bf16) (harg4 : arg4.IsWhole) (arg5 : Memref sig .tc .vmem S128x512 .bf16) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .bf16) (harg9 : arg9.IsWhole) (arg10 : Memref sig .tc .vmem S1024x256 .bf16) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) :
    cc0_mla_prompt (F := F) i arg2 harg2 arg3 harg3 arg4 harg4 arg5 harg5 arg6 harg6 arg7 harg7 arg8 harg8 arg9 harg9 arg10 harg10 arg11 harg11 arg12 harg12 arg13 harg13 arg14 harg14 arg15 harg15 = body (bufs arg2 harg2 arg3 harg3 arg4 harg4 arg5 harg5 arg6 harg6 arg7 harg7 arg8 harg8 arg9 harg9 arg10 harg10 arg11 harg11 arg12 harg12 arg13 harg13 arg14 harg14 arg15 harg15) (Named.named κ "mask" 0xF149F2CA#32) i
      (fun k => k0_part140 i arg2 harg2 arg3 harg3 arg4 harg4 arg5 harg5 arg6 harg6 arg7 harg7 arg8 harg8 arg9 harg9 arg10 harg10 arg11 harg11 arg12 harg12 arg13 harg13 arg14 harg14 arg15 harg15 (k0_t1_loop i).ub 1#32 k) := by
  chain_rfl

end Cert.Mla.KernelIdeal

end
-- ==== Proof.MlaFrameKernelIdeal.lean ====
/- The frame of the latent attention (at the ideal): the body's run at every point of the grid, and the launch. -/
module

public import proofs.«01_k».proof.Proof.MlaEqKernelIdeal
public import proofs.«01_k».proof.Proof.MlaClosed
public import proofs.«01_k».proof.Proof.Gen.KernelIdeal.Frame
public import Idealize.ShloMosaic.Lib.Claim

@[expose] public section

set_option maxRecDepth 16384

noncomputable section

namespace Cert.Mla.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The output block of point `i`. -/
abbrev outAt (i : grid0.Coords) (xq : Vec F S128x2048 .bf16) (xk : Vec F S2048x256 .bf16) (xw : Vec F S4x256x128 .bf16) : Vec F S128x512 .bf16 :=
  outF (Named.named Cert.KernelIdeal.κ "mask" 0xF149F2CA#32) i xq xk xw

/-- The body from any contents of its buffers: the three inputs stay, the output block is theirs, the scratch holds something. -/
theorem sound_kernel (c : Dev nD) (E : Set ℕ) (i : grid0.Coords) (arg2 : Memref sig .tc .vmem S128x2048 .bf16) (harg2 : arg2.IsWhole) (arg3 : Memref sig .tc .vmem S2048x256 .bf16) (harg3 : arg3.IsWhole) (arg4 : Memref sig .tc .vmem S4x256x128 .bf16) (harg4 : arg4.IsWhole) (arg5 : Memref sig .tc .vmem S128x512 .bf16) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .bf16) (harg9 : arg9.IsWhole) (arg10 : Memref sig .tc .vmem S1024x256 .bf16) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole)
    (xq : Vec F S128x2048 .bf16) (xk : Vec F S2048x256 .bf16) (xw : Vec F S4x256x128 .bf16) (K : PUnit → sProp 𝕄) :
    iprop(owns (c : Thread nD τ) arg2 fullShare xq ∗ owns (c : Thread nD τ) arg3 fullShare xk ∗ owns (c : Thread nD τ) arg4 fullShare xw
    ∗ (∃ d, owns (c : Thread nD τ) arg5 fullShare d)
    ∗ (∃ d, owns (c : Thread nD τ) arg6 fullShare d)
    ∗ (∃ d, owns (c : Thread nD τ) arg7 fullShare d)
    ∗ (∃ d, owns (c : Thread nD τ) arg8 fullShare d)
    ∗ (∃ d, owns (c : Thread nD τ) arg9 fullShare d)
    ∗ (∃ d, owns (c : Thread nD τ) arg10 fullShare d)
    ∗ (∃ d, owns (c : Thread nD τ) arg11 fullShare d)
    ∗ (∃ d, owns (c : Thread nD τ) arg12 fullShare d)
    ∗ (∃ d, owns (c : Thread nD τ) arg13 fullShare d)
    ∗ (∃ d, owns (c : Thread nD τ) arg14 fullShare d)
    ∗ (∃ d, owns (c : Thread nD τ) arg15 fullShare d)
    ∗ (owns (c : Thread nD τ) arg2 fullShare xq ∗ owns (c : Thread nD τ) arg3 fullShare xk ∗ owns (c : Thread nD τ) arg4 fullShare xw
    ∗ owns (c : Thread nD τ) arg5 fullShare (outAt i xq xk xw)
    ∗ (∃ d, owns (c : Thread nD τ) arg6 fullShare d)
    ∗ (∃ d, owns (c : Thread nD τ) arg7 fullShare d)
    ∗ (∃ d, owns (c : Thread nD τ) arg8 fullShare d)
    ∗ (∃ d, owns (c : Thread nD τ) arg9 fullShare d)
    ∗ (∃ d, owns (c : Thread nD τ) arg10 fullShare d)
    ∗ (∃ d, owns (c : Thread nD τ) arg11 fullShare d)
    ∗ (∃ d, owns (c : Thread nD τ) arg12 fullShare d)
    ∗ (∃ d, owns (c : Thread nD τ) arg13 fullShare d)
    ∗ (∃ d, owns (c : Thread nD τ) arg14 fullShare d)
    ∗ (∃ d, owns (c : Thread nD τ) arg15 fullShare d) -∗ K ⟨⟩))
      ⊢ wp frame (wpE (defs₀ (F := F)) Variants.none (c : Thread nD τ) none) E (cc0_mla_prompt (F := F) i arg2 harg2 arg3 harg3 arg4 harg4 arg5 harg5 arg6 harg6 arg7 harg7 arg8 harg8 arg9 harg9 arg10 harg10 arg11 harg11 arg12 harg12 arg13 harg13 arg14 harg14 arg15 harg15) K := by
  rw [body_eq]
  iintro ⟨Hq, Hk, Hw, ⟨%zo, Ho⟩, ⟨%zqs, Hqs⟩, ⟨%zs0, Hs0⟩, ⟨%zs1, Hs1⟩, ⟨%zp0, Hp0⟩, ⟨%zp1, Hp1⟩, ⟨%za0, Ha0⟩, ⟨%za1, Ha1⟩, ⟨%zm, Hm⟩, ⟨%zl, Hl⟩, ⟨%zacc, Hacc⟩, HK⟩
  obtain ⟨eq, ek, ew, eo⟩ := bodySt_eq (Named.named Cert.KernelIdeal.κ "mask" 0xF149F2CA#32) i
    (⟨xq, xk, xw, zo, zqs, fun b => match b with | false => zs0 | true => zs1, fun b => match b with | false => zp0 | true => zp1,
      fun b => match b with | false => za0 | true => za1, zm, zl, zacc⟩ : St F)
  iapply (run_body (Ix := Unit) (Name := ℕ) (U := UR sig nD τ) (Lvl := ℕ) (defs := defs₀ (F := F)) (𝒱 := Variants.none) (bd := none) (E := E) (c := c)
    (B := bufs arg2 harg2 arg3 harg3 arg4 harg4 arg5 harg5 arg6 harg6 arg7 harg7 arg8 harg8 arg9 harg9 arg10 harg10 arg11 harg11 arg12 harg12 arg13 harg13 arg14 harg14 arg15 harg15) (Named.named Cert.KernelIdeal.κ "mask" 0xF149F2CA#32) i _ (Nat.le_zero.1 (k0_t2_abs i).2.1)
    (⟨xq, xk, xw, zo, zqs, fun b => match b with | false => zs0 | true => zs1, fun b => match b with | false => zp0 | true => zp1,
      fun b => match b with | false => za0 | true => za1, zm, zl, zacc⟩ : St F) K) $$ [Hq Hk Hw Ho Hqs Hs0 Hs1 Hp0 Hp1 Ha0 Ha1 Hm Hl Hacc]
  · unfold Holds
    isplitl [Hq]; · iexact Hq
    isplitl [Hk]; · iexact Hk
    isplitl [Hw]; · iexact Hw
    isplitl [Ho]; · iexact Ho
    isplitl [Hqs]; · iexact Hqs
    isplitl [Hs0]; · iexact Hs0
    isplitl [Hs1]; · iexact Hs1
    isplitl [Hp0]; · iexact Hp0
    isplitl [Hp1]; · iexact Hp1
    isplitl [Ha0]; · iexact Ha0
    isplitl [Ha1]; · iexact Ha1
    isplitl [Hm]; · iexact Hm
    isplitl [Hl]; · iexact Hl
    iexact Hacc
  generalize (bodySt (F := F) (Named.named Cert.KernelIdeal.κ "mask" 0xF149F2CA#32) i _ : St F) = σ' at eq ek ew eo ⊢
  dsimp only at eq ek ew eo
  subst eq ek ew
  iintro H
  unfold Holds
  icases H with ⟨Hq, Hk, Hw, Ho, Hqs, Hs0, Hs1, Hp0, Hp1, Ha0, Ha1, Hm, Hl, Hacc⟩
  iapply HK
  isplitl [Hq]; · iexact Hq
  isplitl [Hk]; · iexact Hk
  isplitl [Hw]; · iexact Hw
  isplitl [Ho]; · unfold outAt; rw [← eo]; iexact Ho
  isplitl [Hqs]; · iexists _; iexact Hqs
  isplitl [Hs0]; · iexists _; iexact Hs0
  isplitl [Hs1]; · iexists _; iexact Hs1
  isplitl [Hp0]; · iexists _; iexact Hp0
  isplitl [Hp1]; · iexists _; iexact Hp1
  isplitl [Ha0]; · iexists _; iexact Ha0
  isplitl [Ha1]; · iexists _; iexact Ha1
  isplitl [Hm]; · iexists _; iexact Hm
  isplitl [Hl]; · iexists _; iexact Hl
  iexists _; iexact Hacc

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt (grid0.coords t) (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outAt (grid0.coords t) (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The invariant as the ten scratch buffers, each at some contents, and the generator register. -/
theorem inv_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d)) ∗ (∃ r, prngReg c r)) := by
  unfold Pipeline.ΦA; rw [scopedRest0_eq]; simp only [owns_whole]; try rfl

/-! ## The body at every point -/

theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d)))
    ⊢ wp frame (wpE (defs₀ (F := F)) Variants.none c none) Set.univ (bodyAt0 t) (fun _ =>
      iprop((dats m 0 c).Φ t.succ ∗ (dats m 0 c).owesAt () t.succ
      ∗ owns (c : Thread nD τ) (st0_0 t) fullShare ((dats m 0 c).after 0 t)
      ∗ owns (c : Thread nD τ) (st0_1 t) fullShare ((dats m 0 c).after 1 t)
      ∗ owns (c : Thread nD τ) (st0_2 t) fullShare ((dats m 0 c).after 2 t)
      ∗ owns (c : Thread nD τ) (st0_3 t) fullShare ((dats m 0 c).after 3 t))) := by
  unfold bodyAt0
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, inv_eq]
  iintro ⟨⟨⟨S0, S1, S2, S3, S4, S5, S6, S7, S8, S9⟩, Hg⟩, Ho, ⟨%d0, H0⟩, ⟨%d1, H1⟩, ⟨%d2, H2⟩, ⟨%d3, H3⟩⟩
  iapply (sound_kernel c Set.univ (grid0.coords t) _ _ _ _ _ _ _ _ _ _ _ _ _ _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  iintro ⟨H0, H1, H2, H3, S0, S1, S2, S3, S4, S5, S6, S7, S8, S9⟩
  isplitl [Hg S0 S1 S2 S3 S4 S5 S6 S7 S8 S9]
  · isplitl [S0 S1 S2 S3 S4 S5 S6 S7 S8 S9]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      iexact S9
    iexact Hg
  isplitl [Ho]; · iexact Ho
  isplitl [H0]; · iexact H0
  isplitl [H1]; · iexact H1
  isplitl [H2]; · iexact H2
  iexact H3

theorem row_eq (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-! ## The launch -/

set_option backward.isDefEq.respectTransparency.types false in
set_option maxHeartbeats 800000 in
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_quiescent m ρ)

/-- The frame: the arguments end as launched, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run m ρ)) ((θ_run defs _ _).mono (fun _ h => h.2) (run_quiescent m ρ))

end Cert.Mla.KernelIdeal

end
-- ==== Proof.MlaArr.lean ====
/- The kernel's result array, read at an element: the reference's. -/
module

public import proofs.«01_k».proof.Proof.MlaCore
public import proofs.«01_k».proof.Proof.MlaHost
public import proofs.«01_k».proof.Proof.MlaPre
public import proofs.«01_k».proof.Proof.MlaFrameKernelIdeal
public import Idealize.ShloMosaic.Lib.Pipeline.Value

@[expose] public section

noncomputable section

namespace Cert.Mla

open Idealize.ShloMosaic Idealize.ShloMosaic.TcCoe Idealize.SL.Sem Cert.KernelIdeal Cert.KernelIdeal.Gen
open Cert.Mla.KernelIdeal (dats A_eq after0_3 run outAt)

variable (m : (ℓ : Loc nD τ sig) → Buf (Elt Ideal) ℓ) (ρ : Dev nD → PrngReg)

/-! ## The windows -/

theorem idx : ∀ t : Fin cfg0.N,
    (win0_0.index t (0 : Fin 2) = t.val ∧ win0_0.index t (1 : Fin 2) = 0)
    ∧ (win0_1.index t (0 : Fin 2) = t.val / 16 ∧ win0_1.index t (1 : Fin 2) = 0)
    ∧ (win0_2.index t (0 : Fin 3) = 0 ∧ win0_2.index t (1 : Fin 3) = 0 ∧ win0_2.index t (2 : Fin 3) = 0)
    ∧ (win0_3.index t (0 : Fin 2) = t.val ∧ win0_3.index t (1 : Fin 2) = 0)
    ∧ (grid0.coords t 1).val = t.val % 16 :=
  (by decide +kernel : ∀ t : Fin grid0.N, _)

/-- The array row of row `r` of block `t`. -/
def row (t : Fin cfg0.N) (r : Fin 128) : Fin 16384 := ⟨t.val * 128 + r.val, by have := t.isLt; have h : cfg0.N = 128 := rfl; omega⟩

/-- The array row of key `n` of the batch block `t` belongs to. -/
def key (t : Fin cfg0.N) (n : Fin 2048) : Fin 16384 := ⟨t.val / 16 * 2048 + n.val, by have := t.isLt; have h : cfg0.N = 128 := rfl; omega⟩

theorem emb0 (t : Fin cfg0.N) (r : Fin 128) (e : Fin 2048) :
    ((cfg0.win 0).blk t).view.emb (ix2 r e : S128x2048.Idx) = (ix2 (row t r) e : S16384x2048.Idx) := by
  obtain ⟨⟨e0, e1⟩, -⟩ := idx t
  funext a; apply Fin.ext
  match a with
  | ⟨0, _⟩ => show win0_0.index t (0 : Fin 2) * 128 + 1 * r.val = t.val * 128 + r.val; omega
  | ⟨1, _⟩ => show win0_0.index t (1 : Fin 2) * 2048 + 1 * e.val = e.val; omega

theorem emb1 (t : Fin cfg0.N) (n : Fin 2048) (e : Fin 256) :
    ((cfg0.win 1).blk t).view.emb (ix2 n e : S2048x256.Idx) = (ix2 (key t n) e : S16384x256.Idx) := by
  obtain ⟨-, ⟨e0, e1⟩, -⟩ := idx t
  funext a; apply Fin.ext
  match a with
  | ⟨0, _⟩ => show win0_1.index t (0 : Fin 2) * 2048 + 1 * n.val = t.val / 16 * 2048 + n.val; omega
  | ⟨1, _⟩ => show win0_1.index t (1 : Fin 2) * 256 + 1 * e.val = e.val; omega

theorem emb2 (t : Fin cfg0.N) (j : S4x256x128.Idx) : ((cfg0.win 2).blk t).view.emb j = j := by
  obtain ⟨-, -, ⟨e0, e1, e2⟩, -⟩ := idx t
  funext a; apply Fin.ext
  match a with
  | ⟨0, _⟩ => show win0_2.index t (0 : Fin 3) * 4 + 1 * (j 0).val = (j 0).val; omega
  | ⟨1, _⟩ => show win0_2.index t (1 : Fin 3) * 256 + 1 * (j 1).val = (j 1).val; omega
  | ⟨2, _⟩ => show win0_2.index t (2 : Fin 3) * 128 + 1 * (j 2).val = (j 2).val; omega

theorem emb3 (t : Fin cfg0.N) (r : Fin 128) (C : Fin 512) :
    ((cfg0.win 3).blk t).view.emb (ix2 r C : S128x512.Idx) = (ix2 (row t r) C : S16384x512.Idx) := by
  obtain ⟨-, -, -, ⟨e0, e1⟩, -⟩ := idx t
  funext a; apply Fin.ext
  match a with
  | ⟨0, _⟩ => show win0_3.index t (0 : Fin 2) * 128 + 1 * r.val = t.val * 128 + r.val; omega
  | ⟨1, _⟩ => show win0_3.index t (1 : Fin 2) * 512 + 1 * C.val = C.val; omega

/-! ## The blocks written back -/

theorem flushed3 (c : Dev nD) (t : Fin cfg0.N) :
    (dats m 0 c).flushed 3 t = (cfg0.win 3).cut (grid0.coords t) (outAt (grid0.coords t) (iblk m c 0 t) (iblk m c 1 t) (iblk m c 2 t)) := by
  show (cfg0.win 3).cut (grid0.coords t) ((dats m 0 c).after 3 t) = _
  rw [after0_3]

theorem idx_inj3 (t t' : Fin cfg0.N) (h : win0_3.index t = win0_3.index t') : t = t' := by
  have e := congrFun h (0 : Fin 2)
  obtain ⟨-, -, -, ⟨e0, _⟩, -⟩ := idx t
  obtain ⟨-, -, -, ⟨e0', _⟩, -⟩ := idx t'
  exact Fin.ext (e0.symm.trans (e.trans e0'))

theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

theorem blocks3 (c : Dev nD) (t : Fin cfg0.N) :
    ((cfg0.win 3).blk t).view.read (Elt Ideal) ((dats m 0 c).arrAt 3 cfg0.N) = (dats m 0 c).flushed 3 t :=
  (dats m 0 c).read_blk_arrAt_eq_flushed 3 disjoint3 cfg0.N t t.isLt (flush0_3 t)

theorem run_blocks : θ_run defs (onTc (τ := τ) (main (F := Ideal))) ⟨m, fun _ => 0, ρ⟩ fun r => ∀ c : Dev nD,
      r.2.mem ((c : Thread nD τ).loc main_v41) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 3,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run m ρ)

/-! ## The input blocks -/

variable (c : Dev nD)

theorem blk0 (t : Fin cfg0.N) (r : Fin 128) (e : Fin 2048) :
    (iblk m c 0 t : Vec Ideal S128x2048 .bf16) (ix2 r e) = qArr (m (c.tc.loc main_arg0)) (m (c.tc.loc main_arg1)) (ix2 (row t r) e) :=
  (congrArg (V m c main_v8) (emb0 t r e)).trans (congrFun (v8_eq m c) _)
theorem blk1 (t : Fin cfg0.N) (n : Fin 2048) (e : Fin 256) :
    (iblk m c 1 t : Vec Ideal S2048x256 .bf16) (ix2 n e) = kArr (m (c.tc.loc main_arg2)) (m (c.tc.loc main_arg3)) (ix2 (key t n) e) :=
  (congrArg (V m c main_v12) (emb1 t n e)).trans (congrFun (v12_eq m c) _)
theorem blk2 (t : Fin cfg0.N) (j : S4x256x128.Idx) :
    (iblk m c 2 t : Vec Ideal S4x256x128 .bf16) j = wArr (m (c.tc.loc main_arg4)) j :=
  (congrArg (V m c main_v40) (emb2 t j)).trans (congrFun (v40_eq m c) _)

/-- The batch and the position of row `r` of block `t`. -/
def bat (t : Fin cfg0.N) : Fin 8 := ⟨t.val / 16, by have := t.isLt; have h : cfg0.N = 128 := rfl; omega⟩
def pos (t : Fin cfg0.N) (r : Fin 128) : Fin 2048 := ⟨t.val % 16 * 128 + r.val, by omega⟩

theorem row_div_eq (t : Fin cfg0.N) (r : Fin 128) : (⟨(row t r).val / 2048, by omega⟩ : Fin 8) = bat t := by
  apply Fin.ext; show (t.val * 128 + r.val) / 2048 = t.val / 16; omega
theorem row_mod_eq (t : Fin cfg0.N) (r : Fin 128) : (⟨(row t r).val % 2048, by omega⟩ : Fin 2048) = pos t r := by
  apply Fin.ext; show (t.val * 128 + r.val) % 2048 = t.val % 16 * 128 + r.val; omega
theorem key_div_eq (t : Fin cfg0.N) (n : Fin 2048) : (⟨(key t n).val / 2048, by omega⟩ : Fin 8) = bat t := by
  apply Fin.ext; show (t.val / 16 * 2048 + n.val) / 2048 = t.val / 16; omega
theorem key_mod_eq (t : Fin cfg0.N) (n : Fin 2048) : (⟨(key t n).val % 2048, by omega⟩ : Fin 2048) = n := by
  apply Fin.ext; show (t.val / 16 * 2048 + n.val) % 2048 = n.val; omega

/-- One head's query lanes, and one key's. -/
def qLane (x : Vec Ideal S8x8x2048x128 .f32) (y : Vec Ideal S8x8x2048x32 .f32) (b h : Fin 8) (t : Fin 2048) : Fin 256 → EReal :=
  lanes (fun e => x (ix4 b h t e) * Ideal.ofBits .f32 0x3DD105EC#32) (fun e => y (ix4 b h t e) * Ideal.ofBits .f32 0x3DD105EC#32)
def kLane (x : Vec Ideal S8x2048x128 .f32) (y : Vec Ideal S8x2048x32 .f32) (b : Fin 8) (n : Fin 2048) : Fin 256 → EReal :=
  lanes (fun e => x (ix3 b n e)) (fun e => y (ix3 b n e))

theorem q_lanes (t : Fin cfg0.N) (r : Fin 128) (h : Fin 8) (e : Fin 256) :
    (iblk m c 0 t : Vec Ideal S128x2048 .bf16) (ix2 r ⟨256 * h.val + e.val, by omega⟩)
    = qLane (m (c.tc.loc main_arg0)) (m (c.tc.loc main_arg1)) (bat t) h (pos t r) e := by
  rw [blk0, qArr_at, row_div_eq, row_mod_eq]; rfl
theorem k_lanes (t : Fin cfg0.N) (n : Fin 2048) (e : Fin 256) :
    (iblk m c 1 t : Vec Ideal S2048x256 .bf16) (ix2 n e)
    = kLane (m (c.tc.loc main_arg2)) (m (c.tc.loc main_arg3)) (bat t) n e := by
  rw [blk1, kArr_at, key_div_eq, key_mod_eq]; rfl

/-- The kernel's average of head `h`'s query `t`. -/
abbrev avgAt (b h : Fin 8) (t : Fin 2048) (e : Fin 128) : EReal :=
  avg (m (c.tc.loc main_arg0)) (m (c.tc.loc main_arg1)) (m (c.tc.loc main_arg2)) (m (c.tc.loc main_arg3)) b h t e

theorem quot_eq (hfin : Cert.Pre_KernelIdeal_finite m) (t : Fin cfg0.N) (r : Fin 128) (h : Fin 8) (e : Fin 128) :
    divf (F := Ideal) (φ := .f32) (final (F := Ideal) ⊥ (grid0.coords t) (stack (iblk m c 0 t)) (iblk m c 1 t)).acc (final (F := Ideal) ⊥ (grid0.coords t) (stack (iblk m c 0 t)) (iblk m c 1 t)).l
      (ix2 ⟨128 * h.val + r.val, by omega⟩ e) = avgAt m c (bat t) h (pos t r) e := by
  obtain ⟨f0, f1, f2, f3⟩ := finite_args m hfin c
  have hs := fun s : Fin 2048 => scaled_eq (fun e => f0 (ix4 (bat t) h (pos t r) e)) (fun e => f2 (ix3 (bat t) s e))
    (fun e => f1 (ix4 (bat t) h (pos t r) e)) (fun e => f3 (ix3 (bat t) s e))
  choose X hX hK using hs
  have hq : ∀ e : Fin 256, (stack (iblk m c 0 t : Vec Ideal S128x2048 .bf16) (ix2 ⟨128 * h.val + r.val, by omega⟩ e))
      = (iblk m c 0 t : Vec Ideal S128x2048 .bf16) (ix2 r ⟨256 * h.val + e.val, by omega⟩) := fun e => by
    unfold stack
    refine congrArg (iblk m c 0 t : Vec Ideal S128x2048 .bf16) ?_
    congr 1 <;> apply Fin.ext
    · show (128 * h.val + r.val) % 128 = r.val; omega
    · show 256 * ((128 * h.val + r.val) / 128) + e.val = 256 * h.val + e.val; omega
  have key := quot_att (i := grid0.coords t) (qs := stack (iblk m c 0 t)) (k := iblk m c 1 t) (R := ⟨128 * h.val + r.val, by omega⟩)
    (x := fun n => if hn : n < 2048 then X ⟨n, hn⟩ else 0)
    (v := fun a n => if hn : n < 2048 then ((m (c.tc.loc main_arg2) : Vec Ideal S8x2048x128 .f32) (ix3 (bat t) ⟨n, hn⟩ a)).toReal else 0)
    (fun n hn => by
      simp only [hq, q_lanes, k_lanes, dif_pos hn]
      unfold qLane kLane
      rw [sum_lanes]
      exact hK _)
    (fun a n hn => by
      rw [k_lanes]
      simp only [dif_pos hn]
      refine Eq.trans ?_ (f2 _)
      exact dif_pos a.isLt) e
  refine (show _ = _ from key).trans ?_
  have hp : 128 * (grid0.coords t 1).val + (128 * h.val + r.val) % 128 = (pos t r).val := by
    obtain ⟨-, -, -, -, e1⟩ := idx t
    show _ = t.val % 16 * 128 + r.val
    omega
  rw [show 128 * (grid0.coords t 1).val + ((⟨128 * h.val + r.val, by omega⟩ : Fin 1024)).val % 128 = (pos t r).val from hp]
  refine (ref_att (fun s => ?_) (fun s => ?_)).symm
  · refine (hX s).trans ?_
    simp only [dif_pos s.isLt]
  · refine (f2 _).trans ?_
    simp only [dif_pos s.isLt]

theorem weights_at (w : Vec Ideal S4x256x128 .bf16) (p : Nat) (hp : p < 4) (e : Fin 256) (a : Fin 128) :
    VecWindow.window w ![p, 0, 0] S1x256x128.size (inbW p hp) (ix3 (0 : Fin 1) e a : S1x256x128.Idx) = w (ix3 ⟨p, hp⟩ e a) := by
  refine congrArg w ?_
  funext k; apply Fin.ext
  match k with
  | ⟨0, _⟩ => show p + 1 * 0 = p; omega
  | ⟨1, _⟩ => show 0 + 1 * e.val = e.val; omega
  | ⟨2, _⟩ => show 0 + 1 * a.val = a.val; omega

theorem out_row (hfin : Cert.Pre_KernelIdeal_finite m) (t : Fin cfg0.N) (r : Fin 128) (C : Fin 512) :
    outAt (F := Ideal) (grid0.coords t) (iblk m c 0 t) (iblk m c 1 t) (iblk m c 2 t) (ix2 r C)
    = value (m (c.tc.loc main_arg4)) (fun h e => avgAt m c (bat t) h (pos t r) e) C := by
  have hC := C.isLt
  refine (outVal_at (C.val / 128) (by omega) _ _ r ⟨C.val % 128, by omega⟩).trans ?_
  unfold value
  have q1 : ∀ e, _ := fun e => quot_eq m c hfin t r ⟨2 * (C.val / 128), by omega⟩ e
  have q2 : ∀ e, _ := fun e => quot_eq m c hfin t r ⟨2 * (C.val / 128) + 1, by omega⟩ e
  have w1 : ∀ e : Fin 128, _ := fun e => (weights_at (iblk m c 2 t) (C.val / 128) (by omega) ⟨e.val, by omega⟩ ⟨C.val % 128, by omega⟩).trans
    ((blk2 m c t _).trans (wArr_lo (m (c.tc.loc main_arg4)) ⟨C.val / 128, by omega⟩ e ⟨C.val % 128, by omega⟩))
  have w2 : ∀ e : Fin 128, _ := fun e => (weights_at (iblk m c 2 t) (C.val / 128) (by omega) ⟨128 + e.val, by omega⟩ ⟨C.val % 128, by omega⟩).trans
    ((blk2 m c t _).trans (wArr_hi (m (c.tc.loc main_arg4)) ⟨C.val / 128, by omega⟩ e ⟨C.val % 128, by omega⟩))
  refine (congrArg₂ (· + ·) (Finset.sum_congr rfl fun e _ => congrArg₂ (· * ·) (q1 e) (w1 e)) (Finset.sum_congr rfl fun e _ => congrArg₂ (· * ·) (q2 e) (w2 e))).trans ?_
  by_cases ha : C.val % 128 < 64
  · simp only [dif_pos ha, mul_zero, Finset.sum_const_zero, add_zero]
    refine Finset.sum_congr rfl fun e _ => ?_
    rw [mul_comm]
    have e1 : (⟨2 * (C.val / 128), by omega⟩ : Fin 8) = ⟨C.val / 64, by omega⟩ := Fin.ext (by show 2 * (C.val / 128) = C.val / 64; omega)
    have e2 : (⟨C.val % 128, ha⟩ : Fin 64) = ⟨C.val % 64, by omega⟩ := Fin.ext (by show C.val % 128 = C.val % 64; omega)
    rw [e1, e2]
  · simp only [dif_neg ha, mul_zero, Finset.sum_const_zero, zero_add]
    refine Finset.sum_congr rfl fun e _ => ?_
    rw [mul_comm]
    have e1 : (⟨2 * (C.val / 128) + 1, by omega⟩ : Fin 8) = ⟨C.val / 64, by omega⟩ := Fin.ext (by show 2 * (C.val / 128) + 1 = C.val / 64; omega)
    have e2 : (⟨C.val % 128 - 64, by omega⟩ : Fin 64) = ⟨C.val % 64, by omega⟩ := Fin.ext (by show C.val % 128 - 64 = C.val % 64; omega)
    rw [e1, e2]

theorem arr_row (hfin : Cert.Pre_KernelIdeal_finite m) (t : Fin cfg0.N) (r : Fin 128) (C : Fin 512) :
    ((dats m 0 c).arrAt 3 cfg0.N : Vec Ideal S16384x512 .bf16) (ix2 (row t r) C)
    = value (m (c.tc.loc main_arg4)) (fun h e => avgAt m c (bat t) h (pos t r) e) C := by
  have hb := congrFun (blocks3 m c t) (ix2 r C : S128x512.Idx)
  rw [flushed3] at hb
  have hb' : ((dats m 0 c).arrAt 3 cfg0.N : Vec Ideal S16384x512 .bf16) (((cfg0.win 3).blk t).view.emb (ix2 r C : S128x512.Idx))
      = outAt (F := Ideal) (grid0.coords t) (iblk m c 0 t) (iblk m c 1 t) (iblk m c 2 t) (ix2 r C) := hb
  rw [emb3, out_row m c hfin] at hb'
  exact hb'

/-- The kernel's result is the reference's. -/
theorem arr_eq (hfin : Cert.Pre_KernelIdeal_finite m) (m' : (ℓ : Loc Cert.ReferenceIdeal.nD Cert.ReferenceIdeal.τ Cert.ReferenceIdeal.sig) → Buf (Elt Ideal) ℓ)
    (h0 : m' (c.tc.loc Cert.ReferenceIdeal.main_arg0) = m (c.tc.loc main_arg0))
    (h1 : m' (c.tc.loc Cert.ReferenceIdeal.main_arg1) = m (c.tc.loc main_arg1))
    (h2 : m' (c.tc.loc Cert.ReferenceIdeal.main_arg2) = m (c.tc.loc main_arg2))
    (h3 : m' (c.tc.loc Cert.ReferenceIdeal.main_arg3) = m (c.tc.loc main_arg3))
    (h4 : m' (c.tc.loc Cert.ReferenceIdeal.main_arg4) = m (c.tc.loc main_arg4)) :
    (Cert.ReferenceIdeal.Value.res_out0 m' c : Vec Ideal S16384x512 .bf16) = ((dats m 0 c).arrAt 3 cfg0.N : Vec Ideal S16384x512 .bf16) := by
  rw [Ref.res_eq, h0, h1, h2, h3, h4]
  funext i
  obtain ⟨R, C, rfl⟩ : ∃ (R : Fin 16384) (C : Fin 512), i = ix2 R C := ⟨i 0, i 1, eq_ix2 i⟩
  have hN : cfg0.N = 128 := rfl
  obtain ⟨t, r, rfl⟩ : ∃ t r, R = row t r := ⟨⟨R.val / 128, by omega⟩, ⟨R.val % 128, by omega⟩,
    Fin.ext (by show R.val = R.val / 128 * 128 + R.val % 128; omega)⟩
  rw [arr_row m c hfin]
  refine (Ref.out_at _ _ _ _ _).trans ?_
  simp only [row_div_eq, row_mod_eq]
  rfl

end Cert.Mla

end
-- ==== Proof.MlaEqKernel.lean ====
/- The printed body is the program of pieces. -/
module

public import proofs.«01_k».proof.Proof.MlaProg
public import proofs.«01_k».proof.Proof.Gen.Kernel
public import Idealize.ShloMosaic.Lib.Pipeline.Regions

@[expose] public section

set_option maxRecDepth 100000

noncomputable section

namespace Cert.Mla.Kernel

open Idealize.ShloMosaic Idealize.SL.Sem Cert.Kernel

variable {F : FTy → Type} [FloatOps F]

/-- The buffers of the body. -/
abbrev bufs (arg2 : Memref sig .tc .vmem S128x2048 .bf16) (harg2 : arg2.IsWhole) (arg3 : Memref sig .tc .vmem S2048x256 .bf16) (harg3 : arg3.IsWhole) (arg4 : Memref sig .tc .vmem S4x256x128 .bf16) (harg4 : arg4.IsWhole) (arg5 : Memref sig .tc .vmem S128x512 .bf16) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .bf16) (harg9 : arg9.IsWhole) (arg10 : Memref sig .tc .vmem S1024x256 .bf16) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) : Bufs sig :=
  ⟨arg2, arg3, arg4, arg5, harg5, arg6, harg6, fun b => match b with | false => arg7 | true => arg8,
    fun b => match b with | false => arg9 | true => arg10, fun b => match b with | false => harg9 | true => harg10,
    fun b => match b with | false => arg11 | true => arg12, arg13, arg14, arg15⟩

theorem body_eq (i : grid0.Coords) (arg2 : Memref sig .tc .vmem S128x2048 .bf16) (harg2 : arg2.IsWhole) (arg3 : Memref sig .tc .vmem S2048x256 .bf16) (harg3 : arg3.IsWhole) (arg4 : Memref sig .tc .vmem S4x256x128 .bf16) (harg4 : arg4.IsWhole) (arg5 : Memref sig .tc .vmem S128x512 .bf16) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .bf16) (harg9 : arg9.IsWhole) (arg10 : Memref sig .tc .vmem S1024x256 .bf16) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) :
    cc0_mla_prompt (F := F) i arg2 harg2 arg3 harg3 arg4 harg4 arg5 harg5 arg6 harg6 arg7 harg7 arg8 harg8 arg9 harg9 arg10 harg10 arg11 harg11 arg12 harg12 arg13 harg13 arg14 harg14 arg15 harg15 = body (bufs arg2 harg2 arg3 harg3 arg4 harg4 arg5 harg5 arg6 harg6 arg7 harg7 arg8 harg8 arg9 harg9 arg10 harg10 arg11 harg11 arg12 harg12 arg13 harg13 arg14 harg14 arg15 harg15) (Scalar.ofBits .f32 0xF149F2CA#32) i
      (fun k => k0_part140 i arg2 harg2 arg3 harg3 arg4 harg4 arg5 harg5 arg6 harg6 arg7 harg7 arg8 harg8 arg9 harg9 arg10 harg10 arg11 harg11 arg12 harg12 arg13 harg13 arg14 harg14 arg15 harg15 (k0_t1_loop i).ub 1#32 k) := by
  chain_rfl

end Cert.Mla.Kernel

end
-- ==== Proof.FoxProg.lean ====
/- The body of the prompt's forgetful attention as a program of few pieces: the tile of the online softmax with its
   forget bias, the score product, the value product, the fill of the query rows, the output; every buffer a parameter. -/
module

public import proofs.«01_k».proof.Proof.Gen.Kernel3Ideal
public import proofs.«01_k».proof.Proof.MlaProg

@[expose] public section

noncomputable section

namespace Cert.Fox

open Idealize.ShloMosaic Idealize.SL.Sem Cert.Kernel3Ideal Cert.Kernel3Ideal.Facts₀
open Cert.Mla (inbS inbM packP tMax tExp tSum upto)

/-- The staged blocks and the scratch buffers of the body. -/
structure Bufs (sig : RefSig) where
  q : Memref sig .tc .vmem S256x128 .bf16
  r : Memref sig .tc .vmem S256x128 .bf16
  k : Memref sig .tc .vmem S1x2048x128 .f32
  v : Memref sig .tc .vmem S1x2048x128 .f32
  f : Memref sig .tc .vmem S1x256x4 .f32
  g : Memref sig .tc .vmem S1x1x4x2048 .f32
  o : Memref sig .tc .vmem S2x256x128 .bf16
  ho : o.IsWhole
  qs : Memref sig .tc .vmem S1024x128 .bf16
  hqs : qs.IsWhole
  fs : Memref sig .tc .vmem S1024x128 .f32
  s : Bool → Memref sig .tc .vmem S1024x256 .f32
  p : Bool → Memref sig .tc .vmem S1024x256 .bf16
  hp : ∀ b, (p b).IsWhole
  a : Bool → Memref sig .tc .vmem S1024x128 .f32
  m : Memref sig .tc .vmem S1024x128 .f32
  l : Memref sig .tc .vmem S1024x128 .f32
  acc : Memref sig .tc .vmem S1024x128 .f32

variable {nD : Nat} {τ : Topo} {sig : RefSig} {Λ : Labels} {F : FTy → Type} [FloatOps F]

/-! ## Bounds of the accesses -/

theorem inbH (h : Nat) (hh : h < 4) : ∀ a, (![256 * h, 0] : Fin 2 → Nat) a + S256x128.size a ≤ S1024x128.size a := by
  intro a; match a with
  | ⟨0, _⟩ => show 256 * h + 256 ≤ 1024; omega
  | ⟨1, _⟩ => show 0 + 128 ≤ 128; omega

theorem packH (h : Nat) (hh : h < 4) :
    (Rect.unit (s := S1024x128) ![256 * h, 0] S256x128.size (inbH h hh)).PackedRows (EltTy.packing .bf16) :=
  Affine.packed_dvd (by decide) (by show 2 ∣ 256 * h; omega) (by show 2 ∣ 256; omega)

theorem inbF (h : Nat) (hh : h < 4) : ∀ a, (![0, 0, h] : Fin 3 → Nat) a + S1x256x1.size a ≤ S1x256x4.size a := by
  intro a; match a with
  | ⟨0, _⟩ => show 0 + 1 ≤ 1; omega
  | ⟨1, _⟩ => show 0 + 256 ≤ 256; omega
  | ⟨2, _⟩ => show h + 1 ≤ 4; omega

theorem inbO (h : Nat) (hh : h < 2) : ∀ a, (![h, 0, 0] : Fin 3 → Nat) a + S1x256x128.size a ≤ S2x256x128.size a := by
  intro a; match a with
  | ⟨0, _⟩ => show h + 1 ≤ 2; omega
  | ⟨1, _⟩ => show 0 + 256 ≤ 256; omega
  | ⟨2, _⟩ => show 0 + 128 ≤ 128; omega

theorem packO (h : Nat) (hh : h < 2) :
    (Rect.unit (s := S2x256x128) ![h, 0, 0] S1x256x128.size (inbO h hh)).PackedRows (EltTy.packing .bf16) :=
  Affine.packed_dvd (by decide) (by show 2 ∣ 0; omega) (by show 2 ∣ 256; omega)

theorem sliceE (h : Nat) (hh : h < 4) : S1024x128.Slices ![256 * h, 0] S256x128 := by
  interval_cases h <;> decide

/-! ## The values -/

/-- A tile's scores with the difference of the forget sums. -/
def biased (s f : FVec F S32x128 .f32) (g : FVec F S1x1x1x128 .f32) : FVec F S32x128 .f32 :=
  addf s (subf f (broadcastTo S32x128 (shapeCast S1x128 g shapeCasts_S1x1x1x128_S1x128) broadcasts_S1x128_S32x128))

/-- The mask of the last key block: keys after the query take the floor `μ`. -/
def causal (μ : F .f32) (t c : Nat) (x : FVec F S32x128 .f32) : FVec F S32x128 .f32 :=
  select (cmpi .sle
      (broadcastTo S32x128 (addi (broadcast S1x128 (BitVec.ofNat 32 c)) (iota .tc S1x128 32 [1] iota_S1x128_d1_w32)) broadcasts_S1x128_S32x128)
      (broadcastTo S32x128 (addi (broadcast S32x1 (BitVec.ofNat 32 (32 * (t % 8)))) (iota .tc S32x1 32 [0] iota_S32x1_d0_w32)) broadcasts_S32x1_S32x128))
    x (broadcast S32x128 μ)

/-- The lanes of the first of the two key heads. -/
def low : IVec S256x128 1 := cmpi .slt (iota .tc S256x128 32 [1] iota_S256x128_d1_w32) (broadcast S256x128 64#32)

/-- The queries scaled. -/
def scaled (x : FVec F S256x128 .bf16) : FVec F S256x128 .bf16 :=
  mulf (shapeCast S256x128 x shapeCasts_S256x128_S256x128) (broadcast S256x128 (Scalar.ofBits .bf16 0x3E00#16))

/-- No query. -/
def none0 : FVec F S256x128 .bf16 := broadcast S256x128 (Scalar.ofBits .bf16 0x0000#16)

/-- The query rows of group `h`: one head of queries on its key head's lanes. -/
def qrow (x y : FVec F S256x128 .bf16) : Nat → FVec F S256x128 .bf16
  | 0 => select low (scaled x) none0
  | 1 => select low (scaled y) none0
  | 2 => select low none0 (scaled x)
  | _ => select low none0 (scaled y)

/-! ## The pieces -/

/-- One tile: 32 rows of the score block `b` against the running maximum and denominator. -/
def tile (B : Bufs sig) (b : Bool) (mk : Nat → Nat → FVec F S32x128 .f32 → FVec F S32x128 .f32) (g0 g1 : FVec F S1x1x1x128 .f32) (t : Nat) (h : t < 32) :
    Prog (TpuEff nD τ sig (Elt F) Λ .tc) PUnit := do
  let f : Vec F S32x128 .f32 ← Prog.lift (.load B.fs (Rect.unit (s := S1024x128) ![32 * t, 0] S32x128.size (inbM t h)).toLoadRect (View.loadsAt_vmem h_S32x128))
  let x0 : Vec F S32x128 .f32 ← Prog.lift (.load (B.s b) (Rect.unit (s := S1024x256) ![32 * t, 0] S32x128.size (inbS t h 0 (by omega))).toLoadRect (View.loadsAt_vmem h_S32x128))
  let x1 : Vec F S32x128 .f32 ← Prog.lift (.load (B.s b) (Rect.unit (s := S1024x256) ![32 * t, 128] S32x128.size (inbS t h 128 (by omega))).toLoadRect (View.loadsAt_vmem h_S32x128))
  let m0 : Vec F S32x128 .f32 ← Prog.lift (.load B.m (Rect.unit (s := S1024x128) ![32 * t, 0] S32x128.size (inbM t h)).toLoadRect (View.loadsAt_vmem h_S32x128))
  let _ : Vec F S32x128 .bf16 ← Prog.lift (.load (B.p b) (Rect.unit (s := S1024x256) ![32 * t, 0] S32x128.size (inbS t h 0 (by omega))).toLoadRect (View.loadsAt_vmem h_S32x128))
  Prog.lift (.store (B.p b) (Rect.unit (s := S1024x256) ![32 * t, 0] S32x128.size (inbS t h 0 (by omega)))
    (shapeCast S32x128 (truncf .bf16 (tExp (mk t 0 (biased x0 f g0)) (tMax m0 (mk t 0 (biased x0 f g0)) (mk t 128 (biased x1 f g1)))) bitsLt_bf16_f32) shapeCasts_S32x128_S32x128)
    Finset.univ (View.stores_vmem h_S32x128 ((B.hp b).storeExact_slice rfl _ (packP t h 0 (by omega))) (fun _ => rfl)) (.inl rfl))
  let _ : Vec F S32x128 .bf16 ← Prog.lift (.load (B.p b) (Rect.unit (s := S1024x256) ![32 * t, 128] S32x128.size (inbS t h 128 (by omega))).toLoadRect (View.loadsAt_vmem h_S32x128))
  Prog.lift (.store (B.p b) (Rect.unit (s := S1024x256) ![32 * t, 128] S32x128.size (inbS t h 128 (by omega)))
    (shapeCast S32x128 (truncf .bf16 (tExp (mk t 128 (biased x1 f g1)) (tMax m0 (mk t 0 (biased x0 f g0)) (mk t 128 (biased x1 f g1)))) bitsLt_bf16_f32) shapeCasts_S32x128_S32x128)
    Finset.univ (View.stores_vmem h_S32x128 ((B.hp b).storeExact_slice rfl _ (packP t h 128 (by omega))) (fun _ => rfl)) (.inl rfl))
  let l0 : Vec F S32x128 .f32 ← Prog.lift (.load B.l (Rect.unit (s := S1024x128) ![32 * t, 0] S32x128.size (inbM t h)).toLoadRect (View.loadsAt_vmem h_S32x128))
  let _ : Vec F S32x128 .f32 ← Prog.lift (.load B.l (Rect.unit (s := S1024x128) ![32 * t, 0] S32x128.size (inbM t h)).toLoadRect (View.loadsAt_vmem h_S32x128))
  Prog.lift (.store B.l (Rect.unit (s := S1024x128) ![32 * t, 0] S32x128.size (inbM t h))
    (shapeCast S32x128 (tSum (tExp m0 (tMax m0 (mk t 0 (biased x0 f g0)) (mk t 128 (biased x1 f g1)))) l0
      (tExp (mk t 0 (biased x0 f g0)) (tMax m0 (mk t 0 (biased x0 f g0)) (mk t 128 (biased x1 f g1))))
      (tExp (mk t 128 (biased x1 f g1)) (tMax m0 (mk t 0 (biased x0 f g0)) (mk t 128 (biased x1 f g1))))) shapeCasts_S32x128_S32x128)
    Finset.univ (View.stores_vmem_bits_univ h_S32x128 rfl) (.inl rfl))
  let _ : Vec F S32x128 .f32 ← Prog.lift (.load B.m (Rect.unit (s := S1024x128) ![32 * t, 0] S32x128.size (inbM t h)).toLoadRect (View.loadsAt_vmem h_S32x128))
  Prog.lift (.store B.m (Rect.unit (s := S1024x128) ![32 * t, 0] S32x128.size (inbM t h))
    (shapeCast S32x128 (tMax m0 (mk t 0 (biased x0 f g0)) (mk t 128 (biased x1 f g1))) shapeCasts_S32x128_S32x128)
    Finset.univ (View.stores_vmem_bits_univ h_S32x128 rfl) (.inl rfl))
  let _ : Vec F S32x128 .f32 ← Prog.lift (.load (B.a b) (Rect.unit (s := S1024x128) ![32 * t, 0] S32x128.size (inbM t h)).toLoadRect (View.loadsAt_vmem h_S32x128))
  Prog.lift (.store (B.a b) (Rect.unit (s := S1024x128) ![32 * t, 0] S32x128.size (inbM t h))
    (shapeCast S32x128 (tExp m0 (tMax m0 (mk t 0 (biased x0 f g0)) (mk t 128 (biased x1 f g1)))) shapeCasts_S32x128_S32x128)
    Finset.univ (View.stores_vmem_bits_univ h_S32x128 rfl) (.inl rfl))

/-- The eight tiles of row group `h`, against the forget sums of the key block at `off`. -/
def group (B : Bufs sig) (b : Bool) (mk : Nat → Nat → FVec F S32x128 .f32 → FVec F S32x128 .f32) (h : Nat) (hh : h < 4) (off : BitVec 32 → Fin 4 → Nat)
    (ho : ∀ (r : Fin 2), ∀ a, off (BitVec.ofNat 32 (128 * r.val)) a + S1x1x1x128.size a ≤ S1x1x4x2048.size a) : Prog (TpuEff nD τ sig (Elt F) Λ .tc) PUnit := do
  let g0 : Vec F S1x1x1x128 .f32 ← Prog.lift (.load B.g (Rect.unit (s := S1x1x4x2048) (off 0#32) S1x1x1x128.size (ho 0)).toLoadRect (View.loadsAt_vmem h_S1x1x1x128))
  let g1 : Vec F S1x1x1x128 .f32 ← Prog.lift (.load B.g (Rect.unit (s := S1x1x4x2048) (off 128#32) S1x1x1x128.size (ho 1)).toLoadRect (View.loadsAt_vmem h_S1x1x1x128))
  upto 8 (fun t ht => tile B b mk g0 g1 (8 * h + t) (by omega)) 8 (Nat.le_refl _)

/-- The offsets of the forget sums of the four row groups. -/
structure Offs where
  o0 : BitVec 32 → Fin 4 → Nat
  h0 : ∀ (r : Fin 2), ∀ a, o0 (BitVec.ofNat 32 (128 * r.val)) a + S1x1x1x128.size a ≤ S1x1x4x2048.size a
  o1 : BitVec 32 → Fin 4 → Nat
  h1 : ∀ (r : Fin 2), ∀ a, o1 (BitVec.ofNat 32 (128 * r.val)) a + S1x1x1x128.size a ≤ S1x1x4x2048.size a
  o2 : BitVec 32 → Fin 4 → Nat
  h2 : ∀ (r : Fin 2), ∀ a, o2 (BitVec.ofNat 32 (128 * r.val)) a + S1x1x1x128.size a ≤ S1x1x4x2048.size a
  o3 : BitVec 32 → Fin 4 → Nat
  h3 : ∀ (r : Fin 2), ∀ a, o3 (BitVec.ofNat 32 (128 * r.val)) a + S1x1x1x128.size a ≤ S1x1x4x2048.size a

/-- All the tiles of a score block. -/
def tiles (B : Bufs sig) (b : Bool) (mk : Nat → Nat → FVec F S32x128 .f32 → FVec F S32x128 .f32) (O : Offs) : Prog (TpuEff nD τ sig (Elt F) Λ .tc) PUnit := do
  group B b mk 0 (by omega) O.o0 O.h0
  group B b mk 1 (by omega) O.o1 O.h1
  group B b mk 2 (by omega) O.o2 O.h2
  group B b mk 3 (by omega) O.o3 O.h3

/-- The score product against the key block at `off`, into buffer `b`. -/
def qk (B : Bufs sig) (b : Bool) (off : Fin 3 → Nat) (h : ∀ a, off a + S1x256x128.size a ≤ S1x2048x128.size a) : Prog (TpuEff nD τ sig (Elt F) Λ .tc) PUnit := do
  let kb : Vec F S1x256x128 .f32 ← Prog.lift (.load B.k (Rect.unit (s := S1x2048x128) off S1x256x128.size h).toLoadRect (View.loadsAt_vmem h_S1x256x128))
  let qb : Vec F S1024x128 .bf16 ← Prog.lift (.load B.qs (Rect.unit (s := S1024x128) ![0, 0] S1024x128.size inb_S1024x128_S1024x128_0_0).toLoadRect (View.loadsAt_vmem h_S1024x128))
  let _ : Vec F S1024x256 .f32 ← Prog.lift (.load (B.s b) (Rect.unit (s := S1024x256) ![0, 0] S1024x256.size inb_S1024x256_S1024x256_0_0).toLoadRect (View.loadsAt_vmem h_S1024x256))
  Prog.lift (.store (B.s b) (Rect.unit (s := S1024x256) ![0, 0] S1024x256.size inb_S1024x256_S1024x256_0_0)
    (shapeCast S1024x256 (matmul dot_S1024x128_S256x128_S1024x256_1_1_0_0_n_n none qb (truncf .bf16 (shapeCast S256x128 kb shapeCasts_S1x256x128_S256x128) bitsLt_bf16_f32)
      (constant S1024x256 .f32 0x00000000#32)) shapeCasts_S1024x256_S1024x256)
    Finset.univ (View.stores_vmem_bits_univ h_S1024x256 rfl) (.inl rfl))

/-- The value product of buffer `b` with the value block at `off`, onto the rescaled accumulator. -/
def pv (B : Bufs sig) (b : Bool) (off : Fin 3 → Nat) (h : ∀ a, off a + S1x256x128.size a ≤ S1x2048x128.size a) : Prog (TpuEff nD τ sig (Elt F) Λ .tc) PUnit := do
  let vb : Vec F S1x256x128 .f32 ← Prog.lift (.load B.v (Rect.unit (s := S1x2048x128) off S1x256x128.size h).toLoadRect (View.loadsAt_vmem h_S1x256x128))
  let ac : Vec F S1024x128 .f32 ← Prog.lift (.load B.acc (Rect.unit (s := S1024x128) ![0, 0] S1024x128.size inb_S1024x128_S1024x128_0_0).toLoadRect (View.loadsAt_vmem h_S1024x128))
  let al : Vec F S1024x128 .f32 ← Prog.lift (.load (B.a b) (Rect.unit (s := S1024x128) ![0, 0] S1024x128.size inb_S1024x128_S1024x128_0_0).toLoadRect (View.loadsAt_vmem h_S1024x128))
  let pb : Vec F S1024x256 .bf16 ← Prog.lift (.load (B.p b) (Rect.unit (s := S1024x256) ![0, 0] S1024x256.size inb_S1024x256_S1024x256_0_0).toLoadRect (View.loadsAt_vmem h_S1024x256))
  let _ : Vec F S1024x128 .f32 ← Prog.lift (.load B.acc (Rect.unit (s := S1024x128) ![0, 0] S1024x128.size inb_S1024x128_S1024x128_0_0).toLoadRect (View.loadsAt_vmem h_S1024x128))
  Prog.lift (.store B.acc (Rect.unit (s := S1024x128) ![0, 0] S1024x128.size inb_S1024x128_S1024x128_0_0)
    (shapeCast S1024x128 (addf (mulf ac al) (matmul dot_S1024x256_S256x128_S1024x128_1_0_0_1_n_n none pb (truncf .bf16 (shapeCast S256x128 vb shapeCasts_S1x256x128_S256x128) bitsLt_bf16_f32)
      (constant S1024x128 .f32 0x00000000#32))) shapeCasts_S1024x128_S1024x128)
    Finset.univ (View.stores_vmem_bits_univ h_S1024x128 rfl) (.inl rfl))

/-- Row group `h`: its query rows, and its forget sums on every lane. -/
def fill (B : Bufs sig) (x y : FVec F S256x128 .bf16) (h : Nat) (hh : h < 4) : Prog (TpuEff nD τ sig (Elt F) Λ .tc) PUnit := do
  let _ : Vec F S256x128 .bf16 ← Prog.lift (.load B.qs (Rect.unit (s := S1024x128) ![256 * h, 0] S256x128.size (inbH h hh)).toLoadRect (View.loadsAt_vmem h_S256x128))
  Prog.lift (.store B.qs (Rect.unit (s := S1024x128) ![256 * h, 0] S256x128.size (inbH h hh))
    (shapeCast S256x128 (qrow x y h) shapeCasts_S256x128_S256x128)
    Finset.univ (View.stores_vmem h_S256x128 (B.hqs.storeExact_slice rfl _ (packH h hh)) (fun _ => rfl)) (.inl rfl))
  let f : Vec F S1x256x1 .f32 ← Prog.lift (.load B.f (Rect.unit (s := S1x256x4) ![0, 0, h] S1x256x1.size (inbF h hh)).toLoadRect (View.loadsAt_vmem h_S1x256x1))
  let _ : Vec F S256x128 .f32 ← Prog.lift (.load B.fs (Rect.unit (s := S1024x128) ![256 * h, 0] S256x128.size (inbH h hh)).toLoadRect (View.loadsAt_vmem h_S256x128))
  Prog.lift (.store B.fs (Rect.unit (s := S1024x128) ![256 * h, 0] S256x128.size (inbH h hh))
    (shapeCast S256x128 (broadcastTo S256x128 (shapeCast S256x1 (shapeCast S256x1 f shapeCasts_S1x256x1_S256x1) shapeCasts_S256x1_S256x1) broadcasts_S256x1_S256x128) shapeCasts_S256x128_S256x128)
    Finset.univ (View.stores_vmem_bits_univ h_S256x128 rfl) (.inl rfl))

/-- One query group of the two key heads, side by side. -/
def outRow (h : Nat) (hh : h < 2) (x : FVec F S1024x128 .f32) : FVec F S256x128 .bf16 :=
  truncf .bf16 (select low (extractStridedSlice S256x128 ![256 * h, 0] x (sliceE h (by omega)))
    (extractStridedSlice S256x128 ![256 * (h + 2), 0] x (sliceE (h + 2) (by omega)))) bitsLt_bf16_f32

def outVal (h : Nat) (hh : h < 2) (x : FVec F S1024x128 .f32) : FVec F S1x256x128 .bf16 :=
  shapeCast S1x256x128 (outRow h hh x) shapeCasts_S256x128_S1x256x128

/-- A query group of the output stored. -/
def putA (B : Bufs sig) (w : FVec F S1x256x128 .bf16) (h : Nat) (hh : h < 2) : Prog (TpuEff nD τ sig (Elt F) Λ .tc) PUnit := do
  let _ : Vec F S1x256x128 .bf16 ← Prog.lift (.load B.o (Rect.unit (s := S2x256x128) ![h, 0, 0] S1x256x128.size (inbO h hh)).toLoadRect (View.loadsAt_vmem h_S1x256x128))
  Prog.lift (.store B.o (Rect.unit (s := S2x256x128) ![h, 0, 0] S1x256x128.size (inbO h hh)) w
    Finset.univ (View.stores_vmem h_S1x256x128 (B.ho.storeExact_slice rfl _ (packO h hh)) (fun _ => rfl)) (.inl rfl))

def put (B : Bufs sig) (x : FVec F S1024x128 .f32) (h : Nat) (hh : h < 2) : Prog (TpuEff nD τ sig (Elt F) Λ .tc) PUnit :=
  putA B (outVal h hh x) h hh

abbrev clear : Nat → Nat → FVec F S32x128 .f32 → FVec F S32x128 .f32 := fun _ _ x => x

/-- The offsets of the forget sums in a trip of the loop: of the even block and of the odd one. -/
abbrev offsA (i : grid0.Coords) (k : Fin (k0_t1_loop i).trips) : Offs :=
  ⟨k0_off2 i k, k0_off2_inb i k, k0_off3 i k, k0_off3_inb i k, k0_off4 i k, k0_off4_inb i k, k0_off5 i k, k0_off5_inb i k⟩
abbrev offsB (i : grid0.Coords) (k : Fin (k0_t1_loop i).trips) : Offs :=
  ⟨k0_off7 i k, k0_off7_inb i k, k0_off8 i k, k0_off8_inb i k, k0_off9 i k, k0_off9_inb i k, k0_off10 i k, k0_off10_inb i k⟩
abbrev offsE (i : grid0.Coords) (h : k0_cond1 i = 1#1) : Offs :=
  ⟨k0_off21 i, k0_off21_inb i h, k0_off22 i, k0_off22_inb i h, k0_off23 i, k0_off23_inb i h, k0_off24 i, k0_off24_inb i h⟩
abbrev offsP (i : grid0.Coords) (h : k0_cond2 i = 1#1) : Offs :=
  ⟨k0_off27 i, k0_off27_inb i h, k0_off28 i, k0_off28_inb i h, k0_off29 i, k0_off29_inb i h, k0_off30 i, k0_off30_inb i h⟩
abbrev offsO (i : grid0.Coords) (h : k0_cond2 i = 1#1) : Offs :=
  ⟨k0_off32 i, k0_off32_inb i h, k0_off33 i, k0_off33_inb i h, k0_off34 i, k0_off34_inb i h, k0_off35 i, k0_off35_inb i h⟩

/-- One trip of the loop: two key blocks, the next block's scores computed ahead. -/
def trip (B : Bufs sig) (i : grid0.Coords) (k : Fin (k0_t1_loop i).trips) : Prog (TpuEff nD τ sig (Elt F) Λ .tc) PUnit := do
  qk B true (k0_off1 i k 1#32) (k0_off1_inb i k 0)
  tiles B false clear (offsA i k)
  pv B false (k0_off6 i k) (k0_off6_inb i k)
  qk B false (k0_off1 i k 2#32) (k0_off1_inb i k 1)
  tiles B true clear (offsB i k)
  pv B true (k0_off1 i k 1#32) (k0_off1_inb i k 0)

/-- The same trip, of the loop's empty remainder. -/
def trip2 (B : Bufs sig) (i : grid0.Coords) (k : Fin (k0_t2_loop i).trips) : Prog (TpuEff nD τ sig (Elt F) Λ .tc) PUnit := do
  qk B true (k0_off11 i k 1#32) (k0_off11_inb i k 0)
  tiles B false clear ⟨k0_off12 i k, k0_off12_inb i k, k0_off13 i k, k0_off13_inb i k, k0_off14 i k, k0_off14_inb i k, k0_off15 i k, k0_off15_inb i k⟩
  pv B false (k0_off16 i k) (k0_off16_inb i k)
  qk B false (k0_off11 i k 2#32) (k0_off11_inb i k 1)
  tiles B true clear ⟨k0_off17 i k, k0_off17_inb i k, k0_off18 i k, k0_off18_inb i k, k0_off19 i k, k0_off19_inb i k, k0_off20 i k, k0_off20_inb i k⟩
  pv B true (k0_off11 i k 1#32) (k0_off11_inb i k 0)

/-- The last key block in buffer `false`: an even number of blocks before it. -/
def evenEnd (B : Bufs sig) (μ : F .f32) (i : grid0.Coords) (h : k0_cond1 i = 1#1) : Prog (TpuEff nD τ sig (Elt F) Λ .tc) PUnit := do
  tiles B false (causal μ) (offsE i h)
  pv B false (k0_off25 i) (k0_off25_inb i h)

/-- The last two key blocks: an odd number of blocks before the last. -/
def oddEnd (B : Bufs sig) (μ : F .f32) (i : grid0.Coords) (h : k0_cond2 i = 1#1) : Prog (TpuEff nD τ sig (Elt F) Λ .tc) PUnit := do
  qk B true (k0_off26 i) (k0_off26_inb i h)
  tiles B false clear (offsP i h)
  pv B false (k0_off31 i) (k0_off31_inb i h)
  tiles B true (causal μ) (offsO i h)
  pv B true (k0_off26 i) (k0_off26_inb i h)

/-- The key blocks of a query block, then the normalised rows. -/
def mid (B : Bufs sig) (μ : F .f32) (i : grid0.Coords) :
    Prog (TpuEff nD τ sig (Elt F) Λ .tc) (FVec F S1024x128 .f32) := do
  Scf.Loop.for (k0_t1_loop i) (k0_t1_ok i) ⟨⟩ fun k _ => do
    trip B i k
    pure ⟨⟩
  Scf.Loop.for (k0_t2_loop i) (k0_t2_ok i) ⟨⟩ fun k _ => do
    trip2 B i k
    pure ⟨⟩
  if h : k0_cond1 i = 1#1 then do
    evenEnd B μ i h
    pure ⟨⟩
  else do
    pure ⟨⟩
  if h : k0_cond2 i = 1#1 then do
    oddEnd B μ i h
    pure ⟨⟩
  else do
    pure ⟨⟩
  let ac : Vec F S1024x128 .f32 ← Prog.lift (.load B.acc (Rect.unit (s := S1024x128) ![0, 0] S1024x128.size inb_S1024x128_S1024x128_0_0).toLoadRect (View.loadsAt_vmem h_S1024x128))
  let l : Vec F S1024x128 .f32 ← Prog.lift (.load B.l (Rect.unit (s := S1024x128) ![0, 0] S1024x128.size inb_S1024x128_S1024x128_0_0).toLoadRect (View.loadsAt_vmem h_S1024x128))
  pure (divf ac l)

/-- The statistics of a query block reset. -/
def reset0 (M : Memref sig .tc .vmem S1024x128 .f32) (x : F .f32) : Prog (TpuEff nD τ sig (Elt F) Λ .tc) PUnit := do
  let _ : Vec F S1024x128 .f32 ← Prog.lift (.load M (Rect.unit (s := S1024x128) ![0, 0] S1024x128.size inb_S1024x128_S1024x128_0_0).toLoadRect (View.loadsAt_vmem h_S1024x128))
  Prog.lift (.store M (Rect.unit (s := S1024x128) ![0, 0] S1024x128.size inb_S1024x128_S1024x128_0_0)
    (shapeCast S1024x128 (broadcast S1024x128 x) shapeCasts_S1024x128_S1024x128)
    Finset.univ (View.stores_vmem_bits_univ h_S1024x128 rfl) (.inl rfl))

/-- The queries stacked, the statistics reset, the first block's scores. -/
def head (B : Bufs sig) (μ : F .f32) : Prog (TpuEff nD τ sig (Elt F) Λ .tc) PUnit := do
  let x : Vec F S256x128 .bf16 ← Prog.lift (.load B.q (Rect.unit (s := S256x128) ![0, 0] S256x128.size inb_S256x128_S256x128_0_0).toLoadRect (View.loadsAt_vmem h_S256x128))
  let y : Vec F S256x128 .bf16 ← Prog.lift (.load B.r (Rect.unit (s := S256x128) ![0, 0] S256x128.size inb_S256x128_S256x128_0_0).toLoadRect (View.loadsAt_vmem h_S256x128))
  upto 4 (fill B x y) 4 (Nat.le_refl _)
  reset0 B.m μ
  reset0 B.l (Scalar.ofBits .f32 0x00000000#32)
  reset0 B.acc (Scalar.ofBits .f32 0x00000000#32)
  qk B false ![0, 0, 0] inb_S1x2048x128_S1x256x128_0_0_0

/-- The whole body. -/
def body (B : Bufs sig) (μ : F .f32) (i : grid0.Coords) : Prog (TpuEff nD τ sig (Elt F) Λ .tc) PUnit := do
  head B μ
  let x ← mid B μ i
  upto 2 (put B x) 2 (Nat.le_refl _)

/-- The loop over the pairs of key blocks, which hands on the bound `u`. -/
def loopA (B : Bufs sig) (i : grid0.Coords) (u : BitVec 32) : Prog (TpuEff nD τ sig (Elt F) Λ .tc) (BitVec 32) := do
  Scf.Loop.for (k0_t1_loop i) (k0_t1_ok i) ⟨⟩ fun k _ => do
    trip B i k
    pure ⟨⟩
  pure u

/-- The rest of the key blocks; the normalised rows and the first query group of them. -/
def restA (B : Bufs sig) (μ : F .f32) (i : grid0.Coords) :
    Prog (TpuEff nD τ sig (Elt F) Λ .tc) (Σ' (_ : FVec F S1024x128 .f32), FVec F S256x128 .bf16) := do
  Scf.Loop.for (k0_t2_loop i) (k0_t2_ok i) ⟨⟩ fun k _ => do
    trip2 B i k
    pure ⟨⟩
  if h : k0_cond1 i = 1#1 then do
    evenEnd B μ i h
    pure ⟨⟩
  else do
    pure ⟨⟩
  if h : k0_cond2 i = 1#1 then do
    oddEnd B μ i h
    pure ⟨⟩
  else do
    pure ⟨⟩
  let ac : Vec F S1024x128 .f32 ← Prog.lift (.load B.acc (Rect.unit (s := S1024x128) ![0, 0] S1024x128.size inb_S1024x128_S1024x128_0_0).toLoadRect (View.loadsAt_vmem h_S1024x128))
  let l : Vec F S1024x128 .f32 ← Prog.lift (.load B.l (Rect.unit (s := S1024x128) ![0, 0] S1024x128.size inb_S1024x128_S1024x128_0_0).toLoadRect (View.loadsAt_vmem h_S1024x128))
  pure ⟨divf ac l, outRow 0 (by omega) (divf ac l)⟩

/-- The body in the order of its stretches. -/
def bodyA (B : Bufs sig) (μ : F .f32) (i : grid0.Coords) (u : BitVec 32) : Prog (TpuEff nD τ sig (Elt F) Λ .tc) PUnit := do
  head B μ
  let _ ← loopA B i u
  let p ← restA B μ i
  putA B (shapeCast S1x256x128 p.2 shapeCasts_S256x128_S1x256x128) 0 (by omega)
  putA B (outVal 1 (by omega) p.1) 1 (by omega)

theorem bodyA_eq (B : Bufs sig) (μ : F .f32) (i : grid0.Coords) (u : BitVec 32) :
    bodyA (nD := nD) (τ := τ) (Λ := Λ) B μ i u = body B μ i := by
  by_cases h1 : k0_cond1 i = 1#1 <;> by_cases h2 : k0_cond2 i = 1#1 <;>
    simp only [bodyA, loopA, restA, body, mid, upto, put, outVal, h1, h2, dif_pos, dif_neg, not_false_eq_true, bind_assoc, pure_bind, bind_pure, bind_pure_unit, Nat.sub_self, Nat.reduceAdd, Nat.reduceSub]

end Cert.Fox

end
-- ==== Proof.FoxRun.lean ====
/- Running the pieces of the forgetful attention's body: what each leaves in the buffers, as a function of the buffers
   before it. -/
module

public import proofs.«01_k».proof.Proof.FoxProg
public import proofs.«01_k».proof.Proof.MlaGlue
public import Idealize.ShloMosaic.Lib.VecWindow
public import Idealize.ShloMosaic.Lib.Pipeline.FrameBody
public import Idealize.ShloMosaic.Lib.Pipeline.Value

@[expose] public section

noncomputable section

namespace Cert.Fox

open Idealize.ShloMosaic Idealize.ShloMosaic.TcCoe Cert.Kernel3Ideal Cert.Kernel3Ideal.Facts₀
open Idealize.SL Idealize.SL.RA Idealize.SL.BI
open scoped Idealize.SL.BI
open Idealize.SL.BI.BIBase Idealize.SL.BI.Laws Idealize.SL.ProofMode Idealize.SL.Sem

/-- The contents of the buffers. -/
@[ext] structure St (F : FTy → Type) where
  q : Vec F S256x128 .bf16
  r : Vec F S256x128 .bf16
  k : Vec F S1x2048x128 .f32
  v : Vec F S1x2048x128 .f32
  f : Vec F S1x256x4 .f32
  g : Vec F S1x1x4x2048 .f32
  o : Vec F S2x256x128 .bf16
  qs : Vec F S1024x128 .bf16
  fs : Vec F S1024x128 .f32
  s : Bool → Vec F S1024x256 .f32
  p : Bool → Vec F S1024x256 .bf16
  a : Bool → Vec F S1024x128 .f32
  m : Vec F S1024x128 .f32
  l : Vec F S1024x128 .f32
  acc : Vec F S1024x128 .f32

variable {nD : Nat} {τ : Topo} {sig : RefSig} {Λ : Labels} {F : FTy → Type} [FloatOps F]
variable {Ix : Type} [DecidableEq Ix] {Name : Type} [DecidableEq Name] {U : Type} [URA U] {Lvl : Type} [Preorder Lvl]
local notation "𝕄" => MT nD τ sig Ix (Elt F) Name U Lvl

/-- A buffer of the core owned in full at contents `X`. -/
abbrev own (c : Dev nD) {S : Shape} {e : EltTy} (M : Memref sig .tc .vmem S e) (X : S.Idx → Elt F e) : sProp 𝕄 :=
  owns (c : Thread nD τ) M fullShare X

/-- The core owns every buffer at the state's contents. -/
def Holds (B : Bufs sig) (c : Dev nD) (σ : St F) : sProp 𝕄 :=
  iprop(own c B.q σ.q
    ∗ own c B.r σ.r
    ∗ own c B.k σ.k
    ∗ own c B.v σ.v
    ∗ own c B.f σ.f
    ∗ own c B.g σ.g
    ∗ own c B.o σ.o
    ∗ own c B.qs σ.qs
    ∗ own c B.fs σ.fs
    ∗ own c (B.s false) (σ.s false)
    ∗ own c (B.s true) (σ.s true)
    ∗ own c (B.p false) (σ.p false)
    ∗ own c (B.p true) (σ.p true)
    ∗ own c (B.a false) (σ.a false)
    ∗ own c (B.a true) (σ.a true)
    ∗ own c B.m σ.m
    ∗ own c B.l σ.l
    ∗ own c B.acc σ.acc)

/-- One buffer taken out of the state, to be put back at any contents. -/
def Lens (B : Bufs sig) (c : Dev nD) {S : Shape} {e : EltTy} (M : Memref sig .tc .vmem S e) (σ : St F) (X : S.Idx → Elt F e)
    (upd : (S.Idx → Elt F e) → St F) : Prop :=
  upd X = σ ∧ ((Holds B c σ : sProp 𝕄) ⊢ iprop(own c M X ∗ (∀ Y, own c M Y -∗ Holds B c (upd Y))))

theorem lens_q (B : Bufs sig) (c : Dev nD) (σ : St F) :
    Lens (τ := τ) (Ix := Ix) (Name := Name) (U := U) (Lvl := Lvl) B c B.q σ σ.q (fun Y => { σ with q := Y }) := by
  refine ⟨rfl, ?_⟩
  unfold Holds
  iintro ⟨Hq, Hr, Hk, Hv, Hf, Hg, Ho, Hqs, Hfs, Hs0, Hs1, Hp0, Hp1, Ha0, Ha1, Hm, Hl, Hacc⟩
  isplitl [Hq]
  · iexact Hq
  iintro %Y H
  isplitl [H]; · iexact H
  isplitl [Hr]; · iexact Hr
  isplitl [Hk]; · iexact Hk
  isplitl [Hv]; · iexact Hv
  isplitl [Hf]; · iexact Hf
  isplitl [Hg]; · iexact Hg
  isplitl [Ho]; · iexact Ho
  isplitl [Hqs]; · iexact Hqs
  isplitl [Hfs]; · iexact Hfs
  isplitl [Hs0]; · iexact Hs0
  isplitl [Hs1]; · iexact Hs1
  isplitl [Hp0]; · iexact Hp0
  isplitl [Hp1]; · iexact Hp1
  isplitl [Ha0]; · iexact Ha0
  isplitl [Ha1]; · iexact Ha1
  isplitl [Hm]; · iexact Hm
  isplitl [Hl]; · iexact Hl
  iexact Hacc

theorem lens_r (B : Bufs sig) (c : Dev nD) (σ : St F) :
    Lens (τ := τ) (Ix := Ix) (Name := Name) (U := U) (Lvl := Lvl) B c B.r σ σ.r (fun Y => { σ with r := Y }) := by
  refine ⟨rfl, ?_⟩
  unfold Holds
  iintro ⟨Hq, Hr, Hk, Hv, Hf, Hg, Ho, Hqs, Hfs, Hs0, Hs1, Hp0, Hp1, Ha0, Ha1, Hm, Hl, Hacc⟩
  isplitl [Hr]
  · iexact Hr
  iintro %Y H
  isplitl [Hq]; · iexact Hq
  isplitl [H]; · iexact H
  isplitl [Hk]; · iexact Hk
  isplitl [Hv]; · iexact Hv
  isplitl [Hf]; · iexact Hf
  isplitl [Hg]; · iexact Hg
  isplitl [Ho]; · iexact Ho
  isplitl [Hqs]; · iexact Hqs
  isplitl [Hfs]; · iexact Hfs
  isplitl [Hs0]; · iexact Hs0
  isplitl [Hs1]; · iexact Hs1
  isplitl [Hp0]; · iexact Hp0
  isplitl [Hp1]; · iexact Hp1
  isplitl [Ha0]; · iexact Ha0
  isplitl [Ha1]; · iexact Ha1
  isplitl [Hm]; · iexact Hm
  isplitl [Hl]; · iexact Hl
  iexact Hacc

theorem lens_k (B : Bufs sig) (c : Dev nD) (σ : St F) :
    Lens (τ := τ) (Ix := Ix) (Name := Name) (U := U) (Lvl := Lvl) B c B.k σ σ.k (fun Y => { σ with k := Y }) := by
  refine ⟨rfl, ?_⟩
  unfold Holds
  iintro ⟨Hq, Hr, Hk, Hv, Hf, Hg, Ho, Hqs, Hfs, Hs0, Hs1, Hp0, Hp1, Ha0, Ha1, Hm, Hl, Hacc⟩
  isplitl [Hk]
  · iexact Hk
  iintro %Y H
  isplitl [Hq]; · iexact Hq
  isplitl [Hr]; · iexact Hr
  isplitl [H]; · iexact H
  isplitl [Hv]; · iexact Hv
  isplitl [Hf]; · iexact Hf
  isplitl [Hg]; · iexact Hg
  isplitl [Ho]; · iexact Ho
  isplitl [Hqs]; · iexact Hqs
  isplitl [Hfs]; · iexact Hfs
  isplitl [Hs0]; · iexact Hs0
  isplitl [Hs1]; · iexact Hs1
  isplitl [Hp0]; · iexact Hp0
  isplitl [Hp1]; · iexact Hp1
  isplitl [Ha0]; · iexact Ha0
  isplitl [Ha1]; · iexact Ha1
  isplitl [Hm]; · iexact Hm
  isplitl [Hl]; · iexact Hl
  iexact Hacc

theorem lens_v (B : Bufs sig) (c : Dev nD) (σ : St F) :
    Lens (τ := τ) (Ix := Ix) (Name := Name) (U := U) (Lvl := Lvl) B c B.v σ σ.v (fun Y => { σ with v := Y }) := by
  refine ⟨rfl, ?_⟩
  unfold Holds
  iintro ⟨Hq, Hr, Hk, Hv, Hf, Hg, Ho, Hqs, Hfs, Hs0, Hs1, Hp0, Hp1, Ha0, Ha1, Hm, Hl, Hacc⟩
  isplitl [Hv]
  · iexact Hv
  iintro %Y H
  isplitl [Hq]; · iexact Hq
  isplitl [Hr]; · iexact Hr
  isplitl [Hk]; · iexact Hk
  isplitl [H]; · iexact H
  isplitl [Hf]; · iexact Hf
  isplitl [Hg]; · iexact Hg
  isplitl [Ho]; · iexact Ho
  isplitl [Hqs]; · iexact Hqs
  isplitl [Hfs]; · iexact Hfs
  isplitl [Hs0]; · iexact Hs0
  isplitl [Hs1]; · iexact Hs1
  isplitl [Hp0]; · iexact Hp0
  isplitl [Hp1]; · iexact Hp1
  isplitl [Ha0]; · iexact Ha0
  isplitl [Ha1]; · iexact Ha1
  isplitl [Hm]; · iexact Hm
  isplitl [Hl]; · iexact Hl
  iexact Hacc

theorem lens_f (B : Bufs sig) (c : Dev nD) (σ : St F) :
    Lens (τ := τ) (Ix := Ix) (Name := Name) (U := U) (Lvl := Lvl) B c B.f σ σ.f (fun Y => { σ with f := Y }) := by
  refine ⟨rfl, ?_⟩
  unfold Holds
  iintro ⟨Hq, Hr, Hk, Hv, Hf, Hg, Ho, Hqs, Hfs, Hs0, Hs1, Hp0, Hp1, Ha0, Ha1, Hm, Hl, Hacc⟩
  isplitl [Hf]
  · iexact Hf
  iintro %Y H
  isplitl [Hq]; · iexact Hq
  isplitl [Hr]; · iexact Hr
  isplitl [Hk]; · iexact Hk
  isplitl [Hv]; · iexact Hv
  isplitl [H]; · iexact H
  isplitl [Hg]; · iexact Hg
  isplitl [Ho]; · iexact Ho
  isplitl [Hqs]; · iexact Hqs
  isplitl [Hfs]; · iexact Hfs
  isplitl [Hs0]; · iexact Hs0
  isplitl [Hs1]; · iexact Hs1
  isplitl [Hp0]; · iexact Hp0
  isplitl [Hp1]; · iexact Hp1
  isplitl [Ha0]; · iexact Ha0
  isplitl [Ha1]; · iexact Ha1
  isplitl [Hm]; · iexact Hm
  isplitl [Hl]; · iexact Hl
  iexact Hacc

theorem lens_g (B : Bufs sig) (c : Dev nD) (σ : St F) :
    Lens (τ := τ) (Ix := Ix) (Name := Name) (U := U) (Lvl := Lvl) B c B.g σ σ.g (fun Y => { σ with g := Y }) := by
  refine ⟨rfl, ?_⟩
  unfold Holds
  iintro ⟨Hq, Hr, Hk, Hv, Hf, Hg, Ho, Hqs, Hfs, Hs0, Hs1, Hp0, Hp1, Ha0, Ha1, Hm, Hl, Hacc⟩
  isplitl [Hg]
  · iexact Hg
  iintro %Y H
  isplitl [Hq]; · iexact Hq
  isplitl [Hr]; · iexact Hr
  isplitl [Hk]; · iexact Hk
  isplitl [Hv]; · iexact Hv
  isplitl [Hf]; · iexact Hf
  isplitl [H]; · iexact H
  isplitl [Ho]; · iexact Ho
  isplitl [Hqs]; · iexact Hqs
  isplitl [Hfs]; · iexact Hfs
  isplitl [Hs0]; · iexact Hs0
  isplitl [Hs1]; · iexact Hs1
  isplitl [Hp0]; · iexact Hp0
  isplitl [Hp1]; · iexact Hp1
  isplitl [Ha0]; · iexact Ha0
  isplitl [Ha1]; · iexact Ha1
  isplitl [Hm]; · iexact Hm
  isplitl [Hl]; · iexact Hl
  iexact Hacc

theorem lens_o (B : Bufs sig) (c : Dev nD) (σ : St F) :
    Lens (τ := τ) (Ix := Ix) (Name := Name) (U := U) (Lvl := Lvl) B c B.o σ σ.o (fun Y => { σ with o := Y }) := by
  refine ⟨rfl, ?_⟩
  unfold Holds
  iintro ⟨Hq, Hr, Hk, Hv, Hf, Hg, Ho, Hqs, Hfs, Hs0, Hs1, Hp0, Hp1, Ha0, Ha1, Hm, Hl, Hacc⟩
  isplitl [Ho]
  · iexact Ho
  iintro %Y H
  isplitl [Hq]; · iexact Hq
  isplitl [Hr]; · iexact Hr
  isplitl [Hk]; · iexact Hk
  isplitl [Hv]; · iexact Hv
  isplitl [Hf]; · iexact Hf
  isplitl [Hg]; · iexact Hg
  isplitl [H]; · iexact H
  isplitl [Hqs]; · iexact Hqs
  isplitl [Hfs]; · iexact Hfs
  isplitl [Hs0]; · iexact Hs0
  isplitl [Hs1]; · iexact Hs1
  isplitl [Hp0]; · iexact Hp0
  isplitl [Hp1]; · iexact Hp1
  isplitl [Ha0]; · iexact Ha0
  isplitl [Ha1]; · iexact Ha1
  isplitl [Hm]; · iexact Hm
  isplitl [Hl]; · iexact Hl
  iexact Hacc

theorem lens_qs (B : Bufs sig) (c : Dev nD) (σ : St F) :
    Lens (τ := τ) (Ix := Ix) (Name := Name) (U := U) (Lvl := Lvl) B c B.qs σ σ.qs (fun Y => { σ with qs := Y }) := by
  refine ⟨rfl, ?_⟩
  unfold Holds
  iintro ⟨Hq, Hr, Hk, Hv, Hf, Hg, Ho, Hqs, Hfs, Hs0, Hs1, Hp0, Hp1, Ha0, Ha1, Hm, Hl, Hacc⟩
  isplitl [Hqs]
  · iexact Hqs
  iintro %Y H
  isplitl [Hq]; · iexact Hq
  isplitl [Hr]; · iexact Hr
  isplitl [Hk]; · iexact Hk
  isplitl [Hv]; · iexact Hv
  isplitl [Hf]; · iexact Hf
  isplitl [Hg]; · iexact Hg
  isplitl [Ho]; · iexact Ho
  isplitl [H]; · iexact H
  isplitl [Hfs]; · iexact Hfs
  isplitl [Hs0]; · iexact Hs0
  isplitl [Hs1]; · iexact Hs1
  isplitl [Hp0]; · iexact Hp0
  isplitl [Hp1]; · iexact Hp1
  isplitl [Ha0]; · iexact Ha0
  isplitl [Ha1]; · iexact Ha1
  isplitl [Hm]; · iexact Hm
  isplitl [Hl]; · iexact Hl
  iexact Hacc

theorem lens_fs (B : Bufs sig) (c : Dev nD) (σ : St F) :
    Lens (τ := τ) (Ix := Ix) (Name := Name) (U := U) (Lvl := Lvl) B c B.fs σ σ.fs (fun Y => { σ with fs := Y }) := by
  refine ⟨rfl, ?_⟩
  unfold Holds
  iintro ⟨Hq, Hr, Hk, Hv, Hf, Hg, Ho, Hqs, Hfs, Hs0, Hs1, Hp0, Hp1, Ha0, Ha1, Hm, Hl, Hacc⟩
  isplitl [Hfs]
  · iexact Hfs
  iintro %Y H
  isplitl [Hq]; · iexact Hq
  isplitl [Hr]; · iexact Hr
  isplitl [Hk]; · iexact Hk
  isplitl [Hv]; · iexact Hv
  isplitl [Hf]; · iexact Hf
  isplitl [Hg]; · iexact Hg
  isplitl [Ho]; · iexact Ho
  isplitl [Hqs]; · iexact Hqs
  isplitl [H]; · iexact H
  isplitl [Hs0]; · iexact Hs0
  isplitl [Hs1]; · iexact Hs1
  isplitl [Hp0]; · iexact Hp0
  isplitl [Hp1]; · iexact Hp1
  isplitl [Ha0]; · iexact Ha0
  isplitl [Ha1]; · iexact Ha1
  isplitl [Hm]; · iexact Hm
  isplitl [Hl]; · iexact Hl
  iexact Hacc

theorem lens_m (B : Bufs sig) (c : Dev nD) (σ : St F) :
    Lens (τ := τ) (Ix := Ix) (Name := Name) (U := U) (Lvl := Lvl) B c B.m σ σ.m (fun Y => { σ with m := Y }) := by
  refine ⟨rfl, ?_⟩
  unfold Holds
  iintro ⟨Hq, Hr, Hk, Hv, Hf, Hg, Ho, Hqs, Hfs, Hs0, Hs1, Hp0, Hp1, Ha0, Ha1, Hm, Hl, Hacc⟩
  isplitl [Hm]
  · iexact Hm
  iintro %Y H
  isplitl [Hq]; · iexact Hq
  isplitl [Hr]; · iexact Hr
  isplitl [Hk]; · iexact Hk
  isplitl [Hv]; · iexact Hv
  isplitl [Hf]; · iexact Hf
  isplitl [Hg]; · iexact Hg
  isplitl [Ho]; · iexact Ho
  isplitl [Hqs]; · iexact Hqs
  isplitl [Hfs]; · iexact Hfs
  isplitl [Hs0]; · iexact Hs0
  isplitl [Hs1]; · iexact Hs1
  isplitl [Hp0]; · iexact Hp0
  isplitl [Hp1]; · iexact Hp1
  isplitl [Ha0]; · iexact Ha0
  isplitl [Ha1]; · iexact Ha1
  isplitl [H]; · iexact H
  isplitl [Hl]; · iexact Hl
  iexact Hacc

theorem lens_l (B : Bufs sig) (c : Dev nD) (σ : St F) :
    Lens (τ := τ) (Ix := Ix) (Name := Name) (U := U) (Lvl := Lvl) B c B.l σ σ.l (fun Y => { σ with l := Y }) := by
  refine ⟨rfl, ?_⟩
  unfold Holds
  iintro ⟨Hq, Hr, Hk, Hv, Hf, Hg, Ho, Hqs, Hfs, Hs0, Hs1, Hp0, Hp1, Ha0, Ha1, Hm, Hl, Hacc⟩
  isplitl [Hl]
  · iexact Hl
  iintro %Y H
  isplitl [Hq]; · iexact Hq
  isplitl [Hr]; · iexact Hr
  isplitl [Hk]; · iexact Hk
  isplitl [Hv]; · iexact Hv
  isplitl [Hf]; · iexact Hf
  isplitl [Hg]; · iexact Hg
  isplitl [Ho]; · iexact Ho
  isplitl [Hqs]; · iexact Hqs
  isplitl [Hfs]; · iexact Hfs
  isplitl [Hs0]; · iexact Hs0
  isplitl [Hs1]; · iexact Hs1
  isplitl [Hp0]; · iexact Hp0
  isplitl [Hp1]; · iexact Hp1
  isplitl [Ha0]; · iexact Ha0
  isplitl [Ha1]; · iexact Ha1
  isplitl [Hm]; · iexact Hm
  isplitl [H]; · iexact H
  iexact Hacc

theorem lens_acc (B : Bufs sig) (c : Dev nD) (σ : St F) :
    Lens (τ := τ) (Ix := Ix) (Name := Name) (U := U) (Lvl := Lvl) B c B.acc σ σ.acc (fun Y => { σ with acc := Y }) := by
  refine ⟨rfl, ?_⟩
  unfold Holds
  iintro ⟨Hq, Hr, Hk, Hv, Hf, Hg, Ho, Hqs, Hfs, Hs0, Hs1, Hp0, Hp1, Ha0, Ha1, Hm, Hl, Hacc⟩
  isplitl [Hacc]
  · iexact Hacc
  iintro %Y H
  isplitl [Hq]; · iexact Hq
  isplitl [Hr]; · iexact Hr
  isplitl [Hk]; · iexact Hk
  isplitl [Hv]; · iexact Hv
  isplitl [Hf]; · iexact Hf
  isplitl [Hg]; · iexact Hg
  isplitl [Ho]; · iexact Ho
  isplitl [Hqs]; · iexact Hqs
  isplitl [Hfs]; · iexact Hfs
  isplitl [Hs0]; · iexact Hs0
  isplitl [Hs1]; · iexact Hs1
  isplitl [Hp0]; · iexact Hp0
  isplitl [Hp1]; · iexact Hp1
  isplitl [Ha0]; · iexact Ha0
  isplitl [Ha1]; · iexact Ha1
  isplitl [Hm]; · iexact Hm
  isplitl [Hl]; · iexact Hl
  iexact H

theorem lens_s (B : Bufs sig) (c : Dev nD) (σ : St F) (b : Bool) :
    Lens (τ := τ) (Ix := Ix) (Name := Name) (U := U) (Lvl := Lvl) B c (B.s b) σ (σ.s b) (fun Y => { σ with s := Function.update σ.s b Y }) := by
  refine ⟨by simp only [Function.update_eq_self], ?_⟩
  cases b
  · unfold Holds
    iintro ⟨Hq, Hr, Hk, Hv, Hf, Hg, Ho, Hqs, Hfs, Hs0, Hs1, Hp0, Hp1, Ha0, Ha1, Hm, Hl, Hacc⟩
    isplitl [Hs0]
    · iexact Hs0
    iintro %Y H
    isplitl [Hq]; · iexact Hq
    isplitl [Hr]; · iexact Hr
    isplitl [Hk]; · iexact Hk
    isplitl [Hv]; · iexact Hv
    isplitl [Hf]; · iexact Hf
    isplitl [Hg]; · iexact Hg
    isplitl [Ho]; · iexact Ho
    isplitl [Hqs]; · iexact Hqs
    isplitl [Hfs]; · iexact Hfs
    isplitl [H]; · iexact H
    isplitl [Hs1]; · iexact Hs1
    isplitl [Hp0]; · iexact Hp0
    isplitl [Hp1]; · iexact Hp1
    isplitl [Ha0]; · iexact Ha0
    isplitl [Ha1]; · iexact Ha1
    isplitl [Hm]; · iexact Hm
    isplitl [Hl]; · iexact Hl
    iexact Hacc
  · unfold Holds
    iintro ⟨Hq, Hr, Hk, Hv, Hf, Hg, Ho, Hqs, Hfs, Hs0, Hs1, Hp0, Hp1, Ha0, Ha1, Hm, Hl, Hacc⟩
    isplitl [Hs1]
    · iexact Hs1
    iintro %Y H
    isplitl [Hq]; · iexact Hq
    isplitl [Hr]; · iexact Hr
    isplitl [Hk]; · iexact Hk
    isplitl [Hv]; · iexact Hv
    isplitl [Hf]; · iexact Hf
    isplitl [Hg]; · iexact Hg
    isplitl [Ho]; · iexact Ho
    isplitl [Hqs]; · iexact Hqs
    isplitl [Hfs]; · iexact Hfs
    isplitl [Hs0]; · iexact Hs0
    isplitl [H]; · iexact H
    isplitl [Hp0]; · iexact Hp0
    isplitl [Hp1]; · iexact Hp1
    isplitl [Ha0]; · iexact Ha0
    isplitl [Ha1]; · iexact Ha1
    isplitl [Hm]; · iexact Hm
    isplitl [Hl]; · iexact Hl
    iexact Hacc

theorem lens_p (B : Bufs sig) (c : Dev nD) (σ : St F) (b : Bool) :
    Lens (τ := τ) (Ix := Ix) (Name := Name) (U := U) (Lvl := Lvl) B c (B.p b) σ (σ.p b) (fun Y => { σ with p := Function.update σ.p b Y }) := by
  refine ⟨by simp only [Function.update_eq_self], ?_⟩
  cases b
  · unfold Holds
    iintro ⟨Hq, Hr, Hk, Hv, Hf, Hg, Ho, Hqs, Hfs, Hs0, Hs1, Hp0, Hp1, Ha0, Ha1, Hm, Hl, Hacc⟩
    isplitl [Hp0]
    · iexact Hp0
    iintro %Y H
    isplitl [Hq]; · iexact Hq
    isplitl [Hr]; · iexact Hr
    isplitl [Hk]; · iexact Hk
    isplitl [Hv]; · iexact Hv
    isplitl [Hf]; · iexact Hf
    isplitl [Hg]; · iexact Hg
    isplitl [Ho]; · iexact Ho
    isplitl [Hqs]; · iexact Hqs
    isplitl [Hfs]; · iexact Hfs
    isplitl [Hs0]; · iexact Hs0
    isplitl [Hs1]; · iexact Hs1
    isplitl [H]; · iexact H
    isplitl [Hp1]; · iexact Hp1
    isplitl [Ha0]; · iexact Ha0
    isplitl [Ha1]; · iexact Ha1
    isplitl [Hm]; · iexact Hm
    isplitl [Hl]; · iexact Hl
    iexact Hacc
  · unfold Holds
    iintro ⟨Hq, Hr, Hk, Hv, Hf, Hg, Ho, Hqs, Hfs, Hs0, Hs1, Hp0, Hp1, Ha0, Ha1, Hm, Hl, Hacc⟩
    isplitl [Hp1]
    · iexact Hp1
    iintro %Y H
    isplitl [Hq]; · iexact Hq
    isplitl [Hr]; · iexact Hr
    isplitl [Hk]; · iexact Hk
    isplitl [Hv]; · iexact Hv
    isplitl [Hf]; · iexact Hf
    isplitl [Hg]; · iexact Hg
    isplitl [Ho]; · iexact Ho
    isplitl [Hqs]; · iexact Hqs
    isplitl [Hfs]; · iexact Hfs
    isplitl [Hs0]; · iexact Hs0
    isplitl [Hs1]; · iexact Hs1
    isplitl [Hp0]; · iexact Hp0
    isplitl [H]; · iexact H
    isplitl [Ha0]; · iexact Ha0
    isplitl [Ha1]; · iexact Ha1
    isplitl [Hm]; · iexact Hm
    isplitl [Hl]; · iexact Hl
    iexact Hacc

theorem lens_a (B : Bufs sig) (c : Dev nD) (σ : St F) (b : Bool) :
    Lens (τ := τ) (Ix := Ix) (Name := Name) (U := U) (Lvl := Lvl) B c (B.a b) σ (σ.a b) (fun Y => { σ with a := Function.update σ.a b Y }) := by
  refine ⟨by simp only [Function.update_eq_self], ?_⟩
  cases b
  · unfold Holds
    iintro ⟨Hq, Hr, Hk, Hv, Hf, Hg, Ho, Hqs, Hfs, Hs0, Hs1, Hp0, Hp1, Ha0, Ha1, Hm, Hl, Hacc⟩
    isplitl [Ha0]
    · iexact Ha0
    iintro %Y H
    isplitl [Hq]; · iexact Hq
    isplitl [Hr]; · iexact Hr
    isplitl [Hk]; · iexact Hk
    isplitl [Hv]; · iexact Hv
    isplitl [Hf]; · iexact Hf
    isplitl [Hg]; · iexact Hg
    isplitl [Ho]; · iexact Ho
    isplitl [Hqs]; · iexact Hqs
    isplitl [Hfs]; · iexact Hfs
    isplitl [Hs0]; · iexact Hs0
    isplitl [Hs1]; · iexact Hs1
    isplitl [Hp0]; · iexact Hp0
    isplitl [Hp1]; · iexact Hp1
    isplitl [H]; · iexact H
    isplitl [Ha1]; · iexact Ha1
    isplitl [Hm]; · iexact Hm
    isplitl [Hl]; · iexact Hl
    iexact Hacc
  · unfold Holds
    iintro ⟨Hq, Hr, Hk, Hv, Hf, Hg, Ho, Hqs, Hfs, Hs0, Hs1, Hp0, Hp1, Ha0, Ha1, Hm, Hl, Hacc⟩
    isplitl [Ha1]
    · iexact Ha1
    iintro %Y H
    isplitl [Hq]; · iexact Hq
    isplitl [Hr]; · iexact Hr
    isplitl [Hk]; · iexact Hk
    isplitl [Hv]; · iexact Hv
    isplitl [Hf]; · iexact Hf
    isplitl [Hg]; · iexact Hg
    isplitl [Ho]; · iexact Ho
    isplitl [Hqs]; · iexact Hqs
    isplitl [Hfs]; · iexact Hfs
    isplitl [Hs0]; · iexact Hs0
    isplitl [Hs1]; · iexact Hs1
    isplitl [Hp0]; · iexact Hp0
    isplitl [Hp1]; · iexact Hp1
    isplitl [Ha0]; · iexact Ha0
    isplitl [H]; · iexact H
    isplitl [Hm]; · iexact Hm
    isplitl [Hl]; · iexact Hl
    iexact Hacc

variable {defs : Defs nD τ sig (Elt F) Λ} {𝒱 : Variants} {bd : Option 𝒱.V} {E : Set Name}

variable (Ix U Lvl defs 𝒱 bd E) in
/-- From state `σ` the program ends in state `σ'` with result `a`. -/
def Runs {α : Type} (B : Bufs sig) (c : Dev nD) (p : Prog (TpuEff nD τ sig (Elt F) Λ .tc) α) (σ σ' : St F) (a : α) : Prop :=
  ∀ Q : α → sProp 𝕄, Holds B c σ ⊢ iprop((Holds B c σ' -∗ Q a) -∗ wp frame (wpE defs 𝒱 (c : Thread nD τ) bd) E p Q)

variable {B : Bufs sig} {c : Dev nD}

theorem Runs.ret {α : Type} (σ : St F) (a : α) : Runs Ix U Lvl defs 𝒱 bd E B c (pure a) σ σ a := by
  intro Q
  rw [wp_pure]
  iintro H HK
  imodintro
  iapply HK
  iexact H

theorem Runs.bind {α β : Type} {p : Prog (TpuEff nD τ sig (Elt F) Λ .tc) α} {k : α → Prog (TpuEff nD τ sig (Elt F) Λ .tc) β}
    {σ σ' σ'' : St F} {a : α} {b : β} (h₁ : Runs Ix U Lvl defs 𝒱 bd E B c p σ σ' a) (h₂ : Runs Ix U Lvl defs 𝒱 bd E B c (k a) σ' σ'' b) : Runs Ix U Lvl defs 𝒱 bd E B c (p >>= k) σ σ'' b := by
  intro Q
  rw [wp_bind]
  iintro H HK
  iapply (h₁ (fun a => wp frame (wpE defs 𝒱 (c : Thread nD τ) bd) E (k a) Q)) $$ H
  iintro H
  iapply (h₂ Q) $$ H
  iexact HK

theorem Runs.to {α : Type} {p : Prog (TpuEff nD τ sig (Elt F) Λ .tc) α} {σ σ' σ'' : St F} {a : α}
    (h : Runs Ix U Lvl defs 𝒱 bd E B c p σ σ' a) (e : σ' = σ'') : Runs Ix U Lvl defs 𝒱 bd E B c p σ σ'' a := e ▸ h

theorem Runs.load {S : Shape} {e : EltTy} {M : Memref sig .tc .vmem S e} {σ : St F} {X : S.Idx → Elt F e} {upd : (S.Idx → Elt F e) → St F}
    (L : Lens (τ := τ) (Ix := Ix) (Name := Name) (U := U) (Lvl := Lvl) B c M σ X upd) {off size : Fin S.rank → Nat} {inb : ∀ a, off a + size a ≤ S.size a}
    {hl : M.view.LoadsAt (Rect.unit off size inb).toLoadRect} :
    Runs Ix U Lvl defs 𝒱 bd E B c (Prog.lift (.load M (Rect.unit off size inb).toLoadRect hl)) σ σ (VecWindow.window X off size inb) := by
  intro Q
  refine L.2.trans ?_
  unfold own owns
  iintro ⟨⟨%f, %hf, H⟩, HB⟩ HK
  iapply (wp_load 𝒱 (c : Thread nD τ) bd E (hl := hl) (k := .ret) (Q := Q) (S := M.view.set) (View.setOn_subset_set _ _)) $$ H
  iintro H
  rw [wp_ret, View.readAt_unit M.view f inb rfl inb, hf]
  imodintro
  iapply HK
  rw [← L.1]
  iapply HB
  iexists f
  isplitr
  · ipureintro; exact hf
  · iexact H

theorem Runs.store {S : Shape} {e : EltTy} {M : Memref sig .tc .vmem S e} {σ : St F} {X : S.Idx → Elt F e} {upd : (S.Idx → Elt F e) → St F}
    (L : Lens (τ := τ) (Ix := Ix) (Name := Name) (U := U) (Lvl := Lvl) B c M σ X upd) {off size : Fin S.rank → Nat} {inb : ∀ a, off a + size a ≤ S.size a}
    {w : (Rect.unit off size inb).shape.Idx → Elt F e}
    {hx : (M.access (Rect.unit off size inb)).Stores Finset.univ} {hm : Finset.univ = Finset.univ ∨ ∀ a, (Rect.unit off size inb).stride a = 1} :
    Runs Ix U Lvl defs 𝒱 bd E B c (Prog.lift (.store M (Rect.unit off size inb) w Finset.univ hx hm)) σ (upd (VecWindow.put X off size w)) ⟨⟩ := by
  intro Q
  refine L.2.trans ?_
  unfold own owns
  iintro ⟨⟨%f, %hf, H⟩, HB⟩ HK
  iapply (wp_store 𝒱 (c : Thread nD τ) bd E (hx := hx) (hm := hm) (w := w) (k := .ret) (Q := Q) (S := M.view.set) (View.set_slice_subset M.view (Rect.unit off size inb))) $$ H
  iintro H
  rw [wp_ret]
  imodintro
  iapply HK
  iapply HB
  iexists ((M.access (Rect.unit off size inb)).write (Elt F) f w Finset.univ)
  isplitr
  · ipureintro
    rw [← hf]
    exact View.read_writes_cons_put M.view f inb w [] rfl
  · iexact H

end Cert.Fox

end
-- ==== Proof.FoxSteps.lean ====
/- What each piece of the forgetful attention's body leaves, run from any state. -/
module

public import proofs.«01_k».proof.Proof.FoxRun

@[expose] public section

noncomputable section

namespace Cert.Fox

open Idealize.ShloMosaic Idealize.ShloMosaic.TcCoe Cert.Kernel3Ideal Cert.Kernel3Ideal.Facts₀
open Idealize.SL Idealize.SL.RA Idealize.SL.BI
open scoped Idealize.SL.BI
open Idealize.SL.BI.BIBase Idealize.SL.BI.Laws Idealize.SL.ProofMode Idealize.SL.Sem
open VecWindow (window)
open Cert.Mla (inbS inbM tMax tExp tSum upto winM yy newM newP newA newL uptoSt win_full put_full cast_same)

variable {nD : Nat} {τ : Topo} {sig : RefSig} {Λ : Labels} {F : FTy → Type} [FloatOps F]
variable {Ix : Type} [DecidableEq Ix] {Name : Type} [DecidableEq Name] {U : Type} [URA U] {Lvl : Type} [Preorder Lvl]
variable {defs : Defs nD τ sig (Elt F) Λ} {𝒱 : Variants} {bd : Option 𝒱.V} {E : Set Name}
variable {B : Bufs sig} {c : Dev nD}

/-! ## The state after a piece -/

/-- The forget sums of tile `t`'s queries. -/
def fw (fs : Vec F S1024x128 .f32) (t : Nat) : FVec F S32x128 .f32 := winM fs (t % 32) (Nat.mod_lt _ (by omega))

theorem fw_eq (fs : Vec F S1024x128 .f32) (t : Nat) (h : t < 32) : fw fs t = winM fs t h := by
  have e : ∀ u (hu : u < 32), u = t → winM fs u hu = winM fs t h := by rintro u hu rfl; rfl
  exact e _ _ (Nat.mod_eq_of_lt h)

theorem inbG (j h d : Nat) : ∀ a, (![0, 0, h % 4, 256 * (j % 8) + d % 129] : Fin 4 → Nat) a + S1x1x1x128.size a ≤ S1x1x4x2048.size a := by
  intro a; match a with
  | ⟨0, _⟩ => show 0 + 1 ≤ 1; omega
  | ⟨1, _⟩ => show 0 + 1 ≤ 1; omega
  | ⟨2, _⟩ => show h % 4 + 1 ≤ 4; omega
  | ⟨3, _⟩ => show 256 * (j % 8) + d % 129 + 128 ≤ 2048; omega

/-- The forget sums of key block `j`'s keys from lane `d`, of row group `h`. -/
def gw (g : Vec F S1x1x4x2048 .f32) (j h d : Nat) : FVec F S1x1x1x128 .f32 :=
  window g ![0, 0, h % 4, 256 * (j % 8) + d % 129] S1x1x1x128.size (inbG j h d)

/-- A tile's scores against key block `j`, biased, then masked by `mk`. -/
def mkF (mk : Nat → Nat → FVec F S32x128 .f32 → FVec F S32x128 .f32) (fs : Vec F S1024x128 .f32) (g : Vec F S1x1x4x2048 .f32) (j : Nat) :
    Nat → Nat → FVec F S32x128 .f32 → FVec F S32x128 .f32 := fun t d x => mk t d (biased x (fw fs t) (gw g j (t / 8) d))

def tileSt (σ : St F) (mk : Nat → Nat → FVec F S32x128 .f32 → FVec F S32x128 .f32) (j : Nat) (b : Bool) (t : Nat) (h : t < 32) : St F :=
  { σ with
    p := Function.update σ.p b
      (VecWindow.put (VecWindow.put (σ.p b) ![32 * t, 0] S32x128.size
          (shapeCast S32x128 (truncf .bf16 (newP (mkF mk σ.fs σ.g j) t h (σ.s b) σ.m 0 (by omega)) bitsLt_bf16_f32) shapeCasts_S32x128_S32x128))
        ![32 * t, 128] S32x128.size (shapeCast S32x128 (truncf .bf16 (newP (mkF mk σ.fs σ.g j) t h (σ.s b) σ.m 128 (by omega)) bitsLt_bf16_f32) shapeCasts_S32x128_S32x128))
    l := VecWindow.put σ.l ![32 * t, 0] S32x128.size (shapeCast S32x128 (newL (mkF mk σ.fs σ.g j) t h (σ.s b) σ.m σ.l) shapeCasts_S32x128_S32x128)
    m := VecWindow.put σ.m ![32 * t, 0] S32x128.size (shapeCast S32x128 (newM (mkF mk σ.fs σ.g j) t h (σ.s b) σ.m) shapeCasts_S32x128_S32x128)
    a := Function.update σ.a b (VecWindow.put (σ.a b) ![32 * t, 0] S32x128.size (shapeCast S32x128 (newA (mkF mk σ.fs σ.g j) t h (σ.s b) σ.m) shapeCasts_S32x128_S32x128)) }

theorem inbK (j : Nat) : ∀ a, (![0, 256 * (j % 8), 0] : Fin 3 → Nat) a + S1x256x128.size a ≤ S1x2048x128.size a := by
  intro a; match a with
  | ⟨0, _⟩ => show 0 + 1 ≤ 1; omega
  | ⟨1, _⟩ => show 256 * (j % 8) + 256 ≤ 2048; omega
  | ⟨2, _⟩ => show 0 + 128 ≤ 128; omega

/-- Block `j` of the keys or the values. -/
def blk (k : Vec F S1x2048x128 .f32) (j : Nat) : FVec F S1x256x128 .f32 := window k ![0, 256 * (j % 8), 0] S1x256x128.size (inbK j)

theorem blk_at (k : Vec F S1x2048x128 .f32) (j : Nat) (hj : j < 8) (off : Fin 3 → Nat) (h) (e : off = ![0, 256 * j, 0]) :
    window k off S1x256x128.size h = blk k j := by
  have e' : off = ![0, 256 * (j % 8), 0] := by rw [Nat.mod_eq_of_lt hj]; exact e
  subst e'; rfl

theorem gw_at (g : Vec F S1x1x4x2048 .f32) (j h d : Nat) (hj : j < 8) (hh : h < 4) (hd : d < 129) (off : Fin 4 → Nat) (hb) (e : off = ![0, 0, h, 256 * j + d]) :
    window g off S1x1x1x128.size hb = gw g j h d := by
  have e' : off = ![0, 0, h % 4, 256 * (j % 8) + d % 129] := by rw [Nat.mod_eq_of_lt hj, Nat.mod_eq_of_lt hh, Nat.mod_eq_of_lt hd]; exact e
  subst e'; rfl

/-- The scores of the stacked queries against key block `j`. -/
def sc (qs : Vec F S1024x128 .bf16) (k : Vec F S1x2048x128 .f32) (j : Nat) : FVec F S1024x256 .f32 :=
  matmul (φ₁ := .bf16) (φ₂ := .bf16) dot_S1024x128_S256x128_S1024x256_1_1_0_0_n_n none qs (truncf .bf16 (shapeCast S256x128 (blk k j) shapeCasts_S1x256x128_S256x128) bitsLt_bf16_f32)
    (constant S1024x256 .f32 0x00000000#32)

/-- The accumulator rescaled, plus the weights' product with the values of block `j`. -/
def ac (a0 al : Vec F S1024x128 .f32) (p : Vec F S1024x256 .bf16) (v : Vec F S1x2048x128 .f32) (j : Nat) : FVec F S1024x128 .f32 :=
  addf (mulf a0 al) (matmul (φ₁ := .bf16) (φ₂ := .bf16) dot_S1024x256_S256x128_S1024x128_1_0_0_1_n_n none p (truncf .bf16 (shapeCast S256x128 (blk v j) shapeCasts_S1x256x128_S256x128) bitsLt_bf16_f32)
      (constant S1024x128 .f32 0x00000000#32))

theorem run_tile (σ : St F) (b : Bool) (mk : Nat → Nat → FVec F S32x128 .f32 → FVec F S32x128 .f32) (j t : Nat) (h : t < 32) (g0 g1 : FVec F S1x1x1x128 .f32)
    (e0 : g0 = gw σ.g j (t / 8) 0) (e1 : g1 = gw σ.g j (t / 8) 128) :
    Runs Ix U Lvl defs 𝒱 bd E B c (tile B b mk g0 g1 t h) σ (tileSt σ mk j b t h) ⟨⟩ := by
  unfold tile
  refine Runs.bind (Runs.load (lens_fs B c _)) ?_
  refine Runs.bind (Runs.load (lens_s B c _ b)) ?_
  refine Runs.bind (Runs.load (lens_s B c _ b)) ?_
  refine Runs.bind (Runs.load (lens_m B c _)) ?_
  refine Runs.bind (Runs.load (lens_p B c _ b)) ?_
  refine Runs.bind (Runs.store (lens_p B c _ b)) ?_
  refine Runs.bind (Runs.load (lens_p B c _ b)) ?_
  refine Runs.bind (Runs.store (lens_p B c _ b)) ?_
  refine Runs.bind (Runs.load (lens_l B c _)) ?_
  refine Runs.bind (Runs.load (lens_l B c _)) ?_
  refine Runs.bind (Runs.store (lens_l B c _)) ?_
  refine Runs.bind (Runs.load (lens_m B c _)) ?_
  refine Runs.bind (Runs.store (lens_m B c _)) ?_
  refine Runs.bind (Runs.load (lens_a B c _ b)) ?_
  refine (Runs.store (lens_a B c _ b)).to ?_
  have eF : window σ.fs ![32 * t, 0] S32x128.size (inbM t h) = fw σ.fs t := (fw_eq σ.fs t h).symm
  simp only [Function.update_idem, Function.update_self, eF, e0, e1]
  rfl

/-- The eight tiles of row group `h`. -/
def grp (mk : Nat → Nat → FVec F S32x128 .f32 → FVec F S32x128 .f32) (j : Nat) (b : Bool) (h : Nat) (hh : h < 4) (σ : St F) : St F :=
  uptoSt 8 (fun t ht σ => tileSt σ mk j b (8 * h + t) (by omega)) 8 (Nat.le_refl _) σ

theorem run_upto (N : Nat) (P : St F → Prop) (f : (t : Nat) → t < N → Prog (TpuEff nD τ sig (Elt F) Λ .tc) PUnit) (g : (t : Nat) → t < N → St F → St F)
    (hP : ∀ t h σ, P σ → P (g t h σ)) (hf : ∀ t h σ, P σ → Runs Ix U Lvl defs 𝒱 bd E B c (f t h) σ (g t h σ) ⟨⟩) :
    ∀ (n : Nat) (h : n ≤ N) (σ : St F), P σ → Runs Ix U Lvl defs 𝒱 bd E B c (upto N f n h) σ (uptoSt N g n h σ) ⟨⟩
  | 0, _, σ, _ => Runs.ret σ PUnit.unit
  | n + 1, h, σ, p => Runs.bind (hf _ _ σ p) (run_upto N P f g hP hf n _ _ (hP _ _ _ p))

theorem run_group (σ : St F) (b : Bool) (mk : Nat → Nat → FVec F S32x128 .f32 → FVec F S32x128 .f32) (j h : Nat) (hj : j < 8) (hh : h < 4) (off : BitVec 32 → Fin 4 → Nat) (ho)
    (e0 : off 0#32 = ![0, 0, h, 256 * j]) (e1 : off 128#32 = ![0, 0, h, 256 * j + 128]) :
    Runs Ix U Lvl defs 𝒱 bd E B c (group B b mk h hh off ho) σ (grp mk j b h hh σ) ⟨⟩ := by
  unfold group
  refine Runs.bind (Runs.load (lens_g B c _)) ?_
  refine Runs.bind (Runs.load (lens_g B c _)) ?_
  refine run_upto 8 (fun σ' => σ'.g = σ.g) _ (fun t ht σ => tileSt σ mk j b (8 * h + t) (by omega)) (fun t ht σ' e => e) (fun t ht σ' e => ?_) 8 _ σ rfl
  have e8 : (8 * h + t) / 8 = h := by omega
  refine run_tile σ' b mk j (8 * h + t) _ _ _ ?_ ?_
  · rw [e8, e]; exact gw_at σ.g j h 0 hj hh (by omega) _ _ e0
  · rw [e8, e]; exact gw_at σ.g j h 128 hj hh (by omega) _ _ e1

/-- The offsets are those of key block `j`. -/
structure At (O : Offs) (j : Nat) : Prop where
  a0 : O.o0 0#32 = ![0, 0, 0, 256 * j] ∧ O.o0 128#32 = ![0, 0, 0, 256 * j + 128]
  a1 : O.o1 0#32 = ![0, 0, 1, 256 * j] ∧ O.o1 128#32 = ![0, 0, 1, 256 * j + 128]
  a2 : O.o2 0#32 = ![0, 0, 2, 256 * j] ∧ O.o2 128#32 = ![0, 0, 2, 256 * j + 128]
  a3 : O.o3 0#32 = ![0, 0, 3, 256 * j] ∧ O.o3 128#32 = ![0, 0, 3, 256 * j + 128]

def tilesSt (b : Bool) (mk : Nat → Nat → FVec F S32x128 .f32 → FVec F S32x128 .f32) (j : Nat) (σ : St F) : St F :=
  grp mk j b 3 (by omega) (grp mk j b 2 (by omega) (grp mk j b 1 (by omega) (grp mk j b 0 (by omega) σ)))

theorem run_tiles (σ : St F) (b : Bool) (mk : Nat → Nat → FVec F S32x128 .f32 → FVec F S32x128 .f32) (O : Offs) (j : Nat) (hj : j < 8) (hO : At O j) :
    Runs Ix U Lvl defs 𝒱 bd E B c (tiles B b mk O) σ (tilesSt b mk j σ) ⟨⟩ := by
  unfold tiles
  exact (run_group σ b mk j 0 hj _ _ _ hO.a0.1 hO.a0.2).bind ((run_group _ b mk j 1 hj _ _ _ hO.a1.1 hO.a1.2).bind
    ((run_group _ b mk j 2 hj _ _ _ hO.a2.1 hO.a2.2).bind (run_group _ b mk j 3 hj _ _ _ hO.a3.1 hO.a3.2)))

def qkSt (b : Bool) (j : Nat) (σ : St F) : St F := { σ with s := Function.update σ.s b (sc σ.qs σ.k j) }
def pvSt (b : Bool) (j : Nat) (σ : St F) : St F := { σ with acc := ac σ.acc (σ.a b) (σ.p b) σ.v j }

theorem run_qk (σ : St F) (b : Bool) (j : Nat) (hj : j < 8) (off : Fin 3 → Nat) (h) (eo : off = ![0, 256 * j, 0]) :
    Runs Ix U Lvl defs 𝒱 bd E B c (qk B b off h) σ (qkSt b j σ) ⟨⟩ := by
  unfold qk
  refine Runs.bind (Runs.load (lens_k B c _)) ?_
  refine Runs.bind (Runs.load (lens_qs B c _)) ?_
  refine Runs.bind (Runs.load (lens_s B c _ b)) ?_
  refine (Runs.store (lens_s B c _ b)).to ?_
  have e : ∀ w : FVec F S1024x256 .f32, VecWindow.put (σ.s b) ![0, 0] S1024x256.size w = w := fun w => put_full _ _ inb_S1024x256_S1024x256_0_0 w
  simp only [e]
  rw [win_full, cast_same, blk_at σ.k j hj off h eo]
  rfl

theorem run_pv (σ : St F) (b : Bool) (j : Nat) (hj : j < 8) (off : Fin 3 → Nat) (h) (eo : off = ![0, 256 * j, 0]) :
    Runs Ix U Lvl defs 𝒱 bd E B c (pv B b off h) σ (pvSt b j σ) ⟨⟩ := by
  unfold pv
  refine Runs.bind (Runs.load (lens_v B c _)) ?_
  refine Runs.bind (Runs.load (lens_acc B c _)) ?_
  refine Runs.bind (Runs.load (lens_a B c _ b)) ?_
  refine Runs.bind (Runs.load (lens_p B c _ b)) ?_
  refine Runs.bind (Runs.load (lens_acc B c _)) ?_
  refine (Runs.store (lens_acc B c _)).to ?_
  have e : ∀ w : FVec F S1024x128 .f32, VecWindow.put σ.acc ![0, 0] S1024x128.size w = w := fun w => put_full _ _ inb_S1024x128_S1024x128_0_0 w
  simp only [e]
  rw [win_full, win_full, win_full, cast_same, blk_at σ.v j hj off h eo]
  rfl

/-- Row group `h`'s forget sums on every lane. -/
def fcol (f : Vec F S1x256x4 .f32) (h : Nat) (hh : h < 4) : FVec F S256x128 .f32 :=
  broadcastTo S256x128 (shapeCast S256x1 (shapeCast S256x1 (window f ![0, 0, h] S1x256x1.size (inbF h hh) : FVec F S1x256x1 .f32) shapeCasts_S1x256x1_S256x1) shapeCasts_S256x1_S256x1) broadcasts_S256x1_S256x128

theorem run_fill (σ : St F) (x y : FVec F S256x128 .bf16) (h : Nat) (hh : h < 4) : Runs Ix U Lvl defs 𝒱 bd E B c (fill B x y h hh) σ
    { σ with qs := VecWindow.put σ.qs ![256 * h, 0] S256x128.size (qrow x y h), fs := VecWindow.put σ.fs ![256 * h, 0] S256x128.size (fcol σ.f h hh) } ⟨⟩ := by
  unfold fill
  refine Runs.bind (Runs.load (lens_qs B c _)) ?_
  refine Runs.bind (Runs.store (lens_qs B c _)) ?_
  refine Runs.bind (Runs.load (lens_f B c _)) ?_
  refine Runs.bind (Runs.load (lens_fs B c _)) ?_
  refine (Runs.store (lens_fs B c _)).to ?_
  rw [cast_same, cast_same]
  rfl

theorem run_put (σ : St F) (x : FVec F S1024x128 .f32) (h : Nat) (hh : h < 2) : Runs Ix U Lvl defs 𝒱 bd E B c (put B x h hh) σ
    { σ with o := VecWindow.put σ.o ![h, 0, 0] S1x256x128.size (outVal h hh x) } ⟨⟩ := by
  unfold put
  refine Runs.bind (Runs.load (lens_o B c _)) ?_
  exact Runs.store (lens_o B c _)

theorem run_reset (σ : St F) (M : Memref sig .tc .vmem S1024x128 .f32) (X : Vec F S1024x128 .f32) (upd : Vec F S1024x128 .f32 → St F)
    (L : Lens (τ := τ) (Ix := Ix) (Name := Name) (U := U) (Lvl := Lvl) B c M σ X upd) (x : F .f32) :
    Runs Ix U Lvl defs 𝒱 bd E B c (reset0 M x) σ (upd (broadcast S1024x128 x)) ⟨⟩ := by
  unfold reset0
  refine Runs.bind (Runs.load L) ?_
  refine (Runs.store L).to ?_
  rw [cast_same]
  exact congrArg upd (put_full _ _ inb_S1024x128_S1024x128_0_0 _)

end Cert.Fox

end
-- ==== Proof.FoxBody.lean ====
/- The whole of the forgetful attention's body, run from any state. -/
module

public import proofs.«01_k».proof.Proof.FoxSteps

@[expose] public section

noncomputable section

namespace Cert.Fox

open Idealize.ShloMosaic Idealize.ShloMosaic.TcCoe Cert.Kernel3Ideal Cert.Kernel3Ideal.Facts₀
open Idealize.SL Idealize.SL.RA Idealize.SL.BI
open scoped Idealize.SL.BI
open Idealize.SL.BI.BIBase Idealize.SL.BI.Laws Idealize.SL.ProofMode Idealize.SL.Sem
open VecWindow (window)
open Cert.Mla (upto uptoSt iter win_full put_full cast_same)

variable {nD : Nat} {τ : Topo} {sig : RefSig} {Λ : Labels} {F : FTy → Type} [FloatOps F]
variable {Ix : Type} [DecidableEq Ix] {Name : Type} [DecidableEq Name] {U : Type} [URA U] {Lvl : Type} [Preorder Lvl]
variable {defs : Defs nD τ sig (Elt F) Λ} {𝒱 : Variants} {bd : Option 𝒱.V} {E : Set Name}
variable {B : Bufs sig} {c : Dev nD}

/-! ## Where the accesses fall -/

theorem trips_eq : ∀ i : grid0.Coords, (k0_t1_loop i).trips = (i 2).val / 2 := by decide +kernel
theorem none_eq : ∀ i : grid0.Coords, (k0_t2_loop i).trips = 0 := by decide +kernel
theorem cond_eq : ∀ i : grid0.Coords, (k0_cond1 i = 1#1 ↔ (i 2).val % 2 = 0) ∧ (k0_cond2 i = 1#1 ↔ (i 2).val % 2 = 1) := by decide +kernel

theorem trip_off : ∀ (i : grid0.Coords) (k : Fin (k0_t1_loop i).trips), k0_off1 i k 1#32 = ![0, 256 * (2 * k.val + 1), 0] ∧ k0_off1 i k 2#32 = ![0, 256 * (2 * k.val + 2), 0]
    ∧ k0_off6 i k = ![0, 256 * (2 * k.val), 0] := by decide +kernel

theorem trip_offA : ∀ (i : grid0.Coords) (k : Fin (k0_t1_loop i).trips),
    (k0_off2 i k 0#32 = ![0, 0, 0, 256 * (2 * k.val)] ∧ k0_off2 i k 128#32 = ![0, 0, 0, 256 * (2 * k.val) + 128])
    ∧ (k0_off3 i k 0#32 = ![0, 0, 1, 256 * (2 * k.val)] ∧ k0_off3 i k 128#32 = ![0, 0, 1, 256 * (2 * k.val) + 128])
    ∧ (k0_off4 i k 0#32 = ![0, 0, 2, 256 * (2 * k.val)] ∧ k0_off4 i k 128#32 = ![0, 0, 2, 256 * (2 * k.val) + 128])
    ∧ (k0_off5 i k 0#32 = ![0, 0, 3, 256 * (2 * k.val)] ∧ k0_off5 i k 128#32 = ![0, 0, 3, 256 * (2 * k.val) + 128]) := by decide +kernel

theorem trip_offB : ∀ (i : grid0.Coords) (k : Fin (k0_t1_loop i).trips),
    (k0_off7 i k 0#32 = ![0, 0, 0, 256 * (2 * k.val + 1)] ∧ k0_off7 i k 128#32 = ![0, 0, 0, 256 * (2 * k.val + 1) + 128])
    ∧ (k0_off8 i k 0#32 = ![0, 0, 1, 256 * (2 * k.val + 1)] ∧ k0_off8 i k 128#32 = ![0, 0, 1, 256 * (2 * k.val + 1) + 128])
    ∧ (k0_off9 i k 0#32 = ![0, 0, 2, 256 * (2 * k.val + 1)] ∧ k0_off9 i k 128#32 = ![0, 0, 2, 256 * (2 * k.val + 1) + 128])
    ∧ (k0_off10 i k 0#32 = ![0, 0, 3, 256 * (2 * k.val + 1)] ∧ k0_off10 i k 128#32 = ![0, 0, 3, 256 * (2 * k.val + 1) + 128]) := by decide +kernel

theorem even_off : ∀ i : grid0.Coords, k0_off25 i = ![0, 256 * (i 2).val, 0]
    ∧ (k0_off21 i 0#32 = ![0, 0, 0, 256 * (i 2).val] ∧ k0_off21 i 128#32 = ![0, 0, 0, 256 * (i 2).val + 128])
    ∧ (k0_off22 i 0#32 = ![0, 0, 1, 256 * (i 2).val] ∧ k0_off22 i 128#32 = ![0, 0, 1, 256 * (i 2).val + 128])
    ∧ (k0_off23 i 0#32 = ![0, 0, 2, 256 * (i 2).val] ∧ k0_off23 i 128#32 = ![0, 0, 2, 256 * (i 2).val + 128])
    ∧ (k0_off24 i 0#32 = ![0, 0, 3, 256 * (i 2).val] ∧ k0_off24 i 128#32 = ![0, 0, 3, 256 * (i 2).val + 128]) := by decide +kernel

theorem odd_off : ∀ i : grid0.Coords, k0_cond2 i = 1#1 → k0_off26 i = ![0, 256 * (i 2).val, 0] ∧ k0_off31 i = ![0, 256 * ((i 2).val - 1), 0] := by decide +kernel

theorem odd_offP : ∀ i : grid0.Coords, k0_cond2 i = 1#1 →
    (k0_off27 i 0#32 = ![0, 0, 0, 256 * ((i 2).val - 1)] ∧ k0_off27 i 128#32 = ![0, 0, 0, 256 * ((i 2).val - 1) + 128])
    ∧ (k0_off28 i 0#32 = ![0, 0, 1, 256 * ((i 2).val - 1)] ∧ k0_off28 i 128#32 = ![0, 0, 1, 256 * ((i 2).val - 1) + 128])
    ∧ (k0_off29 i 0#32 = ![0, 0, 2, 256 * ((i 2).val - 1)] ∧ k0_off29 i 128#32 = ![0, 0, 2, 256 * ((i 2).val - 1) + 128])
    ∧ (k0_off30 i 0#32 = ![0, 0, 3, 256 * ((i 2).val - 1)] ∧ k0_off30 i 128#32 = ![0, 0, 3, 256 * ((i 2).val - 1) + 128]) := by decide +kernel

theorem odd_offO : ∀ i : grid0.Coords, k0_cond2 i = 1#1 →
    (k0_off32 i 0#32 = ![0, 0, 0, 256 * (i 2).val] ∧ k0_off32 i 128#32 = ![0, 0, 0, 256 * (i 2).val + 128])
    ∧ (k0_off33 i 0#32 = ![0, 0, 1, 256 * (i 2).val] ∧ k0_off33 i 128#32 = ![0, 0, 1, 256 * (i 2).val + 128])
    ∧ (k0_off34 i 0#32 = ![0, 0, 2, 256 * (i 2).val] ∧ k0_off34 i 128#32 = ![0, 0, 2, 256 * (i 2).val + 128])
    ∧ (k0_off35 i 0#32 = ![0, 0, 3, 256 * (i 2).val] ∧ k0_off35 i 128#32 = ![0, 0, 3, 256 * (i 2).val + 128]) := by decide +kernel

theorem last_lt (i : grid0.Coords) : (i 2).val < 8 := (i 2).isLt

/-! ## The loop -/

theorem run_for {β : Type} (L : Scf.Loop 32) (ok : L.OK) (f : Fin L.trips → Prog (TpuEff nD τ sig (Elt F) Λ .tc) PUnit) (g : Fin L.trips → St F → St F)
    (hf : ∀ k σ, Runs Ix U Lvl defs 𝒱 bd E B c (f k) σ (g k σ) ⟨⟩) (kk : PUnit → Prog (TpuEff nD τ sig (Elt F) Λ .tc) β) (σ σ' : St F) (b : β)
    (hk : Runs Ix U Lvl defs 𝒱 bd E B c (kk ⟨⟩) (iter L.trips g L.trips σ) σ' b) :
    Runs Ix U Lvl defs 𝒱 bd E B c (Scf.Loop.for L ok PUnit.unit (fun k _ => f k >>= fun _ => pure PUnit.unit) >>= kk) σ σ' b := by
  intro Q
  show Holds B c (iter L.trips g 0 σ) ⊢ _
  iintro H HK
  iapply (Scf.wp_for_bind (kk := kk) (Q := Q) frame (wpE defs 𝒱 (c : Thread nD τ) bd) E L.lb L.ub L.st ok PUnit.unit (fun k _ => f k >>= fun _ => pure PUnit.unit)
    (fun k _ => Holds B c (iter L.trips g k σ)) (fun k acc => by
      have h := (hf k (iter L.trips g k.val σ)).bind (Runs.ret _ PUnit.unit) (fun _ => Holds B c (iter L.trips g (k.val + 1) σ))
      have e : iter L.trips g (k.val + 1) σ = g k (iter L.trips g k.val σ) := by
        show (if h : k.val < L.trips then g ⟨k.val, h⟩ _ else _) = _
        rw [dif_pos k.isLt]
      rw [e] at h ⊢
      iintro H
      iapply h $$ H
      iintro H
      iexact H)) $$ H
  iintro %acc H
  iapply (hk Q) $$ H
  iexact HK

def tripSt (n : Nat) (σ : St F) : St F :=
  pvSt true (2 * n + 1) (tilesSt true clear (2 * n + 1) (qkSt false (2 * n + 2) (pvSt false (2 * n) (tilesSt false clear (2 * n) (qkSt true (2 * n + 1) σ)))))

theorem run_trip (i : grid0.Coords) (k : Fin (k0_t1_loop i).trips) (σ : St F) : Runs Ix U Lvl defs 𝒱 bd E B c (trip B i k) σ (tripSt k.val σ) ⟨⟩ := by
  have hk : k.val < (i 2).val / 2 := Nat.lt_of_lt_of_eq k.isLt (trips_eq i)
  have hi := last_lt i
  obtain ⟨e1, e2, e6⟩ := trip_off i k
  obtain ⟨a0, a1, a2, a3⟩ := trip_offA i k
  obtain ⟨b0, b1, b2, b3⟩ := trip_offB i k
  unfold trip
  exact (run_qk _ _ _ (by omega) _ _ e1).bind ((run_tiles _ _ _ _ _ (by omega) ⟨a0, a1, a2, a3⟩).bind ((run_pv _ _ _ (by omega) _ _ e6).bind
    ((run_qk _ _ _ (by omega) _ _ e2).bind ((run_tiles _ _ _ _ _ (by omega) ⟨b0, b1, b2, b3⟩).bind (run_pv _ _ _ (by omega) _ _ e1)))))

def evenSt (μ : F .f32) (n : Nat) (σ : St F) : St F := pvSt false n (tilesSt false (causal μ) n σ)

theorem run_even (μ : F .f32) (i : grid0.Coords) (h : k0_cond1 i = 1#1) (σ : St F) : Runs Ix U Lvl defs 𝒱 bd E B c (evenEnd B μ i h) σ (evenSt μ (i 2).val σ) ⟨⟩ := by
  obtain ⟨e, a0, a1, a2, a3⟩ := even_off i
  unfold evenEnd
  exact (run_tiles _ _ _ _ _ (last_lt i) ⟨a0, a1, a2, a3⟩).bind (run_pv _ _ _ (last_lt i) _ _ e)

def oddSt (μ : F .f32) (n : Nat) (σ : St F) : St F :=
  pvSt true n (tilesSt true (causal μ) n (pvSt false (n - 1) (tilesSt false clear (n - 1) (qkSt true n σ))))

theorem run_odd (μ : F .f32) (i : grid0.Coords) (h : k0_cond2 i = 1#1) (σ : St F) : Runs Ix U Lvl defs 𝒱 bd E B c (oddEnd B μ i h) σ (oddSt μ (i 2).val σ) ⟨⟩ := by
  have hi := last_lt i
  obtain ⟨e, e'⟩ := odd_off i h
  obtain ⟨a0, a1, a2, a3⟩ := odd_offP i h
  obtain ⟨b0, b1, b2, b3⟩ := odd_offO i h
  unfold oddEnd
  exact (run_qk _ _ _ hi _ _ e).bind ((run_tiles _ _ _ _ _ (by omega) ⟨a0, a1, a2, a3⟩).bind ((run_pv _ _ _ (by omega) _ _ e').bind
    ((run_tiles _ _ _ _ _ hi ⟨b0, b1, b2, b3⟩).bind (run_pv _ _ _ hi _ _ e))))

theorem run_quot (σ : St F) : Runs Ix U Lvl defs 𝒱 bd E B c (do
    let ac : Vec F S1024x128 .f32 ← Prog.lift (.load B.acc (Rect.unit (s := S1024x128) ![0, 0] S1024x128.size inb_S1024x128_S1024x128_0_0).toLoadRect (View.loadsAt_vmem h_S1024x128))
    let l : Vec F S1024x128 .f32 ← Prog.lift (.load B.l (Rect.unit (s := S1024x128) ![0, 0] S1024x128.size inb_S1024x128_S1024x128_0_0).toLoadRect (View.loadsAt_vmem h_S1024x128))
    pure (divf ac l)) σ σ (divf σ.acc σ.l) := by
  refine Runs.bind (Runs.load (lens_acc B c _)) ?_
  refine Runs.bind (Runs.load (lens_l B c _)) ?_
  rw [win_full, win_full]
  exact Runs.ret _ _

/-- The state after all the key blocks, the last being block `n`. -/
def midSt (μ : F .f32) (n : Nat) (σ : St F) : St F :=
  if n % 2 = 0 then evenSt μ n (iter (n / 2) (fun k => tripSt k.val) (n / 2) σ) else oddSt μ n (iter (n / 2) (fun k => tripSt k.val) (n / 2) σ)

theorem run_mid (μ : F .f32) (i : grid0.Coords) (σ : St F) :
    Runs Ix U Lvl defs 𝒱 bd E B c (mid B μ i) σ (midSt μ (i 2).val σ) (divf (midSt μ (i 2).val σ).acc (midSt μ (i 2).val σ).l) := by
  unfold mid
  refine run_for _ _ _ _ (run_trip i) _ _ _ _ ?_
  refine run_for _ _ _ (fun _ σ => σ) (fun k => absurd (Nat.lt_of_lt_of_eq k.isLt (none_eq i)) (Nat.not_lt_zero _)) _ _ _ _ ?_
  have e : ∀ (g : Fin (k0_t2_loop i).trips → St F → St F) σ, iter (k0_t2_loop i).trips g (k0_t2_loop i).trips σ = σ := by
    rw [none_eq]; intro g σ; rfl
  rw [e]
  have e' : iter (k0_t1_loop i).trips (fun k => tripSt k.val) (k0_t1_loop i).trips σ = iter ((i 2).val / 2) (fun k => tripSt k.val) ((i 2).val / 2) σ := by
    rw [trips_eq]
  rw [e']
  unfold midSt
  rcases Nat.mod_two_eq_zero_or_one (i 2).val with he | ho
  · have c1 : k0_cond1 i = 1#1 := (cond_eq i).1.2 he
    have c2 : ¬ k0_cond2 i = 1#1 := fun c => by
      have := (cond_eq i).2.1 c
      omega
    rw [dif_pos c1, dif_neg c2, if_pos he]
    exact (run_even _ _ _ _).bind (run_quot _)
  · have c1 : ¬ k0_cond1 i = 1#1 := fun c => by
      have := (cond_eq i).1.1 c
      omega
    have c2 : k0_cond2 i = 1#1 := (cond_eq i).2.2 ho
    rw [dif_neg c1, dif_pos c2, if_neg (by omega)]
    exact (run_odd _ _ _ _).bind (run_quot _)

/-- The queries and their forget sums stacked, group by group. -/
def fillSt (x y : FVec F S256x128 .bf16) (σ : St F) : St F :=
  uptoSt 4 (fun h hh σ => { σ with qs := VecWindow.put σ.qs ![256 * h, 0] S256x128.size (qrow x y h), fs := VecWindow.put σ.fs ![256 * h, 0] S256x128.size (fcol σ.f h hh) }) 4 (Nat.le_refl _) σ

def headSt (μ : F .f32) (σ : St F) : St F :=
  qkSt false 0
    { fillSt σ.q σ.r σ with
      m := broadcast S1024x128 μ
      l := broadcast S1024x128 (Scalar.ofBits .f32 0x00000000#32)
      acc := broadcast S1024x128 (Scalar.ofBits .f32 0x00000000#32) }

theorem run_head (μ : F .f32) (σ : St F) : Runs Ix U Lvl defs 𝒱 bd E B c (head B μ) σ (headSt μ σ) ⟨⟩ := by
  unfold head
  refine Runs.bind (Runs.load (lens_q B c _)) ?_
  refine Runs.bind (Runs.load (lens_r B c _)) ?_
  rw [win_full, win_full]
  refine (run_upto 4 (fun _ => True) (fill B σ.q σ.r) _ (fun _ _ _ _ => trivial) (fun h hh σ' _ => run_fill σ' σ.q σ.r h hh) 4 _ σ trivial).bind ?_
  refine (run_reset _ _ _ _ (lens_m B c _) _).bind ?_
  refine (run_reset _ _ _ _ (lens_l B c _) _).bind ?_
  refine (run_reset _ _ _ _ (lens_acc B c _) _).bind ?_
  exact run_qk _ _ 0 (by omega) _ _ rfl

/-- The output block written, one query group at a time. -/
def putSt (x : FVec F S1024x128 .f32) (σ : St F) : St F :=
  uptoSt 2 (fun h hh σ => { σ with o := VecWindow.put σ.o ![h, 0, 0] S1x256x128.size (outVal h hh x) }) 2 (Nat.le_refl _) σ

/-- The state after the body. -/
def bodySt (μ : F .f32) (n : Nat) (σ : St F) : St F :=
  putSt (divf (midSt μ n (headSt μ σ)).acc (midSt μ n (headSt μ σ)).l) (midSt μ n (headSt μ σ))

theorem run_body (μ : F .f32) (i : grid0.Coords) (σ : St F) :
    Runs Ix U Lvl defs 𝒱 bd E B c (body B μ i) σ (bodySt μ (i 2).val σ) ⟨⟩ := by
  unfold body
  refine (run_head _ _).bind ?_
  refine (run_mid _ _ _).bind ?_
  exact run_upto 2 (fun _ => True) (put B _) _ (fun _ _ _ _ => trivial) (fun h hh σ _ => run_put σ _ h hh) 2 _ _ trivial

end Cert.Fox

end
-- ==== Proof.FoxGlue.lean ====
/- The tiles of a score block together, and the body's result as a fold over the key blocks. -/
module

public import proofs.«01_k».proof.Proof.FoxBody
public import Idealize.ShloMosaic.Lib.Pointwise

@[expose] public section

noncomputable section

namespace Cert.Fox

open Idealize.ShloMosaic Cert.Kernel3Ideal Cert.Kernel3Ideal.Facts₀
open VecWindow (window)
open Cert.Mla (winM yy newM newP newA newL uptoSt iter cast_same blend blend_zero blend_all winM_blend put_blend put_blend2 allM allL allA allP)

variable {F : FTy → Type} [FloatOps F]

section
variable (mk : Nat → Nat → FVec F S32x128 .f32 → FVec F S32x128 .f32) (jb : Nat)

/-- The state with the first `j` tiles done. -/
def part (σ : St F) (b : Bool) (j : Nat) : St F :=
  { σ with
    p := Function.update σ.p b (blend j (allP (mkF mk σ.fs σ.g jb) (σ.s b) σ.m) (σ.p b))
    l := blend j (allL (mkF mk σ.fs σ.g jb) (σ.s b) σ.m σ.l) σ.l
    m := blend j (allM (mkF mk σ.fs σ.g jb) (σ.s b) σ.m) σ.m
    a := Function.update σ.a b (blend j (allA (mkF mk σ.fs σ.g jb) (σ.s b) σ.m) (σ.a b)) }

theorem part_succ (σ : St F) (b : Bool) (j : Nat) (h : j < 32) : tileSt (part mk jb σ b j) mk jb b j h = part mk jb σ b (j + 1) := by
  unfold tileSt part
  dsimp only
  generalize mkF mk σ.fs σ.g jb = mk'
  have hM : newM mk' j h (σ.s b) (blend j (allM mk' (σ.s b) σ.m) σ.m) = newM mk' j h (σ.s b) σ.m := by
    unfold newM; rw [winM_blend]
  have hA : newA mk' j h (σ.s b) (blend j (allM mk' (σ.s b) σ.m) σ.m) = newA mk' j h (σ.s b) σ.m := by
    unfold newA; rw [winM_blend, hM]
  have hP : ∀ d hd, newP mk' j h (σ.s b) (blend j (allM mk' (σ.s b) σ.m) σ.m) d hd = newP mk' j h (σ.s b) σ.m d hd := by
    intro d hd; unfold newP; rw [hM]
  have hL : newL mk' j h (σ.s b) (blend j (allM mk' (σ.s b) σ.m) σ.m) (blend j (allL mk' (σ.s b) σ.m σ.l) σ.l) = newL mk' j h (σ.s b) σ.m σ.l := by
    unfold newL; rw [winM_blend, hA, hP, hP]
  simp only [Function.update_self, Function.update_idem, cast_same, hM, hA, hP, hL]
  rw [show blend (j + 1) (allP mk' (σ.s b) σ.m) (σ.p b) = _ from (put_blend2 h (fun t h d hd => truncf .bf16 (newP mk' t h (σ.s b) σ.m d hd) bitsLt_bf16_f32) (σ.p b)).symm,
    show blend (j + 1) (allL mk' (σ.s b) σ.m σ.l) σ.l = _ from (put_blend h (fun t h => newL mk' t h (σ.s b) σ.m σ.l) σ.l).symm,
    show blend (j + 1) (allM mk' (σ.s b) σ.m) σ.m = _ from (put_blend h (fun t h => newM mk' t h (σ.s b) σ.m) σ.m).symm,
    show blend (j + 1) (allA mk' (σ.s b) σ.m) (σ.a b) = _ from (put_blend h (fun t h => newA mk' t h (σ.s b) σ.m) (σ.a b)).symm]
  rfl

theorem grp_part (σ : St F) (b : Bool) (h : Nat) (hh : h < 4) : grp mk jb b h hh (part mk jb σ b (8 * h)) = part mk jb σ b (8 * (h + 1)) := by
  have key : ∀ (n : Nat) (hn : n ≤ 8), uptoSt 8 (fun t ht σ => tileSt σ mk jb b (8 * h + t) (by omega)) n hn (part mk jb σ b (8 * h + (8 - n))) = part mk jb σ b (8 * (h + 1)) := by
    intro n
    induction n with
    | zero => intro _; rfl
    | succ n ih =>
      intro hn
      show uptoSt 8 _ n _ (tileSt (part mk jb σ b (8 * h + (8 - (n + 1)))) mk jb b (8 * h + (8 - (n + 1))) _) = _
      rw [part_succ, show 8 * h + (8 - (n + 1)) + 1 = 8 * h + (8 - n) by omega]
      exact ih _
  exact key 8 (Nat.le_refl _)

theorem tilesSt_eq (σ : St F) (b : Bool) : tilesSt b mk jb σ
    = { σ with
        p := Function.update σ.p b (allP (mkF mk σ.fs σ.g jb) (σ.s b) σ.m)
        l := allL (mkF mk σ.fs σ.g jb) (σ.s b) σ.m σ.l
        m := allM (mkF mk σ.fs σ.g jb) (σ.s b) σ.m
        a := Function.update σ.a b (allA (mkF mk σ.fs σ.g jb) (σ.s b) σ.m) } := by
  have h0 : part mk jb σ b (8 * 0) = σ := by
    unfold part
    simp only [Nat.mul_zero, blend_zero, Function.update_eq_self]
  unfold tilesSt
  have e0 := grp_part mk jb σ b 0 (by omega)
  rw [h0] at e0
  rw [e0, grp_part mk jb σ b 1 (by omega), grp_part mk jb σ b 2 (by omega), grp_part mk jb σ b 3 (by omega)]
  unfold part
  simp only [show 8 * (3 + 1) = 32 from rfl, blend_all]
end

/-- The running maximum, denominator and accumulator. -/
@[ext] structure Tri (F : FTy → Type) where
  m : Vec F S1024x128 .f32
  l : Vec F S1024x128 .f32
  acc : Vec F S1024x128 .f32

/-- What the key blocks are run against. -/
structure Env (F : FTy → Type) where
  k : Vec F S1x2048x128 .f32
  v : Vec F S1x2048x128 .f32
  g : Vec F S1x1x4x2048 .f32
  qs : Vec F S1024x128 .bf16
  fs : Vec F S1024x128 .f32

/-- Key block `j`. -/
def step (X : Env F) (mk : Nat → Nat → FVec F S32x128 .f32 → FVec F S32x128 .f32) (j : Nat) (T : Tri F) : Tri F :=
  ⟨allM (mkF mk X.fs X.g j) (sc X.qs X.k j) T.m, allL (mkF mk X.fs X.g j) (sc X.qs X.k j) T.m T.l,
    ac T.acc (allA (mkF mk X.fs X.g j) (sc X.qs X.k j) T.m) (allP (mkF mk X.fs X.g j) (sc X.qs X.k j) T.m) X.v j⟩

/-- The first `n` key blocks. -/
def steps (X : Env F) (T : Tri F) : Nat → Tri F
  | 0 => T
  | n + 1 => step X clear n (steps X T n)

def start (μ : F .f32) : Tri F :=
  ⟨broadcast S1024x128 μ, broadcast S1024x128 (Scalar.ofBits .f32 0x00000000#32), broadcast S1024x128 (Scalar.ofBits .f32 0x00000000#32)⟩

/-- All the key blocks, block `n` the last. -/
def final (μ : F .f32) (n : Nat) (X : Env F) : Tri F := step X (causal μ) n (steps X (start μ) n)

/-! ## The state follows the fold -/

structure Base (X : Env F) (T : Tri F) (σ : St F) : Prop where
  k : σ.k = X.k
  v : σ.v = X.v
  g : σ.g = X.g
  qs : σ.qs = X.qs
  fs : σ.fs = X.fs
  m : σ.m = T.m
  l : σ.l = T.l
  acc : σ.acc = T.acc

/-- The inputs as launched. -/
structure Same (σ₀ σ : St F) : Prop where
  q : σ.q = σ₀.q
  r : σ.r = σ₀.r
  k : σ.k = σ₀.k
  v : σ.v = σ₀.v
  f : σ.f = σ₀.f
  g : σ.g = σ₀.g

variable {X : Env F}

theorem base_qk {T : Tri F} {σ : St F} (hB : Base X T σ) (b : Bool) (j : Nat) :
    Base X T (qkSt b j σ) ∧ (qkSt b j σ).s b = sc X.qs X.k j ∧ (qkSt b j σ).s (!b) = σ.s (!b) := by
  refine ⟨⟨hB.k, hB.v, hB.g, hB.qs, hB.fs, hB.m, hB.l, hB.acc⟩, ?_, ?_⟩
  · show Function.update σ.s b _ b = _
    rw [Function.update_self, hB.qs, hB.k]
  · exact Function.update_of_ne (by cases b <;> decide) _ _

theorem base_step {T : Tri F} {σ : St F} (hB : Base X T σ) (mk : Nat → Nat → FVec F S32x128 .f32 → FVec F S32x128 .f32) (b : Bool) (j : Nat) (hs : σ.s b = sc X.qs X.k j) :
    Base X (step X mk j T) (pvSt b j (tilesSt b mk j σ)) ∧ (pvSt b j (tilesSt b mk j σ)).s = σ.s := by
  rw [tilesSt_eq]
  unfold pvSt
  refine ⟨⟨hB.k, hB.v, hB.g, hB.qs, hB.fs, ?_, ?_, ?_⟩, rfl⟩
  · show allM (mkF mk σ.fs σ.g j) (σ.s b) σ.m = allM (mkF mk X.fs X.g j) (sc X.qs X.k j) T.m
    rw [hs, hB.m, hB.fs, hB.g]
  · show allL (mkF mk σ.fs σ.g j) (σ.s b) σ.m σ.l = allL (mkF mk X.fs X.g j) (sc X.qs X.k j) T.m T.l
    rw [hs, hB.m, hB.l, hB.fs, hB.g]
  · show ac σ.acc (Function.update σ.a b (allA (mkF mk σ.fs σ.g j) (σ.s b) σ.m) b) (Function.update σ.p b (allP (mkF mk σ.fs σ.g j) (σ.s b) σ.m) b) σ.v j = _
    rw [Function.update_self, Function.update_self, hs, hB.m, hB.v, hB.acc, hB.fs, hB.g]
    rfl

/-- The state with the first `n` blocks done and block `n`'s scores ready in the first buffer. -/
def Live (X : Env F) (T : Tri F) (n : Nat) (σ : St F) : Prop := Base X (steps X T n) σ ∧ σ.s false = sc X.qs X.k n

theorem live_trip {T : Tri F} {σ : St F} (n : Nat) (hL : Live X T (2 * n) σ) : Live X T (2 * (n + 1)) (tripSt n σ) := by
  obtain ⟨hB, hs⟩ := hL
  unfold tripSt
  obtain ⟨h1, h1s, h1o⟩ := base_qk hB true (2 * n + 1)
  obtain ⟨h2, h2s⟩ := base_step h1 clear false (2 * n) (h1o.trans hs)
  obtain ⟨h3, h3s, h3o⟩ := base_qk h2 false (2 * n + 2)
  obtain ⟨h4, h4s⟩ := base_step h3 clear true (2 * n + 1) (h3o.trans ((congrFun h2s true).trans h1s))
  exact ⟨h4, (congrFun h4s false).trans h3s⟩

theorem live_iter {T : Tri F} {σ : St F} (N : Nat) (hL : Live X T 0 σ) :
    ∀ n, n ≤ N → Live X T (2 * n) (iter N (fun k => tripSt k.val) n σ)
  | 0, _ => hL
  | n + 1, hn => by
    show Live X T _ (if h : n < N then _ else _)
    rw [dif_pos (show n < N from hn)]
    exact live_trip n (live_iter N hL n (by omega))

theorem base_mid {T : Tri F} {σ : St F} (μ : F .f32) (n : Nat) (hL : Live X T 0 σ) :
    Base X (step X (causal μ) n (steps X T n)) (midSt μ n σ) := by
  obtain ⟨hB, hs⟩ := live_iter (n / 2) hL _ (Nat.le_refl _)
  unfold midSt
  revert hB hs
  generalize iter (n / 2) (fun k : Fin (n / 2) => tripSt k.val) (n / 2) σ = σ'
  intro hB hs
  by_cases he : n % 2 = 0
  · rw [if_pos he]
    rw [show 2 * (n / 2) = n by omega] at hB hs
    exact (base_step hB (causal μ) false n hs).1
  · rw [if_neg he]
    obtain ⟨p, rfl⟩ : ∃ p, n = p + 1 := ⟨n - 1, by omega⟩
    rw [show 2 * ((p + 1) / 2) = p by omega] at hB hs
    unfold oddSt
    obtain ⟨h1, h1s, h1o⟩ := base_qk hB true (p + 1)
    obtain ⟨h2, h2s⟩ := base_step h1 clear false p (h1o.trans hs)
    exact (base_step h2 (causal μ) true (p + 1) ((congrFun h2s true).trans h1s)).1

theorem same_qk {σ₀ σ : St F} (h : Same σ₀ σ) (b : Bool) (j : Nat) : Same σ₀ (qkSt b j σ) := ⟨h.q, h.r, h.k, h.v, h.f, h.g⟩
theorem same_pv {σ₀ σ : St F} (h : Same σ₀ σ) (b : Bool) (j : Nat) : Same σ₀ (pvSt b j σ) := ⟨h.q, h.r, h.k, h.v, h.f, h.g⟩
theorem same_tiles {σ₀ σ : St F} (h : Same σ₀ σ) (b : Bool) (mk : Nat → Nat → FVec F S32x128 .f32 → FVec F S32x128 .f32) (j : Nat) : Same σ₀ (tilesSt b mk j σ) := by
  rw [tilesSt_eq]; exact ⟨h.q, h.r, h.k, h.v, h.f, h.g⟩
theorem same_trip {σ₀ σ : St F} (h : Same σ₀ σ) (n : Nat) : Same σ₀ (tripSt n σ) := by
  unfold tripSt
  exact same_pv (same_tiles (same_qk (same_pv (same_tiles (same_qk h _ _) _ _ _) _ _) _ _) _ _ _) _ _
theorem same_iter {σ₀ σ : St F} (N : Nat) (h : Same σ₀ σ) : ∀ n, Same σ₀ (iter N (fun k => tripSt k.val) n σ)
  | 0 => h
  | n + 1 => by
    show Same σ₀ (if h : n < N then _ else _)
    split
    · exact same_trip (same_iter N h n) n
    · exact same_iter N h n
theorem same_mid {σ₀ σ : St F} (μ : F .f32) (n : Nat) (h : Same σ₀ σ) : Same σ₀ (midSt μ n σ) := by
  have h := same_iter (n / 2) h (n / 2)
  unfold midSt evenSt oddSt
  split
  · exact same_pv (same_tiles h _ _ _) _ _
  · exact same_pv (same_tiles (same_pv (same_tiles (same_qk h _ _) _ _ _) _ _) _ _ _) _ _

/-! ## The queries stacked, the output written -/

/-- The rows of 256-row groups, one group after the other. -/
def stackH {α : Type} (w : (h : Nat) → h < 4 → S256x128.Idx → α) : S1024x128.Idx → α := fun y =>
  w ((y 0).val / 256) (by have : (y 0).val < 1024 := (y 0).isLt; omega) (ix2 ⟨(y 0).val % 256, Nat.mod_lt _ (by omega)⟩ (y 1))

/-- The first `j` groups new, the rest old. -/
def stackTo {α : Type} (j : Nat) (new old : S1024x128.Idx → α) : S1024x128.Idx → α := fun y => if (y 0).val < 256 * j then new y else old y

theorem stackTo_succ {α : Type} {j : Nat} (h : j < 4) (w : (h : Nat) → h < 4 → S256x128.Idx → α) (old : S1024x128.Idx → α) :
    VecWindow.put (stackTo j (stackH w) old) ![256 * j, 0] S256x128.size (w j h) = stackTo (j + 1) (stackH w) old := by
  funext y
  have hy : (y 1).val < 128 := (y 1).isLt
  unfold VecWindow.put
  by_cases hc : 256 * j ≤ (y 0).val ∧ (y 0).val < 256 * j + 256
  · have hin : ∀ a, (![256 * j, 0] : Fin 2 → Nat) a ≤ (y a).val ∧ (y a).val < (![256 * j, 0] : Fin 2 → Nat) a + S256x128.size a := by
      intro a; match a with
      | ⟨0, _⟩ => exact hc
      | ⟨1, _⟩ => exact ⟨Nat.zero_le _, by show (y 1).val < 0 + 128; omega⟩
    rw [dif_pos hin]
    unfold stackTo
    rw [if_pos (by omega)]
    unfold stackH
    have key : ∀ (t : Nat) (ht : t < 4) (z z' : S256x128.Idx), t = j → z' = z → w j h z' = w t ht z := by
      intro t ht z z' e1 e2; subst e1; rw [e2]
    refine key _ _ _ _ (by omega) ?_
    funext a; apply Fin.ext
    match a with
    | ⟨0, _⟩ => show (y 0).val - 256 * j = (y 0).val % 256; omega
    | ⟨1, _⟩ => show (y 1).val - 0 = (y 1).val; omega
  · have hin : ¬ ∀ a, (![256 * j, 0] : Fin 2 → Nat) a ≤ (y a).val ∧ (y a).val < (![256 * j, 0] : Fin 2 → Nat) a + S256x128.size a := fun H => hc (H 0)
    rw [dif_neg hin]
    unfold stackTo
    by_cases h1 : (y 0).val < 256 * j
    · rw [if_pos h1, if_pos (by omega)]
    · rw [if_neg h1, if_neg (by omega)]

theorem stackTo_all {α : Type} (new old : S1024x128.Idx → α) : stackTo 4 new old = new :=
  funext fun y => if_pos (by have : (y 0).val < 1024 := (y 0).isLt; omega)

theorem stackTo_none {α : Type} (new old : S1024x128.Idx → α) : stackTo 0 new old = old := funext fun y => if_neg (by omega)

/-- The query rows and their forget sums. -/
def stackQ (x y : FVec F S256x128 .bf16) : Vec F S1024x128 .bf16 := stackH fun h _ => qrow x y h
def stackF (f : Vec F S1x256x4 .f32) : Vec F S1024x128 .f32 := stackH fun h hh => fcol f h hh

theorem fillSt_eq (x y : FVec F S256x128 .bf16) (σ : St F) : fillSt x y σ = { σ with qs := stackQ x y, fs := stackF σ.f } := by
  have key : ∀ (n : Nat) (hn : n ≤ 4), uptoSt 4 (fun h hh (σ : St F) => { σ with qs := VecWindow.put σ.qs ![256 * h, 0] S256x128.size (qrow x y h), fs := VecWindow.put σ.fs ![256 * h, 0] S256x128.size (fcol σ.f h hh) }) n hn
      { σ with qs := stackTo (4 - n) (stackQ x y) σ.qs, fs := stackTo (4 - n) (stackF σ.f) σ.fs } = { σ with qs := stackQ x y, fs := stackF σ.f } := by
    intro n
    induction n with
    | zero =>
      intro _
      show ({ σ with qs := stackTo 4 (stackQ x y) σ.qs, fs := stackTo 4 (stackF σ.f) σ.fs } : St F) = _
      rw [stackTo_all, stackTo_all]
    | succ n ih =>
      intro hn
      refine Eq.trans ?_ (ih (by omega))
      refine congrArg (uptoSt 4 _ n _) ?_
      show ({ σ with qs := VecWindow.put (stackTo (4 - (n + 1)) (stackH fun h _ => qrow x y h) σ.qs) _ _ _, fs := VecWindow.put (stackTo (4 - (n + 1)) (stackH fun h hh => fcol σ.f h hh) σ.fs) _ _ _ } : St F) = _
      rw [stackTo_succ (j := 4 - (n + 1)) (by omega) (fun h _ => qrow x y h), stackTo_succ (j := 4 - (n + 1)) (by omega) (fun h hh => fcol σ.f h hh), show 4 - (n + 1) + 1 = 4 - n by omega]
      rfl
  have h := key 4 (Nat.le_refl _)
  rw [show 4 - 4 = 0 from rfl, stackTo_none, stackTo_none] at h
  exact h

/-- The output block of the normalised rows `x`. -/
def outRows (x : FVec F S1024x128 .f32) : Vec F S2x256x128 .bf16 := fun y =>
  outVal (y 0).val (y 0).isLt x (ix3 0 (y 1) (y 2))

def outTo (j : Nat) (x : FVec F S1024x128 .f32) (old : Vec F S2x256x128 .bf16) : Vec F S2x256x128 .bf16 := fun y =>
  if (y 0).val < j then outRows x y else old y

theorem outTo_succ (j : Nat) (h : j < 2) (x : FVec F S1024x128 .f32) (old : Vec F S2x256x128 .bf16) :
    VecWindow.put (outTo j x old) ![j, 0, 0] S1x256x128.size (outVal j h x) = outTo (j + 1) x old := by
  funext y
  have hy1 : (y 1).val < 256 := (y 1).isLt
  have hy2 : (y 2).val < 128 := (y 2).isLt
  unfold VecWindow.put
  by_cases hc : j ≤ (y 0).val ∧ (y 0).val < j + 1
  · have hin : ∀ a, (![j, 0, 0] : Fin 3 → Nat) a ≤ (y a).val ∧ (y a).val < (![j, 0, 0] : Fin 3 → Nat) a + S1x256x128.size a := by
      intro a; match a with
      | ⟨0, _⟩ => exact hc
      | ⟨1, _⟩ => exact ⟨Nat.zero_le _, by show (y 1).val < 0 + 256; omega⟩
      | ⟨2, _⟩ => exact ⟨Nat.zero_le _, by show (y 2).val < 0 + 128; omega⟩
    rw [dif_pos hin]
    unfold outTo
    rw [if_pos (by omega)]
    unfold outRows
    have key : ∀ (t : Nat) (ht : t < 2) (z z' : S1x256x128.Idx), t = j → z' = z → outVal j h x z' = outVal t ht x z := by
      intro t ht z z' e1 e2; subst e1; rw [e2]
    refine key _ _ _ _ (by omega) ?_
    funext a; apply Fin.ext
    match a with
    | ⟨0, _⟩ => show (y 0).val - j = 0; omega
    | ⟨1, _⟩ => show (y 1).val - 0 = (y 1).val; omega
    | ⟨2, _⟩ => show (y 2).val - 0 = (y 2).val; omega
  · have hin : ¬ ∀ a, (![j, 0, 0] : Fin 3 → Nat) a ≤ (y a).val ∧ (y a).val < (![j, 0, 0] : Fin 3 → Nat) a + S1x256x128.size a := fun H => hc (H 0)
    rw [dif_neg hin]
    unfold outTo
    by_cases h1 : (y 0).val < j
    · rw [if_pos h1, if_pos (by omega)]
    · rw [if_neg h1, if_neg (by omega)]

theorem putSt_eq (x : FVec F S1024x128 .f32) (σ : St F) : putSt x σ = { σ with o := outRows x } := by
  have e0 : outTo 0 x σ.o = σ.o := funext fun y => if_neg (by omega)
  have e2 : outTo 2 x σ.o = outRows x := funext fun y => if_pos (y 0).isLt
  show ({ σ with o := VecWindow.put (VecWindow.put σ.o ![0, 0, 0] S1x256x128.size (outVal 0 (by omega) x)) ![1, 0, 0] S1x256x128.size (outVal 1 (by omega) x) } : St F) = _
  have h1 := outTo_succ 0 (by omega) x σ.o
  rw [e0] at h1
  rw [h1, outTo_succ 1 (by omega) x σ.o, e2]

/-- What the key blocks are run against, of the staged blocks. -/
def env (q r : Vec F S256x128 .bf16) (k v : Vec F S1x2048x128 .f32) (f : Vec F S1x256x4 .f32) (g : Vec F S1x1x4x2048 .f32) : Env F :=
  ⟨k, v, g, stackQ q r, stackF f⟩

/-- The output block of query block `n`, of its six input blocks. -/
def outF (μ : F .f32) (n : Nat) (q r : Vec F S256x128 .bf16) (k v : Vec F S1x2048x128 .f32) (f : Vec F S1x256x4 .f32) (g : Vec F S1x1x4x2048 .f32) : Vec F S2x256x128 .bf16 :=
  outRows (divf (final μ n (env q r k v f g)).acc (final μ n (env q r k v f g)).l)

theorem live_head (μ : F .f32) (σ : St F) : Live (env σ.q σ.r σ.k σ.v σ.f σ.g) (start μ) 0 (headSt μ σ) ∧ Same σ (headSt μ σ) := by
  unfold headSt
  rw [fillSt_eq]
  refine ⟨⟨⟨rfl, rfl, rfl, rfl, rfl, rfl, rfl, rfl⟩, ?_⟩, ⟨rfl, rfl, rfl, rfl, rfl, rfl⟩⟩
  show Function.update σ.s false _ false = _
  rw [Function.update_self]
  rfl

theorem bodySt_eq (μ : F .f32) (n : Nat) (σ : St F) :
    Same σ (bodySt μ n σ) ∧ (bodySt μ n σ).o = outF μ n σ.q σ.r σ.k σ.v σ.f σ.g := by
  have h := base_mid μ n (live_head μ σ).1
  have hs := same_mid μ n (live_head μ σ).2
  unfold bodySt
  rw [putSt_eq]
  refine ⟨⟨hs.q, hs.r, hs.k, hs.v, hs.f, hs.g⟩, ?_⟩
  show outRows _ = _
  rw [h.acc, h.l]
  rfl

end Cert.Fox

end
-- ==== Proof.FoxPay.lean ====
/- The pieces' values read at an element, over the extended reals. -/
module

public import proofs.«01_k».proof.Proof.FoxGlue
public import proofs.«01_k».proof.Proof.MlaPay

@[expose] public section

noncomputable section

namespace Cert.Fox

open Idealize.ShloMosaic Cert.Kernel3Ideal Cert.Kernel3Ideal.Facts₀
open VecWindow (window)
open Cert.Mla (winM winM_at win_at yy mrow sel_ofBool allM allL allA allP allM_at allL_at allA_at allP_at tMax tExp tSum)

theorem biased_at (s f : FVec Ideal S32x128 .f32) (g : FVec Ideal S1x1x1x128 .f32) (r : Fin 32) (a : Fin 128) :
    biased s f g (ix2 r a) = s (ix2 r a) + (f (ix2 r a) - g (ix4 0 0 0 a)) := by
  pointwise [biased]

theorem causal_at (μ : Ideal .f32) (t c : Nat) (hc : c ≤ 128) (x : FVec Ideal S32x128 .f32) (r : Fin 32) (a : Fin 128) :
    causal μ t c x (ix2 r a) = if c + a.val ≤ 32 * (t % 8) + r.val then x (ix2 r a) else μ := by
  have e : causal μ t c x (ix2 r a) = Scalar.select (IntOp.cmpi .sle (IntOp.addi (BitVec.ofNat 32 c) (BitVec.ofNat 32 a.val))
      (IntOp.addi (BitVec.ofNat 32 (32 * (t % 8))) (BitVec.ofNat 32 r.val))) (x (ix2 r a)) μ := by
    pointwise [causal]
  rw [e]
  have e1 : IntOp.addi (BitVec.ofNat 32 c) (BitVec.ofNat 32 a.val) = BitVec.ofNat 32 (c + a.val) := (BitVec.ofNat_add _ _).symm
  have e2 : IntOp.addi (BitVec.ofNat 32 (32 * (t % 8))) (BitVec.ofNat 32 r.val) = BitVec.ofNat 32 (32 * (t % 8) + r.val) := (BitVec.ofNat_add _ _).symm
  rw [e1, e2, WordCmp.cmpi_sle_ofNat (by omega) (by omega), sel_ofBool]
  simp only [decide_eq_true_eq]

theorem fw_at (fs : Vec Ideal S1024x128 .f32) (R : Fin 1024) (a : Fin 128) :
    fw fs (R.val / 32) (ix2 ⟨R.val % 32, by omega⟩ a) = fs (ix2 R a) := by
  rw [fw_eq _ _ (by omega)]
  exact winM_at fs R a

theorem gw_val (g : Vec Ideal S1x1x4x2048 .f32) (j : Nat) (hj : j < 8) (h c : Nat) (hh : h < 4) (hc : c ≤ 128) (a : Fin 128) :
    gw g j h c (ix4 0 0 0 a) = g (ix4 0 0 ⟨h, hh⟩ ⟨256 * j + c + a.val, by omega⟩) := by
  refine congrArg g ?_
  funext z; apply Fin.ext
  match z with
  | ⟨0, _⟩ => rfl
  | ⟨1, _⟩ => rfl
  | ⟨2, _⟩ => show h % 4 + 1 * 0 = h; omega
  | ⟨3, _⟩ => show 256 * (j % 8) + c % 129 + 1 * a.val = 256 * j + c + a.val; omega

/-- A biased score. -/
def bsc (s : Vec Ideal S1024x256 .f32) (fs : Vec Ideal S1024x128 .f32) (g : Vec Ideal S1x1x4x2048 .f32) (j : Nat) (hj : j < 8) (R : Fin 1024) (d : Fin 256) : EReal :=
  s (ix2 R d) + (fs (ix2 R ⟨d.val % 128, by omega⟩) - g (ix4 0 0 ⟨R.val / 256, by omega⟩ ⟨256 * j + d.val, by omega⟩))

theorem mrow_of (mk : Nat → Nat → FVec Ideal S32x128 .f32 → FVec Ideal S32x128 .f32) (s : Vec Ideal S1024x256 .f32) (fs : Vec Ideal S1024x128 .f32)
    (g : Vec Ideal S1x1x4x2048 .f32) (j : Nat) (hj : j < 8) (R : Fin 1024) (d : Fin 256) (w : EReal)
    (h0 : ∀ x : FVec Ideal S32x128 .f32, d.val < 128 → x (ix2 ⟨R.val % 32, by omega⟩ ⟨d.val % 128, by omega⟩) = bsc s fs g j hj R d → mk (R.val / 32) 0 x (ix2 ⟨R.val % 32, by omega⟩ ⟨d.val % 128, by omega⟩) = w)
    (h1 : ∀ x : FVec Ideal S32x128 .f32, ¬ d.val < 128 → x (ix2 ⟨R.val % 32, by omega⟩ ⟨d.val % 128, by omega⟩) = bsc s fs g j hj R d → mk (R.val / 32) 128 x (ix2 ⟨R.val % 32, by omega⟩ ⟨d.val % 128, by omega⟩) = w) :
    mrow (mkF mk fs g j) s R d = w := by
  have key : ∀ (R' : Fin 1024) (d' : Fin 256), R' = R → d' = d → s (ix2 R' d') = s (ix2 R d) := by rintro _ _ rfl rfl; rfl
  have keyg : ∀ (h' : Fin 4) (d' : Fin 2048), h'.val = R.val / 256 → d'.val = 256 * j + d.val →
      g (ix4 0 0 h' d') = g (ix4 0 0 ⟨R.val / 256, by omega⟩ ⟨256 * j + d.val, by omega⟩) := by
    intro h' d' e1 e2
    rw [show h' = ⟨R.val / 256, by omega⟩ from Fin.ext e1, show d' = ⟨256 * j + d.val, by omega⟩ from Fin.ext e2]
  unfold mrow yy mkF
  split
  · rename_i hd
    refine h0 _ hd ?_
    rw [biased_at, win_at, fw_at, gw_val _ _ hj _ _ (by omega) (by omega),
      key _ _ (Fin.ext (by show 32 * (R.val / 32) + R.val % 32 = R.val; omega)) (Fin.ext (by show 0 + d.val % 128 = d.val; omega)),
      keyg _ _ (by show R.val / 32 / 8 = _; omega) (by show 256 * j + 0 + d.val % 128 = _; omega)]
    rfl
  · rename_i hd
    refine h1 _ hd ?_
    rw [biased_at, win_at, fw_at, gw_val _ _ hj _ _ (by omega) (by omega),
      key _ _ (Fin.ext (by show 32 * (R.val / 32) + R.val % 32 = R.val; omega)) (Fin.ext (by show 128 + d.val % 128 = d.val; omega)),
      keyg _ _ (by show R.val / 32 / 8 = _; omega) (by show 256 * j + 128 + d.val % 128 = _; omega)]
    rfl

theorem mrow_clear (s : Vec Ideal S1024x256 .f32) (fs : Vec Ideal S1024x128 .f32) (g : Vec Ideal S1x1x4x2048 .f32) (j : Nat) (hj : j < 8) (R : Fin 1024) (d : Fin 256) :
    mrow (mkF clear fs g j) s R d = bsc s fs g j hj R d :=
  mrow_of clear s fs g j hj R d _ (fun x _ h => h) (fun x _ h => h)

theorem mrow_causal (μ : Ideal .f32) (s : Vec Ideal S1024x256 .f32) (fs : Vec Ideal S1024x128 .f32) (g : Vec Ideal S1x1x4x2048 .f32) (j : Nat) (hj : j < 8) (R : Fin 1024) (d : Fin 256) :
    mrow (mkF (causal μ) fs g j) s R d = if d.val ≤ R.val % 256 then bsc s fs g j hj R d else μ := by
  refine mrow_of _ s fs g j hj R d _ (fun x hd h => ?_) (fun x hd h => ?_)
  · rw [causal_at _ _ _ (by omega), h]
    refine if_congr ?_ rfl rfl
    show 0 + d.val % 128 ≤ 32 * (R.val / 32 % 8) + R.val % 32 ↔ _
    omega
  · rw [causal_at _ _ _ (by omega), h]
    refine if_congr ?_ rfl rfl
    show 128 + d.val % 128 ≤ 32 * (R.val / 32 % 8) + R.val % 32 ↔ _
    omega

theorem mm1 (x : Vec Ideal S1024x128 .bf16) (y : Vec Ideal S1x256x128 .f32) (R : Fin 1024) (d : Fin 256) :
    (matmul (φ₁ := .bf16) (φ₂ := .bf16) dot_S1024x128_S256x128_S1024x256_1_1_0_0_n_n none x (truncf (F := Ideal) (φ := .f32) .bf16 (shapeCast S256x128 y shapeCasts_S1x256x128_S256x128) bitsLt_bf16_f32)
      (constant S1024x256 .f32 0x00000000#32) : FVec Ideal S1024x256 .f32) (ix2 R d) = ∑ e : Fin 128, x (ix2 R e) * y (ix3 0 d e) := by
  pointwise []

theorem mm2 (a0 al : Vec Ideal S1024x128 .f32) (x : Vec Ideal S1024x256 .bf16) (y : Vec Ideal S1x256x128 .f32) (R : Fin 1024) (a : Fin 128) :
    (addf (F := Ideal) (φ := .f32) (mulf (F := Ideal) (φ := .f32) a0 al) (matmul (φ₁ := .bf16) (φ₂ := .bf16) dot_S1024x256_S256x128_S1024x128_1_0_0_1_n_n none x
      (truncf (F := Ideal) (φ := .f32) .bf16 (shapeCast S256x128 y shapeCasts_S1x256x128_S256x128) bitsLt_bf16_f32)
      (constant S1024x128 .f32 0x00000000#32)) : FVec Ideal S1024x128 .f32) (ix2 R a) = a0 (ix2 R a) * al (ix2 R a) + ∑ d : Fin 256, x (ix2 R d) * y (ix3 0 d a) := by
  pointwise []

theorem sc_at (qs : Vec Ideal S1024x128 .bf16) (k : Vec Ideal S1x2048x128 .f32) (j : Nat) (hj : j < 8) (R : Fin 1024) (d : Fin 256) :
    sc qs k j (ix2 R d) = ∑ e : Fin 128, qs (ix2 R e) * k (ix3 0 ⟨256 * j + d.val, by omega⟩ e) := by
  refine (mm1 qs _ R d).trans (Finset.sum_congr rfl fun e _ => congrArg (qs (ix2 R e) * ·) (congrArg k ?_))
  funext z; apply Fin.ext
  match z with
  | ⟨0, _⟩ => rfl
  | ⟨1, _⟩ => show 256 * (j % 8) + 1 * d.val = 256 * j + d.val; omega
  | ⟨2, _⟩ => show 0 + 1 * e.val = e.val; omega

theorem ac_at (a0 al : Vec Ideal S1024x128 .f32) (p : Vec Ideal S1024x256 .bf16) (v : Vec Ideal S1x2048x128 .f32) (j : Nat) (hj : j < 8) (R : Fin 1024) (a : Fin 128) :
    ac a0 al p v j (ix2 R a) = a0 (ix2 R a) * al (ix2 R a) + ∑ d : Fin 256, p (ix2 R d) * v (ix3 0 ⟨256 * j + d.val, by omega⟩ a) := by
  refine (mm2 a0 al p _ R a).trans (congrArg _ (Finset.sum_congr rfl fun d _ => congrArg (p (ix2 R d) * ·) (congrArg v ?_)))
  funext z; apply Fin.ext
  match z with
  | ⟨0, _⟩ => rfl
  | ⟨1, _⟩ => show 256 * (j % 8) + 1 * d.val = 256 * j + d.val; omega
  | ⟨2, _⟩ => show 0 + 1 * a.val = a.val; omega

/-! ## The stacked queries -/

/-- The factor of the scores. -/
def ε : EReal := Ideal.ofBits .bf16 0x3E00#16

theorem low_at (r : Fin 256) (a : Fin 128) : (low (ix2 r a) : BitVec 1) = BitVec.ofBool (decide (a.val < 64)) := by
  have e : low (ix2 r a) = IntOp.cmpi .slt (BitVec.ofNat 32 a.val) 64#32 := by pointwise [low]
  rw [e]
  exact (by decide +kernel : ∀ a : Fin 128, IntOp.cmpi .slt (BitVec.ofNat 32 a.val) 64#32 = BitVec.ofBool (decide (a.val < 64))) a

theorem zero16 : Ideal.ofBits .bf16 0x0000#16 = 0 := by simp [Ideal.ofBits, Ideal.ieee]

theorem scaled_at (x : FVec Ideal S256x128 .bf16) (r : Fin 256) (a : Fin 128) : scaled x (ix2 r a) = x (ix2 r a) * ε := by
  pointwise [scaled, ε]

theorem none_at (r : Fin 256) (a : Fin 128) : (none0 : FVec Ideal S256x128 .bf16) (ix2 r a) = 0 := zero16

theorem sel_low (x y : FVec Ideal S256x128 .bf16) (r : Fin 256) (a : Fin 128) : (select low x y : FVec Ideal S256x128 .bf16) (ix2 r a) = if a.val < 64 then x (ix2 r a) else y (ix2 r a) := by
  show Scalar.select (low (ix2 r a)) (x (ix2 r a)) (y (ix2 r a)) = _
  rw [low_at, sel_ofBool]
  simp only [decide_eq_true_eq]

/-- The stacked query of row `R`: on its key head's lanes the query scaled, elsewhere nothing. -/
theorem stackQ_at (x y : Vec Ideal S256x128 .bf16) (R : Fin 1024) (e : Fin 128) :
    stackQ x y (ix2 R e) = if e.val / 64 = R.val / 512
      then (if R.val / 256 % 2 = 0 then x (ix2 ⟨R.val % 256, by omega⟩ e) else y (ix2 ⟨R.val % 256, by omega⟩ e)) * ε else 0 := by
  have hR := R.isLt
  have he := e.isLt
  show qrow (F := Ideal) x y (R.val / 256) (ix2 ⟨R.val % 256, _⟩ e) = _
  obtain h | h | h | h : R.val / 256 = 0 ∨ R.val / 256 = 1 ∨ R.val / 256 = 2 ∨ R.val / 256 = 3 := by omega
  · rw [h]; show select low (scaled (F := Ideal) x) none0 _ = _
    rw [sel_low, scaled_at, none_at, if_pos (show 0 % 2 = 0 by rfl)]
    exact if_congr (by omega) rfl rfl
  · rw [h]; show select low (scaled (F := Ideal) y) none0 _ = _
    rw [sel_low, scaled_at, none_at, if_neg (show ¬ 1 % 2 = 0 by decide)]
    exact if_congr (by omega) rfl rfl
  · rw [h]; show select low none0 (scaled (F := Ideal) x) _ = _
    rw [sel_low, scaled_at, none_at, if_pos (show 2 % 2 = 0 by rfl), ← ite_not]
    exact if_congr (by omega) rfl rfl
  · rw [h]; show select low none0 (scaled (F := Ideal) y) _ = _
    rw [sel_low, scaled_at, none_at, if_neg (show ¬ 3 % 2 = 0 by decide), ← ite_not]
    exact if_congr (by omega) rfl rfl

theorem fcol_at (f : Vec Ideal S1x256x4 .f32) (h : Nat) (hh : h < 4) (r : Fin 256) (a : Fin 128) :
    fcol (F := Ideal) f h hh (ix2 r a) = f (ix3 0 r ⟨h, hh⟩) := by
  have e : ∀ (w : FVec Ideal S1x256x1 .f32) (r : Fin 256) (a : Fin 128), (broadcastTo S256x128 (shapeCast S256x1 (shapeCast S256x1 w shapeCasts_S1x256x1_S256x1) shapeCasts_S256x1_S256x1) broadcasts_S256x1_S256x128 : FVec Ideal S256x128 .f32) (ix2 r a)
      = w (ix3 0 r 0) := by
    intro w r a; pointwise []
  unfold fcol
  refine (e _ r a).trans (congrArg f ?_)
  funext z; apply Fin.ext
  match z with
  | ⟨0, _⟩ => rfl
  | ⟨1, _⟩ => show 0 + 1 * r.val = r.val; omega
  | ⟨2, _⟩ => show h + 1 * 0 = h; omega

theorem stackF_at (f : Vec Ideal S1x256x4 .f32) (R : Fin 1024) (a : Fin 128) :
    stackF f (ix2 R a) = f (ix3 0 ⟨R.val % 256, by omega⟩ ⟨R.val / 256, by omega⟩) :=
  fcol_at f (R.val / 256) (by omega) ⟨R.val % 256, by omega⟩ a

/-- The output block at an element. -/
theorem outRows_at (x : FVec Ideal S1024x128 .f32) (h : Fin 2) (r : Fin 256) (a : Fin 128) :
    outRows x (ix3 h r a) = x (ix2 ⟨256 * (h.val + 2 * (a.val / 64)) + r.val, by omega⟩ a) := by
  have ha := a.isLt
  have e1 : ∀ (w : FVec Ideal S256x128 .bf16) (r : Fin 256) (a : Fin 128), (shapeCast S1x256x128 w shapeCasts_S256x128_S1x256x128 : FVec Ideal S1x256x128 .bf16) (ix3 0 r a) = w (ix2 r a) := by
    intro w r a; pointwise []
  have e2 : ∀ (n : Nat) (hn : n < 4) (r : Fin 256) (a : Fin 128), (extractStridedSlice S256x128 ![256 * n, 0] x (sliceE n hn) : FVec Ideal S256x128 .f32) (ix2 r a) = x (ix2 ⟨256 * n + r.val, by omega⟩ a) := by
    intro n hn r a
    refine congrArg x ?_
    funext z; apply Fin.ext
    match z with
    | ⟨0, _⟩ => rfl
    | ⟨1, _⟩ => show 0 + a.val = a.val; omega
  show shapeCast S1x256x128 (outRow h.val h.isLt x) _ (ix3 0 r a) = _
  rw [e1]
  show Scalar.select (low (ix2 r a)) (extractStridedSlice S256x128 ![256 * h.val, 0] x _ (ix2 r a)) (extractStridedSlice S256x128 ![256 * (h.val + 2), 0] x _ (ix2 r a)) = _
  rw [low_at, sel_ofBool, e2 _ (by omega), e2 _ (by omega)]
  simp only [decide_eq_true_eq]
  have key : ∀ (u : Fin 1024), u.val = 256 * (h.val + 2 * (a.val / 64)) + r.val → x (ix2 u a) = x (ix2 ⟨256 * (h.val + 2 * (a.val / 64)) + r.val, by omega⟩ a) := by
    intro u hu
    rw [show u = ⟨256 * (h.val + 2 * (a.val / 64)) + r.val, by omega⟩ from Fin.ext hu]
  split
  · exact key _ (by show 256 * h.val + r.val = _; omega)
  · exact key _ (by show 256 * (h.val + 2) + r.val = _; omega)

end Cert.Fox

end
-- ==== Proof.FoxMath.lean ====
/- The online softmax over real scores, some of them masked, against values of any kind in the extended reals. -/
module

public import proofs.«01_k».proof.Proof.MlaMath

@[expose] public section

noncomputable section

namespace Cert.Fox

open Idealize.ShloMosaic
open Cert.Mla (wt exp_sub wt_shift wt_nonneg wt_pos den den_shift den_pos coe_sum fold_real sum_block sum_halves)

theorem mul_sum_real {ι : Type*} (s : Finset ι) (f : ι → EReal) {c : ℝ} (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, ← ih, mul_comm, EReal.left_distrib_of_nonneg_of_ne_top (EReal.coe_nonneg.2 hc) (EReal.coe_ne_top _),
      mul_comm (c : EReal), mul_comm (c : EReal)]

/-- The numerator over the first `n` keys. -/
def num (y : ℕ → EReal) (v : ℕ → EReal) (n : ℕ) (μ : ℝ) : EReal := ∑ i ∈ Finset.range n, (wt (y i) μ : EReal) * v i

theorem num_shift (y : ℕ → EReal) (v : ℕ → EReal) (n : ℕ) (μ μ' : ℝ) : num y v n μ' = num y v n μ * ((Real.exp (μ - μ') : ℝ) : EReal) := by
  unfold num; rw [mul_sum_real _ _ (Real.exp_pos _).le]
  refine Finset.sum_congr rfl fun i _ => ?_
  rw [wt_shift _ μ μ', EReal.coe_mul, mul_right_comm]

/-- The attention's value: the quotient at any shift. -/
def att (y : ℕ → EReal) (v : ℕ → EReal) (n : ℕ) : EReal := num y v n 0 * ((1 / den y n 0 : ℝ) : EReal)

theorem att_at (y : ℕ → EReal) (v : ℕ → EReal) (n : ℕ) (μ : ℝ) : num y v n μ * ((1 / den y n μ : ℝ) : EReal) = att y v n := by
  unfold att
  rw [num_shift y v n 0 μ, den_shift y n 0 μ, mul_assoc, ← EReal.coe_mul]
  congr 2
  have := Real.exp_ne_zero (0 - μ)
  by_cases h : den y n 0 = 0
  · rw [h]; simp
  · field_simp

/-- Masked keys past `n` change nothing. -/
theorem att_extend (y : ℕ → EReal) (v : ℕ → EReal) {n N : ℕ} (h : n ≤ N) (hy : ∀ i, n ≤ i → y i = ⊥) : att y v N = att y v n := by
  have e : ∀ i, i ∈ Finset.range N → i ∉ Finset.range n → wt (y i) 0 = 0 := by
    intro i _ hi
    unfold wt
    rw [if_pos (hy i (by simpa using hi))]
  have hs : Finset.range n ⊆ Finset.range N := Finset.range_mono h
  unfold att num den
  rw [← Finset.sum_subset hs (f := fun i => wt (y i) 0) e,
    ← Finset.sum_subset hs (f := fun i => (wt (y i) 0 : EReal) * v i) (fun i h1 h2 => by rw [e i h1 h2, EReal.coe_zero, zero_mul])]

/-- The statistics of one query row after `n` keys: all lanes share the maximum and the denominator. -/
def RowOK (y : ℕ → EReal) (v : Fin 128 → ℕ → EReal) (n : ℕ) (m l acc : Fin 128 → EReal) : Prop :=
  (n = 0 ∧ ∀ a, m a = ⊥ ∧ l a = 0 ∧ acc a = 0) ∨ ∃ μ : ℝ, ∀ a, m a = μ ∧ l a = den y n μ ∧ acc a = num y (v a) n μ

/-- One block of 256 keys. -/
theorem row_step {y : ℕ → EReal} {v : Fin 128 → ℕ → EReal} {n : ℕ} {m l acc : Fin 128 → EReal} (h : RowOK y v n m l acc)
    (s : Fin 256 → EReal) (hs : ∀ d, s d = y (n + d.val)) (ht : ∀ d, s d ≠ ⊤) (hb : ∃ d, s d ≠ ⊥)
    (w : Fin 128 → Fin 256 → EReal) (hw : ∀ a d, w a d = v a (n + d.val))
    (m' : Fin 128 → EReal) (hm : ∀ a, m' a = max (m a) (Finset.fold max ⊥ (fun x : Fin 128 => max (s ⟨x.val, by omega⟩) (s ⟨128 + x.val, by omega⟩)) Finset.univ))
    (l' : Fin 128 → EReal) (hl : ∀ a, l' a = Ideal.exp (m a - m' a) * l a
      + ∑ x : Fin 128, (Ideal.exp (s ⟨x.val, by omega⟩ - m' x) + Ideal.exp (s ⟨128 + x.val, by omega⟩ - m' x)))
    (acc' : Fin 128 → EReal) (ha : ∀ a, acc' a = acc a * Ideal.exp (m a - m' a)
      + ∑ d : Fin 256, Ideal.exp (s d - m' ⟨d.val % 128, by omega⟩) * w a d) :
    RowOK y v (n + 256) m' l' acc' := by
  right
  obtain ⟨r, hr⟩ : ∃ r : ℝ, Finset.fold max ⊥ (fun x : Fin 128 => max (s ⟨x.val, by omega⟩) (s ⟨128 + x.val, by omega⟩)) Finset.univ = (r : EReal) := by
    refine fold_real _ _ (fun x _ => ?_) ?_
    · exact (max_lt (lt_top_iff_ne_top.2 (ht _)) (lt_top_iff_ne_top.2 (ht _))).ne
    · obtain ⟨d, hd⟩ := hb
      refine ⟨⟨d.val % 128, by omega⟩, Finset.mem_univ _, ?_⟩
      refine ((bot_lt_iff_ne_bot.2 hd).trans_le ?_).ne'
      by_cases h1 : d.val < 128
      · refine le_max_of_le_left (le_of_eq (congrArg s (Fin.ext ?_)))
        show d.val = d.val % 128; omega
      · refine le_max_of_le_right (le_of_eq (congrArg s (Fin.ext ?_)))
        show d.val = 128 + d.val % 128; omega
  rw [hr] at hm
  -- the weights of the block at a shift
  have hden : ∀ μ : ℝ, (∀ a, m' a = μ) → (∑ x : Fin 128, (Ideal.exp (s ⟨x.val, by omega⟩ - m' x) + Ideal.exp (s ⟨128 + x.val, by omega⟩ - m' x)))
      = ((∑ d : Fin 256, wt (y (n + d.val)) μ : ℝ) : EReal) := by
    intro μ hμ
    rw [← sum_halves (fun d => wt (y (n + d.val)) μ), coe_sum]
    refine Finset.sum_congr rfl fun x _ => ?_
    rw [hμ, exp_sub (ht _), exp_sub (ht _), hs, hs, EReal.coe_add]
  have hnum : ∀ μ : ℝ, (∀ a, m' a = μ) → ∀ a, (∑ d : Fin 256, Ideal.exp (s d - m' ⟨d.val % 128, by omega⟩) * w a d)
      = ∑ d : Fin 256, (wt (y (n + d.val)) μ : EReal) * v a (n + d.val) := by
    intro μ hμ a
    refine Finset.sum_congr rfl fun d _ => ?_
    rw [hμ, exp_sub (ht _), hs, hw]
  rcases h with ⟨h0, h⟩ | ⟨μ, h⟩
  · have hμ : ∀ a, m' a = (r : EReal) := fun a => by rw [hm, (h a).1]; exact max_eq_right bot_le
    refine ⟨r, fun a => ⟨hμ a, ?_, ?_⟩⟩
    · rw [hl, hden r hμ, (h a).2.1, mul_zero, zero_add]
      unfold den; rw [sum_block, h0]; simp
    · rw [ha, hnum r hμ, (h a).2.2, zero_mul, zero_add]
      unfold num; rw [sum_block, h0]; simp
  · have hμ : ∀ a, m' a = ((max μ r : ℝ) : EReal) := fun a => by rw [hm, (h a).1]; exact (EReal.coe_strictMono.monotone.map_max).symm
    have hα : ∀ a, Ideal.exp (m a - m' a) = ((Real.exp (μ - max μ r) : ℝ) : EReal) := fun a => by
      rw [hμ, (h a).1, ← EReal.coe_sub, Ideal.exp_coe]
    refine ⟨max μ r, fun a => ⟨hμ a, ?_, ?_⟩⟩
    · rw [hl, hden _ hμ, (h a).2.1, hα, ← EReal.coe_mul, ← EReal.coe_add]
      congr 1
      rw [show den y (n + 256) (max μ r) = den y n (max μ r) + _ from sum_block _ n, den_shift y n μ (max μ r), mul_comm]
    · rw [ha, hnum _ hμ, (h a).2.2, hα]
      rw [show num y (v a) (n + 256) (max μ r) = num y (v a) n (max μ r) + _ from sum_block _ n, num_shift y (v a) n μ (max μ r)]

theorem row_div {y : ℕ → EReal} {v : Fin 128 → ℕ → EReal} {n : ℕ} {m l acc : Fin 128 → EReal} (h : RowOK y v n m l acc)
    (hy : ∃ i, i < n ∧ y i ≠ ⊥) (a : Fin 128) : Ideal.div (acc a) (l a) = att y (v a) n := by
  rcases h with ⟨h0, _⟩ | ⟨μ, h⟩
  · obtain ⟨i, hi, _⟩ := hy; omega
  · rw [(h a).2.1, (h a).2.2, Ideal.div_coe (den_pos hy μ).ne', ← att_at y (v a) n μ]

/-- The softmax computed whole: each weight divided, then the values summed. -/
theorem whole {N : ℕ} (y : ℕ → EReal) (ht : ∀ i, y i ≠ ⊤) (v : ℕ → EReal) (μ : ℝ) (hy : ∃ i, i < N ∧ y i ≠ ⊥) :
    ∑ i : Fin N, Ideal.div (Ideal.exp (y i - (μ : EReal))) (∑ k : Fin N, Ideal.exp (y k - (μ : EReal))) * v i = att y v N := by
  have hd : ∑ k : Fin N, Ideal.exp (y k - (μ : EReal)) = (den y N μ : EReal) := by
    unfold den; rw [Finset.sum_range, coe_sum]
    exact Finset.sum_congr rfl fun k _ => exp_sub (ht _) μ
  have h0 : 0 ≤ 1 / den y N μ := div_nonneg zero_le_one (den_pos hy μ).le
  rw [hd, ← att_at y v N μ]
  unfold num
  rw [Finset.sum_range, mul_sum_real _ _ h0]
  refine Finset.sum_congr rfl fun i _ => ?_
  rw [exp_sub (ht _), Ideal.div_coe (den_pos hy μ).ne', mul_right_comm]

end Cert.Fox

end
-- ==== Proof.FoxRow.lean ====
/- One stacked row through all the key blocks: the accumulator over the denominator is the row's attention. -/
module

public import proofs.«01_k».proof.Proof.FoxPay
public import proofs.«01_k».proof.Proof.FoxMath
public import proofs.«01_k».proof.Proof.MlaRow

@[expose] public section

noncomputable section

namespace Cert.Fox

open Idealize.ShloMosaic Cert.Kernel3Ideal Cert.Kernel3Ideal.Facts₀
open Cert.Mla (mrow seen seen_top allM allL allA allP allM_at allL_at allA_at allP_at)

section
variable {X : Env Ideal} {R : Fin 1024} {x : ℕ → ℝ} {v : Fin 128 → ℕ → EReal} {nq : Nat} (hq : nq < 8)
  (hx : ∀ (j : Nat) (hj : j < 8) (d : Fin 256), bsc (sc X.qs X.k j) X.fs X.g j hj R d = (x (256 * j + d.val) : EReal))
  (hv : ∀ (a : Fin 128) n (hn : n < 2048), X.v (ix3 0 ⟨n, hn⟩ a) = v a n)

include hq hx hv

theorem step_ok (y : ℕ → EReal) (mk : Nat → Nat → FVec Ideal S32x128 .f32 → FVec Ideal S32x128 .f32) (j : Nat) (hj : j < 8) (T : Tri Ideal)
    (hy : ∀ d : Fin 256, mrow (mkF mk X.fs X.g j) (sc X.qs X.k j) R d = y (256 * j + d.val)) (ht : ∀ n, y n ≠ ⊤) (hb : ∃ d : Fin 256, y (256 * j + d.val) ≠ ⊥)
    (h : RowOK y v (256 * j) (fun a => T.m (ix2 R a)) (fun a => T.l (ix2 R a)) (fun a => T.acc (ix2 R a))) :
    RowOK y v (256 * (j + 1)) (fun a => (step X mk j T).m (ix2 R a)) (fun a => (step X mk j T).l (ix2 R a))
      (fun a => (step X mk j T).acc (ix2 R a)) := by
  rw [show 256 * (j + 1) = 256 * j + 256 by omega]
  refine row_step h (fun d => mrow (mkF mk X.fs X.g j) (sc X.qs X.k j) R d) hy (fun d => by rw [hy]; exact ht _) ?_
    (fun a d => X.v (ix3 0 ⟨256 * j + d.val, by omega⟩ a)) (fun a d => hv a _ _) _ (fun a => ?_) _ (fun a => ?_) _ (fun a => ?_)
  · obtain ⟨d, hd⟩ := hb
    exact ⟨d, by rw [hy]; exact hd⟩
  · exact allM_at _ _ _ R a
  · exact allL_at _ _ _ _ R a
  · refine (ac_at _ _ _ _ j hj R a).trans ?_
    simp only [allA_at, allP_at]
    rfl

theorem steps_ok (n : Nat) (hn : n ≤ nq) :
    RowOK (seen (256 * nq + R.val % 256) x) v (256 * n) (fun a => (steps X (start ⊥) n).m (ix2 R a)) (fun a => (steps X (start ⊥) n).l (ix2 R a))
      (fun a => (steps X (start ⊥) n).acc (ix2 R a)) := by
  induction n with
  | zero =>
    left
    refine ⟨rfl, fun a => ⟨rfl, ?_, ?_⟩⟩
    · show Ideal.ofBits .f32 0x00000000#32 = 0
      simp [Ideal.ofBits, Ideal.ieee]
    · show Ideal.ofBits .f32 0x00000000#32 = 0
      simp [Ideal.ofBits, Ideal.ieee]
  | succ n ih =>
    have hs : ∀ d : Fin 256, seen (256 * nq + R.val % 256) x (256 * n + d.val) = (x (256 * n + d.val) : EReal) := fun d => if_pos (by omega)
    refine step_ok hq hx hv _ clear n (by omega) _ (fun d => ?_) (seen_top _ _) ⟨0, ?_⟩ (ih (by omega))
    · rw [mrow_clear _ _ _ _ (by omega), hs]
      exact hx _ _ _
    · rw [hs]; exact EReal.coe_ne_bot _

theorem final_ok :
    RowOK (seen (256 * nq + R.val % 256) x) v (256 * (nq + 1)) (fun a => (final ⊥ nq X).m (ix2 R a)) (fun a => (final ⊥ nq X).l (ix2 R a))
      (fun a => (final ⊥ nq X).acc (ix2 R a)) := by
  refine step_ok hq hx hv _ (causal ⊥) nq hq _ (fun d => ?_) (seen_top _ _) ⟨0, ?_⟩ (steps_ok hq hx hv _ (Nat.le_refl _))
  · rw [mrow_causal _ _ _ _ _ hq]
    exact if_congr (by omega) (hx _ _ _) rfl
  · refine (if_pos ?_).trans_ne (EReal.coe_ne_bot _)
    show 256 * nq + 0 ≤ _
    omega

theorem final_div (a : Fin 128) : Ideal.div ((final ⊥ nq X).acc (ix2 R a)) ((final ⊥ nq X).l (ix2 R a))
    = att (seen (256 * nq + R.val % 256) x) (v a) 2048 := by
  refine (row_div (final_ok hq hx hv) ⟨0, by omega, ?_⟩ a).trans (att_extend _ _ (by omega) fun n hn => ?_).symm
  · exact (if_pos (by omega)).trans_ne (EReal.coe_ne_bot _)
  · exact if_neg (by omega)
end

/-- The row's quotient, of what its scores and values are. -/
theorem quot_att {X : Env Ideal} {R : Fin 1024} {x : ℕ → ℝ} {v : Fin 128 → ℕ → EReal} {nq : Nat} (hq : nq < 8)
    (hx : ∀ (j : Nat) (hj : j < 8) (d : Fin 256), bsc (sc X.qs X.k j) X.fs X.g j hj R d = (x (256 * j + d.val) : EReal))
    (hv : ∀ (a : Fin 128) n (hn : n < 2048), X.v (ix3 0 ⟨n, hn⟩ a) = v a n) (a : Fin 128) :
    Ideal.div ((final ⊥ nq X).acc (ix2 R a)) ((final ⊥ nq X).l (ix2 R a)) = att (seen (256 * nq + R.val % 256) x) (v a) 2048 :=
  final_div hq hx hv a

end Cert.Fox

end
-- ==== Proof.FoxRef.lean ====
/- The forgetful attention's reference, read at an element: the softmax of the masked biased logits, averaged over the values. -/
module

public import proofs.«01_k».proof.Proof.Gen.Reference3Ideal.Run
public import Idealize.ShloMosaic.Lib.Pointwise
public import Idealize.ShloMosaic.Lib.WordCmp

@[expose] public section

noncomputable section

namespace Cert.Fox.Ref

open Idealize.ShloMosaic Idealize.ShloMosaic.TcCoe Cert.Reference3Ideal Cert.Reference3Ideal.Gen

/-- The forget sums, by head. -/
def sums (f : FVec Ideal S8x2048x16 .f32) : FVec Ideal S8x8x2x2048 .f32 :=
  transpose S8x8x2x2048 [0, 2, 3, 1] (shapeCast S8x2048x8x2 f shapeCasts_S8x2048x16_S8x2048x8x2) transposes_S8x2048x8x2_S8x8x2x2048_0_2_3_1

theorem sums_at (f : FVec Ideal S8x2048x16 .f32) (b h : Fin 8) (g : Fin 2) (t : Fin 2048) :
    sums f (ix4 b h g t) = f (ix3 b t ⟨h.val * 2 + g.val, by omega⟩) := by
  pointwise [sums]

/-- The biased logits. -/
def raw (q : FVec Ideal S8x8x2x2048x64 .f32) (k : FVec Ideal S8x8x2048x64 .f32) (F : FVec Ideal S8x8x2x2048 .f32) : FVec Ideal S8x8x2x2048x2048 .f32 :=
  addf (mulf (Host.dotGeneral (φ₁ := .f32) (φ₂ := .f32) dot_S8x8x2x2048x64_S8x8x2048x64_S8x8x2x2048x2048_4_3_23_2_01_01 none q k)
      (broadcastInDim S8x8x2x2048x2048 ![] bcast_S_S8x8x2x2048x2048 (constant S_ .f32 0x3E000000#32)))
    (subf (broadcastInDim S8x8x2x2048x2048 ![0, 1, 2, 3, 4] bcast_S8x8x2x2048x1_S8x8x2x2048x2048_0_1_2_3_4 (broadcastInDim S8x8x2x2048x1 ![0, 1, 2, 3] bcast_S8x8x2x2048_S8x8x2x2048x1_0_1_2_3 F))
      (broadcastInDim S8x8x2x2048x2048 ![0, 1, 2, 3, 4] bcast_S8x8x2x1x2048_S8x8x2x2048x2048_0_1_2_3_4 (broadcastInDim S8x8x2x1x2048 ![0, 1, 2, 4] bcast_S8x8x2x2048_S8x8x2x1x2048_0_1_2_4 F)))

theorem raw_at (q : FVec Ideal S8x8x2x2048x64 .f32) (k : FVec Ideal S8x8x2048x64 .f32) (F : FVec Ideal S8x8x2x2048 .f32)
    (b h : Fin 8) (g : Fin 2) (t s : Fin 2048) :
    raw q k F (ix5 b h g t s) = (∑ e : Fin 64, q (ix5 b h g t e) * k (ix4 b h s e)) * Ideal.ofBits .f32 0x3E000000#32 + (F (ix4 b h g t) - F (ix4 b h g s)) := by
  pointwise [raw]

/-- The logits, later keys masked. -/
def masked (L : FVec Ideal S8x8x2x2048x2048 .f32) : FVec Ideal S8x8x2x2048x2048 .f32 :=
  select (broadcastInDim S8x8x2x2048x2048 ![3, 4] bcast_S2048x2048_S8x8x2x2048x2048_3_4
      (cmpi .sle (broadcastInDim S2048x2048 ![0, 1] bcast_S1x2048_S2048x2048_0_1 (broadcastInDim S1x2048 ![1] bcast_S2048_S1x2048_1 (iotaInDim S2048 32 0)))
        (broadcastInDim S2048x2048 ![0, 1] bcast_S2048x1_S2048x2048_0_1 (broadcastInDim S2048x1 ![0] bcast_S2048_S2048x1_0 (iotaInDim S2048 32 0)))))
    L (broadcastInDim S8x8x2x2048x2048 ![] bcast_S_S8x8x2x2048x2048 (constant S_ .f32 0xFF800000#32))

theorem masked_at (L : FVec Ideal S8x8x2x2048x2048 .f32) (b h : Fin 8) (g : Fin 2) (t s : Fin 2048) :
    masked L (ix5 b h g t s) = if s.val ≤ t.val then L (ix5 b h g t s) else ⊥ := by
  have n : Ideal.ofBits .f32 0xFF800000#32 = ⊥ := by simp [Ideal.ofBits, Ideal.ieee]
  rw [← n]
  pointwise [masked]
  rw [WordCmp.cmpi_sle_ofNat (by omega) (by omega)]
  by_cases h : s.val ≤ t.val
  · rw [decide_eq_true h, if_pos h]; rfl
  · rw [decide_eq_false h, if_neg h]; rfl

/-- Query `t`'s logit against key `s`. -/
def lg (q : FVec Ideal S8x8x2x2048x64 .f32) (k : FVec Ideal S8x8x2048x64 .f32) (f : FVec Ideal S8x2048x16 .f32) (b h : Fin 8) (g : Fin 2) (t s : Fin 2048) : EReal :=
  (∑ e : Fin 64, q (ix5 b h g t e) * k (ix4 b h s e)) * Ideal.ofBits .f32 0x3E000000#32
    + (f (ix3 b t ⟨h.val * 2 + g.val, by omega⟩) - f (ix3 b s ⟨h.val * 2 + g.val, by omega⟩))

def logit (q : FVec Ideal S8x8x2x2048x64 .f32) (k : FVec Ideal S8x8x2048x64 .f32) (f : FVec Ideal S8x2048x16 .f32) : FVec Ideal S8x8x2x2048x2048 .f32 :=
  masked (raw q k (sums f))

theorem logit_at (q : FVec Ideal S8x8x2x2048x64 .f32) (k : FVec Ideal S8x8x2048x64 .f32) (f : FVec Ideal S8x2048x16 .f32) (b h : Fin 8) (g : Fin 2) (t s : Fin 2048) :
    logit q k f (ix5 b h g t s) = if s.val ≤ t.val then lg q k f b h g t s else ⊥ := by
  unfold logit lg
  rw [masked_at, raw_at, sums_at, sums_at]

/-- The largest logit of every row. -/
def top (L : FVec Ideal S8x8x2x2048x2048 .f32) : FVec Ideal S8x8x2x2048 .f32 :=
  Host.reduce FloatOps.maximumf L (constant S_ .f32 0xFF800000#32) reducesTo_S8x8x2x2048x2048_S8x8x2x2048_d4 h_S_

theorem top_at (L : FVec Ideal S8x8x2x2048x2048 .f32) (b h : Fin 8) (g : Fin 2) (t : Fin 2048) :
    top L (ix4 b h g t) = Finset.fold max (Ideal.ofBits .f32 0xFF800000#32) (fun k : Fin 2048 => L (ix5 b h g t k)) Finset.univ := by
  unfold top
  simp only [pointwise]

/-- The exponentials against the row's maximum. -/
def wtsOf (L : FVec Ideal S8x8x2x2048x2048 .f32) (T : FVec Ideal S8x8x2x2048 .f32) : FVec Ideal S8x8x2x2048x2048 .f32 :=
  Host.exp (subf L (broadcastInDim S8x8x2x2048x2048 ![0, 1, 2, 3, 4] bcast_S8x8x2x2048x1_S8x8x2x2048x2048_0_1_2_3_4 (broadcastInDim S8x8x2x2048x1 ![0, 1, 2, 3] bcast_S8x8x2x2048_S8x8x2x2048x1_0_1_2_3
    (maximumf (broadcastInDim S8x8x2x2048 ![] bcast_S_S8x8x2x2048 (constant S_ .f32 0xFF800000#32)) T))))

def wts (L : FVec Ideal S8x8x2x2048x2048 .f32) : FVec Ideal S8x8x2x2048x2048 .f32 := wtsOf L (top L)

theorem wtsOf_at (L : FVec Ideal S8x8x2x2048x2048 .f32) (T : FVec Ideal S8x8x2x2048 .f32) (b h : Fin 8) (g : Fin 2) (t s : Fin 2048) :
    wtsOf L T (ix5 b h g t s) = Ideal.exp (L (ix5 b h g t s) - max (Ideal.ofBits .f32 0xFF800000#32) (T (ix4 b h g t))) := by
  pointwise [wtsOf]

theorem wts_at (L : FVec Ideal S8x8x2x2048x2048 .f32) (b h : Fin 8) (g : Fin 2) (t s : Fin 2048) :
    wts L (ix5 b h g t s) = Ideal.exp (L (ix5 b h g t s) - max ⊥ (Finset.fold max ⊥ (fun k : Fin 2048 => L (ix5 b h g t k)) Finset.univ)) := by
  have n : Ideal.ofBits .f32 0xFF800000#32 = ⊥ := by simp [Ideal.ofBits, Ideal.ieee]
  rw [wts, wtsOf_at, top_at, n]

/-- The average of the values, a row for every position, query group by query group. -/
def out (P : FVec Ideal S8x8x2x2048x2048 .f32) (v : FVec Ideal S8x8x2048x64 .f32) : FVec Ideal S2x16384x512 .bf16 :=
  truncf .bf16 (shapeCast S2x16384x512 (transpose S2x8x2048x8x64 [2, 0, 3, 1, 4] (Host.dotGeneral (φ₁ := .f32) (φ₂ := .f32) dot_S8x8x2x2048x2048_S8x8x2048x64_S8x8x2x2048x64_4_2_23_3_01_01 none
      (Host.divf P (broadcastInDim S8x8x2x2048x2048 ![0, 1, 2, 3, 4] bcast_S8x8x2x2048x1_S8x8x2x2048x2048_0_1_2_3_4 (broadcastInDim S8x8x2x2048x1 ![0, 1, 2, 3] bcast_S8x8x2x2048_S8x8x2x2048x1_0_1_2_3
        (Host.reduceAdd P (constant S_ .f32 0x00000000#32) reducesTo_S8x8x2x2048x2048_S8x8x2x2048_d4 h_S_)))) v)
    transposes_S8x8x2x2048x64_S2x8x2048x8x64_2_0_3_1_4) shapeCasts_S2x8x2048x8x64_S2x16384x512) bitsLt_bf16_f32

theorem out_at (P : FVec Ideal S8x8x2x2048x2048 .f32) (v : FVec Ideal S8x8x2048x64 .f32) (g : Fin 2) (R : Fin 16384) (C : Fin 512) :
    out P v (ix3 g R C) = ∑ s : Fin 2048, Ideal.div (P (ix5 ⟨R.val / 2048, by omega⟩ ⟨C.val / 64, by omega⟩ g ⟨R.val % 2048, by omega⟩ s))
          (∑ k : Fin 2048, P (ix5 ⟨R.val / 2048, by omega⟩ ⟨C.val / 64, by omega⟩ g ⟨R.val % 2048, by omega⟩ k))
        * v (ix4 ⟨R.val / 2048, by omega⟩ ⟨C.val / 64, by omega⟩ s ⟨C.val % 64, by omega⟩) := by
  pointwise [out]

variable (m : (ℓ : Loc nD τ sig) → Buf (Elt Ideal) ℓ) (c : Dev nD)

theorem res_eq : Value.res_out0 m c = out (wts (logit (m (c.tc.loc main_arg0)) (m (c.tc.loc main_arg1)) (m (c.tc.loc main_arg3)))) (m (c.tc.loc main_arg2)) := rfl

end Cert.Fox.Ref

end
-- ==== Proof.FoxCore.lean ====
/- One query row of the forgetful attention: the kernel's scores and the reference's logits are the same real numbers. -/
module

public import proofs.«01_k».proof.Proof.FoxRow
public import proofs.«01_k».proof.Proof.FoxRef
public import proofs.«01_k».proof.Proof.MlaCore

@[expose] public section

noncomputable section

namespace Cert.Fox

open Idealize.ShloMosaic Idealize.ShloMosaic.TcCoe Cert.Kernel3Ideal
open Cert.Mla (seen seen_top fold_real dot_real dot_scaled)

/-- The factor of the kernel's queries and that of the reference's logits are one real number. -/
theorem factor_real : Ideal.ofBits .f32 0x3E000000#32 = ((1 / 8 : ℝ) : EReal) := by
  simp [Ideal.ofBits, Ideal.ieee]
  rw [← EReal.coe_mul]
  norm_num

theorem ε_real : ε = ((1 / 8 : ℝ) : EReal) := by
  unfold ε
  simp [Ideal.ofBits, Ideal.ieee]
  rw [← EReal.coe_mul]
  norm_num

/-- Of 128 lanes only one key head's 64 count. -/
theorem sum_half (f g : Fin 128 → EReal) (b : Nat) (hb : b < 2) :
    ∑ e : Fin 128, (if e.val / 64 = b then f e else 0) * g e = ∑ e : Fin 64, f ⟨64 * b + e.val, by omega⟩ * g ⟨64 * b + e.val, by omega⟩ := by
  rw [show (∑ e : Fin 128, (if e.val / 64 = b then f e else 0) * g e)
      = (∑ e : Fin 64, (if e.val / 64 = b then f ⟨e.val, by omega⟩ else 0) * g ⟨e.val, by omega⟩)
      + ∑ e : Fin 64, (if (64 + e.val) / 64 = b then f ⟨64 + e.val, by omega⟩ else 0) * g ⟨64 + e.val, by omega⟩ from
    Fin.sum_univ_add (a := 64) (b := 64) (fun e : Fin 128 => (if e.val / 64 = b then f e else 0) * g e)]
  have h0 : ∀ e : Fin 64, e.val / 64 = 0 := fun e => by omega
  have h1 : ∀ e : Fin 64, (64 + e.val) / 64 = 1 := fun e => by omega
  simp only [h0, h1]
  obtain rfl | rfl : b = 0 ∨ b = 1 := by omega
  · simp
  · simp

/-- A biased score of the stacked rows. -/
theorem score_at (x y : Vec Ideal S256x128 .bf16) (k : Vec Ideal S1x2048x128 .f32) (f : Vec Ideal S1x256x4 .f32) (g : Vec Ideal S1x1x4x2048 .f32)
    (j : Nat) (hj : j < 8) (R : Fin 1024) (d : Fin 256) :
    bsc (sc (stackQ x y) k j) (stackF f) g j hj R d
    = (∑ e : Fin 64, (if R.val / 256 % 2 = 0 then x (ix2 ⟨R.val % 256, by omega⟩ ⟨64 * (R.val / 512) + e.val, by omega⟩) else y (ix2 ⟨R.val % 256, by omega⟩ ⟨64 * (R.val / 512) + e.val, by omega⟩)) * ε
          * k (ix3 0 ⟨256 * j + d.val, by omega⟩ ⟨64 * (R.val / 512) + e.val, by omega⟩))
      + (f (ix3 0 ⟨R.val % 256, by omega⟩ ⟨R.val / 256, by omega⟩) - g (ix4 0 0 ⟨R.val / 256, by omega⟩ ⟨256 * j + d.val, by omega⟩)) := by
  unfold bsc
  rw [sc_at _ _ _ hj, stackF_at]
  congr 1
  refine Eq.trans (Finset.sum_congr rfl fun e _ => congrArg (· * _) (stackQ_at x y R e)) ?_
  exact sum_half (fun e => (if R.val / 256 % 2 = 0 then x (ix2 ⟨R.val % 256, by omega⟩ e) else y (ix2 ⟨R.val % 256, by omega⟩ e)) * ε)
    (fun e => k (ix3 0 ⟨256 * j + d.val, by omega⟩ e)) (R.val / 512) (by omega)

/-- The factor on the query or on the product. -/
theorem score_real {n : Nat} {f g : Fin n → EReal} {u w : EReal} (hf : ∀ e, f e = ((f e).toReal : EReal)) (hg : ∀ e, g e = ((g e).toReal : EReal))
    (hu : u = (u.toReal : EReal)) (hw : w = (w.toReal : EReal)) :
    ∃ r : ℝ, (∑ e, f e * g e) * Ideal.ofBits .f32 0x3E000000#32 + (u - w) = (r : EReal) ∧ (∑ e, f e * ε * g e) + (u - w) = (r : EReal) := by
  rw [factor_real, ε_real, hu, hw]
  refine ⟨(∑ e, (f e).toReal * (g e).toReal) * (1 / 8) + (u.toReal - w.toReal), ?_, ?_⟩
  · rw [dot_real hf hg, ← EReal.coe_mul, ← EReal.coe_sub, ← EReal.coe_add]
  · rw [dot_scaled hf hg, ← EReal.coe_sub, ← EReal.coe_add]

/-- The softmax average of the values, lane `d`, of query group `g` of key head `h`, query `t`. -/
def avg (q : FVec Ideal S8x8x2x2048x64 .f32) (k v : FVec Ideal S8x8x2048x64 .f32) (f : FVec Ideal S8x2048x16 .f32)
    (b h : Fin 8) (g : Fin 2) (t : Fin 2048) (d : Fin 64) : EReal :=
  ∑ s : Fin 2048, Ideal.div (Ref.wts (Ref.logit q k f) (ix5 b h g t s)) (∑ k' : Fin 2048, Ref.wts (Ref.logit q k f) (ix5 b h g t k')) * v (ix4 b h s d)

/-- The reference's row is the attention over the real logits the query sees. -/
theorem ref_att {q : FVec Ideal S8x8x2x2048x64 .f32} {k v : FVec Ideal S8x8x2048x64 .f32} {f : FVec Ideal S8x2048x16 .f32}
    {b h : Fin 8} {g : Fin 2} {t : Fin 2048} {d : Fin 64} {X : ℕ → ℝ} {w : ℕ → EReal} (hX : ∀ s : Fin 2048, Ref.lg q k f b h g t s = (X s.val : EReal))
    (hv : ∀ s : Fin 2048, v (ix4 b h s d) = w s.val) : avg q k v f b h g t d = att (seen t.val X) w 2048 := by
  unfold avg
  have hl : ∀ s : Fin 2048, Ref.logit q k f (ix5 b h g t s) = seen t.val X s.val := fun s => by
    rw [Ref.logit_at, hX]; rfl
  have h0 : seen t.val X 0 ≠ ⊥ := (if_pos (Nat.zero_le _)).trans_ne (EReal.coe_ne_bot _)
  obtain ⟨μ, hμ⟩ := fold_real (Finset.univ : Finset (Fin 2048)) (fun k => seen t.val X k.val) (fun k _ => seen_top _ _ _) ⟨0, Finset.mem_univ _, h0⟩
  have hw : ∀ s : Fin 2048, Ref.wts (Ref.logit q k f) (ix5 b h g t s) = Ideal.exp (seen t.val X s.val - (μ : EReal)) := fun s => by
    rw [Ref.wts_at]
    simp only [hl]
    rw [hμ, max_eq_right bot_le]
  simp only [hw, hv]
  exact whole _ (seen_top _ _) _ μ ⟨0, by omega, h0⟩

end Cert.Fox

end
-- ==== Proof.FoxHost.lean ====
/- The arrays the forgetful attention is called with, read at an element of the arguments. -/
module

public import proofs.«01_k».proof.Proof.Gen.Kernel3Ideal.Frame
public import Idealize.ShloMosaic.Lib.Pointwise

@[expose] public section

noncomputable section

namespace Cert.Fox

open Idealize.ShloMosaic Idealize.ShloMosaic.TcCoe Cert.Kernel3Ideal Cert.Kernel3Ideal.Gen

/-- The queries, a row for every position: the two query groups, each of eight heads' lanes. -/
def qArr (q : Vec Ideal S8x8x2x2048x64 .f32) : Vec Ideal S16384x1024 .bf16 :=
  truncf (F := Ideal) (φ := .f32) .bf16 (shapeCast S16384x1024 (transpose S8x2048x2x8x64 [0, 3, 2, 1, 4] q transposes_S8x8x2x2048x64_S8x2048x2x8x64_0_3_2_1_4)
    shapeCasts_S8x2048x2x8x64_S16384x1024) bitsLt_bf16_f32

theorem qArr_at (q : Vec Ideal S8x8x2x2048x64 .f32) (R : Fin 16384) (C : Fin 1024) :
    qArr q (ix2 R C) = q (ix5 ⟨R.val / 2048, by omega⟩ ⟨C.val / 64 % 8, by omega⟩ ⟨C.val / 512, by omega⟩ ⟨R.val % 2048, by omega⟩ ⟨C.val % 64, by omega⟩) := by
  pointwise [qArr]

/-- The keys or the values, a row for every position. -/
def slab (k : Vec Ideal S8x8x2048x64 .f32) : Vec Ideal S1x16384x512 .f32 :=
  shapeCast S1x16384x512 (transpose S8x2048x8x64 [0, 2, 1, 3] k transposes_S8x8x2048x64_S8x2048x8x64_0_2_1_3) shapeCasts_S8x2048x8x64_S1x16384x512

theorem slab_at (k : Vec Ideal S8x8x2048x64 .f32) (R : Fin 16384) (C : Fin 512) :
    slab k (ix3 0 R C) = k (ix4 ⟨R.val / 2048, by omega⟩ ⟨C.val / 64, by omega⟩ ⟨R.val % 2048, by omega⟩ ⟨C.val % 64, by omega⟩) := by
  pointwise [slab]

/-- The forget sums of the query rows, by groups of four heads. -/
def fqArr (f : Vec Ideal S8x2048x16 .f32) : Vec Ideal S4x16384x4 .f32 :=
  transpose S4x16384x4 [1, 0, 2] (shapeCast S16384x4x4 f shapeCasts_S8x2048x16_S16384x4x4) transposes_S16384x4x4_S4x16384x4_1_0_2

theorem fqArr_at (f : Vec Ideal S8x2048x16 .f32) (p : Fin 4) (R : Fin 16384) (r : Fin 4) :
    fqArr f (ix3 p R r) = f (ix3 ⟨R.val / 2048, by omega⟩ ⟨R.val % 2048, by omega⟩ ⟨p.val * 4 + r.val, by omega⟩) := by
  pointwise [fqArr]

/-- The forget sums of the keys, by groups of four heads. -/
def fkArr (f : Vec Ideal S8x2048x16 .f32) : Vec Ideal S8x4x4x2048 .f32 :=
  shapeCast S8x4x4x2048 (transpose S8x16x2048 [0, 2, 1] f transposes_S8x2048x16_S8x16x2048_0_2_1) shapeCasts_S8x16x2048_S8x4x4x2048

theorem fkArr_at (f : Vec Ideal S8x2048x16 .f32) (b : Fin 8) (p r : Fin 4) (s : Fin 2048) :
    fkArr f (ix4 b p r s) = f (ix3 b s ⟨p.val * 4 + r.val, by omega⟩) := by
  pointwise [fkArr]

variable (m : (ℓ : Loc nD τ sig) → Buf (Elt Ideal) ℓ) (c : Dev nD)

theorem v2_eq : (V m c main_v2 : Vec Ideal S16384x1024 .bf16) = qArr (m ((c : Thread nD τ).loc main_arg0)) := by
  unfold V hostOps0
  after_results_simp <;> rfl
theorem v7_eq : (V m c main_v7 : Vec Ideal S1x16384x512 .f32) = slab (m ((c : Thread nD τ).loc main_arg1)) := by
  unfold V hostOps0
  after_results_simp <;> rfl
theorem v9_eq : (V m c main_v9 : Vec Ideal S1x16384x512 .f32) = slab (m ((c : Thread nD τ).loc main_arg2)) := by
  unfold V hostOps0
  after_results_simp <;> rfl
theorem v4_eq : (V m c main_v4 : Vec Ideal S4x16384x4 .f32) = fqArr (m ((c : Thread nD τ).loc main_arg3)) := by
  unfold V hostOps0
  after_results_simp <;> rfl
theorem v10_eq : (V m c main_v10 : Vec Ideal S8x4x4x2048 .f32) = fkArr (m ((c : Thread nD τ).loc main_arg3)) := by
  unfold V hostOps0
  after_results_simp <;> rfl

end Cert.Fox

end
-- ==== Proof.FoxPre.lean ====
/- The forgetful attention's precondition read back: every query, key and forget sum is a real number. -/
module

public import proofs.«01_k».proof.Defs
public import proofs.«01_k».proof.Proof.Gen.Pre_finite3
public import proofs.«01_k».proof.Proof.MlaPre

@[expose] public section

noncomputable section

namespace Cert.Fox

open Idealize.ShloMosaic Idealize.ShloMosaic.TcCoe Cert.Kernel3Ideal
open Cert.Mla (real_of_lt)

instance : Subsingleton (Cert.Pre_finite3.S_).Idx := ⟨fun a b => funext fun k => k.elim0⟩

theorem finite_args [hPre_finite3 : Cert.Pre_finite3.Facts] (m : (ℓ : Loc nD τ sig) → Buf (Elt Ideal) ℓ) (h : Cert.Pre_Kernel3Ideal_finite3 m) (c : Dev nD) :
    (∀ j, (m (c.tc.loc main_arg0) : Vec Ideal S8x8x2x2048x64 .f32) j = (((m (c.tc.loc main_arg0) : Vec Ideal S8x8x2x2048x64 .f32) j).toReal : EReal))
    ∧ (∀ j, (m (c.tc.loc main_arg1) : Vec Ideal S8x8x2048x64 .f32) j = (((m (c.tc.loc main_arg1) : Vec Ideal S8x8x2048x64 .f32) j).toReal : EReal))
    ∧ (∀ j, (m (c.tc.loc main_arg3) : Vec Ideal S8x2048x16 .f32) j = (((m (c.tc.loc main_arg3) : Vec Ideal S8x2048x16 .f32) j).toReal : EReal)) := by
  have e := congrFun (h c) (fun k => k.elim0)
  dsimp only [Cert.Pre_finite3.fn] at e
  obtain ⟨e, e2⟩ := IntOp.andi_eq_one.1 e
  obtain ⟨e0, e1⟩ := IntOp.andi_eq_one.1 e
  exact ⟨fun j => real_of_lt (Host.reduce_andi_all _ _ _ _ _ e0 j), fun j => real_of_lt (Host.reduce_andi_all _ _ _ _ _ e1 j),
    fun j => real_of_lt (Host.reduce_andi_all _ _ _ _ _ e2 j)⟩

end Cert.Fox

end
-- ==== Proof.FoxEqKernel3Ideal.lean ====
/- The printed body is the program of pieces. -/
module

public import proofs.«01_k».proof.Proof.FoxProg
public import proofs.«01_k».proof.Proof.Gen.Kernel3Ideal
public import Idealize.ShloMosaic.Lib.Pipeline.Regions

@[expose] public section

set_option maxRecDepth 100000

noncomputable section

namespace Cert.Fox.Kernel3Ideal

open Idealize.ShloMosaic Idealize.SL.Sem Cert.Kernel3Ideal

variable {F : FTy → Type} [FloatOps F] [Named F]

/-- The buffers of the body. -/
abbrev bufs (arg3 : Memref sig .tc .vmem S256x128 .bf16) (harg3 : arg3.IsWhole) (arg4 : Memref sig .tc .vmem S256x128 .bf16) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x256x4 .f32) (harg7 : arg7.IsWhole) (arg8 : Memref sig .tc .vmem S1x1x4x2048 .f32) (harg8 : arg8.IsWhole) (arg9 : Memref sig .tc .vmem S2x256x128 .bf16) (harg9 : arg9.IsWhole) (arg10 : Memref sig .tc .vmem S1024x128 .bf16) (harg10 : arg10.IsWhole) (arg11 : Memref sig .tc .vmem S1024x128 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .bf16) (harg14 : arg14.IsWhole) (arg15 : Memref sig .tc .vmem S1024x256 .bf16) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S1024x128 .f32) (harg20 : arg20.IsWhole) : Bufs sig :=
  ⟨arg3, arg4, arg5, arg6, arg7, arg8, arg9, harg9, arg10, harg10, arg11, fun b => match b with | false => arg12 | true => arg13,
    fun b => match b with | false => arg14 | true => arg15, fun b => match b with | false => harg14 | true => harg15,
    fun b => match b with | false => arg16 | true => arg17, arg18, arg19, arg20⟩

theorem body_eqA (i : grid0.Coords) (arg3 : Memref sig .tc .vmem S256x128 .bf16) (harg3 : arg3.IsWhole) (arg4 : Memref sig .tc .vmem S256x128 .bf16) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x256x4 .f32) (harg7 : arg7.IsWhole) (arg8 : Memref sig .tc .vmem S1x1x4x2048 .f32) (harg8 : arg8.IsWhole) (arg9 : Memref sig .tc .vmem S2x256x128 .bf16) (harg9 : arg9.IsWhole) (arg10 : Memref sig .tc .vmem S1024x128 .bf16) (harg10 : arg10.IsWhole) (arg11 : Memref sig .tc .vmem S1024x128 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .bf16) (harg14 : arg14.IsWhole) (arg15 : Memref sig .tc .vmem S1024x256 .bf16) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S1024x128 .f32) (harg20 : arg20.IsWhole) :
    cc0_fox_prompt (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = bodyA (bufs arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) (Named.named κ "mask" 0xF149F2CA#32) i (k0_t1_loop i).ub := by
  chain_rfl

theorem body_eq (i : grid0.Coords) (arg3 : Memref sig .tc .vmem S256x128 .bf16) (harg3 : arg3.IsWhole) (arg4 : Memref sig .tc .vmem S256x128 .bf16) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x256x4 .f32) (harg7 : arg7.IsWhole) (arg8 : Memref sig .tc .vmem S1x1x4x2048 .f32) (harg8 : arg8.IsWhole) (arg9 : Memref sig .tc .vmem S2x256x128 .bf16) (harg9 : arg9.IsWhole) (arg10 : Memref sig .tc .vmem S1024x128 .bf16) (harg10 : arg10.IsWhole) (arg11 : Memref sig .tc .vmem S1024x128 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .bf16) (harg14 : arg14.IsWhole) (arg15 : Memref sig .tc .vmem S1024x256 .bf16) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S1024x128 .f32) (harg20 : arg20.IsWhole) :
    cc0_fox_prompt (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = body (bufs arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) (Named.named κ "mask" 0xF149F2CA#32) i :=
  (body_eqA i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20).trans (bodyA_eq _ _ _ _)

end Cert.Fox.Kernel3Ideal

end
-- ==== Proof.FoxFrameKernel3Ideal.lean ====
/- The frame of the forgetful attention (at the ideal): the body's run at every point of the grid, and the launch. -/
module

public import proofs.«01_k».proof.Proof.FoxEqKernel3Ideal
public import proofs.«01_k».proof.Proof.FoxGlue
public import proofs.«01_k».proof.Proof.Gen.Kernel3Ideal.Frame
public import Idealize.ShloMosaic.Lib.Claim

@[expose] public section

set_option maxRecDepth 16384

noncomputable section

namespace Cert.Fox.Kernel3Ideal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel3Ideal Cert.Kernel3Ideal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The output block of point `i`. -/
abbrev outAt (i : grid0.Coords) (xq xr : Vec F S256x128 .bf16) (xk xv : Vec F S1x2048x128 .f32) (xf : Vec F S1x256x4 .f32) (xg : Vec F S1x1x4x2048 .f32) : Vec F S2x256x128 .bf16 :=
  outF (Named.named Cert.Kernel3Ideal.κ "mask" 0xF149F2CA#32) (i 2).val xq xr xk xv xf xg

/-- The body from any contents of its buffers: the six inputs stay, the output block is theirs, the scratch holds something. -/
theorem sound_kernel (c : Dev nD) (E : Set ℕ) (i : grid0.Coords) (arg3 : Memref sig .tc .vmem S256x128 .bf16) (harg3 : arg3.IsWhole) (arg4 : Memref sig .tc .vmem S256x128 .bf16) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x256x4 .f32) (harg7 : arg7.IsWhole) (arg8 : Memref sig .tc .vmem S1x1x4x2048 .f32) (harg8 : arg8.IsWhole) (arg9 : Memref sig .tc .vmem S2x256x128 .bf16) (harg9 : arg9.IsWhole) (arg10 : Memref sig .tc .vmem S1024x128 .bf16) (harg10 : arg10.IsWhole) (arg11 : Memref sig .tc .vmem S1024x128 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .bf16) (harg14 : arg14.IsWhole) (arg15 : Memref sig .tc .vmem S1024x256 .bf16) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S1024x128 .f32) (harg20 : arg20.IsWhole)
    (xq xr : Vec F S256x128 .bf16) (xk xv : Vec F S1x2048x128 .f32) (xf : Vec F S1x256x4 .f32) (xg : Vec F S1x1x4x2048 .f32) (K : PUnit → sProp 𝕄) :
    iprop(owns (c : Thread nD τ) arg3 fullShare xq ∗ owns (c : Thread nD τ) arg4 fullShare xr ∗ owns (c : Thread nD τ) arg5 fullShare xk ∗ owns (c : Thread nD τ) arg6 fullShare xv ∗ owns (c : Thread nD τ) arg7 fullShare xf ∗ owns (c : Thread nD τ) arg8 fullShare xg
    ∗ (∃ d, owns (c : Thread nD τ) arg9 fullShare d)
    ∗ (∃ d, owns (c : Thread nD τ) arg10 fullShare d)
    ∗ (∃ d, owns (c : Thread nD τ) arg11 fullShare d)
    ∗ (∃ d, owns (c : Thread nD τ) arg12 fullShare d)
    ∗ (∃ d, owns (c : Thread nD τ) arg13 fullShare d)
    ∗ (∃ d, owns (c : Thread nD τ) arg14 fullShare d)
    ∗ (∃ d, owns (c : Thread nD τ) arg15 fullShare d)
    ∗ (∃ d, owns (c : Thread nD τ) arg16 fullShare d)
    ∗ (∃ d, owns (c : Thread nD τ) arg17 fullShare d)
    ∗ (∃ d, owns (c : Thread nD τ) arg18 fullShare d)
    ∗ (∃ d, owns (c : Thread nD τ) arg19 fullShare d)
    ∗ (∃ d, owns (c : Thread nD τ) arg20 fullShare d)
    ∗ (owns (c : Thread nD τ) arg3 fullShare xq ∗ owns (c : Thread nD τ) arg4 fullShare xr ∗ owns (c : Thread nD τ) arg5 fullShare xk ∗ owns (c : Thread nD τ) arg6 fullShare xv ∗ owns (c : Thread nD τ) arg7 fullShare xf ∗ owns (c : Thread nD τ) arg8 fullShare xg
    ∗ owns (c : Thread nD τ) arg9 fullShare (outAt i xq xr xk xv xf xg)
    ∗ (∃ d, owns (c : Thread nD τ) arg10 fullShare d)
    ∗ (∃ d, owns (c : Thread nD τ) arg11 fullShare d)
    ∗ (∃ d, owns (c : Thread nD τ) arg12 fullShare d)
    ∗ (∃ d, owns (c : Thread nD τ) arg13 fullShare d)
    ∗ (∃ d, owns (c : Thread nD τ) arg14 fullShare d)
    ∗ (∃ d, owns (c : Thread nD τ) arg15 fullShare d)
    ∗ (∃ d, owns (c : Thread nD τ) arg16 fullShare d)
    ∗ (∃ d, owns (c : Thread nD τ) arg17 fullShare d)
    ∗ (∃ d, owns (c : Thread nD τ) arg18 fullShare d)
    ∗ (∃ d, owns (c : Thread nD τ) arg19 fullShare d)
    ∗ (∃ d, owns (c : Thread nD τ) arg20 fullShare d) -∗ K ⟨⟩))
      ⊢ wp frame (wpE (defs₀ (F := F)) Variants.none (c : Thread nD τ) none) E (cc0_fox_prompt (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  rw [body_eq]
  iintro ⟨Hq, Hr, Hk, Hv, Hf, Hg, ⟨%zo, Ho⟩, ⟨%zqs, Hqs⟩, ⟨%zfs, Hfs⟩, ⟨%zs0, Hs0⟩, ⟨%zs1, Hs1⟩, ⟨%zp0, Hp0⟩, ⟨%zp1, Hp1⟩, ⟨%za0, Ha0⟩, ⟨%za1, Ha1⟩, ⟨%zm, Hm⟩, ⟨%zl, Hl⟩, ⟨%zacc, Hacc⟩, HK⟩
  obtain ⟨⟨eq, er, ek, ev, ef, eg⟩, eo⟩ := bodySt_eq (Named.named Cert.Kernel3Ideal.κ "mask" 0xF149F2CA#32) (i 2).val
    (⟨xq, xr, xk, xv, xf, xg, zo, zqs, zfs, fun b => match b with | false => zs0 | true => zs1, fun b => match b with | false => zp0 | true => zp1,
      fun b => match b with | false => za0 | true => za1, zm, zl, zacc⟩ : St F)
  iapply (run_body (Ix := Unit) (Name := ℕ) (U := UR sig nD τ) (Lvl := ℕ) (defs := defs₀ (F := F)) (𝒱 := Variants.none) (bd := none) (E := E) (c := c)
    (B := bufs arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) (Named.named Cert.Kernel3Ideal.κ "mask" 0xF149F2CA#32) i
    (⟨xq, xr, xk, xv, xf, xg, zo, zqs, zfs, fun b => match b with | false => zs0 | true => zs1, fun b => match b with | false => zp0 | true => zp1,
      fun b => match b with | false => za0 | true => za1, zm, zl, zacc⟩ : St F) K) $$ [Hq Hr Hk Hv Hf Hg Ho Hqs Hfs Hs0 Hs1 Hp0 Hp1 Ha0 Ha1 Hm Hl Hacc]
  · unfold Holds
    isplitl [Hq]; · iexact Hq
    isplitl [Hr]; · iexact Hr
    isplitl [Hk]; · iexact Hk
    isplitl [Hv]; · iexact Hv
    isplitl [Hf]; · iexact Hf
    isplitl [Hg]; · iexact Hg
    isplitl [Ho]; · iexact Ho
    isplitl [Hqs]; · iexact Hqs
    isplitl [Hfs]; · iexact Hfs
    isplitl [Hs0]; · iexact Hs0
    isplitl [Hs1]; · iexact Hs1
    isplitl [Hp0]; · iexact Hp0
    isplitl [Hp1]; · iexact Hp1
    isplitl [Ha0]; · iexact Ha0
    isplitl [Ha1]; · iexact Ha1
    isplitl [Hm]; · iexact Hm
    isplitl [Hl]; · iexact Hl
    iexact Hacc
  generalize (bodySt (F := F) (Named.named Cert.Kernel3Ideal.κ "mask" 0xF149F2CA#32) (i 2).val _ : St F) = σ' at eq er ek ev ef eg eo ⊢
  dsimp only at eq er ek ev ef eg eo
  subst eq er ek ev ef eg
  iintro H
  unfold Holds
  icases H with ⟨Hq, Hr, Hk, Hv, Hf, Hg, Ho, Hqs, Hfs, Hs0, Hs1, Hp0, Hp1, Ha0, Ha1, Hm, Hl, Hacc⟩
  iapply HK
  isplitl [Hq]; · iexact Hq
  isplitl [Hr]; · iexact Hr
  isplitl [Hk]; · iexact Hk
  isplitl [Hv]; · iexact Hv
  isplitl [Hf]; · iexact Hf
  isplitl [Hg]; · iexact Hg
  isplitl [Ho]; · unfold outAt; rw [← eo]; iexact Ho
  isplitl [Hqs]; · iexists _; iexact Hqs
  isplitl [Hfs]; · iexists _; iexact Hfs
  isplitl [Hs0]; · iexists _; iexact Hs0
  isplitl [Hs1]; · iexists _; iexact Hs1
  isplitl [Hp0]; · iexists _; iexact Hp0
  isplitl [Hp1]; · iexists _; iexact Hp1
  isplitl [Ha0]; · iexists _; iexact Ha0
  isplitl [Ha1]; · iexists _; iexact Ha1
  isplitl [Hm]; · iexists _; iexact Hm
  isplitl [Hl]; · iexists _; iexact Hl
  iexists _; iexact Hacc

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt (grid0.coords t) (iblk m c 0 t) (iblk m c 1 t) (iblk m c 2 t) (iblk m c 3 t) (iblk m c 4 t) (iblk m c 5 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) :
    (dats m 0 c).after 6 t = outAt (grid0.coords t) (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The invariant as the eleven scratch buffers, each at some contents, and the generator register. -/
theorem inv_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d)) ∗ (∃ r, prngReg c r)) := by
  unfold Pipeline.ΦA; rw [scopedRest0_eq]; simp only [owns_whole]; try rfl

/-! ## The body at every point -/

theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d)))
    ⊢ wp frame (wpE (defs₀ (F := F)) Variants.none c none) Set.univ (bodyAt0 t) (fun _ =>
      iprop((dats m 0 c).Φ t.succ ∗ (dats m 0 c).owesAt () t.succ
      ∗ owns (c : Thread nD τ) (st0_0 t) fullShare ((dats m 0 c).after 0 t)
      ∗ owns (c : Thread nD τ) (st0_1 t) fullShare ((dats m 0 c).after 1 t)
      ∗ owns (c : Thread nD τ) (st0_2 t) fullShare ((dats m 0 c).after 2 t)
      ∗ owns (c : Thread nD τ) (st0_3 t) fullShare ((dats m 0 c).after 3 t)
      ∗ owns (c : Thread nD τ) (st0_4 t) fullShare ((dats m 0 c).after 4 t)
      ∗ owns (c : Thread nD τ) (st0_5 t) fullShare ((dats m 0 c).after 5 t)
      ∗ owns (c : Thread nD τ) (st0_6 t) fullShare ((dats m 0 c).after 6 t))) := by
  unfold bodyAt0
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, inv_eq]
  iintro ⟨⟨⟨S0, S1, S2, S3, S4, S5, S6, S7, S8, S9, S10⟩, Hg⟩, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  iintro ⟨H0, H1, H2, H3, H4, H5, H6, S0, S1, S2, S3, S4, S5, S6, S7, S8, S9, S10⟩
  isplitl [Hg S0 S1 S2 S3 S4 S5 S6 S7 S8 S9 S10]
  · isplitl [S0 S1 S2 S3 S4 S5 S6 S7 S8 S9 S10]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      iexact S10
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem row_eq (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-! ## The launch -/

set_option backward.isDefEq.respectTransparency.types false in
set_option maxHeartbeats 800000 in
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_quiescent m ρ)

/-- The frame: the arguments end as launched, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run m ρ)) ((θ_run defs _ _).mono (fun _ h => h.2) (run_quiescent m ρ))

end Cert.Fox.Kernel3Ideal

end
-- ==== Proof.FoxArr.lean ====
/- The forgetful attention's result array, read at an element: the reference's. -/
module

public import proofs.«01_k».proof.Proof.FoxCore
public import proofs.«01_k».proof.Proof.FoxHost
public import proofs.«01_k».proof.Proof.FoxPre
public import proofs.«01_k».proof.Proof.FoxFrameKernel3Ideal
public import Idealize.ShloMosaic.Lib.Pipeline.Value

@[expose] public section

noncomputable section

namespace Cert.Fox

open Idealize.ShloMosaic Idealize.ShloMosaic.TcCoe Idealize.SL.Sem Cert.Kernel3Ideal Cert.Kernel3Ideal.Gen
open Cert.Fox.Kernel3Ideal (dats A_eq after0_6 run outAt)

variable (m : (ℓ : Loc nD τ sig) → Buf (Elt Ideal) ℓ) (ρ : Dev nD → PrngReg)

/-! ## The windows -/

theorem idx : ∀ t : Fin cfg0.N,
    (win0_0.index t (0 : Fin 2) = 8 * (t.val / 32) + t.val % 8 ∧ win0_0.index t (1 : Fin 2) = t.val / 8 % 4)
    ∧ (win0_1.index t (0 : Fin 2) = 8 * (t.val / 32) + t.val % 8 ∧ win0_1.index t (1 : Fin 2) = 4 + t.val / 8 % 4)
    ∧ (win0_2.index t (0 : Fin 3) = 0 ∧ win0_2.index t (1 : Fin 3) = t.val / 32 ∧ win0_2.index t (2 : Fin 3) = t.val / 8 % 4)
    ∧ (win0_3.index t (0 : Fin 3) = 0 ∧ win0_3.index t (1 : Fin 3) = t.val / 32 ∧ win0_3.index t (2 : Fin 3) = t.val / 8 % 4)
    ∧ (win0_4.index t (0 : Fin 3) = t.val / 8 % 4 ∧ win0_4.index t (1 : Fin 3) = 8 * (t.val / 32) + t.val % 8 ∧ win0_4.index t (2 : Fin 3) = 0)
    ∧ (win0_5.index t (0 : Fin 4) = t.val / 32 ∧ win0_5.index t (1 : Fin 4) = t.val / 8 % 4 ∧ win0_5.index t (2 : Fin 4) = 0 ∧ win0_5.index t (3 : Fin 4) = 0)
    ∧ (win0_6.index t (0 : Fin 3) = 0 ∧ win0_6.index t (1 : Fin 3) = 8 * (t.val / 32) + t.val % 8 ∧ win0_6.index t (2 : Fin 3) = t.val / 8 % 4)
    ∧ (grid0.coords t 2).val = t.val % 8 :=
  (by decide +kernel : ∀ t : Fin grid0.N, _)

theorem lt (t : Fin cfg0.N) : t.val < 256 := by have := t.isLt; have h : cfg0.N = 256 := N_0; omega

/-- The array row of row `r` of block `t`. -/
def row (t : Fin cfg0.N) (r : Fin 256) : Fin 16384 := ⟨(8 * (t.val / 32) + t.val % 8) * 256 + r.val, by have := lt t; omega⟩

/-- The array row of key `n` of the batch block `t` belongs to. -/
def key (t : Fin cfg0.N) (n : Fin 2048) : Fin 16384 := ⟨t.val / 32 * 2048 + n.val, by have := lt t; omega⟩

/-- The pair of key heads of block `t`, and the array column of its lane `a`. -/
def pair (t : Fin cfg0.N) : Fin 4 := ⟨t.val / 8 % 4, by omega⟩
def col (t : Fin cfg0.N) (a : Fin 128) : Fin 512 := ⟨t.val / 8 % 4 * 128 + a.val, by omega⟩

/-- The batch, and the position of row `r`, of block `t`. -/
def bat (t : Fin cfg0.N) : Fin 8 := ⟨t.val / 32, by have := lt t; omega⟩
def pos (t : Fin cfg0.N) (r : Fin 256) : Fin 2048 := ⟨t.val % 8 * 256 + r.val, by omega⟩

theorem emb0 (t : Fin cfg0.N) (r : Fin 256) (e : Fin 128) :
    ((cfg0.win 0).blk t).view.emb (ix2 r e : S256x128.Idx) = (ix2 (row t r) ⟨t.val / 8 % 4 * 128 + e.val, by omega⟩ : S16384x1024.Idx) := by
  obtain ⟨⟨e0, e1⟩, -⟩ := idx t
  funext a; apply Fin.ext
  match a with
  | ⟨0, _⟩ => show win0_0.index t (0 : Fin 2) * 256 + 1 * r.val = (8 * (t.val / 32) + t.val % 8) * 256 + r.val; rw [e0]; omega
  | ⟨1, _⟩ => show win0_0.index t (1 : Fin 2) * 128 + 1 * e.val = t.val / 8 % 4 * 128 + e.val; rw [e1]; omega

theorem emb1 (t : Fin cfg0.N) (r : Fin 256) (e : Fin 128) :
    ((cfg0.win 1).blk t).view.emb (ix2 r e : S256x128.Idx) = (ix2 (row t r) ⟨(4 + t.val / 8 % 4) * 128 + e.val, by omega⟩ : S16384x1024.Idx) := by
  obtain ⟨-, ⟨e0, e1⟩, -⟩ := idx t
  funext a; apply Fin.ext
  match a with
  | ⟨0, _⟩ => show win0_1.index t (0 : Fin 2) * 256 + 1 * r.val = (8 * (t.val / 32) + t.val % 8) * 256 + r.val; rw [e0]; omega
  | ⟨1, _⟩ => show win0_1.index t (1 : Fin 2) * 128 + 1 * e.val = (4 + t.val / 8 % 4) * 128 + e.val; rw [e1]; omega

theorem emb2 (t : Fin cfg0.N) (n : Fin 2048) (e : Fin 128) :
    ((cfg0.win 2).blk t).view.emb (ix3 0 n e : S1x2048x128.Idx) = (ix3 0 (key t n) (col t e) : S1x16384x512.Idx) := by
  obtain ⟨-, -, ⟨e0, e1, e2⟩, -⟩ := idx t
  funext a; apply Fin.ext
  match a with
  | ⟨0, _⟩ => show win0_2.index t (0 : Fin 3) * 1 + 1 * 0 = 0; rw [e0]
  | ⟨1, _⟩ => show win0_2.index t (1 : Fin 3) * 2048 + 1 * n.val = t.val / 32 * 2048 + n.val; rw [e1]; omega
  | ⟨2, _⟩ => show win0_2.index t (2 : Fin 3) * 128 + 1 * e.val = t.val / 8 % 4 * 128 + e.val; rw [e2]; omega

theorem emb3 (t : Fin cfg0.N) (n : Fin 2048) (e : Fin 128) :
    ((cfg0.win 3).blk t).view.emb (ix3 0 n e : S1x2048x128.Idx) = (ix3 0 (key t n) (col t e) : S1x16384x512.Idx) := by
  obtain ⟨-, -, -, ⟨e0, e1, e2⟩, -⟩ := idx t
  funext a; apply Fin.ext
  match a with
  | ⟨0, _⟩ => show win0_3.index t (0 : Fin 3) * 1 + 1 * 0 = 0; rw [e0]
  | ⟨1, _⟩ => show win0_3.index t (1 : Fin 3) * 2048 + 1 * n.val = t.val / 32 * 2048 + n.val; rw [e1]; omega
  | ⟨2, _⟩ => show win0_3.index t (2 : Fin 3) * 128 + 1 * e.val = t.val / 8 % 4 * 128 + e.val; rw [e2]; omega

theorem emb4 (t : Fin cfg0.N) (r : Fin 256) (h : Fin 4) :
    ((cfg0.win 4).blk t).view.emb (ix3 0 r h : S1x256x4.Idx) = (ix3 (pair t) (row t r) h : S4x16384x4.Idx) := by
  obtain ⟨-, -, -, -, ⟨e0, e1, e2⟩, -⟩ := idx t
  funext a; apply Fin.ext
  match a with
  | ⟨0, _⟩ => show win0_4.index t (0 : Fin 3) * 1 + 1 * 0 = t.val / 8 % 4; rw [e0]; omega
  | ⟨1, _⟩ => show win0_4.index t (1 : Fin 3) * 256 + 1 * r.val = (8 * (t.val / 32) + t.val % 8) * 256 + r.val; rw [e1]; omega
  | ⟨2, _⟩ => show win0_4.index t (2 : Fin 3) * 4 + 1 * h.val = h.val; rw [e2]; omega

theorem emb5 (t : Fin cfg0.N) (h : Fin 4) (n : Fin 2048) :
    ((cfg0.win 5).blk t).view.emb (ix4 0 0 h n : S1x1x4x2048.Idx) = (ix4 (bat t) (pair t) h n : S8x4x4x2048.Idx) := by
  obtain ⟨-, -, -, -, -, ⟨e0, e1, e2, e3⟩, -⟩ := idx t
  funext a; apply Fin.ext
  match a with
  | ⟨0, _⟩ => show win0_5.index t (0 : Fin 4) * 1 + 1 * 0 = t.val / 32; rw [e0]; omega
  | ⟨1, _⟩ => show win0_5.index t (1 : Fin 4) * 1 + 1 * 0 = t.val / 8 % 4; rw [e1]; omega
  | ⟨2, _⟩ => show win0_5.index t (2 : Fin 4) * 4 + 1 * h.val = h.val; rw [e2]; omega
  | ⟨3, _⟩ => show win0_5.index t (3 : Fin 4) * 2048 + 1 * n.val = n.val; rw [e3]; omega

theorem emb6 (t : Fin cfg0.N) (h : Fin 2) (r : Fin 256) (a : Fin 128) :
    ((cfg0.win 6).blk t).view.emb (ix3 h r a : S2x256x128.Idx) = (ix3 h (row t r) (col t a) : S2x16384x512.Idx) := by
  obtain ⟨-, -, -, -, -, -, ⟨e0, e1, e2⟩, -⟩ := idx t
  funext k; apply Fin.ext
  match k with
  | ⟨0, _⟩ => show win0_6.index t (0 : Fin 3) * 2 + 1 * h.val = h.val; rw [e0]; omega
  | ⟨1, _⟩ => show win0_6.index t (1 : Fin 3) * 256 + 1 * r.val = (8 * (t.val / 32) + t.val % 8) * 256 + r.val; rw [e1]; omega
  | ⟨2, _⟩ => show win0_6.index t (2 : Fin 3) * 128 + 1 * a.val = t.val / 8 % 4 * 128 + a.val; rw [e2]; omega

/-! ## The blocks written back -/

theorem flushed6 (c : Dev nD) (t : Fin cfg0.N) :
    (dats m 0 c).flushed 6 t = (cfg0.win 6).cut (grid0.coords t)
      (outAt (grid0.coords t) (iblk m c 0 t) (iblk m c 1 t) (iblk m c 2 t) (iblk m c 3 t) (iblk m c 4 t) (iblk m c 5 t)) := by
  show (cfg0.win 6).cut (grid0.coords t) ((dats m 0 c).after 6 t) = _
  rw [after0_6]

theorem idx_inj6 (t t' : Fin cfg0.N) (h : win0_6.index t = win0_6.index t') : t = t' := by
  have a := congrFun h (1 : Fin 3)
  have b := congrFun h (2 : Fin 3)
  obtain ⟨-, -, -, -, -, -, ⟨_, e1, e2⟩, -⟩ := idx t
  obtain ⟨-, -, -, -, -, -, ⟨_, e1', e2'⟩, -⟩ := idx t'
  have a' := e1.symm.trans (a.trans e1')
  have b' := e2.symm.trans (b.trans e2')
  exact Fin.ext (by omega)

theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

theorem blocks6 (c : Dev nD) (t : Fin cfg0.N) :
    ((cfg0.win 6).blk t).view.read (Elt Ideal) ((dats m 0 c).arrAt 6 cfg0.N) = (dats m 0 c).flushed 6 t :=
  (dats m 0 c).read_blk_arrAt_eq_flushed 6 disjoint6 cfg0.N t t.isLt (flush0_6 t)

theorem run_blocks : θ_run defs (onTc (τ := τ) (main (F := Ideal))) ⟨m, fun _ => 0, ρ⟩ fun r => ∀ c : Dev nD,
      r.2.mem ((c : Thread nD τ).loc main_v11) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 6,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run m ρ)

/-! ## The input blocks -/

variable (c : Dev nD)

/-- The key head of lane `a` of block `t`. -/
def khead (t : Fin cfg0.N) (u : Nat) (hu : u < 2) : Fin 8 := ⟨t.val / 8 % 4 * 2 + u, by omega⟩

theorem row_div_eq (t : Fin cfg0.N) (r : Fin 256) : (⟨(row t r).val / 2048, by omega⟩ : Fin 8) = bat t := by
  apply Fin.ext; show ((8 * (t.val / 32) + t.val % 8) * 256 + r.val) / 2048 = t.val / 32; omega
theorem row_mod_eq (t : Fin cfg0.N) (r : Fin 256) : (⟨(row t r).val % 2048, by omega⟩ : Fin 2048) = pos t r := by
  apply Fin.ext; show ((8 * (t.val / 32) + t.val % 8) * 256 + r.val) % 2048 = t.val % 8 * 256 + r.val; omega
theorem key_div_eq (t : Fin cfg0.N) (n : Fin 2048) : (⟨(key t n).val / 2048, by omega⟩ : Fin 8) = bat t := by
  apply Fin.ext; show (t.val / 32 * 2048 + n.val) / 2048 = t.val / 32; omega
theorem key_mod_eq (t : Fin cfg0.N) (n : Fin 2048) : (⟨(key t n).val % 2048, by omega⟩ : Fin 2048) = n := by
  apply Fin.ext; show (t.val / 32 * 2048 + n.val) % 2048 = n.val; omega

theorem q_lane (t : Fin cfg0.N) (r : Fin 256) (u : Nat) (hu : u < 2) (e : Fin 64) :
    (iblk m c 0 t : Vec Ideal S256x128 .bf16) (ix2 r ⟨64 * u + e.val, by omega⟩)
    = (m (c.tc.loc main_arg0) : Vec Ideal S8x8x2x2048x64 .f32) (ix5 (bat t) (khead t u hu) 0 (pos t r) e) := by
  refine (congrArg (V m c main_v2) (emb0 t r ⟨64 * u + e.val, by omega⟩)).trans ((congrFun (v2_eq m c) _).trans ?_)
  rw [qArr_at, row_div_eq, row_mod_eq]
  congr 2 <;> apply Fin.ext
  · show (t.val / 8 % 4 * 128 + (64 * u + e.val)) / 64 % 8 = t.val / 8 % 4 * 2 + u; omega
  · show (t.val / 8 % 4 * 128 + (64 * u + e.val)) / 512 = 0; omega
  · show (t.val / 8 % 4 * 128 + (64 * u + e.val)) % 64 = e.val; omega

theorem r_lane (t : Fin cfg0.N) (r : Fin 256) (u : Nat) (hu : u < 2) (e : Fin 64) :
    (iblk m c 1 t : Vec Ideal S256x128 .bf16) (ix2 r ⟨64 * u + e.val, by omega⟩)
    = (m (c.tc.loc main_arg0) : Vec Ideal S8x8x2x2048x64 .f32) (ix5 (bat t) (khead t u hu) 1 (pos t r) e) := by
  refine (congrArg (V m c main_v2) (emb1 t r ⟨64 * u + e.val, by omega⟩)).trans ((congrFun (v2_eq m c) _).trans ?_)
  rw [qArr_at, row_div_eq, row_mod_eq]
  congr 2 <;> apply Fin.ext
  · show ((4 + t.val / 8 % 4) * 128 + (64 * u + e.val)) / 64 % 8 = t.val / 8 % 4 * 2 + u; omega
  · show ((4 + t.val / 8 % 4) * 128 + (64 * u + e.val)) / 512 = 1; omega
  · show ((4 + t.val / 8 % 4) * 128 + (64 * u + e.val)) % 64 = e.val; omega

theorem k_lane (t : Fin cfg0.N) (n : Fin 2048) (u : Nat) (hu : u < 2) (e : Fin 64) :
    (iblk m c 2 t : Vec Ideal S1x2048x128 .f32) (ix3 0 n ⟨64 * u + e.val, by omega⟩)
    = (m (c.tc.loc main_arg1) : Vec Ideal S8x8x2048x64 .f32) (ix4 (bat t) (khead t u hu) n e) := by
  refine (congrArg (V m c main_v7) (emb2 t n ⟨64 * u + e.val, by omega⟩)).trans ((congrFun (v7_eq m c) _).trans ?_)
  rw [slab_at, key_div_eq, key_mod_eq]
  congr 2 <;> apply Fin.ext
  · show (t.val / 8 % 4 * 128 + (64 * u + e.val)) / 64 = t.val / 8 % 4 * 2 + u; omega
  · show (t.val / 8 % 4 * 128 + (64 * u + e.val)) % 64 = e.val; omega

theorem v_lane (t : Fin cfg0.N) (n : Fin 2048) (a : Fin 128) :
    (iblk m c 3 t : Vec Ideal S1x2048x128 .f32) (ix3 0 n a)
    = (m (c.tc.loc main_arg2) : Vec Ideal S8x8x2048x64 .f32) (ix4 (bat t) (khead t (a.val / 64) (by omega)) n ⟨a.val % 64, by omega⟩) := by
  refine (congrArg (V m c main_v9) (emb3 t n a)).trans ((congrFun (v9_eq m c) _).trans ?_)
  rw [slab_at, key_div_eq, key_mod_eq]
  congr 2 <;> apply Fin.ext
  · show (t.val / 8 % 4 * 128 + a.val) / 64 = t.val / 8 % 4 * 2 + a.val / 64; omega
  · show (t.val / 8 % 4 * 128 + a.val) % 64 = a.val % 64; omega

theorem f_at (t : Fin cfg0.N) (r : Fin 256) (h : Fin 4) :
    (iblk m c 4 t : Vec Ideal S1x256x4 .f32) (ix3 0 r h)
    = (m (c.tc.loc main_arg3) : Vec Ideal S8x2048x16 .f32) (ix3 (bat t) (pos t r) ⟨t.val / 8 % 4 * 4 + h.val, by omega⟩) := by
  refine (congrArg (V m c main_v4) (emb4 t r h)).trans ((congrFun (v4_eq m c) _).trans ?_)
  rw [fqArr_at, row_div_eq, row_mod_eq]
  rfl

theorem g_at (t : Fin cfg0.N) (h : Fin 4) (n : Fin 2048) :
    (iblk m c 5 t : Vec Ideal S1x1x4x2048 .f32) (ix4 0 0 h n)
    = (m (c.tc.loc main_arg3) : Vec Ideal S8x2048x16 .f32) (ix3 (bat t) n ⟨t.val / 8 % 4 * 4 + h.val, by omega⟩) := by
  refine (congrArg (V m c main_v10) (emb5 t h n)).trans ((congrFun (v10_eq m c) _).trans ?_)
  rw [fkArr_at]
  rfl

/-- The reference's average at an element. -/
abbrev avgAt (b h : Fin 8) (g : Fin 2) (t : Fin 2048) (d : Fin 64) : EReal :=
  avg (m (c.tc.loc main_arg0)) (m (c.tc.loc main_arg1)) (m (c.tc.loc main_arg2)) (m (c.tc.loc main_arg3)) b h g t d

/-- What the key blocks of block `t` are run against. -/
abbrev envAt (t : Fin cfg0.N) : Env Ideal := env (iblk m c 0 t) (iblk m c 1 t) (iblk m c 2 t) (iblk m c 3 t) (iblk m c 4 t) (iblk m c 5 t)

/-- The score of query `t` against key `s`, the factor on the query. -/
def kscore (q : FVec Ideal S8x8x2x2048x64 .f32) (k : FVec Ideal S8x8x2048x64 .f32) (f : FVec Ideal S8x2048x16 .f32) (b h : Fin 8) (g : Fin 2) (t s : Fin 2048) : EReal :=
  (∑ e : Fin 64, q (ix5 b h g t e) * ε * k (ix4 b h s e))
    + (f (ix3 b t ⟨h.val * 2 + g.val, by omega⟩) - f (ix3 b s ⟨h.val * 2 + g.val, by omega⟩))

theorem score_eq (t : Fin cfg0.N) (g : Fin 2) (u : Nat) (hu : u < 2) (r : Fin 256) (j : Nat) (hj : j < 8) (d : Fin 256) :
    bsc (sc (envAt m c t).qs (envAt m c t).k j) (envAt m c t).fs (envAt m c t).g j hj ⟨256 * (g.val + 2 * u) + r.val, by omega⟩ d
    = kscore (m (c.tc.loc main_arg0)) (m (c.tc.loc main_arg1)) (m (c.tc.loc main_arg3)) (bat t) (khead t u hu) g (pos t r) ⟨256 * j + d.val, by omega⟩ := by
  refine (score_at (iblk m c 0 t) (iblk m c 1 t) (iblk m c 2 t) (iblk m c 4 t) (iblk m c 5 t) j hj _ d).trans ?_
  have e1 : ∀ x : Fin 256, x.val = (256 * (g.val + 2 * u) + r.val) % 256 → x = r := fun x hx => Fin.ext (by omega)
  have e2 : ∀ (x : Fin 128) (e : Fin 64), x.val = 64 * ((256 * (g.val + 2 * u) + r.val) / 512) + e.val → x = ⟨64 * u + e.val, by omega⟩ := fun x e hx => Fin.ext (by show x.val = 64 * u + e.val; omega)
  have e3 : ∀ x : Fin 4, x.val = (256 * (g.val + 2 * u) + r.val) / 256 → x = ⟨g.val + 2 * u, by omega⟩ := fun x hx => Fin.ext (by show x.val = g.val + 2 * u; omega)
  have e4 : (⟨t.val / 8 % 4 * 4 + (g.val + 2 * u), by omega⟩ : Fin 16) = ⟨(khead t u hu).val * 2 + g.val, by omega⟩ :=
    Fin.ext (by show t.val / 8 % 4 * 4 + (g.val + 2 * u) = (t.val / 8 % 4 * 2 + u) * 2 + g.val; omega)
  refine congrArg₂ (· + ·) (Finset.sum_congr rfl fun e _ => ?_) (congrArg₂ (· - ·) ?_ ?_)
  · rw [e1 ⟨_, _⟩ rfl, e2 ⟨_, _⟩ e rfl, k_lane m c t _ u hu, q_lane m c t r u hu, r_lane m c t r u hu]
    obtain h | h : g = 0 ∨ g = 1 := by omega
    · subst h; rw [if_pos (by show (256 * (0 + 2 * u) + r.val) / 256 % 2 = 0; omega)]
    · subst h; rw [if_neg (by show ¬ (256 * (1 + 2 * u) + r.val) / 256 % 2 = 0; omega)]
  · rw [e1 ⟨_, _⟩ rfl, e3 ⟨_, _⟩ rfl, f_at, e4]
  · rw [e3 ⟨_, _⟩ rfl, g_at, e4]

theorem quot_eq (hfin : Cert.Pre_Kernel3Ideal_finite3 m) (t : Fin cfg0.N) (g : Fin 2) (r : Fin 256) (a : Fin 128) :
    Ideal.div ((final (F := Ideal) ⊥ (grid0.coords t 2).val (envAt m c t)).acc (ix2 ⟨256 * (g.val + 2 * (a.val / 64)) + r.val, by omega⟩ a))
      ((final (F := Ideal) ⊥ (grid0.coords t 2).val (envAt m c t)).l (ix2 ⟨256 * (g.val + 2 * (a.val / 64)) + r.val, by omega⟩ a))
    = avgAt m c (bat t) (khead t (a.val / 64) (by omega)) g (pos t r) ⟨a.val % 64, by omega⟩ := by
  obtain ⟨f0, f1, f3⟩ := finite_args m hfin c
  have hu : a.val / 64 < 2 := by omega
  have hs := fun s : Fin 2048 => score_real (fun e => f0 (ix5 (bat t) (khead t (a.val / 64) hu) g (pos t r) e)) (fun e => f1 (ix4 (bat t) (khead t (a.val / 64) hu) s e))
    (f3 (ix3 (bat t) (pos t r) ⟨(khead t (a.val / 64) hu).val * 2 + g.val, by omega⟩)) (f3 (ix3 (bat t) s ⟨(khead t (a.val / 64) hu).val * 2 + g.val, by omega⟩))
  choose X hX hK using hs
  have hc : (grid0.coords t 2).val = t.val % 8 := (idx t).2.2.2.2.2.2.2
  have key := quot_att (X := envAt m c t) (R := ⟨256 * (g.val + 2 * (a.val / 64)) + r.val, by omega⟩) (nq := (grid0.coords t 2).val) (by omega)
    (x := fun n => if hn : n < 2048 then X ⟨n, hn⟩ else 0)
    (v := fun a n => if hn : n < 2048 then (m (c.tc.loc main_arg2) : Vec Ideal S8x8x2048x64 .f32) (ix4 (bat t) (khead t (a.val / 64) (by omega)) ⟨n, hn⟩ ⟨a.val % 64, by omega⟩) else 0)
    (fun j hj d => by
      rw [dif_pos (show 256 * j + d.val < 2048 by omega)]
      exact (score_eq m c t g (a.val / 64) hu r j hj d).trans (hK _))
    (fun a n hn => by
      simp only [dif_pos hn]
      exact v_lane m c t ⟨n, hn⟩ a) a
  refine key.trans ?_
  rw [show 256 * (grid0.coords t 2).val + ((⟨256 * (g.val + 2 * (a.val / 64)) + r.val, by omega⟩ : Fin 1024)).val % 256 = (pos t r).val from by
    show 256 * (grid0.coords t 2).val + (256 * (g.val + 2 * (a.val / 64)) + r.val) % 256 = t.val % 8 * 256 + r.val
    omega]
  refine (ref_att (fun s => ?_) (fun s => ?_)).symm
  · refine (hX s).trans ?_
    simp only [dif_pos s.isLt]
  · simp only [dif_pos s.isLt]

theorem out_row (hfin : Cert.Pre_Kernel3Ideal_finite3 m) (t : Fin cfg0.N) (g : Fin 2) (r : Fin 256) (a : Fin 128) :
    outAt (F := Ideal) (grid0.coords t) (iblk m c 0 t) (iblk m c 1 t) (iblk m c 2 t) (iblk m c 3 t) (iblk m c 4 t) (iblk m c 5 t) (ix3 g r a)
    = avgAt m c (bat t) (khead t (a.val / 64) (by omega)) g (pos t r) ⟨a.val % 64, by omega⟩ :=
  (outRows_at _ g r a).trans (quot_eq m c hfin t g r a)

theorem arr_row (hfin : Cert.Pre_Kernel3Ideal_finite3 m) (t : Fin cfg0.N) (g : Fin 2) (r : Fin 256) (a : Fin 128) :
    ((dats m 0 c).arrAt 6 cfg0.N : Vec Ideal S2x16384x512 .bf16) (ix3 g (row t r) (col t a))
    = avgAt m c (bat t) (khead t (a.val / 64) (by omega)) g (pos t r) ⟨a.val % 64, by omega⟩ := by
  have hb := congrFun (blocks6 m c t) (ix3 g r a : S2x256x128.Idx)
  rw [flushed6] at hb
  have hb' : ((dats m 0 c).arrAt 6 cfg0.N : Vec Ideal S2x16384x512 .bf16) (((cfg0.win 6).blk t).view.emb (ix3 g r a : S2x256x128.Idx))
      = outAt (F := Ideal) (grid0.coords t) (iblk m c 0 t) (iblk m c 1 t) (iblk m c 2 t) (iblk m c 3 t) (iblk m c 4 t) (iblk m c 5 t) (ix3 g r a) := hb
  rw [emb6, out_row m c hfin] at hb'
  exact hb'

/-- The kernel's result is the reference's. -/
theorem arr_eq (hfin : Cert.Pre_Kernel3Ideal_finite3 m) (m' : (ℓ : Loc Cert.Reference3Ideal.nD Cert.Reference3Ideal.τ Cert.Reference3Ideal.sig) → Buf (Elt Ideal) ℓ)
    (h0 : m' (c.tc.loc Cert.Reference3Ideal.main_arg0) = m (c.tc.loc main_arg0))
    (h1 : m' (c.tc.loc Cert.Reference3Ideal.main_arg1) = m (c.tc.loc main_arg1))
    (h2 : m' (c.tc.loc Cert.Reference3Ideal.main_arg2) = m (c.tc.loc main_arg2))
    (h3 : m' (c.tc.loc Cert.Reference3Ideal.main_arg3) = m (c.tc.loc main_arg3)) :
    (Cert.Reference3Ideal.Value.res_out0 m' c : Vec Ideal S2x16384x512 .bf16) = ((dats m 0 c).arrAt 6 cfg0.N : Vec Ideal S2x16384x512 .bf16) := by
  rw [Ref.res_eq, h0, h1, h2, h3]
  funext i
  obtain ⟨g, R, C, rfl⟩ : ∃ (g : Fin 2) (R : Fin 16384) (C : Fin 512), i = ix3 g R C := ⟨i 0, i 1, i 2, eq_ix3 i⟩
  have hN : cfg0.N = 256 := N_0
  obtain ⟨t, r, a, rfl, rfl⟩ : ∃ t r a, R = row t r ∧ C = col t a :=
    ⟨⟨32 * (R.val / 2048) + 8 * (C.val / 128) + R.val % 2048 / 256, by omega⟩, ⟨R.val % 256, by omega⟩, ⟨C.val % 128, by omega⟩,
      Fin.ext (by
        show R.val = (8 * ((32 * (R.val / 2048) + 8 * (C.val / 128) + R.val % 2048 / 256) / 32) + (32 * (R.val / 2048) + 8 * (C.val / 128) + R.val % 2048 / 256) % 8) * 256 + R.val % 256
        omega),
      Fin.ext (by
        show C.val = (32 * (R.val / 2048) + 8 * (C.val / 128) + R.val % 2048 / 256) / 8 % 4 * 128 + C.val % 128
        omega)⟩
  rw [arr_row m c hfin]
  refine (Ref.out_at _ _ _ _ _).trans ?_
  have e1 : (⟨(col t a).val / 64, by omega⟩ : Fin 8) = khead t (a.val / 64) (by omega) :=
    Fin.ext (by show (t.val / 8 % 4 * 128 + a.val) / 64 = t.val / 8 % 4 * 2 + a.val / 64; omega)
  have e2 : (⟨(col t a).val % 64, by omega⟩ : Fin 64) = ⟨a.val % 64, by omega⟩ :=
    Fin.ext (by show (t.val / 8 % 4 * 128 + a.val) % 64 = a.val % 64; omega)
  simp only [row_div_eq, row_mod_eq, e1, e2]
  rfl

end Cert.Fox

end
-- ==== Proof.FoxEqKernel3.lean ====
/- The printed body is the program of pieces. -/
module

public import proofs.«01_k».proof.Proof.FoxProg
public import proofs.«01_k».proof.Proof.Gen.Kernel3
public import Idealize.ShloMosaic.Lib.Pipeline.Regions

@[expose] public section

set_option maxRecDepth 100000

noncomputable section

namespace Cert.Fox.Kernel3

open Idealize.ShloMosaic Idealize.SL.Sem Cert.Kernel3

variable {F : FTy → Type} [FloatOps F]

/-- The buffers of the body. -/
abbrev bufs (arg3 : Memref sig .tc .vmem S256x128 .bf16) (harg3 : arg3.IsWhole) (arg4 : Memref sig .tc .vmem S256x128 .bf16) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x256x4 .f32) (harg7 : arg7.IsWhole) (arg8 : Memref sig .tc .vmem S1x1x4x2048 .f32) (harg8 : arg8.IsWhole) (arg9 : Memref sig .tc .vmem S2x256x128 .bf16) (harg9 : arg9.IsWhole) (arg10 : Memref sig .tc .vmem S1024x128 .bf16) (harg10 : arg10.IsWhole) (arg11 : Memref sig .tc .vmem S1024x128 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .bf16) (harg14 : arg14.IsWhole) (arg15 : Memref sig .tc .vmem S1024x256 .bf16) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S1024x128 .f32) (harg20 : arg20.IsWhole) : Bufs sig :=
  ⟨arg3, arg4, arg5, arg6, arg7, arg8, arg9, harg9, arg10, harg10, arg11, fun b => match b with | false => arg12 | true => arg13,
    fun b => match b with | false => arg14 | true => arg15, fun b => match b with | false => harg14 | true => harg15,
    fun b => match b with | false => arg16 | true => arg17, arg18, arg19, arg20⟩

theorem body_eqA (i : grid0.Coords) (arg3 : Memref sig .tc .vmem S256x128 .bf16) (harg3 : arg3.IsWhole) (arg4 : Memref sig .tc .vmem S256x128 .bf16) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x256x4 .f32) (harg7 : arg7.IsWhole) (arg8 : Memref sig .tc .vmem S1x1x4x2048 .f32) (harg8 : arg8.IsWhole) (arg9 : Memref sig .tc .vmem S2x256x128 .bf16) (harg9 : arg9.IsWhole) (arg10 : Memref sig .tc .vmem S1024x128 .bf16) (harg10 : arg10.IsWhole) (arg11 : Memref sig .tc .vmem S1024x128 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .bf16) (harg14 : arg14.IsWhole) (arg15 : Memref sig .tc .vmem S1024x256 .bf16) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S1024x128 .f32) (harg20 : arg20.IsWhole) :
    cc0_fox_prompt (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = bodyA (bufs arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) (Scalar.ofBits .f32 0xF149F2CA#32) i (k0_t1_loop i).ub := by
  chain_rfl

theorem body_eq (i : grid0.Coords) (arg3 : Memref sig .tc .vmem S256x128 .bf16) (harg3 : arg3.IsWhole) (arg4 : Memref sig .tc .vmem S256x128 .bf16) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x256x4 .f32) (harg7 : arg7.IsWhole) (arg8 : Memref sig .tc .vmem S1x1x4x2048 .f32) (harg8 : arg8.IsWhole) (arg9 : Memref sig .tc .vmem S2x256x128 .bf16) (harg9 : arg9.IsWhole) (arg10 : Memref sig .tc .vmem S1024x128 .bf16) (harg10 : arg10.IsWhole) (arg11 : Memref sig .tc .vmem S1024x128 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .bf16) (harg14 : arg14.IsWhole) (arg15 : Memref sig .tc .vmem S1024x256 .bf16) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S1024x128 .f32) (harg20 : arg20.IsWhole) :
    cc0_fox_prompt (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = body (bufs arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) (Scalar.ofBits .f32 0xF149F2CA#32) i :=
  (body_eqA i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20).trans (bodyA_eq _ _ _ _)

end Cert.Fox.Kernel3

end
-- ==== Proof.lean ====
/- The certificate's claims, each from its part. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite
public import proofs.«01_k».proof.Proof.Gen.Kernel3
public import proofs.«01_k».proof.Proof.Gen.Kernel3.Skeleton
public import proofs.«01_k».proof.Proof.Gen.Kernel3.Loops
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Loops
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Pre_finite3
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.FfnArr
public import proofs.«01_k».proof.Proof.MidArr
public import proofs.«01_k».proof.Proof.MlaArr
public import proofs.«01_k».proof.Proof.MlaFrameKernel
public import proofs.«01_k».proof.Proof.FoxArr
public import proofs.«01_k».proof.Proof.FoxFrameKernel3
public import Idealize.ShloMosaic.Lib.Quiescent
public import Idealize.ShloMosaic.Adequacy
public import Idealize.ShloMosaic.Init

@[expose] public section

noncomputable section

namespace Cert.Proof

open Idealize.ShloMosaic Idealize.SL.Sem

/-! ## The latent attention -/

/-- The result of the idealized kernel is the result of the idealized reference, on real arguments. -/
theorem mla_algebraic : Cert.algebraic_KernelIdeal_ReferenceIdeal_pre_finite := by
  intro m g m' g' hfin hargs
  refine ⟨fun c => (Cert.Mla.KernelIdeal.dats m 0 c).arrAt 3 Cert.KernelIdeal.cfg0.N, Cert.Mla.run_blocks m g, ?_⟩
  refine (θ_run _ _ _).mono (fun r h c => ⟨(h c).1.trans ?_, (h c).2⟩) (Cert.ReferenceIdeal.Value.run m' g')
  obtain ⟨h0, h1, h2, h3, h4⟩ := hargs c
  exact Cert.Mla.arr_eq m c hfin m' h0 h1 h2 h3 h4

/-- The reference runs, leaves its arguments as they were and declares no semaphore. -/
theorem mla_reference_frame : Cert.quiescent_ReferenceIdeal := by
  intro m g _
  exact (θ_run _ _ _).mono (fun r h => ⟨fun c => (h c).2, sem_eq_zero_of_no_sems (by decide) r.2⟩) (Cert.ReferenceIdeal.Value.run m g)

/-! ## The output projection and the feed-forward network -/

/-- The result of the idealized kernel is the result of the idealized reference. -/
theorem ffn_algebraic : Cert.algebraic_Kernel2Ideal_Reference2Ideal := by
  intro m g m' g' _ hargs
  refine ⟨fun c => (Cert.Kernel2Ideal.Gen.dats m 0 c).arrAt 9 Cert.Kernel2Ideal.cfg0.N, Cert.Kernel2Ideal.Value.run_blocks m g, ?_⟩
  refine (θ_run _ _ _).mono (fun r h c => ⟨(h c).1.trans ?_, (h c).2⟩) (Cert.Reference2Ideal.Value.run m' g')
  obtain ⟨h0, h1, h2, h3, h4, h5, h6, h7⟩ := hargs c
  exact Cert.Ffn.arr_eq m c m' h0 h1 h2 h3 h4 h5 h6 h7

/-- The reference runs, leaves its arguments as they were and declares no semaphore. -/
theorem ffn_reference_frame : Cert.quiescent_Reference2Ideal := by
  intro m g _
  exact (θ_run _ _ _).mono (fun r h => ⟨fun c => (h c).2, sem_eq_zero_of_no_sems (by decide) r.2⟩) (Cert.Reference2Ideal.Value.run m g)

/-! ## The forgetful attention -/

/-- The result of the idealized kernel is the result of the idealized reference, on real queries, keys and forget sums. -/
theorem fox_algebraic : Cert.algebraic_Kernel3Ideal_Reference3Ideal_pre_finite3 := by
  intro m g m' g' hfin hargs
  refine ⟨fun c => (Cert.Fox.Kernel3Ideal.dats m 0 c).arrAt 6 Cert.Kernel3Ideal.cfg0.N, Cert.Fox.run_blocks m g, ?_⟩
  refine (θ_run _ _ _).mono (fun r h c => ⟨(h c).1.trans ?_, (h c).2⟩) (Cert.Reference3Ideal.Value.run m' g')
  obtain ⟨h0, h1, h2, h3⟩ := hargs c
  exact Cert.Fox.arr_eq m c hfin m' h0 h1 h2 h3

/-- The reference runs, leaves its arguments as they were and declares no semaphore. -/
theorem fox_reference_frame : Cert.quiescent_Reference3Ideal := by
  intro m g _
  exact (θ_run _ _ _).mono (fun r h => ⟨fun c => (h c).2, sem_eq_zero_of_no_sems (by decide) r.2⟩) (Cert.Reference3Ideal.Value.run m g)

/-! ## The output projection and the feed-forward network of an inner layer -/

/-- The result of the idealized kernel is the result of the idealized reference. -/
theorem mid_algebraic : Cert.algebraic_Kernel4Ideal_Reference4Ideal := by
  intro m g m' g' _ hargs
  refine ⟨fun c => (Cert.Kernel4Ideal.Gen.dats m 0 c).arrAt 9 Cert.Kernel4Ideal.cfg0.N, Cert.Kernel4Ideal.Value.run_blocks m g, ?_⟩
  refine (θ_run _ _ _).mono (fun r h c => ⟨(h c).1.trans ?_, (h c).2⟩) (Cert.Reference4Ideal.Value.run m' g')
  obtain ⟨h0, h1, h2, h3, h4, h5, h6, h7, _⟩ := hargs c
  exact Cert.Mid.arr_eq m c m' h0 h1 h2 h3 h4 h5 h6 h7

/-- The reference runs, leaves its arguments as they were and declares no semaphore. -/
theorem mid_reference_frame : Cert.quiescent_Reference4Ideal := by
  intro m g _
  exact (θ_run _ _ _).mono (fun r h => ⟨fun c => (h c).2, sem_eq_zero_of_no_sems (by decide) r.2⟩) (Cert.Reference4Ideal.Value.run m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Pre_finite.Gen.facts, Cert.Pre_finite3.Gen.facts,
  fun m ρ _ => Cert.Mla.Kernel.frame m ρ, fun m ρ _ => Cert.Mla.KernelIdeal.frame m ρ, fun m ρ _ => Cert.Mla.KernelIdeal.frame m ρ,
  mla_reference_frame, fun m ρ _ => mla_reference_frame m ρ trivial,
  fun m ρ _ => Cert.Kernel2.Gen.frame m ρ, fun m ρ _ => Cert.Kernel2Ideal.Gen.frame m ρ, ffn_reference_frame,
  fun m ρ _ => Cert.Fox.Kernel3.frame m ρ, fun m ρ _ => Cert.Fox.Kernel3Ideal.frame m ρ, fun m ρ _ => Cert.Fox.Kernel3Ideal.frame m ρ,
  fox_reference_frame, fun m ρ _ => fox_reference_frame m ρ trivial,
  fun m ρ _ => Cert.Kernel4.Gen.frame m ρ, fun m ρ _ => Cert.Kernel4Ideal.Gen.frame m ρ, mid_reference_frame,
  IdealRules.named_const.statement Cert.KernelIdeal.κ "mask" .f32 0xF149F2CA#32 ⊥ rfl, mla_algebraic, trivial, ffn_algebraic,
  IdealRules.named_const.statement Cert.Kernel3Ideal.κ "mask" .f32 0xF149F2CA#32 ⊥ rfl, fox_algebraic,
  trivial, mid_algebraic⟩

end Cert.Proof

end
